-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_in_vocab : Cert.Pre_in_vocab.Facts] (m : (ℓ : Loc Cert.Reference.nD Cert.Reference.τ Cert.Reference.sig) → Buf (Elt Bits) ℓ) : Prop :=
  ∀ c : Dev Cert.Reference.nD,
    (Cert.Pre_in_vocab.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_in_vocab : Cert.Pre_in_vocab.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v10)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v10) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal) (hPre_in_vocab := hPre_in_vocab)
    ∧ quiescent_Reference (hReference := hReference) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
    ∧ bitexact_Kernel_Reference (hKernel := hKernel) (hReference := hReference) (hPre_in_vocab := hPre_in_vocab)
-- ==== Pre_in_vocab.lean ====
abbrev S16384x50 : Shape := ⟨2, ![16384, 50]⟩
abbrev S990000x32 : Shape := ⟨2, ![990000, 32]⟩
abbrev S10000x32 : Shape := ⟨2, ![10000, 32]⟩
abbrev S_ : Shape := ⟨0, ![]⟩

class Facts : Prop where
  bcast_S_S16384x50 : S_.BroadcastsInDim S16384x50 (![] : Fin 0 → Fin S16384x50.rank)
  reducesTo_S16384x50_S_d0_1 : S16384x50.ReducesTo [0, 1] S_
  h_S_ : 0 < S_.numel

variable [Facts]

def fn {F : FTy → Type} [FloatOps F] (main_arg0 : IVec S16384x50 32) (main_arg1 : FVec F S990000x32 .f32) (main_arg2 : FVec F S10000x32 .f32) : IVec S_ 1 :=
  let main_c : IVec S_ 32 := constantI S_ 32 0#32
  let main_v0 : IVec S16384x50 32 := broadcastInDim S16384x50 ![] bcast_S_S16384x50 main_c
  let main_v1 : IVec S16384x50 1 := cmpi .sge main_arg0 main_v0
  let main_c_0 : IVec S_ 32 := constantI S_ 32 1000000#32
  let main_v2 : IVec S16384x50 32 := broadcastInDim S16384x50 ![] bcast_S_S16384x50 main_c_0
  let main_v3 : IVec S16384x50 1 := cmpi .slt main_arg0 main_v2
  let main_v4 : IVec S16384x50 1 := andi main_v1 main_v3
  let main_c_1 : IVec S_ 1 := constantI S_ 1 1#1
  let main_v5 : IVec S_ 1 := (fun x v => Host.reduce IntOp.andi x v reducesTo_S16384x50_S_d0_1 h_S_) main_v4 main_c_1
  main_v5
-- ==== Kernel.lean ====
abbrev S16384x50 : Shape := ⟨2, ![16384, 50]⟩
abbrev S990000x32 : Shape := ⟨2, ![990000, 32]⟩
abbrev S10000x32 : Shape := ⟨2, ![10000, 32]⟩
abbrev S32x990000 : Shape := ⟨2, ![32, 990000]⟩
abbrev S32x10000 : Shape := ⟨2, ![32, 10000]⟩
abbrev S50x16384 : Shape := ⟨2, ![50, 16384]⟩
abbrev S48x32 : Shape := ⟨2, ![48, 32]⟩
abbrev S16x32 : Shape := ⟨2, ![16, 32]⟩
abbrev S64x32 : Shape := ⟨2, ![64, 32]⟩
abbrev S_ : Shape := ⟨0, ![]⟩
abbrev S16x128 : Shape := ⟨2, ![16, 128]⟩
abbrev S250004x128 : Shape := ⟨2, ![250004, 128]⟩
abbrev S32x128 : Shape := ⟨2, ![32, 128]⟩
abbrev S16 : Shape := ⟨1, ![16]⟩
abbrev S1x16 : Shape := ⟨2, ![1, 16]⟩
abbrev S50x32x16384 : Shape := ⟨3, ![50, 32, 16384]⟩
abbrev S50x512 : Shape := ⟨2, ![50, 512]⟩
abbrev S2x128 : Shape := ⟨2, ![2, 128]⟩
abbrev S2x144 : Shape := ⟨2, ![2, 144]⟩
abbrev S2x16 : Shape := ⟨2, ![2, 16]⟩
abbrev S352 : Shape := ⟨1, ![352]⟩
abbrev S128x128 : Shape := ⟨2, ![128, 128]⟩
abbrev S1 : Shape := ⟨1, ![1]⟩
abbrev S1x128 : Shape := ⟨2, ![1, 128]⟩
abbrev S128 : Shape := ⟨1, ![128]⟩
abbrev S1x32x128 : Shape := ⟨3, ![1, 32, 128]⟩
abbrev S16384x50x32 : Shape := ⟨3, ![16384, 50, 32]⟩

abbrev nBuf : Table → Nat
  | .hbm => 16
  | .local .scVector .vmem => 14
  | _ => 0

abbrev bufTy : (tb : Table) → Fin (nBuf tb) → BufTy
  | .hbm, ⟨0, _⟩ => ⟨S16384x50, .i32⟩
  | .hbm, ⟨1, _⟩ => ⟨S990000x32, .f32⟩
  | .hbm, ⟨2, _⟩ => ⟨S10000x32, .f32⟩
  | .hbm, ⟨3, _⟩ => ⟨S32x990000, .f32⟩
  | .hbm, ⟨4, _⟩ => ⟨S32x10000, .f32⟩
  | .hbm, ⟨5, _⟩ => ⟨S50x16384, .i32⟩
  | .hbm, ⟨6, _⟩ => ⟨S48x32, .f32⟩
  | .hbm, ⟨7, _⟩ => ⟨S16x32, .f32⟩
  | .hbm, ⟨8, _⟩ => ⟨S64x32, .f32⟩
  | .hbm, ⟨9, _⟩ => ⟨S_, .i32⟩
  | .hbm, ⟨10, _⟩ => ⟨S_, .f32⟩
  | .hbm, ⟨11, _⟩ => ⟨S64x32, .f32⟩
  | .hbm, ⟨12, _⟩ => ⟨S16x128, .f32⟩
  | .hbm, ⟨13, _⟩ => ⟨S250004x128, .f32⟩
  | .hbm, ⟨14, _⟩ => ⟨S50x32x16384, .f32⟩
  | .hbm, ⟨15, _⟩ => ⟨S16384x50x32, .f32⟩
  | .local .scVector .vmem, ⟨0, _⟩ => ⟨S32x128, .f32⟩
  | .local .scVector .vmem, ⟨1, _⟩ => ⟨S32x128, .f32⟩
  | .local .scVector .vmem, ⟨2, _⟩ => ⟨S32x128, .f32⟩
  | .local .scVector .vmem, ⟨3, _⟩ => ⟨S50x512, .i32⟩
  | .local .scVector .vmem, ⟨4, _⟩ => ⟨S2x128, .i32⟩
  | .local .scVector .vmem, ⟨5, _⟩ => ⟨S2x144, .i32⟩
  | .local .scVector .vmem, ⟨6, _⟩ => ⟨S2x16, .i32⟩
  | .local .scVector .vmem, ⟨7, _⟩ => ⟨S352, .i32⟩
  | .local .scVector .vmem, ⟨8, _⟩ => ⟨S352, .i32⟩
  | .local .scVector .vmem, ⟨9, _⟩ => ⟨S352, .i32⟩
  | .local .scVector .vmem, ⟨10, _⟩ => ⟨S128x128, .f32⟩
  | .local .scVector .vmem, ⟨11, _⟩ => ⟨S128x128, .f32⟩
  | .local .scVector .vmem, ⟨12, _⟩ => ⟨S32x128, .f32⟩
  | .local .scVector .vmem, ⟨13, _⟩ => ⟨S16x128, .f32⟩
  | _, _ => ⟨S16384x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v0_scv : Ref sig .scVector := ⟨.hbm, 3, rfl⟩
abbrev main_v1_scv : Ref sig .scVector := ⟨.hbm, 4, rfl⟩
abbrev main_v8_scv : Ref sig .scVector := ⟨.hbm, 13, rfl⟩
abbrev main_v2_scv : Ref sig .scVector := ⟨.hbm, 5, rfl⟩
abbrev main_v7_scv : Ref sig .scVector := ⟨.hbm, 12, rfl⟩
abbrev main_v9_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc1_scratch3 : Ref sig .scVector := ⟨.vmem, 6, rfl⟩
abbrev cc1_scratch4 : Ref sig .scVector := ⟨.vmem, 7, rfl⟩
abbrev cc1_scratch5 : Ref sig .scVector := ⟨.vmem, 8, rfl⟩
abbrev cc1_scratch6 : Ref sig .scVector := ⟨.vmem, 9, rfl⟩
abbrev cc1_scratch7 : Ref sig .scVector := ⟨.vmem, 10, rfl⟩
abbrev cc1_scratch8 : Ref sig .scVector := ⟨.vmem, 11, rfl⟩
abbrev cc1_scratch9 : Ref sig .scVector := ⟨.vmem, 12, rfl⟩
abbrev cc1_scratch10 : Ref sig .scVector := ⟨.vmem, 13, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7734_i32 : BitVec 32 := 7734#32
  let v3 : BitVec 1 := Scalar.cmpi .slt v1 c7734_i32
  let v4 : BitVec 32 := Scalar.extui v3
  let c0_i32 : BitVec 32 := 0#32
  let v5 : BitVec 1 := Scalar.cmpi .ne v4 c0_i32
  v5

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v10 : BitVec 32 := Scalar.muli v1 c128_i32
  v10
def k0_off1 (i : grid0.Coords) : Fin 2 → Nat :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v10 : BitVec 32 := Scalar.muli v1 c128_i32
  let v11 : BitVec 32 := v10
  ![0, v11.toNat]
@[reducible] def k0_t1_loop : Scf.Loop 32 :=
  let c0_i32_1 : BitVec 32 := 0#32
  let c121_i32 : BitVec 32 := 121#32
  let v6 : BitVec 32 := Scalar.addi c0_i32_1 c121_i32
  let c1_i32 : BitVec 32 := 1#32
  ⟨c0_i32_1, v6, c1_i32⟩
def k0_cond2 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c1_i32 : BitVec 32 := 1#32
  let arg10 : BitVec 32 := Scf.iv c0_i32_1 c1_i32 k0_t1
  let c2_i32_7 : BitVec 32 := 2#32
  let v10 : BitVec 32 := Scalar.muli arg10 c2_i32_7
  let c0_i32_8 : BitVec 32 := 0#32
  let v11 : BitVec 32 := Scalar.addi v10 c0_i32_8
  let c32_i32 : BitVec 32 := 32#32
  let v12 : BitVec 32 := Scalar.muli v11 c32_i32
  let v13 : BitVec 32 := Scalar.addi v1 v12
  let c32_i32_9 : BitVec 32 := 32#32
  let v14 : BitVec 32 := Scalar.addi v13 c32_i32_9
  let c7734_i32_10 : BitVec 32 := 7734#32
  let v15 : BitVec 1 := Scalar.cmpi .slt v14 c7734_i32_10
  let v16 : BitVec 32 := Scalar.extui v15
  let c0_i32_11 : BitVec 32 := 0#32
  let v17 : BitVec 1 := Scalar.cmpi .ne v16 c0_i32_11
  v17

def k0_mult2 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c1_i32 : BitVec 32 := 1#32
  let arg10 : BitVec 32 := Scf.iv c0_i32_1 c1_i32 k0_t1
  let c2_i32_7 : BitVec 32 := 2#32
  let v10 : BitVec 32 := Scalar.muli arg10 c2_i32_7
  let c0_i32_8 : BitVec 32 := 0#32
  let v11 : BitVec 32 := Scalar.addi v10 c0_i32_8
  let c32_i32 : BitVec 32 := 32#32
  let v12 : BitVec 32 := Scalar.muli v11 c32_i32
  let v13 : BitVec 32 := Scalar.addi v1 v12
  let c32_i32_23 : BitVec 32 := 32#32
  let v32 : BitVec 32 := Scalar.addi v13 c32_i32_23
  let c128_i32 : BitVec 32 := 128#32
  let v33 : BitVec 32 := Scalar.muli v32 c128_i32
  v33
def k0_off2 (i : grid0.Coords) (k0_t1 : Fin k0_t1_loop.trips) : Fin 2 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c1_i32 : BitVec 32 := 1#32
  let arg10 : BitVec 32 := Scf.iv c0_i32_1 c1_i32 k0_t1
  let c2_i32_7 : BitVec 32 := 2#32
  let v10 : BitVec 32 := Scalar.muli arg10 c2_i32_7
  let c0_i32_8 : BitVec 32 := 0#32
  let v11 : BitVec 32 := Scalar.addi v10 c0_i32_8
  let c32_i32 : BitVec 32 := 32#32
  let v12 : BitVec 32 := Scalar.muli v11 c32_i32
  let v13 : BitVec 32 := Scalar.addi v1 v12
  let c32_i32_23 : BitVec 32 := 32#32
  let v32 : BitVec 32 := Scalar.addi v13 c32_i32_23
  let c128_i32 : BitVec 32 := 128#32
  let v33 : BitVec 32 := Scalar.muli v32 c128_i32
  let v34 : BitVec 32 := v33
  ![0, v34.toNat]
def k0_cond3 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c1_i32 : BitVec 32 := 1#32
  let arg10 : BitVec 32 := Scf.iv c0_i32_1 c1_i32 k0_t1
  let c2_i32_7 : BitVec 32 := 2#32
  let v10 : BitVec 32 := Scalar.muli arg10 c2_i32_7
  let c0_i32_8 : BitVec 32 := 0#32
  let v11 : BitVec 32 := Scalar.addi v10 c0_i32_8
  let c32_i32 : BitVec 32 := 32#32
  let v12 : BitVec 32 := Scalar.muli v11 c32_i32
  let v13 : BitVec 32 := Scalar.addi v1 v12
  let c7734_i32_12 : BitVec 32 := 7734#32
  let v18 : BitVec 1 := Scalar.cmpi .slt v13 c7734_i32_12
  let v19 : BitVec 32 := Scalar.extui v18
  let c0_i32_13 : BitVec 32 := 0#32
  let v20 : BitVec 1 := Scalar.cmpi .ne v19 c0_i32_13
  v20

def k0_mult3 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c1_i32 : BitVec 32 := 1#32
  let arg10 : BitVec 32 := Scf.iv c0_i32_1 c1_i32 k0_t1
  let c2_i32_7 : BitVec 32 := 2#32
  let v10 : BitVec 32 := Scalar.muli arg10 c2_i32_7
  let c0_i32_8 : BitVec 32 := 0#32
  let v11 : BitVec 32 := Scalar.addi v10 c0_i32_8
  let c32_i32 : BitVec 32 := 32#32
  let v12 : BitVec 32 := Scalar.muli v11 c32_i32
  let v13 : BitVec 32 := Scalar.addi v1 v12
  let c128_i32 : BitVec 32 := 128#32
  let v32 : BitVec 32 := Scalar.muli v13 c128_i32
  v32
def k0_off3 (i : grid0.Coords) (k0_t1 : Fin k0_t1_loop.trips) : Fin 2 → Nat :=
  let c0_i32_23 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c1_i32 : BitVec 32 := 1#32
  let arg10 : BitVec 32 := Scf.iv c0_i32_1 c1_i32 k0_t1
  let c2_i32_7 : BitVec 32 := 2#32
  let v10 : BitVec 32 := Scalar.muli arg10 c2_i32_7
  let c0_i32_8 : BitVec 32 := 0#32
  let v11 : BitVec 32 := Scalar.addi v10 c0_i32_8
  let c32_i32 : BitVec 32 := 32#32
  let v12 : BitVec 32 := Scalar.muli v11 c32_i32
  let v13 : BitVec 32 := Scalar.addi v1 v12
  let c128_i32 : BitVec 32 := 128#32
  let v32 : BitVec 32 := Scalar.muli v13 c128_i32
  let v33 : BitVec 32 := v32
  ![0, v33.toNat]

def k0_chk1 (i : grid0.Coords) (k0_t1 : Fin k0_t1_loop.trips) (v46 : IVec S16 32) (v48 : IVec S16 32) : Prop :=
  (∀ (k0_h3 : k0_cond3 i k0_t1 = 1#1), ∀ a x, ((![v46, v48] : Fin 2 → IVec S16 32) a x).toNat < S32x128.size a)
theorem k0_idx1_inb : ∀ (i : grid0.Coords) (k0_t1 : Fin k0_t1_loop.trips) (v46 : IVec S16 32) (v48 : IVec S16 32) (k0_hw1 : k0_chk1 i k0_t1 v46 v48), ∀ (k0_h3 : k0_cond3 i k0_t1 = 1#1), ∀ a x, ((![v46, v48] : Fin 2 → IVec S16 32) a x).toNat < S32x128.size a := fun i k0_t1 v46 v48 k0_hw1 k0_h3 => k0_hw1 k0_h3

def k0_chk2 (i : grid0.Coords) (k0_t1 : Fin k0_t1_loop.trips) (v58 : IVec S16 32) (v60 : IVec S16 32) : Prop :=
  (∀ (k0_h3 : k0_cond3 i k0_t1 = 1#1), ∀ a x, ((![v58, v60] : Fin 2 → IVec S16 32) a x).toNat < S32x128.size a)
theorem k0_idx2_inb : ∀ (i : grid0.Coords) (k0_t1 : Fin k0_t1_loop.trips) (v58 : IVec S16 32) (v60 : IVec S16 32) (k0_hw2 : k0_chk2 i k0_t1 v58 v60), ∀ (k0_h3 : k0_cond3 i k0_t1 = 1#1), ∀ a x, ((![v58, v60] : Fin 2 → IVec S16 32) a x).toNat < S32x128.size a := fun i k0_t1 v58 v60 k0_hw2 k0_h3 => k0_hw2 k0_h3

def k0_chk3 (i : grid0.Coords) (k0_t1 : Fin k0_t1_loop.trips) (v70 : IVec S16 32) (v72 : IVec S16 32) : Prop :=
  (∀ (k0_h3 : k0_cond3 i k0_t1 = 1#1), ∀ a x, ((![v70, v72] : Fin 2 → IVec S16 32) a x).toNat < S32x128.size a)
theorem k0_idx3_inb : ∀ (i : grid0.Coords) (k0_t1 : Fin k0_t1_loop.trips) (v70 : IVec S16 32) (v72 : IVec S16 32) (k0_hw3 : k0_chk3 i k0_t1 v70 v72), ∀ (k0_h3 : k0_cond3 i k0_t1 = 1#1), ∀ a x, ((![v70, v72] : Fin 2 → IVec S16 32) a x).toNat < S32x128.size a := fun i k0_t1 v70 v72 k0_hw3 k0_h3 => k0_hw3 k0_h3

def k0_chk4 (i : grid0.Coords) (k0_t1 : Fin k0_t1_loop.trips) (v82 : IVec S16 32) (v84 : IVec S16 32) : Prop :=
  (∀ (k0_h3 : k0_cond3 i k0_t1 = 1#1), ∀ a x, ((![v82, v84] : Fin 2 → IVec S16 32) a x).toNat < S32x128.size a)
theorem k0_idx4_inb : ∀ (i : grid0.Coords) (k0_t1 : Fin k0_t1_loop.trips) (v82 : IVec S16 32) (v84 : IVec S16 32) (k0_hw4 : k0_chk4 i k0_t1 v82 v84), ∀ (k0_h3 : k0_cond3 i k0_t1 = 1#1), ∀ a x, ((![v82, v84] : Fin 2 → IVec S16 32) a x).toNat < S32x128.size a := fun i k0_t1 v82 v84 k0_hw4 k0_h3 => k0_hw4 k0_h3

def k0_chk5 (i : grid0.Coords) (k0_t1 : Fin k0_t1_loop.trips) (v94 : IVec S16 32) (v96 : IVec S16 32) : Prop :=
  (∀ (k0_h3 : k0_cond3 i k0_t1 = 1#1), ∀ a x, ((![v94, v96] : Fin 2 → IVec S16 32) a x).toNat < S32x128.size a)
theorem k0_idx5_inb : ∀ (i : grid0.Coords) (k0_t1 : Fin k0_t1_loop.trips) (v94 : IVec S16 32) (v96 : IVec S16 32) (k0_hw5 : k0_chk5 i k0_t1 v94 v96), ∀ (k0_h3 : k0_cond3 i k0_t1 = 1#1), ∀ a x, ((![v94, v96] : Fin 2 → IVec S16 32) a x).toNat < S32x128.size a := fun i k0_t1 v94 v96 k0_hw5 k0_h3 => k0_hw5 k0_h3

def k0_chk6 (i : grid0.Coords) (k0_t1 : Fin k0_t1_loop.trips) (v106 : IVec S16 32) (v108 : IVec S16 32) : Prop :=
  (∀ (k0_h3 : k0_cond3 i k0_t1 = 1#1), ∀ a x, ((![v106, v108] : Fin 2 → IVec S16 32) a x).toNat < S32x128.size a)
theorem k0_idx6_inb : ∀ (i : grid0.Coords) (k0_t1 : Fin k0_t1_loop.trips) (v106 : IVec S16 32) (v108 : IVec S16 32) (k0_hw6 : k0_chk6 i k0_t1 v106 v108), ∀ (k0_h3 : k0_cond3 i k0_t1 = 1#1), ∀ a x, ((![v106, v108] : Fin 2 → IVec S16 32) a x).toNat < S32x128.size a := fun i k0_t1 v106 v108 k0_hw6 k0_h3 => k0_hw6 k0_h3

def k0_chk7 (i : grid0.Coords) (k0_t1 : Fin k0_t1_loop.trips) (v118 : IVec S16 32) (v120 : IVec S16 32) : Prop :=
  (∀ (k0_h3 : k0_cond3 i k0_t1 = 1#1), ∀ a x, ((![v118, v120] : Fin 2 → IVec S16 32) a x).toNat < S32x128.size a)
theorem k0_idx7_inb : ∀ (i : grid0.Coords) (k0_t1 : Fin k0_t1_loop.trips) (v118 : IVec S16 32) (v120 : IVec S16 32) (k0_hw7 : k0_chk7 i k0_t1 v118 v120), ∀ (k0_h3 : k0_cond3 i k0_t1 = 1#1), ∀ a x, ((![v118, v120] : Fin 2 → IVec S16 32) a x).toNat < S32x128.size a := fun i k0_t1 v118 v120 k0_hw7 k0_h3 => k0_hw7 k0_h3

def k0_chk8 (i : grid0.Coords) (k0_t1 : Fin k0_t1_loop.trips) (v130 : IVec S16 32) (v132 : IVec S16 32) : Prop :=
  (∀ (k0_h3 : k0_cond3 i k0_t1 = 1#1), ∀ a x, ((![v130, v132] : Fin 2 → IVec S16 32) a x).toNat < S32x128.size a)
theorem k0_idx8_inb : ∀ (i : grid0.Coords) (k0_t1 : Fin k0_t1_loop.trips) (v130 : IVec S16 32) (v132 : IVec S16 32) (k0_hw8 : k0_chk8 i k0_t1 v130 v132), ∀ (k0_h3 : k0_cond3 i k0_t1 = 1#1), ∀ a x, ((![v130, v132] : Fin 2 → IVec S16 32) a x).toNat < S32x128.size a := fun i k0_t1 v130 v132 k0_hw8 k0_h3 => k0_hw8 k0_h3

def k0_chk9 (i : grid0.Coords) (k0_t1 : Fin k0_t1_loop.trips) (v142 : IVec S16 32) (v144 : IVec S16 32) : Prop :=
  (∀ (k0_h3 : k0_cond3 i k0_t1 = 1#1), ∀ a x, ((![v142, v144] : Fin 2 → IVec S16 32) a x).toNat < S32x128.size a)
theorem k0_idx9_inb : ∀ (i : grid0.Coords) (k0_t1 : Fin k0_t1_loop.trips) (v142 : IVec S16 32) (v144 : IVec S16 32) (k0_hw9 : k0_chk9 i k0_t1 v142 v144), ∀ (k0_h3 : k0_cond3 i k0_t1 = 1#1), ∀ a x, ((![v142, v144] : Fin 2 → IVec S16 32) a x).toNat < S32x128.size a := fun i k0_t1 v142 v144 k0_hw9 k0_h3 => k0_hw9 k0_h3

def k0_chk10 (i : grid0.Coords) (k0_t1 : Fin k0_t1_loop.trips) (v154 : IVec S16 32) (v156 : IVec S16 32) : Prop :=
  (∀ (k0_h3 : k0_cond3 i k0_t1 = 1#1), ∀ a x, ((![v154, v156] : Fin 2 → IVec S16 32) a x).toNat < S32x128.size a)
theorem k0_idx10_inb : ∀ (i : grid0.Coords) (k0_t1 : Fin k0_t1_loop.trips) (v154 : IVec S16 32) (v156 : IVec S16 32) (k0_hw10 : k0_chk10 i k0_t1 v154 v156), ∀ (k0_h3 : k0_cond3 i k0_t1 = 1#1), ∀ a x, ((![v154, v156] : Fin 2 → IVec S16 32) a x).toNat < S32x128.size a := fun i k0_t1 v154 v156 k0_hw10 k0_h3 => k0_hw10 k0_h3

def k0_chk11 (i : grid0.Coords) (k0_t1 : Fin k0_t1_loop.trips) (v166 : IVec S16 32) (v168 : IVec S16 32) : Prop :=
  (∀ (k0_h3 : k0_cond3 i k0_t1 = 1#1), ∀ a x, ((![v166, v168] : Fin 2 → IVec S16 32) a x).toNat < S32x128.size a)
theorem k0_idx11_inb : ∀ (i : grid0.Coords) (k0_t1 : Fin k0_t1_loop.trips) (v166 : IVec S16 32) (v168 : IVec S16 32) (k0_hw11 : k0_chk11 i k0_t1 v166 v168), ∀ (k0_h3 : k0_cond3 i k0_t1 = 1#1), ∀ a x, ((![v166, v168] : Fin 2 → IVec S16 32) a x).toNat < S32x128.size a := fun i k0_t1 v166 v168 k0_hw11 k0_h3 => k0_hw11 k0_h3

def k0_chk12 (i : grid0.Coords) (k0_t1 : Fin k0_t1_loop.trips) (v178 : IVec S16 32) (v180 : IVec S16 32) : Prop :=
  (∀ (k0_h3 : k0_cond3 i k0_t1 = 1#1), ∀ a x, ((![v178, v180] : Fin 2 → IVec S16 32) a x).toNat < S32x128.size a)
theorem k0_idx12_inb : ∀ (i : grid0.Coords) (k0_t1 : Fin k0_t1_loop.trips) (v178 : IVec S16 32) (v180 : IVec S16 32) (k0_hw12 : k0_chk12 i k0_t1 v178 v180), ∀ (k0_h3 : k0_cond3 i k0_t1 = 1#1), ∀ a x, ((![v178, v180] : Fin 2 → IVec S16 32) a x).toNat < S32x128.size a := fun i k0_t1 v178 v180 k0_hw12 k0_h3 => k0_hw12 k0_h3

def k0_chk13 (i : grid0.Coords) (k0_t1 : Fin k0_t1_loop.trips) (v190 : IVec S16 32) (v192 : IVec S16 32) : Prop :=
  (∀ (k0_h3 : k0_cond3 i k0_t1 = 1#1), ∀ a x, ((![v190, v192] : Fin 2 → IVec S16 32) a x).toNat < S32x128.size a)
theorem k0_idx13_inb : ∀ (i : grid0.Coords) (k0_t1 : Fin k0_t1_loop.trips) (v190 : IVec S16 32) (v192 : IVec S16 32) (k0_hw13 : k0_chk13 i k0_t1 v190 v192), ∀ (k0_h3 : k0_cond3 i k0_t1 = 1#1), ∀ a x, ((![v190, v192] : Fin 2 → IVec S16 32) a x).toNat < S32x128.size a := fun i k0_t1 v190 v192 k0_hw13 k0_h3 => k0_hw13 k0_h3

def k0_chk14 (i : grid0.Coords) (k0_t1 : Fin k0_t1_loop.trips) (v202 : IVec S16 32) (v204 : IVec S16 32) : Prop :=
  (∀ (k0_h3 : k0_cond3 i k0_t1 = 1#1), ∀ a x, ((![v202, v204] : Fin 2 → IVec S16 32) a x).toNat < S32x128.size a)
theorem k0_idx14_inb : ∀ (i : grid0.Coords) (k0_t1 : Fin k0_t1_loop.trips) (v202 : IVec S16 32) (v204 : IVec S16 32) (k0_hw14 : k0_chk14 i k0_t1 v202 v204), ∀ (k0_h3 : k0_cond3 i k0_t1 = 1#1), ∀ a x, ((![v202, v204] : Fin 2 → IVec S16 32) a x).toNat < S32x128.size a := fun i k0_t1 v202 v204 k0_hw14 k0_h3 => k0_hw14 k0_h3

def k0_chk15 (i : grid0.Coords) (k0_t1 : Fin k0_t1_loop.trips) (v214 : IVec S16 32) (v216 : IVec S16 32) : Prop :=
  (∀ (k0_h3 : k0_cond3 i k0_t1 = 1#1), ∀ a x, ((![v214, v216] : Fin 2 → IVec S16 32) a x).toNat < S32x128.size a)
theorem k0_idx15_inb : ∀ (i : grid0.Coords) (k0_t1 : Fin k0_t1_loop.trips) (v214 : IVec S16 32) (v216 : IVec S16 32) (k0_hw15 : k0_chk15 i k0_t1 v214 v216), ∀ (k0_h3 : k0_cond3 i k0_t1 = 1#1), ∀ a x, ((![v214, v216] : Fin 2 → IVec S16 32) a x).toNat < S32x128.size a := fun i k0_t1 v214 v216 k0_hw15 k0_h3 => k0_hw15 k0_h3

def k0_chk16 (i : grid0.Coords) (k0_t1 : Fin k0_t1_loop.trips) (v226 : IVec S16 32) (v228 : IVec S16 32) : Prop :=
  (∀ (k0_h3 : k0_cond3 i k0_t1 = 1#1), ∀ a x, ((![v226, v228] : Fin 2 → IVec S16 32) a x).toNat < S32x128.size a)
theorem k0_idx16_inb : ∀ (i : grid0.Coords) (k0_t1 : Fin k0_t1_loop.trips) (v226 : IVec S16 32) (v228 : IVec S16 32) (k0_hw16 : k0_chk16 i k0_t1 v226 v228), ∀ (k0_h3 : k0_cond3 i k0_t1 = 1#1), ∀ a x, ((![v226, v228] : Fin 2 → IVec S16 32) a x).toNat < S32x128.size a := fun i k0_t1 v226 v228 k0_hw16 k0_h3 => k0_hw16 k0_h3

def k0_chk17 (i : grid0.Coords) (k0_t1 : Fin k0_t1_loop.trips) (v238 : IVec S16 32) (v240 : IVec S16 32) : Prop :=
  (∀ (k0_h3 : k0_cond3 i k0_t1 = 1#1), ∀ a x, ((![v238, v240] : Fin 2 → IVec S16 32) a x).toNat < S32x128.size a)
theorem k0_idx17_inb : ∀ (i : grid0.Coords) (k0_t1 : Fin k0_t1_loop.trips) (v238 : IVec S16 32) (v240 : IVec S16 32) (k0_hw17 : k0_chk17 i k0_t1 v238 v240), ∀ (k0_h3 : k0_cond3 i k0_t1 = 1#1), ∀ a x, ((![v238, v240] : Fin 2 → IVec S16 32) a x).toNat < S32x128.size a := fun i k0_t1 v238 v240 k0_hw17 k0_h3 => k0_hw17 k0_h3

def k0_chk18 (i : grid0.Coords) (k0_t1 : Fin k0_t1_loop.trips) (v250 : IVec S16 32) (v252 : IVec S16 32) : Prop :=
  (∀ (k0_h3 : k0_cond3 i k0_t1 = 1#1), ∀ a x, ((![v250, v252] : Fin 2 → IVec S16 32) a x).toNat < S32x128.size a)
theorem k0_idx18_inb : ∀ (i : grid0.Coords) (k0_t1 : Fin k0_t1_loop.trips) (v250 : IVec S16 32) (v252 : IVec S16 32) (k0_hw18 : k0_chk18 i k0_t1 v250 v252), ∀ (k0_h3 : k0_cond3 i k0_t1 = 1#1), ∀ a x, ((![v250, v252] : Fin 2 → IVec S16 32) a x).toNat < S32x128.size a := fun i k0_t1 v250 v252 k0_hw18 k0_h3 => k0_hw18 k0_h3

def k0_chk19 (i : grid0.Coords) (k0_t1 : Fin k0_t1_loop.trips) (v262 : IVec S16 32) (v264 : IVec S16 32) : Prop :=
  (∀ (k0_h3 : k0_cond3 i k0_t1 = 1#1), ∀ a x, ((![v262, v264] : Fin 2 → IVec S16 32) a x).toNat < S32x128.size a)
theorem k0_idx19_inb : ∀ (i : grid0.Coords) (k0_t1 : Fin k0_t1_loop.trips) (v262 : IVec S16 32) (v264 : IVec S16 32) (k0_hw19 : k0_chk19 i k0_t1 v262 v264), ∀ (k0_h3 : k0_cond3 i k0_t1 = 1#1), ∀ a x, ((![v262, v264] : Fin 2 → IVec S16 32) a x).toNat < S32x128.size a := fun i k0_t1 v262 v264 k0_hw19 k0_h3 => k0_hw19 k0_h3

def k0_chk20 (i : grid0.Coords) (k0_t1 : Fin k0_t1_loop.trips) (v274 : IVec S16 32) (v276 : IVec S16 32) : Prop :=
  (∀ (k0_h3 : k0_cond3 i k0_t1 = 1#1), ∀ a x, ((![v274, v276] : Fin 2 → IVec S16 32) a x).toNat < S32x128.size a)
theorem k0_idx20_inb : ∀ (i : grid0.Coords) (k0_t1 : Fin k0_t1_loop.trips) (v274 : IVec S16 32) (v276 : IVec S16 32) (k0_hw20 : k0_chk20 i k0_t1 v274 v276), ∀ (k0_h3 : k0_cond3 i k0_t1 = 1#1), ∀ a x, ((![v274, v276] : Fin 2 → IVec S16 32) a x).toNat < S32x128.size a := fun i k0_t1 v274 v276 k0_hw20 k0_h3 => k0_hw20 k0_h3

def k0_chk21 (i : grid0.Coords) (k0_t1 : Fin k0_t1_loop.trips) (v286 : IVec S16 32) (v288 : IVec S16 32) : Prop :=
  (∀ (k0_h3 : k0_cond3 i k0_t1 = 1#1), ∀ a x, ((![v286, v288] : Fin 2 → IVec S16 32) a x).toNat < S32x128.size a)
theorem k0_idx21_inb : ∀ (i : grid0.Coords) (k0_t1 : Fin k0_t1_loop.trips) (v286 : IVec S16 32) (v288 : IVec S16 32) (k0_hw21 : k0_chk21 i k0_t1 v286 v288), ∀ (k0_h3 : k0_cond3 i k0_t1 = 1#1), ∀ a x, ((![v286, v288] : Fin 2 → IVec S16 32) a x).toNat < S32x128.size a := fun i k0_t1 v286 v288 k0_hw21 k0_h3 => k0_hw21 k0_h3

def k0_chk22 (i : grid0.Coords) (k0_t1 : Fin k0_t1_loop.trips) (v298 : IVec S16 32) (v300 : IVec S16 32) : Prop :=
  (∀ (k0_h3 : k0_cond3 i k0_t1 = 1#1), ∀ a x, ((![v298, v300] : Fin 2 → IVec S16 32) a x).toNat < S32x128.size a)
theorem k0_idx22_inb : ∀ (i : grid0.Coords) (k0_t1 : Fin k0_t1_loop.trips) (v298 : IVec S16 32) (v300 : IVec S16 32) (k0_hw22 : k0_chk22 i k0_t1 v298 v300), ∀ (k0_h3 : k0_cond3 i k0_t1 = 1#1), ∀ a x, ((![v298, v300] : Fin 2 → IVec S16 32) a x).toNat < S32x128.size a := fun i k0_t1 v298 v300 k0_hw22 k0_h3 => k0_hw22 k0_h3

def k0_chk23 (i : grid0.Coords) (k0_t1 : Fin k0_t1_loop.trips) (v310 : IVec S16 32) (v312 : IVec S16 32) : Prop :=
  (∀ (k0_h3 : k0_cond3 i k0_t1 = 1#1), ∀ a x, ((![v310, v312] : Fin 2 → IVec S16 32) a x).toNat < S32x128.size a)
theorem k0_idx23_inb : ∀ (i : grid0.Coords) (k0_t1 : Fin k0_t1_loop.trips) (v310 : IVec S16 32) (v312 : IVec S16 32) (k0_hw23 : k0_chk23 i k0_t1 v310 v312), ∀ (k0_h3 : k0_cond3 i k0_t1 = 1#1), ∀ a x, ((![v310, v312] : Fin 2 → IVec S16 32) a x).toNat < S32x128.size a := fun i k0_t1 v310 v312 k0_hw23 k0_h3 => k0_hw23 k0_h3

def k0_chk24 (i : grid0.Coords) (k0_t1 : Fin k0_t1_loop.trips) (v322 : IVec S16 32) (v324 : IVec S16 32) : Prop :=
  (∀ (k0_h3 : k0_cond3 i k0_t1 = 1#1), ∀ a x, ((![v322, v324] : Fin 2 → IVec S16 32) a x).toNat < S32x128.size a)
theorem k0_idx24_inb : ∀ (i : grid0.Coords) (k0_t1 : Fin k0_t1_loop.trips) (v322 : IVec S16 32) (v324 : IVec S16 32) (k0_hw24 : k0_chk24 i k0_t1 v322 v324), ∀ (k0_h3 : k0_cond3 i k0_t1 = 1#1), ∀ a x, ((![v322, v324] : Fin 2 → IVec S16 32) a x).toNat < S32x128.size a := fun i k0_t1 v322 v324 k0_hw24 k0_h3 => k0_hw24 k0_h3

def k0_chk25 (i : grid0.Coords) (k0_t1 : Fin k0_t1_loop.trips) (v334 : IVec S16 32) (v336 : IVec S16 32) : Prop :=
  (∀ (k0_h3 : k0_cond3 i k0_t1 = 1#1), ∀ a x, ((![v334, v336] : Fin 2 → IVec S16 32) a x).toNat < S32x128.size a)
theorem k0_idx25_inb : ∀ (i : grid0.Coords) (k0_t1 : Fin k0_t1_loop.trips) (v334 : IVec S16 32) (v336 : IVec S16 32) (k0_hw25 : k0_chk25 i k0_t1 v334 v336), ∀ (k0_h3 : k0_cond3 i k0_t1 = 1#1), ∀ a x, ((![v334, v336] : Fin 2 → IVec S16 32) a x).toNat < S32x128.size a := fun i k0_t1 v334 v336 k0_hw25 k0_h3 => k0_hw25 k0_h3

def k0_chk26 (i : grid0.Coords) (k0_t1 : Fin k0_t1_loop.trips) (v346 : IVec S16 32) (v348 : IVec S16 32) : Prop :=
  (∀ (k0_h3 : k0_cond3 i k0_t1 = 1#1), ∀ a x, ((![v346, v348] : Fin 2 → IVec S16 32) a x).toNat < S32x128.size a)
theorem k0_idx26_inb : ∀ (i : grid0.Coords) (k0_t1 : Fin k0_t1_loop.trips) (v346 : IVec S16 32) (v348 : IVec S16 32) (k0_hw26 : k0_chk26 i k0_t1 v346 v348), ∀ (k0_h3 : k0_cond3 i k0_t1 = 1#1), ∀ a x, ((![v346, v348] : Fin 2 → IVec S16 32) a x).toNat < S32x128.size a := fun i k0_t1 v346 v348 k0_hw26 k0_h3 => k0_hw26 k0_h3

def k0_chk27 (i : grid0.Coords) (k0_t1 : Fin k0_t1_loop.trips) (v358 : IVec S16 32) (v360 : IVec S16 32) : Prop :=
  (∀ (k0_h3 : k0_cond3 i k0_t1 = 1#1), ∀ a x, ((![v358, v360] : Fin 2 → IVec S16 32) a x).toNat < S32x128.size a)
theorem k0_idx27_inb : ∀ (i : grid0.Coords) (k0_t1 : Fin k0_t1_loop.trips) (v358 : IVec S16 32) (v360 : IVec S16 32) (k0_hw27 : k0_chk27 i k0_t1 v358 v360), ∀ (k0_h3 : k0_cond3 i k0_t1 = 1#1), ∀ a x, ((![v358, v360] : Fin 2 → IVec S16 32) a x).toNat < S32x128.size a := fun i k0_t1 v358 v360 k0_hw27 k0_h3 => k0_hw27 k0_h3

def k0_chk28 (i : grid0.Coords) (k0_t1 : Fin k0_t1_loop.trips) (v370 : IVec S16 32) (v372 : IVec S16 32) : Prop :=
  (∀ (k0_h3 : k0_cond3 i k0_t1 = 1#1), ∀ a x, ((![v370, v372] : Fin 2 → IVec S16 32) a x).toNat < S32x128.size a)
theorem k0_idx28_inb : ∀ (i : grid0.Coords) (k0_t1 : Fin k0_t1_loop.trips) (v370 : IVec S16 32) (v372 : IVec S16 32) (k0_hw28 : k0_chk28 i k0_t1 v370 v372), ∀ (k0_h3 : k0_cond3 i k0_t1 = 1#1), ∀ a x, ((![v370, v372] : Fin 2 → IVec S16 32) a x).toNat < S32x128.size a := fun i k0_t1 v370 v372 k0_hw28 k0_h3 => k0_hw28 k0_h3

def k0_chk29 (i : grid0.Coords) (k0_t1 : Fin k0_t1_loop.trips) (v382 : IVec S16 32) (v384 : IVec S16 32) : Prop :=
  (∀ (k0_h3 : k0_cond3 i k0_t1 = 1#1), ∀ a x, ((![v382, v384] : Fin 2 → IVec S16 32) a x).toNat < S32x128.size a)
theorem k0_idx29_inb : ∀ (i : grid0.Coords) (k0_t1 : Fin k0_t1_loop.trips) (v382 : IVec S16 32) (v384 : IVec S16 32) (k0_hw29 : k0_chk29 i k0_t1 v382 v384), ∀ (k0_h3 : k0_cond3 i k0_t1 = 1#1), ∀ a x, ((![v382, v384] : Fin 2 → IVec S16 32) a x).toNat < S32x128.size a := fun i k0_t1 v382 v384 k0_hw29 k0_h3 => k0_hw29 k0_h3

def k0_chk30 (i : grid0.Coords) (k0_t1 : Fin k0_t1_loop.trips) (v394 : IVec S16 32) (v396 : IVec S16 32) : Prop :=
  (∀ (k0_h3 : k0_cond3 i k0_t1 = 1#1), ∀ a x, ((![v394, v396] : Fin 2 → IVec S16 32) a x).toNat < S32x128.size a)
theorem k0_idx30_inb : ∀ (i : grid0.Coords) (k0_t1 : Fin k0_t1_loop.trips) (v394 : IVec S16 32) (v396 : IVec S16 32) (k0_hw30 : k0_chk30 i k0_t1 v394 v396), ∀ (k0_h3 : k0_cond3 i k0_t1 = 1#1), ∀ a x, ((![v394, v396] : Fin 2 → IVec S16 32) a x).toNat < S32x128.size a := fun i k0_t1 v394 v396 k0_hw30 k0_h3 => k0_hw30 k0_h3

def k0_chk31 (i : grid0.Coords) (k0_t1 : Fin k0_t1_loop.trips) (v406 : IVec S16 32) (v408 : IVec S16 32) : Prop :=
  (∀ (k0_h3 : k0_cond3 i k0_t1 = 1#1), ∀ a x, ((![v406, v408] : Fin 2 → IVec S16 32) a x).toNat < S32x128.size a)
theorem k0_idx31_inb : ∀ (i : grid0.Coords) (k0_t1 : Fin k0_t1_loop.trips) (v406 : IVec S16 32) (v408 : IVec S16 32) (k0_hw31 : k0_chk31 i k0_t1 v406 v408), ∀ (k0_h3 : k0_cond3 i k0_t1 = 1#1), ∀ a x, ((![v406, v408] : Fin 2 → IVec S16 32) a x).toNat < S32x128.size a := fun i k0_t1 v406 v408 k0_hw31 k0_h3 => k0_hw31 k0_h3

def k0_chk32 (i : grid0.Coords) (k0_t1 : Fin k0_t1_loop.trips) (v418 : IVec S16 32) (v420 : IVec S16 32) : Prop :=
  (∀ (k0_h3 : k0_cond3 i k0_t1 = 1#1), ∀ a x, ((![v418, v420] : Fin 2 → IVec S16 32) a x).toNat < S32x128.size a)
theorem k0_idx32_inb : ∀ (i : grid0.Coords) (k0_t1 : Fin k0_t1_loop.trips) (v418 : IVec S16 32) (v420 : IVec S16 32) (k0_hw32 : k0_chk32 i k0_t1 v418 v420), ∀ (k0_h3 : k0_cond3 i k0_t1 = 1#1), ∀ a x, ((![v418, v420] : Fin 2 → IVec S16 32) a x).toNat < S32x128.size a := fun i k0_t1 v418 v420 k0_hw32 k0_h3 => k0_hw32 k0_h3

def k0_chk33 (i : grid0.Coords) (k0_t1 : Fin k0_t1_loop.trips) (v430 : IVec S16 32) (v432 : IVec S16 32) : Prop :=
  (∀ (k0_h3 : k0_cond3 i k0_t1 = 1#1), ∀ a x, ((![v430, v432] : Fin 2 → IVec S16 32) a x).toNat < S32x128.size a)
theorem k0_idx33_inb : ∀ (i : grid0.Coords) (k0_t1 : Fin k0_t1_loop.trips) (v430 : IVec S16 32) (v432 : IVec S16 32) (k0_hw33 : k0_chk33 i k0_t1 v430 v432), ∀ (k0_h3 : k0_cond3 i k0_t1 = 1#1), ∀ a x, ((![v430, v432] : Fin 2 → IVec S16 32) a x).toNat < S32x128.size a := fun i k0_t1 v430 v432 k0_hw33 k0_h3 => k0_hw33 k0_h3

def k0_chk34 (i : grid0.Coords) (k0_t1 : Fin k0_t1_loop.trips) (v442 : IVec S16 32) (v444 : IVec S16 32) : Prop :=
  (∀ (k0_h3 : k0_cond3 i k0_t1 = 1#1), ∀ a x, ((![v442, v444] : Fin 2 → IVec S16 32) a x).toNat < S32x128.size a)
theorem k0_idx34_inb : ∀ (i : grid0.Coords) (k0_t1 : Fin k0_t1_loop.trips) (v442 : IVec S16 32) (v444 : IVec S16 32) (k0_hw34 : k0_chk34 i k0_t1 v442 v444), ∀ (k0_h3 : k0_cond3 i k0_t1 = 1#1), ∀ a x, ((![v442, v444] : Fin 2 → IVec S16 32) a x).toNat < S32x128.size a := fun i k0_t1 v442 v444 k0_hw34 k0_h3 => k0_hw34 k0_h3

def k0_chk35 (i : grid0.Coords) (k0_t1 : Fin k0_t1_loop.trips) (v454 : IVec S16 32) (v456 : IVec S16 32) : Prop :=
  (∀ (k0_h3 : k0_cond3 i k0_t1 = 1#1), ∀ a x, ((![v454, v456] : Fin 2 → IVec S16 32) a x).toNat < S32x128.size a)
theorem k0_idx35_inb : ∀ (i : grid0.Coords) (k0_t1 : Fin k0_t1_loop.trips) (v454 : IVec S16 32) (v456 : IVec S16 32) (k0_hw35 : k0_chk35 i k0_t1 v454 v456), ∀ (k0_h3 : k0_cond3 i k0_t1 = 1#1), ∀ a x, ((![v454, v456] : Fin 2 → IVec S16 32) a x).toNat < S32x128.size a := fun i k0_t1 v454 v456 k0_hw35 k0_h3 => k0_hw35 k0_h3

def k0_chk36 (i : grid0.Coords) (k0_t1 : Fin k0_t1_loop.trips) (v466 : IVec S16 32) (v468 : IVec S16 32) : Prop :=
  (∀ (k0_h3 : k0_cond3 i k0_t1 = 1#1), ∀ a x, ((![v466, v468] : Fin 2 → IVec S16 32) a x).toNat < S32x128.size a)
theorem k0_idx36_inb : ∀ (i : grid0.Coords) (k0_t1 : Fin k0_t1_loop.trips) (v466 : IVec S16 32) (v468 : IVec S16 32) (k0_hw36 : k0_chk36 i k0_t1 v466 v468), ∀ (k0_h3 : k0_cond3 i k0_t1 = 1#1), ∀ a x, ((![v466, v468] : Fin 2 → IVec S16 32) a x).toNat < S32x128.size a := fun i k0_t1 v466 v468 k0_hw36 k0_h3 => k0_hw36 k0_h3

def k0_chk37 (i : grid0.Coords) (k0_t1 : Fin k0_t1_loop.trips) (v478 : IVec S16 32) (v480 : IVec S16 32) : Prop :=
  (∀ (k0_h3 : k0_cond3 i k0_t1 = 1#1), ∀ a x, ((![v478, v480] : Fin 2 → IVec S16 32) a x).toNat < S32x128.size a)
theorem k0_idx37_inb : ∀ (i : grid0.Coords) (k0_t1 : Fin k0_t1_loop.trips) (v478 : IVec S16 32) (v480 : IVec S16 32) (k0_hw37 : k0_chk37 i k0_t1 v478 v480), ∀ (k0_h3 : k0_cond3 i k0_t1 = 1#1), ∀ a x, ((![v478, v480] : Fin 2 → IVec S16 32) a x).toNat < S32x128.size a := fun i k0_t1 v478 v480 k0_hw37 k0_h3 => k0_hw37 k0_h3

def k0_chk38 (i : grid0.Coords) (k0_t1 : Fin k0_t1_loop.trips) (v490 : IVec S16 32) (v492 : IVec S16 32) : Prop :=
  (∀ (k0_h3 : k0_cond3 i k0_t1 = 1#1), ∀ a x, ((![v490, v492] : Fin 2 → IVec S16 32) a x).toNat < S32x128.size a)
theorem k0_idx38_inb : ∀ (i : grid0.Coords) (k0_t1 : Fin k0_t1_loop.trips) (v490 : IVec S16 32) (v492 : IVec S16 32) (k0_hw38 : k0_chk38 i k0_t1 v490 v492), ∀ (k0_h3 : k0_cond3 i k0_t1 = 1#1), ∀ a x, ((![v490, v492] : Fin 2 → IVec S16 32) a x).toNat < S32x128.size a := fun i k0_t1 v490 v492 k0_hw38 k0_h3 => k0_hw38 k0_h3

def k0_chk39 (i : grid0.Coords) (k0_t1 : Fin k0_t1_loop.trips) (v502 : IVec S16 32) (v504 : IVec S16 32) : Prop :=
  (∀ (k0_h3 : k0_cond3 i k0_t1 = 1#1), ∀ a x, ((![v502, v504] : Fin 2 → IVec S16 32) a x).toNat < S32x128.size a)
theorem k0_idx39_inb : ∀ (i : grid0.Coords) (k0_t1 : Fin k0_t1_loop.trips) (v502 : IVec S16 32) (v504 : IVec S16 32) (k0_hw39 : k0_chk39 i k0_t1 v502 v504), ∀ (k0_h3 : k0_cond3 i k0_t1 = 1#1), ∀ a x, ((![v502, v504] : Fin 2 → IVec S16 32) a x).toNat < S32x128.size a := fun i k0_t1 v502 v504 k0_hw39 k0_h3 => k0_hw39 k0_h3

def k0_chk40 (i : grid0.Coords) (k0_t1 : Fin k0_t1_loop.trips) (v514 : IVec S16 32) (v516 : IVec S16 32) : Prop :=
  (∀ (k0_h3 : k0_cond3 i k0_t1 = 1#1), ∀ a x, ((![v514, v516] : Fin 2 → IVec S16 32) a x).toNat < S32x128.size a)
theorem k0_idx40_inb : ∀ (i : grid0.Coords) (k0_t1 : Fin k0_t1_loop.trips) (v514 : IVec S16 32) (v516 : IVec S16 32) (k0_hw40 : k0_chk40 i k0_t1 v514 v516), ∀ (k0_h3 : k0_cond3 i k0_t1 = 1#1), ∀ a x, ((![v514, v516] : Fin 2 → IVec S16 32) a x).toNat < S32x128.size a := fun i k0_t1 v514 v516 k0_hw40 k0_h3 => k0_hw40 k0_h3

def k0_chk41 (i : grid0.Coords) (k0_t1 : Fin k0_t1_loop.trips) (v526 : IVec S16 32) (v528 : IVec S16 32) : Prop :=
  (∀ (k0_h3 : k0_cond3 i k0_t1 = 1#1), ∀ a x, ((![v526, v528] : Fin 2 → IVec S16 32) a x).toNat < S32x128.size a)
theorem k0_idx41_inb : ∀ (i : grid0.Coords) (k0_t1 : Fin k0_t1_loop.trips) (v526 : IVec S16 32) (v528 : IVec S16 32) (k0_hw41 : k0_chk41 i k0_t1 v526 v528), ∀ (k0_h3 : k0_cond3 i k0_t1 = 1#1), ∀ a x, ((![v526, v528] : Fin 2 → IVec S16 32) a x).toNat < S32x128.size a := fun i k0_t1 v526 v528 k0_hw41 k0_h3 => k0_hw41 k0_h3

def k0_chk42 (i : grid0.Coords) (k0_t1 : Fin k0_t1_loop.trips) (v538 : IVec S16 32) (v540 : IVec S16 32) : Prop :=
  (∀ (k0_h3 : k0_cond3 i k0_t1 = 1#1), ∀ a x, ((![v538, v540] : Fin 2 → IVec S16 32) a x).toNat < S32x128.size a)
theorem k0_idx42_inb : ∀ (i : grid0.Coords) (k0_t1 : Fin k0_t1_loop.trips) (v538 : IVec S16 32) (v540 : IVec S16 32) (k0_hw42 : k0_chk42 i k0_t1 v538 v540), ∀ (k0_h3 : k0_cond3 i k0_t1 = 1#1), ∀ a x, ((![v538, v540] : Fin 2 → IVec S16 32) a x).toNat < S32x128.size a := fun i k0_t1 v538 v540 k0_hw42 k0_h3 => k0_hw42 k0_h3

def k0_chk43 (i : grid0.Coords) (k0_t1 : Fin k0_t1_loop.trips) (v550 : IVec S16 32) (v552 : IVec S16 32) : Prop :=
  (∀ (k0_h3 : k0_cond3 i k0_t1 = 1#1), ∀ a x, ((![v550, v552] : Fin 2 → IVec S16 32) a x).toNat < S32x128.size a)
theorem k0_idx43_inb : ∀ (i : grid0.Coords) (k0_t1 : Fin k0_t1_loop.trips) (v550 : IVec S16 32) (v552 : IVec S16 32) (k0_hw43 : k0_chk43 i k0_t1 v550 v552), ∀ (k0_h3 : k0_cond3 i k0_t1 = 1#1), ∀ a x, ((![v550, v552] : Fin 2 → IVec S16 32) a x).toNat < S32x128.size a := fun i k0_t1 v550 v552 k0_hw43 k0_h3 => k0_hw43 k0_h3

def k0_chk44 (i : grid0.Coords) (k0_t1 : Fin k0_t1_loop.trips) (v562 : IVec S16 32) (v564 : IVec S16 32) : Prop :=
  (∀ (k0_h3 : k0_cond3 i k0_t1 = 1#1), ∀ a x, ((![v562, v564] : Fin 2 → IVec S16 32) a x).toNat < S32x128.size a)
theorem k0_idx44_inb : ∀ (i : grid0.Coords) (k0_t1 : Fin k0_t1_loop.trips) (v562 : IVec S16 32) (v564 : IVec S16 32) (k0_hw44 : k0_chk44 i k0_t1 v562 v564), ∀ (k0_h3 : k0_cond3 i k0_t1 = 1#1), ∀ a x, ((![v562, v564] : Fin 2 → IVec S16 32) a x).toNat < S32x128.size a := fun i k0_t1 v562 v564 k0_hw44 k0_h3 => k0_hw44 k0_h3

def k0_chk45 (i : grid0.Coords) (k0_t1 : Fin k0_t1_loop.trips) (v574 : IVec S16 32) (v576 : IVec S16 32) : Prop :=
  (∀ (k0_h3 : k0_cond3 i k0_t1 = 1#1), ∀ a x, ((![v574, v576] : Fin 2 → IVec S16 32) a x).toNat < S32x128.size a)
theorem k0_idx45_inb : ∀ (i : grid0.Coords) (k0_t1 : Fin k0_t1_loop.trips) (v574 : IVec S16 32) (v576 : IVec S16 32) (k0_hw45 : k0_chk45 i k0_t1 v574 v576), ∀ (k0_h3 : k0_cond3 i k0_t1 = 1#1), ∀ a x, ((![v574, v576] : Fin 2 → IVec S16 32) a x).toNat < S32x128.size a := fun i k0_t1 v574 v576 k0_hw45 k0_h3 => k0_hw45 k0_h3

def k0_chk46 (i : grid0.Coords) (k0_t1 : Fin k0_t1_loop.trips) (v586 : IVec S16 32) (v588 : IVec S16 32) : Prop :=
  (∀ (k0_h3 : k0_cond3 i k0_t1 = 1#1), ∀ a x, ((![v586, v588] : Fin 2 → IVec S16 32) a x).toNat < S32x128.size a)
theorem k0_idx46_inb : ∀ (i : grid0.Coords) (k0_t1 : Fin k0_t1_loop.trips) (v586 : IVec S16 32) (v588 : IVec S16 32) (k0_hw46 : k0_chk46 i k0_t1 v586 v588), ∀ (k0_h3 : k0_cond3 i k0_t1 = 1#1), ∀ a x, ((![v586, v588] : Fin 2 → IVec S16 32) a x).toNat < S32x128.size a := fun i k0_t1 v586 v588 k0_hw46 k0_h3 => k0_hw46 k0_h3

def k0_chk47 (i : grid0.Coords) (k0_t1 : Fin k0_t1_loop.trips) (v598 : IVec S16 32) (v600 : IVec S16 32) : Prop :=
  (∀ (k0_h3 : k0_cond3 i k0_t1 = 1#1), ∀ a x, ((![v598, v600] : Fin 2 → IVec S16 32) a x).toNat < S32x128.size a)
theorem k0_idx47_inb : ∀ (i : grid0.Coords) (k0_t1 : Fin k0_t1_loop.trips) (v598 : IVec S16 32) (v600 : IVec S16 32) (k0_hw47 : k0_chk47 i k0_t1 v598 v600), ∀ (k0_h3 : k0_cond3 i k0_t1 = 1#1), ∀ a x, ((![v598, v600] : Fin 2 → IVec S16 32) a x).toNat < S32x128.size a := fun i k0_t1 v598 v600 k0_hw47 k0_h3 => k0_hw47 k0_h3

def k0_chk48 (i : grid0.Coords) (k0_t1 : Fin k0_t1_loop.trips) (v610 : IVec S16 32) (v612 : IVec S16 32) : Prop :=
  (∀ (k0_h3 : k0_cond3 i k0_t1 = 1#1), ∀ a x, ((![v610, v612] : Fin 2 → IVec S16 32) a x).toNat < S32x128.size a)
theorem k0_idx48_inb : ∀ (i : grid0.Coords) (k0_t1 : Fin k0_t1_loop.trips) (v610 : IVec S16 32) (v612 : IVec S16 32) (k0_hw48 : k0_chk48 i k0_t1 v610 v612), ∀ (k0_h3 : k0_cond3 i k0_t1 = 1#1), ∀ a x, ((![v610, v612] : Fin 2 → IVec S16 32) a x).toNat < S32x128.size a := fun i k0_t1 v610 v612 k0_hw48 k0_h3 => k0_hw48 k0_h3

def k0_chk49 (i : grid0.Coords) (k0_t1 : Fin k0_t1_loop.trips) (v622 : IVec S16 32) (v624 : IVec S16 32) : Prop :=
  (∀ (k0_h3 : k0_cond3 i k0_t1 = 1#1), ∀ a x, ((![v622, v624] : Fin 2 → IVec S16 32) a x).toNat < S32x128.size a)
theorem k0_idx49_inb : ∀ (i : grid0.Coords) (k0_t1 : Fin k0_t1_loop.trips) (v622 : IVec S16 32) (v624 : IVec S16 32) (k0_hw49 : k0_chk49 i k0_t1 v622 v624), ∀ (k0_h3 : k0_cond3 i k0_t1 = 1#1), ∀ a x, ((![v622, v624] : Fin 2 → IVec S16 32) a x).toNat < S32x128.size a := fun i k0_t1 v622 v624 k0_hw49 k0_h3 => k0_hw49 k0_h3

def k0_chk50 (i : grid0.Coords) (k0_t1 : Fin k0_t1_loop.trips) (v634 : IVec S16 32) (v636 : IVec S16 32) : Prop :=
  (∀ (k0_h3 : k0_cond3 i k0_t1 = 1#1), ∀ a x, ((![v634, v636] : Fin 2 → IVec S16 32) a x).toNat < S32x128.size a)
theorem k0_idx50_inb : ∀ (i : grid0.Coords) (k0_t1 : Fin k0_t1_loop.trips) (v634 : IVec S16 32) (v636 : IVec S16 32) (k0_hw50 : k0_chk50 i k0_t1 v634 v636), ∀ (k0_h3 : k0_cond3 i k0_t1 = 1#1), ∀ a x, ((![v634, v636] : Fin 2 → IVec S16 32) a x).toNat < S32x128.size a := fun i k0_t1 v634 v636 k0_hw50 k0_h3 => k0_hw50 k0_h3

def k0_chk51 (i : grid0.Coords) (k0_t1 : Fin k0_t1_loop.trips) (v646 : IVec S16 32) (v648 : IVec S16 32) : Prop :=
  (∀ (k0_h3 : k0_cond3 i k0_t1 = 1#1), ∀ a x, ((![v646, v648] : Fin 2 → IVec S16 32) a x).toNat < S32x128.size a)
theorem k0_idx51_inb : ∀ (i : grid0.Coords) (k0_t1 : Fin k0_t1_loop.trips) (v646 : IVec S16 32) (v648 : IVec S16 32) (k0_hw51 : k0_chk51 i k0_t1 v646 v648), ∀ (k0_h3 : k0_cond3 i k0_t1 = 1#1), ∀ a x, ((![v646, v648] : Fin 2 → IVec S16 32) a x).toNat < S32x128.size a := fun i k0_t1 v646 v648 k0_hw51 k0_h3 => k0_hw51 k0_h3

def k0_chk52 (i : grid0.Coords) (k0_t1 : Fin k0_t1_loop.trips) (v658 : IVec S16 32) (v660 : IVec S16 32) : Prop :=
  (∀ (k0_h3 : k0_cond3 i k0_t1 = 1#1), ∀ a x, ((![v658, v660] : Fin 2 → IVec S16 32) a x).toNat < S32x128.size a)
theorem k0_idx52_inb : ∀ (i : grid0.Coords) (k0_t1 : Fin k0_t1_loop.trips) (v658 : IVec S16 32) (v660 : IVec S16 32) (k0_hw52 : k0_chk52 i k0_t1 v658 v660), ∀ (k0_h3 : k0_cond3 i k0_t1 = 1#1), ∀ a x, ((![v658, v660] : Fin 2 → IVec S16 32) a x).toNat < S32x128.size a := fun i k0_t1 v658 v660 k0_hw52 k0_h3 => k0_hw52 k0_h3

def k0_chk53 (i : grid0.Coords) (k0_t1 : Fin k0_t1_loop.trips) (v670 : IVec S16 32) (v672 : IVec S16 32) : Prop :=
  (∀ (k0_h3 : k0_cond3 i k0_t1 = 1#1), ∀ a x, ((![v670, v672] : Fin 2 → IVec S16 32) a x).toNat < S32x128.size a)
theorem k0_idx53_inb : ∀ (i : grid0.Coords) (k0_t1 : Fin k0_t1_loop.trips) (v670 : IVec S16 32) (v672 : IVec S16 32) (k0_hw53 : k0_chk53 i k0_t1 v670 v672), ∀ (k0_h3 : k0_cond3 i k0_t1 = 1#1), ∀ a x, ((![v670, v672] : Fin 2 → IVec S16 32) a x).toNat < S32x128.size a := fun i k0_t1 v670 v672 k0_hw53 k0_h3 => k0_hw53 k0_h3

def k0_chk54 (i : grid0.Coords) (k0_t1 : Fin k0_t1_loop.trips) (v682 : IVec S16 32) (v684 : IVec S16 32) : Prop :=
  (∀ (k0_h3 : k0_cond3 i k0_t1 = 1#1), ∀ a x, ((![v682, v684] : Fin 2 → IVec S16 32) a x).toNat < S32x128.size a)
theorem k0_idx54_inb : ∀ (i : grid0.Coords) (k0_t1 : Fin k0_t1_loop.trips) (v682 : IVec S16 32) (v684 : IVec S16 32) (k0_hw54 : k0_chk54 i k0_t1 v682 v684), ∀ (k0_h3 : k0_cond3 i k0_t1 = 1#1), ∀ a x, ((![v682, v684] : Fin 2 → IVec S16 32) a x).toNat < S32x128.size a := fun i k0_t1 v682 v684 k0_hw54 k0_h3 => k0_hw54 k0_h3

def k0_chk55 (i : grid0.Coords) (k0_t1 : Fin k0_t1_loop.trips) (v694 : IVec S16 32) (v696 : IVec S16 32) : Prop :=
  (∀ (k0_h3 : k0_cond3 i k0_t1 = 1#1), ∀ a x, ((![v694, v696] : Fin 2 → IVec S16 32) a x).toNat < S32x128.size a)
theorem k0_idx55_inb : ∀ (i : grid0.Coords) (k0_t1 : Fin k0_t1_loop.trips) (v694 : IVec S16 32) (v696 : IVec S16 32) (k0_hw55 : k0_chk55 i k0_t1 v694 v696), ∀ (k0_h3 : k0_cond3 i k0_t1 = 1#1), ∀ a x, ((![v694, v696] : Fin 2 → IVec S16 32) a x).toNat < S32x128.size a := fun i k0_t1 v694 v696 k0_hw55 k0_h3 => k0_hw55 k0_h3

def k0_chk56 (i : grid0.Coords) (k0_t1 : Fin k0_t1_loop.trips) (v706 : IVec S16 32) (v708 : IVec S16 32) : Prop :=
  (∀ (k0_h3 : k0_cond3 i k0_t1 = 1#1), ∀ a x, ((![v706, v708] : Fin 2 → IVec S16 32) a x).toNat < S32x128.size a)
theorem k0_idx56_inb : ∀ (i : grid0.Coords) (k0_t1 : Fin k0_t1_loop.trips) (v706 : IVec S16 32) (v708 : IVec S16 32) (k0_hw56 : k0_chk56 i k0_t1 v706 v708), ∀ (k0_h3 : k0_cond3 i k0_t1 = 1#1), ∀ a x, ((![v706, v708] : Fin 2 → IVec S16 32) a x).toNat < S32x128.size a := fun i k0_t1 v706 v708 k0_hw56 k0_h3 => k0_hw56 k0_h3

def k0_chk57 (i : grid0.Coords) (k0_t1 : Fin k0_t1_loop.trips) (v718 : IVec S16 32) (v720 : IVec S16 32) : Prop :=
  (∀ (k0_h3 : k0_cond3 i k0_t1 = 1#1), ∀ a x, ((![v718, v720] : Fin 2 → IVec S16 32) a x).toNat < S32x128.size a)
theorem k0_idx57_inb : ∀ (i : grid0.Coords) (k0_t1 : Fin k0_t1_loop.trips) (v718 : IVec S16 32) (v720 : IVec S16 32) (k0_hw57 : k0_chk57 i k0_t1 v718 v720), ∀ (k0_h3 : k0_cond3 i k0_t1 = 1#1), ∀ a x, ((![v718, v720] : Fin 2 → IVec S16 32) a x).toNat < S32x128.size a := fun i k0_t1 v718 v720 k0_hw57 k0_h3 => k0_hw57 k0_h3

def k0_chk58 (i : grid0.Coords) (k0_t1 : Fin k0_t1_loop.trips) (v730 : IVec S16 32) (v732 : IVec S16 32) : Prop :=
  (∀ (k0_h3 : k0_cond3 i k0_t1 = 1#1), ∀ a x, ((![v730, v732] : Fin 2 → IVec S16 32) a x).toNat < S32x128.size a)
theorem k0_idx58_inb : ∀ (i : grid0.Coords) (k0_t1 : Fin k0_t1_loop.trips) (v730 : IVec S16 32) (v732 : IVec S16 32) (k0_hw58 : k0_chk58 i k0_t1 v730 v732), ∀ (k0_h3 : k0_cond3 i k0_t1 = 1#1), ∀ a x, ((![v730, v732] : Fin 2 → IVec S16 32) a x).toNat < S32x128.size a := fun i k0_t1 v730 v732 k0_hw58 k0_h3 => k0_hw58 k0_h3

def k0_chk59 (i : grid0.Coords) (k0_t1 : Fin k0_t1_loop.trips) (v742 : IVec S16 32) (v744 : IVec S16 32) : Prop :=
  (∀ (k0_h3 : k0_cond3 i k0_t1 = 1#1), ∀ a x, ((![v742, v744] : Fin 2 → IVec S16 32) a x).toNat < S32x128.size a)
theorem k0_idx59_inb : ∀ (i : grid0.Coords) (k0_t1 : Fin k0_t1_loop.trips) (v742 : IVec S16 32) (v744 : IVec S16 32) (k0_hw59 : k0_chk59 i k0_t1 v742 v744), ∀ (k0_h3 : k0_cond3 i k0_t1 = 1#1), ∀ a x, ((![v742, v744] : Fin 2 → IVec S16 32) a x).toNat < S32x128.size a := fun i k0_t1 v742 v744 k0_hw59 k0_h3 => k0_hw59 k0_h3

def k0_chk60 (i : grid0.Coords) (k0_t1 : Fin k0_t1_loop.trips) (v754 : IVec S16 32) (v756 : IVec S16 32) : Prop :=
  (∀ (k0_h3 : k0_cond3 i k0_t1 = 1#1), ∀ a x, ((![v754, v756] : Fin 2 → IVec S16 32) a x).toNat < S32x128.size a)
theorem k0_idx60_inb : ∀ (i : grid0.Coords) (k0_t1 : Fin k0_t1_loop.trips) (v754 : IVec S16 32) (v756 : IVec S16 32) (k0_hw60 : k0_chk60 i k0_t1 v754 v756), ∀ (k0_h3 : k0_cond3 i k0_t1 = 1#1), ∀ a x, ((![v754, v756] : Fin 2 → IVec S16 32) a x).toNat < S32x128.size a := fun i k0_t1 v754 v756 k0_hw60 k0_h3 => k0_hw60 k0_h3

def k0_chk61 (i : grid0.Coords) (k0_t1 : Fin k0_t1_loop.trips) (v766 : IVec S16 32) (v768 : IVec S16 32) : Prop :=
  (∀ (k0_h3 : k0_cond3 i k0_t1 = 1#1), ∀ a x, ((![v766, v768] : Fin 2 → IVec S16 32) a x).toNat < S32x128.size a)
theorem k0_idx61_inb : ∀ (i : grid0.Coords) (k0_t1 : Fin k0_t1_loop.trips) (v766 : IVec S16 32) (v768 : IVec S16 32) (k0_hw61 : k0_chk61 i k0_t1 v766 v768), ∀ (k0_h3 : k0_cond3 i k0_t1 = 1#1), ∀ a x, ((![v766, v768] : Fin 2 → IVec S16 32) a x).toNat < S32x128.size a := fun i k0_t1 v766 v768 k0_hw61 k0_h3 => k0_hw61 k0_h3

def k0_chk62 (i : grid0.Coords) (k0_t1 : Fin k0_t1_loop.trips) (v778 : IVec S16 32) (v780 : IVec S16 32) : Prop :=
  (∀ (k0_h3 : k0_cond3 i k0_t1 = 1#1), ∀ a x, ((![v778, v780] : Fin 2 → IVec S16 32) a x).toNat < S32x128.size a)
theorem k0_idx62_inb : ∀ (i : grid0.Coords) (k0_t1 : Fin k0_t1_loop.trips) (v778 : IVec S16 32) (v780 : IVec S16 32) (k0_hw62 : k0_chk62 i k0_t1 v778 v780), ∀ (k0_h3 : k0_cond3 i k0_t1 = 1#1), ∀ a x, ((![v778, v780] : Fin 2 → IVec S16 32) a x).toNat < S32x128.size a := fun i k0_t1 v778 v780 k0_hw62 k0_h3 => k0_hw62 k0_h3

def k0_chk63 (i : grid0.Coords) (k0_t1 : Fin k0_t1_loop.trips) (v790 : IVec S16 32) (v792 : IVec S16 32) : Prop :=
  (∀ (k0_h3 : k0_cond3 i k0_t1 = 1#1), ∀ a x, ((![v790, v792] : Fin 2 → IVec S16 32) a x).toNat < S32x128.size a)
theorem k0_idx63_inb : ∀ (i : grid0.Coords) (k0_t1 : Fin k0_t1_loop.trips) (v790 : IVec S16 32) (v792 : IVec S16 32) (k0_hw63 : k0_chk63 i k0_t1 v790 v792), ∀ (k0_h3 : k0_cond3 i k0_t1 = 1#1), ∀ a x, ((![v790, v792] : Fin 2 → IVec S16 32) a x).toNat < S32x128.size a := fun i k0_t1 v790 v792 k0_hw63 k0_h3 => k0_hw63 k0_h3

def k0_chk64 (i : grid0.Coords) (k0_t1 : Fin k0_t1_loop.trips) (v802 : IVec S16 32) (v804 : IVec S16 32) : Prop :=
  (∀ (k0_h3 : k0_cond3 i k0_t1 = 1#1), ∀ a x, ((![v802, v804] : Fin 2 → IVec S16 32) a x).toNat < S32x128.size a)
theorem k0_idx64_inb : ∀ (i : grid0.Coords) (k0_t1 : Fin k0_t1_loop.trips) (v802 : IVec S16 32) (v804 : IVec S16 32) (k0_hw64 : k0_chk64 i k0_t1 v802 v804), ∀ (k0_h3 : k0_cond3 i k0_t1 = 1#1), ∀ a x, ((![v802, v804] : Fin 2 → IVec S16 32) a x).toNat < S32x128.size a := fun i k0_t1 v802 v804 k0_hw64 k0_h3 => k0_hw64 k0_h3

def k0_chk65 (i : grid0.Coords) (k0_t1 : Fin k0_t1_loop.trips) (v814 : IVec S16 32) (v816 : IVec S16 32) : Prop :=
  (∀ (k0_h3 : k0_cond3 i k0_t1 = 1#1), ∀ a x, ((![v814, v816] : Fin 2 → IVec S16 32) a x).toNat < S32x128.size a)
theorem k0_idx65_inb : ∀ (i : grid0.Coords) (k0_t1 : Fin k0_t1_loop.trips) (v814 : IVec S16 32) (v816 : IVec S16 32) (k0_hw65 : k0_chk65 i k0_t1 v814 v816), ∀ (k0_h3 : k0_cond3 i k0_t1 = 1#1), ∀ a x, ((![v814, v816] : Fin 2 → IVec S16 32) a x).toNat < S32x128.size a := fun i k0_t1 v814 v816 k0_hw65 k0_h3 => k0_hw65 k0_h3

def k0_chk66 (i : grid0.Coords) (k0_t1 : Fin k0_t1_loop.trips) (v826 : IVec S16 32) (v828 : IVec S16 32) : Prop :=
  (∀ (k0_h3 : k0_cond3 i k0_t1 = 1#1), ∀ a x, ((![v826, v828] : Fin 2 → IVec S16 32) a x).toNat < S32x128.size a)
theorem k0_idx66_inb : ∀ (i : grid0.Coords) (k0_t1 : Fin k0_t1_loop.trips) (v826 : IVec S16 32) (v828 : IVec S16 32) (k0_hw66 : k0_chk66 i k0_t1 v826 v828), ∀ (k0_h3 : k0_cond3 i k0_t1 = 1#1), ∀ a x, ((![v826, v828] : Fin 2 → IVec S16 32) a x).toNat < S32x128.size a := fun i k0_t1 v826 v828 k0_hw66 k0_h3 => k0_hw66 k0_h3

def k0_chk67 (i : grid0.Coords) (k0_t1 : Fin k0_t1_loop.trips) (v838 : IVec S16 32) (v840 : IVec S16 32) : Prop :=
  (∀ (k0_h3 : k0_cond3 i k0_t1 = 1#1), ∀ a x, ((![v838, v840] : Fin 2 → IVec S16 32) a x).toNat < S32x128.size a)
theorem k0_idx67_inb : ∀ (i : grid0.Coords) (k0_t1 : Fin k0_t1_loop.trips) (v838 : IVec S16 32) (v840 : IVec S16 32) (k0_hw67 : k0_chk67 i k0_t1 v838 v840), ∀ (k0_h3 : k0_cond3 i k0_t1 = 1#1), ∀ a x, ((![v838, v840] : Fin 2 → IVec S16 32) a x).toNat < S32x128.size a := fun i k0_t1 v838 v840 k0_hw67 k0_h3 => k0_hw67 k0_h3

def k0_chk68 (i : grid0.Coords) (k0_t1 : Fin k0_t1_loop.trips) (v850 : IVec S16 32) (v852 : IVec S16 32) : Prop :=
  (∀ (k0_h3 : k0_cond3 i k0_t1 = 1#1), ∀ a x, ((![v850, v852] : Fin 2 → IVec S16 32) a x).toNat < S32x128.size a)
theorem k0_idx68_inb : ∀ (i : grid0.Coords) (k0_t1 : Fin k0_t1_loop.trips) (v850 : IVec S16 32) (v852 : IVec S16 32) (k0_hw68 : k0_chk68 i k0_t1 v850 v852), ∀ (k0_h3 : k0_cond3 i k0_t1 = 1#1), ∀ a x, ((![v850, v852] : Fin 2 → IVec S16 32) a x).toNat < S32x128.size a := fun i k0_t1 v850 v852 k0_hw68 k0_h3 => k0_hw68 k0_h3

def k0_chk69 (i : grid0.Coords) (k0_t1 : Fin k0_t1_loop.trips) (v862 : IVec S16 32) (v864 : IVec S16 32) : Prop :=
  (∀ (k0_h3 : k0_cond3 i k0_t1 = 1#1), ∀ a x, ((![v862, v864] : Fin 2 → IVec S16 32) a x).toNat < S32x128.size a)
theorem k0_idx69_inb : ∀ (i : grid0.Coords) (k0_t1 : Fin k0_t1_loop.trips) (v862 : IVec S16 32) (v864 : IVec S16 32) (k0_hw69 : k0_chk69 i k0_t1 v862 v864), ∀ (k0_h3 : k0_cond3 i k0_t1 = 1#1), ∀ a x, ((![v862, v864] : Fin 2 → IVec S16 32) a x).toNat < S32x128.size a := fun i k0_t1 v862 v864 k0_hw69 k0_h3 => k0_hw69 k0_h3

def k0_chk70 (i : grid0.Coords) (k0_t1 : Fin k0_t1_loop.trips) (v874 : IVec S16 32) (v876 : IVec S16 32) : Prop :=
  (∀ (k0_h3 : k0_cond3 i k0_t1 = 1#1), ∀ a x, ((![v874, v876] : Fin 2 → IVec S16 32) a x).toNat < S32x128.size a)
theorem k0_idx70_inb : ∀ (i : grid0.Coords) (k0_t1 : Fin k0_t1_loop.trips) (v874 : IVec S16 32) (v876 : IVec S16 32) (k0_hw70 : k0_chk70 i k0_t1 v874 v876), ∀ (k0_h3 : k0_cond3 i k0_t1 = 1#1), ∀ a x, ((![v874, v876] : Fin 2 → IVec S16 32) a x).toNat < S32x128.size a := fun i k0_t1 v874 v876 k0_hw70 k0_h3 => k0_hw70 k0_h3

def k0_chk71 (i : grid0.Coords) (k0_t1 : Fin k0_t1_loop.trips) (v886 : IVec S16 32) (v888 : IVec S16 32) : Prop :=
  (∀ (k0_h3 : k0_cond3 i k0_t1 = 1#1), ∀ a x, ((![v886, v888] : Fin 2 → IVec S16 32) a x).toNat < S32x128.size a)
theorem k0_idx71_inb : ∀ (i : grid0.Coords) (k0_t1 : Fin k0_t1_loop.trips) (v886 : IVec S16 32) (v888 : IVec S16 32) (k0_hw71 : k0_chk71 i k0_t1 v886 v888), ∀ (k0_h3 : k0_cond3 i k0_t1 = 1#1), ∀ a x, ((![v886, v888] : Fin 2 → IVec S16 32) a x).toNat < S32x128.size a := fun i k0_t1 v886 v888 k0_hw71 k0_h3 => k0_hw71 k0_h3

def k0_chk72 (i : grid0.Coords) (k0_t1 : Fin k0_t1_loop.trips) (v898 : IVec S16 32) (v900 : IVec S16 32) : Prop :=
  (∀ (k0_h3 : k0_cond3 i k0_t1 = 1#1), ∀ a x, ((![v898, v900] : Fin 2 → IVec S16 32) a x).toNat < S32x128.size a)
theorem k0_idx72_inb : ∀ (i : grid0.Coords) (k0_t1 : Fin k0_t1_loop.trips) (v898 : IVec S16 32) (v900 : IVec S16 32) (k0_hw72 : k0_chk72 i k0_t1 v898 v900), ∀ (k0_h3 : k0_cond3 i k0_t1 = 1#1), ∀ a x, ((![v898, v900] : Fin 2 → IVec S16 32) a x).toNat < S32x128.size a := fun i k0_t1 v898 v900 k0_hw72 k0_h3 => k0_hw72 k0_h3

def k0_chk73 (i : grid0.Coords) (k0_t1 : Fin k0_t1_loop.trips) (v910 : IVec S16 32) (v912 : IVec S16 32) : Prop :=
  (∀ (k0_h3 : k0_cond3 i k0_t1 = 1#1), ∀ a x, ((![v910, v912] : Fin 2 → IVec S16 32) a x).toNat < S32x128.size a)
theorem k0_idx73_inb : ∀ (i : grid0.Coords) (k0_t1 : Fin k0_t1_loop.trips) (v910 : IVec S16 32) (v912 : IVec S16 32) (k0_hw73 : k0_chk73 i k0_t1 v910 v912), ∀ (k0_h3 : k0_cond3 i k0_t1 = 1#1), ∀ a x, ((![v910, v912] : Fin 2 → IVec S16 32) a x).toNat < S32x128.size a := fun i k0_t1 v910 v912 k0_hw73 k0_h3 => k0_hw73 k0_h3

def k0_chk74 (i : grid0.Coords) (k0_t1 : Fin k0_t1_loop.trips) (v922 : IVec S16 32) (v924 : IVec S16 32) : Prop :=
  (∀ (k0_h3 : k0_cond3 i k0_t1 = 1#1), ∀ a x, ((![v922, v924] : Fin 2 → IVec S16 32) a x).toNat < S32x128.size a)
theorem k0_idx74_inb : ∀ (i : grid0.Coords) (k0_t1 : Fin k0_t1_loop.trips) (v922 : IVec S16 32) (v924 : IVec S16 32) (k0_hw74 : k0_chk74 i k0_t1 v922 v924), ∀ (k0_h3 : k0_cond3 i k0_t1 = 1#1), ∀ a x, ((![v922, v924] : Fin 2 → IVec S16 32) a x).toNat < S32x128.size a := fun i k0_t1 v922 v924 k0_hw74 k0_h3 => k0_hw74 k0_h3

def k0_chk75 (i : grid0.Coords) (k0_t1 : Fin k0_t1_loop.trips) (v934 : IVec S16 32) (v936 : IVec S16 32) : Prop :=
  (∀ (k0_h3 : k0_cond3 i k0_t1 = 1#1), ∀ a x, ((![v934, v936] : Fin 2 → IVec S16 32) a x).toNat < S32x128.size a)
theorem k0_idx75_inb : ∀ (i : grid0.Coords) (k0_t1 : Fin k0_t1_loop.trips) (v934 : IVec S16 32) (v936 : IVec S16 32) (k0_hw75 : k0_chk75 i k0_t1 v934 v936), ∀ (k0_h3 : k0_cond3 i k0_t1 = 1#1), ∀ a x, ((![v934, v936] : Fin 2 → IVec S16 32) a x).toNat < S32x128.size a := fun i k0_t1 v934 v936 k0_hw75 k0_h3 => k0_hw75 k0_h3

def k0_chk76 (i : grid0.Coords) (k0_t1 : Fin k0_t1_loop.trips) (v946 : IVec S16 32) (v948 : IVec S16 32) : Prop :=
  (∀ (k0_h3 : k0_cond3 i k0_t1 = 1#1), ∀ a x, ((![v946, v948] : Fin 2 → IVec S16 32) a x).toNat < S32x128.size a)
theorem k0_idx76_inb : ∀ (i : grid0.Coords) (k0_t1 : Fin k0_t1_loop.trips) (v946 : IVec S16 32) (v948 : IVec S16 32) (k0_hw76 : k0_chk76 i k0_t1 v946 v948), ∀ (k0_h3 : k0_cond3 i k0_t1 = 1#1), ∀ a x, ((![v946, v948] : Fin 2 → IVec S16 32) a x).toNat < S32x128.size a := fun i k0_t1 v946 v948 k0_hw76 k0_h3 => k0_hw76 k0_h3

def k0_chk77 (i : grid0.Coords) (k0_t1 : Fin k0_t1_loop.trips) (v958 : IVec S16 32) (v960 : IVec S16 32) : Prop :=
  (∀ (k0_h3 : k0_cond3 i k0_t1 = 1#1), ∀ a x, ((![v958, v960] : Fin 2 → IVec S16 32) a x).toNat < S32x128.size a)
theorem k0_idx77_inb : ∀ (i : grid0.Coords) (k0_t1 : Fin k0_t1_loop.trips) (v958 : IVec S16 32) (v960 : IVec S16 32) (k0_hw77 : k0_chk77 i k0_t1 v958 v960), ∀ (k0_h3 : k0_cond3 i k0_t1 = 1#1), ∀ a x, ((![v958, v960] : Fin 2 → IVec S16 32) a x).toNat < S32x128.size a := fun i k0_t1 v958 v960 k0_hw77 k0_h3 => k0_hw77 k0_h3

def k0_chk78 (i : grid0.Coords) (k0_t1 : Fin k0_t1_loop.trips) (v970 : IVec S16 32) (v972 : IVec S16 32) : Prop :=
  (∀ (k0_h3 : k0_cond3 i k0_t1 = 1#1), ∀ a x, ((![v970, v972] : Fin 2 → IVec S16 32) a x).toNat < S32x128.size a)
theorem k0_idx78_inb : ∀ (i : grid0.Coords) (k0_t1 : Fin k0_t1_loop.trips) (v970 : IVec S16 32) (v972 : IVec S16 32) (k0_hw78 : k0_chk78 i k0_t1 v970 v972), ∀ (k0_h3 : k0_cond3 i k0_t1 = 1#1), ∀ a x, ((![v970, v972] : Fin 2 → IVec S16 32) a x).toNat < S32x128.size a := fun i k0_t1 v970 v972 k0_hw78 k0_h3 => k0_hw78 k0_h3

def k0_chk79 (i : grid0.Coords) (k0_t1 : Fin k0_t1_loop.trips) (v982 : IVec S16 32) (v984 : IVec S16 32) : Prop :=
  (∀ (k0_h3 : k0_cond3 i k0_t1 = 1#1), ∀ a x, ((![v982, v984] : Fin 2 → IVec S16 32) a x).toNat < S32x128.size a)
theorem k0_idx79_inb : ∀ (i : grid0.Coords) (k0_t1 : Fin k0_t1_loop.trips) (v982 : IVec S16 32) (v984 : IVec S16 32) (k0_hw79 : k0_chk79 i k0_t1 v982 v984), ∀ (k0_h3 : k0_cond3 i k0_t1 = 1#1), ∀ a x, ((![v982, v984] : Fin 2 → IVec S16 32) a x).toNat < S32x128.size a := fun i k0_t1 v982 v984 k0_hw79 k0_h3 => k0_hw79 k0_h3

def k0_chk80 (i : grid0.Coords) (k0_t1 : Fin k0_t1_loop.trips) (v994 : IVec S16 32) (v996 : IVec S16 32) : Prop :=
  (∀ (k0_h3 : k0_cond3 i k0_t1 = 1#1), ∀ a x, ((![v994, v996] : Fin 2 → IVec S16 32) a x).toNat < S32x128.size a)
theorem k0_idx80_inb : ∀ (i : grid0.Coords) (k0_t1 : Fin k0_t1_loop.trips) (v994 : IVec S16 32) (v996 : IVec S16 32) (k0_hw80 : k0_chk80 i k0_t1 v994 v996), ∀ (k0_h3 : k0_cond3 i k0_t1 = 1#1), ∀ a x, ((![v994, v996] : Fin 2 → IVec S16 32) a x).toNat < S32x128.size a := fun i k0_t1 v994 v996 k0_hw80 k0_h3 => k0_hw80 k0_h3

def k0_chk81 (i : grid0.Coords) (k0_t1 : Fin k0_t1_loop.trips) (v1006 : IVec S16 32) (v1008 : IVec S16 32) : Prop :=
  (∀ (k0_h3 : k0_cond3 i k0_t1 = 1#1), ∀ a x, ((![v1006, v1008] : Fin 2 → IVec S16 32) a x).toNat < S32x128.size a)
theorem k0_idx81_inb : ∀ (i : grid0.Coords) (k0_t1 : Fin k0_t1_loop.trips) (v1006 : IVec S16 32) (v1008 : IVec S16 32) (k0_hw81 : k0_chk81 i k0_t1 v1006 v1008), ∀ (k0_h3 : k0_cond3 i k0_t1 = 1#1), ∀ a x, ((![v1006, v1008] : Fin 2 → IVec S16 32) a x).toNat < S32x128.size a := fun i k0_t1 v1006 v1008 k0_hw81 k0_h3 => k0_hw81 k0_h3

def k0_chk82 (i : grid0.Coords) (k0_t1 : Fin k0_t1_loop.trips) (v1018 : IVec S16 32) (v1020 : IVec S16 32) : Prop :=
  (∀ (k0_h3 : k0_cond3 i k0_t1 = 1#1), ∀ a x, ((![v1018, v1020] : Fin 2 → IVec S16 32) a x).toNat < S32x128.size a)
theorem k0_idx82_inb : ∀ (i : grid0.Coords) (k0_t1 : Fin k0_t1_loop.trips) (v1018 : IVec S16 32) (v1020 : IVec S16 32) (k0_hw82 : k0_chk82 i k0_t1 v1018 v1020), ∀ (k0_h3 : k0_cond3 i k0_t1 = 1#1), ∀ a x, ((![v1018, v1020] : Fin 2 → IVec S16 32) a x).toNat < S32x128.size a := fun i k0_t1 v1018 v1020 k0_hw82 k0_h3 => k0_hw82 k0_h3

def k0_chk83 (i : grid0.Coords) (k0_t1 : Fin k0_t1_loop.trips) (v1030 : IVec S16 32) (v1032 : IVec S16 32) : Prop :=
  (∀ (k0_h3 : k0_cond3 i k0_t1 = 1#1), ∀ a x, ((![v1030, v1032] : Fin 2 → IVec S16 32) a x).toNat < S32x128.size a)
theorem k0_idx83_inb : ∀ (i : grid0.Coords) (k0_t1 : Fin k0_t1_loop.trips) (v1030 : IVec S16 32) (v1032 : IVec S16 32) (k0_hw83 : k0_chk83 i k0_t1 v1030 v1032), ∀ (k0_h3 : k0_cond3 i k0_t1 = 1#1), ∀ a x, ((![v1030, v1032] : Fin 2 → IVec S16 32) a x).toNat < S32x128.size a := fun i k0_t1 v1030 v1032 k0_hw83 k0_h3 => k0_hw83 k0_h3

def k0_chk84 (i : grid0.Coords) (k0_t1 : Fin k0_t1_loop.trips) (v1042 : IVec S16 32) (v1044 : IVec S16 32) : Prop :=
  (∀ (k0_h3 : k0_cond3 i k0_t1 = 1#1), ∀ a x, ((![v1042, v1044] : Fin 2 → IVec S16 32) a x).toNat < S32x128.size a)
theorem k0_idx84_inb : ∀ (i : grid0.Coords) (k0_t1 : Fin k0_t1_loop.trips) (v1042 : IVec S16 32) (v1044 : IVec S16 32) (k0_hw84 : k0_chk84 i k0_t1 v1042 v1044), ∀ (k0_h3 : k0_cond3 i k0_t1 = 1#1), ∀ a x, ((![v1042, v1044] : Fin 2 → IVec S16 32) a x).toNat < S32x128.size a := fun i k0_t1 v1042 v1044 k0_hw84 k0_h3 => k0_hw84 k0_h3

def k0_chk85 (i : grid0.Coords) (k0_t1 : Fin k0_t1_loop.trips) (v1054 : IVec S16 32) (v1056 : IVec S16 32) : Prop :=
  (∀ (k0_h3 : k0_cond3 i k0_t1 = 1#1), ∀ a x, ((![v1054, v1056] : Fin 2 → IVec S16 32) a x).toNat < S32x128.size a)
theorem k0_idx85_inb : ∀ (i : grid0.Coords) (k0_t1 : Fin k0_t1_loop.trips) (v1054 : IVec S16 32) (v1056 : IVec S16 32) (k0_hw85 : k0_chk85 i k0_t1 v1054 v1056), ∀ (k0_h3 : k0_cond3 i k0_t1 = 1#1), ∀ a x, ((![v1054, v1056] : Fin 2 → IVec S16 32) a x).toNat < S32x128.size a := fun i k0_t1 v1054 v1056 k0_hw85 k0_h3 => k0_hw85 k0_h3

def k0_chk86 (i : grid0.Coords) (k0_t1 : Fin k0_t1_loop.trips) (v1066 : IVec S16 32) (v1068 : IVec S16 32) : Prop :=
  (∀ (k0_h3 : k0_cond3 i k0_t1 = 1#1), ∀ a x, ((![v1066, v1068] : Fin 2 → IVec S16 32) a x).toNat < S32x128.size a)
theorem k0_idx86_inb : ∀ (i : grid0.Coords) (k0_t1 : Fin k0_t1_loop.trips) (v1066 : IVec S16 32) (v1068 : IVec S16 32) (k0_hw86 : k0_chk86 i k0_t1 v1066 v1068), ∀ (k0_h3 : k0_cond3 i k0_t1 = 1#1), ∀ a x, ((![v1066, v1068] : Fin 2 → IVec S16 32) a x).toNat < S32x128.size a := fun i k0_t1 v1066 v1068 k0_hw86 k0_h3 => k0_hw86 k0_h3

def k0_chk87 (i : grid0.Coords) (k0_t1 : Fin k0_t1_loop.trips) (v1078 : IVec S16 32) (v1080 : IVec S16 32) : Prop :=
  (∀ (k0_h3 : k0_cond3 i k0_t1 = 1#1), ∀ a x, ((![v1078, v1080] : Fin 2 → IVec S16 32) a x).toNat < S32x128.size a)
theorem k0_idx87_inb : ∀ (i : grid0.Coords) (k0_t1 : Fin k0_t1_loop.trips) (v1078 : IVec S16 32) (v1080 : IVec S16 32) (k0_hw87 : k0_chk87 i k0_t1 v1078 v1080), ∀ (k0_h3 : k0_cond3 i k0_t1 = 1#1), ∀ a x, ((![v1078, v1080] : Fin 2 → IVec S16 32) a x).toNat < S32x128.size a := fun i k0_t1 v1078 v1080 k0_hw87 k0_h3 => k0_hw87 k0_h3

def k0_chk88 (i : grid0.Coords) (k0_t1 : Fin k0_t1_loop.trips) (v1090 : IVec S16 32) (v1092 : IVec S16 32) : Prop :=
  (∀ (k0_h3 : k0_cond3 i k0_t1 = 1#1), ∀ a x, ((![v1090, v1092] : Fin 2 → IVec S16 32) a x).toNat < S32x128.size a)
theorem k0_idx88_inb : ∀ (i : grid0.Coords) (k0_t1 : Fin k0_t1_loop.trips) (v1090 : IVec S16 32) (v1092 : IVec S16 32) (k0_hw88 : k0_chk88 i k0_t1 v1090 v1092), ∀ (k0_h3 : k0_cond3 i k0_t1 = 1#1), ∀ a x, ((![v1090, v1092] : Fin 2 → IVec S16 32) a x).toNat < S32x128.size a := fun i k0_t1 v1090 v1092 k0_hw88 k0_h3 => k0_hw88 k0_h3

def k0_chk89 (i : grid0.Coords) (k0_t1 : Fin k0_t1_loop.trips) (v1102 : IVec S16 32) (v1104 : IVec S16 32) : Prop :=
  (∀ (k0_h3 : k0_cond3 i k0_t1 = 1#1), ∀ a x, ((![v1102, v1104] : Fin 2 → IVec S16 32) a x).toNat < S32x128.size a)
theorem k0_idx89_inb : ∀ (i : grid0.Coords) (k0_t1 : Fin k0_t1_loop.trips) (v1102 : IVec S16 32) (v1104 : IVec S16 32) (k0_hw89 : k0_chk89 i k0_t1 v1102 v1104), ∀ (k0_h3 : k0_cond3 i k0_t1 = 1#1), ∀ a x, ((![v1102, v1104] : Fin 2 → IVec S16 32) a x).toNat < S32x128.size a := fun i k0_t1 v1102 v1104 k0_hw89 k0_h3 => k0_hw89 k0_h3

def k0_chk90 (i : grid0.Coords) (k0_t1 : Fin k0_t1_loop.trips) (v1114 : IVec S16 32) (v1116 : IVec S16 32) : Prop :=
  (∀ (k0_h3 : k0_cond3 i k0_t1 = 1#1), ∀ a x, ((![v1114, v1116] : Fin 2 → IVec S16 32) a x).toNat < S32x128.size a)
theorem k0_idx90_inb : ∀ (i : grid0.Coords) (k0_t1 : Fin k0_t1_loop.trips) (v1114 : IVec S16 32) (v1116 : IVec S16 32) (k0_hw90 : k0_chk90 i k0_t1 v1114 v1116), ∀ (k0_h3 : k0_cond3 i k0_t1 = 1#1), ∀ a x, ((![v1114, v1116] : Fin 2 → IVec S16 32) a x).toNat < S32x128.size a := fun i k0_t1 v1114 v1116 k0_hw90 k0_h3 => k0_hw90 k0_h3

def k0_chk91 (i : grid0.Coords) (k0_t1 : Fin k0_t1_loop.trips) (v1126 : IVec S16 32) (v1128 : IVec S16 32) : Prop :=
  (∀ (k0_h3 : k0_cond3 i k0_t1 = 1#1), ∀ a x, ((![v1126, v1128] : Fin 2 → IVec S16 32) a x).toNat < S32x128.size a)
theorem k0_idx91_inb : ∀ (i : grid0.Coords) (k0_t1 : Fin k0_t1_loop.trips) (v1126 : IVec S16 32) (v1128 : IVec S16 32) (k0_hw91 : k0_chk91 i k0_t1 v1126 v1128), ∀ (k0_h3 : k0_cond3 i k0_t1 = 1#1), ∀ a x, ((![v1126, v1128] : Fin 2 → IVec S16 32) a x).toNat < S32x128.size a := fun i k0_t1 v1126 v1128 k0_hw91 k0_h3 => k0_hw91 k0_h3

def k0_chk92 (i : grid0.Coords) (k0_t1 : Fin k0_t1_loop.trips) (v1138 : IVec S16 32) (v1140 : IVec S16 32) : Prop :=
  (∀ (k0_h3 : k0_cond3 i k0_t1 = 1#1), ∀ a x, ((![v1138, v1140] : Fin 2 → IVec S16 32) a x).toNat < S32x128.size a)
theorem k0_idx92_inb : ∀ (i : grid0.Coords) (k0_t1 : Fin k0_t1_loop.trips) (v1138 : IVec S16 32) (v1140 : IVec S16 32) (k0_hw92 : k0_chk92 i k0_t1 v1138 v1140), ∀ (k0_h3 : k0_cond3 i k0_t1 = 1#1), ∀ a x, ((![v1138, v1140] : Fin 2 → IVec S16 32) a x).toNat < S32x128.size a := fun i k0_t1 v1138 v1140 k0_hw92 k0_h3 => k0_hw92 k0_h3

def k0_chk93 (i : grid0.Coords) (k0_t1 : Fin k0_t1_loop.trips) (v1150 : IVec S16 32) (v1152 : IVec S16 32) : Prop :=
  (∀ (k0_h3 : k0_cond3 i k0_t1 = 1#1), ∀ a x, ((![v1150, v1152] : Fin 2 → IVec S16 32) a x).toNat < S32x128.size a)
theorem k0_idx93_inb : ∀ (i : grid0.Coords) (k0_t1 : Fin k0_t1_loop.trips) (v1150 : IVec S16 32) (v1152 : IVec S16 32) (k0_hw93 : k0_chk93 i k0_t1 v1150 v1152), ∀ (k0_h3 : k0_cond3 i k0_t1 = 1#1), ∀ a x, ((![v1150, v1152] : Fin 2 → IVec S16 32) a x).toNat < S32x128.size a := fun i k0_t1 v1150 v1152 k0_hw93 k0_h3 => k0_hw93 k0_h3

def k0_chk94 (i : grid0.Coords) (k0_t1 : Fin k0_t1_loop.trips) (v1162 : IVec S16 32) (v1164 : IVec S16 32) : Prop :=
  (∀ (k0_h3 : k0_cond3 i k0_t1 = 1#1), ∀ a x, ((![v1162, v1164] : Fin 2 → IVec S16 32) a x).toNat < S32x128.size a)
theorem k0_idx94_inb : ∀ (i : grid0.Coords) (k0_t1 : Fin k0_t1_loop.trips) (v1162 : IVec S16 32) (v1164 : IVec S16 32) (k0_hw94 : k0_chk94 i k0_t1 v1162 v1164), ∀ (k0_h3 : k0_cond3 i k0_t1 = 1#1), ∀ a x, ((![v1162, v1164] : Fin 2 → IVec S16 32) a x).toNat < S32x128.size a := fun i k0_t1 v1162 v1164 k0_hw94 k0_h3 => k0_hw94 k0_h3

def k0_chk95 (i : grid0.Coords) (k0_t1 : Fin k0_t1_loop.trips) (v1174 : IVec S16 32) (v1176 : IVec S16 32) : Prop :=
  (∀ (k0_h3 : k0_cond3 i k0_t1 = 1#1), ∀ a x, ((![v1174, v1176] : Fin 2 → IVec S16 32) a x).toNat < S32x128.size a)
theorem k0_idx95_inb : ∀ (i : grid0.Coords) (k0_t1 : Fin k0_t1_loop.trips) (v1174 : IVec S16 32) (v1176 : IVec S16 32) (k0_hw95 : k0_chk95 i k0_t1 v1174 v1176), ∀ (k0_h3 : k0_cond3 i k0_t1 = 1#1), ∀ a x, ((![v1174, v1176] : Fin 2 → IVec S16 32) a x).toNat < S32x128.size a := fun i k0_t1 v1174 v1176 k0_hw95 k0_h3 => k0_hw95 k0_h3

def k0_chk96 (i : grid0.Coords) (k0_t1 : Fin k0_t1_loop.trips) (v1186 : IVec S16 32) (v1188 : IVec S16 32) : Prop :=
  (∀ (k0_h3 : k0_cond3 i k0_t1 = 1#1), ∀ a x, ((![v1186, v1188] : Fin 2 → IVec S16 32) a x).toNat < S32x128.size a)
theorem k0_idx96_inb : ∀ (i : grid0.Coords) (k0_t1 : Fin k0_t1_loop.trips) (v1186 : IVec S16 32) (v1188 : IVec S16 32) (k0_hw96 : k0_chk96 i k0_t1 v1186 v1188), ∀ (k0_h3 : k0_cond3 i k0_t1 = 1#1), ∀ a x, ((![v1186, v1188] : Fin 2 → IVec S16 32) a x).toNat < S32x128.size a := fun i k0_t1 v1186 v1188 k0_hw96 k0_h3 => k0_hw96 k0_h3

def k0_chk97 (i : grid0.Coords) (k0_t1 : Fin k0_t1_loop.trips) (v1198 : IVec S16 32) (v1200 : IVec S16 32) : Prop :=
  (∀ (k0_h3 : k0_cond3 i k0_t1 = 1#1), ∀ a x, ((![v1198, v1200] : Fin 2 → IVec S16 32) a x).toNat < S32x128.size a)
theorem k0_idx97_inb : ∀ (i : grid0.Coords) (k0_t1 : Fin k0_t1_loop.trips) (v1198 : IVec S16 32) (v1200 : IVec S16 32) (k0_hw97 : k0_chk97 i k0_t1 v1198 v1200), ∀ (k0_h3 : k0_cond3 i k0_t1 = 1#1), ∀ a x, ((![v1198, v1200] : Fin 2 → IVec S16 32) a x).toNat < S32x128.size a := fun i k0_t1 v1198 v1200 k0_hw97 k0_h3 => k0_hw97 k0_h3

def k0_chk98 (i : grid0.Coords) (k0_t1 : Fin k0_t1_loop.trips) (v1210 : IVec S16 32) (v1212 : IVec S16 32) : Prop :=
  (∀ (k0_h3 : k0_cond3 i k0_t1 = 1#1), ∀ a x, ((![v1210, v1212] : Fin 2 → IVec S16 32) a x).toNat < S32x128.size a)
theorem k0_idx98_inb : ∀ (i : grid0.Coords) (k0_t1 : Fin k0_t1_loop.trips) (v1210 : IVec S16 32) (v1212 : IVec S16 32) (k0_hw98 : k0_chk98 i k0_t1 v1210 v1212), ∀ (k0_h3 : k0_cond3 i k0_t1 = 1#1), ∀ a x, ((![v1210, v1212] : Fin 2 → IVec S16 32) a x).toNat < S32x128.size a := fun i k0_t1 v1210 v1212 k0_hw98 k0_h3 => k0_hw98 k0_h3

def k0_chk99 (i : grid0.Coords) (k0_t1 : Fin k0_t1_loop.trips) (v1222 : IVec S16 32) (v1224 : IVec S16 32) : Prop :=
  (∀ (k0_h3 : k0_cond3 i k0_t1 = 1#1), ∀ a x, ((![v1222, v1224] : Fin 2 → IVec S16 32) a x).toNat < S32x128.size a)
theorem k0_idx99_inb : ∀ (i : grid0.Coords) (k0_t1 : Fin k0_t1_loop.trips) (v1222 : IVec S16 32) (v1224 : IVec S16 32) (k0_hw99 : k0_chk99 i k0_t1 v1222 v1224), ∀ (k0_h3 : k0_cond3 i k0_t1 = 1#1), ∀ a x, ((![v1222, v1224] : Fin 2 → IVec S16 32) a x).toNat < S32x128.size a := fun i k0_t1 v1222 v1224 k0_hw99 k0_h3 => k0_hw99 k0_h3

def k0_chk100 (i : grid0.Coords) (k0_t1 : Fin k0_t1_loop.trips) (v1234 : IVec S16 32) (v1236 : IVec S16 32) : Prop :=
  (∀ (k0_h3 : k0_cond3 i k0_t1 = 1#1), ∀ a x, ((![v1234, v1236] : Fin 2 → IVec S16 32) a x).toNat < S32x128.size a)
theorem k0_idx100_inb : ∀ (i : grid0.Coords) (k0_t1 : Fin k0_t1_loop.trips) (v1234 : IVec S16 32) (v1236 : IVec S16 32) (k0_hw100 : k0_chk100 i k0_t1 v1234 v1236), ∀ (k0_h3 : k0_cond3 i k0_t1 = 1#1), ∀ a x, ((![v1234, v1236] : Fin 2 → IVec S16 32) a x).toNat < S32x128.size a := fun i k0_t1 v1234 v1236 k0_hw100 k0_h3 => k0_hw100 k0_h3

def k0_chk101 (i : grid0.Coords) (k0_t1 : Fin k0_t1_loop.trips) (v1246 : IVec S16 32) (v1248 : IVec S16 32) : Prop :=
  (∀ (k0_h3 : k0_cond3 i k0_t1 = 1#1), ∀ a x, ((![v1246, v1248] : Fin 2 → IVec S16 32) a x).toNat < S32x128.size a)
theorem k0_idx101_inb : ∀ (i : grid0.Coords) (k0_t1 : Fin k0_t1_loop.trips) (v1246 : IVec S16 32) (v1248 : IVec S16 32) (k0_hw101 : k0_chk101 i k0_t1 v1246 v1248), ∀ (k0_h3 : k0_cond3 i k0_t1 = 1#1), ∀ a x, ((![v1246, v1248] : Fin 2 → IVec S16 32) a x).toNat < S32x128.size a := fun i k0_t1 v1246 v1248 k0_hw101 k0_h3 => k0_hw101 k0_h3

def k0_chk102 (i : grid0.Coords) (k0_t1 : Fin k0_t1_loop.trips) (v1258 : IVec S16 32) (v1260 : IVec S16 32) : Prop :=
  (∀ (k0_h3 : k0_cond3 i k0_t1 = 1#1), ∀ a x, ((![v1258, v1260] : Fin 2 → IVec S16 32) a x).toNat < S32x128.size a)
theorem k0_idx102_inb : ∀ (i : grid0.Coords) (k0_t1 : Fin k0_t1_loop.trips) (v1258 : IVec S16 32) (v1260 : IVec S16 32) (k0_hw102 : k0_chk102 i k0_t1 v1258 v1260), ∀ (k0_h3 : k0_cond3 i k0_t1 = 1#1), ∀ a x, ((![v1258, v1260] : Fin 2 → IVec S16 32) a x).toNat < S32x128.size a := fun i k0_t1 v1258 v1260 k0_hw102 k0_h3 => k0_hw102 k0_h3

def k0_chk103 (i : grid0.Coords) (k0_t1 : Fin k0_t1_loop.trips) (v1270 : IVec S16 32) (v1272 : IVec S16 32) : Prop :=
  (∀ (k0_h3 : k0_cond3 i k0_t1 = 1#1), ∀ a x, ((![v1270, v1272] : Fin 2 → IVec S16 32) a x).toNat < S32x128.size a)
theorem k0_idx103_inb : ∀ (i : grid0.Coords) (k0_t1 : Fin k0_t1_loop.trips) (v1270 : IVec S16 32) (v1272 : IVec S16 32) (k0_hw103 : k0_chk103 i k0_t1 v1270 v1272), ∀ (k0_h3 : k0_cond3 i k0_t1 = 1#1), ∀ a x, ((![v1270, v1272] : Fin 2 → IVec S16 32) a x).toNat < S32x128.size a := fun i k0_t1 v1270 v1272 k0_hw103 k0_h3 => k0_hw103 k0_h3

def k0_chk104 (i : grid0.Coords) (k0_t1 : Fin k0_t1_loop.trips) (v1282 : IVec S16 32) (v1284 : IVec S16 32) : Prop :=
  (∀ (k0_h3 : k0_cond3 i k0_t1 = 1#1), ∀ a x, ((![v1282, v1284] : Fin 2 → IVec S16 32) a x).toNat < S32x128.size a)
theorem k0_idx104_inb : ∀ (i : grid0.Coords) (k0_t1 : Fin k0_t1_loop.trips) (v1282 : IVec S16 32) (v1284 : IVec S16 32) (k0_hw104 : k0_chk104 i k0_t1 v1282 v1284), ∀ (k0_h3 : k0_cond3 i k0_t1 = 1#1), ∀ a x, ((![v1282, v1284] : Fin 2 → IVec S16 32) a x).toNat < S32x128.size a := fun i k0_t1 v1282 v1284 k0_hw104 k0_h3 => k0_hw104 k0_h3

def k0_chk105 (i : grid0.Coords) (k0_t1 : Fin k0_t1_loop.trips) (v1294 : IVec S16 32) (v1296 : IVec S16 32) : Prop :=
  (∀ (k0_h3 : k0_cond3 i k0_t1 = 1#1), ∀ a x, ((![v1294, v1296] : Fin 2 → IVec S16 32) a x).toNat < S32x128.size a)
theorem k0_idx105_inb : ∀ (i : grid0.Coords) (k0_t1 : Fin k0_t1_loop.trips) (v1294 : IVec S16 32) (v1296 : IVec S16 32) (k0_hw105 : k0_chk105 i k0_t1 v1294 v1296), ∀ (k0_h3 : k0_cond3 i k0_t1 = 1#1), ∀ a x, ((![v1294, v1296] : Fin 2 → IVec S16 32) a x).toNat < S32x128.size a := fun i k0_t1 v1294 v1296 k0_hw105 k0_h3 => k0_hw105 k0_h3

def k0_chk106 (i : grid0.Coords) (k0_t1 : Fin k0_t1_loop.trips) (v1306 : IVec S16 32) (v1308 : IVec S16 32) : Prop :=
  (∀ (k0_h3 : k0_cond3 i k0_t1 = 1#1), ∀ a x, ((![v1306, v1308] : Fin 2 → IVec S16 32) a x).toNat < S32x128.size a)
theorem k0_idx106_inb : ∀ (i : grid0.Coords) (k0_t1 : Fin k0_t1_loop.trips) (v1306 : IVec S16 32) (v1308 : IVec S16 32) (k0_hw106 : k0_chk106 i k0_t1 v1306 v1308), ∀ (k0_h3 : k0_cond3 i k0_t1 = 1#1), ∀ a x, ((![v1306, v1308] : Fin 2 → IVec S16 32) a x).toNat < S32x128.size a := fun i k0_t1 v1306 v1308 k0_hw106 k0_h3 => k0_hw106 k0_h3

def k0_chk107 (i : grid0.Coords) (k0_t1 : Fin k0_t1_loop.trips) (v1318 : IVec S16 32) (v1320 : IVec S16 32) : Prop :=
  (∀ (k0_h3 : k0_cond3 i k0_t1 = 1#1), ∀ a x, ((![v1318, v1320] : Fin 2 → IVec S16 32) a x).toNat < S32x128.size a)
theorem k0_idx107_inb : ∀ (i : grid0.Coords) (k0_t1 : Fin k0_t1_loop.trips) (v1318 : IVec S16 32) (v1320 : IVec S16 32) (k0_hw107 : k0_chk107 i k0_t1 v1318 v1320), ∀ (k0_h3 : k0_cond3 i k0_t1 = 1#1), ∀ a x, ((![v1318, v1320] : Fin 2 → IVec S16 32) a x).toNat < S32x128.size a := fun i k0_t1 v1318 v1320 k0_hw107 k0_h3 => k0_hw107 k0_h3

def k0_chk108 (i : grid0.Coords) (k0_t1 : Fin k0_t1_loop.trips) (v1330 : IVec S16 32) (v1332 : IVec S16 32) : Prop :=
  (∀ (k0_h3 : k0_cond3 i k0_t1 = 1#1), ∀ a x, ((![v1330, v1332] : Fin 2 → IVec S16 32) a x).toNat < S32x128.size a)
theorem k0_idx108_inb : ∀ (i : grid0.Coords) (k0_t1 : Fin k0_t1_loop.trips) (v1330 : IVec S16 32) (v1332 : IVec S16 32) (k0_hw108 : k0_chk108 i k0_t1 v1330 v1332), ∀ (k0_h3 : k0_cond3 i k0_t1 = 1#1), ∀ a x, ((![v1330, v1332] : Fin 2 → IVec S16 32) a x).toNat < S32x128.size a := fun i k0_t1 v1330 v1332 k0_hw108 k0_h3 => k0_hw108 k0_h3

def k0_chk109 (i : grid0.Coords) (k0_t1 : Fin k0_t1_loop.trips) (v1342 : IVec S16 32) (v1344 : IVec S16 32) : Prop :=
  (∀ (k0_h3 : k0_cond3 i k0_t1 = 1#1), ∀ a x, ((![v1342, v1344] : Fin 2 → IVec S16 32) a x).toNat < S32x128.size a)
theorem k0_idx109_inb : ∀ (i : grid0.Coords) (k0_t1 : Fin k0_t1_loop.trips) (v1342 : IVec S16 32) (v1344 : IVec S16 32) (k0_hw109 : k0_chk109 i k0_t1 v1342 v1344), ∀ (k0_h3 : k0_cond3 i k0_t1 = 1#1), ∀ a x, ((![v1342, v1344] : Fin 2 → IVec S16 32) a x).toNat < S32x128.size a := fun i k0_t1 v1342 v1344 k0_hw109 k0_h3 => k0_hw109 k0_h3

def k0_chk110 (i : grid0.Coords) (k0_t1 : Fin k0_t1_loop.trips) (v1354 : IVec S16 32) (v1356 : IVec S16 32) : Prop :=
  (∀ (k0_h3 : k0_cond3 i k0_t1 = 1#1), ∀ a x, ((![v1354, v1356] : Fin 2 → IVec S16 32) a x).toNat < S32x128.size a)
theorem k0_idx110_inb : ∀ (i : grid0.Coords) (k0_t1 : Fin k0_t1_loop.trips) (v1354 : IVec S16 32) (v1356 : IVec S16 32) (k0_hw110 : k0_chk110 i k0_t1 v1354 v1356), ∀ (k0_h3 : k0_cond3 i k0_t1 = 1#1), ∀ a x, ((![v1354, v1356] : Fin 2 → IVec S16 32) a x).toNat < S32x128.size a := fun i k0_t1 v1354 v1356 k0_hw110 k0_h3 => k0_hw110 k0_h3

def k0_chk111 (i : grid0.Coords) (k0_t1 : Fin k0_t1_loop.trips) (v1366 : IVec S16 32) (v1368 : IVec S16 32) : Prop :=
  (∀ (k0_h3 : k0_cond3 i k0_t1 = 1#1), ∀ a x, ((![v1366, v1368] : Fin 2 → IVec S16 32) a x).toNat < S32x128.size a)
theorem k0_idx111_inb : ∀ (i : grid0.Coords) (k0_t1 : Fin k0_t1_loop.trips) (v1366 : IVec S16 32) (v1368 : IVec S16 32) (k0_hw111 : k0_chk111 i k0_t1 v1366 v1368), ∀ (k0_h3 : k0_cond3 i k0_t1 = 1#1), ∀ a x, ((![v1366, v1368] : Fin 2 → IVec S16 32) a x).toNat < S32x128.size a := fun i k0_t1 v1366 v1368 k0_hw111 k0_h3 => k0_hw111 k0_h3

def k0_chk112 (i : grid0.Coords) (k0_t1 : Fin k0_t1_loop.trips) (v1378 : IVec S16 32) (v1380 : IVec S16 32) : Prop :=
  (∀ (k0_h3 : k0_cond3 i k0_t1 = 1#1), ∀ a x, ((![v1378, v1380] : Fin 2 → IVec S16 32) a x).toNat < S32x128.size a)
theorem k0_idx112_inb : ∀ (i : grid0.Coords) (k0_t1 : Fin k0_t1_loop.trips) (v1378 : IVec S16 32) (v1380 : IVec S16 32) (k0_hw112 : k0_chk112 i k0_t1 v1378 v1380), ∀ (k0_h3 : k0_cond3 i k0_t1 = 1#1), ∀ a x, ((![v1378, v1380] : Fin 2 → IVec S16 32) a x).toNat < S32x128.size a := fun i k0_t1 v1378 v1380 k0_hw112 k0_h3 => k0_hw112 k0_h3

def k0_chk113 (i : grid0.Coords) (k0_t1 : Fin k0_t1_loop.trips) (v1390 : IVec S16 32) (v1392 : IVec S16 32) : Prop :=
  (∀ (k0_h3 : k0_cond3 i k0_t1 = 1#1), ∀ a x, ((![v1390, v1392] : Fin 2 → IVec S16 32) a x).toNat < S32x128.size a)
theorem k0_idx113_inb : ∀ (i : grid0.Coords) (k0_t1 : Fin k0_t1_loop.trips) (v1390 : IVec S16 32) (v1392 : IVec S16 32) (k0_hw113 : k0_chk113 i k0_t1 v1390 v1392), ∀ (k0_h3 : k0_cond3 i k0_t1 = 1#1), ∀ a x, ((![v1390, v1392] : Fin 2 → IVec S16 32) a x).toNat < S32x128.size a := fun i k0_t1 v1390 v1392 k0_hw113 k0_h3 => k0_hw113 k0_h3

def k0_chk114 (i : grid0.Coords) (k0_t1 : Fin k0_t1_loop.trips) (v1402 : IVec S16 32) (v1404 : IVec S16 32) : Prop :=
  (∀ (k0_h3 : k0_cond3 i k0_t1 = 1#1), ∀ a x, ((![v1402, v1404] : Fin 2 → IVec S16 32) a x).toNat < S32x128.size a)
theorem k0_idx114_inb : ∀ (i : grid0.Coords) (k0_t1 : Fin k0_t1_loop.trips) (v1402 : IVec S16 32) (v1404 : IVec S16 32) (k0_hw114 : k0_chk114 i k0_t1 v1402 v1404), ∀ (k0_h3 : k0_cond3 i k0_t1 = 1#1), ∀ a x, ((![v1402, v1404] : Fin 2 → IVec S16 32) a x).toNat < S32x128.size a := fun i k0_t1 v1402 v1404 k0_hw114 k0_h3 => k0_hw114 k0_h3

def k0_chk115 (i : grid0.Coords) (k0_t1 : Fin k0_t1_loop.trips) (v1414 : IVec S16 32) (v1416 : IVec S16 32) : Prop :=
  (∀ (k0_h3 : k0_cond3 i k0_t1 = 1#1), ∀ a x, ((![v1414, v1416] : Fin 2 → IVec S16 32) a x).toNat < S32x128.size a)
theorem k0_idx115_inb : ∀ (i : grid0.Coords) (k0_t1 : Fin k0_t1_loop.trips) (v1414 : IVec S16 32) (v1416 : IVec S16 32) (k0_hw115 : k0_chk115 i k0_t1 v1414 v1416), ∀ (k0_h3 : k0_cond3 i k0_t1 = 1#1), ∀ a x, ((![v1414, v1416] : Fin 2 → IVec S16 32) a x).toNat < S32x128.size a := fun i k0_t1 v1414 v1416 k0_hw115 k0_h3 => k0_hw115 k0_h3

def k0_chk116 (i : grid0.Coords) (k0_t1 : Fin k0_t1_loop.trips) (v1426 : IVec S16 32) (v1428 : IVec S16 32) : Prop :=
  (∀ (k0_h3 : k0_cond3 i k0_t1 = 1#1), ∀ a x, ((![v1426, v1428] : Fin 2 → IVec S16 32) a x).toNat < S32x128.size a)
theorem k0_idx116_inb : ∀ (i : grid0.Coords) (k0_t1 : Fin k0_t1_loop.trips) (v1426 : IVec S16 32) (v1428 : IVec S16 32) (k0_hw116 : k0_chk116 i k0_t1 v1426 v1428), ∀ (k0_h3 : k0_cond3 i k0_t1 = 1#1), ∀ a x, ((![v1426, v1428] : Fin 2 → IVec S16 32) a x).toNat < S32x128.size a := fun i k0_t1 v1426 v1428 k0_hw116 k0_h3 => k0_hw116 k0_h3

def k0_chk117 (i : grid0.Coords) (k0_t1 : Fin k0_t1_loop.trips) (v1438 : IVec S16 32) (v1440 : IVec S16 32) : Prop :=
  (∀ (k0_h3 : k0_cond3 i k0_t1 = 1#1), ∀ a x, ((![v1438, v1440] : Fin 2 → IVec S16 32) a x).toNat < S32x128.size a)
theorem k0_idx117_inb : ∀ (i : grid0.Coords) (k0_t1 : Fin k0_t1_loop.trips) (v1438 : IVec S16 32) (v1440 : IVec S16 32) (k0_hw117 : k0_chk117 i k0_t1 v1438 v1440), ∀ (k0_h3 : k0_cond3 i k0_t1 = 1#1), ∀ a x, ((![v1438, v1440] : Fin 2 → IVec S16 32) a x).toNat < S32x128.size a := fun i k0_t1 v1438 v1440 k0_hw117 k0_h3 => k0_hw117 k0_h3

def k0_chk118 (i : grid0.Coords) (k0_t1 : Fin k0_t1_loop.trips) (v1450 : IVec S16 32) (v1452 : IVec S16 32) : Prop :=
  (∀ (k0_h3 : k0_cond3 i k0_t1 = 1#1), ∀ a x, ((![v1450, v1452] : Fin 2 → IVec S16 32) a x).toNat < S32x128.size a)
theorem k0_idx118_inb : ∀ (i : grid0.Coords) (k0_t1 : Fin k0_t1_loop.trips) (v1450 : IVec S16 32) (v1452 : IVec S16 32) (k0_hw118 : k0_chk118 i k0_t1 v1450 v1452), ∀ (k0_h3 : k0_cond3 i k0_t1 = 1#1), ∀ a x, ((![v1450, v1452] : Fin 2 → IVec S16 32) a x).toNat < S32x128.size a := fun i k0_t1 v1450 v1452 k0_hw118 k0_h3 => k0_hw118 k0_h3

def k0_chk119 (i : grid0.Coords) (k0_t1 : Fin k0_t1_loop.trips) (v1462 : IVec S16 32) (v1464 : IVec S16 32) : Prop :=
  (∀ (k0_h3 : k0_cond3 i k0_t1 = 1#1), ∀ a x, ((![v1462, v1464] : Fin 2 → IVec S16 32) a x).toNat < S32x128.size a)
theorem k0_idx119_inb : ∀ (i : grid0.Coords) (k0_t1 : Fin k0_t1_loop.trips) (v1462 : IVec S16 32) (v1464 : IVec S16 32) (k0_hw119 : k0_chk119 i k0_t1 v1462 v1464), ∀ (k0_h3 : k0_cond3 i k0_t1 = 1#1), ∀ a x, ((![v1462, v1464] : Fin 2 → IVec S16 32) a x).toNat < S32x128.size a := fun i k0_t1 v1462 v1464 k0_hw119 k0_h3 => k0_hw119 k0_h3

def k0_chk120 (i : grid0.Coords) (k0_t1 : Fin k0_t1_loop.trips) (v1474 : IVec S16 32) (v1476 : IVec S16 32) : Prop :=
  (∀ (k0_h3 : k0_cond3 i k0_t1 = 1#1), ∀ a x, ((![v1474, v1476] : Fin 2 → IVec S16 32) a x).toNat < S32x128.size a)
theorem k0_idx120_inb : ∀ (i : grid0.Coords) (k0_t1 : Fin k0_t1_loop.trips) (v1474 : IVec S16 32) (v1476 : IVec S16 32) (k0_hw120 : k0_chk120 i k0_t1 v1474 v1476), ∀ (k0_h3 : k0_cond3 i k0_t1 = 1#1), ∀ a x, ((![v1474, v1476] : Fin 2 → IVec S16 32) a x).toNat < S32x128.size a := fun i k0_t1 v1474 v1476 k0_hw120 k0_h3 => k0_hw120 k0_h3

def k0_chk121 (i : grid0.Coords) (k0_t1 : Fin k0_t1_loop.trips) (v1486 : IVec S16 32) (v1488 : IVec S16 32) : Prop :=
  (∀ (k0_h3 : k0_cond3 i k0_t1 = 1#1), ∀ a x, ((![v1486, v1488] : Fin 2 → IVec S16 32) a x).toNat < S32x128.size a)
theorem k0_idx121_inb : ∀ (i : grid0.Coords) (k0_t1 : Fin k0_t1_loop.trips) (v1486 : IVec S16 32) (v1488 : IVec S16 32) (k0_hw121 : k0_chk121 i k0_t1 v1486 v1488), ∀ (k0_h3 : k0_cond3 i k0_t1 = 1#1), ∀ a x, ((![v1486, v1488] : Fin 2 → IVec S16 32) a x).toNat < S32x128.size a := fun i k0_t1 v1486 v1488 k0_hw121 k0_h3 => k0_hw121 k0_h3

def k0_chk122 (i : grid0.Coords) (k0_t1 : Fin k0_t1_loop.trips) (v1498 : IVec S16 32) (v1500 : IVec S16 32) : Prop :=
  (∀ (k0_h3 : k0_cond3 i k0_t1 = 1#1), ∀ a x, ((![v1498, v1500] : Fin 2 → IVec S16 32) a x).toNat < S32x128.size a)
theorem k0_idx122_inb : ∀ (i : grid0.Coords) (k0_t1 : Fin k0_t1_loop.trips) (v1498 : IVec S16 32) (v1500 : IVec S16 32) (k0_hw122 : k0_chk122 i k0_t1 v1498 v1500), ∀ (k0_h3 : k0_cond3 i k0_t1 = 1#1), ∀ a x, ((![v1498, v1500] : Fin 2 → IVec S16 32) a x).toNat < S32x128.size a := fun i k0_t1 v1498 v1500 k0_hw122 k0_h3 => k0_hw122 k0_h3

def k0_chk123 (i : grid0.Coords) (k0_t1 : Fin k0_t1_loop.trips) (v1510 : IVec S16 32) (v1512 : IVec S16 32) : Prop :=
  (∀ (k0_h3 : k0_cond3 i k0_t1 = 1#1), ∀ a x, ((![v1510, v1512] : Fin 2 → IVec S16 32) a x).toNat < S32x128.size a)
theorem k0_idx123_inb : ∀ (i : grid0.Coords) (k0_t1 : Fin k0_t1_loop.trips) (v1510 : IVec S16 32) (v1512 : IVec S16 32) (k0_hw123 : k0_chk123 i k0_t1 v1510 v1512), ∀ (k0_h3 : k0_cond3 i k0_t1 = 1#1), ∀ a x, ((![v1510, v1512] : Fin 2 → IVec S16 32) a x).toNat < S32x128.size a := fun i k0_t1 v1510 v1512 k0_hw123 k0_h3 => k0_hw123 k0_h3

def k0_chk124 (i : grid0.Coords) (k0_t1 : Fin k0_t1_loop.trips) (v1522 : IVec S16 32) (v1524 : IVec S16 32) : Prop :=
  (∀ (k0_h3 : k0_cond3 i k0_t1 = 1#1), ∀ a x, ((![v1522, v1524] : Fin 2 → IVec S16 32) a x).toNat < S32x128.size a)
theorem k0_idx124_inb : ∀ (i : grid0.Coords) (k0_t1 : Fin k0_t1_loop.trips) (v1522 : IVec S16 32) (v1524 : IVec S16 32) (k0_hw124 : k0_chk124 i k0_t1 v1522 v1524), ∀ (k0_h3 : k0_cond3 i k0_t1 = 1#1), ∀ a x, ((![v1522, v1524] : Fin 2 → IVec S16 32) a x).toNat < S32x128.size a := fun i k0_t1 v1522 v1524 k0_hw124 k0_h3 => k0_hw124 k0_h3

def k0_chk125 (i : grid0.Coords) (k0_t1 : Fin k0_t1_loop.trips) (v1534 : IVec S16 32) (v1536 : IVec S16 32) : Prop :=
  (∀ (k0_h3 : k0_cond3 i k0_t1 = 1#1), ∀ a x, ((![v1534, v1536] : Fin 2 → IVec S16 32) a x).toNat < S32x128.size a)
theorem k0_idx125_inb : ∀ (i : grid0.Coords) (k0_t1 : Fin k0_t1_loop.trips) (v1534 : IVec S16 32) (v1536 : IVec S16 32) (k0_hw125 : k0_chk125 i k0_t1 v1534 v1536), ∀ (k0_h3 : k0_cond3 i k0_t1 = 1#1), ∀ a x, ((![v1534, v1536] : Fin 2 → IVec S16 32) a x).toNat < S32x128.size a := fun i k0_t1 v1534 v1536 k0_hw125 k0_h3 => k0_hw125 k0_h3

def k0_chk126 (i : grid0.Coords) (k0_t1 : Fin k0_t1_loop.trips) (v1546 : IVec S16 32) (v1548 : IVec S16 32) : Prop :=
  (∀ (k0_h3 : k0_cond3 i k0_t1 = 1#1), ∀ a x, ((![v1546, v1548] : Fin 2 → IVec S16 32) a x).toNat < S32x128.size a)
theorem k0_idx126_inb : ∀ (i : grid0.Coords) (k0_t1 : Fin k0_t1_loop.trips) (v1546 : IVec S16 32) (v1548 : IVec S16 32) (k0_hw126 : k0_chk126 i k0_t1 v1546 v1548), ∀ (k0_h3 : k0_cond3 i k0_t1 = 1#1), ∀ a x, ((![v1546, v1548] : Fin 2 → IVec S16 32) a x).toNat < S32x128.size a := fun i k0_t1 v1546 v1548 k0_hw126 k0_h3 => k0_hw126 k0_h3

def k0_chk127 (i : grid0.Coords) (k0_t1 : Fin k0_t1_loop.trips) (v1558 : IVec S16 32) (v1560 : IVec S16 32) : Prop :=
  (∀ (k0_h3 : k0_cond3 i k0_t1 = 1#1), ∀ a x, ((![v1558, v1560] : Fin 2 → IVec S16 32) a x).toNat < S32x128.size a)
theorem k0_idx127_inb : ∀ (i : grid0.Coords) (k0_t1 : Fin k0_t1_loop.trips) (v1558 : IVec S16 32) (v1560 : IVec S16 32) (k0_hw127 : k0_chk127 i k0_t1 v1558 v1560), ∀ (k0_h3 : k0_cond3 i k0_t1 = 1#1), ∀ a x, ((![v1558, v1560] : Fin 2 → IVec S16 32) a x).toNat < S32x128.size a := fun i k0_t1 v1558 v1560 k0_hw127 k0_h3 => k0_hw127 k0_h3

def k0_chk128 (i : grid0.Coords) (k0_t1 : Fin k0_t1_loop.trips) (v1570 : IVec S16 32) (v1572 : IVec S16 32) : Prop :=
  (∀ (k0_h3 : k0_cond3 i k0_t1 = 1#1), ∀ a x, ((![v1570, v1572] : Fin 2 → IVec S16 32) a x).toNat < S32x128.size a)
theorem k0_idx128_inb : ∀ (i : grid0.Coords) (k0_t1 : Fin k0_t1_loop.trips) (v1570 : IVec S16 32) (v1572 : IVec S16 32) (k0_hw128 : k0_chk128 i k0_t1 v1570 v1572), ∀ (k0_h3 : k0_cond3 i k0_t1 = 1#1), ∀ a x, ((![v1570, v1572] : Fin 2 → IVec S16 32) a x).toNat < S32x128.size a := fun i k0_t1 v1570 v1572 k0_hw128 k0_h3 => k0_hw128 k0_h3

def k0_chk129 (i : grid0.Coords) (k0_t1 : Fin k0_t1_loop.trips) (v1582 : IVec S16 32) (v1584 : IVec S16 32) : Prop :=
  (∀ (k0_h3 : k0_cond3 i k0_t1 = 1#1), ∀ a x, ((![v1582, v1584] : Fin 2 → IVec S16 32) a x).toNat < S32x128.size a)
theorem k0_idx129_inb : ∀ (i : grid0.Coords) (k0_t1 : Fin k0_t1_loop.trips) (v1582 : IVec S16 32) (v1584 : IVec S16 32) (k0_hw129 : k0_chk129 i k0_t1 v1582 v1584), ∀ (k0_h3 : k0_cond3 i k0_t1 = 1#1), ∀ a x, ((![v1582, v1584] : Fin 2 → IVec S16 32) a x).toNat < S32x128.size a := fun i k0_t1 v1582 v1584 k0_hw129 k0_h3 => k0_hw129 k0_h3

def k0_chk130 (i : grid0.Coords) (k0_t1 : Fin k0_t1_loop.trips) (v1594 : IVec S16 32) (v1596 : IVec S16 32) : Prop :=
  (∀ (k0_h3 : k0_cond3 i k0_t1 = 1#1), ∀ a x, ((![v1594, v1596] : Fin 2 → IVec S16 32) a x).toNat < S32x128.size a)
theorem k0_idx130_inb : ∀ (i : grid0.Coords) (k0_t1 : Fin k0_t1_loop.trips) (v1594 : IVec S16 32) (v1596 : IVec S16 32) (k0_hw130 : k0_chk130 i k0_t1 v1594 v1596), ∀ (k0_h3 : k0_cond3 i k0_t1 = 1#1), ∀ a x, ((![v1594, v1596] : Fin 2 → IVec S16 32) a x).toNat < S32x128.size a := fun i k0_t1 v1594 v1596 k0_hw130 k0_h3 => k0_hw130 k0_h3

def k0_chk131 (i : grid0.Coords) (k0_t1 : Fin k0_t1_loop.trips) (v1606 : IVec S16 32) (v1608 : IVec S16 32) : Prop :=
  (∀ (k0_h3 : k0_cond3 i k0_t1 = 1#1), ∀ a x, ((![v1606, v1608] : Fin 2 → IVec S16 32) a x).toNat < S32x128.size a)
theorem k0_idx131_inb : ∀ (i : grid0.Coords) (k0_t1 : Fin k0_t1_loop.trips) (v1606 : IVec S16 32) (v1608 : IVec S16 32) (k0_hw131 : k0_chk131 i k0_t1 v1606 v1608), ∀ (k0_h3 : k0_cond3 i k0_t1 = 1#1), ∀ a x, ((![v1606, v1608] : Fin 2 → IVec S16 32) a x).toNat < S32x128.size a := fun i k0_t1 v1606 v1608 k0_hw131 k0_h3 => k0_hw131 k0_h3

def k0_chk132 (i : grid0.Coords) (k0_t1 : Fin k0_t1_loop.trips) (v1618 : IVec S16 32) (v1620 : IVec S16 32) : Prop :=
  (∀ (k0_h3 : k0_cond3 i k0_t1 = 1#1), ∀ a x, ((![v1618, v1620] : Fin 2 → IVec S16 32) a x).toNat < S32x128.size a)
theorem k0_idx132_inb : ∀ (i : grid0.Coords) (k0_t1 : Fin k0_t1_loop.trips) (v1618 : IVec S16 32) (v1620 : IVec S16 32) (k0_hw132 : k0_chk132 i k0_t1 v1618 v1620), ∀ (k0_h3 : k0_cond3 i k0_t1 = 1#1), ∀ a x, ((![v1618, v1620] : Fin 2 → IVec S16 32) a x).toNat < S32x128.size a := fun i k0_t1 v1618 v1620 k0_hw132 k0_h3 => k0_hw132 k0_h3

def k0_chk133 (i : grid0.Coords) (k0_t1 : Fin k0_t1_loop.trips) (v1630 : IVec S16 32) (v1632 : IVec S16 32) : Prop :=
  (∀ (k0_h3 : k0_cond3 i k0_t1 = 1#1), ∀ a x, ((![v1630, v1632] : Fin 2 → IVec S16 32) a x).toNat < S32x128.size a)
theorem k0_idx133_inb : ∀ (i : grid0.Coords) (k0_t1 : Fin k0_t1_loop.trips) (v1630 : IVec S16 32) (v1632 : IVec S16 32) (k0_hw133 : k0_chk133 i k0_t1 v1630 v1632), ∀ (k0_h3 : k0_cond3 i k0_t1 = 1#1), ∀ a x, ((![v1630, v1632] : Fin 2 → IVec S16 32) a x).toNat < S32x128.size a := fun i k0_t1 v1630 v1632 k0_hw133 k0_h3 => k0_hw133 k0_h3

def k0_chk134 (i : grid0.Coords) (k0_t1 : Fin k0_t1_loop.trips) (v1642 : IVec S16 32) (v1644 : IVec S16 32) : Prop :=
  (∀ (k0_h3 : k0_cond3 i k0_t1 = 1#1), ∀ a x, ((![v1642, v1644] : Fin 2 → IVec S16 32) a x).toNat < S32x128.size a)
theorem k0_idx134_inb : ∀ (i : grid0.Coords) (k0_t1 : Fin k0_t1_loop.trips) (v1642 : IVec S16 32) (v1644 : IVec S16 32) (k0_hw134 : k0_chk134 i k0_t1 v1642 v1644), ∀ (k0_h3 : k0_cond3 i k0_t1 = 1#1), ∀ a x, ((![v1642, v1644] : Fin 2 → IVec S16 32) a x).toNat < S32x128.size a := fun i k0_t1 v1642 v1644 k0_hw134 k0_h3 => k0_hw134 k0_h3

def k0_chk135 (i : grid0.Coords) (k0_t1 : Fin k0_t1_loop.trips) (v1654 : IVec S16 32) (v1656 : IVec S16 32) : Prop :=
  (∀ (k0_h3 : k0_cond3 i k0_t1 = 1#1), ∀ a x, ((![v1654, v1656] : Fin 2 → IVec S16 32) a x).toNat < S32x128.size a)
theorem k0_idx135_inb : ∀ (i : grid0.Coords) (k0_t1 : Fin k0_t1_loop.trips) (v1654 : IVec S16 32) (v1656 : IVec S16 32) (k0_hw135 : k0_chk135 i k0_t1 v1654 v1656), ∀ (k0_h3 : k0_cond3 i k0_t1 = 1#1), ∀ a x, ((![v1654, v1656] : Fin 2 → IVec S16 32) a x).toNat < S32x128.size a := fun i k0_t1 v1654 v1656 k0_hw135 k0_h3 => k0_hw135 k0_h3

def k0_chk136 (i : grid0.Coords) (k0_t1 : Fin k0_t1_loop.trips) (v1666 : IVec S16 32) (v1668 : IVec S16 32) : Prop :=
  (∀ (k0_h3 : k0_cond3 i k0_t1 = 1#1), ∀ a x, ((![v1666, v1668] : Fin 2 → IVec S16 32) a x).toNat < S32x128.size a)
theorem k0_idx136_inb : ∀ (i : grid0.Coords) (k0_t1 : Fin k0_t1_loop.trips) (v1666 : IVec S16 32) (v1668 : IVec S16 32) (k0_hw136 : k0_chk136 i k0_t1 v1666 v1668), ∀ (k0_h3 : k0_cond3 i k0_t1 = 1#1), ∀ a x, ((![v1666, v1668] : Fin 2 → IVec S16 32) a x).toNat < S32x128.size a := fun i k0_t1 v1666 v1668 k0_hw136 k0_h3 => k0_hw136 k0_h3

def k0_chk137 (i : grid0.Coords) (k0_t1 : Fin k0_t1_loop.trips) (v1678 : IVec S16 32) (v1680 : IVec S16 32) : Prop :=
  (∀ (k0_h3 : k0_cond3 i k0_t1 = 1#1), ∀ a x, ((![v1678, v1680] : Fin 2 → IVec S16 32) a x).toNat < S32x128.size a)
theorem k0_idx137_inb : ∀ (i : grid0.Coords) (k0_t1 : Fin k0_t1_loop.trips) (v1678 : IVec S16 32) (v1680 : IVec S16 32) (k0_hw137 : k0_chk137 i k0_t1 v1678 v1680), ∀ (k0_h3 : k0_cond3 i k0_t1 = 1#1), ∀ a x, ((![v1678, v1680] : Fin 2 → IVec S16 32) a x).toNat < S32x128.size a := fun i k0_t1 v1678 v1680 k0_hw137 k0_h3 => k0_hw137 k0_h3

def k0_chk138 (i : grid0.Coords) (k0_t1 : Fin k0_t1_loop.trips) (v1690 : IVec S16 32) (v1692 : IVec S16 32) : Prop :=
  (∀ (k0_h3 : k0_cond3 i k0_t1 = 1#1), ∀ a x, ((![v1690, v1692] : Fin 2 → IVec S16 32) a x).toNat < S32x128.size a)
theorem k0_idx138_inb : ∀ (i : grid0.Coords) (k0_t1 : Fin k0_t1_loop.trips) (v1690 : IVec S16 32) (v1692 : IVec S16 32) (k0_hw138 : k0_chk138 i k0_t1 v1690 v1692), ∀ (k0_h3 : k0_cond3 i k0_t1 = 1#1), ∀ a x, ((![v1690, v1692] : Fin 2 → IVec S16 32) a x).toNat < S32x128.size a := fun i k0_t1 v1690 v1692 k0_hw138 k0_h3 => k0_hw138 k0_h3

def k0_chk139 (i : grid0.Coords) (k0_t1 : Fin k0_t1_loop.trips) (v1702 : IVec S16 32) (v1704 : IVec S16 32) : Prop :=
  (∀ (k0_h3 : k0_cond3 i k0_t1 = 1#1), ∀ a x, ((![v1702, v1704] : Fin 2 → IVec S16 32) a x).toNat < S32x128.size a)
theorem k0_idx139_inb : ∀ (i : grid0.Coords) (k0_t1 : Fin k0_t1_loop.trips) (v1702 : IVec S16 32) (v1704 : IVec S16 32) (k0_hw139 : k0_chk139 i k0_t1 v1702 v1704), ∀ (k0_h3 : k0_cond3 i k0_t1 = 1#1), ∀ a x, ((![v1702, v1704] : Fin 2 → IVec S16 32) a x).toNat < S32x128.size a := fun i k0_t1 v1702 v1704 k0_hw139 k0_h3 => k0_hw139 k0_h3

def k0_chk140 (i : grid0.Coords) (k0_t1 : Fin k0_t1_loop.trips) (v1714 : IVec S16 32) (v1716 : IVec S16 32) : Prop :=
  (∀ (k0_h3 : k0_cond3 i k0_t1 = 1#1), ∀ a x, ((![v1714, v1716] : Fin 2 → IVec S16 32) a x).toNat < S32x128.size a)
theorem k0_idx140_inb : ∀ (i : grid0.Coords) (k0_t1 : Fin k0_t1_loop.trips) (v1714 : IVec S16 32) (v1716 : IVec S16 32) (k0_hw140 : k0_chk140 i k0_t1 v1714 v1716), ∀ (k0_h3 : k0_cond3 i k0_t1 = 1#1), ∀ a x, ((![v1714, v1716] : Fin 2 → IVec S16 32) a x).toNat < S32x128.size a := fun i k0_t1 v1714 v1716 k0_hw140 k0_h3 => k0_hw140 k0_h3

def k0_chk141 (i : grid0.Coords) (k0_t1 : Fin k0_t1_loop.trips) (v1726 : IVec S16 32) (v1728 : IVec S16 32) : Prop :=
  (∀ (k0_h3 : k0_cond3 i k0_t1 = 1#1), ∀ a x, ((![v1726, v1728] : Fin 2 → IVec S16 32) a x).toNat < S32x128.size a)
theorem k0_idx141_inb : ∀ (i : grid0.Coords) (k0_t1 : Fin k0_t1_loop.trips) (v1726 : IVec S16 32) (v1728 : IVec S16 32) (k0_hw141 : k0_chk141 i k0_t1 v1726 v1728), ∀ (k0_h3 : k0_cond3 i k0_t1 = 1#1), ∀ a x, ((![v1726, v1728] : Fin 2 → IVec S16 32) a x).toNat < S32x128.size a := fun i k0_t1 v1726 v1728 k0_hw141 k0_h3 => k0_hw141 k0_h3

def k0_chk142 (i : grid0.Coords) (k0_t1 : Fin k0_t1_loop.trips) (v1738 : IVec S16 32) (v1740 : IVec S16 32) : Prop :=
  (∀ (k0_h3 : k0_cond3 i k0_t1 = 1#1), ∀ a x, ((![v1738, v1740] : Fin 2 → IVec S16 32) a x).toNat < S32x128.size a)
theorem k0_idx142_inb : ∀ (i : grid0.Coords) (k0_t1 : Fin k0_t1_loop.trips) (v1738 : IVec S16 32) (v1740 : IVec S16 32) (k0_hw142 : k0_chk142 i k0_t1 v1738 v1740), ∀ (k0_h3 : k0_cond3 i k0_t1 = 1#1), ∀ a x, ((![v1738, v1740] : Fin 2 → IVec S16 32) a x).toNat < S32x128.size a := fun i k0_t1 v1738 v1740 k0_hw142 k0_h3 => k0_hw142 k0_h3

def k0_chk143 (i : grid0.Coords) (k0_t1 : Fin k0_t1_loop.trips) (v1750 : IVec S16 32) (v1752 : IVec S16 32) : Prop :=
  (∀ (k0_h3 : k0_cond3 i k0_t1 = 1#1), ∀ a x, ((![v1750, v1752] : Fin 2 → IVec S16 32) a x).toNat < S32x128.size a)
theorem k0_idx143_inb : ∀ (i : grid0.Coords) (k0_t1 : Fin k0_t1_loop.trips) (v1750 : IVec S16 32) (v1752 : IVec S16 32) (k0_hw143 : k0_chk143 i k0_t1 v1750 v1752), ∀ (k0_h3 : k0_cond3 i k0_t1 = 1#1), ∀ a x, ((![v1750, v1752] : Fin 2 → IVec S16 32) a x).toNat < S32x128.size a := fun i k0_t1 v1750 v1752 k0_hw143 k0_h3 => k0_hw143 k0_h3

def k0_chk144 (i : grid0.Coords) (k0_t1 : Fin k0_t1_loop.trips) (v1762 : IVec S16 32) (v1764 : IVec S16 32) : Prop :=
  (∀ (k0_h3 : k0_cond3 i k0_t1 = 1#1), ∀ a x, ((![v1762, v1764] : Fin 2 → IVec S16 32) a x).toNat < S32x128.size a)
theorem k0_idx144_inb : ∀ (i : grid0.Coords) (k0_t1 : Fin k0_t1_loop.trips) (v1762 : IVec S16 32) (v1764 : IVec S16 32) (k0_hw144 : k0_chk144 i k0_t1 v1762 v1764), ∀ (k0_h3 : k0_cond3 i k0_t1 = 1#1), ∀ a x, ((![v1762, v1764] : Fin 2 → IVec S16 32) a x).toNat < S32x128.size a := fun i k0_t1 v1762 v1764 k0_hw144 k0_h3 => k0_hw144 k0_h3

def k0_chk145 (i : grid0.Coords) (k0_t1 : Fin k0_t1_loop.trips) (v1774 : IVec S16 32) (v1776 : IVec S16 32) : Prop :=
  (∀ (k0_h3 : k0_cond3 i k0_t1 = 1#1), ∀ a x, ((![v1774, v1776] : Fin 2 → IVec S16 32) a x).toNat < S32x128.size a)
theorem k0_idx145_inb : ∀ (i : grid0.Coords) (k0_t1 : Fin k0_t1_loop.trips) (v1774 : IVec S16 32) (v1776 : IVec S16 32) (k0_hw145 : k0_chk145 i k0_t1 v1774 v1776), ∀ (k0_h3 : k0_cond3 i k0_t1 = 1#1), ∀ a x, ((![v1774, v1776] : Fin 2 → IVec S16 32) a x).toNat < S32x128.size a := fun i k0_t1 v1774 v1776 k0_hw145 k0_h3 => k0_hw145 k0_h3

def k0_chk146 (i : grid0.Coords) (k0_t1 : Fin k0_t1_loop.trips) (v1786 : IVec S16 32) (v1788 : IVec S16 32) : Prop :=
  (∀ (k0_h3 : k0_cond3 i k0_t1 = 1#1), ∀ a x, ((![v1786, v1788] : Fin 2 → IVec S16 32) a x).toNat < S32x128.size a)
theorem k0_idx146_inb : ∀ (i : grid0.Coords) (k0_t1 : Fin k0_t1_loop.trips) (v1786 : IVec S16 32) (v1788 : IVec S16 32) (k0_hw146 : k0_chk146 i k0_t1 v1786 v1788), ∀ (k0_h3 : k0_cond3 i k0_t1 = 1#1), ∀ a x, ((![v1786, v1788] : Fin 2 → IVec S16 32) a x).toNat < S32x128.size a := fun i k0_t1 v1786 v1788 k0_hw146 k0_h3 => k0_hw146 k0_h3

def k0_chk147 (i : grid0.Coords) (k0_t1 : Fin k0_t1_loop.trips) (v1798 : IVec S16 32) (v1800 : IVec S16 32) : Prop :=
  (∀ (k0_h3 : k0_cond3 i k0_t1 = 1#1), ∀ a x, ((![v1798, v1800] : Fin 2 → IVec S16 32) a x).toNat < S32x128.size a)
theorem k0_idx147_inb : ∀ (i : grid0.Coords) (k0_t1 : Fin k0_t1_loop.trips) (v1798 : IVec S16 32) (v1800 : IVec S16 32) (k0_hw147 : k0_chk147 i k0_t1 v1798 v1800), ∀ (k0_h3 : k0_cond3 i k0_t1 = 1#1), ∀ a x, ((![v1798, v1800] : Fin 2 → IVec S16 32) a x).toNat < S32x128.size a := fun i k0_t1 v1798 v1800 k0_hw147 k0_h3 => k0_hw147 k0_h3

def k0_chk148 (i : grid0.Coords) (k0_t1 : Fin k0_t1_loop.trips) (v1810 : IVec S16 32) (v1812 : IVec S16 32) : Prop :=
  (∀ (k0_h3 : k0_cond3 i k0_t1 = 1#1), ∀ a x, ((![v1810, v1812] : Fin 2 → IVec S16 32) a x).toNat < S32x128.size a)
theorem k0_idx148_inb : ∀ (i : grid0.Coords) (k0_t1 : Fin k0_t1_loop.trips) (v1810 : IVec S16 32) (v1812 : IVec S16 32) (k0_hw148 : k0_chk148 i k0_t1 v1810 v1812), ∀ (k0_h3 : k0_cond3 i k0_t1 = 1#1), ∀ a x, ((![v1810, v1812] : Fin 2 → IVec S16 32) a x).toNat < S32x128.size a := fun i k0_t1 v1810 v1812 k0_hw148 k0_h3 => k0_hw148 k0_h3

def k0_chk149 (i : grid0.Coords) (k0_t1 : Fin k0_t1_loop.trips) (v1822 : IVec S16 32) (v1824 : IVec S16 32) : Prop :=
  (∀ (k0_h3 : k0_cond3 i k0_t1 = 1#1), ∀ a x, ((![v1822, v1824] : Fin 2 → IVec S16 32) a x).toNat < S32x128.size a)
theorem k0_idx149_inb : ∀ (i : grid0.Coords) (k0_t1 : Fin k0_t1_loop.trips) (v1822 : IVec S16 32) (v1824 : IVec S16 32) (k0_hw149 : k0_chk149 i k0_t1 v1822 v1824), ∀ (k0_h3 : k0_cond3 i k0_t1 = 1#1), ∀ a x, ((![v1822, v1824] : Fin 2 → IVec S16 32) a x).toNat < S32x128.size a := fun i k0_t1 v1822 v1824 k0_hw149 k0_h3 => k0_hw149 k0_h3

def k0_chk150 (i : grid0.Coords) (k0_t1 : Fin k0_t1_loop.trips) (v1834 : IVec S16 32) (v1836 : IVec S16 32) : Prop :=
  (∀ (k0_h3 : k0_cond3 i k0_t1 = 1#1), ∀ a x, ((![v1834, v1836] : Fin 2 → IVec S16 32) a x).toNat < S32x128.size a)
theorem k0_idx150_inb : ∀ (i : grid0.Coords) (k0_t1 : Fin k0_t1_loop.trips) (v1834 : IVec S16 32) (v1836 : IVec S16 32) (k0_hw150 : k0_chk150 i k0_t1 v1834 v1836), ∀ (k0_h3 : k0_cond3 i k0_t1 = 1#1), ∀ a x, ((![v1834, v1836] : Fin 2 → IVec S16 32) a x).toNat < S32x128.size a := fun i k0_t1 v1834 v1836 k0_hw150 k0_h3 => k0_hw150 k0_h3

def k0_chk151 (i : grid0.Coords) (k0_t1 : Fin k0_t1_loop.trips) (v1846 : IVec S16 32) (v1848 : IVec S16 32) : Prop :=
  (∀ (k0_h3 : k0_cond3 i k0_t1 = 1#1), ∀ a x, ((![v1846, v1848] : Fin 2 → IVec S16 32) a x).toNat < S32x128.size a)
theorem k0_idx151_inb : ∀ (i : grid0.Coords) (k0_t1 : Fin k0_t1_loop.trips) (v1846 : IVec S16 32) (v1848 : IVec S16 32) (k0_hw151 : k0_chk151 i k0_t1 v1846 v1848), ∀ (k0_h3 : k0_cond3 i k0_t1 = 1#1), ∀ a x, ((![v1846, v1848] : Fin 2 → IVec S16 32) a x).toNat < S32x128.size a := fun i k0_t1 v1846 v1848 k0_hw151 k0_h3 => k0_hw151 k0_h3

def k0_chk152 (i : grid0.Coords) (k0_t1 : Fin k0_t1_loop.trips) (v1858 : IVec S16 32) (v1860 : IVec S16 32) : Prop :=
  (∀ (k0_h3 : k0_cond3 i k0_t1 = 1#1), ∀ a x, ((![v1858, v1860] : Fin 2 → IVec S16 32) a x).toNat < S32x128.size a)
theorem k0_idx152_inb : ∀ (i : grid0.Coords) (k0_t1 : Fin k0_t1_loop.trips) (v1858 : IVec S16 32) (v1860 : IVec S16 32) (k0_hw152 : k0_chk152 i k0_t1 v1858 v1860), ∀ (k0_h3 : k0_cond3 i k0_t1 = 1#1), ∀ a x, ((![v1858, v1860] : Fin 2 → IVec S16 32) a x).toNat < S32x128.size a := fun i k0_t1 v1858 v1860 k0_hw152 k0_h3 => k0_hw152 k0_h3

def k0_chk153 (i : grid0.Coords) (k0_t1 : Fin k0_t1_loop.trips) (v1870 : IVec S16 32) (v1872 : IVec S16 32) : Prop :=
  (∀ (k0_h3 : k0_cond3 i k0_t1 = 1#1), ∀ a x, ((![v1870, v1872] : Fin 2 → IVec S16 32) a x).toNat < S32x128.size a)
theorem k0_idx153_inb : ∀ (i : grid0.Coords) (k0_t1 : Fin k0_t1_loop.trips) (v1870 : IVec S16 32) (v1872 : IVec S16 32) (k0_hw153 : k0_chk153 i k0_t1 v1870 v1872), ∀ (k0_h3 : k0_cond3 i k0_t1 = 1#1), ∀ a x, ((![v1870, v1872] : Fin 2 → IVec S16 32) a x).toNat < S32x128.size a := fun i k0_t1 v1870 v1872 k0_hw153 k0_h3 => k0_hw153 k0_h3

def k0_chk154 (i : grid0.Coords) (k0_t1 : Fin k0_t1_loop.trips) (v1882 : IVec S16 32) (v1884 : IVec S16 32) : Prop :=
  (∀ (k0_h3 : k0_cond3 i k0_t1 = 1#1), ∀ a x, ((![v1882, v1884] : Fin 2 → IVec S16 32) a x).toNat < S32x128.size a)
theorem k0_idx154_inb : ∀ (i : grid0.Coords) (k0_t1 : Fin k0_t1_loop.trips) (v1882 : IVec S16 32) (v1884 : IVec S16 32) (k0_hw154 : k0_chk154 i k0_t1 v1882 v1884), ∀ (k0_h3 : k0_cond3 i k0_t1 = 1#1), ∀ a x, ((![v1882, v1884] : Fin 2 → IVec S16 32) a x).toNat < S32x128.size a := fun i k0_t1 v1882 v1884 k0_hw154 k0_h3 => k0_hw154 k0_h3

def k0_chk155 (i : grid0.Coords) (k0_t1 : Fin k0_t1_loop.trips) (v1894 : IVec S16 32) (v1896 : IVec S16 32) : Prop :=
  (∀ (k0_h3 : k0_cond3 i k0_t1 = 1#1), ∀ a x, ((![v1894, v1896] : Fin 2 → IVec S16 32) a x).toNat < S32x128.size a)
theorem k0_idx155_inb : ∀ (i : grid0.Coords) (k0_t1 : Fin k0_t1_loop.trips) (v1894 : IVec S16 32) (v1896 : IVec S16 32) (k0_hw155 : k0_chk155 i k0_t1 v1894 v1896), ∀ (k0_h3 : k0_cond3 i k0_t1 = 1#1), ∀ a x, ((![v1894, v1896] : Fin 2 → IVec S16 32) a x).toNat < S32x128.size a := fun i k0_t1 v1894 v1896 k0_hw155 k0_h3 => k0_hw155 k0_h3

def k0_chk156 (i : grid0.Coords) (k0_t1 : Fin k0_t1_loop.trips) (v1906 : IVec S16 32) (v1908 : IVec S16 32) : Prop :=
  (∀ (k0_h3 : k0_cond3 i k0_t1 = 1#1), ∀ a x, ((![v1906, v1908] : Fin 2 → IVec S16 32) a x).toNat < S32x128.size a)
theorem k0_idx156_inb : ∀ (i : grid0.Coords) (k0_t1 : Fin k0_t1_loop.trips) (v1906 : IVec S16 32) (v1908 : IVec S16 32) (k0_hw156 : k0_chk156 i k0_t1 v1906 v1908), ∀ (k0_h3 : k0_cond3 i k0_t1 = 1#1), ∀ a x, ((![v1906, v1908] : Fin 2 → IVec S16 32) a x).toNat < S32x128.size a := fun i k0_t1 v1906 v1908 k0_hw156 k0_h3 => k0_hw156 k0_h3

def k0_chk157 (i : grid0.Coords) (k0_t1 : Fin k0_t1_loop.trips) (v1918 : IVec S16 32) (v1920 : IVec S16 32) : Prop :=
  (∀ (k0_h3 : k0_cond3 i k0_t1 = 1#1), ∀ a x, ((![v1918, v1920] : Fin 2 → IVec S16 32) a x).toNat < S32x128.size a)
theorem k0_idx157_inb : ∀ (i : grid0.Coords) (k0_t1 : Fin k0_t1_loop.trips) (v1918 : IVec S16 32) (v1920 : IVec S16 32) (k0_hw157 : k0_chk157 i k0_t1 v1918 v1920), ∀ (k0_h3 : k0_cond3 i k0_t1 = 1#1), ∀ a x, ((![v1918, v1920] : Fin 2 → IVec S16 32) a x).toNat < S32x128.size a := fun i k0_t1 v1918 v1920 k0_hw157 k0_h3 => k0_hw157 k0_h3

def k0_chk158 (i : grid0.Coords) (k0_t1 : Fin k0_t1_loop.trips) (v1930 : IVec S16 32) (v1932 : IVec S16 32) : Prop :=
  (∀ (k0_h3 : k0_cond3 i k0_t1 = 1#1), ∀ a x, ((![v1930, v1932] : Fin 2 → IVec S16 32) a x).toNat < S32x128.size a)
theorem k0_idx158_inb : ∀ (i : grid0.Coords) (k0_t1 : Fin k0_t1_loop.trips) (v1930 : IVec S16 32) (v1932 : IVec S16 32) (k0_hw158 : k0_chk158 i k0_t1 v1930 v1932), ∀ (k0_h3 : k0_cond3 i k0_t1 = 1#1), ∀ a x, ((![v1930, v1932] : Fin 2 → IVec S16 32) a x).toNat < S32x128.size a := fun i k0_t1 v1930 v1932 k0_hw158 k0_h3 => k0_hw158 k0_h3

def k0_chk159 (i : grid0.Coords) (k0_t1 : Fin k0_t1_loop.trips) (v1942 : IVec S16 32) (v1944 : IVec S16 32) : Prop :=
  (∀ (k0_h3 : k0_cond3 i k0_t1 = 1#1), ∀ a x, ((![v1942, v1944] : Fin 2 → IVec S16 32) a x).toNat < S32x128.size a)
theorem k0_idx159_inb : ∀ (i : grid0.Coords) (k0_t1 : Fin k0_t1_loop.trips) (v1942 : IVec S16 32) (v1944 : IVec S16 32) (k0_hw159 : k0_chk159 i k0_t1 v1942 v1944), ∀ (k0_h3 : k0_cond3 i k0_t1 = 1#1), ∀ a x, ((![v1942, v1944] : Fin 2 → IVec S16 32) a x).toNat < S32x128.size a := fun i k0_t1 v1942 v1944 k0_hw159 k0_h3 => k0_hw159 k0_h3

def k0_chk160 (i : grid0.Coords) (k0_t1 : Fin k0_t1_loop.trips) (v1954 : IVec S16 32) (v1956 : IVec S16 32) : Prop :=
  (∀ (k0_h3 : k0_cond3 i k0_t1 = 1#1), ∀ a x, ((![v1954, v1956] : Fin 2 → IVec S16 32) a x).toNat < S32x128.size a)
theorem k0_idx160_inb : ∀ (i : grid0.Coords) (k0_t1 : Fin k0_t1_loop.trips) (v1954 : IVec S16 32) (v1956 : IVec S16 32) (k0_hw160 : k0_chk160 i k0_t1 v1954 v1956), ∀ (k0_h3 : k0_cond3 i k0_t1 = 1#1), ∀ a x, ((![v1954, v1956] : Fin 2 → IVec S16 32) a x).toNat < S32x128.size a := fun i k0_t1 v1954 v1956 k0_hw160 k0_h3 => k0_hw160 k0_h3

def k0_chk161 (i : grid0.Coords) (k0_t1 : Fin k0_t1_loop.trips) (v1966 : IVec S16 32) (v1968 : IVec S16 32) : Prop :=
  (∀ (k0_h3 : k0_cond3 i k0_t1 = 1#1), ∀ a x, ((![v1966, v1968] : Fin 2 → IVec S16 32) a x).toNat < S32x128.size a)
theorem k0_idx161_inb : ∀ (i : grid0.Coords) (k0_t1 : Fin k0_t1_loop.trips) (v1966 : IVec S16 32) (v1968 : IVec S16 32) (k0_hw161 : k0_chk161 i k0_t1 v1966 v1968), ∀ (k0_h3 : k0_cond3 i k0_t1 = 1#1), ∀ a x, ((![v1966, v1968] : Fin 2 → IVec S16 32) a x).toNat < S32x128.size a := fun i k0_t1 v1966 v1968 k0_hw161 k0_h3 => k0_hw161 k0_h3

def k0_chk162 (i : grid0.Coords) (k0_t1 : Fin k0_t1_loop.trips) (v1978 : IVec S16 32) (v1980 : IVec S16 32) : Prop :=
  (∀ (k0_h3 : k0_cond3 i k0_t1 = 1#1), ∀ a x, ((![v1978, v1980] : Fin 2 → IVec S16 32) a x).toNat < S32x128.size a)
theorem k0_idx162_inb : ∀ (i : grid0.Coords) (k0_t1 : Fin k0_t1_loop.trips) (v1978 : IVec S16 32) (v1980 : IVec S16 32) (k0_hw162 : k0_chk162 i k0_t1 v1978 v1980), ∀ (k0_h3 : k0_cond3 i k0_t1 = 1#1), ∀ a x, ((![v1978, v1980] : Fin 2 → IVec S16 32) a x).toNat < S32x128.size a := fun i k0_t1 v1978 v1980 k0_hw162 k0_h3 => k0_hw162 k0_h3

def k0_chk163 (i : grid0.Coords) (k0_t1 : Fin k0_t1_loop.trips) (v1990 : IVec S16 32) (v1992 : IVec S16 32) : Prop :=
  (∀ (k0_h3 : k0_cond3 i k0_t1 = 1#1), ∀ a x, ((![v1990, v1992] : Fin 2 → IVec S16 32) a x).toNat < S32x128.size a)
theorem k0_idx163_inb : ∀ (i : grid0.Coords) (k0_t1 : Fin k0_t1_loop.trips) (v1990 : IVec S16 32) (v1992 : IVec S16 32) (k0_hw163 : k0_chk163 i k0_t1 v1990 v1992), ∀ (k0_h3 : k0_cond3 i k0_t1 = 1#1), ∀ a x, ((![v1990, v1992] : Fin 2 → IVec S16 32) a x).toNat < S32x128.size a := fun i k0_t1 v1990 v1992 k0_hw163 k0_h3 => k0_hw163 k0_h3

def k0_chk164 (i : grid0.Coords) (k0_t1 : Fin k0_t1_loop.trips) (v2002 : IVec S16 32) (v2004 : IVec S16 32) : Prop :=
  (∀ (k0_h3 : k0_cond3 i k0_t1 = 1#1), ∀ a x, ((![v2002, v2004] : Fin 2 → IVec S16 32) a x).toNat < S32x128.size a)
theorem k0_idx164_inb : ∀ (i : grid0.Coords) (k0_t1 : Fin k0_t1_loop.trips) (v2002 : IVec S16 32) (v2004 : IVec S16 32) (k0_hw164 : k0_chk164 i k0_t1 v2002 v2004), ∀ (k0_h3 : k0_cond3 i k0_t1 = 1#1), ∀ a x, ((![v2002, v2004] : Fin 2 → IVec S16 32) a x).toNat < S32x128.size a := fun i k0_t1 v2002 v2004 k0_hw164 k0_h3 => k0_hw164 k0_h3

def k0_chk165 (i : grid0.Coords) (k0_t1 : Fin k0_t1_loop.trips) (v2014 : IVec S16 32) (v2016 : IVec S16 32) : Prop :=
  (∀ (k0_h3 : k0_cond3 i k0_t1 = 1#1), ∀ a x, ((![v2014, v2016] : Fin 2 → IVec S16 32) a x).toNat < S32x128.size a)
theorem k0_idx165_inb : ∀ (i : grid0.Coords) (k0_t1 : Fin k0_t1_loop.trips) (v2014 : IVec S16 32) (v2016 : IVec S16 32) (k0_hw165 : k0_chk165 i k0_t1 v2014 v2016), ∀ (k0_h3 : k0_cond3 i k0_t1 = 1#1), ∀ a x, ((![v2014, v2016] : Fin 2 → IVec S16 32) a x).toNat < S32x128.size a := fun i k0_t1 v2014 v2016 k0_hw165 k0_h3 => k0_hw165 k0_h3

def k0_chk166 (i : grid0.Coords) (k0_t1 : Fin k0_t1_loop.trips) (v2026 : IVec S16 32) (v2028 : IVec S16 32) : Prop :=
  (∀ (k0_h3 : k0_cond3 i k0_t1 = 1#1), ∀ a x, ((![v2026, v2028] : Fin 2 → IVec S16 32) a x).toNat < S32x128.size a)
theorem k0_idx166_inb : ∀ (i : grid0.Coords) (k0_t1 : Fin k0_t1_loop.trips) (v2026 : IVec S16 32) (v2028 : IVec S16 32) (k0_hw166 : k0_chk166 i k0_t1 v2026 v2028), ∀ (k0_h3 : k0_cond3 i k0_t1 = 1#1), ∀ a x, ((![v2026, v2028] : Fin 2 → IVec S16 32) a x).toNat < S32x128.size a := fun i k0_t1 v2026 v2028 k0_hw166 k0_h3 => k0_hw166 k0_h3

def k0_chk167 (i : grid0.Coords) (k0_t1 : Fin k0_t1_loop.trips) (v2038 : IVec S16 32) (v2040 : IVec S16 32) : Prop :=
  (∀ (k0_h3 : k0_cond3 i k0_t1 = 1#1), ∀ a x, ((![v2038, v2040] : Fin 2 → IVec S16 32) a x).toNat < S32x128.size a)
theorem k0_idx167_inb : ∀ (i : grid0.Coords) (k0_t1 : Fin k0_t1_loop.trips) (v2038 : IVec S16 32) (v2040 : IVec S16 32) (k0_hw167 : k0_chk167 i k0_t1 v2038 v2040), ∀ (k0_h3 : k0_cond3 i k0_t1 = 1#1), ∀ a x, ((![v2038, v2040] : Fin 2 → IVec S16 32) a x).toNat < S32x128.size a := fun i k0_t1 v2038 v2040 k0_hw167 k0_h3 => k0_hw167 k0_h3

def k0_chk168 (i : grid0.Coords) (k0_t1 : Fin k0_t1_loop.trips) (v2050 : IVec S16 32) (v2052 : IVec S16 32) : Prop :=
  (∀ (k0_h3 : k0_cond3 i k0_t1 = 1#1), ∀ a x, ((![v2050, v2052] : Fin 2 → IVec S16 32) a x).toNat < S32x128.size a)
theorem k0_idx168_inb : ∀ (i : grid0.Coords) (k0_t1 : Fin k0_t1_loop.trips) (v2050 : IVec S16 32) (v2052 : IVec S16 32) (k0_hw168 : k0_chk168 i k0_t1 v2050 v2052), ∀ (k0_h3 : k0_cond3 i k0_t1 = 1#1), ∀ a x, ((![v2050, v2052] : Fin 2 → IVec S16 32) a x).toNat < S32x128.size a := fun i k0_t1 v2050 v2052 k0_hw168 k0_h3 => k0_hw168 k0_h3

def k0_chk169 (i : grid0.Coords) (k0_t1 : Fin k0_t1_loop.trips) (v2062 : IVec S16 32) (v2064 : IVec S16 32) : Prop :=
  (∀ (k0_h3 : k0_cond3 i k0_t1 = 1#1), ∀ a x, ((![v2062, v2064] : Fin 2 → IVec S16 32) a x).toNat < S32x128.size a)
theorem k0_idx169_inb : ∀ (i : grid0.Coords) (k0_t1 : Fin k0_t1_loop.trips) (v2062 : IVec S16 32) (v2064 : IVec S16 32) (k0_hw169 : k0_chk169 i k0_t1 v2062 v2064), ∀ (k0_h3 : k0_cond3 i k0_t1 = 1#1), ∀ a x, ((![v2062, v2064] : Fin 2 → IVec S16 32) a x).toNat < S32x128.size a := fun i k0_t1 v2062 v2064 k0_hw169 k0_h3 => k0_hw169 k0_h3

def k0_chk170 (i : grid0.Coords) (k0_t1 : Fin k0_t1_loop.trips) (v2074 : IVec S16 32) (v2076 : IVec S16 32) : Prop :=
  (∀ (k0_h3 : k0_cond3 i k0_t1 = 1#1), ∀ a x, ((![v2074, v2076] : Fin 2 → IVec S16 32) a x).toNat < S32x128.size a)
theorem k0_idx170_inb : ∀ (i : grid0.Coords) (k0_t1 : Fin k0_t1_loop.trips) (v2074 : IVec S16 32) (v2076 : IVec S16 32) (k0_hw170 : k0_chk170 i k0_t1 v2074 v2076), ∀ (k0_h3 : k0_cond3 i k0_t1 = 1#1), ∀ a x, ((![v2074, v2076] : Fin 2 → IVec S16 32) a x).toNat < S32x128.size a := fun i k0_t1 v2074 v2076 k0_hw170 k0_h3 => k0_hw170 k0_h3

def k0_chk171 (i : grid0.Coords) (k0_t1 : Fin k0_t1_loop.trips) (v2086 : IVec S16 32) (v2088 : IVec S16 32) : Prop :=
  (∀ (k0_h3 : k0_cond3 i k0_t1 = 1#1), ∀ a x, ((![v2086, v2088] : Fin 2 → IVec S16 32) a x).toNat < S32x128.size a)
theorem k0_idx171_inb : ∀ (i : grid0.Coords) (k0_t1 : Fin k0_t1_loop.trips) (v2086 : IVec S16 32) (v2088 : IVec S16 32) (k0_hw171 : k0_chk171 i k0_t1 v2086 v2088), ∀ (k0_h3 : k0_cond3 i k0_t1 = 1#1), ∀ a x, ((![v2086, v2088] : Fin 2 → IVec S16 32) a x).toNat < S32x128.size a := fun i k0_t1 v2086 v2088 k0_hw171 k0_h3 => k0_hw171 k0_h3

def k0_chk172 (i : grid0.Coords) (k0_t1 : Fin k0_t1_loop.trips) (v2098 : IVec S16 32) (v2100 : IVec S16 32) : Prop :=
  (∀ (k0_h3 : k0_cond3 i k0_t1 = 1#1), ∀ a x, ((![v2098, v2100] : Fin 2 → IVec S16 32) a x).toNat < S32x128.size a)
theorem k0_idx172_inb : ∀ (i : grid0.Coords) (k0_t1 : Fin k0_t1_loop.trips) (v2098 : IVec S16 32) (v2100 : IVec S16 32) (k0_hw172 : k0_chk172 i k0_t1 v2098 v2100), ∀ (k0_h3 : k0_cond3 i k0_t1 = 1#1), ∀ a x, ((![v2098, v2100] : Fin 2 → IVec S16 32) a x).toNat < S32x128.size a := fun i k0_t1 v2098 v2100 k0_hw172 k0_h3 => k0_hw172 k0_h3

def k0_chk173 (i : grid0.Coords) (k0_t1 : Fin k0_t1_loop.trips) (v2110 : IVec S16 32) (v2112 : IVec S16 32) : Prop :=
  (∀ (k0_h3 : k0_cond3 i k0_t1 = 1#1), ∀ a x, ((![v2110, v2112] : Fin 2 → IVec S16 32) a x).toNat < S32x128.size a)
theorem k0_idx173_inb : ∀ (i : grid0.Coords) (k0_t1 : Fin k0_t1_loop.trips) (v2110 : IVec S16 32) (v2112 : IVec S16 32) (k0_hw173 : k0_chk173 i k0_t1 v2110 v2112), ∀ (k0_h3 : k0_cond3 i k0_t1 = 1#1), ∀ a x, ((![v2110, v2112] : Fin 2 → IVec S16 32) a x).toNat < S32x128.size a := fun i k0_t1 v2110 v2112 k0_hw173 k0_h3 => k0_hw173 k0_h3

def k0_chk174 (i : grid0.Coords) (k0_t1 : Fin k0_t1_loop.trips) (v2122 : IVec S16 32) (v2124 : IVec S16 32) : Prop :=
  (∀ (k0_h3 : k0_cond3 i k0_t1 = 1#1), ∀ a x, ((![v2122, v2124] : Fin 2 → IVec S16 32) a x).toNat < S32x128.size a)
theorem k0_idx174_inb : ∀ (i : grid0.Coords) (k0_t1 : Fin k0_t1_loop.trips) (v2122 : IVec S16 32) (v2124 : IVec S16 32) (k0_hw174 : k0_chk174 i k0_t1 v2122 v2124), ∀ (k0_h3 : k0_cond3 i k0_t1 = 1#1), ∀ a x, ((![v2122, v2124] : Fin 2 → IVec S16 32) a x).toNat < S32x128.size a := fun i k0_t1 v2122 v2124 k0_hw174 k0_h3 => k0_hw174 k0_h3

def k0_chk175 (i : grid0.Coords) (k0_t1 : Fin k0_t1_loop.trips) (v2134 : IVec S16 32) (v2136 : IVec S16 32) : Prop :=
  (∀ (k0_h3 : k0_cond3 i k0_t1 = 1#1), ∀ a x, ((![v2134, v2136] : Fin 2 → IVec S16 32) a x).toNat < S32x128.size a)
theorem k0_idx175_inb : ∀ (i : grid0.Coords) (k0_t1 : Fin k0_t1_loop.trips) (v2134 : IVec S16 32) (v2136 : IVec S16 32) (k0_hw175 : k0_chk175 i k0_t1 v2134 v2136), ∀ (k0_h3 : k0_cond3 i k0_t1 = 1#1), ∀ a x, ((![v2134, v2136] : Fin 2 → IVec S16 32) a x).toNat < S32x128.size a := fun i k0_t1 v2134 v2136 k0_hw175 k0_h3 => k0_hw175 k0_h3

def k0_chk176 (i : grid0.Coords) (k0_t1 : Fin k0_t1_loop.trips) (v2146 : IVec S16 32) (v2148 : IVec S16 32) : Prop :=
  (∀ (k0_h3 : k0_cond3 i k0_t1 = 1#1), ∀ a x, ((![v2146, v2148] : Fin 2 → IVec S16 32) a x).toNat < S32x128.size a)
theorem k0_idx176_inb : ∀ (i : grid0.Coords) (k0_t1 : Fin k0_t1_loop.trips) (v2146 : IVec S16 32) (v2148 : IVec S16 32) (k0_hw176 : k0_chk176 i k0_t1 v2146 v2148), ∀ (k0_h3 : k0_cond3 i k0_t1 = 1#1), ∀ a x, ((![v2146, v2148] : Fin 2 → IVec S16 32) a x).toNat < S32x128.size a := fun i k0_t1 v2146 v2148 k0_hw176 k0_h3 => k0_hw176 k0_h3

def k0_chk177 (i : grid0.Coords) (k0_t1 : Fin k0_t1_loop.trips) (v2158 : IVec S16 32) (v2160 : IVec S16 32) : Prop :=
  (∀ (k0_h3 : k0_cond3 i k0_t1 = 1#1), ∀ a x, ((![v2158, v2160] : Fin 2 → IVec S16 32) a x).toNat < S32x128.size a)
theorem k0_idx177_inb : ∀ (i : grid0.Coords) (k0_t1 : Fin k0_t1_loop.trips) (v2158 : IVec S16 32) (v2160 : IVec S16 32) (k0_hw177 : k0_chk177 i k0_t1 v2158 v2160), ∀ (k0_h3 : k0_cond3 i k0_t1 = 1#1), ∀ a x, ((![v2158, v2160] : Fin 2 → IVec S16 32) a x).toNat < S32x128.size a := fun i k0_t1 v2158 v2160 k0_hw177 k0_h3 => k0_hw177 k0_h3

def k0_chk178 (i : grid0.Coords) (k0_t1 : Fin k0_t1_loop.trips) (v2170 : IVec S16 32) (v2172 : IVec S16 32) : Prop :=
  (∀ (k0_h3 : k0_cond3 i k0_t1 = 1#1), ∀ a x, ((![v2170, v2172] : Fin 2 → IVec S16 32) a x).toNat < S32x128.size a)
theorem k0_idx178_inb : ∀ (i : grid0.Coords) (k0_t1 : Fin k0_t1_loop.trips) (v2170 : IVec S16 32) (v2172 : IVec S16 32) (k0_hw178 : k0_chk178 i k0_t1 v2170 v2172), ∀ (k0_h3 : k0_cond3 i k0_t1 = 1#1), ∀ a x, ((![v2170, v2172] : Fin 2 → IVec S16 32) a x).toNat < S32x128.size a := fun i k0_t1 v2170 v2172 k0_hw178 k0_h3 => k0_hw178 k0_h3

def k0_chk179 (i : grid0.Coords) (k0_t1 : Fin k0_t1_loop.trips) (v2182 : IVec S16 32) (v2184 : IVec S16 32) : Prop :=
  (∀ (k0_h3 : k0_cond3 i k0_t1 = 1#1), ∀ a x, ((![v2182, v2184] : Fin 2 → IVec S16 32) a x).toNat < S32x128.size a)
theorem k0_idx179_inb : ∀ (i : grid0.Coords) (k0_t1 : Fin k0_t1_loop.trips) (v2182 : IVec S16 32) (v2184 : IVec S16 32) (k0_hw179 : k0_chk179 i k0_t1 v2182 v2184), ∀ (k0_h3 : k0_cond3 i k0_t1 = 1#1), ∀ a x, ((![v2182, v2184] : Fin 2 → IVec S16 32) a x).toNat < S32x128.size a := fun i k0_t1 v2182 v2184 k0_hw179 k0_h3 => k0_hw179 k0_h3

def k0_chk180 (i : grid0.Coords) (k0_t1 : Fin k0_t1_loop.trips) (v2194 : IVec S16 32) (v2196 : IVec S16 32) : Prop :=
  (∀ (k0_h3 : k0_cond3 i k0_t1 = 1#1), ∀ a x, ((![v2194, v2196] : Fin 2 → IVec S16 32) a x).toNat < S32x128.size a)
theorem k0_idx180_inb : ∀ (i : grid0.Coords) (k0_t1 : Fin k0_t1_loop.trips) (v2194 : IVec S16 32) (v2196 : IVec S16 32) (k0_hw180 : k0_chk180 i k0_t1 v2194 v2196), ∀ (k0_h3 : k0_cond3 i k0_t1 = 1#1), ∀ a x, ((![v2194, v2196] : Fin 2 → IVec S16 32) a x).toNat < S32x128.size a := fun i k0_t1 v2194 v2196 k0_hw180 k0_h3 => k0_hw180 k0_h3

def k0_chk181 (i : grid0.Coords) (k0_t1 : Fin k0_t1_loop.trips) (v2206 : IVec S16 32) (v2208 : IVec S16 32) : Prop :=
  (∀ (k0_h3 : k0_cond3 i k0_t1 = 1#1), ∀ a x, ((![v2206, v2208] : Fin 2 → IVec S16 32) a x).toNat < S32x128.size a)
theorem k0_idx181_inb : ∀ (i : grid0.Coords) (k0_t1 : Fin k0_t1_loop.trips) (v2206 : IVec S16 32) (v2208 : IVec S16 32) (k0_hw181 : k0_chk181 i k0_t1 v2206 v2208), ∀ (k0_h3 : k0_cond3 i k0_t1 = 1#1), ∀ a x, ((![v2206, v2208] : Fin 2 → IVec S16 32) a x).toNat < S32x128.size a := fun i k0_t1 v2206 v2208 k0_hw181 k0_h3 => k0_hw181 k0_h3

def k0_chk182 (i : grid0.Coords) (k0_t1 : Fin k0_t1_loop.trips) (v2218 : IVec S16 32) (v2220 : IVec S16 32) : Prop :=
  (∀ (k0_h3 : k0_cond3 i k0_t1 = 1#1), ∀ a x, ((![v2218, v2220] : Fin 2 → IVec S16 32) a x).toNat < S32x128.size a)
theorem k0_idx182_inb : ∀ (i : grid0.Coords) (k0_t1 : Fin k0_t1_loop.trips) (v2218 : IVec S16 32) (v2220 : IVec S16 32) (k0_hw182 : k0_chk182 i k0_t1 v2218 v2220), ∀ (k0_h3 : k0_cond3 i k0_t1 = 1#1), ∀ a x, ((![v2218, v2220] : Fin 2 → IVec S16 32) a x).toNat < S32x128.size a := fun i k0_t1 v2218 v2220 k0_hw182 k0_h3 => k0_hw182 k0_h3

def k0_chk183 (i : grid0.Coords) (k0_t1 : Fin k0_t1_loop.trips) (v2230 : IVec S16 32) (v2232 : IVec S16 32) : Prop :=
  (∀ (k0_h3 : k0_cond3 i k0_t1 = 1#1), ∀ a x, ((![v2230, v2232] : Fin 2 → IVec S16 32) a x).toNat < S32x128.size a)
theorem k0_idx183_inb : ∀ (i : grid0.Coords) (k0_t1 : Fin k0_t1_loop.trips) (v2230 : IVec S16 32) (v2232 : IVec S16 32) (k0_hw183 : k0_chk183 i k0_t1 v2230 v2232), ∀ (k0_h3 : k0_cond3 i k0_t1 = 1#1), ∀ a x, ((![v2230, v2232] : Fin 2 → IVec S16 32) a x).toNat < S32x128.size a := fun i k0_t1 v2230 v2232 k0_hw183 k0_h3 => k0_hw183 k0_h3

def k0_chk184 (i : grid0.Coords) (k0_t1 : Fin k0_t1_loop.trips) (v2242 : IVec S16 32) (v2244 : IVec S16 32) : Prop :=
  (∀ (k0_h3 : k0_cond3 i k0_t1 = 1#1), ∀ a x, ((![v2242, v2244] : Fin 2 → IVec S16 32) a x).toNat < S32x128.size a)
theorem k0_idx184_inb : ∀ (i : grid0.Coords) (k0_t1 : Fin k0_t1_loop.trips) (v2242 : IVec S16 32) (v2244 : IVec S16 32) (k0_hw184 : k0_chk184 i k0_t1 v2242 v2244), ∀ (k0_h3 : k0_cond3 i k0_t1 = 1#1), ∀ a x, ((![v2242, v2244] : Fin 2 → IVec S16 32) a x).toNat < S32x128.size a := fun i k0_t1 v2242 v2244 k0_hw184 k0_h3 => k0_hw184 k0_h3

def k0_chk185 (i : grid0.Coords) (k0_t1 : Fin k0_t1_loop.trips) (v2254 : IVec S16 32) (v2256 : IVec S16 32) : Prop :=
  (∀ (k0_h3 : k0_cond3 i k0_t1 = 1#1), ∀ a x, ((![v2254, v2256] : Fin 2 → IVec S16 32) a x).toNat < S32x128.size a)
theorem k0_idx185_inb : ∀ (i : grid0.Coords) (k0_t1 : Fin k0_t1_loop.trips) (v2254 : IVec S16 32) (v2256 : IVec S16 32) (k0_hw185 : k0_chk185 i k0_t1 v2254 v2256), ∀ (k0_h3 : k0_cond3 i k0_t1 = 1#1), ∀ a x, ((![v2254, v2256] : Fin 2 → IVec S16 32) a x).toNat < S32x128.size a := fun i k0_t1 v2254 v2256 k0_hw185 k0_h3 => k0_hw185 k0_h3

def k0_chk186 (i : grid0.Coords) (k0_t1 : Fin k0_t1_loop.trips) (v2266 : IVec S16 32) (v2268 : IVec S16 32) : Prop :=
  (∀ (k0_h3 : k0_cond3 i k0_t1 = 1#1), ∀ a x, ((![v2266, v2268] : Fin 2 → IVec S16 32) a x).toNat < S32x128.size a)
theorem k0_idx186_inb : ∀ (i : grid0.Coords) (k0_t1 : Fin k0_t1_loop.trips) (v2266 : IVec S16 32) (v2268 : IVec S16 32) (k0_hw186 : k0_chk186 i k0_t1 v2266 v2268), ∀ (k0_h3 : k0_cond3 i k0_t1 = 1#1), ∀ a x, ((![v2266, v2268] : Fin 2 → IVec S16 32) a x).toNat < S32x128.size a := fun i k0_t1 v2266 v2268 k0_hw186 k0_h3 => k0_hw186 k0_h3

def k0_chk187 (i : grid0.Coords) (k0_t1 : Fin k0_t1_loop.trips) (v2278 : IVec S16 32) (v2280 : IVec S16 32) : Prop :=
  (∀ (k0_h3 : k0_cond3 i k0_t1 = 1#1), ∀ a x, ((![v2278, v2280] : Fin 2 → IVec S16 32) a x).toNat < S32x128.size a)
theorem k0_idx187_inb : ∀ (i : grid0.Coords) (k0_t1 : Fin k0_t1_loop.trips) (v2278 : IVec S16 32) (v2280 : IVec S16 32) (k0_hw187 : k0_chk187 i k0_t1 v2278 v2280), ∀ (k0_h3 : k0_cond3 i k0_t1 = 1#1), ∀ a x, ((![v2278, v2280] : Fin 2 → IVec S16 32) a x).toNat < S32x128.size a := fun i k0_t1 v2278 v2280 k0_hw187 k0_h3 => k0_hw187 k0_h3

def k0_chk188 (i : grid0.Coords) (k0_t1 : Fin k0_t1_loop.trips) (v2290 : IVec S16 32) (v2292 : IVec S16 32) : Prop :=
  (∀ (k0_h3 : k0_cond3 i k0_t1 = 1#1), ∀ a x, ((![v2290, v2292] : Fin 2 → IVec S16 32) a x).toNat < S32x128.size a)
theorem k0_idx188_inb : ∀ (i : grid0.Coords) (k0_t1 : Fin k0_t1_loop.trips) (v2290 : IVec S16 32) (v2292 : IVec S16 32) (k0_hw188 : k0_chk188 i k0_t1 v2290 v2292), ∀ (k0_h3 : k0_cond3 i k0_t1 = 1#1), ∀ a x, ((![v2290, v2292] : Fin 2 → IVec S16 32) a x).toNat < S32x128.size a := fun i k0_t1 v2290 v2292 k0_hw188 k0_h3 => k0_hw188 k0_h3

def k0_chk189 (i : grid0.Coords) (k0_t1 : Fin k0_t1_loop.trips) (v2302 : IVec S16 32) (v2304 : IVec S16 32) : Prop :=
  (∀ (k0_h3 : k0_cond3 i k0_t1 = 1#1), ∀ a x, ((![v2302, v2304] : Fin 2 → IVec S16 32) a x).toNat < S32x128.size a)
theorem k0_idx189_inb : ∀ (i : grid0.Coords) (k0_t1 : Fin k0_t1_loop.trips) (v2302 : IVec S16 32) (v2304 : IVec S16 32) (k0_hw189 : k0_chk189 i k0_t1 v2302 v2304), ∀ (k0_h3 : k0_cond3 i k0_t1 = 1#1), ∀ a x, ((![v2302, v2304] : Fin 2 → IVec S16 32) a x).toNat < S32x128.size a := fun i k0_t1 v2302 v2304 k0_hw189 k0_h3 => k0_hw189 k0_h3

def k0_chk190 (i : grid0.Coords) (k0_t1 : Fin k0_t1_loop.trips) (v2314 : IVec S16 32) (v2316 : IVec S16 32) : Prop :=
  (∀ (k0_h3 : k0_cond3 i k0_t1 = 1#1), ∀ a x, ((![v2314, v2316] : Fin 2 → IVec S16 32) a x).toNat < S32x128.size a)
theorem k0_idx190_inb : ∀ (i : grid0.Coords) (k0_t1 : Fin k0_t1_loop.trips) (v2314 : IVec S16 32) (v2316 : IVec S16 32) (k0_hw190 : k0_chk190 i k0_t1 v2314 v2316), ∀ (k0_h3 : k0_cond3 i k0_t1 = 1#1), ∀ a x, ((![v2314, v2316] : Fin 2 → IVec S16 32) a x).toNat < S32x128.size a := fun i k0_t1 v2314 v2316 k0_hw190 k0_h3 => k0_hw190 k0_h3

def k0_chk191 (i : grid0.Coords) (k0_t1 : Fin k0_t1_loop.trips) (v2326 : IVec S16 32) (v2328 : IVec S16 32) : Prop :=
  (∀ (k0_h3 : k0_cond3 i k0_t1 = 1#1), ∀ a x, ((![v2326, v2328] : Fin 2 → IVec S16 32) a x).toNat < S32x128.size a)
theorem k0_idx191_inb : ∀ (i : grid0.Coords) (k0_t1 : Fin k0_t1_loop.trips) (v2326 : IVec S16 32) (v2328 : IVec S16 32) (k0_hw191 : k0_chk191 i k0_t1 v2326 v2328), ∀ (k0_h3 : k0_cond3 i k0_t1 = 1#1), ∀ a x, ((![v2326, v2328] : Fin 2 → IVec S16 32) a x).toNat < S32x128.size a := fun i k0_t1 v2326 v2328 k0_hw191 k0_h3 => k0_hw191 k0_h3

def k0_chk192 (i : grid0.Coords) (k0_t1 : Fin k0_t1_loop.trips) (v2338 : IVec S16 32) (v2340 : IVec S16 32) : Prop :=
  (∀ (k0_h3 : k0_cond3 i k0_t1 = 1#1), ∀ a x, ((![v2338, v2340] : Fin 2 → IVec S16 32) a x).toNat < S32x128.size a)
theorem k0_idx192_inb : ∀ (i : grid0.Coords) (k0_t1 : Fin k0_t1_loop.trips) (v2338 : IVec S16 32) (v2340 : IVec S16 32) (k0_hw192 : k0_chk192 i k0_t1 v2338 v2340), ∀ (k0_h3 : k0_cond3 i k0_t1 = 1#1), ∀ a x, ((![v2338, v2340] : Fin 2 → IVec S16 32) a x).toNat < S32x128.size a := fun i k0_t1 v2338 v2340 k0_hw192 k0_h3 => k0_hw192 k0_h3

def k0_chk193 (i : grid0.Coords) (k0_t1 : Fin k0_t1_loop.trips) (v2350 : IVec S16 32) (v2352 : IVec S16 32) : Prop :=
  (∀ (k0_h3 : k0_cond3 i k0_t1 = 1#1), ∀ a x, ((![v2350, v2352] : Fin 2 → IVec S16 32) a x).toNat < S32x128.size a)
theorem k0_idx193_inb : ∀ (i : grid0.Coords) (k0_t1 : Fin k0_t1_loop.trips) (v2350 : IVec S16 32) (v2352 : IVec S16 32) (k0_hw193 : k0_chk193 i k0_t1 v2350 v2352), ∀ (k0_h3 : k0_cond3 i k0_t1 = 1#1), ∀ a x, ((![v2350, v2352] : Fin 2 → IVec S16 32) a x).toNat < S32x128.size a := fun i k0_t1 v2350 v2352 k0_hw193 k0_h3 => k0_hw193 k0_h3

def k0_chk194 (i : grid0.Coords) (k0_t1 : Fin k0_t1_loop.trips) (v2362 : IVec S16 32) (v2364 : IVec S16 32) : Prop :=
  (∀ (k0_h3 : k0_cond3 i k0_t1 = 1#1), ∀ a x, ((![v2362, v2364] : Fin 2 → IVec S16 32) a x).toNat < S32x128.size a)
theorem k0_idx194_inb : ∀ (i : grid0.Coords) (k0_t1 : Fin k0_t1_loop.trips) (v2362 : IVec S16 32) (v2364 : IVec S16 32) (k0_hw194 : k0_chk194 i k0_t1 v2362 v2364), ∀ (k0_h3 : k0_cond3 i k0_t1 = 1#1), ∀ a x, ((![v2362, v2364] : Fin 2 → IVec S16 32) a x).toNat < S32x128.size a := fun i k0_t1 v2362 v2364 k0_hw194 k0_h3 => k0_hw194 k0_h3

def k0_chk195 (i : grid0.Coords) (k0_t1 : Fin k0_t1_loop.trips) (v2374 : IVec S16 32) (v2376 : IVec S16 32) : Prop :=
  (∀ (k0_h3 : k0_cond3 i k0_t1 = 1#1), ∀ a x, ((![v2374, v2376] : Fin 2 → IVec S16 32) a x).toNat < S32x128.size a)
theorem k0_idx195_inb : ∀ (i : grid0.Coords) (k0_t1 : Fin k0_t1_loop.trips) (v2374 : IVec S16 32) (v2376 : IVec S16 32) (k0_hw195 : k0_chk195 i k0_t1 v2374 v2376), ∀ (k0_h3 : k0_cond3 i k0_t1 = 1#1), ∀ a x, ((![v2374, v2376] : Fin 2 → IVec S16 32) a x).toNat < S32x128.size a := fun i k0_t1 v2374 v2376 k0_hw195 k0_h3 => k0_hw195 k0_h3

def k0_chk196 (i : grid0.Coords) (k0_t1 : Fin k0_t1_loop.trips) (v2386 : IVec S16 32) (v2388 : IVec S16 32) : Prop :=
  (∀ (k0_h3 : k0_cond3 i k0_t1 = 1#1), ∀ a x, ((![v2386, v2388] : Fin 2 → IVec S16 32) a x).toNat < S32x128.size a)
theorem k0_idx196_inb : ∀ (i : grid0.Coords) (k0_t1 : Fin k0_t1_loop.trips) (v2386 : IVec S16 32) (v2388 : IVec S16 32) (k0_hw196 : k0_chk196 i k0_t1 v2386 v2388), ∀ (k0_h3 : k0_cond3 i k0_t1 = 1#1), ∀ a x, ((![v2386, v2388] : Fin 2 → IVec S16 32) a x).toNat < S32x128.size a := fun i k0_t1 v2386 v2388 k0_hw196 k0_h3 => k0_hw196 k0_h3

def k0_chk197 (i : grid0.Coords) (k0_t1 : Fin k0_t1_loop.trips) (v2398 : IVec S16 32) (v2400 : IVec S16 32) : Prop :=
  (∀ (k0_h3 : k0_cond3 i k0_t1 = 1#1), ∀ a x, ((![v2398, v2400] : Fin 2 → IVec S16 32) a x).toNat < S32x128.size a)
theorem k0_idx197_inb : ∀ (i : grid0.Coords) (k0_t1 : Fin k0_t1_loop.trips) (v2398 : IVec S16 32) (v2400 : IVec S16 32) (k0_hw197 : k0_chk197 i k0_t1 v2398 v2400), ∀ (k0_h3 : k0_cond3 i k0_t1 = 1#1), ∀ a x, ((![v2398, v2400] : Fin 2 → IVec S16 32) a x).toNat < S32x128.size a := fun i k0_t1 v2398 v2400 k0_hw197 k0_h3 => k0_hw197 k0_h3

def k0_chk198 (i : grid0.Coords) (k0_t1 : Fin k0_t1_loop.trips) (v2410 : IVec S16 32) (v2412 : IVec S16 32) : Prop :=
  (∀ (k0_h3 : k0_cond3 i k0_t1 = 1#1), ∀ a x, ((![v2410, v2412] : Fin 2 → IVec S16 32) a x).toNat < S32x128.size a)
theorem k0_idx198_inb : ∀ (i : grid0.Coords) (k0_t1 : Fin k0_t1_loop.trips) (v2410 : IVec S16 32) (v2412 : IVec S16 32) (k0_hw198 : k0_chk198 i k0_t1 v2410 v2412), ∀ (k0_h3 : k0_cond3 i k0_t1 = 1#1), ∀ a x, ((![v2410, v2412] : Fin 2 → IVec S16 32) a x).toNat < S32x128.size a := fun i k0_t1 v2410 v2412 k0_hw198 k0_h3 => k0_hw198 k0_h3

def k0_chk199 (i : grid0.Coords) (k0_t1 : Fin k0_t1_loop.trips) (v2422 : IVec S16 32) (v2424 : IVec S16 32) : Prop :=
  (∀ (k0_h3 : k0_cond3 i k0_t1 = 1#1), ∀ a x, ((![v2422, v2424] : Fin 2 → IVec S16 32) a x).toNat < S32x128.size a)
theorem k0_idx199_inb : ∀ (i : grid0.Coords) (k0_t1 : Fin k0_t1_loop.trips) (v2422 : IVec S16 32) (v2424 : IVec S16 32) (k0_hw199 : k0_chk199 i k0_t1 v2422 v2424), ∀ (k0_h3 : k0_cond3 i k0_t1 = 1#1), ∀ a x, ((![v2422, v2424] : Fin 2 → IVec S16 32) a x).toNat < S32x128.size a := fun i k0_t1 v2422 v2424 k0_hw199 k0_h3 => k0_hw199 k0_h3

def k0_chk200 (i : grid0.Coords) (k0_t1 : Fin k0_t1_loop.trips) (v2434 : IVec S16 32) (v2436 : IVec S16 32) : Prop :=
  (∀ (k0_h3 : k0_cond3 i k0_t1 = 1#1), ∀ a x, ((![v2434, v2436] : Fin 2 → IVec S16 32) a x).toNat < S32x128.size a)
theorem k0_idx200_inb : ∀ (i : grid0.Coords) (k0_t1 : Fin k0_t1_loop.trips) (v2434 : IVec S16 32) (v2436 : IVec S16 32) (k0_hw200 : k0_chk200 i k0_t1 v2434 v2436), ∀ (k0_h3 : k0_cond3 i k0_t1 = 1#1), ∀ a x, ((![v2434, v2436] : Fin 2 → IVec S16 32) a x).toNat < S32x128.size a := fun i k0_t1 v2434 v2436 k0_hw200 k0_h3 => k0_hw200 k0_h3

def k0_chk201 (i : grid0.Coords) (k0_t1 : Fin k0_t1_loop.trips) (v2446 : IVec S16 32) (v2448 : IVec S16 32) : Prop :=
  (∀ (k0_h3 : k0_cond3 i k0_t1 = 1#1), ∀ a x, ((![v2446, v2448] : Fin 2 → IVec S16 32) a x).toNat < S32x128.size a)
theorem k0_idx201_inb : ∀ (i : grid0.Coords) (k0_t1 : Fin k0_t1_loop.trips) (v2446 : IVec S16 32) (v2448 : IVec S16 32) (k0_hw201 : k0_chk201 i k0_t1 v2446 v2448), ∀ (k0_h3 : k0_cond3 i k0_t1 = 1#1), ∀ a x, ((![v2446, v2448] : Fin 2 → IVec S16 32) a x).toNat < S32x128.size a := fun i k0_t1 v2446 v2448 k0_hw201 k0_h3 => k0_hw201 k0_h3

def k0_chk202 (i : grid0.Coords) (k0_t1 : Fin k0_t1_loop.trips) (v2458 : IVec S16 32) (v2460 : IVec S16 32) : Prop :=
  (∀ (k0_h3 : k0_cond3 i k0_t1 = 1#1), ∀ a x, ((![v2458, v2460] : Fin 2 → IVec S16 32) a x).toNat < S32x128.size a)
theorem k0_idx202_inb : ∀ (i : grid0.Coords) (k0_t1 : Fin k0_t1_loop.trips) (v2458 : IVec S16 32) (v2460 : IVec S16 32) (k0_hw202 : k0_chk202 i k0_t1 v2458 v2460), ∀ (k0_h3 : k0_cond3 i k0_t1 = 1#1), ∀ a x, ((![v2458, v2460] : Fin 2 → IVec S16 32) a x).toNat < S32x128.size a := fun i k0_t1 v2458 v2460 k0_hw202 k0_h3 => k0_hw202 k0_h3

def k0_chk203 (i : grid0.Coords) (k0_t1 : Fin k0_t1_loop.trips) (v2470 : IVec S16 32) (v2472 : IVec S16 32) : Prop :=
  (∀ (k0_h3 : k0_cond3 i k0_t1 = 1#1), ∀ a x, ((![v2470, v2472] : Fin 2 → IVec S16 32) a x).toNat < S32x128.size a)
theorem k0_idx203_inb : ∀ (i : grid0.Coords) (k0_t1 : Fin k0_t1_loop.trips) (v2470 : IVec S16 32) (v2472 : IVec S16 32) (k0_hw203 : k0_chk203 i k0_t1 v2470 v2472), ∀ (k0_h3 : k0_cond3 i k0_t1 = 1#1), ∀ a x, ((![v2470, v2472] : Fin 2 → IVec S16 32) a x).toNat < S32x128.size a := fun i k0_t1 v2470 v2472 k0_hw203 k0_h3 => k0_hw203 k0_h3

def k0_chk204 (i : grid0.Coords) (k0_t1 : Fin k0_t1_loop.trips) (v2482 : IVec S16 32) (v2484 : IVec S16 32) : Prop :=
  (∀ (k0_h3 : k0_cond3 i k0_t1 = 1#1), ∀ a x, ((![v2482, v2484] : Fin 2 → IVec S16 32) a x).toNat < S32x128.size a)
theorem k0_idx204_inb : ∀ (i : grid0.Coords) (k0_t1 : Fin k0_t1_loop.trips) (v2482 : IVec S16 32) (v2484 : IVec S16 32) (k0_hw204 : k0_chk204 i k0_t1 v2482 v2484), ∀ (k0_h3 : k0_cond3 i k0_t1 = 1#1), ∀ a x, ((![v2482, v2484] : Fin 2 → IVec S16 32) a x).toNat < S32x128.size a := fun i k0_t1 v2482 v2484 k0_hw204 k0_h3 => k0_hw204 k0_h3

def k0_chk205 (i : grid0.Coords) (k0_t1 : Fin k0_t1_loop.trips) (v2494 : IVec S16 32) (v2496 : IVec S16 32) : Prop :=
  (∀ (k0_h3 : k0_cond3 i k0_t1 = 1#1), ∀ a x, ((![v2494, v2496] : Fin 2 → IVec S16 32) a x).toNat < S32x128.size a)
theorem k0_idx205_inb : ∀ (i : grid0.Coords) (k0_t1 : Fin k0_t1_loop.trips) (v2494 : IVec S16 32) (v2496 : IVec S16 32) (k0_hw205 : k0_chk205 i k0_t1 v2494 v2496), ∀ (k0_h3 : k0_cond3 i k0_t1 = 1#1), ∀ a x, ((![v2494, v2496] : Fin 2 → IVec S16 32) a x).toNat < S32x128.size a := fun i k0_t1 v2494 v2496 k0_hw205 k0_h3 => k0_hw205 k0_h3

def k0_chk206 (i : grid0.Coords) (k0_t1 : Fin k0_t1_loop.trips) (v2506 : IVec S16 32) (v2508 : IVec S16 32) : Prop :=
  (∀ (k0_h3 : k0_cond3 i k0_t1 = 1#1), ∀ a x, ((![v2506, v2508] : Fin 2 → IVec S16 32) a x).toNat < S32x128.size a)
theorem k0_idx206_inb : ∀ (i : grid0.Coords) (k0_t1 : Fin k0_t1_loop.trips) (v2506 : IVec S16 32) (v2508 : IVec S16 32) (k0_hw206 : k0_chk206 i k0_t1 v2506 v2508), ∀ (k0_h3 : k0_cond3 i k0_t1 = 1#1), ∀ a x, ((![v2506, v2508] : Fin 2 → IVec S16 32) a x).toNat < S32x128.size a := fun i k0_t1 v2506 v2508 k0_hw206 k0_h3 => k0_hw206 k0_h3

def k0_chk207 (i : grid0.Coords) (k0_t1 : Fin k0_t1_loop.trips) (v2518 : IVec S16 32) (v2520 : IVec S16 32) : Prop :=
  (∀ (k0_h3 : k0_cond3 i k0_t1 = 1#1), ∀ a x, ((![v2518, v2520] : Fin 2 → IVec S16 32) a x).toNat < S32x128.size a)
theorem k0_idx207_inb : ∀ (i : grid0.Coords) (k0_t1 : Fin k0_t1_loop.trips) (v2518 : IVec S16 32) (v2520 : IVec S16 32) (k0_hw207 : k0_chk207 i k0_t1 v2518 v2520), ∀ (k0_h3 : k0_cond3 i k0_t1 = 1#1), ∀ a x, ((![v2518, v2520] : Fin 2 → IVec S16 32) a x).toNat < S32x128.size a := fun i k0_t1 v2518 v2520 k0_hw207 k0_h3 => k0_hw207 k0_h3

def k0_chk208 (i : grid0.Coords) (k0_t1 : Fin k0_t1_loop.trips) (v2530 : IVec S16 32) (v2532 : IVec S16 32) : Prop :=
  (∀ (k0_h3 : k0_cond3 i k0_t1 = 1#1), ∀ a x, ((![v2530, v2532] : Fin 2 → IVec S16 32) a x).toNat < S32x128.size a)
theorem k0_idx208_inb : ∀ (i : grid0.Coords) (k0_t1 : Fin k0_t1_loop.trips) (v2530 : IVec S16 32) (v2532 : IVec S16 32) (k0_hw208 : k0_chk208 i k0_t1 v2530 v2532), ∀ (k0_h3 : k0_cond3 i k0_t1 = 1#1), ∀ a x, ((![v2530, v2532] : Fin 2 → IVec S16 32) a x).toNat < S32x128.size a := fun i k0_t1 v2530 v2532 k0_hw208 k0_h3 => k0_hw208 k0_h3

def k0_chk209 (i : grid0.Coords) (k0_t1 : Fin k0_t1_loop.trips) (v2542 : IVec S16 32) (v2544 : IVec S16 32) : Prop :=
  (∀ (k0_h3 : k0_cond3 i k0_t1 = 1#1), ∀ a x, ((![v2542, v2544] : Fin 2 → IVec S16 32) a x).toNat < S32x128.size a)
theorem k0_idx209_inb : ∀ (i : grid0.Coords) (k0_t1 : Fin k0_t1_loop.trips) (v2542 : IVec S16 32) (v2544 : IVec S16 32) (k0_hw209 : k0_chk209 i k0_t1 v2542 v2544), ∀ (k0_h3 : k0_cond3 i k0_t1 = 1#1), ∀ a x, ((![v2542, v2544] : Fin 2 → IVec S16 32) a x).toNat < S32x128.size a := fun i k0_t1 v2542 v2544 k0_hw209 k0_h3 => k0_hw209 k0_h3

def k0_chk210 (i : grid0.Coords) (k0_t1 : Fin k0_t1_loop.trips) (v2554 : IVec S16 32) (v2556 : IVec S16 32) : Prop :=
  (∀ (k0_h3 : k0_cond3 i k0_t1 = 1#1), ∀ a x, ((![v2554, v2556] : Fin 2 → IVec S16 32) a x).toNat < S32x128.size a)
theorem k0_idx210_inb : ∀ (i : grid0.Coords) (k0_t1 : Fin k0_t1_loop.trips) (v2554 : IVec S16 32) (v2556 : IVec S16 32) (k0_hw210 : k0_chk210 i k0_t1 v2554 v2556), ∀ (k0_h3 : k0_cond3 i k0_t1 = 1#1), ∀ a x, ((![v2554, v2556] : Fin 2 → IVec S16 32) a x).toNat < S32x128.size a := fun i k0_t1 v2554 v2556 k0_hw210 k0_h3 => k0_hw210 k0_h3

def k0_chk211 (i : grid0.Coords) (k0_t1 : Fin k0_t1_loop.trips) (v2566 : IVec S16 32) (v2568 : IVec S16 32) : Prop :=
  (∀ (k0_h3 : k0_cond3 i k0_t1 = 1#1), ∀ a x, ((![v2566, v2568] : Fin 2 → IVec S16 32) a x).toNat < S32x128.size a)
theorem k0_idx211_inb : ∀ (i : grid0.Coords) (k0_t1 : Fin k0_t1_loop.trips) (v2566 : IVec S16 32) (v2568 : IVec S16 32) (k0_hw211 : k0_chk211 i k0_t1 v2566 v2568), ∀ (k0_h3 : k0_cond3 i k0_t1 = 1#1), ∀ a x, ((![v2566, v2568] : Fin 2 → IVec S16 32) a x).toNat < S32x128.size a := fun i k0_t1 v2566 v2568 k0_hw211 k0_h3 => k0_hw211 k0_h3

def k0_chk212 (i : grid0.Coords) (k0_t1 : Fin k0_t1_loop.trips) (v2578 : IVec S16 32) (v2580 : IVec S16 32) : Prop :=
  (∀ (k0_h3 : k0_cond3 i k0_t1 = 1#1), ∀ a x, ((![v2578, v2580] : Fin 2 → IVec S16 32) a x).toNat < S32x128.size a)
theorem k0_idx212_inb : ∀ (i : grid0.Coords) (k0_t1 : Fin k0_t1_loop.trips) (v2578 : IVec S16 32) (v2580 : IVec S16 32) (k0_hw212 : k0_chk212 i k0_t1 v2578 v2580), ∀ (k0_h3 : k0_cond3 i k0_t1 = 1#1), ∀ a x, ((![v2578, v2580] : Fin 2 → IVec S16 32) a x).toNat < S32x128.size a := fun i k0_t1 v2578 v2580 k0_hw212 k0_h3 => k0_hw212 k0_h3

def k0_chk213 (i : grid0.Coords) (k0_t1 : Fin k0_t1_loop.trips) (v2590 : IVec S16 32) (v2592 : IVec S16 32) : Prop :=
  (∀ (k0_h3 : k0_cond3 i k0_t1 = 1#1), ∀ a x, ((![v2590, v2592] : Fin 2 → IVec S16 32) a x).toNat < S32x128.size a)
theorem k0_idx213_inb : ∀ (i : grid0.Coords) (k0_t1 : Fin k0_t1_loop.trips) (v2590 : IVec S16 32) (v2592 : IVec S16 32) (k0_hw213 : k0_chk213 i k0_t1 v2590 v2592), ∀ (k0_h3 : k0_cond3 i k0_t1 = 1#1), ∀ a x, ((![v2590, v2592] : Fin 2 → IVec S16 32) a x).toNat < S32x128.size a := fun i k0_t1 v2590 v2592 k0_hw213 k0_h3 => k0_hw213 k0_h3

def k0_chk214 (i : grid0.Coords) (k0_t1 : Fin k0_t1_loop.trips) (v2602 : IVec S16 32) (v2604 : IVec S16 32) : Prop :=
  (∀ (k0_h3 : k0_cond3 i k0_t1 = 1#1), ∀ a x, ((![v2602, v2604] : Fin 2 → IVec S16 32) a x).toNat < S32x128.size a)
theorem k0_idx214_inb : ∀ (i : grid0.Coords) (k0_t1 : Fin k0_t1_loop.trips) (v2602 : IVec S16 32) (v2604 : IVec S16 32) (k0_hw214 : k0_chk214 i k0_t1 v2602 v2604), ∀ (k0_h3 : k0_cond3 i k0_t1 = 1#1), ∀ a x, ((![v2602, v2604] : Fin 2 → IVec S16 32) a x).toNat < S32x128.size a := fun i k0_t1 v2602 v2604 k0_hw214 k0_h3 => k0_hw214 k0_h3

def k0_chk215 (i : grid0.Coords) (k0_t1 : Fin k0_t1_loop.trips) (v2614 : IVec S16 32) (v2616 : IVec S16 32) : Prop :=
  (∀ (k0_h3 : k0_cond3 i k0_t1 = 1#1), ∀ a x, ((![v2614, v2616] : Fin 2 → IVec S16 32) a x).toNat < S32x128.size a)
theorem k0_idx215_inb : ∀ (i : grid0.Coords) (k0_t1 : Fin k0_t1_loop.trips) (v2614 : IVec S16 32) (v2616 : IVec S16 32) (k0_hw215 : k0_chk215 i k0_t1 v2614 v2616), ∀ (k0_h3 : k0_cond3 i k0_t1 = 1#1), ∀ a x, ((![v2614, v2616] : Fin 2 → IVec S16 32) a x).toNat < S32x128.size a := fun i k0_t1 v2614 v2616 k0_hw215 k0_h3 => k0_hw215 k0_h3

def k0_chk216 (i : grid0.Coords) (k0_t1 : Fin k0_t1_loop.trips) (v2626 : IVec S16 32) (v2628 : IVec S16 32) : Prop :=
  (∀ (k0_h3 : k0_cond3 i k0_t1 = 1#1), ∀ a x, ((![v2626, v2628] : Fin 2 → IVec S16 32) a x).toNat < S32x128.size a)
theorem k0_idx216_inb : ∀ (i : grid0.Coords) (k0_t1 : Fin k0_t1_loop.trips) (v2626 : IVec S16 32) (v2628 : IVec S16 32) (k0_hw216 : k0_chk216 i k0_t1 v2626 v2628), ∀ (k0_h3 : k0_cond3 i k0_t1 = 1#1), ∀ a x, ((![v2626, v2628] : Fin 2 → IVec S16 32) a x).toNat < S32x128.size a := fun i k0_t1 v2626 v2628 k0_hw216 k0_h3 => k0_hw216 k0_h3

def k0_chk217 (i : grid0.Coords) (k0_t1 : Fin k0_t1_loop.trips) (v2638 : IVec S16 32) (v2640 : IVec S16 32) : Prop :=
  (∀ (k0_h3 : k0_cond3 i k0_t1 = 1#1), ∀ a x, ((![v2638, v2640] : Fin 2 → IVec S16 32) a x).toNat < S32x128.size a)
theorem k0_idx217_inb : ∀ (i : grid0.Coords) (k0_t1 : Fin k0_t1_loop.trips) (v2638 : IVec S16 32) (v2640 : IVec S16 32) (k0_hw217 : k0_chk217 i k0_t1 v2638 v2640), ∀ (k0_h3 : k0_cond3 i k0_t1 = 1#1), ∀ a x, ((![v2638, v2640] : Fin 2 → IVec S16 32) a x).toNat < S32x128.size a := fun i k0_t1 v2638 v2640 k0_hw217 k0_h3 => k0_hw217 k0_h3

def k0_chk218 (i : grid0.Coords) (k0_t1 : Fin k0_t1_loop.trips) (v2650 : IVec S16 32) (v2652 : IVec S16 32) : Prop :=
  (∀ (k0_h3 : k0_cond3 i k0_t1 = 1#1), ∀ a x, ((![v2650, v2652] : Fin 2 → IVec S16 32) a x).toNat < S32x128.size a)
theorem k0_idx218_inb : ∀ (i : grid0.Coords) (k0_t1 : Fin k0_t1_loop.trips) (v2650 : IVec S16 32) (v2652 : IVec S16 32) (k0_hw218 : k0_chk218 i k0_t1 v2650 v2652), ∀ (k0_h3 : k0_cond3 i k0_t1 = 1#1), ∀ a x, ((![v2650, v2652] : Fin 2 → IVec S16 32) a x).toNat < S32x128.size a := fun i k0_t1 v2650 v2652 k0_hw218 k0_h3 => k0_hw218 k0_h3

def k0_chk219 (i : grid0.Coords) (k0_t1 : Fin k0_t1_loop.trips) (v2662 : IVec S16 32) (v2664 : IVec S16 32) : Prop :=
  (∀ (k0_h3 : k0_cond3 i k0_t1 = 1#1), ∀ a x, ((![v2662, v2664] : Fin 2 → IVec S16 32) a x).toNat < S32x128.size a)
theorem k0_idx219_inb : ∀ (i : grid0.Coords) (k0_t1 : Fin k0_t1_loop.trips) (v2662 : IVec S16 32) (v2664 : IVec S16 32) (k0_hw219 : k0_chk219 i k0_t1 v2662 v2664), ∀ (k0_h3 : k0_cond3 i k0_t1 = 1#1), ∀ a x, ((![v2662, v2664] : Fin 2 → IVec S16 32) a x).toNat < S32x128.size a := fun i k0_t1 v2662 v2664 k0_hw219 k0_h3 => k0_hw219 k0_h3

def k0_chk220 (i : grid0.Coords) (k0_t1 : Fin k0_t1_loop.trips) (v2674 : IVec S16 32) (v2676 : IVec S16 32) : Prop :=
  (∀ (k0_h3 : k0_cond3 i k0_t1 = 1#1), ∀ a x, ((![v2674, v2676] : Fin 2 → IVec S16 32) a x).toNat < S32x128.size a)
theorem k0_idx220_inb : ∀ (i : grid0.Coords) (k0_t1 : Fin k0_t1_loop.trips) (v2674 : IVec S16 32) (v2676 : IVec S16 32) (k0_hw220 : k0_chk220 i k0_t1 v2674 v2676), ∀ (k0_h3 : k0_cond3 i k0_t1 = 1#1), ∀ a x, ((![v2674, v2676] : Fin 2 → IVec S16 32) a x).toNat < S32x128.size a := fun i k0_t1 v2674 v2676 k0_hw220 k0_h3 => k0_hw220 k0_h3

def k0_chk221 (i : grid0.Coords) (k0_t1 : Fin k0_t1_loop.trips) (v2686 : IVec S16 32) (v2688 : IVec S16 32) : Prop :=
  (∀ (k0_h3 : k0_cond3 i k0_t1 = 1#1), ∀ a x, ((![v2686, v2688] : Fin 2 → IVec S16 32) a x).toNat < S32x128.size a)
theorem k0_idx221_inb : ∀ (i : grid0.Coords) (k0_t1 : Fin k0_t1_loop.trips) (v2686 : IVec S16 32) (v2688 : IVec S16 32) (k0_hw221 : k0_chk221 i k0_t1 v2686 v2688), ∀ (k0_h3 : k0_cond3 i k0_t1 = 1#1), ∀ a x, ((![v2686, v2688] : Fin 2 → IVec S16 32) a x).toNat < S32x128.size a := fun i k0_t1 v2686 v2688 k0_hw221 k0_h3 => k0_hw221 k0_h3

def k0_chk222 (i : grid0.Coords) (k0_t1 : Fin k0_t1_loop.trips) (v2698 : IVec S16 32) (v2700 : IVec S16 32) : Prop :=
  (∀ (k0_h3 : k0_cond3 i k0_t1 = 1#1), ∀ a x, ((![v2698, v2700] : Fin 2 → IVec S16 32) a x).toNat < S32x128.size a)
theorem k0_idx222_inb : ∀ (i : grid0.Coords) (k0_t1 : Fin k0_t1_loop.trips) (v2698 : IVec S16 32) (v2700 : IVec S16 32) (k0_hw222 : k0_chk222 i k0_t1 v2698 v2700), ∀ (k0_h3 : k0_cond3 i k0_t1 = 1#1), ∀ a x, ((![v2698, v2700] : Fin 2 → IVec S16 32) a x).toNat < S32x128.size a := fun i k0_t1 v2698 v2700 k0_hw222 k0_h3 => k0_hw222 k0_h3

def k0_chk223 (i : grid0.Coords) (k0_t1 : Fin k0_t1_loop.trips) (v2710 : IVec S16 32) (v2712 : IVec S16 32) : Prop :=
  (∀ (k0_h3 : k0_cond3 i k0_t1 = 1#1), ∀ a x, ((![v2710, v2712] : Fin 2 → IVec S16 32) a x).toNat < S32x128.size a)
theorem k0_idx223_inb : ∀ (i : grid0.Coords) (k0_t1 : Fin k0_t1_loop.trips) (v2710 : IVec S16 32) (v2712 : IVec S16 32) (k0_hw223 : k0_chk223 i k0_t1 v2710 v2712), ∀ (k0_h3 : k0_cond3 i k0_t1 = 1#1), ∀ a x, ((![v2710, v2712] : Fin 2 → IVec S16 32) a x).toNat < S32x128.size a := fun i k0_t1 v2710 v2712 k0_hw223 k0_h3 => k0_hw223 k0_h3

def k0_chk224 (i : grid0.Coords) (k0_t1 : Fin k0_t1_loop.trips) (v2722 : IVec S16 32) (v2724 : IVec S16 32) : Prop :=
  (∀ (k0_h3 : k0_cond3 i k0_t1 = 1#1), ∀ a x, ((![v2722, v2724] : Fin 2 → IVec S16 32) a x).toNat < S32x128.size a)
theorem k0_idx224_inb : ∀ (i : grid0.Coords) (k0_t1 : Fin k0_t1_loop.trips) (v2722 : IVec S16 32) (v2724 : IVec S16 32) (k0_hw224 : k0_chk224 i k0_t1 v2722 v2724), ∀ (k0_h3 : k0_cond3 i k0_t1 = 1#1), ∀ a x, ((![v2722, v2724] : Fin 2 → IVec S16 32) a x).toNat < S32x128.size a := fun i k0_t1 v2722 v2724 k0_hw224 k0_h3 => k0_hw224 k0_h3

def k0_chk225 (i : grid0.Coords) (k0_t1 : Fin k0_t1_loop.trips) (v2734 : IVec S16 32) (v2736 : IVec S16 32) : Prop :=
  (∀ (k0_h3 : k0_cond3 i k0_t1 = 1#1), ∀ a x, ((![v2734, v2736] : Fin 2 → IVec S16 32) a x).toNat < S32x128.size a)
theorem k0_idx225_inb : ∀ (i : grid0.Coords) (k0_t1 : Fin k0_t1_loop.trips) (v2734 : IVec S16 32) (v2736 : IVec S16 32) (k0_hw225 : k0_chk225 i k0_t1 v2734 v2736), ∀ (k0_h3 : k0_cond3 i k0_t1 = 1#1), ∀ a x, ((![v2734, v2736] : Fin 2 → IVec S16 32) a x).toNat < S32x128.size a := fun i k0_t1 v2734 v2736 k0_hw225 k0_h3 => k0_hw225 k0_h3

def k0_chk226 (i : grid0.Coords) (k0_t1 : Fin k0_t1_loop.trips) (v2746 : IVec S16 32) (v2748 : IVec S16 32) : Prop :=
  (∀ (k0_h3 : k0_cond3 i k0_t1 = 1#1), ∀ a x, ((![v2746, v2748] : Fin 2 → IVec S16 32) a x).toNat < S32x128.size a)
theorem k0_idx226_inb : ∀ (i : grid0.Coords) (k0_t1 : Fin k0_t1_loop.trips) (v2746 : IVec S16 32) (v2748 : IVec S16 32) (k0_hw226 : k0_chk226 i k0_t1 v2746 v2748), ∀ (k0_h3 : k0_cond3 i k0_t1 = 1#1), ∀ a x, ((![v2746, v2748] : Fin 2 → IVec S16 32) a x).toNat < S32x128.size a := fun i k0_t1 v2746 v2748 k0_hw226 k0_h3 => k0_hw226 k0_h3

def k0_chk227 (i : grid0.Coords) (k0_t1 : Fin k0_t1_loop.trips) (v2758 : IVec S16 32) (v2760 : IVec S16 32) : Prop :=
  (∀ (k0_h3 : k0_cond3 i k0_t1 = 1#1), ∀ a x, ((![v2758, v2760] : Fin 2 → IVec S16 32) a x).toNat < S32x128.size a)
theorem k0_idx227_inb : ∀ (i : grid0.Coords) (k0_t1 : Fin k0_t1_loop.trips) (v2758 : IVec S16 32) (v2760 : IVec S16 32) (k0_hw227 : k0_chk227 i k0_t1 v2758 v2760), ∀ (k0_h3 : k0_cond3 i k0_t1 = 1#1), ∀ a x, ((![v2758, v2760] : Fin 2 → IVec S16 32) a x).toNat < S32x128.size a := fun i k0_t1 v2758 v2760 k0_hw227 k0_h3 => k0_hw227 k0_h3

def k0_chk228 (i : grid0.Coords) (k0_t1 : Fin k0_t1_loop.trips) (v2770 : IVec S16 32) (v2772 : IVec S16 32) : Prop :=
  (∀ (k0_h3 : k0_cond3 i k0_t1 = 1#1), ∀ a x, ((![v2770, v2772] : Fin 2 → IVec S16 32) a x).toNat < S32x128.size a)
theorem k0_idx228_inb : ∀ (i : grid0.Coords) (k0_t1 : Fin k0_t1_loop.trips) (v2770 : IVec S16 32) (v2772 : IVec S16 32) (k0_hw228 : k0_chk228 i k0_t1 v2770 v2772), ∀ (k0_h3 : k0_cond3 i k0_t1 = 1#1), ∀ a x, ((![v2770, v2772] : Fin 2 → IVec S16 32) a x).toNat < S32x128.size a := fun i k0_t1 v2770 v2772 k0_hw228 k0_h3 => k0_hw228 k0_h3

def k0_chk229 (i : grid0.Coords) (k0_t1 : Fin k0_t1_loop.trips) (v2782 : IVec S16 32) (v2784 : IVec S16 32) : Prop :=
  (∀ (k0_h3 : k0_cond3 i k0_t1 = 1#1), ∀ a x, ((![v2782, v2784] : Fin 2 → IVec S16 32) a x).toNat < S32x128.size a)
theorem k0_idx229_inb : ∀ (i : grid0.Coords) (k0_t1 : Fin k0_t1_loop.trips) (v2782 : IVec S16 32) (v2784 : IVec S16 32) (k0_hw229 : k0_chk229 i k0_t1 v2782 v2784), ∀ (k0_h3 : k0_cond3 i k0_t1 = 1#1), ∀ a x, ((![v2782, v2784] : Fin 2 → IVec S16 32) a x).toNat < S32x128.size a := fun i k0_t1 v2782 v2784 k0_hw229 k0_h3 => k0_hw229 k0_h3

def k0_chk230 (i : grid0.Coords) (k0_t1 : Fin k0_t1_loop.trips) (v2794 : IVec S16 32) (v2796 : IVec S16 32) : Prop :=
  (∀ (k0_h3 : k0_cond3 i k0_t1 = 1#1), ∀ a x, ((![v2794, v2796] : Fin 2 → IVec S16 32) a x).toNat < S32x128.size a)
theorem k0_idx230_inb : ∀ (i : grid0.Coords) (k0_t1 : Fin k0_t1_loop.trips) (v2794 : IVec S16 32) (v2796 : IVec S16 32) (k0_hw230 : k0_chk230 i k0_t1 v2794 v2796), ∀ (k0_h3 : k0_cond3 i k0_t1 = 1#1), ∀ a x, ((![v2794, v2796] : Fin 2 → IVec S16 32) a x).toNat < S32x128.size a := fun i k0_t1 v2794 v2796 k0_hw230 k0_h3 => k0_hw230 k0_h3

def k0_chk231 (i : grid0.Coords) (k0_t1 : Fin k0_t1_loop.trips) (v2806 : IVec S16 32) (v2808 : IVec S16 32) : Prop :=
  (∀ (k0_h3 : k0_cond3 i k0_t1 = 1#1), ∀ a x, ((![v2806, v2808] : Fin 2 → IVec S16 32) a x).toNat < S32x128.size a)
theorem k0_idx231_inb : ∀ (i : grid0.Coords) (k0_t1 : Fin k0_t1_loop.trips) (v2806 : IVec S16 32) (v2808 : IVec S16 32) (k0_hw231 : k0_chk231 i k0_t1 v2806 v2808), ∀ (k0_h3 : k0_cond3 i k0_t1 = 1#1), ∀ a x, ((![v2806, v2808] : Fin 2 → IVec S16 32) a x).toNat < S32x128.size a := fun i k0_t1 v2806 v2808 k0_hw231 k0_h3 => k0_hw231 k0_h3

def k0_chk232 (i : grid0.Coords) (k0_t1 : Fin k0_t1_loop.trips) (v2818 : IVec S16 32) (v2820 : IVec S16 32) : Prop :=
  (∀ (k0_h3 : k0_cond3 i k0_t1 = 1#1), ∀ a x, ((![v2818, v2820] : Fin 2 → IVec S16 32) a x).toNat < S32x128.size a)
theorem k0_idx232_inb : ∀ (i : grid0.Coords) (k0_t1 : Fin k0_t1_loop.trips) (v2818 : IVec S16 32) (v2820 : IVec S16 32) (k0_hw232 : k0_chk232 i k0_t1 v2818 v2820), ∀ (k0_h3 : k0_cond3 i k0_t1 = 1#1), ∀ a x, ((![v2818, v2820] : Fin 2 → IVec S16 32) a x).toNat < S32x128.size a := fun i k0_t1 v2818 v2820 k0_hw232 k0_h3 => k0_hw232 k0_h3

def k0_chk233 (i : grid0.Coords) (k0_t1 : Fin k0_t1_loop.trips) (v2830 : IVec S16 32) (v2832 : IVec S16 32) : Prop :=
  (∀ (k0_h3 : k0_cond3 i k0_t1 = 1#1), ∀ a x, ((![v2830, v2832] : Fin 2 → IVec S16 32) a x).toNat < S32x128.size a)
theorem k0_idx233_inb : ∀ (i : grid0.Coords) (k0_t1 : Fin k0_t1_loop.trips) (v2830 : IVec S16 32) (v2832 : IVec S16 32) (k0_hw233 : k0_chk233 i k0_t1 v2830 v2832), ∀ (k0_h3 : k0_cond3 i k0_t1 = 1#1), ∀ a x, ((![v2830, v2832] : Fin 2 → IVec S16 32) a x).toNat < S32x128.size a := fun i k0_t1 v2830 v2832 k0_hw233 k0_h3 => k0_hw233 k0_h3

def k0_chk234 (i : grid0.Coords) (k0_t1 : Fin k0_t1_loop.trips) (v2842 : IVec S16 32) (v2844 : IVec S16 32) : Prop :=
  (∀ (k0_h3 : k0_cond3 i k0_t1 = 1#1), ∀ a x, ((![v2842, v2844] : Fin 2 → IVec S16 32) a x).toNat < S32x128.size a)
theorem k0_idx234_inb : ∀ (i : grid0.Coords) (k0_t1 : Fin k0_t1_loop.trips) (v2842 : IVec S16 32) (v2844 : IVec S16 32) (k0_hw234 : k0_chk234 i k0_t1 v2842 v2844), ∀ (k0_h3 : k0_cond3 i k0_t1 = 1#1), ∀ a x, ((![v2842, v2844] : Fin 2 → IVec S16 32) a x).toNat < S32x128.size a := fun i k0_t1 v2842 v2844 k0_hw234 k0_h3 => k0_hw234 k0_h3

def k0_chk235 (i : grid0.Coords) (k0_t1 : Fin k0_t1_loop.trips) (v2854 : IVec S16 32) (v2856 : IVec S16 32) : Prop :=
  (∀ (k0_h3 : k0_cond3 i k0_t1 = 1#1), ∀ a x, ((![v2854, v2856] : Fin 2 → IVec S16 32) a x).toNat < S32x128.size a)
theorem k0_idx235_inb : ∀ (i : grid0.Coords) (k0_t1 : Fin k0_t1_loop.trips) (v2854 : IVec S16 32) (v2856 : IVec S16 32) (k0_hw235 : k0_chk235 i k0_t1 v2854 v2856), ∀ (k0_h3 : k0_cond3 i k0_t1 = 1#1), ∀ a x, ((![v2854, v2856] : Fin 2 → IVec S16 32) a x).toNat < S32x128.size a := fun i k0_t1 v2854 v2856 k0_hw235 k0_h3 => k0_hw235 k0_h3

def k0_chk236 (i : grid0.Coords) (k0_t1 : Fin k0_t1_loop.trips) (v2866 : IVec S16 32) (v2868 : IVec S16 32) : Prop :=
  (∀ (k0_h3 : k0_cond3 i k0_t1 = 1#1), ∀ a x, ((![v2866, v2868] : Fin 2 → IVec S16 32) a x).toNat < S32x128.size a)
theorem k0_idx236_inb : ∀ (i : grid0.Coords) (k0_t1 : Fin k0_t1_loop.trips) (v2866 : IVec S16 32) (v2868 : IVec S16 32) (k0_hw236 : k0_chk236 i k0_t1 v2866 v2868), ∀ (k0_h3 : k0_cond3 i k0_t1 = 1#1), ∀ a x, ((![v2866, v2868] : Fin 2 → IVec S16 32) a x).toNat < S32x128.size a := fun i k0_t1 v2866 v2868 k0_hw236 k0_h3 => k0_hw236 k0_h3

def k0_chk237 (i : grid0.Coords) (k0_t1 : Fin k0_t1_loop.trips) (v2878 : IVec S16 32) (v2880 : IVec S16 32) : Prop :=
  (∀ (k0_h3 : k0_cond3 i k0_t1 = 1#1), ∀ a x, ((![v2878, v2880] : Fin 2 → IVec S16 32) a x).toNat < S32x128.size a)
theorem k0_idx237_inb : ∀ (i : grid0.Coords) (k0_t1 : Fin k0_t1_loop.trips) (v2878 : IVec S16 32) (v2880 : IVec S16 32) (k0_hw237 : k0_chk237 i k0_t1 v2878 v2880), ∀ (k0_h3 : k0_cond3 i k0_t1 = 1#1), ∀ a x, ((![v2878, v2880] : Fin 2 → IVec S16 32) a x).toNat < S32x128.size a := fun i k0_t1 v2878 v2880 k0_hw237 k0_h3 => k0_hw237 k0_h3

def k0_chk238 (i : grid0.Coords) (k0_t1 : Fin k0_t1_loop.trips) (v2890 : IVec S16 32) (v2892 : IVec S16 32) : Prop :=
  (∀ (k0_h3 : k0_cond3 i k0_t1 = 1#1), ∀ a x, ((![v2890, v2892] : Fin 2 → IVec S16 32) a x).toNat < S32x128.size a)
theorem k0_idx238_inb : ∀ (i : grid0.Coords) (k0_t1 : Fin k0_t1_loop.trips) (v2890 : IVec S16 32) (v2892 : IVec S16 32) (k0_hw238 : k0_chk238 i k0_t1 v2890 v2892), ∀ (k0_h3 : k0_cond3 i k0_t1 = 1#1), ∀ a x, ((![v2890, v2892] : Fin 2 → IVec S16 32) a x).toNat < S32x128.size a := fun i k0_t1 v2890 v2892 k0_hw238 k0_h3 => k0_hw238 k0_h3

def k0_chk239 (i : grid0.Coords) (k0_t1 : Fin k0_t1_loop.trips) (v2902 : IVec S16 32) (v2904 : IVec S16 32) : Prop :=
  (∀ (k0_h3 : k0_cond3 i k0_t1 = 1#1), ∀ a x, ((![v2902, v2904] : Fin 2 → IVec S16 32) a x).toNat < S32x128.size a)
theorem k0_idx239_inb : ∀ (i : grid0.Coords) (k0_t1 : Fin k0_t1_loop.trips) (v2902 : IVec S16 32) (v2904 : IVec S16 32) (k0_hw239 : k0_chk239 i k0_t1 v2902 v2904), ∀ (k0_h3 : k0_cond3 i k0_t1 = 1#1), ∀ a x, ((![v2902, v2904] : Fin 2 → IVec S16 32) a x).toNat < S32x128.size a := fun i k0_t1 v2902 v2904 k0_hw239 k0_h3 => k0_hw239 k0_h3

def k0_chk240 (i : grid0.Coords) (k0_t1 : Fin k0_t1_loop.trips) (v2914 : IVec S16 32) (v2916 : IVec S16 32) : Prop :=
  (∀ (k0_h3 : k0_cond3 i k0_t1 = 1#1), ∀ a x, ((![v2914, v2916] : Fin 2 → IVec S16 32) a x).toNat < S32x128.size a)
theorem k0_idx240_inb : ∀ (i : grid0.Coords) (k0_t1 : Fin k0_t1_loop.trips) (v2914 : IVec S16 32) (v2916 : IVec S16 32) (k0_hw240 : k0_chk240 i k0_t1 v2914 v2916), ∀ (k0_h3 : k0_cond3 i k0_t1 = 1#1), ∀ a x, ((![v2914, v2916] : Fin 2 → IVec S16 32) a x).toNat < S32x128.size a := fun i k0_t1 v2914 v2916 k0_hw240 k0_h3 => k0_hw240 k0_h3

def k0_chk241 (i : grid0.Coords) (k0_t1 : Fin k0_t1_loop.trips) (v2926 : IVec S16 32) (v2928 : IVec S16 32) : Prop :=
  (∀ (k0_h3 : k0_cond3 i k0_t1 = 1#1), ∀ a x, ((![v2926, v2928] : Fin 2 → IVec S16 32) a x).toNat < S32x128.size a)
theorem k0_idx241_inb : ∀ (i : grid0.Coords) (k0_t1 : Fin k0_t1_loop.trips) (v2926 : IVec S16 32) (v2928 : IVec S16 32) (k0_hw241 : k0_chk241 i k0_t1 v2926 v2928), ∀ (k0_h3 : k0_cond3 i k0_t1 = 1#1), ∀ a x, ((![v2926, v2928] : Fin 2 → IVec S16 32) a x).toNat < S32x128.size a := fun i k0_t1 v2926 v2928 k0_hw241 k0_h3 => k0_hw241 k0_h3

def k0_chk242 (i : grid0.Coords) (k0_t1 : Fin k0_t1_loop.trips) (v2938 : IVec S16 32) (v2940 : IVec S16 32) : Prop :=
  (∀ (k0_h3 : k0_cond3 i k0_t1 = 1#1), ∀ a x, ((![v2938, v2940] : Fin 2 → IVec S16 32) a x).toNat < S32x128.size a)
theorem k0_idx242_inb : ∀ (i : grid0.Coords) (k0_t1 : Fin k0_t1_loop.trips) (v2938 : IVec S16 32) (v2940 : IVec S16 32) (k0_hw242 : k0_chk242 i k0_t1 v2938 v2940), ∀ (k0_h3 : k0_cond3 i k0_t1 = 1#1), ∀ a x, ((![v2938, v2940] : Fin 2 → IVec S16 32) a x).toNat < S32x128.size a := fun i k0_t1 v2938 v2940 k0_hw242 k0_h3 => k0_hw242 k0_h3

def k0_chk243 (i : grid0.Coords) (k0_t1 : Fin k0_t1_loop.trips) (v2950 : IVec S16 32) (v2952 : IVec S16 32) : Prop :=
  (∀ (k0_h3 : k0_cond3 i k0_t1 = 1#1), ∀ a x, ((![v2950, v2952] : Fin 2 → IVec S16 32) a x).toNat < S32x128.size a)
theorem k0_idx243_inb : ∀ (i : grid0.Coords) (k0_t1 : Fin k0_t1_loop.trips) (v2950 : IVec S16 32) (v2952 : IVec S16 32) (k0_hw243 : k0_chk243 i k0_t1 v2950 v2952), ∀ (k0_h3 : k0_cond3 i k0_t1 = 1#1), ∀ a x, ((![v2950, v2952] : Fin 2 → IVec S16 32) a x).toNat < S32x128.size a := fun i k0_t1 v2950 v2952 k0_hw243 k0_h3 => k0_hw243 k0_h3

def k0_chk244 (i : grid0.Coords) (k0_t1 : Fin k0_t1_loop.trips) (v2962 : IVec S16 32) (v2964 : IVec S16 32) : Prop :=
  (∀ (k0_h3 : k0_cond3 i k0_t1 = 1#1), ∀ a x, ((![v2962, v2964] : Fin 2 → IVec S16 32) a x).toNat < S32x128.size a)
theorem k0_idx244_inb : ∀ (i : grid0.Coords) (k0_t1 : Fin k0_t1_loop.trips) (v2962 : IVec S16 32) (v2964 : IVec S16 32) (k0_hw244 : k0_chk244 i k0_t1 v2962 v2964), ∀ (k0_h3 : k0_cond3 i k0_t1 = 1#1), ∀ a x, ((![v2962, v2964] : Fin 2 → IVec S16 32) a x).toNat < S32x128.size a := fun i k0_t1 v2962 v2964 k0_hw244 k0_h3 => k0_hw244 k0_h3

def k0_chk245 (i : grid0.Coords) (k0_t1 : Fin k0_t1_loop.trips) (v2974 : IVec S16 32) (v2976 : IVec S16 32) : Prop :=
  (∀ (k0_h3 : k0_cond3 i k0_t1 = 1#1), ∀ a x, ((![v2974, v2976] : Fin 2 → IVec S16 32) a x).toNat < S32x128.size a)
theorem k0_idx245_inb : ∀ (i : grid0.Coords) (k0_t1 : Fin k0_t1_loop.trips) (v2974 : IVec S16 32) (v2976 : IVec S16 32) (k0_hw245 : k0_chk245 i k0_t1 v2974 v2976), ∀ (k0_h3 : k0_cond3 i k0_t1 = 1#1), ∀ a x, ((![v2974, v2976] : Fin 2 → IVec S16 32) a x).toNat < S32x128.size a := fun i k0_t1 v2974 v2976 k0_hw245 k0_h3 => k0_hw245 k0_h3

def k0_chk246 (i : grid0.Coords) (k0_t1 : Fin k0_t1_loop.trips) (v2986 : IVec S16 32) (v2988 : IVec S16 32) : Prop :=
  (∀ (k0_h3 : k0_cond3 i k0_t1 = 1#1), ∀ a x, ((![v2986, v2988] : Fin 2 → IVec S16 32) a x).toNat < S32x128.size a)
theorem k0_idx246_inb : ∀ (i : grid0.Coords) (k0_t1 : Fin k0_t1_loop.trips) (v2986 : IVec S16 32) (v2988 : IVec S16 32) (k0_hw246 : k0_chk246 i k0_t1 v2986 v2988), ∀ (k0_h3 : k0_cond3 i k0_t1 = 1#1), ∀ a x, ((![v2986, v2988] : Fin 2 → IVec S16 32) a x).toNat < S32x128.size a := fun i k0_t1 v2986 v2988 k0_hw246 k0_h3 => k0_hw246 k0_h3

def k0_chk247 (i : grid0.Coords) (k0_t1 : Fin k0_t1_loop.trips) (v2998 : IVec S16 32) (v3000 : IVec S16 32) : Prop :=
  (∀ (k0_h3 : k0_cond3 i k0_t1 = 1#1), ∀ a x, ((![v2998, v3000] : Fin 2 → IVec S16 32) a x).toNat < S32x128.size a)
theorem k0_idx247_inb : ∀ (i : grid0.Coords) (k0_t1 : Fin k0_t1_loop.trips) (v2998 : IVec S16 32) (v3000 : IVec S16 32) (k0_hw247 : k0_chk247 i k0_t1 v2998 v3000), ∀ (k0_h3 : k0_cond3 i k0_t1 = 1#1), ∀ a x, ((![v2998, v3000] : Fin 2 → IVec S16 32) a x).toNat < S32x128.size a := fun i k0_t1 v2998 v3000 k0_hw247 k0_h3 => k0_hw247 k0_h3

def k0_chk248 (i : grid0.Coords) (k0_t1 : Fin k0_t1_loop.trips) (v3010 : IVec S16 32) (v3012 : IVec S16 32) : Prop :=
  (∀ (k0_h3 : k0_cond3 i k0_t1 = 1#1), ∀ a x, ((![v3010, v3012] : Fin 2 → IVec S16 32) a x).toNat < S32x128.size a)
theorem k0_idx248_inb : ∀ (i : grid0.Coords) (k0_t1 : Fin k0_t1_loop.trips) (v3010 : IVec S16 32) (v3012 : IVec S16 32) (k0_hw248 : k0_chk248 i k0_t1 v3010 v3012), ∀ (k0_h3 : k0_cond3 i k0_t1 = 1#1), ∀ a x, ((![v3010, v3012] : Fin 2 → IVec S16 32) a x).toNat < S32x128.size a := fun i k0_t1 v3010 v3012 k0_hw248 k0_h3 => k0_hw248 k0_h3

def k0_chk249 (i : grid0.Coords) (k0_t1 : Fin k0_t1_loop.trips) (v3022 : IVec S16 32) (v3024 : IVec S16 32) : Prop :=
  (∀ (k0_h3 : k0_cond3 i k0_t1 = 1#1), ∀ a x, ((![v3022, v3024] : Fin 2 → IVec S16 32) a x).toNat < S32x128.size a)
theorem k0_idx249_inb : ∀ (i : grid0.Coords) (k0_t1 : Fin k0_t1_loop.trips) (v3022 : IVec S16 32) (v3024 : IVec S16 32) (k0_hw249 : k0_chk249 i k0_t1 v3022 v3024), ∀ (k0_h3 : k0_cond3 i k0_t1 = 1#1), ∀ a x, ((![v3022, v3024] : Fin 2 → IVec S16 32) a x).toNat < S32x128.size a := fun i k0_t1 v3022 v3024 k0_hw249 k0_h3 => k0_hw249 k0_h3

def k0_chk250 (i : grid0.Coords) (k0_t1 : Fin k0_t1_loop.trips) (v3034 : IVec S16 32) (v3036 : IVec S16 32) : Prop :=
  (∀ (k0_h3 : k0_cond3 i k0_t1 = 1#1), ∀ a x, ((![v3034, v3036] : Fin 2 → IVec S16 32) a x).toNat < S32x128.size a)
theorem k0_idx250_inb : ∀ (i : grid0.Coords) (k0_t1 : Fin k0_t1_loop.trips) (v3034 : IVec S16 32) (v3036 : IVec S16 32) (k0_hw250 : k0_chk250 i k0_t1 v3034 v3036), ∀ (k0_h3 : k0_cond3 i k0_t1 = 1#1), ∀ a x, ((![v3034, v3036] : Fin 2 → IVec S16 32) a x).toNat < S32x128.size a := fun i k0_t1 v3034 v3036 k0_hw250 k0_h3 => k0_hw250 k0_h3

def k0_chk251 (i : grid0.Coords) (k0_t1 : Fin k0_t1_loop.trips) (v3046 : IVec S16 32) (v3048 : IVec S16 32) : Prop :=
  (∀ (k0_h3 : k0_cond3 i k0_t1 = 1#1), ∀ a x, ((![v3046, v3048] : Fin 2 → IVec S16 32) a x).toNat < S32x128.size a)
theorem k0_idx251_inb : ∀ (i : grid0.Coords) (k0_t1 : Fin k0_t1_loop.trips) (v3046 : IVec S16 32) (v3048 : IVec S16 32) (k0_hw251 : k0_chk251 i k0_t1 v3046 v3048), ∀ (k0_h3 : k0_cond3 i k0_t1 = 1#1), ∀ a x, ((![v3046, v3048] : Fin 2 → IVec S16 32) a x).toNat < S32x128.size a := fun i k0_t1 v3046 v3048 k0_hw251 k0_h3 => k0_hw251 k0_h3

def k0_chk252 (i : grid0.Coords) (k0_t1 : Fin k0_t1_loop.trips) (v3058 : IVec S16 32) (v3060 : IVec S16 32) : Prop :=
  (∀ (k0_h3 : k0_cond3 i k0_t1 = 1#1), ∀ a x, ((![v3058, v3060] : Fin 2 → IVec S16 32) a x).toNat < S32x128.size a)
theorem k0_idx252_inb : ∀ (i : grid0.Coords) (k0_t1 : Fin k0_t1_loop.trips) (v3058 : IVec S16 32) (v3060 : IVec S16 32) (k0_hw252 : k0_chk252 i k0_t1 v3058 v3060), ∀ (k0_h3 : k0_cond3 i k0_t1 = 1#1), ∀ a x, ((![v3058, v3060] : Fin 2 → IVec S16 32) a x).toNat < S32x128.size a := fun i k0_t1 v3058 v3060 k0_hw252 k0_h3 => k0_hw252 k0_h3

def k0_chk253 (i : grid0.Coords) (k0_t1 : Fin k0_t1_loop.trips) (v3070 : IVec S16 32) (v3072 : IVec S16 32) : Prop :=
  (∀ (k0_h3 : k0_cond3 i k0_t1 = 1#1), ∀ a x, ((![v3070, v3072] : Fin 2 → IVec S16 32) a x).toNat < S32x128.size a)
theorem k0_idx253_inb : ∀ (i : grid0.Coords) (k0_t1 : Fin k0_t1_loop.trips) (v3070 : IVec S16 32) (v3072 : IVec S16 32) (k0_hw253 : k0_chk253 i k0_t1 v3070 v3072), ∀ (k0_h3 : k0_cond3 i k0_t1 = 1#1), ∀ a x, ((![v3070, v3072] : Fin 2 → IVec S16 32) a x).toNat < S32x128.size a := fun i k0_t1 v3070 v3072 k0_hw253 k0_h3 => k0_hw253 k0_h3

def k0_chk254 (i : grid0.Coords) (k0_t1 : Fin k0_t1_loop.trips) (v3082 : IVec S16 32) (v3084 : IVec S16 32) : Prop :=
  (∀ (k0_h3 : k0_cond3 i k0_t1 = 1#1), ∀ a x, ((![v3082, v3084] : Fin 2 → IVec S16 32) a x).toNat < S32x128.size a)
theorem k0_idx254_inb : ∀ (i : grid0.Coords) (k0_t1 : Fin k0_t1_loop.trips) (v3082 : IVec S16 32) (v3084 : IVec S16 32) (k0_hw254 : k0_chk254 i k0_t1 v3082 v3084), ∀ (k0_h3 : k0_cond3 i k0_t1 = 1#1), ∀ a x, ((![v3082, v3084] : Fin 2 → IVec S16 32) a x).toNat < S32x128.size a := fun i k0_t1 v3082 v3084 k0_hw254 k0_h3 => k0_hw254 k0_h3

def k0_chk255 (i : grid0.Coords) (k0_t1 : Fin k0_t1_loop.trips) (v3094 : IVec S16 32) (v3096 : IVec S16 32) : Prop :=
  (∀ (k0_h3 : k0_cond3 i k0_t1 = 1#1), ∀ a x, ((![v3094, v3096] : Fin 2 → IVec S16 32) a x).toNat < S32x128.size a)
theorem k0_idx255_inb : ∀ (i : grid0.Coords) (k0_t1 : Fin k0_t1_loop.trips) (v3094 : IVec S16 32) (v3096 : IVec S16 32) (k0_hw255 : k0_chk255 i k0_t1 v3094 v3096), ∀ (k0_h3 : k0_cond3 i k0_t1 = 1#1), ∀ a x, ((![v3094, v3096] : Fin 2 → IVec S16 32) a x).toNat < S32x128.size a := fun i k0_t1 v3094 v3096 k0_hw255 k0_h3 => k0_hw255 k0_h3

def k0_chk256 (i : grid0.Coords) (k0_t1 : Fin k0_t1_loop.trips) (v3106 : IVec S16 32) (v3108 : IVec S16 32) : Prop :=
  (∀ (k0_h3 : k0_cond3 i k0_t1 = 1#1), ∀ a x, ((![v3106, v3108] : Fin 2 → IVec S16 32) a x).toNat < S32x128.size a)
theorem k0_idx256_inb : ∀ (i : grid0.Coords) (k0_t1 : Fin k0_t1_loop.trips) (v3106 : IVec S16 32) (v3108 : IVec S16 32) (k0_hw256 : k0_chk256 i k0_t1 v3106 v3108), ∀ (k0_h3 : k0_cond3 i k0_t1 = 1#1), ∀ a x, ((![v3106, v3108] : Fin 2 → IVec S16 32) a x).toNat < S32x128.size a := fun i k0_t1 v3106 v3108 k0_hw256 k0_h3 => k0_hw256 k0_h3
def k0_mult4 (i : grid0.Coords) (k0_t1 : Fin k0_t1_loop.trips) : BitVec 32 :=
  let c0_i32_1784 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c1_i32 : BitVec 32 := 1#32
  let arg10 : BitVec 32 := Scf.iv c0_i32_1 c1_i32 k0_t1
  let c2_i32_7 : BitVec 32 := 2#32
  let v10 : BitVec 32 := Scalar.muli arg10 c2_i32_7
  let c0_i32_8 : BitVec 32 := 0#32
  let v11 : BitVec 32 := Scalar.addi v10 c0_i32_8
  let c32_i32 : BitVec 32 := 32#32
  let v12 : BitVec 32 := Scalar.muli v11 c32_i32
  let v13 : BitVec 32 := Scalar.addi v1 v12
  let c128_i32_25 : BitVec 32 := 128#32
  let v36 : BitVec 32 := Scalar.muli v13 c128_i32_25
  let c32_i32_1776 : BitVec 32 := 32#32
  let v3109 : BitVec 32 := Scalar.muli v36 c32_i32_1776
  let c0_i32_1778 : BitVec 32 := 0#32
  let v3111 : BitVec 1 := Scalar.cmpi .sgt v3109 c0_i32_1778
  let v3112 : BitVec 32 := Scalar.extui v3111
  let c0_i32_1779 : BitVec 32 := 0#32
  let v3113 : BitVec 1 := Scalar.cmpi .slt v3109 c0_i32_1779
  let v3114 : BitVec 32 := Scalar.extui v3113
  let v3115 : BitVec 32 := Scalar.subi v3112 v3114
  let c128_i32_1777 : BitVec 32 := 128#32
  let c0_i32_1780 : BitVec 32 := 0#32
  let v3116 : BitVec 1 := Scalar.cmpi .sgt c128_i32_1777 c0_i32_1780
  let v3117 : BitVec 32 := Scalar.extui v3116
  let c0_i32_1781 : BitVec 32 := 0#32
  let v3118 : BitVec 1 := Scalar.cmpi .slt c128_i32_1777 c0_i32_1781
  let v3119 : BitVec 32 := Scalar.extui v3118
  let v3120 : BitVec 32 := Scalar.subi v3117 v3119
  let v3121 : BitVec 1 := Scalar.cmpi .ne v3115 v3120
  let v3122 : BitVec 32 := Scalar.remsi v3109 c128_i32_1777
  let c0_i32_1782 : BitVec 32 := 0#32
  let v3123 : BitVec 1 := Scalar.cmpi .ne v3122 c0_i32_1782
  let v3124 : BitVec 1 := Scalar.andi v3121 v3123
  let v3110 : BitVec 32 := Scalar.divsi v3109 c128_i32_1777
  let c1_i32_1783 : BitVec 32 := 1#32
  let v3125 : BitVec 32 := Scalar.subi v3110 c1_i32_1783
  let v3126 : BitVec 32 := Scalar.select v3124 v3125 v3110
  let v3127 : BitVec 32 := Scalar.addi c0_i32_1784 v3126
  v3127
def k0_off4 (i : grid0.Coords) (k0_t1 : Fin k0_t1_loop.trips) : Fin 2 → Nat :=
  let c0_i32_1784 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c1_i32 : BitVec 32 := 1#32
  let arg10 : BitVec 32 := Scf.iv c0_i32_1 c1_i32 k0_t1
  let c2_i32_7 : BitVec 32 := 2#32
  let v10 : BitVec 32 := Scalar.muli arg10 c2_i32_7
  let c0_i32_8 : BitVec 32 := 0#32
  let v11 : BitVec 32 := Scalar.addi v10 c0_i32_8
  let c32_i32 : BitVec 32 := 32#32
  let v12 : BitVec 32 := Scalar.muli v11 c32_i32
  let v13 : BitVec 32 := Scalar.addi v1 v12
  let c128_i32_25 : BitVec 32 := 128#32
  let v36 : BitVec 32 := Scalar.muli v13 c128_i32_25
  let c32_i32_1776 : BitVec 32 := 32#32
  let v3109 : BitVec 32 := Scalar.muli v36 c32_i32_1776
  let c0_i32_1778 : BitVec 32 := 0#32
  let v3111 : BitVec 1 := Scalar.cmpi .sgt v3109 c0_i32_1778
  let v3112 : BitVec 32 := Scalar.extui v3111
  let c0_i32_1779 : BitVec 32 := 0#32
  let v3113 : BitVec 1 := Scalar.cmpi .slt v3109 c0_i32_1779
  let v3114 : BitVec 32 := Scalar.extui v3113
  let v3115 : BitVec 32 := Scalar.subi v3112 v3114
  let c128_i32_1777 : BitVec 32 := 128#32
  let c0_i32_1780 : BitVec 32 := 0#32
  let v3116 : BitVec 1 := Scalar.cmpi .sgt c128_i32_1777 c0_i32_1780
  let v3117 : BitVec 32 := Scalar.extui v3116
  let c0_i32_1781 : BitVec 32 := 0#32
  let v3118 : BitVec 1 := Scalar.cmpi .slt c128_i32_1777 c0_i32_1781
  let v3119 : BitVec 32 := Scalar.extui v3118
  let v3120 : BitVec 32 := Scalar.subi v3117 v3119
  let v3121 : BitVec 1 := Scalar.cmpi .ne v3115 v3120
  let v3122 : BitVec 32 := Scalar.remsi v3109 c128_i32_1777
  let c0_i32_1782 : BitVec 32 := 0#32
  let v3123 : BitVec 1 := Scalar.cmpi .ne v3122 c0_i32_1782
  let v3124 : BitVec 1 := Scalar.andi v3121 v3123
  let v3110 : BitVec 32 := Scalar.divsi v3109 c128_i32_1777
  let c1_i32_1783 : BitVec 32 := 1#32
  let v3125 : BitVec 32 := Scalar.subi v3110 c1_i32_1783
  let v3126 : BitVec 32 := Scalar.select v3124 v3125 v3110
  let v3127 : BitVec 32 := Scalar.addi c0_i32_1784 v3126
  let v3128 : BitVec 32 := v3127
  let c0_i32_1785_r0 : BitVec 32 := 0#32
  ![v3128.toNat, 0]
def k0_cond4 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c1_i32 : BitVec 32 := 1#32
  let arg10 : BitVec 32 := Scf.iv c0_i32_1 c1_i32 k0_t1
  let c2_i32_14 : BitVec 32 := 2#32
  let v21 : BitVec 32 := Scalar.muli arg10 c2_i32_14
  let c1_i32_15 : BitVec 32 := 1#32
  let v22 : BitVec 32 := Scalar.addi v21 c1_i32_15
  let c32_i32_16 : BitVec 32 := 32#32
  let v23 : BitVec 32 := Scalar.muli v22 c32_i32_16
  let v24 : BitVec 32 := Scalar.addi v1 v23
  let c32_i32_17 : BitVec 32 := 32#32
  let v25 : BitVec 32 := Scalar.addi v24 c32_i32_17
  let c7734_i32_18 : BitVec 32 := 7734#32
  let v26 : BitVec 1 := Scalar.cmpi .slt v25 c7734_i32_18
  let v27 : BitVec 32 := Scalar.extui v26
  let c0_i32_19 : BitVec 32 := 0#32
  let v28 : BitVec 1 := Scalar.cmpi .ne v27 c0_i32_19
  v28

def k0_mult5 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c1_i32 : BitVec 32 := 1#32
  let arg10 : BitVec 32 := Scf.iv c0_i32_1 c1_i32 k0_t1
  let c2_i32_14 : BitVec 32 := 2#32
  let v21 : BitVec 32 := Scalar.muli arg10 c2_i32_14
  let c1_i32_15 : BitVec 32 := 1#32
  let v22 : BitVec 32 := Scalar.addi v21 c1_i32_15
  let c32_i32_16 : BitVec 32 := 32#32
  let v23 : BitVec 32 := Scalar.muli v22 c32_i32_16
  let v24 : BitVec 32 := Scalar.addi v1 v23
  let c32_i32_23 : BitVec 32 := 32#32
  let v32 : BitVec 32 := Scalar.addi v24 c32_i32_23
  let c128_i32 : BitVec 32 := 128#32
  let v33 : BitVec 32 := Scalar.muli v32 c128_i32
  v33
def k0_off5 (i : grid0.Coords) (k0_t1 : Fin k0_t1_loop.trips) : Fin 2 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c1_i32 : BitVec 32 := 1#32
  let arg10 : BitVec 32 := Scf.iv c0_i32_1 c1_i32 k0_t1
  let c2_i32_14 : BitVec 32 := 2#32
  let v21 : BitVec 32 := Scalar.muli arg10 c2_i32_14
  let c1_i32_15 : BitVec 32 := 1#32
  let v22 : BitVec 32 := Scalar.addi v21 c1_i32_15
  let c32_i32_16 : BitVec 32 := 32#32
  let v23 : BitVec 32 := Scalar.muli v22 c32_i32_16
  let v24 : BitVec 32 := Scalar.addi v1 v23
  let c32_i32_23 : BitVec 32 := 32#32
  let v32 : BitVec 32 := Scalar.addi v24 c32_i32_23
  let c128_i32 : BitVec 32 := 128#32
  let v33 : BitVec 32 := Scalar.muli v32 c128_i32
  let v34 : BitVec 32 := v33
  ![0, v34.toNat]
def k0_cond5 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c1_i32 : BitVec 32 := 1#32
  let arg10 : BitVec 32 := Scf.iv c0_i32_1 c1_i32 k0_t1
  let c2_i32_14 : BitVec 32 := 2#32
  let v21 : BitVec 32 := Scalar.muli arg10 c2_i32_14
  let c1_i32_15 : BitVec 32 := 1#32
  let v22 : BitVec 32 := Scalar.addi v21 c1_i32_15
  let c32_i32_16 : BitVec 32 := 32#32
  let v23 : BitVec 32 := Scalar.muli v22 c32_i32_16
  let v24 : BitVec 32 := Scalar.addi v1 v23
  let c7734_i32_20 : BitVec 32 := 7734#32
  let v29 : BitVec 1 := Scalar.cmpi .slt v24 c7734_i32_20
  let v30 : BitVec 32 := Scalar.extui v29
  let c0_i32_21 : BitVec 32 := 0#32
  let v31 : BitVec 1 := Scalar.cmpi .ne v30 c0_i32_21
  v31

def k0_mult6 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c1_i32 : BitVec 32 := 1#32
  let arg10 : BitVec 32 := Scf.iv c0_i32_1 c1_i32 k0_t1
  let c2_i32_14 : BitVec 32 := 2#32
  let v21 : BitVec 32 := Scalar.muli arg10 c2_i32_14
  let c1_i32_15 : BitVec 32 := 1#32
  let v22 : BitVec 32 := Scalar.addi v21 c1_i32_15
  let c32_i32_16 : BitVec 32 := 32#32
  let v23 : BitVec 32 := Scalar.muli v22 c32_i32_16
  let v24 : BitVec 32 := Scalar.addi v1 v23
  let c128_i32 : BitVec 32 := 128#32
  let v32 : BitVec 32 := Scalar.muli v24 c128_i32
  v32
def k0_off6 (i : grid0.Coords) (k0_t1 : Fin k0_t1_loop.trips) : Fin 2 → Nat :=
  let c0_i32_23 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c1_i32 : BitVec 32 := 1#32
  let arg10 : BitVec 32 := Scf.iv c0_i32_1 c1_i32 k0_t1
  let c2_i32_14 : BitVec 32 := 2#32
  let v21 : BitVec 32 := Scalar.muli arg10 c2_i32_14
  let c1_i32_15 : BitVec 32 := 1#32
  let v22 : BitVec 32 := Scalar.addi v21 c1_i32_15
  let c32_i32_16 : BitVec 32 := 32#32
  let v23 : BitVec 32 := Scalar.muli v22 c32_i32_16
  let v24 : BitVec 32 := Scalar.addi v1 v23
  let c128_i32 : BitVec 32 := 128#32
  let v32 : BitVec 32 := Scalar.muli v24 c128_i32
  let v33 : BitVec 32 := v32
  ![0, v33.toNat]

def k0_chk257 (i : grid0.Coords) (k0_t1 : Fin k0_t1_loop.trips) (v46 : IVec S16 32) (v48 : IVec S16 32) : Prop :=
  (∀ (k0_h5 : k0_cond5 i k0_t1 = 1#1), ∀ a x, ((![v46, v48] : Fin 2 → IVec S16 32) a x).toNat < S32x128.size a)
theorem k0_idx257_inb : ∀ (i : grid0.Coords) (k0_t1 : Fin k0_t1_loop.trips) (v46 : IVec S16 32) (v48 : IVec S16 32) (k0_hw257 : k0_chk257 i k0_t1 v46 v48), ∀ (k0_h5 : k0_cond5 i k0_t1 = 1#1), ∀ a x, ((![v46, v48] : Fin 2 → IVec S16 32) a x).toNat < S32x128.size a := fun i k0_t1 v46 v48 k0_hw257 k0_h5 => k0_hw257 k0_h5

def k0_chk258 (i : grid0.Coords) (k0_t1 : Fin k0_t1_loop.trips) (v58 : IVec S16 32) (v60 : IVec S16 32) : Prop :=
  (∀ (k0_h5 : k0_cond5 i k0_t1 = 1#1), ∀ a x, ((![v58, v60] : Fin 2 → IVec S16 32) a x).toNat < S32x128.size a)
theorem k0_idx258_inb : ∀ (i : grid0.Coords) (k0_t1 : Fin k0_t1_loop.trips) (v58 : IVec S16 32) (v60 : IVec S16 32) (k0_hw258 : k0_chk258 i k0_t1 v58 v60), ∀ (k0_h5 : k0_cond5 i k0_t1 = 1#1), ∀ a x, ((![v58, v60] : Fin 2 → IVec S16 32) a x).toNat < S32x128.size a := fun i k0_t1 v58 v60 k0_hw258 k0_h5 => k0_hw258 k0_h5

def k0_chk259 (i : grid0.Coords) (k0_t1 : Fin k0_t1_loop.trips) (v70 : IVec S16 32) (v72 : IVec S16 32) : Prop :=
  (∀ (k0_h5 : k0_cond5 i k0_t1 = 1#1), ∀ a x, ((![v70, v72] : Fin 2 → IVec S16 32) a x).toNat < S32x128.size a)
theorem k0_idx259_inb : ∀ (i : grid0.Coords) (k0_t1 : Fin k0_t1_loop.trips) (v70 : IVec S16 32) (v72 : IVec S16 32) (k0_hw259 : k0_chk259 i k0_t1 v70 v72), ∀ (k0_h5 : k0_cond5 i k0_t1 = 1#1), ∀ a x, ((![v70, v72] : Fin 2 → IVec S16 32) a x).toNat < S32x128.size a := fun i k0_t1 v70 v72 k0_hw259 k0_h5 => k0_hw259 k0_h5

def k0_chk260 (i : grid0.Coords) (k0_t1 : Fin k0_t1_loop.trips) (v82 : IVec S16 32) (v84 : IVec S16 32) : Prop :=
  (∀ (k0_h5 : k0_cond5 i k0_t1 = 1#1), ∀ a x, ((![v82, v84] : Fin 2 → IVec S16 32) a x).toNat < S32x128.size a)
theorem k0_idx260_inb : ∀ (i : grid0.Coords) (k0_t1 : Fin k0_t1_loop.trips) (v82 : IVec S16 32) (v84 : IVec S16 32) (k0_hw260 : k0_chk260 i k0_t1 v82 v84), ∀ (k0_h5 : k0_cond5 i k0_t1 = 1#1), ∀ a x, ((![v82, v84] : Fin 2 → IVec S16 32) a x).toNat < S32x128.size a := fun i k0_t1 v82 v84 k0_hw260 k0_h5 => k0_hw260 k0_h5

def k0_chk261 (i : grid0.Coords) (k0_t1 : Fin k0_t1_loop.trips) (v94 : IVec S16 32) (v96 : IVec S16 32) : Prop :=
  (∀ (k0_h5 : k0_cond5 i k0_t1 = 1#1), ∀ a x, ((![v94, v96] : Fin 2 → IVec S16 32) a x).toNat < S32x128.size a)
theorem k0_idx261_inb : ∀ (i : grid0.Coords) (k0_t1 : Fin k0_t1_loop.trips) (v94 : IVec S16 32) (v96 : IVec S16 32) (k0_hw261 : k0_chk261 i k0_t1 v94 v96), ∀ (k0_h5 : k0_cond5 i k0_t1 = 1#1), ∀ a x, ((![v94, v96] : Fin 2 → IVec S16 32) a x).toNat < S32x128.size a := fun i k0_t1 v94 v96 k0_hw261 k0_h5 => k0_hw261 k0_h5

def k0_chk262 (i : grid0.Coords) (k0_t1 : Fin k0_t1_loop.trips) (v106 : IVec S16 32) (v108 : IVec S16 32) : Prop :=
  (∀ (k0_h5 : k0_cond5 i k0_t1 = 1#1), ∀ a x, ((![v106, v108] : Fin 2 → IVec S16 32) a x).toNat < S32x128.size a)
theorem k0_idx262_inb : ∀ (i : grid0.Coords) (k0_t1 : Fin k0_t1_loop.trips) (v106 : IVec S16 32) (v108 : IVec S16 32) (k0_hw262 : k0_chk262 i k0_t1 v106 v108), ∀ (k0_h5 : k0_cond5 i k0_t1 = 1#1), ∀ a x, ((![v106, v108] : Fin 2 → IVec S16 32) a x).toNat < S32x128.size a := fun i k0_t1 v106 v108 k0_hw262 k0_h5 => k0_hw262 k0_h5

def k0_chk263 (i : grid0.Coords) (k0_t1 : Fin k0_t1_loop.trips) (v118 : IVec S16 32) (v120 : IVec S16 32) : Prop :=
  (∀ (k0_h5 : k0_cond5 i k0_t1 = 1#1), ∀ a x, ((![v118, v120] : Fin 2 → IVec S16 32) a x).toNat < S32x128.size a)
theorem k0_idx263_inb : ∀ (i : grid0.Coords) (k0_t1 : Fin k0_t1_loop.trips) (v118 : IVec S16 32) (v120 : IVec S16 32) (k0_hw263 : k0_chk263 i k0_t1 v118 v120), ∀ (k0_h5 : k0_cond5 i k0_t1 = 1#1), ∀ a x, ((![v118, v120] : Fin 2 → IVec S16 32) a x).toNat < S32x128.size a := fun i k0_t1 v118 v120 k0_hw263 k0_h5 => k0_hw263 k0_h5

def k0_chk264 (i : grid0.Coords) (k0_t1 : Fin k0_t1_loop.trips) (v130 : IVec S16 32) (v132 : IVec S16 32) : Prop :=
  (∀ (k0_h5 : k0_cond5 i k0_t1 = 1#1), ∀ a x, ((![v130, v132] : Fin 2 → IVec S16 32) a x).toNat < S32x128.size a)
theorem k0_idx264_inb : ∀ (i : grid0.Coords) (k0_t1 : Fin k0_t1_loop.trips) (v130 : IVec S16 32) (v132 : IVec S16 32) (k0_hw264 : k0_chk264 i k0_t1 v130 v132), ∀ (k0_h5 : k0_cond5 i k0_t1 = 1#1), ∀ a x, ((![v130, v132] : Fin 2 → IVec S16 32) a x).toNat < S32x128.size a := fun i k0_t1 v130 v132 k0_hw264 k0_h5 => k0_hw264 k0_h5

def k0_chk265 (i : grid0.Coords) (k0_t1 : Fin k0_t1_loop.trips) (v142 : IVec S16 32) (v144 : IVec S16 32) : Prop :=
  (∀ (k0_h5 : k0_cond5 i k0_t1 = 1#1), ∀ a x, ((![v142, v144] : Fin 2 → IVec S16 32) a x).toNat < S32x128.size a)
theorem k0_idx265_inb : ∀ (i : grid0.Coords) (k0_t1 : Fin k0_t1_loop.trips) (v142 : IVec S16 32) (v144 : IVec S16 32) (k0_hw265 : k0_chk265 i k0_t1 v142 v144), ∀ (k0_h5 : k0_cond5 i k0_t1 = 1#1), ∀ a x, ((![v142, v144] : Fin 2 → IVec S16 32) a x).toNat < S32x128.size a := fun i k0_t1 v142 v144 k0_hw265 k0_h5 => k0_hw265 k0_h5

def k0_chk266 (i : grid0.Coords) (k0_t1 : Fin k0_t1_loop.trips) (v154 : IVec S16 32) (v156 : IVec S16 32) : Prop :=
  (∀ (k0_h5 : k0_cond5 i k0_t1 = 1#1), ∀ a x, ((![v154, v156] : Fin 2 → IVec S16 32) a x).toNat < S32x128.size a)
theorem k0_idx266_inb : ∀ (i : grid0.Coords) (k0_t1 : Fin k0_t1_loop.trips) (v154 : IVec S16 32) (v156 : IVec S16 32) (k0_hw266 : k0_chk266 i k0_t1 v154 v156), ∀ (k0_h5 : k0_cond5 i k0_t1 = 1#1), ∀ a x, ((![v154, v156] : Fin 2 → IVec S16 32) a x).toNat < S32x128.size a := fun i k0_t1 v154 v156 k0_hw266 k0_h5 => k0_hw266 k0_h5

def k0_chk267 (i : grid0.Coords) (k0_t1 : Fin k0_t1_loop.trips) (v166 : IVec S16 32) (v168 : IVec S16 32) : Prop :=
  (∀ (k0_h5 : k0_cond5 i k0_t1 = 1#1), ∀ a x, ((![v166, v168] : Fin 2 → IVec S16 32) a x).toNat < S32x128.size a)
theorem k0_idx267_inb : ∀ (i : grid0.Coords) (k0_t1 : Fin k0_t1_loop.trips) (v166 : IVec S16 32) (v168 : IVec S16 32) (k0_hw267 : k0_chk267 i k0_t1 v166 v168), ∀ (k0_h5 : k0_cond5 i k0_t1 = 1#1), ∀ a x, ((![v166, v168] : Fin 2 → IVec S16 32) a x).toNat < S32x128.size a := fun i k0_t1 v166 v168 k0_hw267 k0_h5 => k0_hw267 k0_h5

def k0_chk268 (i : grid0.Coords) (k0_t1 : Fin k0_t1_loop.trips) (v178 : IVec S16 32) (v180 : IVec S16 32) : Prop :=
  (∀ (k0_h5 : k0_cond5 i k0_t1 = 1#1), ∀ a x, ((![v178, v180] : Fin 2 → IVec S16 32) a x).toNat < S32x128.size a)
theorem k0_idx268_inb : ∀ (i : grid0.Coords) (k0_t1 : Fin k0_t1_loop.trips) (v178 : IVec S16 32) (v180 : IVec S16 32) (k0_hw268 : k0_chk268 i k0_t1 v178 v180), ∀ (k0_h5 : k0_cond5 i k0_t1 = 1#1), ∀ a x, ((![v178, v180] : Fin 2 → IVec S16 32) a x).toNat < S32x128.size a := fun i k0_t1 v178 v180 k0_hw268 k0_h5 => k0_hw268 k0_h5

def k0_chk269 (i : grid0.Coords) (k0_t1 : Fin k0_t1_loop.trips) (v190 : IVec S16 32) (v192 : IVec S16 32) : Prop :=
  (∀ (k0_h5 : k0_cond5 i k0_t1 = 1#1), ∀ a x, ((![v190, v192] : Fin 2 → IVec S16 32) a x).toNat < S32x128.size a)
theorem k0_idx269_inb : ∀ (i : grid0.Coords) (k0_t1 : Fin k0_t1_loop.trips) (v190 : IVec S16 32) (v192 : IVec S16 32) (k0_hw269 : k0_chk269 i k0_t1 v190 v192), ∀ (k0_h5 : k0_cond5 i k0_t1 = 1#1), ∀ a x, ((![v190, v192] : Fin 2 → IVec S16 32) a x).toNat < S32x128.size a := fun i k0_t1 v190 v192 k0_hw269 k0_h5 => k0_hw269 k0_h5

def k0_chk270 (i : grid0.Coords) (k0_t1 : Fin k0_t1_loop.trips) (v202 : IVec S16 32) (v204 : IVec S16 32) : Prop :=
  (∀ (k0_h5 : k0_cond5 i k0_t1 = 1#1), ∀ a x, ((![v202, v204] : Fin 2 → IVec S16 32) a x).toNat < S32x128.size a)
theorem k0_idx270_inb : ∀ (i : grid0.Coords) (k0_t1 : Fin k0_t1_loop.trips) (v202 : IVec S16 32) (v204 : IVec S16 32) (k0_hw270 : k0_chk270 i k0_t1 v202 v204), ∀ (k0_h5 : k0_cond5 i k0_t1 = 1#1), ∀ a x, ((![v202, v204] : Fin 2 → IVec S16 32) a x).toNat < S32x128.size a := fun i k0_t1 v202 v204 k0_hw270 k0_h5 => k0_hw270 k0_h5

def k0_chk271 (i : grid0.Coords) (k0_t1 : Fin k0_t1_loop.trips) (v214 : IVec S16 32) (v216 : IVec S16 32) : Prop :=
  (∀ (k0_h5 : k0_cond5 i k0_t1 = 1#1), ∀ a x, ((![v214, v216] : Fin 2 → IVec S16 32) a x).toNat < S32x128.size a)
theorem k0_idx271_inb : ∀ (i : grid0.Coords) (k0_t1 : Fin k0_t1_loop.trips) (v214 : IVec S16 32) (v216 : IVec S16 32) (k0_hw271 : k0_chk271 i k0_t1 v214 v216), ∀ (k0_h5 : k0_cond5 i k0_t1 = 1#1), ∀ a x, ((![v214, v216] : Fin 2 → IVec S16 32) a x).toNat < S32x128.size a := fun i k0_t1 v214 v216 k0_hw271 k0_h5 => k0_hw271 k0_h5

def k0_chk272 (i : grid0.Coords) (k0_t1 : Fin k0_t1_loop.trips) (v226 : IVec S16 32) (v228 : IVec S16 32) : Prop :=
  (∀ (k0_h5 : k0_cond5 i k0_t1 = 1#1), ∀ a x, ((![v226, v228] : Fin 2 → IVec S16 32) a x).toNat < S32x128.size a)
theorem k0_idx272_inb : ∀ (i : grid0.Coords) (k0_t1 : Fin k0_t1_loop.trips) (v226 : IVec S16 32) (v228 : IVec S16 32) (k0_hw272 : k0_chk272 i k0_t1 v226 v228), ∀ (k0_h5 : k0_cond5 i k0_t1 = 1#1), ∀ a x, ((![v226, v228] : Fin 2 → IVec S16 32) a x).toNat < S32x128.size a := fun i k0_t1 v226 v228 k0_hw272 k0_h5 => k0_hw272 k0_h5

def k0_chk273 (i : grid0.Coords) (k0_t1 : Fin k0_t1_loop.trips) (v238 : IVec S16 32) (v240 : IVec S16 32) : Prop :=
  (∀ (k0_h5 : k0_cond5 i k0_t1 = 1#1), ∀ a x, ((![v238, v240] : Fin 2 → IVec S16 32) a x).toNat < S32x128.size a)
theorem k0_idx273_inb : ∀ (i : grid0.Coords) (k0_t1 : Fin k0_t1_loop.trips) (v238 : IVec S16 32) (v240 : IVec S16 32) (k0_hw273 : k0_chk273 i k0_t1 v238 v240), ∀ (k0_h5 : k0_cond5 i k0_t1 = 1#1), ∀ a x, ((![v238, v240] : Fin 2 → IVec S16 32) a x).toNat < S32x128.size a := fun i k0_t1 v238 v240 k0_hw273 k0_h5 => k0_hw273 k0_h5

def k0_chk274 (i : grid0.Coords) (k0_t1 : Fin k0_t1_loop.trips) (v250 : IVec S16 32) (v252 : IVec S16 32) : Prop :=
  (∀ (k0_h5 : k0_cond5 i k0_t1 = 1#1), ∀ a x, ((![v250, v252] : Fin 2 → IVec S16 32) a x).toNat < S32x128.size a)
theorem k0_idx274_inb : ∀ (i : grid0.Coords) (k0_t1 : Fin k0_t1_loop.trips) (v250 : IVec S16 32) (v252 : IVec S16 32) (k0_hw274 : k0_chk274 i k0_t1 v250 v252), ∀ (k0_h5 : k0_cond5 i k0_t1 = 1#1), ∀ a x, ((![v250, v252] : Fin 2 → IVec S16 32) a x).toNat < S32x128.size a := fun i k0_t1 v250 v252 k0_hw274 k0_h5 => k0_hw274 k0_h5

def k0_chk275 (i : grid0.Coords) (k0_t1 : Fin k0_t1_loop.trips) (v262 : IVec S16 32) (v264 : IVec S16 32) : Prop :=
  (∀ (k0_h5 : k0_cond5 i k0_t1 = 1#1), ∀ a x, ((![v262, v264] : Fin 2 → IVec S16 32) a x).toNat < S32x128.size a)
theorem k0_idx275_inb : ∀ (i : grid0.Coords) (k0_t1 : Fin k0_t1_loop.trips) (v262 : IVec S16 32) (v264 : IVec S16 32) (k0_hw275 : k0_chk275 i k0_t1 v262 v264), ∀ (k0_h5 : k0_cond5 i k0_t1 = 1#1), ∀ a x, ((![v262, v264] : Fin 2 → IVec S16 32) a x).toNat < S32x128.size a := fun i k0_t1 v262 v264 k0_hw275 k0_h5 => k0_hw275 k0_h5

def k0_chk276 (i : grid0.Coords) (k0_t1 : Fin k0_t1_loop.trips) (v274 : IVec S16 32) (v276 : IVec S16 32) : Prop :=
  (∀ (k0_h5 : k0_cond5 i k0_t1 = 1#1), ∀ a x, ((![v274, v276] : Fin 2 → IVec S16 32) a x).toNat < S32x128.size a)
theorem k0_idx276_inb : ∀ (i : grid0.Coords) (k0_t1 : Fin k0_t1_loop.trips) (v274 : IVec S16 32) (v276 : IVec S16 32) (k0_hw276 : k0_chk276 i k0_t1 v274 v276), ∀ (k0_h5 : k0_cond5 i k0_t1 = 1#1), ∀ a x, ((![v274, v276] : Fin 2 → IVec S16 32) a x).toNat < S32x128.size a := fun i k0_t1 v274 v276 k0_hw276 k0_h5 => k0_hw276 k0_h5

def k0_chk277 (i : grid0.Coords) (k0_t1 : Fin k0_t1_loop.trips) (v286 : IVec S16 32) (v288 : IVec S16 32) : Prop :=
  (∀ (k0_h5 : k0_cond5 i k0_t1 = 1#1), ∀ a x, ((![v286, v288] : Fin 2 → IVec S16 32) a x).toNat < S32x128.size a)
theorem k0_idx277_inb : ∀ (i : grid0.Coords) (k0_t1 : Fin k0_t1_loop.trips) (v286 : IVec S16 32) (v288 : IVec S16 32) (k0_hw277 : k0_chk277 i k0_t1 v286 v288), ∀ (k0_h5 : k0_cond5 i k0_t1 = 1#1), ∀ a x, ((![v286, v288] : Fin 2 → IVec S16 32) a x).toNat < S32x128.size a := fun i k0_t1 v286 v288 k0_hw277 k0_h5 => k0_hw277 k0_h5

def k0_chk278 (i : grid0.Coords) (k0_t1 : Fin k0_t1_loop.trips) (v298 : IVec S16 32) (v300 : IVec S16 32) : Prop :=
  (∀ (k0_h5 : k0_cond5 i k0_t1 = 1#1), ∀ a x, ((![v298, v300] : Fin 2 → IVec S16 32) a x).toNat < S32x128.size a)
theorem k0_idx278_inb : ∀ (i : grid0.Coords) (k0_t1 : Fin k0_t1_loop.trips) (v298 : IVec S16 32) (v300 : IVec S16 32) (k0_hw278 : k0_chk278 i k0_t1 v298 v300), ∀ (k0_h5 : k0_cond5 i k0_t1 = 1#1), ∀ a x, ((![v298, v300] : Fin 2 → IVec S16 32) a x).toNat < S32x128.size a := fun i k0_t1 v298 v300 k0_hw278 k0_h5 => k0_hw278 k0_h5

def k0_chk279 (i : grid0.Coords) (k0_t1 : Fin k0_t1_loop.trips) (v310 : IVec S16 32) (v312 : IVec S16 32) : Prop :=
  (∀ (k0_h5 : k0_cond5 i k0_t1 = 1#1), ∀ a x, ((![v310, v312] : Fin 2 → IVec S16 32) a x).toNat < S32x128.size a)
theorem k0_idx279_inb : ∀ (i : grid0.Coords) (k0_t1 : Fin k0_t1_loop.trips) (v310 : IVec S16 32) (v312 : IVec S16 32) (k0_hw279 : k0_chk279 i k0_t1 v310 v312), ∀ (k0_h5 : k0_cond5 i k0_t1 = 1#1), ∀ a x, ((![v310, v312] : Fin 2 → IVec S16 32) a x).toNat < S32x128.size a := fun i k0_t1 v310 v312 k0_hw279 k0_h5 => k0_hw279 k0_h5

def k0_chk280 (i : grid0.Coords) (k0_t1 : Fin k0_t1_loop.trips) (v322 : IVec S16 32) (v324 : IVec S16 32) : Prop :=
  (∀ (k0_h5 : k0_cond5 i k0_t1 = 1#1), ∀ a x, ((![v322, v324] : Fin 2 → IVec S16 32) a x).toNat < S32x128.size a)
theorem k0_idx280_inb : ∀ (i : grid0.Coords) (k0_t1 : Fin k0_t1_loop.trips) (v322 : IVec S16 32) (v324 : IVec S16 32) (k0_hw280 : k0_chk280 i k0_t1 v322 v324), ∀ (k0_h5 : k0_cond5 i k0_t1 = 1#1), ∀ a x, ((![v322, v324] : Fin 2 → IVec S16 32) a x).toNat < S32x128.size a := fun i k0_t1 v322 v324 k0_hw280 k0_h5 => k0_hw280 k0_h5

def k0_chk281 (i : grid0.Coords) (k0_t1 : Fin k0_t1_loop.trips) (v334 : IVec S16 32) (v336 : IVec S16 32) : Prop :=
  (∀ (k0_h5 : k0_cond5 i k0_t1 = 1#1), ∀ a x, ((![v334, v336] : Fin 2 → IVec S16 32) a x).toNat < S32x128.size a)
theorem k0_idx281_inb : ∀ (i : grid0.Coords) (k0_t1 : Fin k0_t1_loop.trips) (v334 : IVec S16 32) (v336 : IVec S16 32) (k0_hw281 : k0_chk281 i k0_t1 v334 v336), ∀ (k0_h5 : k0_cond5 i k0_t1 = 1#1), ∀ a x, ((![v334, v336] : Fin 2 → IVec S16 32) a x).toNat < S32x128.size a := fun i k0_t1 v334 v336 k0_hw281 k0_h5 => k0_hw281 k0_h5

def k0_chk282 (i : grid0.Coords) (k0_t1 : Fin k0_t1_loop.trips) (v346 : IVec S16 32) (v348 : IVec S16 32) : Prop :=
  (∀ (k0_h5 : k0_cond5 i k0_t1 = 1#1), ∀ a x, ((![v346, v348] : Fin 2 → IVec S16 32) a x).toNat < S32x128.size a)
theorem k0_idx282_inb : ∀ (i : grid0.Coords) (k0_t1 : Fin k0_t1_loop.trips) (v346 : IVec S16 32) (v348 : IVec S16 32) (k0_hw282 : k0_chk282 i k0_t1 v346 v348), ∀ (k0_h5 : k0_cond5 i k0_t1 = 1#1), ∀ a x, ((![v346, v348] : Fin 2 → IVec S16 32) a x).toNat < S32x128.size a := fun i k0_t1 v346 v348 k0_hw282 k0_h5 => k0_hw282 k0_h5

def k0_chk283 (i : grid0.Coords) (k0_t1 : Fin k0_t1_loop.trips) (v358 : IVec S16 32) (v360 : IVec S16 32) : Prop :=
  (∀ (k0_h5 : k0_cond5 i k0_t1 = 1#1), ∀ a x, ((![v358, v360] : Fin 2 → IVec S16 32) a x).toNat < S32x128.size a)
theorem k0_idx283_inb : ∀ (i : grid0.Coords) (k0_t1 : Fin k0_t1_loop.trips) (v358 : IVec S16 32) (v360 : IVec S16 32) (k0_hw283 : k0_chk283 i k0_t1 v358 v360), ∀ (k0_h5 : k0_cond5 i k0_t1 = 1#1), ∀ a x, ((![v358, v360] : Fin 2 → IVec S16 32) a x).toNat < S32x128.size a := fun i k0_t1 v358 v360 k0_hw283 k0_h5 => k0_hw283 k0_h5

def k0_chk284 (i : grid0.Coords) (k0_t1 : Fin k0_t1_loop.trips) (v370 : IVec S16 32) (v372 : IVec S16 32) : Prop :=
  (∀ (k0_h5 : k0_cond5 i k0_t1 = 1#1), ∀ a x, ((![v370, v372] : Fin 2 → IVec S16 32) a x).toNat < S32x128.size a)
theorem k0_idx284_inb : ∀ (i : grid0.Coords) (k0_t1 : Fin k0_t1_loop.trips) (v370 : IVec S16 32) (v372 : IVec S16 32) (k0_hw284 : k0_chk284 i k0_t1 v370 v372), ∀ (k0_h5 : k0_cond5 i k0_t1 = 1#1), ∀ a x, ((![v370, v372] : Fin 2 → IVec S16 32) a x).toNat < S32x128.size a := fun i k0_t1 v370 v372 k0_hw284 k0_h5 => k0_hw284 k0_h5

def k0_chk285 (i : grid0.Coords) (k0_t1 : Fin k0_t1_loop.trips) (v382 : IVec S16 32) (v384 : IVec S16 32) : Prop :=
  (∀ (k0_h5 : k0_cond5 i k0_t1 = 1#1), ∀ a x, ((![v382, v384] : Fin 2 → IVec S16 32) a x).toNat < S32x128.size a)
theorem k0_idx285_inb : ∀ (i : grid0.Coords) (k0_t1 : Fin k0_t1_loop.trips) (v382 : IVec S16 32) (v384 : IVec S16 32) (k0_hw285 : k0_chk285 i k0_t1 v382 v384), ∀ (k0_h5 : k0_cond5 i k0_t1 = 1#1), ∀ a x, ((![v382, v384] : Fin 2 → IVec S16 32) a x).toNat < S32x128.size a := fun i k0_t1 v382 v384 k0_hw285 k0_h5 => k0_hw285 k0_h5

def k0_chk286 (i : grid0.Coords) (k0_t1 : Fin k0_t1_loop.trips) (v394 : IVec S16 32) (v396 : IVec S16 32) : Prop :=
  (∀ (k0_h5 : k0_cond5 i k0_t1 = 1#1), ∀ a x, ((![v394, v396] : Fin 2 → IVec S16 32) a x).toNat < S32x128.size a)
theorem k0_idx286_inb : ∀ (i : grid0.Coords) (k0_t1 : Fin k0_t1_loop.trips) (v394 : IVec S16 32) (v396 : IVec S16 32) (k0_hw286 : k0_chk286 i k0_t1 v394 v396), ∀ (k0_h5 : k0_cond5 i k0_t1 = 1#1), ∀ a x, ((![v394, v396] : Fin 2 → IVec S16 32) a x).toNat < S32x128.size a := fun i k0_t1 v394 v396 k0_hw286 k0_h5 => k0_hw286 k0_h5

def k0_chk287 (i : grid0.Coords) (k0_t1 : Fin k0_t1_loop.trips) (v406 : IVec S16 32) (v408 : IVec S16 32) : Prop :=
  (∀ (k0_h5 : k0_cond5 i k0_t1 = 1#1), ∀ a x, ((![v406, v408] : Fin 2 → IVec S16 32) a x).toNat < S32x128.size a)
theorem k0_idx287_inb : ∀ (i : grid0.Coords) (k0_t1 : Fin k0_t1_loop.trips) (v406 : IVec S16 32) (v408 : IVec S16 32) (k0_hw287 : k0_chk287 i k0_t1 v406 v408), ∀ (k0_h5 : k0_cond5 i k0_t1 = 1#1), ∀ a x, ((![v406, v408] : Fin 2 → IVec S16 32) a x).toNat < S32x128.size a := fun i k0_t1 v406 v408 k0_hw287 k0_h5 => k0_hw287 k0_h5

def k0_chk288 (i : grid0.Coords) (k0_t1 : Fin k0_t1_loop.trips) (v418 : IVec S16 32) (v420 : IVec S16 32) : Prop :=
  (∀ (k0_h5 : k0_cond5 i k0_t1 = 1#1), ∀ a x, ((![v418, v420] : Fin 2 → IVec S16 32) a x).toNat < S32x128.size a)
theorem k0_idx288_inb : ∀ (i : grid0.Coords) (k0_t1 : Fin k0_t1_loop.trips) (v418 : IVec S16 32) (v420 : IVec S16 32) (k0_hw288 : k0_chk288 i k0_t1 v418 v420), ∀ (k0_h5 : k0_cond5 i k0_t1 = 1#1), ∀ a x, ((![v418, v420] : Fin 2 → IVec S16 32) a x).toNat < S32x128.size a := fun i k0_t1 v418 v420 k0_hw288 k0_h5 => k0_hw288 k0_h5

def k0_chk289 (i : grid0.Coords) (k0_t1 : Fin k0_t1_loop.trips) (v430 : IVec S16 32) (v432 : IVec S16 32) : Prop :=
  (∀ (k0_h5 : k0_cond5 i k0_t1 = 1#1), ∀ a x, ((![v430, v432] : Fin 2 → IVec S16 32) a x).toNat < S32x128.size a)
theorem k0_idx289_inb : ∀ (i : grid0.Coords) (k0_t1 : Fin k0_t1_loop.trips) (v430 : IVec S16 32) (v432 : IVec S16 32) (k0_hw289 : k0_chk289 i k0_t1 v430 v432), ∀ (k0_h5 : k0_cond5 i k0_t1 = 1#1), ∀ a x, ((![v430, v432] : Fin 2 → IVec S16 32) a x).toNat < S32x128.size a := fun i k0_t1 v430 v432 k0_hw289 k0_h5 => k0_hw289 k0_h5

def k0_chk290 (i : grid0.Coords) (k0_t1 : Fin k0_t1_loop.trips) (v442 : IVec S16 32) (v444 : IVec S16 32) : Prop :=
  (∀ (k0_h5 : k0_cond5 i k0_t1 = 1#1), ∀ a x, ((![v442, v444] : Fin 2 → IVec S16 32) a x).toNat < S32x128.size a)
theorem k0_idx290_inb : ∀ (i : grid0.Coords) (k0_t1 : Fin k0_t1_loop.trips) (v442 : IVec S16 32) (v444 : IVec S16 32) (k0_hw290 : k0_chk290 i k0_t1 v442 v444), ∀ (k0_h5 : k0_cond5 i k0_t1 = 1#1), ∀ a x, ((![v442, v444] : Fin 2 → IVec S16 32) a x).toNat < S32x128.size a := fun i k0_t1 v442 v444 k0_hw290 k0_h5 => k0_hw290 k0_h5

def k0_chk291 (i : grid0.Coords) (k0_t1 : Fin k0_t1_loop.trips) (v454 : IVec S16 32) (v456 : IVec S16 32) : Prop :=
  (∀ (k0_h5 : k0_cond5 i k0_t1 = 1#1), ∀ a x, ((![v454, v456] : Fin 2 → IVec S16 32) a x).toNat < S32x128.size a)
theorem k0_idx291_inb : ∀ (i : grid0.Coords) (k0_t1 : Fin k0_t1_loop.trips) (v454 : IVec S16 32) (v456 : IVec S16 32) (k0_hw291 : k0_chk291 i k0_t1 v454 v456), ∀ (k0_h5 : k0_cond5 i k0_t1 = 1#1), ∀ a x, ((![v454, v456] : Fin 2 → IVec S16 32) a x).toNat < S32x128.size a := fun i k0_t1 v454 v456 k0_hw291 k0_h5 => k0_hw291 k0_h5

def k0_chk292 (i : grid0.Coords) (k0_t1 : Fin k0_t1_loop.trips) (v466 : IVec S16 32) (v468 : IVec S16 32) : Prop :=
  (∀ (k0_h5 : k0_cond5 i k0_t1 = 1#1), ∀ a x, ((![v466, v468] : Fin 2 → IVec S16 32) a x).toNat < S32x128.size a)
theorem k0_idx292_inb : ∀ (i : grid0.Coords) (k0_t1 : Fin k0_t1_loop.trips) (v466 : IVec S16 32) (v468 : IVec S16 32) (k0_hw292 : k0_chk292 i k0_t1 v466 v468), ∀ (k0_h5 : k0_cond5 i k0_t1 = 1#1), ∀ a x, ((![v466, v468] : Fin 2 → IVec S16 32) a x).toNat < S32x128.size a := fun i k0_t1 v466 v468 k0_hw292 k0_h5 => k0_hw292 k0_h5

def k0_chk293 (i : grid0.Coords) (k0_t1 : Fin k0_t1_loop.trips) (v478 : IVec S16 32) (v480 : IVec S16 32) : Prop :=
  (∀ (k0_h5 : k0_cond5 i k0_t1 = 1#1), ∀ a x, ((![v478, v480] : Fin 2 → IVec S16 32) a x).toNat < S32x128.size a)
theorem k0_idx293_inb : ∀ (i : grid0.Coords) (k0_t1 : Fin k0_t1_loop.trips) (v478 : IVec S16 32) (v480 : IVec S16 32) (k0_hw293 : k0_chk293 i k0_t1 v478 v480), ∀ (k0_h5 : k0_cond5 i k0_t1 = 1#1), ∀ a x, ((![v478, v480] : Fin 2 → IVec S16 32) a x).toNat < S32x128.size a := fun i k0_t1 v478 v480 k0_hw293 k0_h5 => k0_hw293 k0_h5

def k0_chk294 (i : grid0.Coords) (k0_t1 : Fin k0_t1_loop.trips) (v490 : IVec S16 32) (v492 : IVec S16 32) : Prop :=
  (∀ (k0_h5 : k0_cond5 i k0_t1 = 1#1), ∀ a x, ((![v490, v492] : Fin 2 → IVec S16 32) a x).toNat < S32x128.size a)
theorem k0_idx294_inb : ∀ (i : grid0.Coords) (k0_t1 : Fin k0_t1_loop.trips) (v490 : IVec S16 32) (v492 : IVec S16 32) (k0_hw294 : k0_chk294 i k0_t1 v490 v492), ∀ (k0_h5 : k0_cond5 i k0_t1 = 1#1), ∀ a x, ((![v490, v492] : Fin 2 → IVec S16 32) a x).toNat < S32x128.size a := fun i k0_t1 v490 v492 k0_hw294 k0_h5 => k0_hw294 k0_h5

def k0_chk295 (i : grid0.Coords) (k0_t1 : Fin k0_t1_loop.trips) (v502 : IVec S16 32) (v504 : IVec S16 32) : Prop :=
  (∀ (k0_h5 : k0_cond5 i k0_t1 = 1#1), ∀ a x, ((![v502, v504] : Fin 2 → IVec S16 32) a x).toNat < S32x128.size a)
theorem k0_idx295_inb : ∀ (i : grid0.Coords) (k0_t1 : Fin k0_t1_loop.trips) (v502 : IVec S16 32) (v504 : IVec S16 32) (k0_hw295 : k0_chk295 i k0_t1 v502 v504), ∀ (k0_h5 : k0_cond5 i k0_t1 = 1#1), ∀ a x, ((![v502, v504] : Fin 2 → IVec S16 32) a x).toNat < S32x128.size a := fun i k0_t1 v502 v504 k0_hw295 k0_h5 => k0_hw295 k0_h5

def k0_chk296 (i : grid0.Coords) (k0_t1 : Fin k0_t1_loop.trips) (v514 : IVec S16 32) (v516 : IVec S16 32) : Prop :=
  (∀ (k0_h5 : k0_cond5 i k0_t1 = 1#1), ∀ a x, ((![v514, v516] : Fin 2 → IVec S16 32) a x).toNat < S32x128.size a)
theorem k0_idx296_inb : ∀ (i : grid0.Coords) (k0_t1 : Fin k0_t1_loop.trips) (v514 : IVec S16 32) (v516 : IVec S16 32) (k0_hw296 : k0_chk296 i k0_t1 v514 v516), ∀ (k0_h5 : k0_cond5 i k0_t1 = 1#1), ∀ a x, ((![v514, v516] : Fin 2 → IVec S16 32) a x).toNat < S32x128.size a := fun i k0_t1 v514 v516 k0_hw296 k0_h5 => k0_hw296 k0_h5

def k0_chk297 (i : grid0.Coords) (k0_t1 : Fin k0_t1_loop.trips) (v526 : IVec S16 32) (v528 : IVec S16 32) : Prop :=
  (∀ (k0_h5 : k0_cond5 i k0_t1 = 1#1), ∀ a x, ((![v526, v528] : Fin 2 → IVec S16 32) a x).toNat < S32x128.size a)
theorem k0_idx297_inb : ∀ (i : grid0.Coords) (k0_t1 : Fin k0_t1_loop.trips) (v526 : IVec S16 32) (v528 : IVec S16 32) (k0_hw297 : k0_chk297 i k0_t1 v526 v528), ∀ (k0_h5 : k0_cond5 i k0_t1 = 1#1), ∀ a x, ((![v526, v528] : Fin 2 → IVec S16 32) a x).toNat < S32x128.size a := fun i k0_t1 v526 v528 k0_hw297 k0_h5 => k0_hw297 k0_h5

def k0_chk298 (i : grid0.Coords) (k0_t1 : Fin k0_t1_loop.trips) (v538 : IVec S16 32) (v540 : IVec S16 32) : Prop :=
  (∀ (k0_h5 : k0_cond5 i k0_t1 = 1#1), ∀ a x, ((![v538, v540] : Fin 2 → IVec S16 32) a x).toNat < S32x128.size a)
theorem k0_idx298_inb : ∀ (i : grid0.Coords) (k0_t1 : Fin k0_t1_loop.trips) (v538 : IVec S16 32) (v540 : IVec S16 32) (k0_hw298 : k0_chk298 i k0_t1 v538 v540), ∀ (k0_h5 : k0_cond5 i k0_t1 = 1#1), ∀ a x, ((![v538, v540] : Fin 2 → IVec S16 32) a x).toNat < S32x128.size a := fun i k0_t1 v538 v540 k0_hw298 k0_h5 => k0_hw298 k0_h5

def k0_chk299 (i : grid0.Coords) (k0_t1 : Fin k0_t1_loop.trips) (v550 : IVec S16 32) (v552 : IVec S16 32) : Prop :=
  (∀ (k0_h5 : k0_cond5 i k0_t1 = 1#1), ∀ a x, ((![v550, v552] : Fin 2 → IVec S16 32) a x).toNat < S32x128.size a)
theorem k0_idx299_inb : ∀ (i : grid0.Coords) (k0_t1 : Fin k0_t1_loop.trips) (v550 : IVec S16 32) (v552 : IVec S16 32) (k0_hw299 : k0_chk299 i k0_t1 v550 v552), ∀ (k0_h5 : k0_cond5 i k0_t1 = 1#1), ∀ a x, ((![v550, v552] : Fin 2 → IVec S16 32) a x).toNat < S32x128.size a := fun i k0_t1 v550 v552 k0_hw299 k0_h5 => k0_hw299 k0_h5

def k0_chk300 (i : grid0.Coords) (k0_t1 : Fin k0_t1_loop.trips) (v562 : IVec S16 32) (v564 : IVec S16 32) : Prop :=
  (∀ (k0_h5 : k0_cond5 i k0_t1 = 1#1), ∀ a x, ((![v562, v564] : Fin 2 → IVec S16 32) a x).toNat < S32x128.size a)
theorem k0_idx300_inb : ∀ (i : grid0.Coords) (k0_t1 : Fin k0_t1_loop.trips) (v562 : IVec S16 32) (v564 : IVec S16 32) (k0_hw300 : k0_chk300 i k0_t1 v562 v564), ∀ (k0_h5 : k0_cond5 i k0_t1 = 1#1), ∀ a x, ((![v562, v564] : Fin 2 → IVec S16 32) a x).toNat < S32x128.size a := fun i k0_t1 v562 v564 k0_hw300 k0_h5 => k0_hw300 k0_h5

def k0_chk301 (i : grid0.Coords) (k0_t1 : Fin k0_t1_loop.trips) (v574 : IVec S16 32) (v576 : IVec S16 32) : Prop :=
  (∀ (k0_h5 : k0_cond5 i k0_t1 = 1#1), ∀ a x, ((![v574, v576] : Fin 2 → IVec S16 32) a x).toNat < S32x128.size a)
theorem k0_idx301_inb : ∀ (i : grid0.Coords) (k0_t1 : Fin k0_t1_loop.trips) (v574 : IVec S16 32) (v576 : IVec S16 32) (k0_hw301 : k0_chk301 i k0_t1 v574 v576), ∀ (k0_h5 : k0_cond5 i k0_t1 = 1#1), ∀ a x, ((![v574, v576] : Fin 2 → IVec S16 32) a x).toNat < S32x128.size a := fun i k0_t1 v574 v576 k0_hw301 k0_h5 => k0_hw301 k0_h5

def k0_chk302 (i : grid0.Coords) (k0_t1 : Fin k0_t1_loop.trips) (v586 : IVec S16 32) (v588 : IVec S16 32) : Prop :=
  (∀ (k0_h5 : k0_cond5 i k0_t1 = 1#1), ∀ a x, ((![v586, v588] : Fin 2 → IVec S16 32) a x).toNat < S32x128.size a)
theorem k0_idx302_inb : ∀ (i : grid0.Coords) (k0_t1 : Fin k0_t1_loop.trips) (v586 : IVec S16 32) (v588 : IVec S16 32) (k0_hw302 : k0_chk302 i k0_t1 v586 v588), ∀ (k0_h5 : k0_cond5 i k0_t1 = 1#1), ∀ a x, ((![v586, v588] : Fin 2 → IVec S16 32) a x).toNat < S32x128.size a := fun i k0_t1 v586 v588 k0_hw302 k0_h5 => k0_hw302 k0_h5

def k0_chk303 (i : grid0.Coords) (k0_t1 : Fin k0_t1_loop.trips) (v598 : IVec S16 32) (v600 : IVec S16 32) : Prop :=
  (∀ (k0_h5 : k0_cond5 i k0_t1 = 1#1), ∀ a x, ((![v598, v600] : Fin 2 → IVec S16 32) a x).toNat < S32x128.size a)
theorem k0_idx303_inb : ∀ (i : grid0.Coords) (k0_t1 : Fin k0_t1_loop.trips) (v598 : IVec S16 32) (v600 : IVec S16 32) (k0_hw303 : k0_chk303 i k0_t1 v598 v600), ∀ (k0_h5 : k0_cond5 i k0_t1 = 1#1), ∀ a x, ((![v598, v600] : Fin 2 → IVec S16 32) a x).toNat < S32x128.size a := fun i k0_t1 v598 v600 k0_hw303 k0_h5 => k0_hw303 k0_h5

def k0_chk304 (i : grid0.Coords) (k0_t1 : Fin k0_t1_loop.trips) (v610 : IVec S16 32) (v612 : IVec S16 32) : Prop :=
  (∀ (k0_h5 : k0_cond5 i k0_t1 = 1#1), ∀ a x, ((![v610, v612] : Fin 2 → IVec S16 32) a x).toNat < S32x128.size a)
theorem k0_idx304_inb : ∀ (i : grid0.Coords) (k0_t1 : Fin k0_t1_loop.trips) (v610 : IVec S16 32) (v612 : IVec S16 32) (k0_hw304 : k0_chk304 i k0_t1 v610 v612), ∀ (k0_h5 : k0_cond5 i k0_t1 = 1#1), ∀ a x, ((![v610, v612] : Fin 2 → IVec S16 32) a x).toNat < S32x128.size a := fun i k0_t1 v610 v612 k0_hw304 k0_h5 => k0_hw304 k0_h5

def k0_chk305 (i : grid0.Coords) (k0_t1 : Fin k0_t1_loop.trips) (v622 : IVec S16 32) (v624 : IVec S16 32) : Prop :=
  (∀ (k0_h5 : k0_cond5 i k0_t1 = 1#1), ∀ a x, ((![v622, v624] : Fin 2 → IVec S16 32) a x).toNat < S32x128.size a)
theorem k0_idx305_inb : ∀ (i : grid0.Coords) (k0_t1 : Fin k0_t1_loop.trips) (v622 : IVec S16 32) (v624 : IVec S16 32) (k0_hw305 : k0_chk305 i k0_t1 v622 v624), ∀ (k0_h5 : k0_cond5 i k0_t1 = 1#1), ∀ a x, ((![v622, v624] : Fin 2 → IVec S16 32) a x).toNat < S32x128.size a := fun i k0_t1 v622 v624 k0_hw305 k0_h5 => k0_hw305 k0_h5

def k0_chk306 (i : grid0.Coords) (k0_t1 : Fin k0_t1_loop.trips) (v634 : IVec S16 32) (v636 : IVec S16 32) : Prop :=
  (∀ (k0_h5 : k0_cond5 i k0_t1 = 1#1), ∀ a x, ((![v634, v636] : Fin 2 → IVec S16 32) a x).toNat < S32x128.size a)
theorem k0_idx306_inb : ∀ (i : grid0.Coords) (k0_t1 : Fin k0_t1_loop.trips) (v634 : IVec S16 32) (v636 : IVec S16 32) (k0_hw306 : k0_chk306 i k0_t1 v634 v636), ∀ (k0_h5 : k0_cond5 i k0_t1 = 1#1), ∀ a x, ((![v634, v636] : Fin 2 → IVec S16 32) a x).toNat < S32x128.size a := fun i k0_t1 v634 v636 k0_hw306 k0_h5 => k0_hw306 k0_h5

def k0_chk307 (i : grid0.Coords) (k0_t1 : Fin k0_t1_loop.trips) (v646 : IVec S16 32) (v648 : IVec S16 32) : Prop :=
  (∀ (k0_h5 : k0_cond5 i k0_t1 = 1#1), ∀ a x, ((![v646, v648] : Fin 2 → IVec S16 32) a x).toNat < S32x128.size a)
theorem k0_idx307_inb : ∀ (i : grid0.Coords) (k0_t1 : Fin k0_t1_loop.trips) (v646 : IVec S16 32) (v648 : IVec S16 32) (k0_hw307 : k0_chk307 i k0_t1 v646 v648), ∀ (k0_h5 : k0_cond5 i k0_t1 = 1#1), ∀ a x, ((![v646, v648] : Fin 2 → IVec S16 32) a x).toNat < S32x128.size a := fun i k0_t1 v646 v648 k0_hw307 k0_h5 => k0_hw307 k0_h5

def k0_chk308 (i : grid0.Coords) (k0_t1 : Fin k0_t1_loop.trips) (v658 : IVec S16 32) (v660 : IVec S16 32) : Prop :=
  (∀ (k0_h5 : k0_cond5 i k0_t1 = 1#1), ∀ a x, ((![v658, v660] : Fin 2 → IVec S16 32) a x).toNat < S32x128.size a)
theorem k0_idx308_inb : ∀ (i : grid0.Coords) (k0_t1 : Fin k0_t1_loop.trips) (v658 : IVec S16 32) (v660 : IVec S16 32) (k0_hw308 : k0_chk308 i k0_t1 v658 v660), ∀ (k0_h5 : k0_cond5 i k0_t1 = 1#1), ∀ a x, ((![v658, v660] : Fin 2 → IVec S16 32) a x).toNat < S32x128.size a := fun i k0_t1 v658 v660 k0_hw308 k0_h5 => k0_hw308 k0_h5

def k0_chk309 (i : grid0.Coords) (k0_t1 : Fin k0_t1_loop.trips) (v670 : IVec S16 32) (v672 : IVec S16 32) : Prop :=
  (∀ (k0_h5 : k0_cond5 i k0_t1 = 1#1), ∀ a x, ((![v670, v672] : Fin 2 → IVec S16 32) a x).toNat < S32x128.size a)
theorem k0_idx309_inb : ∀ (i : grid0.Coords) (k0_t1 : Fin k0_t1_loop.trips) (v670 : IVec S16 32) (v672 : IVec S16 32) (k0_hw309 : k0_chk309 i k0_t1 v670 v672), ∀ (k0_h5 : k0_cond5 i k0_t1 = 1#1), ∀ a x, ((![v670, v672] : Fin 2 → IVec S16 32) a x).toNat < S32x128.size a := fun i k0_t1 v670 v672 k0_hw309 k0_h5 => k0_hw309 k0_h5

def k0_chk310 (i : grid0.Coords) (k0_t1 : Fin k0_t1_loop.trips) (v682 : IVec S16 32) (v684 : IVec S16 32) : Prop :=
  (∀ (k0_h5 : k0_cond5 i k0_t1 = 1#1), ∀ a x, ((![v682, v684] : Fin 2 → IVec S16 32) a x).toNat < S32x128.size a)
theorem k0_idx310_inb : ∀ (i : grid0.Coords) (k0_t1 : Fin k0_t1_loop.trips) (v682 : IVec S16 32) (v684 : IVec S16 32) (k0_hw310 : k0_chk310 i k0_t1 v682 v684), ∀ (k0_h5 : k0_cond5 i k0_t1 = 1#1), ∀ a x, ((![v682, v684] : Fin 2 → IVec S16 32) a x).toNat < S32x128.size a := fun i k0_t1 v682 v684 k0_hw310 k0_h5 => k0_hw310 k0_h5

def k0_chk311 (i : grid0.Coords) (k0_t1 : Fin k0_t1_loop.trips) (v694 : IVec S16 32) (v696 : IVec S16 32) : Prop :=
  (∀ (k0_h5 : k0_cond5 i k0_t1 = 1#1), ∀ a x, ((![v694, v696] : Fin 2 → IVec S16 32) a x).toNat < S32x128.size a)
theorem k0_idx311_inb : ∀ (i : grid0.Coords) (k0_t1 : Fin k0_t1_loop.trips) (v694 : IVec S16 32) (v696 : IVec S16 32) (k0_hw311 : k0_chk311 i k0_t1 v694 v696), ∀ (k0_h5 : k0_cond5 i k0_t1 = 1#1), ∀ a x, ((![v694, v696] : Fin 2 → IVec S16 32) a x).toNat < S32x128.size a := fun i k0_t1 v694 v696 k0_hw311 k0_h5 => k0_hw311 k0_h5

def k0_chk312 (i : grid0.Coords) (k0_t1 : Fin k0_t1_loop.trips) (v706 : IVec S16 32) (v708 : IVec S16 32) : Prop :=
  (∀ (k0_h5 : k0_cond5 i k0_t1 = 1#1), ∀ a x, ((![v706, v708] : Fin 2 → IVec S16 32) a x).toNat < S32x128.size a)
theorem k0_idx312_inb : ∀ (i : grid0.Coords) (k0_t1 : Fin k0_t1_loop.trips) (v706 : IVec S16 32) (v708 : IVec S16 32) (k0_hw312 : k0_chk312 i k0_t1 v706 v708), ∀ (k0_h5 : k0_cond5 i k0_t1 = 1#1), ∀ a x, ((![v706, v708] : Fin 2 → IVec S16 32) a x).toNat < S32x128.size a := fun i k0_t1 v706 v708 k0_hw312 k0_h5 => k0_hw312 k0_h5

def k0_chk313 (i : grid0.Coords) (k0_t1 : Fin k0_t1_loop.trips) (v718 : IVec S16 32) (v720 : IVec S16 32) : Prop :=
  (∀ (k0_h5 : k0_cond5 i k0_t1 = 1#1), ∀ a x, ((![v718, v720] : Fin 2 → IVec S16 32) a x).toNat < S32x128.size a)
theorem k0_idx313_inb : ∀ (i : grid0.Coords) (k0_t1 : Fin k0_t1_loop.trips) (v718 : IVec S16 32) (v720 : IVec S16 32) (k0_hw313 : k0_chk313 i k0_t1 v718 v720), ∀ (k0_h5 : k0_cond5 i k0_t1 = 1#1), ∀ a x, ((![v718, v720] : Fin 2 → IVec S16 32) a x).toNat < S32x128.size a := fun i k0_t1 v718 v720 k0_hw313 k0_h5 => k0_hw313 k0_h5

def k0_chk314 (i : grid0.Coords) (k0_t1 : Fin k0_t1_loop.trips) (v730 : IVec S16 32) (v732 : IVec S16 32) : Prop :=
  (∀ (k0_h5 : k0_cond5 i k0_t1 = 1#1), ∀ a x, ((![v730, v732] : Fin 2 → IVec S16 32) a x).toNat < S32x128.size a)
theorem k0_idx314_inb : ∀ (i : grid0.Coords) (k0_t1 : Fin k0_t1_loop.trips) (v730 : IVec S16 32) (v732 : IVec S16 32) (k0_hw314 : k0_chk314 i k0_t1 v730 v732), ∀ (k0_h5 : k0_cond5 i k0_t1 = 1#1), ∀ a x, ((![v730, v732] : Fin 2 → IVec S16 32) a x).toNat < S32x128.size a := fun i k0_t1 v730 v732 k0_hw314 k0_h5 => k0_hw314 k0_h5

def k0_chk315 (i : grid0.Coords) (k0_t1 : Fin k0_t1_loop.trips) (v742 : IVec S16 32) (v744 : IVec S16 32) : Prop :=
  (∀ (k0_h5 : k0_cond5 i k0_t1 = 1#1), ∀ a x, ((![v742, v744] : Fin 2 → IVec S16 32) a x).toNat < S32x128.size a)
theorem k0_idx315_inb : ∀ (i : grid0.Coords) (k0_t1 : Fin k0_t1_loop.trips) (v742 : IVec S16 32) (v744 : IVec S16 32) (k0_hw315 : k0_chk315 i k0_t1 v742 v744), ∀ (k0_h5 : k0_cond5 i k0_t1 = 1#1), ∀ a x, ((![v742, v744] : Fin 2 → IVec S16 32) a x).toNat < S32x128.size a := fun i k0_t1 v742 v744 k0_hw315 k0_h5 => k0_hw315 k0_h5

def k0_chk316 (i : grid0.Coords) (k0_t1 : Fin k0_t1_loop.trips) (v754 : IVec S16 32) (v756 : IVec S16 32) : Prop :=
  (∀ (k0_h5 : k0_cond5 i k0_t1 = 1#1), ∀ a x, ((![v754, v756] : Fin 2 → IVec S16 32) a x).toNat < S32x128.size a)
theorem k0_idx316_inb : ∀ (i : grid0.Coords) (k0_t1 : Fin k0_t1_loop.trips) (v754 : IVec S16 32) (v756 : IVec S16 32) (k0_hw316 : k0_chk316 i k0_t1 v754 v756), ∀ (k0_h5 : k0_cond5 i k0_t1 = 1#1), ∀ a x, ((![v754, v756] : Fin 2 → IVec S16 32) a x).toNat < S32x128.size a := fun i k0_t1 v754 v756 k0_hw316 k0_h5 => k0_hw316 k0_h5

def k0_chk317 (i : grid0.Coords) (k0_t1 : Fin k0_t1_loop.trips) (v766 : IVec S16 32) (v768 : IVec S16 32) : Prop :=
  (∀ (k0_h5 : k0_cond5 i k0_t1 = 1#1), ∀ a x, ((![v766, v768] : Fin 2 → IVec S16 32) a x).toNat < S32x128.size a)
theorem k0_idx317_inb : ∀ (i : grid0.Coords) (k0_t1 : Fin k0_t1_loop.trips) (v766 : IVec S16 32) (v768 : IVec S16 32) (k0_hw317 : k0_chk317 i k0_t1 v766 v768), ∀ (k0_h5 : k0_cond5 i k0_t1 = 1#1), ∀ a x, ((![v766, v768] : Fin 2 → IVec S16 32) a x).toNat < S32x128.size a := fun i k0_t1 v766 v768 k0_hw317 k0_h5 => k0_hw317 k0_h5

def k0_chk318 (i : grid0.Coords) (k0_t1 : Fin k0_t1_loop.trips) (v778 : IVec S16 32) (v780 : IVec S16 32) : Prop :=
  (∀ (k0_h5 : k0_cond5 i k0_t1 = 1#1), ∀ a x, ((![v778, v780] : Fin 2 → IVec S16 32) a x).toNat < S32x128.size a)
theorem k0_idx318_inb : ∀ (i : grid0.Coords) (k0_t1 : Fin k0_t1_loop.trips) (v778 : IVec S16 32) (v780 : IVec S16 32) (k0_hw318 : k0_chk318 i k0_t1 v778 v780), ∀ (k0_h5 : k0_cond5 i k0_t1 = 1#1), ∀ a x, ((![v778, v780] : Fin 2 → IVec S16 32) a x).toNat < S32x128.size a := fun i k0_t1 v778 v780 k0_hw318 k0_h5 => k0_hw318 k0_h5

def k0_chk319 (i : grid0.Coords) (k0_t1 : Fin k0_t1_loop.trips) (v790 : IVec S16 32) (v792 : IVec S16 32) : Prop :=
  (∀ (k0_h5 : k0_cond5 i k0_t1 = 1#1), ∀ a x, ((![v790, v792] : Fin 2 → IVec S16 32) a x).toNat < S32x128.size a)
theorem k0_idx319_inb : ∀ (i : grid0.Coords) (k0_t1 : Fin k0_t1_loop.trips) (v790 : IVec S16 32) (v792 : IVec S16 32) (k0_hw319 : k0_chk319 i k0_t1 v790 v792), ∀ (k0_h5 : k0_cond5 i k0_t1 = 1#1), ∀ a x, ((![v790, v792] : Fin 2 → IVec S16 32) a x).toNat < S32x128.size a := fun i k0_t1 v790 v792 k0_hw319 k0_h5 => k0_hw319 k0_h5

def k0_chk320 (i : grid0.Coords) (k0_t1 : Fin k0_t1_loop.trips) (v802 : IVec S16 32) (v804 : IVec S16 32) : Prop :=
  (∀ (k0_h5 : k0_cond5 i k0_t1 = 1#1), ∀ a x, ((![v802, v804] : Fin 2 → IVec S16 32) a x).toNat < S32x128.size a)
theorem k0_idx320_inb : ∀ (i : grid0.Coords) (k0_t1 : Fin k0_t1_loop.trips) (v802 : IVec S16 32) (v804 : IVec S16 32) (k0_hw320 : k0_chk320 i k0_t1 v802 v804), ∀ (k0_h5 : k0_cond5 i k0_t1 = 1#1), ∀ a x, ((![v802, v804] : Fin 2 → IVec S16 32) a x).toNat < S32x128.size a := fun i k0_t1 v802 v804 k0_hw320 k0_h5 => k0_hw320 k0_h5

def k0_chk321 (i : grid0.Coords) (k0_t1 : Fin k0_t1_loop.trips) (v814 : IVec S16 32) (v816 : IVec S16 32) : Prop :=
  (∀ (k0_h5 : k0_cond5 i k0_t1 = 1#1), ∀ a x, ((![v814, v816] : Fin 2 → IVec S16 32) a x).toNat < S32x128.size a)
theorem k0_idx321_inb : ∀ (i : grid0.Coords) (k0_t1 : Fin k0_t1_loop.trips) (v814 : IVec S16 32) (v816 : IVec S16 32) (k0_hw321 : k0_chk321 i k0_t1 v814 v816), ∀ (k0_h5 : k0_cond5 i k0_t1 = 1#1), ∀ a x, ((![v814, v816] : Fin 2 → IVec S16 32) a x).toNat < S32x128.size a := fun i k0_t1 v814 v816 k0_hw321 k0_h5 => k0_hw321 k0_h5

def k0_chk322 (i : grid0.Coords) (k0_t1 : Fin k0_t1_loop.trips) (v826 : IVec S16 32) (v828 : IVec S16 32) : Prop :=
  (∀ (k0_h5 : k0_cond5 i k0_t1 = 1#1), ∀ a x, ((![v826, v828] : Fin 2 → IVec S16 32) a x).toNat < S32x128.size a)
theorem k0_idx322_inb : ∀ (i : grid0.Coords) (k0_t1 : Fin k0_t1_loop.trips) (v826 : IVec S16 32) (v828 : IVec S16 32) (k0_hw322 : k0_chk322 i k0_t1 v826 v828), ∀ (k0_h5 : k0_cond5 i k0_t1 = 1#1), ∀ a x, ((![v826, v828] : Fin 2 → IVec S16 32) a x).toNat < S32x128.size a := fun i k0_t1 v826 v828 k0_hw322 k0_h5 => k0_hw322 k0_h5

def k0_chk323 (i : grid0.Coords) (k0_t1 : Fin k0_t1_loop.trips) (v838 : IVec S16 32) (v840 : IVec S16 32) : Prop :=
  (∀ (k0_h5 : k0_cond5 i k0_t1 = 1#1), ∀ a x, ((![v838, v840] : Fin 2 → IVec S16 32) a x).toNat < S32x128.size a)
theorem k0_idx323_inb : ∀ (i : grid0.Coords) (k0_t1 : Fin k0_t1_loop.trips) (v838 : IVec S16 32) (v840 : IVec S16 32) (k0_hw323 : k0_chk323 i k0_t1 v838 v840), ∀ (k0_h5 : k0_cond5 i k0_t1 = 1#1), ∀ a x, ((![v838, v840] : Fin 2 → IVec S16 32) a x).toNat < S32x128.size a := fun i k0_t1 v838 v840 k0_hw323 k0_h5 => k0_hw323 k0_h5

def k0_chk324 (i : grid0.Coords) (k0_t1 : Fin k0_t1_loop.trips) (v850 : IVec S16 32) (v852 : IVec S16 32) : Prop :=
  (∀ (k0_h5 : k0_cond5 i k0_t1 = 1#1), ∀ a x, ((![v850, v852] : Fin 2 → IVec S16 32) a x).toNat < S32x128.size a)
theorem k0_idx324_inb : ∀ (i : grid0.Coords) (k0_t1 : Fin k0_t1_loop.trips) (v850 : IVec S16 32) (v852 : IVec S16 32) (k0_hw324 : k0_chk324 i k0_t1 v850 v852), ∀ (k0_h5 : k0_cond5 i k0_t1 = 1#1), ∀ a x, ((![v850, v852] : Fin 2 → IVec S16 32) a x).toNat < S32x128.size a := fun i k0_t1 v850 v852 k0_hw324 k0_h5 => k0_hw324 k0_h5

def k0_chk325 (i : grid0.Coords) (k0_t1 : Fin k0_t1_loop.trips) (v862 : IVec S16 32) (v864 : IVec S16 32) : Prop :=
  (∀ (k0_h5 : k0_cond5 i k0_t1 = 1#1), ∀ a x, ((![v862, v864] : Fin 2 → IVec S16 32) a x).toNat < S32x128.size a)
theorem k0_idx325_inb : ∀ (i : grid0.Coords) (k0_t1 : Fin k0_t1_loop.trips) (v862 : IVec S16 32) (v864 : IVec S16 32) (k0_hw325 : k0_chk325 i k0_t1 v862 v864), ∀ (k0_h5 : k0_cond5 i k0_t1 = 1#1), ∀ a x, ((![v862, v864] : Fin 2 → IVec S16 32) a x).toNat < S32x128.size a := fun i k0_t1 v862 v864 k0_hw325 k0_h5 => k0_hw325 k0_h5

def k0_chk326 (i : grid0.Coords) (k0_t1 : Fin k0_t1_loop.trips) (v874 : IVec S16 32) (v876 : IVec S16 32) : Prop :=
  (∀ (k0_h5 : k0_cond5 i k0_t1 = 1#1), ∀ a x, ((![v874, v876] : Fin 2 → IVec S16 32) a x).toNat < S32x128.size a)
theorem k0_idx326_inb : ∀ (i : grid0.Coords) (k0_t1 : Fin k0_t1_loop.trips) (v874 : IVec S16 32) (v876 : IVec S16 32) (k0_hw326 : k0_chk326 i k0_t1 v874 v876), ∀ (k0_h5 : k0_cond5 i k0_t1 = 1#1), ∀ a x, ((![v874, v876] : Fin 2 → IVec S16 32) a x).toNat < S32x128.size a := fun i k0_t1 v874 v876 k0_hw326 k0_h5 => k0_hw326 k0_h5

def k0_chk327 (i : grid0.Coords) (k0_t1 : Fin k0_t1_loop.trips) (v886 : IVec S16 32) (v888 : IVec S16 32) : Prop :=
  (∀ (k0_h5 : k0_cond5 i k0_t1 = 1#1), ∀ a x, ((![v886, v888] : Fin 2 → IVec S16 32) a x).toNat < S32x128.size a)
theorem k0_idx327_inb : ∀ (i : grid0.Coords) (k0_t1 : Fin k0_t1_loop.trips) (v886 : IVec S16 32) (v888 : IVec S16 32) (k0_hw327 : k0_chk327 i k0_t1 v886 v888), ∀ (k0_h5 : k0_cond5 i k0_t1 = 1#1), ∀ a x, ((![v886, v888] : Fin 2 → IVec S16 32) a x).toNat < S32x128.size a := fun i k0_t1 v886 v888 k0_hw327 k0_h5 => k0_hw327 k0_h5

def k0_chk328 (i : grid0.Coords) (k0_t1 : Fin k0_t1_loop.trips) (v898 : IVec S16 32) (v900 : IVec S16 32) : Prop :=
  (∀ (k0_h5 : k0_cond5 i k0_t1 = 1#1), ∀ a x, ((![v898, v900] : Fin 2 → IVec S16 32) a x).toNat < S32x128.size a)
theorem k0_idx328_inb : ∀ (i : grid0.Coords) (k0_t1 : Fin k0_t1_loop.trips) (v898 : IVec S16 32) (v900 : IVec S16 32) (k0_hw328 : k0_chk328 i k0_t1 v898 v900), ∀ (k0_h5 : k0_cond5 i k0_t1 = 1#1), ∀ a x, ((![v898, v900] : Fin 2 → IVec S16 32) a x).toNat < S32x128.size a := fun i k0_t1 v898 v900 k0_hw328 k0_h5 => k0_hw328 k0_h5

def k0_chk329 (i : grid0.Coords) (k0_t1 : Fin k0_t1_loop.trips) (v910 : IVec S16 32) (v912 : IVec S16 32) : Prop :=
  (∀ (k0_h5 : k0_cond5 i k0_t1 = 1#1), ∀ a x, ((![v910, v912] : Fin 2 → IVec S16 32) a x).toNat < S32x128.size a)
theorem k0_idx329_inb : ∀ (i : grid0.Coords) (k0_t1 : Fin k0_t1_loop.trips) (v910 : IVec S16 32) (v912 : IVec S16 32) (k0_hw329 : k0_chk329 i k0_t1 v910 v912), ∀ (k0_h5 : k0_cond5 i k0_t1 = 1#1), ∀ a x, ((![v910, v912] : Fin 2 → IVec S16 32) a x).toNat < S32x128.size a := fun i k0_t1 v910 v912 k0_hw329 k0_h5 => k0_hw329 k0_h5

def k0_chk330 (i : grid0.Coords) (k0_t1 : Fin k0_t1_loop.trips) (v922 : IVec S16 32) (v924 : IVec S16 32) : Prop :=
  (∀ (k0_h5 : k0_cond5 i k0_t1 = 1#1), ∀ a x, ((![v922, v924] : Fin 2 → IVec S16 32) a x).toNat < S32x128.size a)
theorem k0_idx330_inb : ∀ (i : grid0.Coords) (k0_t1 : Fin k0_t1_loop.trips) (v922 : IVec S16 32) (v924 : IVec S16 32) (k0_hw330 : k0_chk330 i k0_t1 v922 v924), ∀ (k0_h5 : k0_cond5 i k0_t1 = 1#1), ∀ a x, ((![v922, v924] : Fin 2 → IVec S16 32) a x).toNat < S32x128.size a := fun i k0_t1 v922 v924 k0_hw330 k0_h5 => k0_hw330 k0_h5

def k0_chk331 (i : grid0.Coords) (k0_t1 : Fin k0_t1_loop.trips) (v934 : IVec S16 32) (v936 : IVec S16 32) : Prop :=
  (∀ (k0_h5 : k0_cond5 i k0_t1 = 1#1), ∀ a x, ((![v934, v936] : Fin 2 → IVec S16 32) a x).toNat < S32x128.size a)
theorem k0_idx331_inb : ∀ (i : grid0.Coords) (k0_t1 : Fin k0_t1_loop.trips) (v934 : IVec S16 32) (v936 : IVec S16 32) (k0_hw331 : k0_chk331 i k0_t1 v934 v936), ∀ (k0_h5 : k0_cond5 i k0_t1 = 1#1), ∀ a x, ((![v934, v936] : Fin 2 → IVec S16 32) a x).toNat < S32x128.size a := fun i k0_t1 v934 v936 k0_hw331 k0_h5 => k0_hw331 k0_h5

def k0_chk332 (i : grid0.Coords) (k0_t1 : Fin k0_t1_loop.trips) (v946 : IVec S16 32) (v948 : IVec S16 32) : Prop :=
  (∀ (k0_h5 : k0_cond5 i k0_t1 = 1#1), ∀ a x, ((![v946, v948] : Fin 2 → IVec S16 32) a x).toNat < S32x128.size a)
theorem k0_idx332_inb : ∀ (i : grid0.Coords) (k0_t1 : Fin k0_t1_loop.trips) (v946 : IVec S16 32) (v948 : IVec S16 32) (k0_hw332 : k0_chk332 i k0_t1 v946 v948), ∀ (k0_h5 : k0_cond5 i k0_t1 = 1#1), ∀ a x, ((![v946, v948] : Fin 2 → IVec S16 32) a x).toNat < S32x128.size a := fun i k0_t1 v946 v948 k0_hw332 k0_h5 => k0_hw332 k0_h5

def k0_chk333 (i : grid0.Coords) (k0_t1 : Fin k0_t1_loop.trips) (v958 : IVec S16 32) (v960 : IVec S16 32) : Prop :=
  (∀ (k0_h5 : k0_cond5 i k0_t1 = 1#1), ∀ a x, ((![v958, v960] : Fin 2 → IVec S16 32) a x).toNat < S32x128.size a)
theorem k0_idx333_inb : ∀ (i : grid0.Coords) (k0_t1 : Fin k0_t1_loop.trips) (v958 : IVec S16 32) (v960 : IVec S16 32) (k0_hw333 : k0_chk333 i k0_t1 v958 v960), ∀ (k0_h5 : k0_cond5 i k0_t1 = 1#1), ∀ a x, ((![v958, v960] : Fin 2 → IVec S16 32) a x).toNat < S32x128.size a := fun i k0_t1 v958 v960 k0_hw333 k0_h5 => k0_hw333 k0_h5

def k0_chk334 (i : grid0.Coords) (k0_t1 : Fin k0_t1_loop.trips) (v970 : IVec S16 32) (v972 : IVec S16 32) : Prop :=
  (∀ (k0_h5 : k0_cond5 i k0_t1 = 1#1), ∀ a x, ((![v970, v972] : Fin 2 → IVec S16 32) a x).toNat < S32x128.size a)
theorem k0_idx334_inb : ∀ (i : grid0.Coords) (k0_t1 : Fin k0_t1_loop.trips) (v970 : IVec S16 32) (v972 : IVec S16 32) (k0_hw334 : k0_chk334 i k0_t1 v970 v972), ∀ (k0_h5 : k0_cond5 i k0_t1 = 1#1), ∀ a x, ((![v970, v972] : Fin 2 → IVec S16 32) a x).toNat < S32x128.size a := fun i k0_t1 v970 v972 k0_hw334 k0_h5 => k0_hw334 k0_h5

def k0_chk335 (i : grid0.Coords) (k0_t1 : Fin k0_t1_loop.trips) (v982 : IVec S16 32) (v984 : IVec S16 32) : Prop :=
  (∀ (k0_h5 : k0_cond5 i k0_t1 = 1#1), ∀ a x, ((![v982, v984] : Fin 2 → IVec S16 32) a x).toNat < S32x128.size a)
theorem k0_idx335_inb : ∀ (i : grid0.Coords) (k0_t1 : Fin k0_t1_loop.trips) (v982 : IVec S16 32) (v984 : IVec S16 32) (k0_hw335 : k0_chk335 i k0_t1 v982 v984), ∀ (k0_h5 : k0_cond5 i k0_t1 = 1#1), ∀ a x, ((![v982, v984] : Fin 2 → IVec S16 32) a x).toNat < S32x128.size a := fun i k0_t1 v982 v984 k0_hw335 k0_h5 => k0_hw335 k0_h5

def k0_chk336 (i : grid0.Coords) (k0_t1 : Fin k0_t1_loop.trips) (v994 : IVec S16 32) (v996 : IVec S16 32) : Prop :=
  (∀ (k0_h5 : k0_cond5 i k0_t1 = 1#1), ∀ a x, ((![v994, v996] : Fin 2 → IVec S16 32) a x).toNat < S32x128.size a)
theorem k0_idx336_inb : ∀ (i : grid0.Coords) (k0_t1 : Fin k0_t1_loop.trips) (v994 : IVec S16 32) (v996 : IVec S16 32) (k0_hw336 : k0_chk336 i k0_t1 v994 v996), ∀ (k0_h5 : k0_cond5 i k0_t1 = 1#1), ∀ a x, ((![v994, v996] : Fin 2 → IVec S16 32) a x).toNat < S32x128.size a := fun i k0_t1 v994 v996 k0_hw336 k0_h5 => k0_hw336 k0_h5

def k0_chk337 (i : grid0.Coords) (k0_t1 : Fin k0_t1_loop.trips) (v1006 : IVec S16 32) (v1008 : IVec S16 32) : Prop :=
  (∀ (k0_h5 : k0_cond5 i k0_t1 = 1#1), ∀ a x, ((![v1006, v1008] : Fin 2 → IVec S16 32) a x).toNat < S32x128.size a)
theorem k0_idx337_inb : ∀ (i : grid0.Coords) (k0_t1 : Fin k0_t1_loop.trips) (v1006 : IVec S16 32) (v1008 : IVec S16 32) (k0_hw337 : k0_chk337 i k0_t1 v1006 v1008), ∀ (k0_h5 : k0_cond5 i k0_t1 = 1#1), ∀ a x, ((![v1006, v1008] : Fin 2 → IVec S16 32) a x).toNat < S32x128.size a := fun i k0_t1 v1006 v1008 k0_hw337 k0_h5 => k0_hw337 k0_h5

def k0_chk338 (i : grid0.Coords) (k0_t1 : Fin k0_t1_loop.trips) (v1018 : IVec S16 32) (v1020 : IVec S16 32) : Prop :=
  (∀ (k0_h5 : k0_cond5 i k0_t1 = 1#1), ∀ a x, ((![v1018, v1020] : Fin 2 → IVec S16 32) a x).toNat < S32x128.size a)
theorem k0_idx338_inb : ∀ (i : grid0.Coords) (k0_t1 : Fin k0_t1_loop.trips) (v1018 : IVec S16 32) (v1020 : IVec S16 32) (k0_hw338 : k0_chk338 i k0_t1 v1018 v1020), ∀ (k0_h5 : k0_cond5 i k0_t1 = 1#1), ∀ a x, ((![v1018, v1020] : Fin 2 → IVec S16 32) a x).toNat < S32x128.size a := fun i k0_t1 v1018 v1020 k0_hw338 k0_h5 => k0_hw338 k0_h5

def k0_chk339 (i : grid0.Coords) (k0_t1 : Fin k0_t1_loop.trips) (v1030 : IVec S16 32) (v1032 : IVec S16 32) : Prop :=
  (∀ (k0_h5 : k0_cond5 i k0_t1 = 1#1), ∀ a x, ((![v1030, v1032] : Fin 2 → IVec S16 32) a x).toNat < S32x128.size a)
theorem k0_idx339_inb : ∀ (i : grid0.Coords) (k0_t1 : Fin k0_t1_loop.trips) (v1030 : IVec S16 32) (v1032 : IVec S16 32) (k0_hw339 : k0_chk339 i k0_t1 v1030 v1032), ∀ (k0_h5 : k0_cond5 i k0_t1 = 1#1), ∀ a x, ((![v1030, v1032] : Fin 2 → IVec S16 32) a x).toNat < S32x128.size a := fun i k0_t1 v1030 v1032 k0_hw339 k0_h5 => k0_hw339 k0_h5

def k0_chk340 (i : grid0.Coords) (k0_t1 : Fin k0_t1_loop.trips) (v1042 : IVec S16 32) (v1044 : IVec S16 32) : Prop :=
  (∀ (k0_h5 : k0_cond5 i k0_t1 = 1#1), ∀ a x, ((![v1042, v1044] : Fin 2 → IVec S16 32) a x).toNat < S32x128.size a)
theorem k0_idx340_inb : ∀ (i : grid0.Coords) (k0_t1 : Fin k0_t1_loop.trips) (v1042 : IVec S16 32) (v1044 : IVec S16 32) (k0_hw340 : k0_chk340 i k0_t1 v1042 v1044), ∀ (k0_h5 : k0_cond5 i k0_t1 = 1#1), ∀ a x, ((![v1042, v1044] : Fin 2 → IVec S16 32) a x).toNat < S32x128.size a := fun i k0_t1 v1042 v1044 k0_hw340 k0_h5 => k0_hw340 k0_h5

def k0_chk341 (i : grid0.Coords) (k0_t1 : Fin k0_t1_loop.trips) (v1054 : IVec S16 32) (v1056 : IVec S16 32) : Prop :=
  (∀ (k0_h5 : k0_cond5 i k0_t1 = 1#1), ∀ a x, ((![v1054, v1056] : Fin 2 → IVec S16 32) a x).toNat < S32x128.size a)
theorem k0_idx341_inb : ∀ (i : grid0.Coords) (k0_t1 : Fin k0_t1_loop.trips) (v1054 : IVec S16 32) (v1056 : IVec S16 32) (k0_hw341 : k0_chk341 i k0_t1 v1054 v1056), ∀ (k0_h5 : k0_cond5 i k0_t1 = 1#1), ∀ a x, ((![v1054, v1056] : Fin 2 → IVec S16 32) a x).toNat < S32x128.size a := fun i k0_t1 v1054 v1056 k0_hw341 k0_h5 => k0_hw341 k0_h5

def k0_chk342 (i : grid0.Coords) (k0_t1 : Fin k0_t1_loop.trips) (v1066 : IVec S16 32) (v1068 : IVec S16 32) : Prop :=
  (∀ (k0_h5 : k0_cond5 i k0_t1 = 1#1), ∀ a x, ((![v1066, v1068] : Fin 2 → IVec S16 32) a x).toNat < S32x128.size a)
theorem k0_idx342_inb : ∀ (i : grid0.Coords) (k0_t1 : Fin k0_t1_loop.trips) (v1066 : IVec S16 32) (v1068 : IVec S16 32) (k0_hw342 : k0_chk342 i k0_t1 v1066 v1068), ∀ (k0_h5 : k0_cond5 i k0_t1 = 1#1), ∀ a x, ((![v1066, v1068] : Fin 2 → IVec S16 32) a x).toNat < S32x128.size a := fun i k0_t1 v1066 v1068 k0_hw342 k0_h5 => k0_hw342 k0_h5

def k0_chk343 (i : grid0.Coords) (k0_t1 : Fin k0_t1_loop.trips) (v1078 : IVec S16 32) (v1080 : IVec S16 32) : Prop :=
  (∀ (k0_h5 : k0_cond5 i k0_t1 = 1#1), ∀ a x, ((![v1078, v1080] : Fin 2 → IVec S16 32) a x).toNat < S32x128.size a)
theorem k0_idx343_inb : ∀ (i : grid0.Coords) (k0_t1 : Fin k0_t1_loop.trips) (v1078 : IVec S16 32) (v1080 : IVec S16 32) (k0_hw343 : k0_chk343 i k0_t1 v1078 v1080), ∀ (k0_h5 : k0_cond5 i k0_t1 = 1#1), ∀ a x, ((![v1078, v1080] : Fin 2 → IVec S16 32) a x).toNat < S32x128.size a := fun i k0_t1 v1078 v1080 k0_hw343 k0_h5 => k0_hw343 k0_h5

def k0_chk344 (i : grid0.Coords) (k0_t1 : Fin k0_t1_loop.trips) (v1090 : IVec S16 32) (v1092 : IVec S16 32) : Prop :=
  (∀ (k0_h5 : k0_cond5 i k0_t1 = 1#1), ∀ a x, ((![v1090, v1092] : Fin 2 → IVec S16 32) a x).toNat < S32x128.size a)
theorem k0_idx344_inb : ∀ (i : grid0.Coords) (k0_t1 : Fin k0_t1_loop.trips) (v1090 : IVec S16 32) (v1092 : IVec S16 32) (k0_hw344 : k0_chk344 i k0_t1 v1090 v1092), ∀ (k0_h5 : k0_cond5 i k0_t1 = 1#1), ∀ a x, ((![v1090, v1092] : Fin 2 → IVec S16 32) a x).toNat < S32x128.size a := fun i k0_t1 v1090 v1092 k0_hw344 k0_h5 => k0_hw344 k0_h5

def k0_chk345 (i : grid0.Coords) (k0_t1 : Fin k0_t1_loop.trips) (v1102 : IVec S16 32) (v1104 : IVec S16 32) : Prop :=
  (∀ (k0_h5 : k0_cond5 i k0_t1 = 1#1), ∀ a x, ((![v1102, v1104] : Fin 2 → IVec S16 32) a x).toNat < S32x128.size a)
theorem k0_idx345_inb : ∀ (i : grid0.Coords) (k0_t1 : Fin k0_t1_loop.trips) (v1102 : IVec S16 32) (v1104 : IVec S16 32) (k0_hw345 : k0_chk345 i k0_t1 v1102 v1104), ∀ (k0_h5 : k0_cond5 i k0_t1 = 1#1), ∀ a x, ((![v1102, v1104] : Fin 2 → IVec S16 32) a x).toNat < S32x128.size a := fun i k0_t1 v1102 v1104 k0_hw345 k0_h5 => k0_hw345 k0_h5

def k0_chk346 (i : grid0.Coords) (k0_t1 : Fin k0_t1_loop.trips) (v1114 : IVec S16 32) (v1116 : IVec S16 32) : Prop :=
  (∀ (k0_h5 : k0_cond5 i k0_t1 = 1#1), ∀ a x, ((![v1114, v1116] : Fin 2 → IVec S16 32) a x).toNat < S32x128.size a)
theorem k0_idx346_inb : ∀ (i : grid0.Coords) (k0_t1 : Fin k0_t1_loop.trips) (v1114 : IVec S16 32) (v1116 : IVec S16 32) (k0_hw346 : k0_chk346 i k0_t1 v1114 v1116), ∀ (k0_h5 : k0_cond5 i k0_t1 = 1#1), ∀ a x, ((![v1114, v1116] : Fin 2 → IVec S16 32) a x).toNat < S32x128.size a := fun i k0_t1 v1114 v1116 k0_hw346 k0_h5 => k0_hw346 k0_h5

def k0_chk347 (i : grid0.Coords) (k0_t1 : Fin k0_t1_loop.trips) (v1126 : IVec S16 32) (v1128 : IVec S16 32) : Prop :=
  (∀ (k0_h5 : k0_cond5 i k0_t1 = 1#1), ∀ a x, ((![v1126, v1128] : Fin 2 → IVec S16 32) a x).toNat < S32x128.size a)
theorem k0_idx347_inb : ∀ (i : grid0.Coords) (k0_t1 : Fin k0_t1_loop.trips) (v1126 : IVec S16 32) (v1128 : IVec S16 32) (k0_hw347 : k0_chk347 i k0_t1 v1126 v1128), ∀ (k0_h5 : k0_cond5 i k0_t1 = 1#1), ∀ a x, ((![v1126, v1128] : Fin 2 → IVec S16 32) a x).toNat < S32x128.size a := fun i k0_t1 v1126 v1128 k0_hw347 k0_h5 => k0_hw347 k0_h5

def k0_chk348 (i : grid0.Coords) (k0_t1 : Fin k0_t1_loop.trips) (v1138 : IVec S16 32) (v1140 : IVec S16 32) : Prop :=
  (∀ (k0_h5 : k0_cond5 i k0_t1 = 1#1), ∀ a x, ((![v1138, v1140] : Fin 2 → IVec S16 32) a x).toNat < S32x128.size a)
theorem k0_idx348_inb : ∀ (i : grid0.Coords) (k0_t1 : Fin k0_t1_loop.trips) (v1138 : IVec S16 32) (v1140 : IVec S16 32) (k0_hw348 : k0_chk348 i k0_t1 v1138 v1140), ∀ (k0_h5 : k0_cond5 i k0_t1 = 1#1), ∀ a x, ((![v1138, v1140] : Fin 2 → IVec S16 32) a x).toNat < S32x128.size a := fun i k0_t1 v1138 v1140 k0_hw348 k0_h5 => k0_hw348 k0_h5

def k0_chk349 (i : grid0.Coords) (k0_t1 : Fin k0_t1_loop.trips) (v1150 : IVec S16 32) (v1152 : IVec S16 32) : Prop :=
  (∀ (k0_h5 : k0_cond5 i k0_t1 = 1#1), ∀ a x, ((![v1150, v1152] : Fin 2 → IVec S16 32) a x).toNat < S32x128.size a)
theorem k0_idx349_inb : ∀ (i : grid0.Coords) (k0_t1 : Fin k0_t1_loop.trips) (v1150 : IVec S16 32) (v1152 : IVec S16 32) (k0_hw349 : k0_chk349 i k0_t1 v1150 v1152), ∀ (k0_h5 : k0_cond5 i k0_t1 = 1#1), ∀ a x, ((![v1150, v1152] : Fin 2 → IVec S16 32) a x).toNat < S32x128.size a := fun i k0_t1 v1150 v1152 k0_hw349 k0_h5 => k0_hw349 k0_h5

def k0_chk350 (i : grid0.Coords) (k0_t1 : Fin k0_t1_loop.trips) (v1162 : IVec S16 32) (v1164 : IVec S16 32) : Prop :=
  (∀ (k0_h5 : k0_cond5 i k0_t1 = 1#1), ∀ a x, ((![v1162, v1164] : Fin 2 → IVec S16 32) a x).toNat < S32x128.size a)
theorem k0_idx350_inb : ∀ (i : grid0.Coords) (k0_t1 : Fin k0_t1_loop.trips) (v1162 : IVec S16 32) (v1164 : IVec S16 32) (k0_hw350 : k0_chk350 i k0_t1 v1162 v1164), ∀ (k0_h5 : k0_cond5 i k0_t1 = 1#1), ∀ a x, ((![v1162, v1164] : Fin 2 → IVec S16 32) a x).toNat < S32x128.size a := fun i k0_t1 v1162 v1164 k0_hw350 k0_h5 => k0_hw350 k0_h5

def k0_chk351 (i : grid0.Coords) (k0_t1 : Fin k0_t1_loop.trips) (v1174 : IVec S16 32) (v1176 : IVec S16 32) : Prop :=
  (∀ (k0_h5 : k0_cond5 i k0_t1 = 1#1), ∀ a x, ((![v1174, v1176] : Fin 2 → IVec S16 32) a x).toNat < S32x128.size a)
theorem k0_idx351_inb : ∀ (i : grid0.Coords) (k0_t1 : Fin k0_t1_loop.trips) (v1174 : IVec S16 32) (v1176 : IVec S16 32) (k0_hw351 : k0_chk351 i k0_t1 v1174 v1176), ∀ (k0_h5 : k0_cond5 i k0_t1 = 1#1), ∀ a x, ((![v1174, v1176] : Fin 2 → IVec S16 32) a x).toNat < S32x128.size a := fun i k0_t1 v1174 v1176 k0_hw351 k0_h5 => k0_hw351 k0_h5

def k0_chk352 (i : grid0.Coords) (k0_t1 : Fin k0_t1_loop.trips) (v1186 : IVec S16 32) (v1188 : IVec S16 32) : Prop :=
  (∀ (k0_h5 : k0_cond5 i k0_t1 = 1#1), ∀ a x, ((![v1186, v1188] : Fin 2 → IVec S16 32) a x).toNat < S32x128.size a)
theorem k0_idx352_inb : ∀ (i : grid0.Coords) (k0_t1 : Fin k0_t1_loop.trips) (v1186 : IVec S16 32) (v1188 : IVec S16 32) (k0_hw352 : k0_chk352 i k0_t1 v1186 v1188), ∀ (k0_h5 : k0_cond5 i k0_t1 = 1#1), ∀ a x, ((![v1186, v1188] : Fin 2 → IVec S16 32) a x).toNat < S32x128.size a := fun i k0_t1 v1186 v1188 k0_hw352 k0_h5 => k0_hw352 k0_h5

def k0_chk353 (i : grid0.Coords) (k0_t1 : Fin k0_t1_loop.trips) (v1198 : IVec S16 32) (v1200 : IVec S16 32) : Prop :=
  (∀ (k0_h5 : k0_cond5 i k0_t1 = 1#1), ∀ a x, ((![v1198, v1200] : Fin 2 → IVec S16 32) a x).toNat < S32x128.size a)
theorem k0_idx353_inb : ∀ (i : grid0.Coords) (k0_t1 : Fin k0_t1_loop.trips) (v1198 : IVec S16 32) (v1200 : IVec S16 32) (k0_hw353 : k0_chk353 i k0_t1 v1198 v1200), ∀ (k0_h5 : k0_cond5 i k0_t1 = 1#1), ∀ a x, ((![v1198, v1200] : Fin 2 → IVec S16 32) a x).toNat < S32x128.size a := fun i k0_t1 v1198 v1200 k0_hw353 k0_h5 => k0_hw353 k0_h5

def k0_chk354 (i : grid0.Coords) (k0_t1 : Fin k0_t1_loop.trips) (v1210 : IVec S16 32) (v1212 : IVec S16 32) : Prop :=
  (∀ (k0_h5 : k0_cond5 i k0_t1 = 1#1), ∀ a x, ((![v1210, v1212] : Fin 2 → IVec S16 32) a x).toNat < S32x128.size a)
theorem k0_idx354_inb : ∀ (i : grid0.Coords) (k0_t1 : Fin k0_t1_loop.trips) (v1210 : IVec S16 32) (v1212 : IVec S16 32) (k0_hw354 : k0_chk354 i k0_t1 v1210 v1212), ∀ (k0_h5 : k0_cond5 i k0_t1 = 1#1), ∀ a x, ((![v1210, v1212] : Fin 2 → IVec S16 32) a x).toNat < S32x128.size a := fun i k0_t1 v1210 v1212 k0_hw354 k0_h5 => k0_hw354 k0_h5

def k0_chk355 (i : grid0.Coords) (k0_t1 : Fin k0_t1_loop.trips) (v1222 : IVec S16 32) (v1224 : IVec S16 32) : Prop :=
  (∀ (k0_h5 : k0_cond5 i k0_t1 = 1#1), ∀ a x, ((![v1222, v1224] : Fin 2 → IVec S16 32) a x).toNat < S32x128.size a)
theorem k0_idx355_inb : ∀ (i : grid0.Coords) (k0_t1 : Fin k0_t1_loop.trips) (v1222 : IVec S16 32) (v1224 : IVec S16 32) (k0_hw355 : k0_chk355 i k0_t1 v1222 v1224), ∀ (k0_h5 : k0_cond5 i k0_t1 = 1#1), ∀ a x, ((![v1222, v1224] : Fin 2 → IVec S16 32) a x).toNat < S32x128.size a := fun i k0_t1 v1222 v1224 k0_hw355 k0_h5 => k0_hw355 k0_h5

def k0_chk356 (i : grid0.Coords) (k0_t1 : Fin k0_t1_loop.trips) (v1234 : IVec S16 32) (v1236 : IVec S16 32) : Prop :=
  (∀ (k0_h5 : k0_cond5 i k0_t1 = 1#1), ∀ a x, ((![v1234, v1236] : Fin 2 → IVec S16 32) a x).toNat < S32x128.size a)
theorem k0_idx356_inb : ∀ (i : grid0.Coords) (k0_t1 : Fin k0_t1_loop.trips) (v1234 : IVec S16 32) (v1236 : IVec S16 32) (k0_hw356 : k0_chk356 i k0_t1 v1234 v1236), ∀ (k0_h5 : k0_cond5 i k0_t1 = 1#1), ∀ a x, ((![v1234, v1236] : Fin 2 → IVec S16 32) a x).toNat < S32x128.size a := fun i k0_t1 v1234 v1236 k0_hw356 k0_h5 => k0_hw356 k0_h5

def k0_chk357 (i : grid0.Coords) (k0_t1 : Fin k0_t1_loop.trips) (v1246 : IVec S16 32) (v1248 : IVec S16 32) : Prop :=
  (∀ (k0_h5 : k0_cond5 i k0_t1 = 1#1), ∀ a x, ((![v1246, v1248] : Fin 2 → IVec S16 32) a x).toNat < S32x128.size a)
theorem k0_idx357_inb : ∀ (i : grid0.Coords) (k0_t1 : Fin k0_t1_loop.trips) (v1246 : IVec S16 32) (v1248 : IVec S16 32) (k0_hw357 : k0_chk357 i k0_t1 v1246 v1248), ∀ (k0_h5 : k0_cond5 i k0_t1 = 1#1), ∀ a x, ((![v1246, v1248] : Fin 2 → IVec S16 32) a x).toNat < S32x128.size a := fun i k0_t1 v1246 v1248 k0_hw357 k0_h5 => k0_hw357 k0_h5

def k0_chk358 (i : grid0.Coords) (k0_t1 : Fin k0_t1_loop.trips) (v1258 : IVec S16 32) (v1260 : IVec S16 32) : Prop :=
  (∀ (k0_h5 : k0_cond5 i k0_t1 = 1#1), ∀ a x, ((![v1258, v1260] : Fin 2 → IVec S16 32) a x).toNat < S32x128.size a)
theorem k0_idx358_inb : ∀ (i : grid0.Coords) (k0_t1 : Fin k0_t1_loop.trips) (v1258 : IVec S16 32) (v1260 : IVec S16 32) (k0_hw358 : k0_chk358 i k0_t1 v1258 v1260), ∀ (k0_h5 : k0_cond5 i k0_t1 = 1#1), ∀ a x, ((![v1258, v1260] : Fin 2 → IVec S16 32) a x).toNat < S32x128.size a := fun i k0_t1 v1258 v1260 k0_hw358 k0_h5 => k0_hw358 k0_h5

def k0_chk359 (i : grid0.Coords) (k0_t1 : Fin k0_t1_loop.trips) (v1270 : IVec S16 32) (v1272 : IVec S16 32) : Prop :=
  (∀ (k0_h5 : k0_cond5 i k0_t1 = 1#1), ∀ a x, ((![v1270, v1272] : Fin 2 → IVec S16 32) a x).toNat < S32x128.size a)
theorem k0_idx359_inb : ∀ (i : grid0.Coords) (k0_t1 : Fin k0_t1_loop.trips) (v1270 : IVec S16 32) (v1272 : IVec S16 32) (k0_hw359 : k0_chk359 i k0_t1 v1270 v1272), ∀ (k0_h5 : k0_cond5 i k0_t1 = 1#1), ∀ a x, ((![v1270, v1272] : Fin 2 → IVec S16 32) a x).toNat < S32x128.size a := fun i k0_t1 v1270 v1272 k0_hw359 k0_h5 => k0_hw359 k0_h5

def k0_chk360 (i : grid0.Coords) (k0_t1 : Fin k0_t1_loop.trips) (v1282 : IVec S16 32) (v1284 : IVec S16 32) : Prop :=
  (∀ (k0_h5 : k0_cond5 i k0_t1 = 1#1), ∀ a x, ((![v1282, v1284] : Fin 2 → IVec S16 32) a x).toNat < S32x128.size a)
theorem k0_idx360_inb : ∀ (i : grid0.Coords) (k0_t1 : Fin k0_t1_loop.trips) (v1282 : IVec S16 32) (v1284 : IVec S16 32) (k0_hw360 : k0_chk360 i k0_t1 v1282 v1284), ∀ (k0_h5 : k0_cond5 i k0_t1 = 1#1), ∀ a x, ((![v1282, v1284] : Fin 2 → IVec S16 32) a x).toNat < S32x128.size a := fun i k0_t1 v1282 v1284 k0_hw360 k0_h5 => k0_hw360 k0_h5

def k0_chk361 (i : grid0.Coords) (k0_t1 : Fin k0_t1_loop.trips) (v1294 : IVec S16 32) (v1296 : IVec S16 32) : Prop :=
  (∀ (k0_h5 : k0_cond5 i k0_t1 = 1#1), ∀ a x, ((![v1294, v1296] : Fin 2 → IVec S16 32) a x).toNat < S32x128.size a)
theorem k0_idx361_inb : ∀ (i : grid0.Coords) (k0_t1 : Fin k0_t1_loop.trips) (v1294 : IVec S16 32) (v1296 : IVec S16 32) (k0_hw361 : k0_chk361 i k0_t1 v1294 v1296), ∀ (k0_h5 : k0_cond5 i k0_t1 = 1#1), ∀ a x, ((![v1294, v1296] : Fin 2 → IVec S16 32) a x).toNat < S32x128.size a := fun i k0_t1 v1294 v1296 k0_hw361 k0_h5 => k0_hw361 k0_h5

def k0_chk362 (i : grid0.Coords) (k0_t1 : Fin k0_t1_loop.trips) (v1306 : IVec S16 32) (v1308 : IVec S16 32) : Prop :=
  (∀ (k0_h5 : k0_cond5 i k0_t1 = 1#1), ∀ a x, ((![v1306, v1308] : Fin 2 → IVec S16 32) a x).toNat < S32x128.size a)
theorem k0_idx362_inb : ∀ (i : grid0.Coords) (k0_t1 : Fin k0_t1_loop.trips) (v1306 : IVec S16 32) (v1308 : IVec S16 32) (k0_hw362 : k0_chk362 i k0_t1 v1306 v1308), ∀ (k0_h5 : k0_cond5 i k0_t1 = 1#1), ∀ a x, ((![v1306, v1308] : Fin 2 → IVec S16 32) a x).toNat < S32x128.size a := fun i k0_t1 v1306 v1308 k0_hw362 k0_h5 => k0_hw362 k0_h5

def k0_chk363 (i : grid0.Coords) (k0_t1 : Fin k0_t1_loop.trips) (v1318 : IVec S16 32) (v1320 : IVec S16 32) : Prop :=
  (∀ (k0_h5 : k0_cond5 i k0_t1 = 1#1), ∀ a x, ((![v1318, v1320] : Fin 2 → IVec S16 32) a x).toNat < S32x128.size a)
theorem k0_idx363_inb : ∀ (i : grid0.Coords) (k0_t1 : Fin k0_t1_loop.trips) (v1318 : IVec S16 32) (v1320 : IVec S16 32) (k0_hw363 : k0_chk363 i k0_t1 v1318 v1320), ∀ (k0_h5 : k0_cond5 i k0_t1 = 1#1), ∀ a x, ((![v1318, v1320] : Fin 2 → IVec S16 32) a x).toNat < S32x128.size a := fun i k0_t1 v1318 v1320 k0_hw363 k0_h5 => k0_hw363 k0_h5

def k0_chk364 (i : grid0.Coords) (k0_t1 : Fin k0_t1_loop.trips) (v1330 : IVec S16 32) (v1332 : IVec S16 32) : Prop :=
  (∀ (k0_h5 : k0_cond5 i k0_t1 = 1#1), ∀ a x, ((![v1330, v1332] : Fin 2 → IVec S16 32) a x).toNat < S32x128.size a)
theorem k0_idx364_inb : ∀ (i : grid0.Coords) (k0_t1 : Fin k0_t1_loop.trips) (v1330 : IVec S16 32) (v1332 : IVec S16 32) (k0_hw364 : k0_chk364 i k0_t1 v1330 v1332), ∀ (k0_h5 : k0_cond5 i k0_t1 = 1#1), ∀ a x, ((![v1330, v1332] : Fin 2 → IVec S16 32) a x).toNat < S32x128.size a := fun i k0_t1 v1330 v1332 k0_hw364 k0_h5 => k0_hw364 k0_h5

def k0_chk365 (i : grid0.Coords) (k0_t1 : Fin k0_t1_loop.trips) (v1342 : IVec S16 32) (v1344 : IVec S16 32) : Prop :=
  (∀ (k0_h5 : k0_cond5 i k0_t1 = 1#1), ∀ a x, ((![v1342, v1344] : Fin 2 → IVec S16 32) a x).toNat < S32x128.size a)
theorem k0_idx365_inb : ∀ (i : grid0.Coords) (k0_t1 : Fin k0_t1_loop.trips) (v1342 : IVec S16 32) (v1344 : IVec S16 32) (k0_hw365 : k0_chk365 i k0_t1 v1342 v1344), ∀ (k0_h5 : k0_cond5 i k0_t1 = 1#1), ∀ a x, ((![v1342, v1344] : Fin 2 → IVec S16 32) a x).toNat < S32x128.size a := fun i k0_t1 v1342 v1344 k0_hw365 k0_h5 => k0_hw365 k0_h5

def k0_chk366 (i : grid0.Coords) (k0_t1 : Fin k0_t1_loop.trips) (v1354 : IVec S16 32) (v1356 : IVec S16 32) : Prop :=
  (∀ (k0_h5 : k0_cond5 i k0_t1 = 1#1), ∀ a x, ((![v1354, v1356] : Fin 2 → IVec S16 32) a x).toNat < S32x128.size a)
theorem k0_idx366_inb : ∀ (i : grid0.Coords) (k0_t1 : Fin k0_t1_loop.trips) (v1354 : IVec S16 32) (v1356 : IVec S16 32) (k0_hw366 : k0_chk366 i k0_t1 v1354 v1356), ∀ (k0_h5 : k0_cond5 i k0_t1 = 1#1), ∀ a x, ((![v1354, v1356] : Fin 2 → IVec S16 32) a x).toNat < S32x128.size a := fun i k0_t1 v1354 v1356 k0_hw366 k0_h5 => k0_hw366 k0_h5

def k0_chk367 (i : grid0.Coords) (k0_t1 : Fin k0_t1_loop.trips) (v1366 : IVec S16 32) (v1368 : IVec S16 32) : Prop :=
  (∀ (k0_h5 : k0_cond5 i k0_t1 = 1#1), ∀ a x, ((![v1366, v1368] : Fin 2 → IVec S16 32) a x).toNat < S32x128.size a)
theorem k0_idx367_inb : ∀ (i : grid0.Coords) (k0_t1 : Fin k0_t1_loop.trips) (v1366 : IVec S16 32) (v1368 : IVec S16 32) (k0_hw367 : k0_chk367 i k0_t1 v1366 v1368), ∀ (k0_h5 : k0_cond5 i k0_t1 = 1#1), ∀ a x, ((![v1366, v1368] : Fin 2 → IVec S16 32) a x).toNat < S32x128.size a := fun i k0_t1 v1366 v1368 k0_hw367 k0_h5 => k0_hw367 k0_h5

def k0_chk368 (i : grid0.Coords) (k0_t1 : Fin k0_t1_loop.trips) (v1378 : IVec S16 32) (v1380 : IVec S16 32) : Prop :=
  (∀ (k0_h5 : k0_cond5 i k0_t1 = 1#1), ∀ a x, ((![v1378, v1380] : Fin 2 → IVec S16 32) a x).toNat < S32x128.size a)
theorem k0_idx368_inb : ∀ (i : grid0.Coords) (k0_t1 : Fin k0_t1_loop.trips) (v1378 : IVec S16 32) (v1380 : IVec S16 32) (k0_hw368 : k0_chk368 i k0_t1 v1378 v1380), ∀ (k0_h5 : k0_cond5 i k0_t1 = 1#1), ∀ a x, ((![v1378, v1380] : Fin 2 → IVec S16 32) a x).toNat < S32x128.size a := fun i k0_t1 v1378 v1380 k0_hw368 k0_h5 => k0_hw368 k0_h5

def k0_chk369 (i : grid0.Coords) (k0_t1 : Fin k0_t1_loop.trips) (v1390 : IVec S16 32) (v1392 : IVec S16 32) : Prop :=
  (∀ (k0_h5 : k0_cond5 i k0_t1 = 1#1), ∀ a x, ((![v1390, v1392] : Fin 2 → IVec S16 32) a x).toNat < S32x128.size a)
theorem k0_idx369_inb : ∀ (i : grid0.Coords) (k0_t1 : Fin k0_t1_loop.trips) (v1390 : IVec S16 32) (v1392 : IVec S16 32) (k0_hw369 : k0_chk369 i k0_t1 v1390 v1392), ∀ (k0_h5 : k0_cond5 i k0_t1 = 1#1), ∀ a x, ((![v1390, v1392] : Fin 2 → IVec S16 32) a x).toNat < S32x128.size a := fun i k0_t1 v1390 v1392 k0_hw369 k0_h5 => k0_hw369 k0_h5

def k0_chk370 (i : grid0.Coords) (k0_t1 : Fin k0_t1_loop.trips) (v1402 : IVec S16 32) (v1404 : IVec S16 32) : Prop :=
  (∀ (k0_h5 : k0_cond5 i k0_t1 = 1#1), ∀ a x, ((![v1402, v1404] : Fin 2 → IVec S16 32) a x).toNat < S32x128.size a)
theorem k0_idx370_inb : ∀ (i : grid0.Coords) (k0_t1 : Fin k0_t1_loop.trips) (v1402 : IVec S16 32) (v1404 : IVec S16 32) (k0_hw370 : k0_chk370 i k0_t1 v1402 v1404), ∀ (k0_h5 : k0_cond5 i k0_t1 = 1#1), ∀ a x, ((![v1402, v1404] : Fin 2 → IVec S16 32) a x).toNat < S32x128.size a := fun i k0_t1 v1402 v1404 k0_hw370 k0_h5 => k0_hw370 k0_h5

def k0_chk371 (i : grid0.Coords) (k0_t1 : Fin k0_t1_loop.trips) (v1414 : IVec S16 32) (v1416 : IVec S16 32) : Prop :=
  (∀ (k0_h5 : k0_cond5 i k0_t1 = 1#1), ∀ a x, ((![v1414, v1416] : Fin 2 → IVec S16 32) a x).toNat < S32x128.size a)
theorem k0_idx371_inb : ∀ (i : grid0.Coords) (k0_t1 : Fin k0_t1_loop.trips) (v1414 : IVec S16 32) (v1416 : IVec S16 32) (k0_hw371 : k0_chk371 i k0_t1 v1414 v1416), ∀ (k0_h5 : k0_cond5 i k0_t1 = 1#1), ∀ a x, ((![v1414, v1416] : Fin 2 → IVec S16 32) a x).toNat < S32x128.size a := fun i k0_t1 v1414 v1416 k0_hw371 k0_h5 => k0_hw371 k0_h5

def k0_chk372 (i : grid0.Coords) (k0_t1 : Fin k0_t1_loop.trips) (v1426 : IVec S16 32) (v1428 : IVec S16 32) : Prop :=
  (∀ (k0_h5 : k0_cond5 i k0_t1 = 1#1), ∀ a x, ((![v1426, v1428] : Fin 2 → IVec S16 32) a x).toNat < S32x128.size a)
theorem k0_idx372_inb : ∀ (i : grid0.Coords) (k0_t1 : Fin k0_t1_loop.trips) (v1426 : IVec S16 32) (v1428 : IVec S16 32) (k0_hw372 : k0_chk372 i k0_t1 v1426 v1428), ∀ (k0_h5 : k0_cond5 i k0_t1 = 1#1), ∀ a x, ((![v1426, v1428] : Fin 2 → IVec S16 32) a x).toNat < S32x128.size a := fun i k0_t1 v1426 v1428 k0_hw372 k0_h5 => k0_hw372 k0_h5

def k0_chk373 (i : grid0.Coords) (k0_t1 : Fin k0_t1_loop.trips) (v1438 : IVec S16 32) (v1440 : IVec S16 32) : Prop :=
  (∀ (k0_h5 : k0_cond5 i k0_t1 = 1#1), ∀ a x, ((![v1438, v1440] : Fin 2 → IVec S16 32) a x).toNat < S32x128.size a)
theorem k0_idx373_inb : ∀ (i : grid0.Coords) (k0_t1 : Fin k0_t1_loop.trips) (v1438 : IVec S16 32) (v1440 : IVec S16 32) (k0_hw373 : k0_chk373 i k0_t1 v1438 v1440), ∀ (k0_h5 : k0_cond5 i k0_t1 = 1#1), ∀ a x, ((![v1438, v1440] : Fin 2 → IVec S16 32) a x).toNat < S32x128.size a := fun i k0_t1 v1438 v1440 k0_hw373 k0_h5 => k0_hw373 k0_h5

def k0_chk374 (i : grid0.Coords) (k0_t1 : Fin k0_t1_loop.trips) (v1450 : IVec S16 32) (v1452 : IVec S16 32) : Prop :=
  (∀ (k0_h5 : k0_cond5 i k0_t1 = 1#1), ∀ a x, ((![v1450, v1452] : Fin 2 → IVec S16 32) a x).toNat < S32x128.size a)
theorem k0_idx374_inb : ∀ (i : grid0.Coords) (k0_t1 : Fin k0_t1_loop.trips) (v1450 : IVec S16 32) (v1452 : IVec S16 32) (k0_hw374 : k0_chk374 i k0_t1 v1450 v1452), ∀ (k0_h5 : k0_cond5 i k0_t1 = 1#1), ∀ a x, ((![v1450, v1452] : Fin 2 → IVec S16 32) a x).toNat < S32x128.size a := fun i k0_t1 v1450 v1452 k0_hw374 k0_h5 => k0_hw374 k0_h5

def k0_chk375 (i : grid0.Coords) (k0_t1 : Fin k0_t1_loop.trips) (v1462 : IVec S16 32) (v1464 : IVec S16 32) : Prop :=
  (∀ (k0_h5 : k0_cond5 i k0_t1 = 1#1), ∀ a x, ((![v1462, v1464] : Fin 2 → IVec S16 32) a x).toNat < S32x128.size a)
theorem k0_idx375_inb : ∀ (i : grid0.Coords) (k0_t1 : Fin k0_t1_loop.trips) (v1462 : IVec S16 32) (v1464 : IVec S16 32) (k0_hw375 : k0_chk375 i k0_t1 v1462 v1464), ∀ (k0_h5 : k0_cond5 i k0_t1 = 1#1), ∀ a x, ((![v1462, v1464] : Fin 2 → IVec S16 32) a x).toNat < S32x128.size a := fun i k0_t1 v1462 v1464 k0_hw375 k0_h5 => k0_hw375 k0_h5

def k0_chk376 (i : grid0.Coords) (k0_t1 : Fin k0_t1_loop.trips) (v1474 : IVec S16 32) (v1476 : IVec S16 32) : Prop :=
  (∀ (k0_h5 : k0_cond5 i k0_t1 = 1#1), ∀ a x, ((![v1474, v1476] : Fin 2 → IVec S16 32) a x).toNat < S32x128.size a)
theorem k0_idx376_inb : ∀ (i : grid0.Coords) (k0_t1 : Fin k0_t1_loop.trips) (v1474 : IVec S16 32) (v1476 : IVec S16 32) (k0_hw376 : k0_chk376 i k0_t1 v1474 v1476), ∀ (k0_h5 : k0_cond5 i k0_t1 = 1#1), ∀ a x, ((![v1474, v1476] : Fin 2 → IVec S16 32) a x).toNat < S32x128.size a := fun i k0_t1 v1474 v1476 k0_hw376 k0_h5 => k0_hw376 k0_h5

def k0_chk377 (i : grid0.Coords) (k0_t1 : Fin k0_t1_loop.trips) (v1486 : IVec S16 32) (v1488 : IVec S16 32) : Prop :=
  (∀ (k0_h5 : k0_cond5 i k0_t1 = 1#1), ∀ a x, ((![v1486, v1488] : Fin 2 → IVec S16 32) a x).toNat < S32x128.size a)
theorem k0_idx377_inb : ∀ (i : grid0.Coords) (k0_t1 : Fin k0_t1_loop.trips) (v1486 : IVec S16 32) (v1488 : IVec S16 32) (k0_hw377 : k0_chk377 i k0_t1 v1486 v1488), ∀ (k0_h5 : k0_cond5 i k0_t1 = 1#1), ∀ a x, ((![v1486, v1488] : Fin 2 → IVec S16 32) a x).toNat < S32x128.size a := fun i k0_t1 v1486 v1488 k0_hw377 k0_h5 => k0_hw377 k0_h5

def k0_chk378 (i : grid0.Coords) (k0_t1 : Fin k0_t1_loop.trips) (v1498 : IVec S16 32) (v1500 : IVec S16 32) : Prop :=
  (∀ (k0_h5 : k0_cond5 i k0_t1 = 1#1), ∀ a x, ((![v1498, v1500] : Fin 2 → IVec S16 32) a x).toNat < S32x128.size a)
theorem k0_idx378_inb : ∀ (i : grid0.Coords) (k0_t1 : Fin k0_t1_loop.trips) (v1498 : IVec S16 32) (v1500 : IVec S16 32) (k0_hw378 : k0_chk378 i k0_t1 v1498 v1500), ∀ (k0_h5 : k0_cond5 i k0_t1 = 1#1), ∀ a x, ((![v1498, v1500] : Fin 2 → IVec S16 32) a x).toNat < S32x128.size a := fun i k0_t1 v1498 v1500 k0_hw378 k0_h5 => k0_hw378 k0_h5

def k0_chk379 (i : grid0.Coords) (k0_t1 : Fin k0_t1_loop.trips) (v1510 : IVec S16 32) (v1512 : IVec S16 32) : Prop :=
  (∀ (k0_h5 : k0_cond5 i k0_t1 = 1#1), ∀ a x, ((![v1510, v1512] : Fin 2 → IVec S16 32) a x).toNat < S32x128.size a)
theorem k0_idx379_inb : ∀ (i : grid0.Coords) (k0_t1 : Fin k0_t1_loop.trips) (v1510 : IVec S16 32) (v1512 : IVec S16 32) (k0_hw379 : k0_chk379 i k0_t1 v1510 v1512), ∀ (k0_h5 : k0_cond5 i k0_t1 = 1#1), ∀ a x, ((![v1510, v1512] : Fin 2 → IVec S16 32) a x).toNat < S32x128.size a := fun i k0_t1 v1510 v1512 k0_hw379 k0_h5 => k0_hw379 k0_h5

def k0_chk380 (i : grid0.Coords) (k0_t1 : Fin k0_t1_loop.trips) (v1522 : IVec S16 32) (v1524 : IVec S16 32) : Prop :=
  (∀ (k0_h5 : k0_cond5 i k0_t1 = 1#1), ∀ a x, ((![v1522, v1524] : Fin 2 → IVec S16 32) a x).toNat < S32x128.size a)
theorem k0_idx380_inb : ∀ (i : grid0.Coords) (k0_t1 : Fin k0_t1_loop.trips) (v1522 : IVec S16 32) (v1524 : IVec S16 32) (k0_hw380 : k0_chk380 i k0_t1 v1522 v1524), ∀ (k0_h5 : k0_cond5 i k0_t1 = 1#1), ∀ a x, ((![v1522, v1524] : Fin 2 → IVec S16 32) a x).toNat < S32x128.size a := fun i k0_t1 v1522 v1524 k0_hw380 k0_h5 => k0_hw380 k0_h5

def k0_chk381 (i : grid0.Coords) (k0_t1 : Fin k0_t1_loop.trips) (v1534 : IVec S16 32) (v1536 : IVec S16 32) : Prop :=
  (∀ (k0_h5 : k0_cond5 i k0_t1 = 1#1), ∀ a x, ((![v1534, v1536] : Fin 2 → IVec S16 32) a x).toNat < S32x128.size a)
theorem k0_idx381_inb : ∀ (i : grid0.Coords) (k0_t1 : Fin k0_t1_loop.trips) (v1534 : IVec S16 32) (v1536 : IVec S16 32) (k0_hw381 : k0_chk381 i k0_t1 v1534 v1536), ∀ (k0_h5 : k0_cond5 i k0_t1 = 1#1), ∀ a x, ((![v1534, v1536] : Fin 2 → IVec S16 32) a x).toNat < S32x128.size a := fun i k0_t1 v1534 v1536 k0_hw381 k0_h5 => k0_hw381 k0_h5

def k0_chk382 (i : grid0.Coords) (k0_t1 : Fin k0_t1_loop.trips) (v1546 : IVec S16 32) (v1548 : IVec S16 32) : Prop :=
  (∀ (k0_h5 : k0_cond5 i k0_t1 = 1#1), ∀ a x, ((![v1546, v1548] : Fin 2 → IVec S16 32) a x).toNat < S32x128.size a)
theorem k0_idx382_inb : ∀ (i : grid0.Coords) (k0_t1 : Fin k0_t1_loop.trips) (v1546 : IVec S16 32) (v1548 : IVec S16 32) (k0_hw382 : k0_chk382 i k0_t1 v1546 v1548), ∀ (k0_h5 : k0_cond5 i k0_t1 = 1#1), ∀ a x, ((![v1546, v1548] : Fin 2 → IVec S16 32) a x).toNat < S32x128.size a := fun i k0_t1 v1546 v1548 k0_hw382 k0_h5 => k0_hw382 k0_h5

def k0_chk383 (i : grid0.Coords) (k0_t1 : Fin k0_t1_loop.trips) (v1558 : IVec S16 32) (v1560 : IVec S16 32) : Prop :=
  (∀ (k0_h5 : k0_cond5 i k0_t1 = 1#1), ∀ a x, ((![v1558, v1560] : Fin 2 → IVec S16 32) a x).toNat < S32x128.size a)
theorem k0_idx383_inb : ∀ (i : grid0.Coords) (k0_t1 : Fin k0_t1_loop.trips) (v1558 : IVec S16 32) (v1560 : IVec S16 32) (k0_hw383 : k0_chk383 i k0_t1 v1558 v1560), ∀ (k0_h5 : k0_cond5 i k0_t1 = 1#1), ∀ a x, ((![v1558, v1560] : Fin 2 → IVec S16 32) a x).toNat < S32x128.size a := fun i k0_t1 v1558 v1560 k0_hw383 k0_h5 => k0_hw383 k0_h5

def k0_chk384 (i : grid0.Coords) (k0_t1 : Fin k0_t1_loop.trips) (v1570 : IVec S16 32) (v1572 : IVec S16 32) : Prop :=
  (∀ (k0_h5 : k0_cond5 i k0_t1 = 1#1), ∀ a x, ((![v1570, v1572] : Fin 2 → IVec S16 32) a x).toNat < S32x128.size a)
theorem k0_idx384_inb : ∀ (i : grid0.Coords) (k0_t1 : Fin k0_t1_loop.trips) (v1570 : IVec S16 32) (v1572 : IVec S16 32) (k0_hw384 : k0_chk384 i k0_t1 v1570 v1572), ∀ (k0_h5 : k0_cond5 i k0_t1 = 1#1), ∀ a x, ((![v1570, v1572] : Fin 2 → IVec S16 32) a x).toNat < S32x128.size a := fun i k0_t1 v1570 v1572 k0_hw384 k0_h5 => k0_hw384 k0_h5

def k0_chk385 (i : grid0.Coords) (k0_t1 : Fin k0_t1_loop.trips) (v1582 : IVec S16 32) (v1584 : IVec S16 32) : Prop :=
  (∀ (k0_h5 : k0_cond5 i k0_t1 = 1#1), ∀ a x, ((![v1582, v1584] : Fin 2 → IVec S16 32) a x).toNat < S32x128.size a)
theorem k0_idx385_inb : ∀ (i : grid0.Coords) (k0_t1 : Fin k0_t1_loop.trips) (v1582 : IVec S16 32) (v1584 : IVec S16 32) (k0_hw385 : k0_chk385 i k0_t1 v1582 v1584), ∀ (k0_h5 : k0_cond5 i k0_t1 = 1#1), ∀ a x, ((![v1582, v1584] : Fin 2 → IVec S16 32) a x).toNat < S32x128.size a := fun i k0_t1 v1582 v1584 k0_hw385 k0_h5 => k0_hw385 k0_h5

def k0_chk386 (i : grid0.Coords) (k0_t1 : Fin k0_t1_loop.trips) (v1594 : IVec S16 32) (v1596 : IVec S16 32) : Prop :=
  (∀ (k0_h5 : k0_cond5 i k0_t1 = 1#1), ∀ a x, ((![v1594, v1596] : Fin 2 → IVec S16 32) a x).toNat < S32x128.size a)
theorem k0_idx386_inb : ∀ (i : grid0.Coords) (k0_t1 : Fin k0_t1_loop.trips) (v1594 : IVec S16 32) (v1596 : IVec S16 32) (k0_hw386 : k0_chk386 i k0_t1 v1594 v1596), ∀ (k0_h5 : k0_cond5 i k0_t1 = 1#1), ∀ a x, ((![v1594, v1596] : Fin 2 → IVec S16 32) a x).toNat < S32x128.size a := fun i k0_t1 v1594 v1596 k0_hw386 k0_h5 => k0_hw386 k0_h5

def k0_chk387 (i : grid0.Coords) (k0_t1 : Fin k0_t1_loop.trips) (v1606 : IVec S16 32) (v1608 : IVec S16 32) : Prop :=
  (∀ (k0_h5 : k0_cond5 i k0_t1 = 1#1), ∀ a x, ((![v1606, v1608] : Fin 2 → IVec S16 32) a x).toNat < S32x128.size a)
theorem k0_idx387_inb : ∀ (i : grid0.Coords) (k0_t1 : Fin k0_t1_loop.trips) (v1606 : IVec S16 32) (v1608 : IVec S16 32) (k0_hw387 : k0_chk387 i k0_t1 v1606 v1608), ∀ (k0_h5 : k0_cond5 i k0_t1 = 1#1), ∀ a x, ((![v1606, v1608] : Fin 2 → IVec S16 32) a x).toNat < S32x128.size a := fun i k0_t1 v1606 v1608 k0_hw387 k0_h5 => k0_hw387 k0_h5

def k0_chk388 (i : grid0.Coords) (k0_t1 : Fin k0_t1_loop.trips) (v1618 : IVec S16 32) (v1620 : IVec S16 32) : Prop :=
  (∀ (k0_h5 : k0_cond5 i k0_t1 = 1#1), ∀ a x, ((![v1618, v1620] : Fin 2 → IVec S16 32) a x).toNat < S32x128.size a)
theorem k0_idx388_inb : ∀ (i : grid0.Coords) (k0_t1 : Fin k0_t1_loop.trips) (v1618 : IVec S16 32) (v1620 : IVec S16 32) (k0_hw388 : k0_chk388 i k0_t1 v1618 v1620), ∀ (k0_h5 : k0_cond5 i k0_t1 = 1#1), ∀ a x, ((![v1618, v1620] : Fin 2 → IVec S16 32) a x).toNat < S32x128.size a := fun i k0_t1 v1618 v1620 k0_hw388 k0_h5 => k0_hw388 k0_h5

def k0_chk389 (i : grid0.Coords) (k0_t1 : Fin k0_t1_loop.trips) (v1630 : IVec S16 32) (v1632 : IVec S16 32) : Prop :=
  (∀ (k0_h5 : k0_cond5 i k0_t1 = 1#1), ∀ a x, ((![v1630, v1632] : Fin 2 → IVec S16 32) a x).toNat < S32x128.size a)
theorem k0_idx389_inb : ∀ (i : grid0.Coords) (k0_t1 : Fin k0_t1_loop.trips) (v1630 : IVec S16 32) (v1632 : IVec S16 32) (k0_hw389 : k0_chk389 i k0_t1 v1630 v1632), ∀ (k0_h5 : k0_cond5 i k0_t1 = 1#1), ∀ a x, ((![v1630, v1632] : Fin 2 → IVec S16 32) a x).toNat < S32x128.size a := fun i k0_t1 v1630 v1632 k0_hw389 k0_h5 => k0_hw389 k0_h5

def k0_chk390 (i : grid0.Coords) (k0_t1 : Fin k0_t1_loop.trips) (v1642 : IVec S16 32) (v1644 : IVec S16 32) : Prop :=
  (∀ (k0_h5 : k0_cond5 i k0_t1 = 1#1), ∀ a x, ((![v1642, v1644] : Fin 2 → IVec S16 32) a x).toNat < S32x128.size a)
theorem k0_idx390_inb : ∀ (i : grid0.Coords) (k0_t1 : Fin k0_t1_loop.trips) (v1642 : IVec S16 32) (v1644 : IVec S16 32) (k0_hw390 : k0_chk390 i k0_t1 v1642 v1644), ∀ (k0_h5 : k0_cond5 i k0_t1 = 1#1), ∀ a x, ((![v1642, v1644] : Fin 2 → IVec S16 32) a x).toNat < S32x128.size a := fun i k0_t1 v1642 v1644 k0_hw390 k0_h5 => k0_hw390 k0_h5

def k0_chk391 (i : grid0.Coords) (k0_t1 : Fin k0_t1_loop.trips) (v1654 : IVec S16 32) (v1656 : IVec S16 32) : Prop :=
  (∀ (k0_h5 : k0_cond5 i k0_t1 = 1#1), ∀ a x, ((![v1654, v1656] : Fin 2 → IVec S16 32) a x).toNat < S32x128.size a)
theorem k0_idx391_inb : ∀ (i : grid0.Coords) (k0_t1 : Fin k0_t1_loop.trips) (v1654 : IVec S16 32) (v1656 : IVec S16 32) (k0_hw391 : k0_chk391 i k0_t1 v1654 v1656), ∀ (k0_h5 : k0_cond5 i k0_t1 = 1#1), ∀ a x, ((![v1654, v1656] : Fin 2 → IVec S16 32) a x).toNat < S32x128.size a := fun i k0_t1 v1654 v1656 k0_hw391 k0_h5 => k0_hw391 k0_h5

def k0_chk392 (i : grid0.Coords) (k0_t1 : Fin k0_t1_loop.trips) (v1666 : IVec S16 32) (v1668 : IVec S16 32) : Prop :=
  (∀ (k0_h5 : k0_cond5 i k0_t1 = 1#1), ∀ a x, ((![v1666, v1668] : Fin 2 → IVec S16 32) a x).toNat < S32x128.size a)
theorem k0_idx392_inb : ∀ (i : grid0.Coords) (k0_t1 : Fin k0_t1_loop.trips) (v1666 : IVec S16 32) (v1668 : IVec S16 32) (k0_hw392 : k0_chk392 i k0_t1 v1666 v1668), ∀ (k0_h5 : k0_cond5 i k0_t1 = 1#1), ∀ a x, ((![v1666, v1668] : Fin 2 → IVec S16 32) a x).toNat < S32x128.size a := fun i k0_t1 v1666 v1668 k0_hw392 k0_h5 => k0_hw392 k0_h5

def k0_chk393 (i : grid0.Coords) (k0_t1 : Fin k0_t1_loop.trips) (v1678 : IVec S16 32) (v1680 : IVec S16 32) : Prop :=
  (∀ (k0_h5 : k0_cond5 i k0_t1 = 1#1), ∀ a x, ((![v1678, v1680] : Fin 2 → IVec S16 32) a x).toNat < S32x128.size a)
theorem k0_idx393_inb : ∀ (i : grid0.Coords) (k0_t1 : Fin k0_t1_loop.trips) (v1678 : IVec S16 32) (v1680 : IVec S16 32) (k0_hw393 : k0_chk393 i k0_t1 v1678 v1680), ∀ (k0_h5 : k0_cond5 i k0_t1 = 1#1), ∀ a x, ((![v1678, v1680] : Fin 2 → IVec S16 32) a x).toNat < S32x128.size a := fun i k0_t1 v1678 v1680 k0_hw393 k0_h5 => k0_hw393 k0_h5

def k0_chk394 (i : grid0.Coords) (k0_t1 : Fin k0_t1_loop.trips) (v1690 : IVec S16 32) (v1692 : IVec S16 32) : Prop :=
  (∀ (k0_h5 : k0_cond5 i k0_t1 = 1#1), ∀ a x, ((![v1690, v1692] : Fin 2 → IVec S16 32) a x).toNat < S32x128.size a)
theorem k0_idx394_inb : ∀ (i : grid0.Coords) (k0_t1 : Fin k0_t1_loop.trips) (v1690 : IVec S16 32) (v1692 : IVec S16 32) (k0_hw394 : k0_chk394 i k0_t1 v1690 v1692), ∀ (k0_h5 : k0_cond5 i k0_t1 = 1#1), ∀ a x, ((![v1690, v1692] : Fin 2 → IVec S16 32) a x).toNat < S32x128.size a := fun i k0_t1 v1690 v1692 k0_hw394 k0_h5 => k0_hw394 k0_h5

def k0_chk395 (i : grid0.Coords) (k0_t1 : Fin k0_t1_loop.trips) (v1702 : IVec S16 32) (v1704 : IVec S16 32) : Prop :=
  (∀ (k0_h5 : k0_cond5 i k0_t1 = 1#1), ∀ a x, ((![v1702, v1704] : Fin 2 → IVec S16 32) a x).toNat < S32x128.size a)
theorem k0_idx395_inb : ∀ (i : grid0.Coords) (k0_t1 : Fin k0_t1_loop.trips) (v1702 : IVec S16 32) (v1704 : IVec S16 32) (k0_hw395 : k0_chk395 i k0_t1 v1702 v1704), ∀ (k0_h5 : k0_cond5 i k0_t1 = 1#1), ∀ a x, ((![v1702, v1704] : Fin 2 → IVec S16 32) a x).toNat < S32x128.size a := fun i k0_t1 v1702 v1704 k0_hw395 k0_h5 => k0_hw395 k0_h5

def k0_chk396 (i : grid0.Coords) (k0_t1 : Fin k0_t1_loop.trips) (v1714 : IVec S16 32) (v1716 : IVec S16 32) : Prop :=
  (∀ (k0_h5 : k0_cond5 i k0_t1 = 1#1), ∀ a x, ((![v1714, v1716] : Fin 2 → IVec S16 32) a x).toNat < S32x128.size a)
theorem k0_idx396_inb : ∀ (i : grid0.Coords) (k0_t1 : Fin k0_t1_loop.trips) (v1714 : IVec S16 32) (v1716 : IVec S16 32) (k0_hw396 : k0_chk396 i k0_t1 v1714 v1716), ∀ (k0_h5 : k0_cond5 i k0_t1 = 1#1), ∀ a x, ((![v1714, v1716] : Fin 2 → IVec S16 32) a x).toNat < S32x128.size a := fun i k0_t1 v1714 v1716 k0_hw396 k0_h5 => k0_hw396 k0_h5

def k0_chk397 (i : grid0.Coords) (k0_t1 : Fin k0_t1_loop.trips) (v1726 : IVec S16 32) (v1728 : IVec S16 32) : Prop :=
  (∀ (k0_h5 : k0_cond5 i k0_t1 = 1#1), ∀ a x, ((![v1726, v1728] : Fin 2 → IVec S16 32) a x).toNat < S32x128.size a)
theorem k0_idx397_inb : ∀ (i : grid0.Coords) (k0_t1 : Fin k0_t1_loop.trips) (v1726 : IVec S16 32) (v1728 : IVec S16 32) (k0_hw397 : k0_chk397 i k0_t1 v1726 v1728), ∀ (k0_h5 : k0_cond5 i k0_t1 = 1#1), ∀ a x, ((![v1726, v1728] : Fin 2 → IVec S16 32) a x).toNat < S32x128.size a := fun i k0_t1 v1726 v1728 k0_hw397 k0_h5 => k0_hw397 k0_h5

def k0_chk398 (i : grid0.Coords) (k0_t1 : Fin k0_t1_loop.trips) (v1738 : IVec S16 32) (v1740 : IVec S16 32) : Prop :=
  (∀ (k0_h5 : k0_cond5 i k0_t1 = 1#1), ∀ a x, ((![v1738, v1740] : Fin 2 → IVec S16 32) a x).toNat < S32x128.size a)
theorem k0_idx398_inb : ∀ (i : grid0.Coords) (k0_t1 : Fin k0_t1_loop.trips) (v1738 : IVec S16 32) (v1740 : IVec S16 32) (k0_hw398 : k0_chk398 i k0_t1 v1738 v1740), ∀ (k0_h5 : k0_cond5 i k0_t1 = 1#1), ∀ a x, ((![v1738, v1740] : Fin 2 → IVec S16 32) a x).toNat < S32x128.size a := fun i k0_t1 v1738 v1740 k0_hw398 k0_h5 => k0_hw398 k0_h5

def k0_chk399 (i : grid0.Coords) (k0_t1 : Fin k0_t1_loop.trips) (v1750 : IVec S16 32) (v1752 : IVec S16 32) : Prop :=
  (∀ (k0_h5 : k0_cond5 i k0_t1 = 1#1), ∀ a x, ((![v1750, v1752] : Fin 2 → IVec S16 32) a x).toNat < S32x128.size a)
theorem k0_idx399_inb : ∀ (i : grid0.Coords) (k0_t1 : Fin k0_t1_loop.trips) (v1750 : IVec S16 32) (v1752 : IVec S16 32) (k0_hw399 : k0_chk399 i k0_t1 v1750 v1752), ∀ (k0_h5 : k0_cond5 i k0_t1 = 1#1), ∀ a x, ((![v1750, v1752] : Fin 2 → IVec S16 32) a x).toNat < S32x128.size a := fun i k0_t1 v1750 v1752 k0_hw399 k0_h5 => k0_hw399 k0_h5

def k0_chk400 (i : grid0.Coords) (k0_t1 : Fin k0_t1_loop.trips) (v1762 : IVec S16 32) (v1764 : IVec S16 32) : Prop :=
  (∀ (k0_h5 : k0_cond5 i k0_t1 = 1#1), ∀ a x, ((![v1762, v1764] : Fin 2 → IVec S16 32) a x).toNat < S32x128.size a)
theorem k0_idx400_inb : ∀ (i : grid0.Coords) (k0_t1 : Fin k0_t1_loop.trips) (v1762 : IVec S16 32) (v1764 : IVec S16 32) (k0_hw400 : k0_chk400 i k0_t1 v1762 v1764), ∀ (k0_h5 : k0_cond5 i k0_t1 = 1#1), ∀ a x, ((![v1762, v1764] : Fin 2 → IVec S16 32) a x).toNat < S32x128.size a := fun i k0_t1 v1762 v1764 k0_hw400 k0_h5 => k0_hw400 k0_h5

def k0_chk401 (i : grid0.Coords) (k0_t1 : Fin k0_t1_loop.trips) (v1774 : IVec S16 32) (v1776 : IVec S16 32) : Prop :=
  (∀ (k0_h5 : k0_cond5 i k0_t1 = 1#1), ∀ a x, ((![v1774, v1776] : Fin 2 → IVec S16 32) a x).toNat < S32x128.size a)
theorem k0_idx401_inb : ∀ (i : grid0.Coords) (k0_t1 : Fin k0_t1_loop.trips) (v1774 : IVec S16 32) (v1776 : IVec S16 32) (k0_hw401 : k0_chk401 i k0_t1 v1774 v1776), ∀ (k0_h5 : k0_cond5 i k0_t1 = 1#1), ∀ a x, ((![v1774, v1776] : Fin 2 → IVec S16 32) a x).toNat < S32x128.size a := fun i k0_t1 v1774 v1776 k0_hw401 k0_h5 => k0_hw401 k0_h5

def k0_chk402 (i : grid0.Coords) (k0_t1 : Fin k0_t1_loop.trips) (v1786 : IVec S16 32) (v1788 : IVec S16 32) : Prop :=
  (∀ (k0_h5 : k0_cond5 i k0_t1 = 1#1), ∀ a x, ((![v1786, v1788] : Fin 2 → IVec S16 32) a x).toNat < S32x128.size a)
theorem k0_idx402_inb : ∀ (i : grid0.Coords) (k0_t1 : Fin k0_t1_loop.trips) (v1786 : IVec S16 32) (v1788 : IVec S16 32) (k0_hw402 : k0_chk402 i k0_t1 v1786 v1788), ∀ (k0_h5 : k0_cond5 i k0_t1 = 1#1), ∀ a x, ((![v1786, v1788] : Fin 2 → IVec S16 32) a x).toNat < S32x128.size a := fun i k0_t1 v1786 v1788 k0_hw402 k0_h5 => k0_hw402 k0_h5

def k0_chk403 (i : grid0.Coords) (k0_t1 : Fin k0_t1_loop.trips) (v1798 : IVec S16 32) (v1800 : IVec S16 32) : Prop :=
  (∀ (k0_h5 : k0_cond5 i k0_t1 = 1#1), ∀ a x, ((![v1798, v1800] : Fin 2 → IVec S16 32) a x).toNat < S32x128.size a)
theorem k0_idx403_inb : ∀ (i : grid0.Coords) (k0_t1 : Fin k0_t1_loop.trips) (v1798 : IVec S16 32) (v1800 : IVec S16 32) (k0_hw403 : k0_chk403 i k0_t1 v1798 v1800), ∀ (k0_h5 : k0_cond5 i k0_t1 = 1#1), ∀ a x, ((![v1798, v1800] : Fin 2 → IVec S16 32) a x).toNat < S32x128.size a := fun i k0_t1 v1798 v1800 k0_hw403 k0_h5 => k0_hw403 k0_h5

def k0_chk404 (i : grid0.Coords) (k0_t1 : Fin k0_t1_loop.trips) (v1810 : IVec S16 32) (v1812 : IVec S16 32) : Prop :=
  (∀ (k0_h5 : k0_cond5 i k0_t1 = 1#1), ∀ a x, ((![v1810, v1812] : Fin 2 → IVec S16 32) a x).toNat < S32x128.size a)
theorem k0_idx404_inb : ∀ (i : grid0.Coords) (k0_t1 : Fin k0_t1_loop.trips) (v1810 : IVec S16 32) (v1812 : IVec S16 32) (k0_hw404 : k0_chk404 i k0_t1 v1810 v1812), ∀ (k0_h5 : k0_cond5 i k0_t1 = 1#1), ∀ a x, ((![v1810, v1812] : Fin 2 → IVec S16 32) a x).toNat < S32x128.size a := fun i k0_t1 v1810 v1812 k0_hw404 k0_h5 => k0_hw404 k0_h5

def k0_chk405 (i : grid0.Coords) (k0_t1 : Fin k0_t1_loop.trips) (v1822 : IVec S16 32) (v1824 : IVec S16 32) : Prop :=
  (∀ (k0_h5 : k0_cond5 i k0_t1 = 1#1), ∀ a x, ((![v1822, v1824] : Fin 2 → IVec S16 32) a x).toNat < S32x128.size a)
theorem k0_idx405_inb : ∀ (i : grid0.Coords) (k0_t1 : Fin k0_t1_loop.trips) (v1822 : IVec S16 32) (v1824 : IVec S16 32) (k0_hw405 : k0_chk405 i k0_t1 v1822 v1824), ∀ (k0_h5 : k0_cond5 i k0_t1 = 1#1), ∀ a x, ((![v1822, v1824] : Fin 2 → IVec S16 32) a x).toNat < S32x128.size a := fun i k0_t1 v1822 v1824 k0_hw405 k0_h5 => k0_hw405 k0_h5

def k0_chk406 (i : grid0.Coords) (k0_t1 : Fin k0_t1_loop.trips) (v1834 : IVec S16 32) (v1836 : IVec S16 32) : Prop :=
  (∀ (k0_h5 : k0_cond5 i k0_t1 = 1#1), ∀ a x, ((![v1834, v1836] : Fin 2 → IVec S16 32) a x).toNat < S32x128.size a)
theorem k0_idx406_inb : ∀ (i : grid0.Coords) (k0_t1 : Fin k0_t1_loop.trips) (v1834 : IVec S16 32) (v1836 : IVec S16 32) (k0_hw406 : k0_chk406 i k0_t1 v1834 v1836), ∀ (k0_h5 : k0_cond5 i k0_t1 = 1#1), ∀ a x, ((![v1834, v1836] : Fin 2 → IVec S16 32) a x).toNat < S32x128.size a := fun i k0_t1 v1834 v1836 k0_hw406 k0_h5 => k0_hw406 k0_h5

def k0_chk407 (i : grid0.Coords) (k0_t1 : Fin k0_t1_loop.trips) (v1846 : IVec S16 32) (v1848 : IVec S16 32) : Prop :=
  (∀ (k0_h5 : k0_cond5 i k0_t1 = 1#1), ∀ a x, ((![v1846, v1848] : Fin 2 → IVec S16 32) a x).toNat < S32x128.size a)
theorem k0_idx407_inb : ∀ (i : grid0.Coords) (k0_t1 : Fin k0_t1_loop.trips) (v1846 : IVec S16 32) (v1848 : IVec S16 32) (k0_hw407 : k0_chk407 i k0_t1 v1846 v1848), ∀ (k0_h5 : k0_cond5 i k0_t1 = 1#1), ∀ a x, ((![v1846, v1848] : Fin 2 → IVec S16 32) a x).toNat < S32x128.size a := fun i k0_t1 v1846 v1848 k0_hw407 k0_h5 => k0_hw407 k0_h5

def k0_chk408 (i : grid0.Coords) (k0_t1 : Fin k0_t1_loop.trips) (v1858 : IVec S16 32) (v1860 : IVec S16 32) : Prop :=
  (∀ (k0_h5 : k0_cond5 i k0_t1 = 1#1), ∀ a x, ((![v1858, v1860] : Fin 2 → IVec S16 32) a x).toNat < S32x128.size a)
theorem k0_idx408_inb : ∀ (i : grid0.Coords) (k0_t1 : Fin k0_t1_loop.trips) (v1858 : IVec S16 32) (v1860 : IVec S16 32) (k0_hw408 : k0_chk408 i k0_t1 v1858 v1860), ∀ (k0_h5 : k0_cond5 i k0_t1 = 1#1), ∀ a x, ((![v1858, v1860] : Fin 2 → IVec S16 32) a x).toNat < S32x128.size a := fun i k0_t1 v1858 v1860 k0_hw408 k0_h5 => k0_hw408 k0_h5

def k0_chk409 (i : grid0.Coords) (k0_t1 : Fin k0_t1_loop.trips) (v1870 : IVec S16 32) (v1872 : IVec S16 32) : Prop :=
  (∀ (k0_h5 : k0_cond5 i k0_t1 = 1#1), ∀ a x, ((![v1870, v1872] : Fin 2 → IVec S16 32) a x).toNat < S32x128.size a)
theorem k0_idx409_inb : ∀ (i : grid0.Coords) (k0_t1 : Fin k0_t1_loop.trips) (v1870 : IVec S16 32) (v1872 : IVec S16 32) (k0_hw409 : k0_chk409 i k0_t1 v1870 v1872), ∀ (k0_h5 : k0_cond5 i k0_t1 = 1#1), ∀ a x, ((![v1870, v1872] : Fin 2 → IVec S16 32) a x).toNat < S32x128.size a := fun i k0_t1 v1870 v1872 k0_hw409 k0_h5 => k0_hw409 k0_h5

def k0_chk410 (i : grid0.Coords) (k0_t1 : Fin k0_t1_loop.trips) (v1882 : IVec S16 32) (v1884 : IVec S16 32) : Prop :=
  (∀ (k0_h5 : k0_cond5 i k0_t1 = 1#1), ∀ a x, ((![v1882, v1884] : Fin 2 → IVec S16 32) a x).toNat < S32x128.size a)
theorem k0_idx410_inb : ∀ (i : grid0.Coords) (k0_t1 : Fin k0_t1_loop.trips) (v1882 : IVec S16 32) (v1884 : IVec S16 32) (k0_hw410 : k0_chk410 i k0_t1 v1882 v1884), ∀ (k0_h5 : k0_cond5 i k0_t1 = 1#1), ∀ a x, ((![v1882, v1884] : Fin 2 → IVec S16 32) a x).toNat < S32x128.size a := fun i k0_t1 v1882 v1884 k0_hw410 k0_h5 => k0_hw410 k0_h5

def k0_chk411 (i : grid0.Coords) (k0_t1 : Fin k0_t1_loop.trips) (v1894 : IVec S16 32) (v1896 : IVec S16 32) : Prop :=
  (∀ (k0_h5 : k0_cond5 i k0_t1 = 1#1), ∀ a x, ((![v1894, v1896] : Fin 2 → IVec S16 32) a x).toNat < S32x128.size a)
theorem k0_idx411_inb : ∀ (i : grid0.Coords) (k0_t1 : Fin k0_t1_loop.trips) (v1894 : IVec S16 32) (v1896 : IVec S16 32) (k0_hw411 : k0_chk411 i k0_t1 v1894 v1896), ∀ (k0_h5 : k0_cond5 i k0_t1 = 1#1), ∀ a x, ((![v1894, v1896] : Fin 2 → IVec S16 32) a x).toNat < S32x128.size a := fun i k0_t1 v1894 v1896 k0_hw411 k0_h5 => k0_hw411 k0_h5

def k0_chk412 (i : grid0.Coords) (k0_t1 : Fin k0_t1_loop.trips) (v1906 : IVec S16 32) (v1908 : IVec S16 32) : Prop :=
  (∀ (k0_h5 : k0_cond5 i k0_t1 = 1#1), ∀ a x, ((![v1906, v1908] : Fin 2 → IVec S16 32) a x).toNat < S32x128.size a)
theorem k0_idx412_inb : ∀ (i : grid0.Coords) (k0_t1 : Fin k0_t1_loop.trips) (v1906 : IVec S16 32) (v1908 : IVec S16 32) (k0_hw412 : k0_chk412 i k0_t1 v1906 v1908), ∀ (k0_h5 : k0_cond5 i k0_t1 = 1#1), ∀ a x, ((![v1906, v1908] : Fin 2 → IVec S16 32) a x).toNat < S32x128.size a := fun i k0_t1 v1906 v1908 k0_hw412 k0_h5 => k0_hw412 k0_h5

def k0_chk413 (i : grid0.Coords) (k0_t1 : Fin k0_t1_loop.trips) (v1918 : IVec S16 32) (v1920 : IVec S16 32) : Prop :=
  (∀ (k0_h5 : k0_cond5 i k0_t1 = 1#1), ∀ a x, ((![v1918, v1920] : Fin 2 → IVec S16 32) a x).toNat < S32x128.size a)
theorem k0_idx413_inb : ∀ (i : grid0.Coords) (k0_t1 : Fin k0_t1_loop.trips) (v1918 : IVec S16 32) (v1920 : IVec S16 32) (k0_hw413 : k0_chk413 i k0_t1 v1918 v1920), ∀ (k0_h5 : k0_cond5 i k0_t1 = 1#1), ∀ a x, ((![v1918, v1920] : Fin 2 → IVec S16 32) a x).toNat < S32x128.size a := fun i k0_t1 v1918 v1920 k0_hw413 k0_h5 => k0_hw413 k0_h5

def k0_chk414 (i : grid0.Coords) (k0_t1 : Fin k0_t1_loop.trips) (v1930 : IVec S16 32) (v1932 : IVec S16 32) : Prop :=
  (∀ (k0_h5 : k0_cond5 i k0_t1 = 1#1), ∀ a x, ((![v1930, v1932] : Fin 2 → IVec S16 32) a x).toNat < S32x128.size a)
theorem k0_idx414_inb : ∀ (i : grid0.Coords) (k0_t1 : Fin k0_t1_loop.trips) (v1930 : IVec S16 32) (v1932 : IVec S16 32) (k0_hw414 : k0_chk414 i k0_t1 v1930 v1932), ∀ (k0_h5 : k0_cond5 i k0_t1 = 1#1), ∀ a x, ((![v1930, v1932] : Fin 2 → IVec S16 32) a x).toNat < S32x128.size a := fun i k0_t1 v1930 v1932 k0_hw414 k0_h5 => k0_hw414 k0_h5

def k0_chk415 (i : grid0.Coords) (k0_t1 : Fin k0_t1_loop.trips) (v1942 : IVec S16 32) (v1944 : IVec S16 32) : Prop :=
  (∀ (k0_h5 : k0_cond5 i k0_t1 = 1#1), ∀ a x, ((![v1942, v1944] : Fin 2 → IVec S16 32) a x).toNat < S32x128.size a)
theorem k0_idx415_inb : ∀ (i : grid0.Coords) (k0_t1 : Fin k0_t1_loop.trips) (v1942 : IVec S16 32) (v1944 : IVec S16 32) (k0_hw415 : k0_chk415 i k0_t1 v1942 v1944), ∀ (k0_h5 : k0_cond5 i k0_t1 = 1#1), ∀ a x, ((![v1942, v1944] : Fin 2 → IVec S16 32) a x).toNat < S32x128.size a := fun i k0_t1 v1942 v1944 k0_hw415 k0_h5 => k0_hw415 k0_h5

def k0_chk416 (i : grid0.Coords) (k0_t1 : Fin k0_t1_loop.trips) (v1954 : IVec S16 32) (v1956 : IVec S16 32) : Prop :=
  (∀ (k0_h5 : k0_cond5 i k0_t1 = 1#1), ∀ a x, ((![v1954, v1956] : Fin 2 → IVec S16 32) a x).toNat < S32x128.size a)
theorem k0_idx416_inb : ∀ (i : grid0.Coords) (k0_t1 : Fin k0_t1_loop.trips) (v1954 : IVec S16 32) (v1956 : IVec S16 32) (k0_hw416 : k0_chk416 i k0_t1 v1954 v1956), ∀ (k0_h5 : k0_cond5 i k0_t1 = 1#1), ∀ a x, ((![v1954, v1956] : Fin 2 → IVec S16 32) a x).toNat < S32x128.size a := fun i k0_t1 v1954 v1956 k0_hw416 k0_h5 => k0_hw416 k0_h5

def k0_chk417 (i : grid0.Coords) (k0_t1 : Fin k0_t1_loop.trips) (v1966 : IVec S16 32) (v1968 : IVec S16 32) : Prop :=
  (∀ (k0_h5 : k0_cond5 i k0_t1 = 1#1), ∀ a x, ((![v1966, v1968] : Fin 2 → IVec S16 32) a x).toNat < S32x128.size a)
theorem k0_idx417_inb : ∀ (i : grid0.Coords) (k0_t1 : Fin k0_t1_loop.trips) (v1966 : IVec S16 32) (v1968 : IVec S16 32) (k0_hw417 : k0_chk417 i k0_t1 v1966 v1968), ∀ (k0_h5 : k0_cond5 i k0_t1 = 1#1), ∀ a x, ((![v1966, v1968] : Fin 2 → IVec S16 32) a x).toNat < S32x128.size a := fun i k0_t1 v1966 v1968 k0_hw417 k0_h5 => k0_hw417 k0_h5

def k0_chk418 (i : grid0.Coords) (k0_t1 : Fin k0_t1_loop.trips) (v1978 : IVec S16 32) (v1980 : IVec S16 32) : Prop :=
  (∀ (k0_h5 : k0_cond5 i k0_t1 = 1#1), ∀ a x, ((![v1978, v1980] : Fin 2 → IVec S16 32) a x).toNat < S32x128.size a)
theorem k0_idx418_inb : ∀ (i : grid0.Coords) (k0_t1 : Fin k0_t1_loop.trips) (v1978 : IVec S16 32) (v1980 : IVec S16 32) (k0_hw418 : k0_chk418 i k0_t1 v1978 v1980), ∀ (k0_h5 : k0_cond5 i k0_t1 = 1#1), ∀ a x, ((![v1978, v1980] : Fin 2 → IVec S16 32) a x).toNat < S32x128.size a := fun i k0_t1 v1978 v1980 k0_hw418 k0_h5 => k0_hw418 k0_h5

def k0_chk419 (i : grid0.Coords) (k0_t1 : Fin k0_t1_loop.trips) (v1990 : IVec S16 32) (v1992 : IVec S16 32) : Prop :=
  (∀ (k0_h5 : k0_cond5 i k0_t1 = 1#1), ∀ a x, ((![v1990, v1992] : Fin 2 → IVec S16 32) a x).toNat < S32x128.size a)
theorem k0_idx419_inb : ∀ (i : grid0.Coords) (k0_t1 : Fin k0_t1_loop.trips) (v1990 : IVec S16 32) (v1992 : IVec S16 32) (k0_hw419 : k0_chk419 i k0_t1 v1990 v1992), ∀ (k0_h5 : k0_cond5 i k0_t1 = 1#1), ∀ a x, ((![v1990, v1992] : Fin 2 → IVec S16 32) a x).toNat < S32x128.size a := fun i k0_t1 v1990 v1992 k0_hw419 k0_h5 => k0_hw419 k0_h5

def k0_chk420 (i : grid0.Coords) (k0_t1 : Fin k0_t1_loop.trips) (v2002 : IVec S16 32) (v2004 : IVec S16 32) : Prop :=
  (∀ (k0_h5 : k0_cond5 i k0_t1 = 1#1), ∀ a x, ((![v2002, v2004] : Fin 2 → IVec S16 32) a x).toNat < S32x128.size a)
theorem k0_idx420_inb : ∀ (i : grid0.Coords) (k0_t1 : Fin k0_t1_loop.trips) (v2002 : IVec S16 32) (v2004 : IVec S16 32) (k0_hw420 : k0_chk420 i k0_t1 v2002 v2004), ∀ (k0_h5 : k0_cond5 i k0_t1 = 1#1), ∀ a x, ((![v2002, v2004] : Fin 2 → IVec S16 32) a x).toNat < S32x128.size a := fun i k0_t1 v2002 v2004 k0_hw420 k0_h5 => k0_hw420 k0_h5

def k0_chk421 (i : grid0.Coords) (k0_t1 : Fin k0_t1_loop.trips) (v2014 : IVec S16 32) (v2016 : IVec S16 32) : Prop :=
  (∀ (k0_h5 : k0_cond5 i k0_t1 = 1#1), ∀ a x, ((![v2014, v2016] : Fin 2 → IVec S16 32) a x).toNat < S32x128.size a)
theorem k0_idx421_inb : ∀ (i : grid0.Coords) (k0_t1 : Fin k0_t1_loop.trips) (v2014 : IVec S16 32) (v2016 : IVec S16 32) (k0_hw421 : k0_chk421 i k0_t1 v2014 v2016), ∀ (k0_h5 : k0_cond5 i k0_t1 = 1#1), ∀ a x, ((![v2014, v2016] : Fin 2 → IVec S16 32) a x).toNat < S32x128.size a := fun i k0_t1 v2014 v2016 k0_hw421 k0_h5 => k0_hw421 k0_h5

def k0_chk422 (i : grid0.Coords) (k0_t1 : Fin k0_t1_loop.trips) (v2026 : IVec S16 32) (v2028 : IVec S16 32) : Prop :=
  (∀ (k0_h5 : k0_cond5 i k0_t1 = 1#1), ∀ a x, ((![v2026, v2028] : Fin 2 → IVec S16 32) a x).toNat < S32x128.size a)
theorem k0_idx422_inb : ∀ (i : grid0.Coords) (k0_t1 : Fin k0_t1_loop.trips) (v2026 : IVec S16 32) (v2028 : IVec S16 32) (k0_hw422 : k0_chk422 i k0_t1 v2026 v2028), ∀ (k0_h5 : k0_cond5 i k0_t1 = 1#1), ∀ a x, ((![v2026, v2028] : Fin 2 → IVec S16 32) a x).toNat < S32x128.size a := fun i k0_t1 v2026 v2028 k0_hw422 k0_h5 => k0_hw422 k0_h5

def k0_chk423 (i : grid0.Coords) (k0_t1 : Fin k0_t1_loop.trips) (v2038 : IVec S16 32) (v2040 : IVec S16 32) : Prop :=
  (∀ (k0_h5 : k0_cond5 i k0_t1 = 1#1), ∀ a x, ((![v2038, v2040] : Fin 2 → IVec S16 32) a x).toNat < S32x128.size a)
theorem k0_idx423_inb : ∀ (i : grid0.Coords) (k0_t1 : Fin k0_t1_loop.trips) (v2038 : IVec S16 32) (v2040 : IVec S16 32) (k0_hw423 : k0_chk423 i k0_t1 v2038 v2040), ∀ (k0_h5 : k0_cond5 i k0_t1 = 1#1), ∀ a x, ((![v2038, v2040] : Fin 2 → IVec S16 32) a x).toNat < S32x128.size a := fun i k0_t1 v2038 v2040 k0_hw423 k0_h5 => k0_hw423 k0_h5

def k0_chk424 (i : grid0.Coords) (k0_t1 : Fin k0_t1_loop.trips) (v2050 : IVec S16 32) (v2052 : IVec S16 32) : Prop :=
  (∀ (k0_h5 : k0_cond5 i k0_t1 = 1#1), ∀ a x, ((![v2050, v2052] : Fin 2 → IVec S16 32) a x).toNat < S32x128.size a)
theorem k0_idx424_inb : ∀ (i : grid0.Coords) (k0_t1 : Fin k0_t1_loop.trips) (v2050 : IVec S16 32) (v2052 : IVec S16 32) (k0_hw424 : k0_chk424 i k0_t1 v2050 v2052), ∀ (k0_h5 : k0_cond5 i k0_t1 = 1#1), ∀ a x, ((![v2050, v2052] : Fin 2 → IVec S16 32) a x).toNat < S32x128.size a := fun i k0_t1 v2050 v2052 k0_hw424 k0_h5 => k0_hw424 k0_h5

def k0_chk425 (i : grid0.Coords) (k0_t1 : Fin k0_t1_loop.trips) (v2062 : IVec S16 32) (v2064 : IVec S16 32) : Prop :=
  (∀ (k0_h5 : k0_cond5 i k0_t1 = 1#1), ∀ a x, ((![v2062, v2064] : Fin 2 → IVec S16 32) a x).toNat < S32x128.size a)
theorem k0_idx425_inb : ∀ (i : grid0.Coords) (k0_t1 : Fin k0_t1_loop.trips) (v2062 : IVec S16 32) (v2064 : IVec S16 32) (k0_hw425 : k0_chk425 i k0_t1 v2062 v2064), ∀ (k0_h5 : k0_cond5 i k0_t1 = 1#1), ∀ a x, ((![v2062, v2064] : Fin 2 → IVec S16 32) a x).toNat < S32x128.size a := fun i k0_t1 v2062 v2064 k0_hw425 k0_h5 => k0_hw425 k0_h5

def k0_chk426 (i : grid0.Coords) (k0_t1 : Fin k0_t1_loop.trips) (v2074 : IVec S16 32) (v2076 : IVec S16 32) : Prop :=
  (∀ (k0_h5 : k0_cond5 i k0_t1 = 1#1), ∀ a x, ((![v2074, v2076] : Fin 2 → IVec S16 32) a x).toNat < S32x128.size a)
theorem k0_idx426_inb : ∀ (i : grid0.Coords) (k0_t1 : Fin k0_t1_loop.trips) (v2074 : IVec S16 32) (v2076 : IVec S16 32) (k0_hw426 : k0_chk426 i k0_t1 v2074 v2076), ∀ (k0_h5 : k0_cond5 i k0_t1 = 1#1), ∀ a x, ((![v2074, v2076] : Fin 2 → IVec S16 32) a x).toNat < S32x128.size a := fun i k0_t1 v2074 v2076 k0_hw426 k0_h5 => k0_hw426 k0_h5

def k0_chk427 (i : grid0.Coords) (k0_t1 : Fin k0_t1_loop.trips) (v2086 : IVec S16 32) (v2088 : IVec S16 32) : Prop :=
  (∀ (k0_h5 : k0_cond5 i k0_t1 = 1#1), ∀ a x, ((![v2086, v2088] : Fin 2 → IVec S16 32) a x).toNat < S32x128.size a)
theorem k0_idx427_inb : ∀ (i : grid0.Coords) (k0_t1 : Fin k0_t1_loop.trips) (v2086 : IVec S16 32) (v2088 : IVec S16 32) (k0_hw427 : k0_chk427 i k0_t1 v2086 v2088), ∀ (k0_h5 : k0_cond5 i k0_t1 = 1#1), ∀ a x, ((![v2086, v2088] : Fin 2 → IVec S16 32) a x).toNat < S32x128.size a := fun i k0_t1 v2086 v2088 k0_hw427 k0_h5 => k0_hw427 k0_h5

def k0_chk428 (i : grid0.Coords) (k0_t1 : Fin k0_t1_loop.trips) (v2098 : IVec S16 32) (v2100 : IVec S16 32) : Prop :=
  (∀ (k0_h5 : k0_cond5 i k0_t1 = 1#1), ∀ a x, ((![v2098, v2100] : Fin 2 → IVec S16 32) a x).toNat < S32x128.size a)
theorem k0_idx428_inb : ∀ (i : grid0.Coords) (k0_t1 : Fin k0_t1_loop.trips) (v2098 : IVec S16 32) (v2100 : IVec S16 32) (k0_hw428 : k0_chk428 i k0_t1 v2098 v2100), ∀ (k0_h5 : k0_cond5 i k0_t1 = 1#1), ∀ a x, ((![v2098, v2100] : Fin 2 → IVec S16 32) a x).toNat < S32x128.size a := fun i k0_t1 v2098 v2100 k0_hw428 k0_h5 => k0_hw428 k0_h5

def k0_chk429 (i : grid0.Coords) (k0_t1 : Fin k0_t1_loop.trips) (v2110 : IVec S16 32) (v2112 : IVec S16 32) : Prop :=
  (∀ (k0_h5 : k0_cond5 i k0_t1 = 1#1), ∀ a x, ((![v2110, v2112] : Fin 2 → IVec S16 32) a x).toNat < S32x128.size a)
theorem k0_idx429_inb : ∀ (i : grid0.Coords) (k0_t1 : Fin k0_t1_loop.trips) (v2110 : IVec S16 32) (v2112 : IVec S16 32) (k0_hw429 : k0_chk429 i k0_t1 v2110 v2112), ∀ (k0_h5 : k0_cond5 i k0_t1 = 1#1), ∀ a x, ((![v2110, v2112] : Fin 2 → IVec S16 32) a x).toNat < S32x128.size a := fun i k0_t1 v2110 v2112 k0_hw429 k0_h5 => k0_hw429 k0_h5

def k0_chk430 (i : grid0.Coords) (k0_t1 : Fin k0_t1_loop.trips) (v2122 : IVec S16 32) (v2124 : IVec S16 32) : Prop :=
  (∀ (k0_h5 : k0_cond5 i k0_t1 = 1#1), ∀ a x, ((![v2122, v2124] : Fin 2 → IVec S16 32) a x).toNat < S32x128.size a)
theorem k0_idx430_inb : ∀ (i : grid0.Coords) (k0_t1 : Fin k0_t1_loop.trips) (v2122 : IVec S16 32) (v2124 : IVec S16 32) (k0_hw430 : k0_chk430 i k0_t1 v2122 v2124), ∀ (k0_h5 : k0_cond5 i k0_t1 = 1#1), ∀ a x, ((![v2122, v2124] : Fin 2 → IVec S16 32) a x).toNat < S32x128.size a := fun i k0_t1 v2122 v2124 k0_hw430 k0_h5 => k0_hw430 k0_h5

def k0_chk431 (i : grid0.Coords) (k0_t1 : Fin k0_t1_loop.trips) (v2134 : IVec S16 32) (v2136 : IVec S16 32) : Prop :=
  (∀ (k0_h5 : k0_cond5 i k0_t1 = 1#1), ∀ a x, ((![v2134, v2136] : Fin 2 → IVec S16 32) a x).toNat < S32x128.size a)
theorem k0_idx431_inb : ∀ (i : grid0.Coords) (k0_t1 : Fin k0_t1_loop.trips) (v2134 : IVec S16 32) (v2136 : IVec S16 32) (k0_hw431 : k0_chk431 i k0_t1 v2134 v2136), ∀ (k0_h5 : k0_cond5 i k0_t1 = 1#1), ∀ a x, ((![v2134, v2136] : Fin 2 → IVec S16 32) a x).toNat < S32x128.size a := fun i k0_t1 v2134 v2136 k0_hw431 k0_h5 => k0_hw431 k0_h5

def k0_chk432 (i : grid0.Coords) (k0_t1 : Fin k0_t1_loop.trips) (v2146 : IVec S16 32) (v2148 : IVec S16 32) : Prop :=
  (∀ (k0_h5 : k0_cond5 i k0_t1 = 1#1), ∀ a x, ((![v2146, v2148] : Fin 2 → IVec S16 32) a x).toNat < S32x128.size a)
theorem k0_idx432_inb : ∀ (i : grid0.Coords) (k0_t1 : Fin k0_t1_loop.trips) (v2146 : IVec S16 32) (v2148 : IVec S16 32) (k0_hw432 : k0_chk432 i k0_t1 v2146 v2148), ∀ (k0_h5 : k0_cond5 i k0_t1 = 1#1), ∀ a x, ((![v2146, v2148] : Fin 2 → IVec S16 32) a x).toNat < S32x128.size a := fun i k0_t1 v2146 v2148 k0_hw432 k0_h5 => k0_hw432 k0_h5

def k0_chk433 (i : grid0.Coords) (k0_t1 : Fin k0_t1_loop.trips) (v2158 : IVec S16 32) (v2160 : IVec S16 32) : Prop :=
  (∀ (k0_h5 : k0_cond5 i k0_t1 = 1#1), ∀ a x, ((![v2158, v2160] : Fin 2 → IVec S16 32) a x).toNat < S32x128.size a)
theorem k0_idx433_inb : ∀ (i : grid0.Coords) (k0_t1 : Fin k0_t1_loop.trips) (v2158 : IVec S16 32) (v2160 : IVec S16 32) (k0_hw433 : k0_chk433 i k0_t1 v2158 v2160), ∀ (k0_h5 : k0_cond5 i k0_t1 = 1#1), ∀ a x, ((![v2158, v2160] : Fin 2 → IVec S16 32) a x).toNat < S32x128.size a := fun i k0_t1 v2158 v2160 k0_hw433 k0_h5 => k0_hw433 k0_h5

def k0_chk434 (i : grid0.Coords) (k0_t1 : Fin k0_t1_loop.trips) (v2170 : IVec S16 32) (v2172 : IVec S16 32) : Prop :=
  (∀ (k0_h5 : k0_cond5 i k0_t1 = 1#1), ∀ a x, ((![v2170, v2172] : Fin 2 → IVec S16 32) a x).toNat < S32x128.size a)
theorem k0_idx434_inb : ∀ (i : grid0.Coords) (k0_t1 : Fin k0_t1_loop.trips) (v2170 : IVec S16 32) (v2172 : IVec S16 32) (k0_hw434 : k0_chk434 i k0_t1 v2170 v2172), ∀ (k0_h5 : k0_cond5 i k0_t1 = 1#1), ∀ a x, ((![v2170, v2172] : Fin 2 → IVec S16 32) a x).toNat < S32x128.size a := fun i k0_t1 v2170 v2172 k0_hw434 k0_h5 => k0_hw434 k0_h5

def k0_chk435 (i : grid0.Coords) (k0_t1 : Fin k0_t1_loop.trips) (v2182 : IVec S16 32) (v2184 : IVec S16 32) : Prop :=
  (∀ (k0_h5 : k0_cond5 i k0_t1 = 1#1), ∀ a x, ((![v2182, v2184] : Fin 2 → IVec S16 32) a x).toNat < S32x128.size a)
theorem k0_idx435_inb : ∀ (i : grid0.Coords) (k0_t1 : Fin k0_t1_loop.trips) (v2182 : IVec S16 32) (v2184 : IVec S16 32) (k0_hw435 : k0_chk435 i k0_t1 v2182 v2184), ∀ (k0_h5 : k0_cond5 i k0_t1 = 1#1), ∀ a x, ((![v2182, v2184] : Fin 2 → IVec S16 32) a x).toNat < S32x128.size a := fun i k0_t1 v2182 v2184 k0_hw435 k0_h5 => k0_hw435 k0_h5

def k0_chk436 (i : grid0.Coords) (k0_t1 : Fin k0_t1_loop.trips) (v2194 : IVec S16 32) (v2196 : IVec S16 32) : Prop :=
  (∀ (k0_h5 : k0_cond5 i k0_t1 = 1#1), ∀ a x, ((![v2194, v2196] : Fin 2 → IVec S16 32) a x).toNat < S32x128.size a)
theorem k0_idx436_inb : ∀ (i : grid0.Coords) (k0_t1 : Fin k0_t1_loop.trips) (v2194 : IVec S16 32) (v2196 : IVec S16 32) (k0_hw436 : k0_chk436 i k0_t1 v2194 v2196), ∀ (k0_h5 : k0_cond5 i k0_t1 = 1#1), ∀ a x, ((![v2194, v2196] : Fin 2 → IVec S16 32) a x).toNat < S32x128.size a := fun i k0_t1 v2194 v2196 k0_hw436 k0_h5 => k0_hw436 k0_h5

def k0_chk437 (i : grid0.Coords) (k0_t1 : Fin k0_t1_loop.trips) (v2206 : IVec S16 32) (v2208 : IVec S16 32) : Prop :=
  (∀ (k0_h5 : k0_cond5 i k0_t1 = 1#1), ∀ a x, ((![v2206, v2208] : Fin 2 → IVec S16 32) a x).toNat < S32x128.size a)
theorem k0_idx437_inb : ∀ (i : grid0.Coords) (k0_t1 : Fin k0_t1_loop.trips) (v2206 : IVec S16 32) (v2208 : IVec S16 32) (k0_hw437 : k0_chk437 i k0_t1 v2206 v2208), ∀ (k0_h5 : k0_cond5 i k0_t1 = 1#1), ∀ a x, ((![v2206, v2208] : Fin 2 → IVec S16 32) a x).toNat < S32x128.size a := fun i k0_t1 v2206 v2208 k0_hw437 k0_h5 => k0_hw437 k0_h5

def k0_chk438 (i : grid0.Coords) (k0_t1 : Fin k0_t1_loop.trips) (v2218 : IVec S16 32) (v2220 : IVec S16 32) : Prop :=
  (∀ (k0_h5 : k0_cond5 i k0_t1 = 1#1), ∀ a x, ((![v2218, v2220] : Fin 2 → IVec S16 32) a x).toNat < S32x128.size a)
theorem k0_idx438_inb : ∀ (i : grid0.Coords) (k0_t1 : Fin k0_t1_loop.trips) (v2218 : IVec S16 32) (v2220 : IVec S16 32) (k0_hw438 : k0_chk438 i k0_t1 v2218 v2220), ∀ (k0_h5 : k0_cond5 i k0_t1 = 1#1), ∀ a x, ((![v2218, v2220] : Fin 2 → IVec S16 32) a x).toNat < S32x128.size a := fun i k0_t1 v2218 v2220 k0_hw438 k0_h5 => k0_hw438 k0_h5

def k0_chk439 (i : grid0.Coords) (k0_t1 : Fin k0_t1_loop.trips) (v2230 : IVec S16 32) (v2232 : IVec S16 32) : Prop :=
  (∀ (k0_h5 : k0_cond5 i k0_t1 = 1#1), ∀ a x, ((![v2230, v2232] : Fin 2 → IVec S16 32) a x).toNat < S32x128.size a)
theorem k0_idx439_inb : ∀ (i : grid0.Coords) (k0_t1 : Fin k0_t1_loop.trips) (v2230 : IVec S16 32) (v2232 : IVec S16 32) (k0_hw439 : k0_chk439 i k0_t1 v2230 v2232), ∀ (k0_h5 : k0_cond5 i k0_t1 = 1#1), ∀ a x, ((![v2230, v2232] : Fin 2 → IVec S16 32) a x).toNat < S32x128.size a := fun i k0_t1 v2230 v2232 k0_hw439 k0_h5 => k0_hw439 k0_h5

def k0_chk440 (i : grid0.Coords) (k0_t1 : Fin k0_t1_loop.trips) (v2242 : IVec S16 32) (v2244 : IVec S16 32) : Prop :=
  (∀ (k0_h5 : k0_cond5 i k0_t1 = 1#1), ∀ a x, ((![v2242, v2244] : Fin 2 → IVec S16 32) a x).toNat < S32x128.size a)
theorem k0_idx440_inb : ∀ (i : grid0.Coords) (k0_t1 : Fin k0_t1_loop.trips) (v2242 : IVec S16 32) (v2244 : IVec S16 32) (k0_hw440 : k0_chk440 i k0_t1 v2242 v2244), ∀ (k0_h5 : k0_cond5 i k0_t1 = 1#1), ∀ a x, ((![v2242, v2244] : Fin 2 → IVec S16 32) a x).toNat < S32x128.size a := fun i k0_t1 v2242 v2244 k0_hw440 k0_h5 => k0_hw440 k0_h5

def k0_chk441 (i : grid0.Coords) (k0_t1 : Fin k0_t1_loop.trips) (v2254 : IVec S16 32) (v2256 : IVec S16 32) : Prop :=
  (∀ (k0_h5 : k0_cond5 i k0_t1 = 1#1), ∀ a x, ((![v2254, v2256] : Fin 2 → IVec S16 32) a x).toNat < S32x128.size a)
theorem k0_idx441_inb : ∀ (i : grid0.Coords) (k0_t1 : Fin k0_t1_loop.trips) (v2254 : IVec S16 32) (v2256 : IVec S16 32) (k0_hw441 : k0_chk441 i k0_t1 v2254 v2256), ∀ (k0_h5 : k0_cond5 i k0_t1 = 1#1), ∀ a x, ((![v2254, v2256] : Fin 2 → IVec S16 32) a x).toNat < S32x128.size a := fun i k0_t1 v2254 v2256 k0_hw441 k0_h5 => k0_hw441 k0_h5

def k0_chk442 (i : grid0.Coords) (k0_t1 : Fin k0_t1_loop.trips) (v2266 : IVec S16 32) (v2268 : IVec S16 32) : Prop :=
  (∀ (k0_h5 : k0_cond5 i k0_t1 = 1#1), ∀ a x, ((![v2266, v2268] : Fin 2 → IVec S16 32) a x).toNat < S32x128.size a)
theorem k0_idx442_inb : ∀ (i : grid0.Coords) (k0_t1 : Fin k0_t1_loop.trips) (v2266 : IVec S16 32) (v2268 : IVec S16 32) (k0_hw442 : k0_chk442 i k0_t1 v2266 v2268), ∀ (k0_h5 : k0_cond5 i k0_t1 = 1#1), ∀ a x, ((![v2266, v2268] : Fin 2 → IVec S16 32) a x).toNat < S32x128.size a := fun i k0_t1 v2266 v2268 k0_hw442 k0_h5 => k0_hw442 k0_h5

def k0_chk443 (i : grid0.Coords) (k0_t1 : Fin k0_t1_loop.trips) (v2278 : IVec S16 32) (v2280 : IVec S16 32) : Prop :=
  (∀ (k0_h5 : k0_cond5 i k0_t1 = 1#1), ∀ a x, ((![v2278, v2280] : Fin 2 → IVec S16 32) a x).toNat < S32x128.size a)
theorem k0_idx443_inb : ∀ (i : grid0.Coords) (k0_t1 : Fin k0_t1_loop.trips) (v2278 : IVec S16 32) (v2280 : IVec S16 32) (k0_hw443 : k0_chk443 i k0_t1 v2278 v2280), ∀ (k0_h5 : k0_cond5 i k0_t1 = 1#1), ∀ a x, ((![v2278, v2280] : Fin 2 → IVec S16 32) a x).toNat < S32x128.size a := fun i k0_t1 v2278 v2280 k0_hw443 k0_h5 => k0_hw443 k0_h5

def k0_chk444 (i : grid0.Coords) (k0_t1 : Fin k0_t1_loop.trips) (v2290 : IVec S16 32) (v2292 : IVec S16 32) : Prop :=
  (∀ (k0_h5 : k0_cond5 i k0_t1 = 1#1), ∀ a x, ((![v2290, v2292] : Fin 2 → IVec S16 32) a x).toNat < S32x128.size a)
theorem k0_idx444_inb : ∀ (i : grid0.Coords) (k0_t1 : Fin k0_t1_loop.trips) (v2290 : IVec S16 32) (v2292 : IVec S16 32) (k0_hw444 : k0_chk444 i k0_t1 v2290 v2292), ∀ (k0_h5 : k0_cond5 i k0_t1 = 1#1), ∀ a x, ((![v2290, v2292] : Fin 2 → IVec S16 32) a x).toNat < S32x128.size a := fun i k0_t1 v2290 v2292 k0_hw444 k0_h5 => k0_hw444 k0_h5

def k0_chk445 (i : grid0.Coords) (k0_t1 : Fin k0_t1_loop.trips) (v2302 : IVec S16 32) (v2304 : IVec S16 32) : Prop :=
  (∀ (k0_h5 : k0_cond5 i k0_t1 = 1#1), ∀ a x, ((![v2302, v2304] : Fin 2 → IVec S16 32) a x).toNat < S32x128.size a)
theorem k0_idx445_inb : ∀ (i : grid0.Coords) (k0_t1 : Fin k0_t1_loop.trips) (v2302 : IVec S16 32) (v2304 : IVec S16 32) (k0_hw445 : k0_chk445 i k0_t1 v2302 v2304), ∀ (k0_h5 : k0_cond5 i k0_t1 = 1#1), ∀ a x, ((![v2302, v2304] : Fin 2 → IVec S16 32) a x).toNat < S32x128.size a := fun i k0_t1 v2302 v2304 k0_hw445 k0_h5 => k0_hw445 k0_h5

def k0_chk446 (i : grid0.Coords) (k0_t1 : Fin k0_t1_loop.trips) (v2314 : IVec S16 32) (v2316 : IVec S16 32) : Prop :=
  (∀ (k0_h5 : k0_cond5 i k0_t1 = 1#1), ∀ a x, ((![v2314, v2316] : Fin 2 → IVec S16 32) a x).toNat < S32x128.size a)
theorem k0_idx446_inb : ∀ (i : grid0.Coords) (k0_t1 : Fin k0_t1_loop.trips) (v2314 : IVec S16 32) (v2316 : IVec S16 32) (k0_hw446 : k0_chk446 i k0_t1 v2314 v2316), ∀ (k0_h5 : k0_cond5 i k0_t1 = 1#1), ∀ a x, ((![v2314, v2316] : Fin 2 → IVec S16 32) a x).toNat < S32x128.size a := fun i k0_t1 v2314 v2316 k0_hw446 k0_h5 => k0_hw446 k0_h5

def k0_chk447 (i : grid0.Coords) (k0_t1 : Fin k0_t1_loop.trips) (v2326 : IVec S16 32) (v2328 : IVec S16 32) : Prop :=
  (∀ (k0_h5 : k0_cond5 i k0_t1 = 1#1), ∀ a x, ((![v2326, v2328] : Fin 2 → IVec S16 32) a x).toNat < S32x128.size a)
theorem k0_idx447_inb : ∀ (i : grid0.Coords) (k0_t1 : Fin k0_t1_loop.trips) (v2326 : IVec S16 32) (v2328 : IVec S16 32) (k0_hw447 : k0_chk447 i k0_t1 v2326 v2328), ∀ (k0_h5 : k0_cond5 i k0_t1 = 1#1), ∀ a x, ((![v2326, v2328] : Fin 2 → IVec S16 32) a x).toNat < S32x128.size a := fun i k0_t1 v2326 v2328 k0_hw447 k0_h5 => k0_hw447 k0_h5

def k0_chk448 (i : grid0.Coords) (k0_t1 : Fin k0_t1_loop.trips) (v2338 : IVec S16 32) (v2340 : IVec S16 32) : Prop :=
  (∀ (k0_h5 : k0_cond5 i k0_t1 = 1#1), ∀ a x, ((![v2338, v2340] : Fin 2 → IVec S16 32) a x).toNat < S32x128.size a)
theorem k0_idx448_inb : ∀ (i : grid0.Coords) (k0_t1 : Fin k0_t1_loop.trips) (v2338 : IVec S16 32) (v2340 : IVec S16 32) (k0_hw448 : k0_chk448 i k0_t1 v2338 v2340), ∀ (k0_h5 : k0_cond5 i k0_t1 = 1#1), ∀ a x, ((![v2338, v2340] : Fin 2 → IVec S16 32) a x).toNat < S32x128.size a := fun i k0_t1 v2338 v2340 k0_hw448 k0_h5 => k0_hw448 k0_h5

def k0_chk449 (i : grid0.Coords) (k0_t1 : Fin k0_t1_loop.trips) (v2350 : IVec S16 32) (v2352 : IVec S16 32) : Prop :=
  (∀ (k0_h5 : k0_cond5 i k0_t1 = 1#1), ∀ a x, ((![v2350, v2352] : Fin 2 → IVec S16 32) a x).toNat < S32x128.size a)
theorem k0_idx449_inb : ∀ (i : grid0.Coords) (k0_t1 : Fin k0_t1_loop.trips) (v2350 : IVec S16 32) (v2352 : IVec S16 32) (k0_hw449 : k0_chk449 i k0_t1 v2350 v2352), ∀ (k0_h5 : k0_cond5 i k0_t1 = 1#1), ∀ a x, ((![v2350, v2352] : Fin 2 → IVec S16 32) a x).toNat < S32x128.size a := fun i k0_t1 v2350 v2352 k0_hw449 k0_h5 => k0_hw449 k0_h5

def k0_chk450 (i : grid0.Coords) (k0_t1 : Fin k0_t1_loop.trips) (v2362 : IVec S16 32) (v2364 : IVec S16 32) : Prop :=
  (∀ (k0_h5 : k0_cond5 i k0_t1 = 1#1), ∀ a x, ((![v2362, v2364] : Fin 2 → IVec S16 32) a x).toNat < S32x128.size a)
theorem k0_idx450_inb : ∀ (i : grid0.Coords) (k0_t1 : Fin k0_t1_loop.trips) (v2362 : IVec S16 32) (v2364 : IVec S16 32) (k0_hw450 : k0_chk450 i k0_t1 v2362 v2364), ∀ (k0_h5 : k0_cond5 i k0_t1 = 1#1), ∀ a x, ((![v2362, v2364] : Fin 2 → IVec S16 32) a x).toNat < S32x128.size a := fun i k0_t1 v2362 v2364 k0_hw450 k0_h5 => k0_hw450 k0_h5

def k0_chk451 (i : grid0.Coords) (k0_t1 : Fin k0_t1_loop.trips) (v2374 : IVec S16 32) (v2376 : IVec S16 32) : Prop :=
  (∀ (k0_h5 : k0_cond5 i k0_t1 = 1#1), ∀ a x, ((![v2374, v2376] : Fin 2 → IVec S16 32) a x).toNat < S32x128.size a)
theorem k0_idx451_inb : ∀ (i : grid0.Coords) (k0_t1 : Fin k0_t1_loop.trips) (v2374 : IVec S16 32) (v2376 : IVec S16 32) (k0_hw451 : k0_chk451 i k0_t1 v2374 v2376), ∀ (k0_h5 : k0_cond5 i k0_t1 = 1#1), ∀ a x, ((![v2374, v2376] : Fin 2 → IVec S16 32) a x).toNat < S32x128.size a := fun i k0_t1 v2374 v2376 k0_hw451 k0_h5 => k0_hw451 k0_h5

def k0_chk452 (i : grid0.Coords) (k0_t1 : Fin k0_t1_loop.trips) (v2386 : IVec S16 32) (v2388 : IVec S16 32) : Prop :=
  (∀ (k0_h5 : k0_cond5 i k0_t1 = 1#1), ∀ a x, ((![v2386, v2388] : Fin 2 → IVec S16 32) a x).toNat < S32x128.size a)
theorem k0_idx452_inb : ∀ (i : grid0.Coords) (k0_t1 : Fin k0_t1_loop.trips) (v2386 : IVec S16 32) (v2388 : IVec S16 32) (k0_hw452 : k0_chk452 i k0_t1 v2386 v2388), ∀ (k0_h5 : k0_cond5 i k0_t1 = 1#1), ∀ a x, ((![v2386, v2388] : Fin 2 → IVec S16 32) a x).toNat < S32x128.size a := fun i k0_t1 v2386 v2388 k0_hw452 k0_h5 => k0_hw452 k0_h5

def k0_chk453 (i : grid0.Coords) (k0_t1 : Fin k0_t1_loop.trips) (v2398 : IVec S16 32) (v2400 : IVec S16 32) : Prop :=
  (∀ (k0_h5 : k0_cond5 i k0_t1 = 1#1), ∀ a x, ((![v2398, v2400] : Fin 2 → IVec S16 32) a x).toNat < S32x128.size a)
theorem k0_idx453_inb : ∀ (i : grid0.Coords) (k0_t1 : Fin k0_t1_loop.trips) (v2398 : IVec S16 32) (v2400 : IVec S16 32) (k0_hw453 : k0_chk453 i k0_t1 v2398 v2400), ∀ (k0_h5 : k0_cond5 i k0_t1 = 1#1), ∀ a x, ((![v2398, v2400] : Fin 2 → IVec S16 32) a x).toNat < S32x128.size a := fun i k0_t1 v2398 v2400 k0_hw453 k0_h5 => k0_hw453 k0_h5

def k0_chk454 (i : grid0.Coords) (k0_t1 : Fin k0_t1_loop.trips) (v2410 : IVec S16 32) (v2412 : IVec S16 32) : Prop :=
  (∀ (k0_h5 : k0_cond5 i k0_t1 = 1#1), ∀ a x, ((![v2410, v2412] : Fin 2 → IVec S16 32) a x).toNat < S32x128.size a)
theorem k0_idx454_inb : ∀ (i : grid0.Coords) (k0_t1 : Fin k0_t1_loop.trips) (v2410 : IVec S16 32) (v2412 : IVec S16 32) (k0_hw454 : k0_chk454 i k0_t1 v2410 v2412), ∀ (k0_h5 : k0_cond5 i k0_t1 = 1#1), ∀ a x, ((![v2410, v2412] : Fin 2 → IVec S16 32) a x).toNat < S32x128.size a := fun i k0_t1 v2410 v2412 k0_hw454 k0_h5 => k0_hw454 k0_h5

def k0_chk455 (i : grid0.Coords) (k0_t1 : Fin k0_t1_loop.trips) (v2422 : IVec S16 32) (v2424 : IVec S16 32) : Prop :=
  (∀ (k0_h5 : k0_cond5 i k0_t1 = 1#1), ∀ a x, ((![v2422, v2424] : Fin 2 → IVec S16 32) a x).toNat < S32x128.size a)
theorem k0_idx455_inb : ∀ (i : grid0.Coords) (k0_t1 : Fin k0_t1_loop.trips) (v2422 : IVec S16 32) (v2424 : IVec S16 32) (k0_hw455 : k0_chk455 i k0_t1 v2422 v2424), ∀ (k0_h5 : k0_cond5 i k0_t1 = 1#1), ∀ a x, ((![v2422, v2424] : Fin 2 → IVec S16 32) a x).toNat < S32x128.size a := fun i k0_t1 v2422 v2424 k0_hw455 k0_h5 => k0_hw455 k0_h5

def k0_chk456 (i : grid0.Coords) (k0_t1 : Fin k0_t1_loop.trips) (v2434 : IVec S16 32) (v2436 : IVec S16 32) : Prop :=
  (∀ (k0_h5 : k0_cond5 i k0_t1 = 1#1), ∀ a x, ((![v2434, v2436] : Fin 2 → IVec S16 32) a x).toNat < S32x128.size a)
theorem k0_idx456_inb : ∀ (i : grid0.Coords) (k0_t1 : Fin k0_t1_loop.trips) (v2434 : IVec S16 32) (v2436 : IVec S16 32) (k0_hw456 : k0_chk456 i k0_t1 v2434 v2436), ∀ (k0_h5 : k0_cond5 i k0_t1 = 1#1), ∀ a x, ((![v2434, v2436] : Fin 2 → IVec S16 32) a x).toNat < S32x128.size a := fun i k0_t1 v2434 v2436 k0_hw456 k0_h5 => k0_hw456 k0_h5

def k0_chk457 (i : grid0.Coords) (k0_t1 : Fin k0_t1_loop.trips) (v2446 : IVec S16 32) (v2448 : IVec S16 32) : Prop :=
  (∀ (k0_h5 : k0_cond5 i k0_t1 = 1#1), ∀ a x, ((![v2446, v2448] : Fin 2 → IVec S16 32) a x).toNat < S32x128.size a)
theorem k0_idx457_inb : ∀ (i : grid0.Coords) (k0_t1 : Fin k0_t1_loop.trips) (v2446 : IVec S16 32) (v2448 : IVec S16 32) (k0_hw457 : k0_chk457 i k0_t1 v2446 v2448), ∀ (k0_h5 : k0_cond5 i k0_t1 = 1#1), ∀ a x, ((![v2446, v2448] : Fin 2 → IVec S16 32) a x).toNat < S32x128.size a := fun i k0_t1 v2446 v2448 k0_hw457 k0_h5 => k0_hw457 k0_h5

def k0_chk458 (i : grid0.Coords) (k0_t1 : Fin k0_t1_loop.trips) (v2458 : IVec S16 32) (v2460 : IVec S16 32) : Prop :=
  (∀ (k0_h5 : k0_cond5 i k0_t1 = 1#1), ∀ a x, ((![v2458, v2460] : Fin 2 → IVec S16 32) a x).toNat < S32x128.size a)
theorem k0_idx458_inb : ∀ (i : grid0.Coords) (k0_t1 : Fin k0_t1_loop.trips) (v2458 : IVec S16 32) (v2460 : IVec S16 32) (k0_hw458 : k0_chk458 i k0_t1 v2458 v2460), ∀ (k0_h5 : k0_cond5 i k0_t1 = 1#1), ∀ a x, ((![v2458, v2460] : Fin 2 → IVec S16 32) a x).toNat < S32x128.size a := fun i k0_t1 v2458 v2460 k0_hw458 k0_h5 => k0_hw458 k0_h5

def k0_chk459 (i : grid0.Coords) (k0_t1 : Fin k0_t1_loop.trips) (v2470 : IVec S16 32) (v2472 : IVec S16 32) : Prop :=
  (∀ (k0_h5 : k0_cond5 i k0_t1 = 1#1), ∀ a x, ((![v2470, v2472] : Fin 2 → IVec S16 32) a x).toNat < S32x128.size a)
theorem k0_idx459_inb : ∀ (i : grid0.Coords) (k0_t1 : Fin k0_t1_loop.trips) (v2470 : IVec S16 32) (v2472 : IVec S16 32) (k0_hw459 : k0_chk459 i k0_t1 v2470 v2472), ∀ (k0_h5 : k0_cond5 i k0_t1 = 1#1), ∀ a x, ((![v2470, v2472] : Fin 2 → IVec S16 32) a x).toNat < S32x128.size a := fun i k0_t1 v2470 v2472 k0_hw459 k0_h5 => k0_hw459 k0_h5

def k0_chk460 (i : grid0.Coords) (k0_t1 : Fin k0_t1_loop.trips) (v2482 : IVec S16 32) (v2484 : IVec S16 32) : Prop :=
  (∀ (k0_h5 : k0_cond5 i k0_t1 = 1#1), ∀ a x, ((![v2482, v2484] : Fin 2 → IVec S16 32) a x).toNat < S32x128.size a)
theorem k0_idx460_inb : ∀ (i : grid0.Coords) (k0_t1 : Fin k0_t1_loop.trips) (v2482 : IVec S16 32) (v2484 : IVec S16 32) (k0_hw460 : k0_chk460 i k0_t1 v2482 v2484), ∀ (k0_h5 : k0_cond5 i k0_t1 = 1#1), ∀ a x, ((![v2482, v2484] : Fin 2 → IVec S16 32) a x).toNat < S32x128.size a := fun i k0_t1 v2482 v2484 k0_hw460 k0_h5 => k0_hw460 k0_h5

def k0_chk461 (i : grid0.Coords) (k0_t1 : Fin k0_t1_loop.trips) (v2494 : IVec S16 32) (v2496 : IVec S16 32) : Prop :=
  (∀ (k0_h5 : k0_cond5 i k0_t1 = 1#1), ∀ a x, ((![v2494, v2496] : Fin 2 → IVec S16 32) a x).toNat < S32x128.size a)
theorem k0_idx461_inb : ∀ (i : grid0.Coords) (k0_t1 : Fin k0_t1_loop.trips) (v2494 : IVec S16 32) (v2496 : IVec S16 32) (k0_hw461 : k0_chk461 i k0_t1 v2494 v2496), ∀ (k0_h5 : k0_cond5 i k0_t1 = 1#1), ∀ a x, ((![v2494, v2496] : Fin 2 → IVec S16 32) a x).toNat < S32x128.size a := fun i k0_t1 v2494 v2496 k0_hw461 k0_h5 => k0_hw461 k0_h5

def k0_chk462 (i : grid0.Coords) (k0_t1 : Fin k0_t1_loop.trips) (v2506 : IVec S16 32) (v2508 : IVec S16 32) : Prop :=
  (∀ (k0_h5 : k0_cond5 i k0_t1 = 1#1), ∀ a x, ((![v2506, v2508] : Fin 2 → IVec S16 32) a x).toNat < S32x128.size a)
theorem k0_idx462_inb : ∀ (i : grid0.Coords) (k0_t1 : Fin k0_t1_loop.trips) (v2506 : IVec S16 32) (v2508 : IVec S16 32) (k0_hw462 : k0_chk462 i k0_t1 v2506 v2508), ∀ (k0_h5 : k0_cond5 i k0_t1 = 1#1), ∀ a x, ((![v2506, v2508] : Fin 2 → IVec S16 32) a x).toNat < S32x128.size a := fun i k0_t1 v2506 v2508 k0_hw462 k0_h5 => k0_hw462 k0_h5

def k0_chk463 (i : grid0.Coords) (k0_t1 : Fin k0_t1_loop.trips) (v2518 : IVec S16 32) (v2520 : IVec S16 32) : Prop :=
  (∀ (k0_h5 : k0_cond5 i k0_t1 = 1#1), ∀ a x, ((![v2518, v2520] : Fin 2 → IVec S16 32) a x).toNat < S32x128.size a)
theorem k0_idx463_inb : ∀ (i : grid0.Coords) (k0_t1 : Fin k0_t1_loop.trips) (v2518 : IVec S16 32) (v2520 : IVec S16 32) (k0_hw463 : k0_chk463 i k0_t1 v2518 v2520), ∀ (k0_h5 : k0_cond5 i k0_t1 = 1#1), ∀ a x, ((![v2518, v2520] : Fin 2 → IVec S16 32) a x).toNat < S32x128.size a := fun i k0_t1 v2518 v2520 k0_hw463 k0_h5 => k0_hw463 k0_h5

def k0_chk464 (i : grid0.Coords) (k0_t1 : Fin k0_t1_loop.trips) (v2530 : IVec S16 32) (v2532 : IVec S16 32) : Prop :=
  (∀ (k0_h5 : k0_cond5 i k0_t1 = 1#1), ∀ a x, ((![v2530, v2532] : Fin 2 → IVec S16 32) a x).toNat < S32x128.size a)
theorem k0_idx464_inb : ∀ (i : grid0.Coords) (k0_t1 : Fin k0_t1_loop.trips) (v2530 : IVec S16 32) (v2532 : IVec S16 32) (k0_hw464 : k0_chk464 i k0_t1 v2530 v2532), ∀ (k0_h5 : k0_cond5 i k0_t1 = 1#1), ∀ a x, ((![v2530, v2532] : Fin 2 → IVec S16 32) a x).toNat < S32x128.size a := fun i k0_t1 v2530 v2532 k0_hw464 k0_h5 => k0_hw464 k0_h5

def k0_chk465 (i : grid0.Coords) (k0_t1 : Fin k0_t1_loop.trips) (v2542 : IVec S16 32) (v2544 : IVec S16 32) : Prop :=
  (∀ (k0_h5 : k0_cond5 i k0_t1 = 1#1), ∀ a x, ((![v2542, v2544] : Fin 2 → IVec S16 32) a x).toNat < S32x128.size a)
theorem k0_idx465_inb : ∀ (i : grid0.Coords) (k0_t1 : Fin k0_t1_loop.trips) (v2542 : IVec S16 32) (v2544 : IVec S16 32) (k0_hw465 : k0_chk465 i k0_t1 v2542 v2544), ∀ (k0_h5 : k0_cond5 i k0_t1 = 1#1), ∀ a x, ((![v2542, v2544] : Fin 2 → IVec S16 32) a x).toNat < S32x128.size a := fun i k0_t1 v2542 v2544 k0_hw465 k0_h5 => k0_hw465 k0_h5

def k0_chk466 (i : grid0.Coords) (k0_t1 : Fin k0_t1_loop.trips) (v2554 : IVec S16 32) (v2556 : IVec S16 32) : Prop :=
  (∀ (k0_h5 : k0_cond5 i k0_t1 = 1#1), ∀ a x, ((![v2554, v2556] : Fin 2 → IVec S16 32) a x).toNat < S32x128.size a)
theorem k0_idx466_inb : ∀ (i : grid0.Coords) (k0_t1 : Fin k0_t1_loop.trips) (v2554 : IVec S16 32) (v2556 : IVec S16 32) (k0_hw466 : k0_chk466 i k0_t1 v2554 v2556), ∀ (k0_h5 : k0_cond5 i k0_t1 = 1#1), ∀ a x, ((![v2554, v2556] : Fin 2 → IVec S16 32) a x).toNat < S32x128.size a := fun i k0_t1 v2554 v2556 k0_hw466 k0_h5 => k0_hw466 k0_h5

def k0_chk467 (i : grid0.Coords) (k0_t1 : Fin k0_t1_loop.trips) (v2566 : IVec S16 32) (v2568 : IVec S16 32) : Prop :=
  (∀ (k0_h5 : k0_cond5 i k0_t1 = 1#1), ∀ a x, ((![v2566, v2568] : Fin 2 → IVec S16 32) a x).toNat < S32x128.size a)
theorem k0_idx467_inb : ∀ (i : grid0.Coords) (k0_t1 : Fin k0_t1_loop.trips) (v2566 : IVec S16 32) (v2568 : IVec S16 32) (k0_hw467 : k0_chk467 i k0_t1 v2566 v2568), ∀ (k0_h5 : k0_cond5 i k0_t1 = 1#1), ∀ a x, ((![v2566, v2568] : Fin 2 → IVec S16 32) a x).toNat < S32x128.size a := fun i k0_t1 v2566 v2568 k0_hw467 k0_h5 => k0_hw467 k0_h5

def k0_chk468 (i : grid0.Coords) (k0_t1 : Fin k0_t1_loop.trips) (v2578 : IVec S16 32) (v2580 : IVec S16 32) : Prop :=
  (∀ (k0_h5 : k0_cond5 i k0_t1 = 1#1), ∀ a x, ((![v2578, v2580] : Fin 2 → IVec S16 32) a x).toNat < S32x128.size a)
theorem k0_idx468_inb : ∀ (i : grid0.Coords) (k0_t1 : Fin k0_t1_loop.trips) (v2578 : IVec S16 32) (v2580 : IVec S16 32) (k0_hw468 : k0_chk468 i k0_t1 v2578 v2580), ∀ (k0_h5 : k0_cond5 i k0_t1 = 1#1), ∀ a x, ((![v2578, v2580] : Fin 2 → IVec S16 32) a x).toNat < S32x128.size a := fun i k0_t1 v2578 v2580 k0_hw468 k0_h5 => k0_hw468 k0_h5

def k0_chk469 (i : grid0.Coords) (k0_t1 : Fin k0_t1_loop.trips) (v2590 : IVec S16 32) (v2592 : IVec S16 32) : Prop :=
  (∀ (k0_h5 : k0_cond5 i k0_t1 = 1#1), ∀ a x, ((![v2590, v2592] : Fin 2 → IVec S16 32) a x).toNat < S32x128.size a)
theorem k0_idx469_inb : ∀ (i : grid0.Coords) (k0_t1 : Fin k0_t1_loop.trips) (v2590 : IVec S16 32) (v2592 : IVec S16 32) (k0_hw469 : k0_chk469 i k0_t1 v2590 v2592), ∀ (k0_h5 : k0_cond5 i k0_t1 = 1#1), ∀ a x, ((![v2590, v2592] : Fin 2 → IVec S16 32) a x).toNat < S32x128.size a := fun i k0_t1 v2590 v2592 k0_hw469 k0_h5 => k0_hw469 k0_h5

def k0_chk470 (i : grid0.Coords) (k0_t1 : Fin k0_t1_loop.trips) (v2602 : IVec S16 32) (v2604 : IVec S16 32) : Prop :=
  (∀ (k0_h5 : k0_cond5 i k0_t1 = 1#1), ∀ a x, ((![v2602, v2604] : Fin 2 → IVec S16 32) a x).toNat < S32x128.size a)
theorem k0_idx470_inb : ∀ (i : grid0.Coords) (k0_t1 : Fin k0_t1_loop.trips) (v2602 : IVec S16 32) (v2604 : IVec S16 32) (k0_hw470 : k0_chk470 i k0_t1 v2602 v2604), ∀ (k0_h5 : k0_cond5 i k0_t1 = 1#1), ∀ a x, ((![v2602, v2604] : Fin 2 → IVec S16 32) a x).toNat < S32x128.size a := fun i k0_t1 v2602 v2604 k0_hw470 k0_h5 => k0_hw470 k0_h5

def k0_chk471 (i : grid0.Coords) (k0_t1 : Fin k0_t1_loop.trips) (v2614 : IVec S16 32) (v2616 : IVec S16 32) : Prop :=
  (∀ (k0_h5 : k0_cond5 i k0_t1 = 1#1), ∀ a x, ((![v2614, v2616] : Fin 2 → IVec S16 32) a x).toNat < S32x128.size a)
theorem k0_idx471_inb : ∀ (i : grid0.Coords) (k0_t1 : Fin k0_t1_loop.trips) (v2614 : IVec S16 32) (v2616 : IVec S16 32) (k0_hw471 : k0_chk471 i k0_t1 v2614 v2616), ∀ (k0_h5 : k0_cond5 i k0_t1 = 1#1), ∀ a x, ((![v2614, v2616] : Fin 2 → IVec S16 32) a x).toNat < S32x128.size a := fun i k0_t1 v2614 v2616 k0_hw471 k0_h5 => k0_hw471 k0_h5

def k0_chk472 (i : grid0.Coords) (k0_t1 : Fin k0_t1_loop.trips) (v2626 : IVec S16 32) (v2628 : IVec S16 32) : Prop :=
  (∀ (k0_h5 : k0_cond5 i k0_t1 = 1#1), ∀ a x, ((![v2626, v2628] : Fin 2 → IVec S16 32) a x).toNat < S32x128.size a)
theorem k0_idx472_inb : ∀ (i : grid0.Coords) (k0_t1 : Fin k0_t1_loop.trips) (v2626 : IVec S16 32) (v2628 : IVec S16 32) (k0_hw472 : k0_chk472 i k0_t1 v2626 v2628), ∀ (k0_h5 : k0_cond5 i k0_t1 = 1#1), ∀ a x, ((![v2626, v2628] : Fin 2 → IVec S16 32) a x).toNat < S32x128.size a := fun i k0_t1 v2626 v2628 k0_hw472 k0_h5 => k0_hw472 k0_h5

def k0_chk473 (i : grid0.Coords) (k0_t1 : Fin k0_t1_loop.trips) (v2638 : IVec S16 32) (v2640 : IVec S16 32) : Prop :=
  (∀ (k0_h5 : k0_cond5 i k0_t1 = 1#1), ∀ a x, ((![v2638, v2640] : Fin 2 → IVec S16 32) a x).toNat < S32x128.size a)
theorem k0_idx473_inb : ∀ (i : grid0.Coords) (k0_t1 : Fin k0_t1_loop.trips) (v2638 : IVec S16 32) (v2640 : IVec S16 32) (k0_hw473 : k0_chk473 i k0_t1 v2638 v2640), ∀ (k0_h5 : k0_cond5 i k0_t1 = 1#1), ∀ a x, ((![v2638, v2640] : Fin 2 → IVec S16 32) a x).toNat < S32x128.size a := fun i k0_t1 v2638 v2640 k0_hw473 k0_h5 => k0_hw473 k0_h5

def k0_chk474 (i : grid0.Coords) (k0_t1 : Fin k0_t1_loop.trips) (v2650 : IVec S16 32) (v2652 : IVec S16 32) : Prop :=
  (∀ (k0_h5 : k0_cond5 i k0_t1 = 1#1), ∀ a x, ((![v2650, v2652] : Fin 2 → IVec S16 32) a x).toNat < S32x128.size a)
theorem k0_idx474_inb : ∀ (i : grid0.Coords) (k0_t1 : Fin k0_t1_loop.trips) (v2650 : IVec S16 32) (v2652 : IVec S16 32) (k0_hw474 : k0_chk474 i k0_t1 v2650 v2652), ∀ (k0_h5 : k0_cond5 i k0_t1 = 1#1), ∀ a x, ((![v2650, v2652] : Fin 2 → IVec S16 32) a x).toNat < S32x128.size a := fun i k0_t1 v2650 v2652 k0_hw474 k0_h5 => k0_hw474 k0_h5

def k0_chk475 (i : grid0.Coords) (k0_t1 : Fin k0_t1_loop.trips) (v2662 : IVec S16 32) (v2664 : IVec S16 32) : Prop :=
  (∀ (k0_h5 : k0_cond5 i k0_t1 = 1#1), ∀ a x, ((![v2662, v2664] : Fin 2 → IVec S16 32) a x).toNat < S32x128.size a)
theorem k0_idx475_inb : ∀ (i : grid0.Coords) (k0_t1 : Fin k0_t1_loop.trips) (v2662 : IVec S16 32) (v2664 : IVec S16 32) (k0_hw475 : k0_chk475 i k0_t1 v2662 v2664), ∀ (k0_h5 : k0_cond5 i k0_t1 = 1#1), ∀ a x, ((![v2662, v2664] : Fin 2 → IVec S16 32) a x).toNat < S32x128.size a := fun i k0_t1 v2662 v2664 k0_hw475 k0_h5 => k0_hw475 k0_h5

def k0_chk476 (i : grid0.Coords) (k0_t1 : Fin k0_t1_loop.trips) (v2674 : IVec S16 32) (v2676 : IVec S16 32) : Prop :=
  (∀ (k0_h5 : k0_cond5 i k0_t1 = 1#1), ∀ a x, ((![v2674, v2676] : Fin 2 → IVec S16 32) a x).toNat < S32x128.size a)
theorem k0_idx476_inb : ∀ (i : grid0.Coords) (k0_t1 : Fin k0_t1_loop.trips) (v2674 : IVec S16 32) (v2676 : IVec S16 32) (k0_hw476 : k0_chk476 i k0_t1 v2674 v2676), ∀ (k0_h5 : k0_cond5 i k0_t1 = 1#1), ∀ a x, ((![v2674, v2676] : Fin 2 → IVec S16 32) a x).toNat < S32x128.size a := fun i k0_t1 v2674 v2676 k0_hw476 k0_h5 => k0_hw476 k0_h5

def k0_chk477 (i : grid0.Coords) (k0_t1 : Fin k0_t1_loop.trips) (v2686 : IVec S16 32) (v2688 : IVec S16 32) : Prop :=
  (∀ (k0_h5 : k0_cond5 i k0_t1 = 1#1), ∀ a x, ((![v2686, v2688] : Fin 2 → IVec S16 32) a x).toNat < S32x128.size a)
theorem k0_idx477_inb : ∀ (i : grid0.Coords) (k0_t1 : Fin k0_t1_loop.trips) (v2686 : IVec S16 32) (v2688 : IVec S16 32) (k0_hw477 : k0_chk477 i k0_t1 v2686 v2688), ∀ (k0_h5 : k0_cond5 i k0_t1 = 1#1), ∀ a x, ((![v2686, v2688] : Fin 2 → IVec S16 32) a x).toNat < S32x128.size a := fun i k0_t1 v2686 v2688 k0_hw477 k0_h5 => k0_hw477 k0_h5

def k0_chk478 (i : grid0.Coords) (k0_t1 : Fin k0_t1_loop.trips) (v2698 : IVec S16 32) (v2700 : IVec S16 32) : Prop :=
  (∀ (k0_h5 : k0_cond5 i k0_t1 = 1#1), ∀ a x, ((![v2698, v2700] : Fin 2 → IVec S16 32) a x).toNat < S32x128.size a)
theorem k0_idx478_inb : ∀ (i : grid0.Coords) (k0_t1 : Fin k0_t1_loop.trips) (v2698 : IVec S16 32) (v2700 : IVec S16 32) (k0_hw478 : k0_chk478 i k0_t1 v2698 v2700), ∀ (k0_h5 : k0_cond5 i k0_t1 = 1#1), ∀ a x, ((![v2698, v2700] : Fin 2 → IVec S16 32) a x).toNat < S32x128.size a := fun i k0_t1 v2698 v2700 k0_hw478 k0_h5 => k0_hw478 k0_h5

def k0_chk479 (i : grid0.Coords) (k0_t1 : Fin k0_t1_loop.trips) (v2710 : IVec S16 32) (v2712 : IVec S16 32) : Prop :=
  (∀ (k0_h5 : k0_cond5 i k0_t1 = 1#1), ∀ a x, ((![v2710, v2712] : Fin 2 → IVec S16 32) a x).toNat < S32x128.size a)
theorem k0_idx479_inb : ∀ (i : grid0.Coords) (k0_t1 : Fin k0_t1_loop.trips) (v2710 : IVec S16 32) (v2712 : IVec S16 32) (k0_hw479 : k0_chk479 i k0_t1 v2710 v2712), ∀ (k0_h5 : k0_cond5 i k0_t1 = 1#1), ∀ a x, ((![v2710, v2712] : Fin 2 → IVec S16 32) a x).toNat < S32x128.size a := fun i k0_t1 v2710 v2712 k0_hw479 k0_h5 => k0_hw479 k0_h5

def k0_chk480 (i : grid0.Coords) (k0_t1 : Fin k0_t1_loop.trips) (v2722 : IVec S16 32) (v2724 : IVec S16 32) : Prop :=
  (∀ (k0_h5 : k0_cond5 i k0_t1 = 1#1), ∀ a x, ((![v2722, v2724] : Fin 2 → IVec S16 32) a x).toNat < S32x128.size a)
theorem k0_idx480_inb : ∀ (i : grid0.Coords) (k0_t1 : Fin k0_t1_loop.trips) (v2722 : IVec S16 32) (v2724 : IVec S16 32) (k0_hw480 : k0_chk480 i k0_t1 v2722 v2724), ∀ (k0_h5 : k0_cond5 i k0_t1 = 1#1), ∀ a x, ((![v2722, v2724] : Fin 2 → IVec S16 32) a x).toNat < S32x128.size a := fun i k0_t1 v2722 v2724 k0_hw480 k0_h5 => k0_hw480 k0_h5

def k0_chk481 (i : grid0.Coords) (k0_t1 : Fin k0_t1_loop.trips) (v2734 : IVec S16 32) (v2736 : IVec S16 32) : Prop :=
  (∀ (k0_h5 : k0_cond5 i k0_t1 = 1#1), ∀ a x, ((![v2734, v2736] : Fin 2 → IVec S16 32) a x).toNat < S32x128.size a)
theorem k0_idx481_inb : ∀ (i : grid0.Coords) (k0_t1 : Fin k0_t1_loop.trips) (v2734 : IVec S16 32) (v2736 : IVec S16 32) (k0_hw481 : k0_chk481 i k0_t1 v2734 v2736), ∀ (k0_h5 : k0_cond5 i k0_t1 = 1#1), ∀ a x, ((![v2734, v2736] : Fin 2 → IVec S16 32) a x).toNat < S32x128.size a := fun i k0_t1 v2734 v2736 k0_hw481 k0_h5 => k0_hw481 k0_h5

def k0_chk482 (i : grid0.Coords) (k0_t1 : Fin k0_t1_loop.trips) (v2746 : IVec S16 32) (v2748 : IVec S16 32) : Prop :=
  (∀ (k0_h5 : k0_cond5 i k0_t1 = 1#1), ∀ a x, ((![v2746, v2748] : Fin 2 → IVec S16 32) a x).toNat < S32x128.size a)
theorem k0_idx482_inb : ∀ (i : grid0.Coords) (k0_t1 : Fin k0_t1_loop.trips) (v2746 : IVec S16 32) (v2748 : IVec S16 32) (k0_hw482 : k0_chk482 i k0_t1 v2746 v2748), ∀ (k0_h5 : k0_cond5 i k0_t1 = 1#1), ∀ a x, ((![v2746, v2748] : Fin 2 → IVec S16 32) a x).toNat < S32x128.size a := fun i k0_t1 v2746 v2748 k0_hw482 k0_h5 => k0_hw482 k0_h5

def k0_chk483 (i : grid0.Coords) (k0_t1 : Fin k0_t1_loop.trips) (v2758 : IVec S16 32) (v2760 : IVec S16 32) : Prop :=
  (∀ (k0_h5 : k0_cond5 i k0_t1 = 1#1), ∀ a x, ((![v2758, v2760] : Fin 2 → IVec S16 32) a x).toNat < S32x128.size a)
theorem k0_idx483_inb : ∀ (i : grid0.Coords) (k0_t1 : Fin k0_t1_loop.trips) (v2758 : IVec S16 32) (v2760 : IVec S16 32) (k0_hw483 : k0_chk483 i k0_t1 v2758 v2760), ∀ (k0_h5 : k0_cond5 i k0_t1 = 1#1), ∀ a x, ((![v2758, v2760] : Fin 2 → IVec S16 32) a x).toNat < S32x128.size a := fun i k0_t1 v2758 v2760 k0_hw483 k0_h5 => k0_hw483 k0_h5

def k0_chk484 (i : grid0.Coords) (k0_t1 : Fin k0_t1_loop.trips) (v2770 : IVec S16 32) (v2772 : IVec S16 32) : Prop :=
  (∀ (k0_h5 : k0_cond5 i k0_t1 = 1#1), ∀ a x, ((![v2770, v2772] : Fin 2 → IVec S16 32) a x).toNat < S32x128.size a)
theorem k0_idx484_inb : ∀ (i : grid0.Coords) (k0_t1 : Fin k0_t1_loop.trips) (v2770 : IVec S16 32) (v2772 : IVec S16 32) (k0_hw484 : k0_chk484 i k0_t1 v2770 v2772), ∀ (k0_h5 : k0_cond5 i k0_t1 = 1#1), ∀ a x, ((![v2770, v2772] : Fin 2 → IVec S16 32) a x).toNat < S32x128.size a := fun i k0_t1 v2770 v2772 k0_hw484 k0_h5 => k0_hw484 k0_h5

def k0_chk485 (i : grid0.Coords) (k0_t1 : Fin k0_t1_loop.trips) (v2782 : IVec S16 32) (v2784 : IVec S16 32) : Prop :=
  (∀ (k0_h5 : k0_cond5 i k0_t1 = 1#1), ∀ a x, ((![v2782, v2784] : Fin 2 → IVec S16 32) a x).toNat < S32x128.size a)
theorem k0_idx485_inb : ∀ (i : grid0.Coords) (k0_t1 : Fin k0_t1_loop.trips) (v2782 : IVec S16 32) (v2784 : IVec S16 32) (k0_hw485 : k0_chk485 i k0_t1 v2782 v2784), ∀ (k0_h5 : k0_cond5 i k0_t1 = 1#1), ∀ a x, ((![v2782, v2784] : Fin 2 → IVec S16 32) a x).toNat < S32x128.size a := fun i k0_t1 v2782 v2784 k0_hw485 k0_h5 => k0_hw485 k0_h5

def k0_chk486 (i : grid0.Coords) (k0_t1 : Fin k0_t1_loop.trips) (v2794 : IVec S16 32) (v2796 : IVec S16 32) : Prop :=
  (∀ (k0_h5 : k0_cond5 i k0_t1 = 1#1), ∀ a x, ((![v2794, v2796] : Fin 2 → IVec S16 32) a x).toNat < S32x128.size a)
theorem k0_idx486_inb : ∀ (i : grid0.Coords) (k0_t1 : Fin k0_t1_loop.trips) (v2794 : IVec S16 32) (v2796 : IVec S16 32) (k0_hw486 : k0_chk486 i k0_t1 v2794 v2796), ∀ (k0_h5 : k0_cond5 i k0_t1 = 1#1), ∀ a x, ((![v2794, v2796] : Fin 2 → IVec S16 32) a x).toNat < S32x128.size a := fun i k0_t1 v2794 v2796 k0_hw486 k0_h5 => k0_hw486 k0_h5

def k0_chk487 (i : grid0.Coords) (k0_t1 : Fin k0_t1_loop.trips) (v2806 : IVec S16 32) (v2808 : IVec S16 32) : Prop :=
  (∀ (k0_h5 : k0_cond5 i k0_t1 = 1#1), ∀ a x, ((![v2806, v2808] : Fin 2 → IVec S16 32) a x).toNat < S32x128.size a)
theorem k0_idx487_inb : ∀ (i : grid0.Coords) (k0_t1 : Fin k0_t1_loop.trips) (v2806 : IVec S16 32) (v2808 : IVec S16 32) (k0_hw487 : k0_chk487 i k0_t1 v2806 v2808), ∀ (k0_h5 : k0_cond5 i k0_t1 = 1#1), ∀ a x, ((![v2806, v2808] : Fin 2 → IVec S16 32) a x).toNat < S32x128.size a := fun i k0_t1 v2806 v2808 k0_hw487 k0_h5 => k0_hw487 k0_h5

def k0_chk488 (i : grid0.Coords) (k0_t1 : Fin k0_t1_loop.trips) (v2818 : IVec S16 32) (v2820 : IVec S16 32) : Prop :=
  (∀ (k0_h5 : k0_cond5 i k0_t1 = 1#1), ∀ a x, ((![v2818, v2820] : Fin 2 → IVec S16 32) a x).toNat < S32x128.size a)
theorem k0_idx488_inb : ∀ (i : grid0.Coords) (k0_t1 : Fin k0_t1_loop.trips) (v2818 : IVec S16 32) (v2820 : IVec S16 32) (k0_hw488 : k0_chk488 i k0_t1 v2818 v2820), ∀ (k0_h5 : k0_cond5 i k0_t1 = 1#1), ∀ a x, ((![v2818, v2820] : Fin 2 → IVec S16 32) a x).toNat < S32x128.size a := fun i k0_t1 v2818 v2820 k0_hw488 k0_h5 => k0_hw488 k0_h5

def k0_chk489 (i : grid0.Coords) (k0_t1 : Fin k0_t1_loop.trips) (v2830 : IVec S16 32) (v2832 : IVec S16 32) : Prop :=
  (∀ (k0_h5 : k0_cond5 i k0_t1 = 1#1), ∀ a x, ((![v2830, v2832] : Fin 2 → IVec S16 32) a x).toNat < S32x128.size a)
theorem k0_idx489_inb : ∀ (i : grid0.Coords) (k0_t1 : Fin k0_t1_loop.trips) (v2830 : IVec S16 32) (v2832 : IVec S16 32) (k0_hw489 : k0_chk489 i k0_t1 v2830 v2832), ∀ (k0_h5 : k0_cond5 i k0_t1 = 1#1), ∀ a x, ((![v2830, v2832] : Fin 2 → IVec S16 32) a x).toNat < S32x128.size a := fun i k0_t1 v2830 v2832 k0_hw489 k0_h5 => k0_hw489 k0_h5

def k0_chk490 (i : grid0.Coords) (k0_t1 : Fin k0_t1_loop.trips) (v2842 : IVec S16 32) (v2844 : IVec S16 32) : Prop :=
  (∀ (k0_h5 : k0_cond5 i k0_t1 = 1#1), ∀ a x, ((![v2842, v2844] : Fin 2 → IVec S16 32) a x).toNat < S32x128.size a)
theorem k0_idx490_inb : ∀ (i : grid0.Coords) (k0_t1 : Fin k0_t1_loop.trips) (v2842 : IVec S16 32) (v2844 : IVec S16 32) (k0_hw490 : k0_chk490 i k0_t1 v2842 v2844), ∀ (k0_h5 : k0_cond5 i k0_t1 = 1#1), ∀ a x, ((![v2842, v2844] : Fin 2 → IVec S16 32) a x).toNat < S32x128.size a := fun i k0_t1 v2842 v2844 k0_hw490 k0_h5 => k0_hw490 k0_h5

def k0_chk491 (i : grid0.Coords) (k0_t1 : Fin k0_t1_loop.trips) (v2854 : IVec S16 32) (v2856 : IVec S16 32) : Prop :=
  (∀ (k0_h5 : k0_cond5 i k0_t1 = 1#1), ∀ a x, ((![v2854, v2856] : Fin 2 → IVec S16 32) a x).toNat < S32x128.size a)
theorem k0_idx491_inb : ∀ (i : grid0.Coords) (k0_t1 : Fin k0_t1_loop.trips) (v2854 : IVec S16 32) (v2856 : IVec S16 32) (k0_hw491 : k0_chk491 i k0_t1 v2854 v2856), ∀ (k0_h5 : k0_cond5 i k0_t1 = 1#1), ∀ a x, ((![v2854, v2856] : Fin 2 → IVec S16 32) a x).toNat < S32x128.size a := fun i k0_t1 v2854 v2856 k0_hw491 k0_h5 => k0_hw491 k0_h5

def k0_chk492 (i : grid0.Coords) (k0_t1 : Fin k0_t1_loop.trips) (v2866 : IVec S16 32) (v2868 : IVec S16 32) : Prop :=
  (∀ (k0_h5 : k0_cond5 i k0_t1 = 1#1), ∀ a x, ((![v2866, v2868] : Fin 2 → IVec S16 32) a x).toNat < S32x128.size a)
theorem k0_idx492_inb : ∀ (i : grid0.Coords) (k0_t1 : Fin k0_t1_loop.trips) (v2866 : IVec S16 32) (v2868 : IVec S16 32) (k0_hw492 : k0_chk492 i k0_t1 v2866 v2868), ∀ (k0_h5 : k0_cond5 i k0_t1 = 1#1), ∀ a x, ((![v2866, v2868] : Fin 2 → IVec S16 32) a x).toNat < S32x128.size a := fun i k0_t1 v2866 v2868 k0_hw492 k0_h5 => k0_hw492 k0_h5

def k0_chk493 (i : grid0.Coords) (k0_t1 : Fin k0_t1_loop.trips) (v2878 : IVec S16 32) (v2880 : IVec S16 32) : Prop :=
  (∀ (k0_h5 : k0_cond5 i k0_t1 = 1#1), ∀ a x, ((![v2878, v2880] : Fin 2 → IVec S16 32) a x).toNat < S32x128.size a)
theorem k0_idx493_inb : ∀ (i : grid0.Coords) (k0_t1 : Fin k0_t1_loop.trips) (v2878 : IVec S16 32) (v2880 : IVec S16 32) (k0_hw493 : k0_chk493 i k0_t1 v2878 v2880), ∀ (k0_h5 : k0_cond5 i k0_t1 = 1#1), ∀ a x, ((![v2878, v2880] : Fin 2 → IVec S16 32) a x).toNat < S32x128.size a := fun i k0_t1 v2878 v2880 k0_hw493 k0_h5 => k0_hw493 k0_h5

def k0_chk494 (i : grid0.Coords) (k0_t1 : Fin k0_t1_loop.trips) (v2890 : IVec S16 32) (v2892 : IVec S16 32) : Prop :=
  (∀ (k0_h5 : k0_cond5 i k0_t1 = 1#1), ∀ a x, ((![v2890, v2892] : Fin 2 → IVec S16 32) a x).toNat < S32x128.size a)
theorem k0_idx494_inb : ∀ (i : grid0.Coords) (k0_t1 : Fin k0_t1_loop.trips) (v2890 : IVec S16 32) (v2892 : IVec S16 32) (k0_hw494 : k0_chk494 i k0_t1 v2890 v2892), ∀ (k0_h5 : k0_cond5 i k0_t1 = 1#1), ∀ a x, ((![v2890, v2892] : Fin 2 → IVec S16 32) a x).toNat < S32x128.size a := fun i k0_t1 v2890 v2892 k0_hw494 k0_h5 => k0_hw494 k0_h5

def k0_chk495 (i : grid0.Coords) (k0_t1 : Fin k0_t1_loop.trips) (v2902 : IVec S16 32) (v2904 : IVec S16 32) : Prop :=
  (∀ (k0_h5 : k0_cond5 i k0_t1 = 1#1), ∀ a x, ((![v2902, v2904] : Fin 2 → IVec S16 32) a x).toNat < S32x128.size a)
theorem k0_idx495_inb : ∀ (i : grid0.Coords) (k0_t1 : Fin k0_t1_loop.trips) (v2902 : IVec S16 32) (v2904 : IVec S16 32) (k0_hw495 : k0_chk495 i k0_t1 v2902 v2904), ∀ (k0_h5 : k0_cond5 i k0_t1 = 1#1), ∀ a x, ((![v2902, v2904] : Fin 2 → IVec S16 32) a x).toNat < S32x128.size a := fun i k0_t1 v2902 v2904 k0_hw495 k0_h5 => k0_hw495 k0_h5

def k0_chk496 (i : grid0.Coords) (k0_t1 : Fin k0_t1_loop.trips) (v2914 : IVec S16 32) (v2916 : IVec S16 32) : Prop :=
  (∀ (k0_h5 : k0_cond5 i k0_t1 = 1#1), ∀ a x, ((![v2914, v2916] : Fin 2 → IVec S16 32) a x).toNat < S32x128.size a)
theorem k0_idx496_inb : ∀ (i : grid0.Coords) (k0_t1 : Fin k0_t1_loop.trips) (v2914 : IVec S16 32) (v2916 : IVec S16 32) (k0_hw496 : k0_chk496 i k0_t1 v2914 v2916), ∀ (k0_h5 : k0_cond5 i k0_t1 = 1#1), ∀ a x, ((![v2914, v2916] : Fin 2 → IVec S16 32) a x).toNat < S32x128.size a := fun i k0_t1 v2914 v2916 k0_hw496 k0_h5 => k0_hw496 k0_h5

def k0_chk497 (i : grid0.Coords) (k0_t1 : Fin k0_t1_loop.trips) (v2926 : IVec S16 32) (v2928 : IVec S16 32) : Prop :=
  (∀ (k0_h5 : k0_cond5 i k0_t1 = 1#1), ∀ a x, ((![v2926, v2928] : Fin 2 → IVec S16 32) a x).toNat < S32x128.size a)
theorem k0_idx497_inb : ∀ (i : grid0.Coords) (k0_t1 : Fin k0_t1_loop.trips) (v2926 : IVec S16 32) (v2928 : IVec S16 32) (k0_hw497 : k0_chk497 i k0_t1 v2926 v2928), ∀ (k0_h5 : k0_cond5 i k0_t1 = 1#1), ∀ a x, ((![v2926, v2928] : Fin 2 → IVec S16 32) a x).toNat < S32x128.size a := fun i k0_t1 v2926 v2928 k0_hw497 k0_h5 => k0_hw497 k0_h5

def k0_chk498 (i : grid0.Coords) (k0_t1 : Fin k0_t1_loop.trips) (v2938 : IVec S16 32) (v2940 : IVec S16 32) : Prop :=
  (∀ (k0_h5 : k0_cond5 i k0_t1 = 1#1), ∀ a x, ((![v2938, v2940] : Fin 2 → IVec S16 32) a x).toNat < S32x128.size a)
theorem k0_idx498_inb : ∀ (i : grid0.Coords) (k0_t1 : Fin k0_t1_loop.trips) (v2938 : IVec S16 32) (v2940 : IVec S16 32) (k0_hw498 : k0_chk498 i k0_t1 v2938 v2940), ∀ (k0_h5 : k0_cond5 i k0_t1 = 1#1), ∀ a x, ((![v2938, v2940] : Fin 2 → IVec S16 32) a x).toNat < S32x128.size a := fun i k0_t1 v2938 v2940 k0_hw498 k0_h5 => k0_hw498 k0_h5

def k0_chk499 (i : grid0.Coords) (k0_t1 : Fin k0_t1_loop.trips) (v2950 : IVec S16 32) (v2952 : IVec S16 32) : Prop :=
  (∀ (k0_h5 : k0_cond5 i k0_t1 = 1#1), ∀ a x, ((![v2950, v2952] : Fin 2 → IVec S16 32) a x).toNat < S32x128.size a)
theorem k0_idx499_inb : ∀ (i : grid0.Coords) (k0_t1 : Fin k0_t1_loop.trips) (v2950 : IVec S16 32) (v2952 : IVec S16 32) (k0_hw499 : k0_chk499 i k0_t1 v2950 v2952), ∀ (k0_h5 : k0_cond5 i k0_t1 = 1#1), ∀ a x, ((![v2950, v2952] : Fin 2 → IVec S16 32) a x).toNat < S32x128.size a := fun i k0_t1 v2950 v2952 k0_hw499 k0_h5 => k0_hw499 k0_h5

def k0_chk500 (i : grid0.Coords) (k0_t1 : Fin k0_t1_loop.trips) (v2962 : IVec S16 32) (v2964 : IVec S16 32) : Prop :=
  (∀ (k0_h5 : k0_cond5 i k0_t1 = 1#1), ∀ a x, ((![v2962, v2964] : Fin 2 → IVec S16 32) a x).toNat < S32x128.size a)
theorem k0_idx500_inb : ∀ (i : grid0.Coords) (k0_t1 : Fin k0_t1_loop.trips) (v2962 : IVec S16 32) (v2964 : IVec S16 32) (k0_hw500 : k0_chk500 i k0_t1 v2962 v2964), ∀ (k0_h5 : k0_cond5 i k0_t1 = 1#1), ∀ a x, ((![v2962, v2964] : Fin 2 → IVec S16 32) a x).toNat < S32x128.size a := fun i k0_t1 v2962 v2964 k0_hw500 k0_h5 => k0_hw500 k0_h5

def k0_chk501 (i : grid0.Coords) (k0_t1 : Fin k0_t1_loop.trips) (v2974 : IVec S16 32) (v2976 : IVec S16 32) : Prop :=
  (∀ (k0_h5 : k0_cond5 i k0_t1 = 1#1), ∀ a x, ((![v2974, v2976] : Fin 2 → IVec S16 32) a x).toNat < S32x128.size a)
theorem k0_idx501_inb : ∀ (i : grid0.Coords) (k0_t1 : Fin k0_t1_loop.trips) (v2974 : IVec S16 32) (v2976 : IVec S16 32) (k0_hw501 : k0_chk501 i k0_t1 v2974 v2976), ∀ (k0_h5 : k0_cond5 i k0_t1 = 1#1), ∀ a x, ((![v2974, v2976] : Fin 2 → IVec S16 32) a x).toNat < S32x128.size a := fun i k0_t1 v2974 v2976 k0_hw501 k0_h5 => k0_hw501 k0_h5

def k0_chk502 (i : grid0.Coords) (k0_t1 : Fin k0_t1_loop.trips) (v2986 : IVec S16 32) (v2988 : IVec S16 32) : Prop :=
  (∀ (k0_h5 : k0_cond5 i k0_t1 = 1#1), ∀ a x, ((![v2986, v2988] : Fin 2 → IVec S16 32) a x).toNat < S32x128.size a)
theorem k0_idx502_inb : ∀ (i : grid0.Coords) (k0_t1 : Fin k0_t1_loop.trips) (v2986 : IVec S16 32) (v2988 : IVec S16 32) (k0_hw502 : k0_chk502 i k0_t1 v2986 v2988), ∀ (k0_h5 : k0_cond5 i k0_t1 = 1#1), ∀ a x, ((![v2986, v2988] : Fin 2 → IVec S16 32) a x).toNat < S32x128.size a := fun i k0_t1 v2986 v2988 k0_hw502 k0_h5 => k0_hw502 k0_h5

def k0_chk503 (i : grid0.Coords) (k0_t1 : Fin k0_t1_loop.trips) (v2998 : IVec S16 32) (v3000 : IVec S16 32) : Prop :=
  (∀ (k0_h5 : k0_cond5 i k0_t1 = 1#1), ∀ a x, ((![v2998, v3000] : Fin 2 → IVec S16 32) a x).toNat < S32x128.size a)
theorem k0_idx503_inb : ∀ (i : grid0.Coords) (k0_t1 : Fin k0_t1_loop.trips) (v2998 : IVec S16 32) (v3000 : IVec S16 32) (k0_hw503 : k0_chk503 i k0_t1 v2998 v3000), ∀ (k0_h5 : k0_cond5 i k0_t1 = 1#1), ∀ a x, ((![v2998, v3000] : Fin 2 → IVec S16 32) a x).toNat < S32x128.size a := fun i k0_t1 v2998 v3000 k0_hw503 k0_h5 => k0_hw503 k0_h5

def k0_chk504 (i : grid0.Coords) (k0_t1 : Fin k0_t1_loop.trips) (v3010 : IVec S16 32) (v3012 : IVec S16 32) : Prop :=
  (∀ (k0_h5 : k0_cond5 i k0_t1 = 1#1), ∀ a x, ((![v3010, v3012] : Fin 2 → IVec S16 32) a x).toNat < S32x128.size a)
theorem k0_idx504_inb : ∀ (i : grid0.Coords) (k0_t1 : Fin k0_t1_loop.trips) (v3010 : IVec S16 32) (v3012 : IVec S16 32) (k0_hw504 : k0_chk504 i k0_t1 v3010 v3012), ∀ (k0_h5 : k0_cond5 i k0_t1 = 1#1), ∀ a x, ((![v3010, v3012] : Fin 2 → IVec S16 32) a x).toNat < S32x128.size a := fun i k0_t1 v3010 v3012 k0_hw504 k0_h5 => k0_hw504 k0_h5

def k0_chk505 (i : grid0.Coords) (k0_t1 : Fin k0_t1_loop.trips) (v3022 : IVec S16 32) (v3024 : IVec S16 32) : Prop :=
  (∀ (k0_h5 : k0_cond5 i k0_t1 = 1#1), ∀ a x, ((![v3022, v3024] : Fin 2 → IVec S16 32) a x).toNat < S32x128.size a)
theorem k0_idx505_inb : ∀ (i : grid0.Coords) (k0_t1 : Fin k0_t1_loop.trips) (v3022 : IVec S16 32) (v3024 : IVec S16 32) (k0_hw505 : k0_chk505 i k0_t1 v3022 v3024), ∀ (k0_h5 : k0_cond5 i k0_t1 = 1#1), ∀ a x, ((![v3022, v3024] : Fin 2 → IVec S16 32) a x).toNat < S32x128.size a := fun i k0_t1 v3022 v3024 k0_hw505 k0_h5 => k0_hw505 k0_h5

def k0_chk506 (i : grid0.Coords) (k0_t1 : Fin k0_t1_loop.trips) (v3034 : IVec S16 32) (v3036 : IVec S16 32) : Prop :=
  (∀ (k0_h5 : k0_cond5 i k0_t1 = 1#1), ∀ a x, ((![v3034, v3036] : Fin 2 → IVec S16 32) a x).toNat < S32x128.size a)
theorem k0_idx506_inb : ∀ (i : grid0.Coords) (k0_t1 : Fin k0_t1_loop.trips) (v3034 : IVec S16 32) (v3036 : IVec S16 32) (k0_hw506 : k0_chk506 i k0_t1 v3034 v3036), ∀ (k0_h5 : k0_cond5 i k0_t1 = 1#1), ∀ a x, ((![v3034, v3036] : Fin 2 → IVec S16 32) a x).toNat < S32x128.size a := fun i k0_t1 v3034 v3036 k0_hw506 k0_h5 => k0_hw506 k0_h5

def k0_chk507 (i : grid0.Coords) (k0_t1 : Fin k0_t1_loop.trips) (v3046 : IVec S16 32) (v3048 : IVec S16 32) : Prop :=
  (∀ (k0_h5 : k0_cond5 i k0_t1 = 1#1), ∀ a x, ((![v3046, v3048] : Fin 2 → IVec S16 32) a x).toNat < S32x128.size a)
theorem k0_idx507_inb : ∀ (i : grid0.Coords) (k0_t1 : Fin k0_t1_loop.trips) (v3046 : IVec S16 32) (v3048 : IVec S16 32) (k0_hw507 : k0_chk507 i k0_t1 v3046 v3048), ∀ (k0_h5 : k0_cond5 i k0_t1 = 1#1), ∀ a x, ((![v3046, v3048] : Fin 2 → IVec S16 32) a x).toNat < S32x128.size a := fun i k0_t1 v3046 v3048 k0_hw507 k0_h5 => k0_hw507 k0_h5

def k0_chk508 (i : grid0.Coords) (k0_t1 : Fin k0_t1_loop.trips) (v3058 : IVec S16 32) (v3060 : IVec S16 32) : Prop :=
  (∀ (k0_h5 : k0_cond5 i k0_t1 = 1#1), ∀ a x, ((![v3058, v3060] : Fin 2 → IVec S16 32) a x).toNat < S32x128.size a)
theorem k0_idx508_inb : ∀ (i : grid0.Coords) (k0_t1 : Fin k0_t1_loop.trips) (v3058 : IVec S16 32) (v3060 : IVec S16 32) (k0_hw508 : k0_chk508 i k0_t1 v3058 v3060), ∀ (k0_h5 : k0_cond5 i k0_t1 = 1#1), ∀ a x, ((![v3058, v3060] : Fin 2 → IVec S16 32) a x).toNat < S32x128.size a := fun i k0_t1 v3058 v3060 k0_hw508 k0_h5 => k0_hw508 k0_h5

def k0_chk509 (i : grid0.Coords) (k0_t1 : Fin k0_t1_loop.trips) (v3070 : IVec S16 32) (v3072 : IVec S16 32) : Prop :=
  (∀ (k0_h5 : k0_cond5 i k0_t1 = 1#1), ∀ a x, ((![v3070, v3072] : Fin 2 → IVec S16 32) a x).toNat < S32x128.size a)
theorem k0_idx509_inb : ∀ (i : grid0.Coords) (k0_t1 : Fin k0_t1_loop.trips) (v3070 : IVec S16 32) (v3072 : IVec S16 32) (k0_hw509 : k0_chk509 i k0_t1 v3070 v3072), ∀ (k0_h5 : k0_cond5 i k0_t1 = 1#1), ∀ a x, ((![v3070, v3072] : Fin 2 → IVec S16 32) a x).toNat < S32x128.size a := fun i k0_t1 v3070 v3072 k0_hw509 k0_h5 => k0_hw509 k0_h5

def k0_chk510 (i : grid0.Coords) (k0_t1 : Fin k0_t1_loop.trips) (v3082 : IVec S16 32) (v3084 : IVec S16 32) : Prop :=
  (∀ (k0_h5 : k0_cond5 i k0_t1 = 1#1), ∀ a x, ((![v3082, v3084] : Fin 2 → IVec S16 32) a x).toNat < S32x128.size a)
theorem k0_idx510_inb : ∀ (i : grid0.Coords) (k0_t1 : Fin k0_t1_loop.trips) (v3082 : IVec S16 32) (v3084 : IVec S16 32) (k0_hw510 : k0_chk510 i k0_t1 v3082 v3084), ∀ (k0_h5 : k0_cond5 i k0_t1 = 1#1), ∀ a x, ((![v3082, v3084] : Fin 2 → IVec S16 32) a x).toNat < S32x128.size a := fun i k0_t1 v3082 v3084 k0_hw510 k0_h5 => k0_hw510 k0_h5

def k0_chk511 (i : grid0.Coords) (k0_t1 : Fin k0_t1_loop.trips) (v3094 : IVec S16 32) (v3096 : IVec S16 32) : Prop :=
  (∀ (k0_h5 : k0_cond5 i k0_t1 = 1#1), ∀ a x, ((![v3094, v3096] : Fin 2 → IVec S16 32) a x).toNat < S32x128.size a)
theorem k0_idx511_inb : ∀ (i : grid0.Coords) (k0_t1 : Fin k0_t1_loop.trips) (v3094 : IVec S16 32) (v3096 : IVec S16 32) (k0_hw511 : k0_chk511 i k0_t1 v3094 v3096), ∀ (k0_h5 : k0_cond5 i k0_t1 = 1#1), ∀ a x, ((![v3094, v3096] : Fin 2 → IVec S16 32) a x).toNat < S32x128.size a := fun i k0_t1 v3094 v3096 k0_hw511 k0_h5 => k0_hw511 k0_h5

def k0_chk512 (i : grid0.Coords) (k0_t1 : Fin k0_t1_loop.trips) (v3106 : IVec S16 32) (v3108 : IVec S16 32) : Prop :=
  (∀ (k0_h5 : k0_cond5 i k0_t1 = 1#1), ∀ a x, ((![v3106, v3108] : Fin 2 → IVec S16 32) a x).toNat < S32x128.size a)
theorem k0_idx512_inb : ∀ (i : grid0.Coords) (k0_t1 : Fin k0_t1_loop.trips) (v3106 : IVec S16 32) (v3108 : IVec S16 32) (k0_hw512 : k0_chk512 i k0_t1 v3106 v3108), ∀ (k0_h5 : k0_cond5 i k0_t1 = 1#1), ∀ a x, ((![v3106, v3108] : Fin 2 → IVec S16 32) a x).toNat < S32x128.size a := fun i k0_t1 v3106 v3108 k0_hw512 k0_h5 => k0_hw512 k0_h5
def k0_mult7 (i : grid0.Coords) (k0_t1 : Fin k0_t1_loop.trips) : BitVec 32 :=
  let c0_i32_1784 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c1_i32 : BitVec 32 := 1#32
  let arg10 : BitVec 32 := Scf.iv c0_i32_1 c1_i32 k0_t1
  let c2_i32_14 : BitVec 32 := 2#32
  let v21 : BitVec 32 := Scalar.muli arg10 c2_i32_14
  let c1_i32_15 : BitVec 32 := 1#32
  let v22 : BitVec 32 := Scalar.addi v21 c1_i32_15
  let c32_i32_16 : BitVec 32 := 32#32
  let v23 : BitVec 32 := Scalar.muli v22 c32_i32_16
  let v24 : BitVec 32 := Scalar.addi v1 v23
  let c128_i32_25 : BitVec 32 := 128#32
  let v36 : BitVec 32 := Scalar.muli v24 c128_i32_25
  let c32_i32_1776 : BitVec 32 := 32#32
  let v3109 : BitVec 32 := Scalar.muli v36 c32_i32_1776
  let c0_i32_1778 : BitVec 32 := 0#32
  let v3111 : BitVec 1 := Scalar.cmpi .sgt v3109 c0_i32_1778
  let v3112 : BitVec 32 := Scalar.extui v3111
  let c0_i32_1779 : BitVec 32 := 0#32
  let v3113 : BitVec 1 := Scalar.cmpi .slt v3109 c0_i32_1779
  let v3114 : BitVec 32 := Scalar.extui v3113
  let v3115 : BitVec 32 := Scalar.subi v3112 v3114
  let c128_i32_1777 : BitVec 32 := 128#32
  let c0_i32_1780 : BitVec 32 := 0#32
  let v3116 : BitVec 1 := Scalar.cmpi .sgt c128_i32_1777 c0_i32_1780
  let v3117 : BitVec 32 := Scalar.extui v3116
  let c0_i32_1781 : BitVec 32 := 0#32
  let v3118 : BitVec 1 := Scalar.cmpi .slt c128_i32_1777 c0_i32_1781
  let v3119 : BitVec 32 := Scalar.extui v3118
  let v3120 : BitVec 32 := Scalar.subi v3117 v3119
  let v3121 : BitVec 1 := Scalar.cmpi .ne v3115 v3120
  let v3122 : BitVec 32 := Scalar.remsi v3109 c128_i32_1777
  let c0_i32_1782 : BitVec 32 := 0#32
  let v3123 : BitVec 1 := Scalar.cmpi .ne v3122 c0_i32_1782
  let v3124 : BitVec 1 := Scalar.andi v3121 v3123
  let v3110 : BitVec 32 := Scalar.divsi v3109 c128_i32_1777
  let c1_i32_1783 : BitVec 32 := 1#32
  let v3125 : BitVec 32 := Scalar.subi v3110 c1_i32_1783
  let v3126 : BitVec 32 := Scalar.select v3124 v3125 v3110
  let v3127 : BitVec 32 := Scalar.addi c0_i32_1784 v3126
  v3127
def k0_off7 (i : grid0.Coords) (k0_t1 : Fin k0_t1_loop.trips) : Fin 2 → Nat :=
  let c0_i32_1784 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c1_i32 : BitVec 32 := 1#32
  let arg10 : BitVec 32 := Scf.iv c0_i32_1 c1_i32 k0_t1
  let c2_i32_14 : BitVec 32 := 2#32
  let v21 : BitVec 32 := Scalar.muli arg10 c2_i32_14
  let c1_i32_15 : BitVec 32 := 1#32
  let v22 : BitVec 32 := Scalar.addi v21 c1_i32_15
  let c32_i32_16 : BitVec 32 := 32#32
  let v23 : BitVec 32 := Scalar.muli v22 c32_i32_16
  let v24 : BitVec 32 := Scalar.addi v1 v23
  let c128_i32_25 : BitVec 32 := 128#32
  let v36 : BitVec 32 := Scalar.muli v24 c128_i32_25
  let c32_i32_1776 : BitVec 32 := 32#32
  let v3109 : BitVec 32 := Scalar.muli v36 c32_i32_1776
  let c0_i32_1778 : BitVec 32 := 0#32
  let v3111 : BitVec 1 := Scalar.cmpi .sgt v3109 c0_i32_1778
  let v3112 : BitVec 32 := Scalar.extui v3111
  let c0_i32_1779 : BitVec 32 := 0#32
  let v3113 : BitVec 1 := Scalar.cmpi .slt v3109 c0_i32_1779
  let v3114 : BitVec 32 := Scalar.extui v3113
  let v3115 : BitVec 32 := Scalar.subi v3112 v3114
  let c128_i32_1777 : BitVec 32 := 128#32
  let c0_i32_1780 : BitVec 32 := 0#32
  let v3116 : BitVec 1 := Scalar.cmpi .sgt c128_i32_1777 c0_i32_1780
  let v3117 : BitVec 32 := Scalar.extui v3116
  let c0_i32_1781 : BitVec 32 := 0#32
  let v3118 : BitVec 1 := Scalar.cmpi .slt c128_i32_1777 c0_i32_1781
  let v3119 : BitVec 32 := Scalar.extui v3118
  let v3120 : BitVec 32 := Scalar.subi v3117 v3119
  let v3121 : BitVec 1 := Scalar.cmpi .ne v3115 v3120
  let v3122 : BitVec 32 := Scalar.remsi v3109 c128_i32_1777
  let c0_i32_1782 : BitVec 32 := 0#32
  let v3123 : BitVec 1 := Scalar.cmpi .ne v3122 c0_i32_1782
  let v3124 : BitVec 1 := Scalar.andi v3121 v3123
  let v3110 : BitVec 32 := Scalar.divsi v3109 c128_i32_1777
  let c1_i32_1783 : BitVec 32 := 1#32
  let v3125 : BitVec 32 := Scalar.subi v3110 c1_i32_1783
  let v3126 : BitVec 32 := Scalar.select v3124 v3125 v3110
  let v3127 : BitVec 32 := Scalar.addi c0_i32_1784 v3126
  let v3128 : BitVec 32 := v3127
  let c0_i32_1785_r1 : BitVec 32 := 0#32
  ![v3128.toNat, 0]
@[reducible] def k0_t2_loop : Scf.Loop 32 :=
  let c0_i32_4 : BitVec 32 := 0#32
  let c3_i32 : BitVec 32 := 3#32
  let v8 : BitVec 32 := Scalar.addi c0_i32_4 c3_i32
  let c1_i32_5 : BitVec 32 := 1#32
  ⟨c0_i32_4, v8, c1_i32_5⟩
def k0_cond6 (i : grid0.Coords) (k0_t2 : Fin k0_t2_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let c1_i32_5 : BitVec 32 := 1#32
  let arg10 : BitVec 32 := Scf.iv c0_i32_4 c1_i32_5 k0_t2
  let c32_i32 : BitVec 32 := 32#32
  let v10 : BitVec 32 := Scalar.muli arg10 c32_i32
  let v11 : BitVec 32 := Scalar.addi v1 v10
  let c78_i32 : BitVec 32 := 78#32
  let v12 : BitVec 1 := Scalar.cmpi .slt v11 c78_i32
  let v13 : BitVec 32 := Scalar.extui v12
  let c0_i32_7 : BitVec 32 := 0#32
  let v14 : BitVec 1 := Scalar.cmpi .ne v13 c0_i32_7
  v14

def k0_mult8 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let c1_i32_5 : BitVec 32 := 1#32
  let arg10 : BitVec 32 := Scf.iv c0_i32_4 c1_i32_5 k0_t2
  let c32_i32 : BitVec 32 := 32#32
  let v10 : BitVec 32 := Scalar.muli arg10 c32_i32
  let v11 : BitVec 32 := Scalar.addi v1 v10
  let c128_i32 : BitVec 32 := 128#32
  let v15 : BitVec 32 := Scalar.muli v11 c128_i32
  v15
def k0_off8 (i : grid0.Coords) (k0_t2 : Fin k0_t2_loop.trips) : Fin 2 → Nat :=
  let c0_i32_9 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let c1_i32_5 : BitVec 32 := 1#32
  let arg10 : BitVec 32 := Scf.iv c0_i32_4 c1_i32_5 k0_t2
  let c32_i32 : BitVec 32 := 32#32
  let v10 : BitVec 32 := Scalar.muli arg10 c32_i32
  let v11 : BitVec 32 := Scalar.addi v1 v10
  let c128_i32 : BitVec 32 := 128#32
  let v15 : BitVec 32 := Scalar.muli v11 c128_i32
  let v16 : BitVec 32 := v15
  ![0, v16.toNat]
def k0_mult9 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let c1_i32_5 : BitVec 32 := 1#32
  let arg10 : BitVec 32 := Scf.iv c0_i32_4 c1_i32_5 k0_t2
  let c32_i32 : BitVec 32 := 32#32
  let v10 : BitVec 32 := Scalar.muli arg10 c32_i32
  let v11 : BitVec 32 := Scalar.addi v1 v10
  let c128_i32_11 : BitVec 32 := 128#32
  let v19 : BitVec 32 := Scalar.muli v11 c128_i32_11
  v19

def k0_chk513 (i : grid0.Coords) (k0_t2 : Fin k0_t2_loop.trips) (v33 : IVec S16 32) (v35 : IVec S16 32) : Prop :=
  (∀ (k0_h6 : k0_cond6 i k0_t2 = 1#1), ∀ a x, ((![v33, v35] : Fin 2 → IVec S16 32) a x).toNat < S32x128.size a)
theorem k0_idx513_inb : ∀ (i : grid0.Coords) (k0_t2 : Fin k0_t2_loop.trips) (v33 : IVec S16 32) (v35 : IVec S16 32) (k0_hw513 : k0_chk513 i k0_t2 v33 v35), ∀ (k0_h6 : k0_cond6 i k0_t2 = 1#1), ∀ a x, ((![v33, v35] : Fin 2 → IVec S16 32) a x).toNat < S32x128.size a := fun i k0_t2 v33 v35 k0_hw513 k0_h6 => k0_hw513 k0_h6

def k0_chk514 (i : grid0.Coords) (k0_t2 : Fin k0_t2_loop.trips) (v45 : IVec S16 32) (v47 : IVec S16 32) : Prop :=
  (∀ (k0_h6 : k0_cond6 i k0_t2 = 1#1), ∀ a x, ((![v45, v47] : Fin 2 → IVec S16 32) a x).toNat < S32x128.size a)
theorem k0_idx514_inb : ∀ (i : grid0.Coords) (k0_t2 : Fin k0_t2_loop.trips) (v45 : IVec S16 32) (v47 : IVec S16 32) (k0_hw514 : k0_chk514 i k0_t2 v45 v47), ∀ (k0_h6 : k0_cond6 i k0_t2 = 1#1), ∀ a x, ((![v45, v47] : Fin 2 → IVec S16 32) a x).toNat < S32x128.size a := fun i k0_t2 v45 v47 k0_hw514 k0_h6 => k0_hw514 k0_h6

def k0_chk515 (i : grid0.Coords) (k0_t2 : Fin k0_t2_loop.trips) (v57 : IVec S16 32) (v59 : IVec S16 32) : Prop :=
  (∀ (k0_h6 : k0_cond6 i k0_t2 = 1#1), ∀ a x, ((![v57, v59] : Fin 2 → IVec S16 32) a x).toNat < S32x128.size a)
theorem k0_idx515_inb : ∀ (i : grid0.Coords) (k0_t2 : Fin k0_t2_loop.trips) (v57 : IVec S16 32) (v59 : IVec S16 32) (k0_hw515 : k0_chk515 i k0_t2 v57 v59), ∀ (k0_h6 : k0_cond6 i k0_t2 = 1#1), ∀ a x, ((![v57, v59] : Fin 2 → IVec S16 32) a x).toNat < S32x128.size a := fun i k0_t2 v57 v59 k0_hw515 k0_h6 => k0_hw515 k0_h6

def k0_chk516 (i : grid0.Coords) (k0_t2 : Fin k0_t2_loop.trips) (v69 : IVec S16 32) (v71 : IVec S16 32) : Prop :=
  (∀ (k0_h6 : k0_cond6 i k0_t2 = 1#1), ∀ a x, ((![v69, v71] : Fin 2 → IVec S16 32) a x).toNat < S32x128.size a)
theorem k0_idx516_inb : ∀ (i : grid0.Coords) (k0_t2 : Fin k0_t2_loop.trips) (v69 : IVec S16 32) (v71 : IVec S16 32) (k0_hw516 : k0_chk516 i k0_t2 v69 v71), ∀ (k0_h6 : k0_cond6 i k0_t2 = 1#1), ∀ a x, ((![v69, v71] : Fin 2 → IVec S16 32) a x).toNat < S32x128.size a := fun i k0_t2 v69 v71 k0_hw516 k0_h6 => k0_hw516 k0_h6

def k0_chk517 (i : grid0.Coords) (k0_t2 : Fin k0_t2_loop.trips) (v81 : IVec S16 32) (v83 : IVec S16 32) : Prop :=
  (∀ (k0_h6 : k0_cond6 i k0_t2 = 1#1), ∀ a x, ((![v81, v83] : Fin 2 → IVec S16 32) a x).toNat < S32x128.size a)
theorem k0_idx517_inb : ∀ (i : grid0.Coords) (k0_t2 : Fin k0_t2_loop.trips) (v81 : IVec S16 32) (v83 : IVec S16 32) (k0_hw517 : k0_chk517 i k0_t2 v81 v83), ∀ (k0_h6 : k0_cond6 i k0_t2 = 1#1), ∀ a x, ((![v81, v83] : Fin 2 → IVec S16 32) a x).toNat < S32x128.size a := fun i k0_t2 v81 v83 k0_hw517 k0_h6 => k0_hw517 k0_h6

def k0_chk518 (i : grid0.Coords) (k0_t2 : Fin k0_t2_loop.trips) (v93 : IVec S16 32) (v95 : IVec S16 32) : Prop :=
  (∀ (k0_h6 : k0_cond6 i k0_t2 = 1#1), ∀ a x, ((![v93, v95] : Fin 2 → IVec S16 32) a x).toNat < S32x128.size a)
theorem k0_idx518_inb : ∀ (i : grid0.Coords) (k0_t2 : Fin k0_t2_loop.trips) (v93 : IVec S16 32) (v95 : IVec S16 32) (k0_hw518 : k0_chk518 i k0_t2 v93 v95), ∀ (k0_h6 : k0_cond6 i k0_t2 = 1#1), ∀ a x, ((![v93, v95] : Fin 2 → IVec S16 32) a x).toNat < S32x128.size a := fun i k0_t2 v93 v95 k0_hw518 k0_h6 => k0_hw518 k0_h6

def k0_chk519 (i : grid0.Coords) (k0_t2 : Fin k0_t2_loop.trips) (v105 : IVec S16 32) (v107 : IVec S16 32) : Prop :=
  (∀ (k0_h6 : k0_cond6 i k0_t2 = 1#1), ∀ a x, ((![v105, v107] : Fin 2 → IVec S16 32) a x).toNat < S32x128.size a)
theorem k0_idx519_inb : ∀ (i : grid0.Coords) (k0_t2 : Fin k0_t2_loop.trips) (v105 : IVec S16 32) (v107 : IVec S16 32) (k0_hw519 : k0_chk519 i k0_t2 v105 v107), ∀ (k0_h6 : k0_cond6 i k0_t2 = 1#1), ∀ a x, ((![v105, v107] : Fin 2 → IVec S16 32) a x).toNat < S32x128.size a := fun i k0_t2 v105 v107 k0_hw519 k0_h6 => k0_hw519 k0_h6

def k0_chk520 (i : grid0.Coords) (k0_t2 : Fin k0_t2_loop.trips) (v117 : IVec S16 32) (v119 : IVec S16 32) : Prop :=
  (∀ (k0_h6 : k0_cond6 i k0_t2 = 1#1), ∀ a x, ((![v117, v119] : Fin 2 → IVec S16 32) a x).toNat < S32x128.size a)
theorem k0_idx520_inb : ∀ (i : grid0.Coords) (k0_t2 : Fin k0_t2_loop.trips) (v117 : IVec S16 32) (v119 : IVec S16 32) (k0_hw520 : k0_chk520 i k0_t2 v117 v119), ∀ (k0_h6 : k0_cond6 i k0_t2 = 1#1), ∀ a x, ((![v117, v119] : Fin 2 → IVec S16 32) a x).toNat < S32x128.size a := fun i k0_t2 v117 v119 k0_hw520 k0_h6 => k0_hw520 k0_h6

def k0_chk521 (i : grid0.Coords) (k0_t2 : Fin k0_t2_loop.trips) (v129 : IVec S16 32) (v131 : IVec S16 32) : Prop :=
  (∀ (k0_h6 : k0_cond6 i k0_t2 = 1#1), ∀ a x, ((![v129, v131] : Fin 2 → IVec S16 32) a x).toNat < S32x128.size a)
theorem k0_idx521_inb : ∀ (i : grid0.Coords) (k0_t2 : Fin k0_t2_loop.trips) (v129 : IVec S16 32) (v131 : IVec S16 32) (k0_hw521 : k0_chk521 i k0_t2 v129 v131), ∀ (k0_h6 : k0_cond6 i k0_t2 = 1#1), ∀ a x, ((![v129, v131] : Fin 2 → IVec S16 32) a x).toNat < S32x128.size a := fun i k0_t2 v129 v131 k0_hw521 k0_h6 => k0_hw521 k0_h6

def k0_chk522 (i : grid0.Coords) (k0_t2 : Fin k0_t2_loop.trips) (v141 : IVec S16 32) (v143 : IVec S16 32) : Prop :=
  (∀ (k0_h6 : k0_cond6 i k0_t2 = 1#1), ∀ a x, ((![v141, v143] : Fin 2 → IVec S16 32) a x).toNat < S32x128.size a)
theorem k0_idx522_inb : ∀ (i : grid0.Coords) (k0_t2 : Fin k0_t2_loop.trips) (v141 : IVec S16 32) (v143 : IVec S16 32) (k0_hw522 : k0_chk522 i k0_t2 v141 v143), ∀ (k0_h6 : k0_cond6 i k0_t2 = 1#1), ∀ a x, ((![v141, v143] : Fin 2 → IVec S16 32) a x).toNat < S32x128.size a := fun i k0_t2 v141 v143 k0_hw522 k0_h6 => k0_hw522 k0_h6

def k0_chk523 (i : grid0.Coords) (k0_t2 : Fin k0_t2_loop.trips) (v153 : IVec S16 32) (v155 : IVec S16 32) : Prop :=
  (∀ (k0_h6 : k0_cond6 i k0_t2 = 1#1), ∀ a x, ((![v153, v155] : Fin 2 → IVec S16 32) a x).toNat < S32x128.size a)
theorem k0_idx523_inb : ∀ (i : grid0.Coords) (k0_t2 : Fin k0_t2_loop.trips) (v153 : IVec S16 32) (v155 : IVec S16 32) (k0_hw523 : k0_chk523 i k0_t2 v153 v155), ∀ (k0_h6 : k0_cond6 i k0_t2 = 1#1), ∀ a x, ((![v153, v155] : Fin 2 → IVec S16 32) a x).toNat < S32x128.size a := fun i k0_t2 v153 v155 k0_hw523 k0_h6 => k0_hw523 k0_h6

def k0_chk524 (i : grid0.Coords) (k0_t2 : Fin k0_t2_loop.trips) (v165 : IVec S16 32) (v167 : IVec S16 32) : Prop :=
  (∀ (k0_h6 : k0_cond6 i k0_t2 = 1#1), ∀ a x, ((![v165, v167] : Fin 2 → IVec S16 32) a x).toNat < S32x128.size a)
theorem k0_idx524_inb : ∀ (i : grid0.Coords) (k0_t2 : Fin k0_t2_loop.trips) (v165 : IVec S16 32) (v167 : IVec S16 32) (k0_hw524 : k0_chk524 i k0_t2 v165 v167), ∀ (k0_h6 : k0_cond6 i k0_t2 = 1#1), ∀ a x, ((![v165, v167] : Fin 2 → IVec S16 32) a x).toNat < S32x128.size a := fun i k0_t2 v165 v167 k0_hw524 k0_h6 => k0_hw524 k0_h6

def k0_chk525 (i : grid0.Coords) (k0_t2 : Fin k0_t2_loop.trips) (v177 : IVec S16 32) (v179 : IVec S16 32) : Prop :=
  (∀ (k0_h6 : k0_cond6 i k0_t2 = 1#1), ∀ a x, ((![v177, v179] : Fin 2 → IVec S16 32) a x).toNat < S32x128.size a)
theorem k0_idx525_inb : ∀ (i : grid0.Coords) (k0_t2 : Fin k0_t2_loop.trips) (v177 : IVec S16 32) (v179 : IVec S16 32) (k0_hw525 : k0_chk525 i k0_t2 v177 v179), ∀ (k0_h6 : k0_cond6 i k0_t2 = 1#1), ∀ a x, ((![v177, v179] : Fin 2 → IVec S16 32) a x).toNat < S32x128.size a := fun i k0_t2 v177 v179 k0_hw525 k0_h6 => k0_hw525 k0_h6

def k0_chk526 (i : grid0.Coords) (k0_t2 : Fin k0_t2_loop.trips) (v189 : IVec S16 32) (v191 : IVec S16 32) : Prop :=
  (∀ (k0_h6 : k0_cond6 i k0_t2 = 1#1), ∀ a x, ((![v189, v191] : Fin 2 → IVec S16 32) a x).toNat < S32x128.size a)
theorem k0_idx526_inb : ∀ (i : grid0.Coords) (k0_t2 : Fin k0_t2_loop.trips) (v189 : IVec S16 32) (v191 : IVec S16 32) (k0_hw526 : k0_chk526 i k0_t2 v189 v191), ∀ (k0_h6 : k0_cond6 i k0_t2 = 1#1), ∀ a x, ((![v189, v191] : Fin 2 → IVec S16 32) a x).toNat < S32x128.size a := fun i k0_t2 v189 v191 k0_hw526 k0_h6 => k0_hw526 k0_h6

def k0_chk527 (i : grid0.Coords) (k0_t2 : Fin k0_t2_loop.trips) (v201 : IVec S16 32) (v203 : IVec S16 32) : Prop :=
  (∀ (k0_h6 : k0_cond6 i k0_t2 = 1#1), ∀ a x, ((![v201, v203] : Fin 2 → IVec S16 32) a x).toNat < S32x128.size a)
theorem k0_idx527_inb : ∀ (i : grid0.Coords) (k0_t2 : Fin k0_t2_loop.trips) (v201 : IVec S16 32) (v203 : IVec S16 32) (k0_hw527 : k0_chk527 i k0_t2 v201 v203), ∀ (k0_h6 : k0_cond6 i k0_t2 = 1#1), ∀ a x, ((![v201, v203] : Fin 2 → IVec S16 32) a x).toNat < S32x128.size a := fun i k0_t2 v201 v203 k0_hw527 k0_h6 => k0_hw527 k0_h6

def k0_chk528 (i : grid0.Coords) (k0_t2 : Fin k0_t2_loop.trips) (v213 : IVec S16 32) (v215 : IVec S16 32) : Prop :=
  (∀ (k0_h6 : k0_cond6 i k0_t2 = 1#1), ∀ a x, ((![v213, v215] : Fin 2 → IVec S16 32) a x).toNat < S32x128.size a)
theorem k0_idx528_inb : ∀ (i : grid0.Coords) (k0_t2 : Fin k0_t2_loop.trips) (v213 : IVec S16 32) (v215 : IVec S16 32) (k0_hw528 : k0_chk528 i k0_t2 v213 v215), ∀ (k0_h6 : k0_cond6 i k0_t2 = 1#1), ∀ a x, ((![v213, v215] : Fin 2 → IVec S16 32) a x).toNat < S32x128.size a := fun i k0_t2 v213 v215 k0_hw528 k0_h6 => k0_hw528 k0_h6

def k0_chk529 (i : grid0.Coords) (k0_t2 : Fin k0_t2_loop.trips) (v225 : IVec S16 32) (v227 : IVec S16 32) : Prop :=
  (∀ (k0_h6 : k0_cond6 i k0_t2 = 1#1), ∀ a x, ((![v225, v227] : Fin 2 → IVec S16 32) a x).toNat < S32x128.size a)
theorem k0_idx529_inb : ∀ (i : grid0.Coords) (k0_t2 : Fin k0_t2_loop.trips) (v225 : IVec S16 32) (v227 : IVec S16 32) (k0_hw529 : k0_chk529 i k0_t2 v225 v227), ∀ (k0_h6 : k0_cond6 i k0_t2 = 1#1), ∀ a x, ((![v225, v227] : Fin 2 → IVec S16 32) a x).toNat < S32x128.size a := fun i k0_t2 v225 v227 k0_hw529 k0_h6 => k0_hw529 k0_h6

def k0_chk530 (i : grid0.Coords) (k0_t2 : Fin k0_t2_loop.trips) (v237 : IVec S16 32) (v239 : IVec S16 32) : Prop :=
  (∀ (k0_h6 : k0_cond6 i k0_t2 = 1#1), ∀ a x, ((![v237, v239] : Fin 2 → IVec S16 32) a x).toNat < S32x128.size a)
theorem k0_idx530_inb : ∀ (i : grid0.Coords) (k0_t2 : Fin k0_t2_loop.trips) (v237 : IVec S16 32) (v239 : IVec S16 32) (k0_hw530 : k0_chk530 i k0_t2 v237 v239), ∀ (k0_h6 : k0_cond6 i k0_t2 = 1#1), ∀ a x, ((![v237, v239] : Fin 2 → IVec S16 32) a x).toNat < S32x128.size a := fun i k0_t2 v237 v239 k0_hw530 k0_h6 => k0_hw530 k0_h6

def k0_chk531 (i : grid0.Coords) (k0_t2 : Fin k0_t2_loop.trips) (v249 : IVec S16 32) (v251 : IVec S16 32) : Prop :=
  (∀ (k0_h6 : k0_cond6 i k0_t2 = 1#1), ∀ a x, ((![v249, v251] : Fin 2 → IVec S16 32) a x).toNat < S32x128.size a)
theorem k0_idx531_inb : ∀ (i : grid0.Coords) (k0_t2 : Fin k0_t2_loop.trips) (v249 : IVec S16 32) (v251 : IVec S16 32) (k0_hw531 : k0_chk531 i k0_t2 v249 v251), ∀ (k0_h6 : k0_cond6 i k0_t2 = 1#1), ∀ a x, ((![v249, v251] : Fin 2 → IVec S16 32) a x).toNat < S32x128.size a := fun i k0_t2 v249 v251 k0_hw531 k0_h6 => k0_hw531 k0_h6

def k0_chk532 (i : grid0.Coords) (k0_t2 : Fin k0_t2_loop.trips) (v261 : IVec S16 32) (v263 : IVec S16 32) : Prop :=
  (∀ (k0_h6 : k0_cond6 i k0_t2 = 1#1), ∀ a x, ((![v261, v263] : Fin 2 → IVec S16 32) a x).toNat < S32x128.size a)
theorem k0_idx532_inb : ∀ (i : grid0.Coords) (k0_t2 : Fin k0_t2_loop.trips) (v261 : IVec S16 32) (v263 : IVec S16 32) (k0_hw532 : k0_chk532 i k0_t2 v261 v263), ∀ (k0_h6 : k0_cond6 i k0_t2 = 1#1), ∀ a x, ((![v261, v263] : Fin 2 → IVec S16 32) a x).toNat < S32x128.size a := fun i k0_t2 v261 v263 k0_hw532 k0_h6 => k0_hw532 k0_h6

def k0_chk533 (i : grid0.Coords) (k0_t2 : Fin k0_t2_loop.trips) (v273 : IVec S16 32) (v275 : IVec S16 32) : Prop :=
  (∀ (k0_h6 : k0_cond6 i k0_t2 = 1#1), ∀ a x, ((![v273, v275] : Fin 2 → IVec S16 32) a x).toNat < S32x128.size a)
theorem k0_idx533_inb : ∀ (i : grid0.Coords) (k0_t2 : Fin k0_t2_loop.trips) (v273 : IVec S16 32) (v275 : IVec S16 32) (k0_hw533 : k0_chk533 i k0_t2 v273 v275), ∀ (k0_h6 : k0_cond6 i k0_t2 = 1#1), ∀ a x, ((![v273, v275] : Fin 2 → IVec S16 32) a x).toNat < S32x128.size a := fun i k0_t2 v273 v275 k0_hw533 k0_h6 => k0_hw533 k0_h6

def k0_chk534 (i : grid0.Coords) (k0_t2 : Fin k0_t2_loop.trips) (v285 : IVec S16 32) (v287 : IVec S16 32) : Prop :=
  (∀ (k0_h6 : k0_cond6 i k0_t2 = 1#1), ∀ a x, ((![v285, v287] : Fin 2 → IVec S16 32) a x).toNat < S32x128.size a)
theorem k0_idx534_inb : ∀ (i : grid0.Coords) (k0_t2 : Fin k0_t2_loop.trips) (v285 : IVec S16 32) (v287 : IVec S16 32) (k0_hw534 : k0_chk534 i k0_t2 v285 v287), ∀ (k0_h6 : k0_cond6 i k0_t2 = 1#1), ∀ a x, ((![v285, v287] : Fin 2 → IVec S16 32) a x).toNat < S32x128.size a := fun i k0_t2 v285 v287 k0_hw534 k0_h6 => k0_hw534 k0_h6

def k0_chk535 (i : grid0.Coords) (k0_t2 : Fin k0_t2_loop.trips) (v297 : IVec S16 32) (v299 : IVec S16 32) : Prop :=
  (∀ (k0_h6 : k0_cond6 i k0_t2 = 1#1), ∀ a x, ((![v297, v299] : Fin 2 → IVec S16 32) a x).toNat < S32x128.size a)
theorem k0_idx535_inb : ∀ (i : grid0.Coords) (k0_t2 : Fin k0_t2_loop.trips) (v297 : IVec S16 32) (v299 : IVec S16 32) (k0_hw535 : k0_chk535 i k0_t2 v297 v299), ∀ (k0_h6 : k0_cond6 i k0_t2 = 1#1), ∀ a x, ((![v297, v299] : Fin 2 → IVec S16 32) a x).toNat < S32x128.size a := fun i k0_t2 v297 v299 k0_hw535 k0_h6 => k0_hw535 k0_h6

def k0_chk536 (i : grid0.Coords) (k0_t2 : Fin k0_t2_loop.trips) (v309 : IVec S16 32) (v311 : IVec S16 32) : Prop :=
  (∀ (k0_h6 : k0_cond6 i k0_t2 = 1#1), ∀ a x, ((![v309, v311] : Fin 2 → IVec S16 32) a x).toNat < S32x128.size a)
theorem k0_idx536_inb : ∀ (i : grid0.Coords) (k0_t2 : Fin k0_t2_loop.trips) (v309 : IVec S16 32) (v311 : IVec S16 32) (k0_hw536 : k0_chk536 i k0_t2 v309 v311), ∀ (k0_h6 : k0_cond6 i k0_t2 = 1#1), ∀ a x, ((![v309, v311] : Fin 2 → IVec S16 32) a x).toNat < S32x128.size a := fun i k0_t2 v309 v311 k0_hw536 k0_h6 => k0_hw536 k0_h6

def k0_chk537 (i : grid0.Coords) (k0_t2 : Fin k0_t2_loop.trips) (v321 : IVec S16 32) (v323 : IVec S16 32) : Prop :=
  (∀ (k0_h6 : k0_cond6 i k0_t2 = 1#1), ∀ a x, ((![v321, v323] : Fin 2 → IVec S16 32) a x).toNat < S32x128.size a)
theorem k0_idx537_inb : ∀ (i : grid0.Coords) (k0_t2 : Fin k0_t2_loop.trips) (v321 : IVec S16 32) (v323 : IVec S16 32) (k0_hw537 : k0_chk537 i k0_t2 v321 v323), ∀ (k0_h6 : k0_cond6 i k0_t2 = 1#1), ∀ a x, ((![v321, v323] : Fin 2 → IVec S16 32) a x).toNat < S32x128.size a := fun i k0_t2 v321 v323 k0_hw537 k0_h6 => k0_hw537 k0_h6

def k0_chk538 (i : grid0.Coords) (k0_t2 : Fin k0_t2_loop.trips) (v333 : IVec S16 32) (v335 : IVec S16 32) : Prop :=
  (∀ (k0_h6 : k0_cond6 i k0_t2 = 1#1), ∀ a x, ((![v333, v335] : Fin 2 → IVec S16 32) a x).toNat < S32x128.size a)
theorem k0_idx538_inb : ∀ (i : grid0.Coords) (k0_t2 : Fin k0_t2_loop.trips) (v333 : IVec S16 32) (v335 : IVec S16 32) (k0_hw538 : k0_chk538 i k0_t2 v333 v335), ∀ (k0_h6 : k0_cond6 i k0_t2 = 1#1), ∀ a x, ((![v333, v335] : Fin 2 → IVec S16 32) a x).toNat < S32x128.size a := fun i k0_t2 v333 v335 k0_hw538 k0_h6 => k0_hw538 k0_h6

def k0_chk539 (i : grid0.Coords) (k0_t2 : Fin k0_t2_loop.trips) (v345 : IVec S16 32) (v347 : IVec S16 32) : Prop :=
  (∀ (k0_h6 : k0_cond6 i k0_t2 = 1#1), ∀ a x, ((![v345, v347] : Fin 2 → IVec S16 32) a x).toNat < S32x128.size a)
theorem k0_idx539_inb : ∀ (i : grid0.Coords) (k0_t2 : Fin k0_t2_loop.trips) (v345 : IVec S16 32) (v347 : IVec S16 32) (k0_hw539 : k0_chk539 i k0_t2 v345 v347), ∀ (k0_h6 : k0_cond6 i k0_t2 = 1#1), ∀ a x, ((![v345, v347] : Fin 2 → IVec S16 32) a x).toNat < S32x128.size a := fun i k0_t2 v345 v347 k0_hw539 k0_h6 => k0_hw539 k0_h6

def k0_chk540 (i : grid0.Coords) (k0_t2 : Fin k0_t2_loop.trips) (v357 : IVec S16 32) (v359 : IVec S16 32) : Prop :=
  (∀ (k0_h6 : k0_cond6 i k0_t2 = 1#1), ∀ a x, ((![v357, v359] : Fin 2 → IVec S16 32) a x).toNat < S32x128.size a)
theorem k0_idx540_inb : ∀ (i : grid0.Coords) (k0_t2 : Fin k0_t2_loop.trips) (v357 : IVec S16 32) (v359 : IVec S16 32) (k0_hw540 : k0_chk540 i k0_t2 v357 v359), ∀ (k0_h6 : k0_cond6 i k0_t2 = 1#1), ∀ a x, ((![v357, v359] : Fin 2 → IVec S16 32) a x).toNat < S32x128.size a := fun i k0_t2 v357 v359 k0_hw540 k0_h6 => k0_hw540 k0_h6

def k0_chk541 (i : grid0.Coords) (k0_t2 : Fin k0_t2_loop.trips) (v369 : IVec S16 32) (v371 : IVec S16 32) : Prop :=
  (∀ (k0_h6 : k0_cond6 i k0_t2 = 1#1), ∀ a x, ((![v369, v371] : Fin 2 → IVec S16 32) a x).toNat < S32x128.size a)
theorem k0_idx541_inb : ∀ (i : grid0.Coords) (k0_t2 : Fin k0_t2_loop.trips) (v369 : IVec S16 32) (v371 : IVec S16 32) (k0_hw541 : k0_chk541 i k0_t2 v369 v371), ∀ (k0_h6 : k0_cond6 i k0_t2 = 1#1), ∀ a x, ((![v369, v371] : Fin 2 → IVec S16 32) a x).toNat < S32x128.size a := fun i k0_t2 v369 v371 k0_hw541 k0_h6 => k0_hw541 k0_h6

def k0_chk542 (i : grid0.Coords) (k0_t2 : Fin k0_t2_loop.trips) (v381 : IVec S16 32) (v383 : IVec S16 32) : Prop :=
  (∀ (k0_h6 : k0_cond6 i k0_t2 = 1#1), ∀ a x, ((![v381, v383] : Fin 2 → IVec S16 32) a x).toNat < S32x128.size a)
theorem k0_idx542_inb : ∀ (i : grid0.Coords) (k0_t2 : Fin k0_t2_loop.trips) (v381 : IVec S16 32) (v383 : IVec S16 32) (k0_hw542 : k0_chk542 i k0_t2 v381 v383), ∀ (k0_h6 : k0_cond6 i k0_t2 = 1#1), ∀ a x, ((![v381, v383] : Fin 2 → IVec S16 32) a x).toNat < S32x128.size a := fun i k0_t2 v381 v383 k0_hw542 k0_h6 => k0_hw542 k0_h6

def k0_chk543 (i : grid0.Coords) (k0_t2 : Fin k0_t2_loop.trips) (v393 : IVec S16 32) (v395 : IVec S16 32) : Prop :=
  (∀ (k0_h6 : k0_cond6 i k0_t2 = 1#1), ∀ a x, ((![v393, v395] : Fin 2 → IVec S16 32) a x).toNat < S32x128.size a)
theorem k0_idx543_inb : ∀ (i : grid0.Coords) (k0_t2 : Fin k0_t2_loop.trips) (v393 : IVec S16 32) (v395 : IVec S16 32) (k0_hw543 : k0_chk543 i k0_t2 v393 v395), ∀ (k0_h6 : k0_cond6 i k0_t2 = 1#1), ∀ a x, ((![v393, v395] : Fin 2 → IVec S16 32) a x).toNat < S32x128.size a := fun i k0_t2 v393 v395 k0_hw543 k0_h6 => k0_hw543 k0_h6

def k0_chk544 (i : grid0.Coords) (k0_t2 : Fin k0_t2_loop.trips) (v405 : IVec S16 32) (v407 : IVec S16 32) : Prop :=
  (∀ (k0_h6 : k0_cond6 i k0_t2 = 1#1), ∀ a x, ((![v405, v407] : Fin 2 → IVec S16 32) a x).toNat < S32x128.size a)
theorem k0_idx544_inb : ∀ (i : grid0.Coords) (k0_t2 : Fin k0_t2_loop.trips) (v405 : IVec S16 32) (v407 : IVec S16 32) (k0_hw544 : k0_chk544 i k0_t2 v405 v407), ∀ (k0_h6 : k0_cond6 i k0_t2 = 1#1), ∀ a x, ((![v405, v407] : Fin 2 → IVec S16 32) a x).toNat < S32x128.size a := fun i k0_t2 v405 v407 k0_hw544 k0_h6 => k0_hw544 k0_h6

def k0_chk545 (i : grid0.Coords) (k0_t2 : Fin k0_t2_loop.trips) (v417 : IVec S16 32) (v419 : IVec S16 32) : Prop :=
  (∀ (k0_h6 : k0_cond6 i k0_t2 = 1#1), ∀ a x, ((![v417, v419] : Fin 2 → IVec S16 32) a x).toNat < S32x128.size a)
theorem k0_idx545_inb : ∀ (i : grid0.Coords) (k0_t2 : Fin k0_t2_loop.trips) (v417 : IVec S16 32) (v419 : IVec S16 32) (k0_hw545 : k0_chk545 i k0_t2 v417 v419), ∀ (k0_h6 : k0_cond6 i k0_t2 = 1#1), ∀ a x, ((![v417, v419] : Fin 2 → IVec S16 32) a x).toNat < S32x128.size a := fun i k0_t2 v417 v419 k0_hw545 k0_h6 => k0_hw545 k0_h6

def k0_chk546 (i : grid0.Coords) (k0_t2 : Fin k0_t2_loop.trips) (v429 : IVec S16 32) (v431 : IVec S16 32) : Prop :=
  (∀ (k0_h6 : k0_cond6 i k0_t2 = 1#1), ∀ a x, ((![v429, v431] : Fin 2 → IVec S16 32) a x).toNat < S32x128.size a)
theorem k0_idx546_inb : ∀ (i : grid0.Coords) (k0_t2 : Fin k0_t2_loop.trips) (v429 : IVec S16 32) (v431 : IVec S16 32) (k0_hw546 : k0_chk546 i k0_t2 v429 v431), ∀ (k0_h6 : k0_cond6 i k0_t2 = 1#1), ∀ a x, ((![v429, v431] : Fin 2 → IVec S16 32) a x).toNat < S32x128.size a := fun i k0_t2 v429 v431 k0_hw546 k0_h6 => k0_hw546 k0_h6

def k0_chk547 (i : grid0.Coords) (k0_t2 : Fin k0_t2_loop.trips) (v441 : IVec S16 32) (v443 : IVec S16 32) : Prop :=
  (∀ (k0_h6 : k0_cond6 i k0_t2 = 1#1), ∀ a x, ((![v441, v443] : Fin 2 → IVec S16 32) a x).toNat < S32x128.size a)
theorem k0_idx547_inb : ∀ (i : grid0.Coords) (k0_t2 : Fin k0_t2_loop.trips) (v441 : IVec S16 32) (v443 : IVec S16 32) (k0_hw547 : k0_chk547 i k0_t2 v441 v443), ∀ (k0_h6 : k0_cond6 i k0_t2 = 1#1), ∀ a x, ((![v441, v443] : Fin 2 → IVec S16 32) a x).toNat < S32x128.size a := fun i k0_t2 v441 v443 k0_hw547 k0_h6 => k0_hw547 k0_h6

def k0_chk548 (i : grid0.Coords) (k0_t2 : Fin k0_t2_loop.trips) (v453 : IVec S16 32) (v455 : IVec S16 32) : Prop :=
  (∀ (k0_h6 : k0_cond6 i k0_t2 = 1#1), ∀ a x, ((![v453, v455] : Fin 2 → IVec S16 32) a x).toNat < S32x128.size a)
theorem k0_idx548_inb : ∀ (i : grid0.Coords) (k0_t2 : Fin k0_t2_loop.trips) (v453 : IVec S16 32) (v455 : IVec S16 32) (k0_hw548 : k0_chk548 i k0_t2 v453 v455), ∀ (k0_h6 : k0_cond6 i k0_t2 = 1#1), ∀ a x, ((![v453, v455] : Fin 2 → IVec S16 32) a x).toNat < S32x128.size a := fun i k0_t2 v453 v455 k0_hw548 k0_h6 => k0_hw548 k0_h6

def k0_chk549 (i : grid0.Coords) (k0_t2 : Fin k0_t2_loop.trips) (v465 : IVec S16 32) (v467 : IVec S16 32) : Prop :=
  (∀ (k0_h6 : k0_cond6 i k0_t2 = 1#1), ∀ a x, ((![v465, v467] : Fin 2 → IVec S16 32) a x).toNat < S32x128.size a)
theorem k0_idx549_inb : ∀ (i : grid0.Coords) (k0_t2 : Fin k0_t2_loop.trips) (v465 : IVec S16 32) (v467 : IVec S16 32) (k0_hw549 : k0_chk549 i k0_t2 v465 v467), ∀ (k0_h6 : k0_cond6 i k0_t2 = 1#1), ∀ a x, ((![v465, v467] : Fin 2 → IVec S16 32) a x).toNat < S32x128.size a := fun i k0_t2 v465 v467 k0_hw549 k0_h6 => k0_hw549 k0_h6

def k0_chk550 (i : grid0.Coords) (k0_t2 : Fin k0_t2_loop.trips) (v477 : IVec S16 32) (v479 : IVec S16 32) : Prop :=
  (∀ (k0_h6 : k0_cond6 i k0_t2 = 1#1), ∀ a x, ((![v477, v479] : Fin 2 → IVec S16 32) a x).toNat < S32x128.size a)
theorem k0_idx550_inb : ∀ (i : grid0.Coords) (k0_t2 : Fin k0_t2_loop.trips) (v477 : IVec S16 32) (v479 : IVec S16 32) (k0_hw550 : k0_chk550 i k0_t2 v477 v479), ∀ (k0_h6 : k0_cond6 i k0_t2 = 1#1), ∀ a x, ((![v477, v479] : Fin 2 → IVec S16 32) a x).toNat < S32x128.size a := fun i k0_t2 v477 v479 k0_hw550 k0_h6 => k0_hw550 k0_h6

def k0_chk551 (i : grid0.Coords) (k0_t2 : Fin k0_t2_loop.trips) (v489 : IVec S16 32) (v491 : IVec S16 32) : Prop :=
  (∀ (k0_h6 : k0_cond6 i k0_t2 = 1#1), ∀ a x, ((![v489, v491] : Fin 2 → IVec S16 32) a x).toNat < S32x128.size a)
theorem k0_idx551_inb : ∀ (i : grid0.Coords) (k0_t2 : Fin k0_t2_loop.trips) (v489 : IVec S16 32) (v491 : IVec S16 32) (k0_hw551 : k0_chk551 i k0_t2 v489 v491), ∀ (k0_h6 : k0_cond6 i k0_t2 = 1#1), ∀ a x, ((![v489, v491] : Fin 2 → IVec S16 32) a x).toNat < S32x128.size a := fun i k0_t2 v489 v491 k0_hw551 k0_h6 => k0_hw551 k0_h6

def k0_chk552 (i : grid0.Coords) (k0_t2 : Fin k0_t2_loop.trips) (v501 : IVec S16 32) (v503 : IVec S16 32) : Prop :=
  (∀ (k0_h6 : k0_cond6 i k0_t2 = 1#1), ∀ a x, ((![v501, v503] : Fin 2 → IVec S16 32) a x).toNat < S32x128.size a)
theorem k0_idx552_inb : ∀ (i : grid0.Coords) (k0_t2 : Fin k0_t2_loop.trips) (v501 : IVec S16 32) (v503 : IVec S16 32) (k0_hw552 : k0_chk552 i k0_t2 v501 v503), ∀ (k0_h6 : k0_cond6 i k0_t2 = 1#1), ∀ a x, ((![v501, v503] : Fin 2 → IVec S16 32) a x).toNat < S32x128.size a := fun i k0_t2 v501 v503 k0_hw552 k0_h6 => k0_hw552 k0_h6

def k0_chk553 (i : grid0.Coords) (k0_t2 : Fin k0_t2_loop.trips) (v513 : IVec S16 32) (v515 : IVec S16 32) : Prop :=
  (∀ (k0_h6 : k0_cond6 i k0_t2 = 1#1), ∀ a x, ((![v513, v515] : Fin 2 → IVec S16 32) a x).toNat < S32x128.size a)
theorem k0_idx553_inb : ∀ (i : grid0.Coords) (k0_t2 : Fin k0_t2_loop.trips) (v513 : IVec S16 32) (v515 : IVec S16 32) (k0_hw553 : k0_chk553 i k0_t2 v513 v515), ∀ (k0_h6 : k0_cond6 i k0_t2 = 1#1), ∀ a x, ((![v513, v515] : Fin 2 → IVec S16 32) a x).toNat < S32x128.size a := fun i k0_t2 v513 v515 k0_hw553 k0_h6 => k0_hw553 k0_h6

def k0_chk554 (i : grid0.Coords) (k0_t2 : Fin k0_t2_loop.trips) (v525 : IVec S16 32) (v527 : IVec S16 32) : Prop :=
  (∀ (k0_h6 : k0_cond6 i k0_t2 = 1#1), ∀ a x, ((![v525, v527] : Fin 2 → IVec S16 32) a x).toNat < S32x128.size a)
theorem k0_idx554_inb : ∀ (i : grid0.Coords) (k0_t2 : Fin k0_t2_loop.trips) (v525 : IVec S16 32) (v527 : IVec S16 32) (k0_hw554 : k0_chk554 i k0_t2 v525 v527), ∀ (k0_h6 : k0_cond6 i k0_t2 = 1#1), ∀ a x, ((![v525, v527] : Fin 2 → IVec S16 32) a x).toNat < S32x128.size a := fun i k0_t2 v525 v527 k0_hw554 k0_h6 => k0_hw554 k0_h6

def k0_chk555 (i : grid0.Coords) (k0_t2 : Fin k0_t2_loop.trips) (v537 : IVec S16 32) (v539 : IVec S16 32) : Prop :=
  (∀ (k0_h6 : k0_cond6 i k0_t2 = 1#1), ∀ a x, ((![v537, v539] : Fin 2 → IVec S16 32) a x).toNat < S32x128.size a)
theorem k0_idx555_inb : ∀ (i : grid0.Coords) (k0_t2 : Fin k0_t2_loop.trips) (v537 : IVec S16 32) (v539 : IVec S16 32) (k0_hw555 : k0_chk555 i k0_t2 v537 v539), ∀ (k0_h6 : k0_cond6 i k0_t2 = 1#1), ∀ a x, ((![v537, v539] : Fin 2 → IVec S16 32) a x).toNat < S32x128.size a := fun i k0_t2 v537 v539 k0_hw555 k0_h6 => k0_hw555 k0_h6

def k0_chk556 (i : grid0.Coords) (k0_t2 : Fin k0_t2_loop.trips) (v549 : IVec S16 32) (v551 : IVec S16 32) : Prop :=
  (∀ (k0_h6 : k0_cond6 i k0_t2 = 1#1), ∀ a x, ((![v549, v551] : Fin 2 → IVec S16 32) a x).toNat < S32x128.size a)
theorem k0_idx556_inb : ∀ (i : grid0.Coords) (k0_t2 : Fin k0_t2_loop.trips) (v549 : IVec S16 32) (v551 : IVec S16 32) (k0_hw556 : k0_chk556 i k0_t2 v549 v551), ∀ (k0_h6 : k0_cond6 i k0_t2 = 1#1), ∀ a x, ((![v549, v551] : Fin 2 → IVec S16 32) a x).toNat < S32x128.size a := fun i k0_t2 v549 v551 k0_hw556 k0_h6 => k0_hw556 k0_h6

def k0_chk557 (i : grid0.Coords) (k0_t2 : Fin k0_t2_loop.trips) (v561 : IVec S16 32) (v563 : IVec S16 32) : Prop :=
  (∀ (k0_h6 : k0_cond6 i k0_t2 = 1#1), ∀ a x, ((![v561, v563] : Fin 2 → IVec S16 32) a x).toNat < S32x128.size a)
theorem k0_idx557_inb : ∀ (i : grid0.Coords) (k0_t2 : Fin k0_t2_loop.trips) (v561 : IVec S16 32) (v563 : IVec S16 32) (k0_hw557 : k0_chk557 i k0_t2 v561 v563), ∀ (k0_h6 : k0_cond6 i k0_t2 = 1#1), ∀ a x, ((![v561, v563] : Fin 2 → IVec S16 32) a x).toNat < S32x128.size a := fun i k0_t2 v561 v563 k0_hw557 k0_h6 => k0_hw557 k0_h6

def k0_chk558 (i : grid0.Coords) (k0_t2 : Fin k0_t2_loop.trips) (v573 : IVec S16 32) (v575 : IVec S16 32) : Prop :=
  (∀ (k0_h6 : k0_cond6 i k0_t2 = 1#1), ∀ a x, ((![v573, v575] : Fin 2 → IVec S16 32) a x).toNat < S32x128.size a)
theorem k0_idx558_inb : ∀ (i : grid0.Coords) (k0_t2 : Fin k0_t2_loop.trips) (v573 : IVec S16 32) (v575 : IVec S16 32) (k0_hw558 : k0_chk558 i k0_t2 v573 v575), ∀ (k0_h6 : k0_cond6 i k0_t2 = 1#1), ∀ a x, ((![v573, v575] : Fin 2 → IVec S16 32) a x).toNat < S32x128.size a := fun i k0_t2 v573 v575 k0_hw558 k0_h6 => k0_hw558 k0_h6

def k0_chk559 (i : grid0.Coords) (k0_t2 : Fin k0_t2_loop.trips) (v585 : IVec S16 32) (v587 : IVec S16 32) : Prop :=
  (∀ (k0_h6 : k0_cond6 i k0_t2 = 1#1), ∀ a x, ((![v585, v587] : Fin 2 → IVec S16 32) a x).toNat < S32x128.size a)
theorem k0_idx559_inb : ∀ (i : grid0.Coords) (k0_t2 : Fin k0_t2_loop.trips) (v585 : IVec S16 32) (v587 : IVec S16 32) (k0_hw559 : k0_chk559 i k0_t2 v585 v587), ∀ (k0_h6 : k0_cond6 i k0_t2 = 1#1), ∀ a x, ((![v585, v587] : Fin 2 → IVec S16 32) a x).toNat < S32x128.size a := fun i k0_t2 v585 v587 k0_hw559 k0_h6 => k0_hw559 k0_h6

def k0_chk560 (i : grid0.Coords) (k0_t2 : Fin k0_t2_loop.trips) (v597 : IVec S16 32) (v599 : IVec S16 32) : Prop :=
  (∀ (k0_h6 : k0_cond6 i k0_t2 = 1#1), ∀ a x, ((![v597, v599] : Fin 2 → IVec S16 32) a x).toNat < S32x128.size a)
theorem k0_idx560_inb : ∀ (i : grid0.Coords) (k0_t2 : Fin k0_t2_loop.trips) (v597 : IVec S16 32) (v599 : IVec S16 32) (k0_hw560 : k0_chk560 i k0_t2 v597 v599), ∀ (k0_h6 : k0_cond6 i k0_t2 = 1#1), ∀ a x, ((![v597, v599] : Fin 2 → IVec S16 32) a x).toNat < S32x128.size a := fun i k0_t2 v597 v599 k0_hw560 k0_h6 => k0_hw560 k0_h6

def k0_chk561 (i : grid0.Coords) (k0_t2 : Fin k0_t2_loop.trips) (v609 : IVec S16 32) (v611 : IVec S16 32) : Prop :=
  (∀ (k0_h6 : k0_cond6 i k0_t2 = 1#1), ∀ a x, ((![v609, v611] : Fin 2 → IVec S16 32) a x).toNat < S32x128.size a)
theorem k0_idx561_inb : ∀ (i : grid0.Coords) (k0_t2 : Fin k0_t2_loop.trips) (v609 : IVec S16 32) (v611 : IVec S16 32) (k0_hw561 : k0_chk561 i k0_t2 v609 v611), ∀ (k0_h6 : k0_cond6 i k0_t2 = 1#1), ∀ a x, ((![v609, v611] : Fin 2 → IVec S16 32) a x).toNat < S32x128.size a := fun i k0_t2 v609 v611 k0_hw561 k0_h6 => k0_hw561 k0_h6

def k0_chk562 (i : grid0.Coords) (k0_t2 : Fin k0_t2_loop.trips) (v621 : IVec S16 32) (v623 : IVec S16 32) : Prop :=
  (∀ (k0_h6 : k0_cond6 i k0_t2 = 1#1), ∀ a x, ((![v621, v623] : Fin 2 → IVec S16 32) a x).toNat < S32x128.size a)
theorem k0_idx562_inb : ∀ (i : grid0.Coords) (k0_t2 : Fin k0_t2_loop.trips) (v621 : IVec S16 32) (v623 : IVec S16 32) (k0_hw562 : k0_chk562 i k0_t2 v621 v623), ∀ (k0_h6 : k0_cond6 i k0_t2 = 1#1), ∀ a x, ((![v621, v623] : Fin 2 → IVec S16 32) a x).toNat < S32x128.size a := fun i k0_t2 v621 v623 k0_hw562 k0_h6 => k0_hw562 k0_h6

def k0_chk563 (i : grid0.Coords) (k0_t2 : Fin k0_t2_loop.trips) (v633 : IVec S16 32) (v635 : IVec S16 32) : Prop :=
  (∀ (k0_h6 : k0_cond6 i k0_t2 = 1#1), ∀ a x, ((![v633, v635] : Fin 2 → IVec S16 32) a x).toNat < S32x128.size a)
theorem k0_idx563_inb : ∀ (i : grid0.Coords) (k0_t2 : Fin k0_t2_loop.trips) (v633 : IVec S16 32) (v635 : IVec S16 32) (k0_hw563 : k0_chk563 i k0_t2 v633 v635), ∀ (k0_h6 : k0_cond6 i k0_t2 = 1#1), ∀ a x, ((![v633, v635] : Fin 2 → IVec S16 32) a x).toNat < S32x128.size a := fun i k0_t2 v633 v635 k0_hw563 k0_h6 => k0_hw563 k0_h6

def k0_chk564 (i : grid0.Coords) (k0_t2 : Fin k0_t2_loop.trips) (v645 : IVec S16 32) (v647 : IVec S16 32) : Prop :=
  (∀ (k0_h6 : k0_cond6 i k0_t2 = 1#1), ∀ a x, ((![v645, v647] : Fin 2 → IVec S16 32) a x).toNat < S32x128.size a)
theorem k0_idx564_inb : ∀ (i : grid0.Coords) (k0_t2 : Fin k0_t2_loop.trips) (v645 : IVec S16 32) (v647 : IVec S16 32) (k0_hw564 : k0_chk564 i k0_t2 v645 v647), ∀ (k0_h6 : k0_cond6 i k0_t2 = 1#1), ∀ a x, ((![v645, v647] : Fin 2 → IVec S16 32) a x).toNat < S32x128.size a := fun i k0_t2 v645 v647 k0_hw564 k0_h6 => k0_hw564 k0_h6

def k0_chk565 (i : grid0.Coords) (k0_t2 : Fin k0_t2_loop.trips) (v657 : IVec S16 32) (v659 : IVec S16 32) : Prop :=
  (∀ (k0_h6 : k0_cond6 i k0_t2 = 1#1), ∀ a x, ((![v657, v659] : Fin 2 → IVec S16 32) a x).toNat < S32x128.size a)
theorem k0_idx565_inb : ∀ (i : grid0.Coords) (k0_t2 : Fin k0_t2_loop.trips) (v657 : IVec S16 32) (v659 : IVec S16 32) (k0_hw565 : k0_chk565 i k0_t2 v657 v659), ∀ (k0_h6 : k0_cond6 i k0_t2 = 1#1), ∀ a x, ((![v657, v659] : Fin 2 → IVec S16 32) a x).toNat < S32x128.size a := fun i k0_t2 v657 v659 k0_hw565 k0_h6 => k0_hw565 k0_h6

def k0_chk566 (i : grid0.Coords) (k0_t2 : Fin k0_t2_loop.trips) (v669 : IVec S16 32) (v671 : IVec S16 32) : Prop :=
  (∀ (k0_h6 : k0_cond6 i k0_t2 = 1#1), ∀ a x, ((![v669, v671] : Fin 2 → IVec S16 32) a x).toNat < S32x128.size a)
theorem k0_idx566_inb : ∀ (i : grid0.Coords) (k0_t2 : Fin k0_t2_loop.trips) (v669 : IVec S16 32) (v671 : IVec S16 32) (k0_hw566 : k0_chk566 i k0_t2 v669 v671), ∀ (k0_h6 : k0_cond6 i k0_t2 = 1#1), ∀ a x, ((![v669, v671] : Fin 2 → IVec S16 32) a x).toNat < S32x128.size a := fun i k0_t2 v669 v671 k0_hw566 k0_h6 => k0_hw566 k0_h6

def k0_chk567 (i : grid0.Coords) (k0_t2 : Fin k0_t2_loop.trips) (v681 : IVec S16 32) (v683 : IVec S16 32) : Prop :=
  (∀ (k0_h6 : k0_cond6 i k0_t2 = 1#1), ∀ a x, ((![v681, v683] : Fin 2 → IVec S16 32) a x).toNat < S32x128.size a)
theorem k0_idx567_inb : ∀ (i : grid0.Coords) (k0_t2 : Fin k0_t2_loop.trips) (v681 : IVec S16 32) (v683 : IVec S16 32) (k0_hw567 : k0_chk567 i k0_t2 v681 v683), ∀ (k0_h6 : k0_cond6 i k0_t2 = 1#1), ∀ a x, ((![v681, v683] : Fin 2 → IVec S16 32) a x).toNat < S32x128.size a := fun i k0_t2 v681 v683 k0_hw567 k0_h6 => k0_hw567 k0_h6

def k0_chk568 (i : grid0.Coords) (k0_t2 : Fin k0_t2_loop.trips) (v693 : IVec S16 32) (v695 : IVec S16 32) : Prop :=
  (∀ (k0_h6 : k0_cond6 i k0_t2 = 1#1), ∀ a x, ((![v693, v695] : Fin 2 → IVec S16 32) a x).toNat < S32x128.size a)
theorem k0_idx568_inb : ∀ (i : grid0.Coords) (k0_t2 : Fin k0_t2_loop.trips) (v693 : IVec S16 32) (v695 : IVec S16 32) (k0_hw568 : k0_chk568 i k0_t2 v693 v695), ∀ (k0_h6 : k0_cond6 i k0_t2 = 1#1), ∀ a x, ((![v693, v695] : Fin 2 → IVec S16 32) a x).toNat < S32x128.size a := fun i k0_t2 v693 v695 k0_hw568 k0_h6 => k0_hw568 k0_h6

def k0_chk569 (i : grid0.Coords) (k0_t2 : Fin k0_t2_loop.trips) (v705 : IVec S16 32) (v707 : IVec S16 32) : Prop :=
  (∀ (k0_h6 : k0_cond6 i k0_t2 = 1#1), ∀ a x, ((![v705, v707] : Fin 2 → IVec S16 32) a x).toNat < S32x128.size a)
theorem k0_idx569_inb : ∀ (i : grid0.Coords) (k0_t2 : Fin k0_t2_loop.trips) (v705 : IVec S16 32) (v707 : IVec S16 32) (k0_hw569 : k0_chk569 i k0_t2 v705 v707), ∀ (k0_h6 : k0_cond6 i k0_t2 = 1#1), ∀ a x, ((![v705, v707] : Fin 2 → IVec S16 32) a x).toNat < S32x128.size a := fun i k0_t2 v705 v707 k0_hw569 k0_h6 => k0_hw569 k0_h6

def k0_chk570 (i : grid0.Coords) (k0_t2 : Fin k0_t2_loop.trips) (v717 : IVec S16 32) (v719 : IVec S16 32) : Prop :=
  (∀ (k0_h6 : k0_cond6 i k0_t2 = 1#1), ∀ a x, ((![v717, v719] : Fin 2 → IVec S16 32) a x).toNat < S32x128.size a)
theorem k0_idx570_inb : ∀ (i : grid0.Coords) (k0_t2 : Fin k0_t2_loop.trips) (v717 : IVec S16 32) (v719 : IVec S16 32) (k0_hw570 : k0_chk570 i k0_t2 v717 v719), ∀ (k0_h6 : k0_cond6 i k0_t2 = 1#1), ∀ a x, ((![v717, v719] : Fin 2 → IVec S16 32) a x).toNat < S32x128.size a := fun i k0_t2 v717 v719 k0_hw570 k0_h6 => k0_hw570 k0_h6

def k0_chk571 (i : grid0.Coords) (k0_t2 : Fin k0_t2_loop.trips) (v729 : IVec S16 32) (v731 : IVec S16 32) : Prop :=
  (∀ (k0_h6 : k0_cond6 i k0_t2 = 1#1), ∀ a x, ((![v729, v731] : Fin 2 → IVec S16 32) a x).toNat < S32x128.size a)
theorem k0_idx571_inb : ∀ (i : grid0.Coords) (k0_t2 : Fin k0_t2_loop.trips) (v729 : IVec S16 32) (v731 : IVec S16 32) (k0_hw571 : k0_chk571 i k0_t2 v729 v731), ∀ (k0_h6 : k0_cond6 i k0_t2 = 1#1), ∀ a x, ((![v729, v731] : Fin 2 → IVec S16 32) a x).toNat < S32x128.size a := fun i k0_t2 v729 v731 k0_hw571 k0_h6 => k0_hw571 k0_h6

def k0_chk572 (i : grid0.Coords) (k0_t2 : Fin k0_t2_loop.trips) (v741 : IVec S16 32) (v743 : IVec S16 32) : Prop :=
  (∀ (k0_h6 : k0_cond6 i k0_t2 = 1#1), ∀ a x, ((![v741, v743] : Fin 2 → IVec S16 32) a x).toNat < S32x128.size a)
theorem k0_idx572_inb : ∀ (i : grid0.Coords) (k0_t2 : Fin k0_t2_loop.trips) (v741 : IVec S16 32) (v743 : IVec S16 32) (k0_hw572 : k0_chk572 i k0_t2 v741 v743), ∀ (k0_h6 : k0_cond6 i k0_t2 = 1#1), ∀ a x, ((![v741, v743] : Fin 2 → IVec S16 32) a x).toNat < S32x128.size a := fun i k0_t2 v741 v743 k0_hw572 k0_h6 => k0_hw572 k0_h6

def k0_chk573 (i : grid0.Coords) (k0_t2 : Fin k0_t2_loop.trips) (v753 : IVec S16 32) (v755 : IVec S16 32) : Prop :=
  (∀ (k0_h6 : k0_cond6 i k0_t2 = 1#1), ∀ a x, ((![v753, v755] : Fin 2 → IVec S16 32) a x).toNat < S32x128.size a)
theorem k0_idx573_inb : ∀ (i : grid0.Coords) (k0_t2 : Fin k0_t2_loop.trips) (v753 : IVec S16 32) (v755 : IVec S16 32) (k0_hw573 : k0_chk573 i k0_t2 v753 v755), ∀ (k0_h6 : k0_cond6 i k0_t2 = 1#1), ∀ a x, ((![v753, v755] : Fin 2 → IVec S16 32) a x).toNat < S32x128.size a := fun i k0_t2 v753 v755 k0_hw573 k0_h6 => k0_hw573 k0_h6

def k0_chk574 (i : grid0.Coords) (k0_t2 : Fin k0_t2_loop.trips) (v765 : IVec S16 32) (v767 : IVec S16 32) : Prop :=
  (∀ (k0_h6 : k0_cond6 i k0_t2 = 1#1), ∀ a x, ((![v765, v767] : Fin 2 → IVec S16 32) a x).toNat < S32x128.size a)
theorem k0_idx574_inb : ∀ (i : grid0.Coords) (k0_t2 : Fin k0_t2_loop.trips) (v765 : IVec S16 32) (v767 : IVec S16 32) (k0_hw574 : k0_chk574 i k0_t2 v765 v767), ∀ (k0_h6 : k0_cond6 i k0_t2 = 1#1), ∀ a x, ((![v765, v767] : Fin 2 → IVec S16 32) a x).toNat < S32x128.size a := fun i k0_t2 v765 v767 k0_hw574 k0_h6 => k0_hw574 k0_h6

def k0_chk575 (i : grid0.Coords) (k0_t2 : Fin k0_t2_loop.trips) (v777 : IVec S16 32) (v779 : IVec S16 32) : Prop :=
  (∀ (k0_h6 : k0_cond6 i k0_t2 = 1#1), ∀ a x, ((![v777, v779] : Fin 2 → IVec S16 32) a x).toNat < S32x128.size a)
theorem k0_idx575_inb : ∀ (i : grid0.Coords) (k0_t2 : Fin k0_t2_loop.trips) (v777 : IVec S16 32) (v779 : IVec S16 32) (k0_hw575 : k0_chk575 i k0_t2 v777 v779), ∀ (k0_h6 : k0_cond6 i k0_t2 = 1#1), ∀ a x, ((![v777, v779] : Fin 2 → IVec S16 32) a x).toNat < S32x128.size a := fun i k0_t2 v777 v779 k0_hw575 k0_h6 => k0_hw575 k0_h6

def k0_chk576 (i : grid0.Coords) (k0_t2 : Fin k0_t2_loop.trips) (v789 : IVec S16 32) (v791 : IVec S16 32) : Prop :=
  (∀ (k0_h6 : k0_cond6 i k0_t2 = 1#1), ∀ a x, ((![v789, v791] : Fin 2 → IVec S16 32) a x).toNat < S32x128.size a)
theorem k0_idx576_inb : ∀ (i : grid0.Coords) (k0_t2 : Fin k0_t2_loop.trips) (v789 : IVec S16 32) (v791 : IVec S16 32) (k0_hw576 : k0_chk576 i k0_t2 v789 v791), ∀ (k0_h6 : k0_cond6 i k0_t2 = 1#1), ∀ a x, ((![v789, v791] : Fin 2 → IVec S16 32) a x).toNat < S32x128.size a := fun i k0_t2 v789 v791 k0_hw576 k0_h6 => k0_hw576 k0_h6

def k0_chk577 (i : grid0.Coords) (k0_t2 : Fin k0_t2_loop.trips) (v801 : IVec S16 32) (v803 : IVec S16 32) : Prop :=
  (∀ (k0_h6 : k0_cond6 i k0_t2 = 1#1), ∀ a x, ((![v801, v803] : Fin 2 → IVec S16 32) a x).toNat < S32x128.size a)
theorem k0_idx577_inb : ∀ (i : grid0.Coords) (k0_t2 : Fin k0_t2_loop.trips) (v801 : IVec S16 32) (v803 : IVec S16 32) (k0_hw577 : k0_chk577 i k0_t2 v801 v803), ∀ (k0_h6 : k0_cond6 i k0_t2 = 1#1), ∀ a x, ((![v801, v803] : Fin 2 → IVec S16 32) a x).toNat < S32x128.size a := fun i k0_t2 v801 v803 k0_hw577 k0_h6 => k0_hw577 k0_h6

def k0_chk578 (i : grid0.Coords) (k0_t2 : Fin k0_t2_loop.trips) (v813 : IVec S16 32) (v815 : IVec S16 32) : Prop :=
  (∀ (k0_h6 : k0_cond6 i k0_t2 = 1#1), ∀ a x, ((![v813, v815] : Fin 2 → IVec S16 32) a x).toNat < S32x128.size a)
theorem k0_idx578_inb : ∀ (i : grid0.Coords) (k0_t2 : Fin k0_t2_loop.trips) (v813 : IVec S16 32) (v815 : IVec S16 32) (k0_hw578 : k0_chk578 i k0_t2 v813 v815), ∀ (k0_h6 : k0_cond6 i k0_t2 = 1#1), ∀ a x, ((![v813, v815] : Fin 2 → IVec S16 32) a x).toNat < S32x128.size a := fun i k0_t2 v813 v815 k0_hw578 k0_h6 => k0_hw578 k0_h6

def k0_chk579 (i : grid0.Coords) (k0_t2 : Fin k0_t2_loop.trips) (v825 : IVec S16 32) (v827 : IVec S16 32) : Prop :=
  (∀ (k0_h6 : k0_cond6 i k0_t2 = 1#1), ∀ a x, ((![v825, v827] : Fin 2 → IVec S16 32) a x).toNat < S32x128.size a)
theorem k0_idx579_inb : ∀ (i : grid0.Coords) (k0_t2 : Fin k0_t2_loop.trips) (v825 : IVec S16 32) (v827 : IVec S16 32) (k0_hw579 : k0_chk579 i k0_t2 v825 v827), ∀ (k0_h6 : k0_cond6 i k0_t2 = 1#1), ∀ a x, ((![v825, v827] : Fin 2 → IVec S16 32) a x).toNat < S32x128.size a := fun i k0_t2 v825 v827 k0_hw579 k0_h6 => k0_hw579 k0_h6

def k0_chk580 (i : grid0.Coords) (k0_t2 : Fin k0_t2_loop.trips) (v837 : IVec S16 32) (v839 : IVec S16 32) : Prop :=
  (∀ (k0_h6 : k0_cond6 i k0_t2 = 1#1), ∀ a x, ((![v837, v839] : Fin 2 → IVec S16 32) a x).toNat < S32x128.size a)
theorem k0_idx580_inb : ∀ (i : grid0.Coords) (k0_t2 : Fin k0_t2_loop.trips) (v837 : IVec S16 32) (v839 : IVec S16 32) (k0_hw580 : k0_chk580 i k0_t2 v837 v839), ∀ (k0_h6 : k0_cond6 i k0_t2 = 1#1), ∀ a x, ((![v837, v839] : Fin 2 → IVec S16 32) a x).toNat < S32x128.size a := fun i k0_t2 v837 v839 k0_hw580 k0_h6 => k0_hw580 k0_h6

def k0_chk581 (i : grid0.Coords) (k0_t2 : Fin k0_t2_loop.trips) (v849 : IVec S16 32) (v851 : IVec S16 32) : Prop :=
  (∀ (k0_h6 : k0_cond6 i k0_t2 = 1#1), ∀ a x, ((![v849, v851] : Fin 2 → IVec S16 32) a x).toNat < S32x128.size a)
theorem k0_idx581_inb : ∀ (i : grid0.Coords) (k0_t2 : Fin k0_t2_loop.trips) (v849 : IVec S16 32) (v851 : IVec S16 32) (k0_hw581 : k0_chk581 i k0_t2 v849 v851), ∀ (k0_h6 : k0_cond6 i k0_t2 = 1#1), ∀ a x, ((![v849, v851] : Fin 2 → IVec S16 32) a x).toNat < S32x128.size a := fun i k0_t2 v849 v851 k0_hw581 k0_h6 => k0_hw581 k0_h6

def k0_chk582 (i : grid0.Coords) (k0_t2 : Fin k0_t2_loop.trips) (v861 : IVec S16 32) (v863 : IVec S16 32) : Prop :=
  (∀ (k0_h6 : k0_cond6 i k0_t2 = 1#1), ∀ a x, ((![v861, v863] : Fin 2 → IVec S16 32) a x).toNat < S32x128.size a)
theorem k0_idx582_inb : ∀ (i : grid0.Coords) (k0_t2 : Fin k0_t2_loop.trips) (v861 : IVec S16 32) (v863 : IVec S16 32) (k0_hw582 : k0_chk582 i k0_t2 v861 v863), ∀ (k0_h6 : k0_cond6 i k0_t2 = 1#1), ∀ a x, ((![v861, v863] : Fin 2 → IVec S16 32) a x).toNat < S32x128.size a := fun i k0_t2 v861 v863 k0_hw582 k0_h6 => k0_hw582 k0_h6

def k0_chk583 (i : grid0.Coords) (k0_t2 : Fin k0_t2_loop.trips) (v873 : IVec S16 32) (v875 : IVec S16 32) : Prop :=
  (∀ (k0_h6 : k0_cond6 i k0_t2 = 1#1), ∀ a x, ((![v873, v875] : Fin 2 → IVec S16 32) a x).toNat < S32x128.size a)
theorem k0_idx583_inb : ∀ (i : grid0.Coords) (k0_t2 : Fin k0_t2_loop.trips) (v873 : IVec S16 32) (v875 : IVec S16 32) (k0_hw583 : k0_chk583 i k0_t2 v873 v875), ∀ (k0_h6 : k0_cond6 i k0_t2 = 1#1), ∀ a x, ((![v873, v875] : Fin 2 → IVec S16 32) a x).toNat < S32x128.size a := fun i k0_t2 v873 v875 k0_hw583 k0_h6 => k0_hw583 k0_h6

def k0_chk584 (i : grid0.Coords) (k0_t2 : Fin k0_t2_loop.trips) (v885 : IVec S16 32) (v887 : IVec S16 32) : Prop :=
  (∀ (k0_h6 : k0_cond6 i k0_t2 = 1#1), ∀ a x, ((![v885, v887] : Fin 2 → IVec S16 32) a x).toNat < S32x128.size a)
theorem k0_idx584_inb : ∀ (i : grid0.Coords) (k0_t2 : Fin k0_t2_loop.trips) (v885 : IVec S16 32) (v887 : IVec S16 32) (k0_hw584 : k0_chk584 i k0_t2 v885 v887), ∀ (k0_h6 : k0_cond6 i k0_t2 = 1#1), ∀ a x, ((![v885, v887] : Fin 2 → IVec S16 32) a x).toNat < S32x128.size a := fun i k0_t2 v885 v887 k0_hw584 k0_h6 => k0_hw584 k0_h6

def k0_chk585 (i : grid0.Coords) (k0_t2 : Fin k0_t2_loop.trips) (v897 : IVec S16 32) (v899 : IVec S16 32) : Prop :=
  (∀ (k0_h6 : k0_cond6 i k0_t2 = 1#1), ∀ a x, ((![v897, v899] : Fin 2 → IVec S16 32) a x).toNat < S32x128.size a)
theorem k0_idx585_inb : ∀ (i : grid0.Coords) (k0_t2 : Fin k0_t2_loop.trips) (v897 : IVec S16 32) (v899 : IVec S16 32) (k0_hw585 : k0_chk585 i k0_t2 v897 v899), ∀ (k0_h6 : k0_cond6 i k0_t2 = 1#1), ∀ a x, ((![v897, v899] : Fin 2 → IVec S16 32) a x).toNat < S32x128.size a := fun i k0_t2 v897 v899 k0_hw585 k0_h6 => k0_hw585 k0_h6

def k0_chk586 (i : grid0.Coords) (k0_t2 : Fin k0_t2_loop.trips) (v909 : IVec S16 32) (v911 : IVec S16 32) : Prop :=
  (∀ (k0_h6 : k0_cond6 i k0_t2 = 1#1), ∀ a x, ((![v909, v911] : Fin 2 → IVec S16 32) a x).toNat < S32x128.size a)
theorem k0_idx586_inb : ∀ (i : grid0.Coords) (k0_t2 : Fin k0_t2_loop.trips) (v909 : IVec S16 32) (v911 : IVec S16 32) (k0_hw586 : k0_chk586 i k0_t2 v909 v911), ∀ (k0_h6 : k0_cond6 i k0_t2 = 1#1), ∀ a x, ((![v909, v911] : Fin 2 → IVec S16 32) a x).toNat < S32x128.size a := fun i k0_t2 v909 v911 k0_hw586 k0_h6 => k0_hw586 k0_h6

def k0_chk587 (i : grid0.Coords) (k0_t2 : Fin k0_t2_loop.trips) (v921 : IVec S16 32) (v923 : IVec S16 32) : Prop :=
  (∀ (k0_h6 : k0_cond6 i k0_t2 = 1#1), ∀ a x, ((![v921, v923] : Fin 2 → IVec S16 32) a x).toNat < S32x128.size a)
theorem k0_idx587_inb : ∀ (i : grid0.Coords) (k0_t2 : Fin k0_t2_loop.trips) (v921 : IVec S16 32) (v923 : IVec S16 32) (k0_hw587 : k0_chk587 i k0_t2 v921 v923), ∀ (k0_h6 : k0_cond6 i k0_t2 = 1#1), ∀ a x, ((![v921, v923] : Fin 2 → IVec S16 32) a x).toNat < S32x128.size a := fun i k0_t2 v921 v923 k0_hw587 k0_h6 => k0_hw587 k0_h6

def k0_chk588 (i : grid0.Coords) (k0_t2 : Fin k0_t2_loop.trips) (v933 : IVec S16 32) (v935 : IVec S16 32) : Prop :=
  (∀ (k0_h6 : k0_cond6 i k0_t2 = 1#1), ∀ a x, ((![v933, v935] : Fin 2 → IVec S16 32) a x).toNat < S32x128.size a)
theorem k0_idx588_inb : ∀ (i : grid0.Coords) (k0_t2 : Fin k0_t2_loop.trips) (v933 : IVec S16 32) (v935 : IVec S16 32) (k0_hw588 : k0_chk588 i k0_t2 v933 v935), ∀ (k0_h6 : k0_cond6 i k0_t2 = 1#1), ∀ a x, ((![v933, v935] : Fin 2 → IVec S16 32) a x).toNat < S32x128.size a := fun i k0_t2 v933 v935 k0_hw588 k0_h6 => k0_hw588 k0_h6

def k0_chk589 (i : grid0.Coords) (k0_t2 : Fin k0_t2_loop.trips) (v945 : IVec S16 32) (v947 : IVec S16 32) : Prop :=
  (∀ (k0_h6 : k0_cond6 i k0_t2 = 1#1), ∀ a x, ((![v945, v947] : Fin 2 → IVec S16 32) a x).toNat < S32x128.size a)
theorem k0_idx589_inb : ∀ (i : grid0.Coords) (k0_t2 : Fin k0_t2_loop.trips) (v945 : IVec S16 32) (v947 : IVec S16 32) (k0_hw589 : k0_chk589 i k0_t2 v945 v947), ∀ (k0_h6 : k0_cond6 i k0_t2 = 1#1), ∀ a x, ((![v945, v947] : Fin 2 → IVec S16 32) a x).toNat < S32x128.size a := fun i k0_t2 v945 v947 k0_hw589 k0_h6 => k0_hw589 k0_h6

def k0_chk590 (i : grid0.Coords) (k0_t2 : Fin k0_t2_loop.trips) (v957 : IVec S16 32) (v959 : IVec S16 32) : Prop :=
  (∀ (k0_h6 : k0_cond6 i k0_t2 = 1#1), ∀ a x, ((![v957, v959] : Fin 2 → IVec S16 32) a x).toNat < S32x128.size a)
theorem k0_idx590_inb : ∀ (i : grid0.Coords) (k0_t2 : Fin k0_t2_loop.trips) (v957 : IVec S16 32) (v959 : IVec S16 32) (k0_hw590 : k0_chk590 i k0_t2 v957 v959), ∀ (k0_h6 : k0_cond6 i k0_t2 = 1#1), ∀ a x, ((![v957, v959] : Fin 2 → IVec S16 32) a x).toNat < S32x128.size a := fun i k0_t2 v957 v959 k0_hw590 k0_h6 => k0_hw590 k0_h6

def k0_chk591 (i : grid0.Coords) (k0_t2 : Fin k0_t2_loop.trips) (v969 : IVec S16 32) (v971 : IVec S16 32) : Prop :=
  (∀ (k0_h6 : k0_cond6 i k0_t2 = 1#1), ∀ a x, ((![v969, v971] : Fin 2 → IVec S16 32) a x).toNat < S32x128.size a)
theorem k0_idx591_inb : ∀ (i : grid0.Coords) (k0_t2 : Fin k0_t2_loop.trips) (v969 : IVec S16 32) (v971 : IVec S16 32) (k0_hw591 : k0_chk591 i k0_t2 v969 v971), ∀ (k0_h6 : k0_cond6 i k0_t2 = 1#1), ∀ a x, ((![v969, v971] : Fin 2 → IVec S16 32) a x).toNat < S32x128.size a := fun i k0_t2 v969 v971 k0_hw591 k0_h6 => k0_hw591 k0_h6

def k0_chk592 (i : grid0.Coords) (k0_t2 : Fin k0_t2_loop.trips) (v981 : IVec S16 32) (v983 : IVec S16 32) : Prop :=
  (∀ (k0_h6 : k0_cond6 i k0_t2 = 1#1), ∀ a x, ((![v981, v983] : Fin 2 → IVec S16 32) a x).toNat < S32x128.size a)
theorem k0_idx592_inb : ∀ (i : grid0.Coords) (k0_t2 : Fin k0_t2_loop.trips) (v981 : IVec S16 32) (v983 : IVec S16 32) (k0_hw592 : k0_chk592 i k0_t2 v981 v983), ∀ (k0_h6 : k0_cond6 i k0_t2 = 1#1), ∀ a x, ((![v981, v983] : Fin 2 → IVec S16 32) a x).toNat < S32x128.size a := fun i k0_t2 v981 v983 k0_hw592 k0_h6 => k0_hw592 k0_h6

def k0_chk593 (i : grid0.Coords) (k0_t2 : Fin k0_t2_loop.trips) (v993 : IVec S16 32) (v995 : IVec S16 32) : Prop :=
  (∀ (k0_h6 : k0_cond6 i k0_t2 = 1#1), ∀ a x, ((![v993, v995] : Fin 2 → IVec S16 32) a x).toNat < S32x128.size a)
theorem k0_idx593_inb : ∀ (i : grid0.Coords) (k0_t2 : Fin k0_t2_loop.trips) (v993 : IVec S16 32) (v995 : IVec S16 32) (k0_hw593 : k0_chk593 i k0_t2 v993 v995), ∀ (k0_h6 : k0_cond6 i k0_t2 = 1#1), ∀ a x, ((![v993, v995] : Fin 2 → IVec S16 32) a x).toNat < S32x128.size a := fun i k0_t2 v993 v995 k0_hw593 k0_h6 => k0_hw593 k0_h6

def k0_chk594 (i : grid0.Coords) (k0_t2 : Fin k0_t2_loop.trips) (v1005 : IVec S16 32) (v1007 : IVec S16 32) : Prop :=
  (∀ (k0_h6 : k0_cond6 i k0_t2 = 1#1), ∀ a x, ((![v1005, v1007] : Fin 2 → IVec S16 32) a x).toNat < S32x128.size a)
theorem k0_idx594_inb : ∀ (i : grid0.Coords) (k0_t2 : Fin k0_t2_loop.trips) (v1005 : IVec S16 32) (v1007 : IVec S16 32) (k0_hw594 : k0_chk594 i k0_t2 v1005 v1007), ∀ (k0_h6 : k0_cond6 i k0_t2 = 1#1), ∀ a x, ((![v1005, v1007] : Fin 2 → IVec S16 32) a x).toNat < S32x128.size a := fun i k0_t2 v1005 v1007 k0_hw594 k0_h6 => k0_hw594 k0_h6

def k0_chk595 (i : grid0.Coords) (k0_t2 : Fin k0_t2_loop.trips) (v1017 : IVec S16 32) (v1019 : IVec S16 32) : Prop :=
  (∀ (k0_h6 : k0_cond6 i k0_t2 = 1#1), ∀ a x, ((![v1017, v1019] : Fin 2 → IVec S16 32) a x).toNat < S32x128.size a)
theorem k0_idx595_inb : ∀ (i : grid0.Coords) (k0_t2 : Fin k0_t2_loop.trips) (v1017 : IVec S16 32) (v1019 : IVec S16 32) (k0_hw595 : k0_chk595 i k0_t2 v1017 v1019), ∀ (k0_h6 : k0_cond6 i k0_t2 = 1#1), ∀ a x, ((![v1017, v1019] : Fin 2 → IVec S16 32) a x).toNat < S32x128.size a := fun i k0_t2 v1017 v1019 k0_hw595 k0_h6 => k0_hw595 k0_h6

def k0_chk596 (i : grid0.Coords) (k0_t2 : Fin k0_t2_loop.trips) (v1029 : IVec S16 32) (v1031 : IVec S16 32) : Prop :=
  (∀ (k0_h6 : k0_cond6 i k0_t2 = 1#1), ∀ a x, ((![v1029, v1031] : Fin 2 → IVec S16 32) a x).toNat < S32x128.size a)
theorem k0_idx596_inb : ∀ (i : grid0.Coords) (k0_t2 : Fin k0_t2_loop.trips) (v1029 : IVec S16 32) (v1031 : IVec S16 32) (k0_hw596 : k0_chk596 i k0_t2 v1029 v1031), ∀ (k0_h6 : k0_cond6 i k0_t2 = 1#1), ∀ a x, ((![v1029, v1031] : Fin 2 → IVec S16 32) a x).toNat < S32x128.size a := fun i k0_t2 v1029 v1031 k0_hw596 k0_h6 => k0_hw596 k0_h6

def k0_chk597 (i : grid0.Coords) (k0_t2 : Fin k0_t2_loop.trips) (v1041 : IVec S16 32) (v1043 : IVec S16 32) : Prop :=
  (∀ (k0_h6 : k0_cond6 i k0_t2 = 1#1), ∀ a x, ((![v1041, v1043] : Fin 2 → IVec S16 32) a x).toNat < S32x128.size a)
theorem k0_idx597_inb : ∀ (i : grid0.Coords) (k0_t2 : Fin k0_t2_loop.trips) (v1041 : IVec S16 32) (v1043 : IVec S16 32) (k0_hw597 : k0_chk597 i k0_t2 v1041 v1043), ∀ (k0_h6 : k0_cond6 i k0_t2 = 1#1), ∀ a x, ((![v1041, v1043] : Fin 2 → IVec S16 32) a x).toNat < S32x128.size a := fun i k0_t2 v1041 v1043 k0_hw597 k0_h6 => k0_hw597 k0_h6

def k0_chk598 (i : grid0.Coords) (k0_t2 : Fin k0_t2_loop.trips) (v1053 : IVec S16 32) (v1055 : IVec S16 32) : Prop :=
  (∀ (k0_h6 : k0_cond6 i k0_t2 = 1#1), ∀ a x, ((![v1053, v1055] : Fin 2 → IVec S16 32) a x).toNat < S32x128.size a)
theorem k0_idx598_inb : ∀ (i : grid0.Coords) (k0_t2 : Fin k0_t2_loop.trips) (v1053 : IVec S16 32) (v1055 : IVec S16 32) (k0_hw598 : k0_chk598 i k0_t2 v1053 v1055), ∀ (k0_h6 : k0_cond6 i k0_t2 = 1#1), ∀ a x, ((![v1053, v1055] : Fin 2 → IVec S16 32) a x).toNat < S32x128.size a := fun i k0_t2 v1053 v1055 k0_hw598 k0_h6 => k0_hw598 k0_h6

def k0_chk599 (i : grid0.Coords) (k0_t2 : Fin k0_t2_loop.trips) (v1065 : IVec S16 32) (v1067 : IVec S16 32) : Prop :=
  (∀ (k0_h6 : k0_cond6 i k0_t2 = 1#1), ∀ a x, ((![v1065, v1067] : Fin 2 → IVec S16 32) a x).toNat < S32x128.size a)
theorem k0_idx599_inb : ∀ (i : grid0.Coords) (k0_t2 : Fin k0_t2_loop.trips) (v1065 : IVec S16 32) (v1067 : IVec S16 32) (k0_hw599 : k0_chk599 i k0_t2 v1065 v1067), ∀ (k0_h6 : k0_cond6 i k0_t2 = 1#1), ∀ a x, ((![v1065, v1067] : Fin 2 → IVec S16 32) a x).toNat < S32x128.size a := fun i k0_t2 v1065 v1067 k0_hw599 k0_h6 => k0_hw599 k0_h6

def k0_chk600 (i : grid0.Coords) (k0_t2 : Fin k0_t2_loop.trips) (v1077 : IVec S16 32) (v1079 : IVec S16 32) : Prop :=
  (∀ (k0_h6 : k0_cond6 i k0_t2 = 1#1), ∀ a x, ((![v1077, v1079] : Fin 2 → IVec S16 32) a x).toNat < S32x128.size a)
theorem k0_idx600_inb : ∀ (i : grid0.Coords) (k0_t2 : Fin k0_t2_loop.trips) (v1077 : IVec S16 32) (v1079 : IVec S16 32) (k0_hw600 : k0_chk600 i k0_t2 v1077 v1079), ∀ (k0_h6 : k0_cond6 i k0_t2 = 1#1), ∀ a x, ((![v1077, v1079] : Fin 2 → IVec S16 32) a x).toNat < S32x128.size a := fun i k0_t2 v1077 v1079 k0_hw600 k0_h6 => k0_hw600 k0_h6

def k0_chk601 (i : grid0.Coords) (k0_t2 : Fin k0_t2_loop.trips) (v1089 : IVec S16 32) (v1091 : IVec S16 32) : Prop :=
  (∀ (k0_h6 : k0_cond6 i k0_t2 = 1#1), ∀ a x, ((![v1089, v1091] : Fin 2 → IVec S16 32) a x).toNat < S32x128.size a)
theorem k0_idx601_inb : ∀ (i : grid0.Coords) (k0_t2 : Fin k0_t2_loop.trips) (v1089 : IVec S16 32) (v1091 : IVec S16 32) (k0_hw601 : k0_chk601 i k0_t2 v1089 v1091), ∀ (k0_h6 : k0_cond6 i k0_t2 = 1#1), ∀ a x, ((![v1089, v1091] : Fin 2 → IVec S16 32) a x).toNat < S32x128.size a := fun i k0_t2 v1089 v1091 k0_hw601 k0_h6 => k0_hw601 k0_h6

def k0_chk602 (i : grid0.Coords) (k0_t2 : Fin k0_t2_loop.trips) (v1101 : IVec S16 32) (v1103 : IVec S16 32) : Prop :=
  (∀ (k0_h6 : k0_cond6 i k0_t2 = 1#1), ∀ a x, ((![v1101, v1103] : Fin 2 → IVec S16 32) a x).toNat < S32x128.size a)
theorem k0_idx602_inb : ∀ (i : grid0.Coords) (k0_t2 : Fin k0_t2_loop.trips) (v1101 : IVec S16 32) (v1103 : IVec S16 32) (k0_hw602 : k0_chk602 i k0_t2 v1101 v1103), ∀ (k0_h6 : k0_cond6 i k0_t2 = 1#1), ∀ a x, ((![v1101, v1103] : Fin 2 → IVec S16 32) a x).toNat < S32x128.size a := fun i k0_t2 v1101 v1103 k0_hw602 k0_h6 => k0_hw602 k0_h6

def k0_chk603 (i : grid0.Coords) (k0_t2 : Fin k0_t2_loop.trips) (v1113 : IVec S16 32) (v1115 : IVec S16 32) : Prop :=
  (∀ (k0_h6 : k0_cond6 i k0_t2 = 1#1), ∀ a x, ((![v1113, v1115] : Fin 2 → IVec S16 32) a x).toNat < S32x128.size a)
theorem k0_idx603_inb : ∀ (i : grid0.Coords) (k0_t2 : Fin k0_t2_loop.trips) (v1113 : IVec S16 32) (v1115 : IVec S16 32) (k0_hw603 : k0_chk603 i k0_t2 v1113 v1115), ∀ (k0_h6 : k0_cond6 i k0_t2 = 1#1), ∀ a x, ((![v1113, v1115] : Fin 2 → IVec S16 32) a x).toNat < S32x128.size a := fun i k0_t2 v1113 v1115 k0_hw603 k0_h6 => k0_hw603 k0_h6

def k0_chk604 (i : grid0.Coords) (k0_t2 : Fin k0_t2_loop.trips) (v1125 : IVec S16 32) (v1127 : IVec S16 32) : Prop :=
  (∀ (k0_h6 : k0_cond6 i k0_t2 = 1#1), ∀ a x, ((![v1125, v1127] : Fin 2 → IVec S16 32) a x).toNat < S32x128.size a)
theorem k0_idx604_inb : ∀ (i : grid0.Coords) (k0_t2 : Fin k0_t2_loop.trips) (v1125 : IVec S16 32) (v1127 : IVec S16 32) (k0_hw604 : k0_chk604 i k0_t2 v1125 v1127), ∀ (k0_h6 : k0_cond6 i k0_t2 = 1#1), ∀ a x, ((![v1125, v1127] : Fin 2 → IVec S16 32) a x).toNat < S32x128.size a := fun i k0_t2 v1125 v1127 k0_hw604 k0_h6 => k0_hw604 k0_h6

def k0_chk605 (i : grid0.Coords) (k0_t2 : Fin k0_t2_loop.trips) (v1137 : IVec S16 32) (v1139 : IVec S16 32) : Prop :=
  (∀ (k0_h6 : k0_cond6 i k0_t2 = 1#1), ∀ a x, ((![v1137, v1139] : Fin 2 → IVec S16 32) a x).toNat < S32x128.size a)
theorem k0_idx605_inb : ∀ (i : grid0.Coords) (k0_t2 : Fin k0_t2_loop.trips) (v1137 : IVec S16 32) (v1139 : IVec S16 32) (k0_hw605 : k0_chk605 i k0_t2 v1137 v1139), ∀ (k0_h6 : k0_cond6 i k0_t2 = 1#1), ∀ a x, ((![v1137, v1139] : Fin 2 → IVec S16 32) a x).toNat < S32x128.size a := fun i k0_t2 v1137 v1139 k0_hw605 k0_h6 => k0_hw605 k0_h6

def k0_chk606 (i : grid0.Coords) (k0_t2 : Fin k0_t2_loop.trips) (v1149 : IVec S16 32) (v1151 : IVec S16 32) : Prop :=
  (∀ (k0_h6 : k0_cond6 i k0_t2 = 1#1), ∀ a x, ((![v1149, v1151] : Fin 2 → IVec S16 32) a x).toNat < S32x128.size a)
theorem k0_idx606_inb : ∀ (i : grid0.Coords) (k0_t2 : Fin k0_t2_loop.trips) (v1149 : IVec S16 32) (v1151 : IVec S16 32) (k0_hw606 : k0_chk606 i k0_t2 v1149 v1151), ∀ (k0_h6 : k0_cond6 i k0_t2 = 1#1), ∀ a x, ((![v1149, v1151] : Fin 2 → IVec S16 32) a x).toNat < S32x128.size a := fun i k0_t2 v1149 v1151 k0_hw606 k0_h6 => k0_hw606 k0_h6

def k0_chk607 (i : grid0.Coords) (k0_t2 : Fin k0_t2_loop.trips) (v1161 : IVec S16 32) (v1163 : IVec S16 32) : Prop :=
  (∀ (k0_h6 : k0_cond6 i k0_t2 = 1#1), ∀ a x, ((![v1161, v1163] : Fin 2 → IVec S16 32) a x).toNat < S32x128.size a)
theorem k0_idx607_inb : ∀ (i : grid0.Coords) (k0_t2 : Fin k0_t2_loop.trips) (v1161 : IVec S16 32) (v1163 : IVec S16 32) (k0_hw607 : k0_chk607 i k0_t2 v1161 v1163), ∀ (k0_h6 : k0_cond6 i k0_t2 = 1#1), ∀ a x, ((![v1161, v1163] : Fin 2 → IVec S16 32) a x).toNat < S32x128.size a := fun i k0_t2 v1161 v1163 k0_hw607 k0_h6 => k0_hw607 k0_h6

def k0_chk608 (i : grid0.Coords) (k0_t2 : Fin k0_t2_loop.trips) (v1173 : IVec S16 32) (v1175 : IVec S16 32) : Prop :=
  (∀ (k0_h6 : k0_cond6 i k0_t2 = 1#1), ∀ a x, ((![v1173, v1175] : Fin 2 → IVec S16 32) a x).toNat < S32x128.size a)
theorem k0_idx608_inb : ∀ (i : grid0.Coords) (k0_t2 : Fin k0_t2_loop.trips) (v1173 : IVec S16 32) (v1175 : IVec S16 32) (k0_hw608 : k0_chk608 i k0_t2 v1173 v1175), ∀ (k0_h6 : k0_cond6 i k0_t2 = 1#1), ∀ a x, ((![v1173, v1175] : Fin 2 → IVec S16 32) a x).toNat < S32x128.size a := fun i k0_t2 v1173 v1175 k0_hw608 k0_h6 => k0_hw608 k0_h6

def k0_chk609 (i : grid0.Coords) (k0_t2 : Fin k0_t2_loop.trips) (v1185 : IVec S16 32) (v1187 : IVec S16 32) : Prop :=
  (∀ (k0_h6 : k0_cond6 i k0_t2 = 1#1), ∀ a x, ((![v1185, v1187] : Fin 2 → IVec S16 32) a x).toNat < S32x128.size a)
theorem k0_idx609_inb : ∀ (i : grid0.Coords) (k0_t2 : Fin k0_t2_loop.trips) (v1185 : IVec S16 32) (v1187 : IVec S16 32) (k0_hw609 : k0_chk609 i k0_t2 v1185 v1187), ∀ (k0_h6 : k0_cond6 i k0_t2 = 1#1), ∀ a x, ((![v1185, v1187] : Fin 2 → IVec S16 32) a x).toNat < S32x128.size a := fun i k0_t2 v1185 v1187 k0_hw609 k0_h6 => k0_hw609 k0_h6

def k0_chk610 (i : grid0.Coords) (k0_t2 : Fin k0_t2_loop.trips) (v1197 : IVec S16 32) (v1199 : IVec S16 32) : Prop :=
  (∀ (k0_h6 : k0_cond6 i k0_t2 = 1#1), ∀ a x, ((![v1197, v1199] : Fin 2 → IVec S16 32) a x).toNat < S32x128.size a)
theorem k0_idx610_inb : ∀ (i : grid0.Coords) (k0_t2 : Fin k0_t2_loop.trips) (v1197 : IVec S16 32) (v1199 : IVec S16 32) (k0_hw610 : k0_chk610 i k0_t2 v1197 v1199), ∀ (k0_h6 : k0_cond6 i k0_t2 = 1#1), ∀ a x, ((![v1197, v1199] : Fin 2 → IVec S16 32) a x).toNat < S32x128.size a := fun i k0_t2 v1197 v1199 k0_hw610 k0_h6 => k0_hw610 k0_h6

def k0_chk611 (i : grid0.Coords) (k0_t2 : Fin k0_t2_loop.trips) (v1209 : IVec S16 32) (v1211 : IVec S16 32) : Prop :=
  (∀ (k0_h6 : k0_cond6 i k0_t2 = 1#1), ∀ a x, ((![v1209, v1211] : Fin 2 → IVec S16 32) a x).toNat < S32x128.size a)
theorem k0_idx611_inb : ∀ (i : grid0.Coords) (k0_t2 : Fin k0_t2_loop.trips) (v1209 : IVec S16 32) (v1211 : IVec S16 32) (k0_hw611 : k0_chk611 i k0_t2 v1209 v1211), ∀ (k0_h6 : k0_cond6 i k0_t2 = 1#1), ∀ a x, ((![v1209, v1211] : Fin 2 → IVec S16 32) a x).toNat < S32x128.size a := fun i k0_t2 v1209 v1211 k0_hw611 k0_h6 => k0_hw611 k0_h6

def k0_chk612 (i : grid0.Coords) (k0_t2 : Fin k0_t2_loop.trips) (v1221 : IVec S16 32) (v1223 : IVec S16 32) : Prop :=
  (∀ (k0_h6 : k0_cond6 i k0_t2 = 1#1), ∀ a x, ((![v1221, v1223] : Fin 2 → IVec S16 32) a x).toNat < S32x128.size a)
theorem k0_idx612_inb : ∀ (i : grid0.Coords) (k0_t2 : Fin k0_t2_loop.trips) (v1221 : IVec S16 32) (v1223 : IVec S16 32) (k0_hw612 : k0_chk612 i k0_t2 v1221 v1223), ∀ (k0_h6 : k0_cond6 i k0_t2 = 1#1), ∀ a x, ((![v1221, v1223] : Fin 2 → IVec S16 32) a x).toNat < S32x128.size a := fun i k0_t2 v1221 v1223 k0_hw612 k0_h6 => k0_hw612 k0_h6

def k0_chk613 (i : grid0.Coords) (k0_t2 : Fin k0_t2_loop.trips) (v1233 : IVec S16 32) (v1235 : IVec S16 32) : Prop :=
  (∀ (k0_h6 : k0_cond6 i k0_t2 = 1#1), ∀ a x, ((![v1233, v1235] : Fin 2 → IVec S16 32) a x).toNat < S32x128.size a)
theorem k0_idx613_inb : ∀ (i : grid0.Coords) (k0_t2 : Fin k0_t2_loop.trips) (v1233 : IVec S16 32) (v1235 : IVec S16 32) (k0_hw613 : k0_chk613 i k0_t2 v1233 v1235), ∀ (k0_h6 : k0_cond6 i k0_t2 = 1#1), ∀ a x, ((![v1233, v1235] : Fin 2 → IVec S16 32) a x).toNat < S32x128.size a := fun i k0_t2 v1233 v1235 k0_hw613 k0_h6 => k0_hw613 k0_h6

def k0_chk614 (i : grid0.Coords) (k0_t2 : Fin k0_t2_loop.trips) (v1245 : IVec S16 32) (v1247 : IVec S16 32) : Prop :=
  (∀ (k0_h6 : k0_cond6 i k0_t2 = 1#1), ∀ a x, ((![v1245, v1247] : Fin 2 → IVec S16 32) a x).toNat < S32x128.size a)
theorem k0_idx614_inb : ∀ (i : grid0.Coords) (k0_t2 : Fin k0_t2_loop.trips) (v1245 : IVec S16 32) (v1247 : IVec S16 32) (k0_hw614 : k0_chk614 i k0_t2 v1245 v1247), ∀ (k0_h6 : k0_cond6 i k0_t2 = 1#1), ∀ a x, ((![v1245, v1247] : Fin 2 → IVec S16 32) a x).toNat < S32x128.size a := fun i k0_t2 v1245 v1247 k0_hw614 k0_h6 => k0_hw614 k0_h6

def k0_chk615 (i : grid0.Coords) (k0_t2 : Fin k0_t2_loop.trips) (v1257 : IVec S16 32) (v1259 : IVec S16 32) : Prop :=
  (∀ (k0_h6 : k0_cond6 i k0_t2 = 1#1), ∀ a x, ((![v1257, v1259] : Fin 2 → IVec S16 32) a x).toNat < S32x128.size a)
theorem k0_idx615_inb : ∀ (i : grid0.Coords) (k0_t2 : Fin k0_t2_loop.trips) (v1257 : IVec S16 32) (v1259 : IVec S16 32) (k0_hw615 : k0_chk615 i k0_t2 v1257 v1259), ∀ (k0_h6 : k0_cond6 i k0_t2 = 1#1), ∀ a x, ((![v1257, v1259] : Fin 2 → IVec S16 32) a x).toNat < S32x128.size a := fun i k0_t2 v1257 v1259 k0_hw615 k0_h6 => k0_hw615 k0_h6

def k0_chk616 (i : grid0.Coords) (k0_t2 : Fin k0_t2_loop.trips) (v1269 : IVec S16 32) (v1271 : IVec S16 32) : Prop :=
  (∀ (k0_h6 : k0_cond6 i k0_t2 = 1#1), ∀ a x, ((![v1269, v1271] : Fin 2 → IVec S16 32) a x).toNat < S32x128.size a)
theorem k0_idx616_inb : ∀ (i : grid0.Coords) (k0_t2 : Fin k0_t2_loop.trips) (v1269 : IVec S16 32) (v1271 : IVec S16 32) (k0_hw616 : k0_chk616 i k0_t2 v1269 v1271), ∀ (k0_h6 : k0_cond6 i k0_t2 = 1#1), ∀ a x, ((![v1269, v1271] : Fin 2 → IVec S16 32) a x).toNat < S32x128.size a := fun i k0_t2 v1269 v1271 k0_hw616 k0_h6 => k0_hw616 k0_h6

def k0_chk617 (i : grid0.Coords) (k0_t2 : Fin k0_t2_loop.trips) (v1281 : IVec S16 32) (v1283 : IVec S16 32) : Prop :=
  (∀ (k0_h6 : k0_cond6 i k0_t2 = 1#1), ∀ a x, ((![v1281, v1283] : Fin 2 → IVec S16 32) a x).toNat < S32x128.size a)
theorem k0_idx617_inb : ∀ (i : grid0.Coords) (k0_t2 : Fin k0_t2_loop.trips) (v1281 : IVec S16 32) (v1283 : IVec S16 32) (k0_hw617 : k0_chk617 i k0_t2 v1281 v1283), ∀ (k0_h6 : k0_cond6 i k0_t2 = 1#1), ∀ a x, ((![v1281, v1283] : Fin 2 → IVec S16 32) a x).toNat < S32x128.size a := fun i k0_t2 v1281 v1283 k0_hw617 k0_h6 => k0_hw617 k0_h6

def k0_chk618 (i : grid0.Coords) (k0_t2 : Fin k0_t2_loop.trips) (v1293 : IVec S16 32) (v1295 : IVec S16 32) : Prop :=
  (∀ (k0_h6 : k0_cond6 i k0_t2 = 1#1), ∀ a x, ((![v1293, v1295] : Fin 2 → IVec S16 32) a x).toNat < S32x128.size a)
theorem k0_idx618_inb : ∀ (i : grid0.Coords) (k0_t2 : Fin k0_t2_loop.trips) (v1293 : IVec S16 32) (v1295 : IVec S16 32) (k0_hw618 : k0_chk618 i k0_t2 v1293 v1295), ∀ (k0_h6 : k0_cond6 i k0_t2 = 1#1), ∀ a x, ((![v1293, v1295] : Fin 2 → IVec S16 32) a x).toNat < S32x128.size a := fun i k0_t2 v1293 v1295 k0_hw618 k0_h6 => k0_hw618 k0_h6

def k0_chk619 (i : grid0.Coords) (k0_t2 : Fin k0_t2_loop.trips) (v1305 : IVec S16 32) (v1307 : IVec S16 32) : Prop :=
  (∀ (k0_h6 : k0_cond6 i k0_t2 = 1#1), ∀ a x, ((![v1305, v1307] : Fin 2 → IVec S16 32) a x).toNat < S32x128.size a)
theorem k0_idx619_inb : ∀ (i : grid0.Coords) (k0_t2 : Fin k0_t2_loop.trips) (v1305 : IVec S16 32) (v1307 : IVec S16 32) (k0_hw619 : k0_chk619 i k0_t2 v1305 v1307), ∀ (k0_h6 : k0_cond6 i k0_t2 = 1#1), ∀ a x, ((![v1305, v1307] : Fin 2 → IVec S16 32) a x).toNat < S32x128.size a := fun i k0_t2 v1305 v1307 k0_hw619 k0_h6 => k0_hw619 k0_h6

def k0_chk620 (i : grid0.Coords) (k0_t2 : Fin k0_t2_loop.trips) (v1317 : IVec S16 32) (v1319 : IVec S16 32) : Prop :=
  (∀ (k0_h6 : k0_cond6 i k0_t2 = 1#1), ∀ a x, ((![v1317, v1319] : Fin 2 → IVec S16 32) a x).toNat < S32x128.size a)
theorem k0_idx620_inb : ∀ (i : grid0.Coords) (k0_t2 : Fin k0_t2_loop.trips) (v1317 : IVec S16 32) (v1319 : IVec S16 32) (k0_hw620 : k0_chk620 i k0_t2 v1317 v1319), ∀ (k0_h6 : k0_cond6 i k0_t2 = 1#1), ∀ a x, ((![v1317, v1319] : Fin 2 → IVec S16 32) a x).toNat < S32x128.size a := fun i k0_t2 v1317 v1319 k0_hw620 k0_h6 => k0_hw620 k0_h6

def k0_chk621 (i : grid0.Coords) (k0_t2 : Fin k0_t2_loop.trips) (v1329 : IVec S16 32) (v1331 : IVec S16 32) : Prop :=
  (∀ (k0_h6 : k0_cond6 i k0_t2 = 1#1), ∀ a x, ((![v1329, v1331] : Fin 2 → IVec S16 32) a x).toNat < S32x128.size a)
theorem k0_idx621_inb : ∀ (i : grid0.Coords) (k0_t2 : Fin k0_t2_loop.trips) (v1329 : IVec S16 32) (v1331 : IVec S16 32) (k0_hw621 : k0_chk621 i k0_t2 v1329 v1331), ∀ (k0_h6 : k0_cond6 i k0_t2 = 1#1), ∀ a x, ((![v1329, v1331] : Fin 2 → IVec S16 32) a x).toNat < S32x128.size a := fun i k0_t2 v1329 v1331 k0_hw621 k0_h6 => k0_hw621 k0_h6

def k0_chk622 (i : grid0.Coords) (k0_t2 : Fin k0_t2_loop.trips) (v1341 : IVec S16 32) (v1343 : IVec S16 32) : Prop :=
  (∀ (k0_h6 : k0_cond6 i k0_t2 = 1#1), ∀ a x, ((![v1341, v1343] : Fin 2 → IVec S16 32) a x).toNat < S32x128.size a)
theorem k0_idx622_inb : ∀ (i : grid0.Coords) (k0_t2 : Fin k0_t2_loop.trips) (v1341 : IVec S16 32) (v1343 : IVec S16 32) (k0_hw622 : k0_chk622 i k0_t2 v1341 v1343), ∀ (k0_h6 : k0_cond6 i k0_t2 = 1#1), ∀ a x, ((![v1341, v1343] : Fin 2 → IVec S16 32) a x).toNat < S32x128.size a := fun i k0_t2 v1341 v1343 k0_hw622 k0_h6 => k0_hw622 k0_h6

def k0_chk623 (i : grid0.Coords) (k0_t2 : Fin k0_t2_loop.trips) (v1353 : IVec S16 32) (v1355 : IVec S16 32) : Prop :=
  (∀ (k0_h6 : k0_cond6 i k0_t2 = 1#1), ∀ a x, ((![v1353, v1355] : Fin 2 → IVec S16 32) a x).toNat < S32x128.size a)
theorem k0_idx623_inb : ∀ (i : grid0.Coords) (k0_t2 : Fin k0_t2_loop.trips) (v1353 : IVec S16 32) (v1355 : IVec S16 32) (k0_hw623 : k0_chk623 i k0_t2 v1353 v1355), ∀ (k0_h6 : k0_cond6 i k0_t2 = 1#1), ∀ a x, ((![v1353, v1355] : Fin 2 → IVec S16 32) a x).toNat < S32x128.size a := fun i k0_t2 v1353 v1355 k0_hw623 k0_h6 => k0_hw623 k0_h6

def k0_chk624 (i : grid0.Coords) (k0_t2 : Fin k0_t2_loop.trips) (v1365 : IVec S16 32) (v1367 : IVec S16 32) : Prop :=
  (∀ (k0_h6 : k0_cond6 i k0_t2 = 1#1), ∀ a x, ((![v1365, v1367] : Fin 2 → IVec S16 32) a x).toNat < S32x128.size a)
theorem k0_idx624_inb : ∀ (i : grid0.Coords) (k0_t2 : Fin k0_t2_loop.trips) (v1365 : IVec S16 32) (v1367 : IVec S16 32) (k0_hw624 : k0_chk624 i k0_t2 v1365 v1367), ∀ (k0_h6 : k0_cond6 i k0_t2 = 1#1), ∀ a x, ((![v1365, v1367] : Fin 2 → IVec S16 32) a x).toNat < S32x128.size a := fun i k0_t2 v1365 v1367 k0_hw624 k0_h6 => k0_hw624 k0_h6

def k0_chk625 (i : grid0.Coords) (k0_t2 : Fin k0_t2_loop.trips) (v1377 : IVec S16 32) (v1379 : IVec S16 32) : Prop :=
  (∀ (k0_h6 : k0_cond6 i k0_t2 = 1#1), ∀ a x, ((![v1377, v1379] : Fin 2 → IVec S16 32) a x).toNat < S32x128.size a)
theorem k0_idx625_inb : ∀ (i : grid0.Coords) (k0_t2 : Fin k0_t2_loop.trips) (v1377 : IVec S16 32) (v1379 : IVec S16 32) (k0_hw625 : k0_chk625 i k0_t2 v1377 v1379), ∀ (k0_h6 : k0_cond6 i k0_t2 = 1#1), ∀ a x, ((![v1377, v1379] : Fin 2 → IVec S16 32) a x).toNat < S32x128.size a := fun i k0_t2 v1377 v1379 k0_hw625 k0_h6 => k0_hw625 k0_h6

def k0_chk626 (i : grid0.Coords) (k0_t2 : Fin k0_t2_loop.trips) (v1389 : IVec S16 32) (v1391 : IVec S16 32) : Prop :=
  (∀ (k0_h6 : k0_cond6 i k0_t2 = 1#1), ∀ a x, ((![v1389, v1391] : Fin 2 → IVec S16 32) a x).toNat < S32x128.size a)
theorem k0_idx626_inb : ∀ (i : grid0.Coords) (k0_t2 : Fin k0_t2_loop.trips) (v1389 : IVec S16 32) (v1391 : IVec S16 32) (k0_hw626 : k0_chk626 i k0_t2 v1389 v1391), ∀ (k0_h6 : k0_cond6 i k0_t2 = 1#1), ∀ a x, ((![v1389, v1391] : Fin 2 → IVec S16 32) a x).toNat < S32x128.size a := fun i k0_t2 v1389 v1391 k0_hw626 k0_h6 => k0_hw626 k0_h6

def k0_chk627 (i : grid0.Coords) (k0_t2 : Fin k0_t2_loop.trips) (v1401 : IVec S16 32) (v1403 : IVec S16 32) : Prop :=
  (∀ (k0_h6 : k0_cond6 i k0_t2 = 1#1), ∀ a x, ((![v1401, v1403] : Fin 2 → IVec S16 32) a x).toNat < S32x128.size a)
theorem k0_idx627_inb : ∀ (i : grid0.Coords) (k0_t2 : Fin k0_t2_loop.trips) (v1401 : IVec S16 32) (v1403 : IVec S16 32) (k0_hw627 : k0_chk627 i k0_t2 v1401 v1403), ∀ (k0_h6 : k0_cond6 i k0_t2 = 1#1), ∀ a x, ((![v1401, v1403] : Fin 2 → IVec S16 32) a x).toNat < S32x128.size a := fun i k0_t2 v1401 v1403 k0_hw627 k0_h6 => k0_hw627 k0_h6

def k0_chk628 (i : grid0.Coords) (k0_t2 : Fin k0_t2_loop.trips) (v1413 : IVec S16 32) (v1415 : IVec S16 32) : Prop :=
  (∀ (k0_h6 : k0_cond6 i k0_t2 = 1#1), ∀ a x, ((![v1413, v1415] : Fin 2 → IVec S16 32) a x).toNat < S32x128.size a)
theorem k0_idx628_inb : ∀ (i : grid0.Coords) (k0_t2 : Fin k0_t2_loop.trips) (v1413 : IVec S16 32) (v1415 : IVec S16 32) (k0_hw628 : k0_chk628 i k0_t2 v1413 v1415), ∀ (k0_h6 : k0_cond6 i k0_t2 = 1#1), ∀ a x, ((![v1413, v1415] : Fin 2 → IVec S16 32) a x).toNat < S32x128.size a := fun i k0_t2 v1413 v1415 k0_hw628 k0_h6 => k0_hw628 k0_h6

def k0_chk629 (i : grid0.Coords) (k0_t2 : Fin k0_t2_loop.trips) (v1425 : IVec S16 32) (v1427 : IVec S16 32) : Prop :=
  (∀ (k0_h6 : k0_cond6 i k0_t2 = 1#1), ∀ a x, ((![v1425, v1427] : Fin 2 → IVec S16 32) a x).toNat < S32x128.size a)
theorem k0_idx629_inb : ∀ (i : grid0.Coords) (k0_t2 : Fin k0_t2_loop.trips) (v1425 : IVec S16 32) (v1427 : IVec S16 32) (k0_hw629 : k0_chk629 i k0_t2 v1425 v1427), ∀ (k0_h6 : k0_cond6 i k0_t2 = 1#1), ∀ a x, ((![v1425, v1427] : Fin 2 → IVec S16 32) a x).toNat < S32x128.size a := fun i k0_t2 v1425 v1427 k0_hw629 k0_h6 => k0_hw629 k0_h6

def k0_chk630 (i : grid0.Coords) (k0_t2 : Fin k0_t2_loop.trips) (v1437 : IVec S16 32) (v1439 : IVec S16 32) : Prop :=
  (∀ (k0_h6 : k0_cond6 i k0_t2 = 1#1), ∀ a x, ((![v1437, v1439] : Fin 2 → IVec S16 32) a x).toNat < S32x128.size a)
theorem k0_idx630_inb : ∀ (i : grid0.Coords) (k0_t2 : Fin k0_t2_loop.trips) (v1437 : IVec S16 32) (v1439 : IVec S16 32) (k0_hw630 : k0_chk630 i k0_t2 v1437 v1439), ∀ (k0_h6 : k0_cond6 i k0_t2 = 1#1), ∀ a x, ((![v1437, v1439] : Fin 2 → IVec S16 32) a x).toNat < S32x128.size a := fun i k0_t2 v1437 v1439 k0_hw630 k0_h6 => k0_hw630 k0_h6

def k0_chk631 (i : grid0.Coords) (k0_t2 : Fin k0_t2_loop.trips) (v1449 : IVec S16 32) (v1451 : IVec S16 32) : Prop :=
  (∀ (k0_h6 : k0_cond6 i k0_t2 = 1#1), ∀ a x, ((![v1449, v1451] : Fin 2 → IVec S16 32) a x).toNat < S32x128.size a)
theorem k0_idx631_inb : ∀ (i : grid0.Coords) (k0_t2 : Fin k0_t2_loop.trips) (v1449 : IVec S16 32) (v1451 : IVec S16 32) (k0_hw631 : k0_chk631 i k0_t2 v1449 v1451), ∀ (k0_h6 : k0_cond6 i k0_t2 = 1#1), ∀ a x, ((![v1449, v1451] : Fin 2 → IVec S16 32) a x).toNat < S32x128.size a := fun i k0_t2 v1449 v1451 k0_hw631 k0_h6 => k0_hw631 k0_h6

def k0_chk632 (i : grid0.Coords) (k0_t2 : Fin k0_t2_loop.trips) (v1461 : IVec S16 32) (v1463 : IVec S16 32) : Prop :=
  (∀ (k0_h6 : k0_cond6 i k0_t2 = 1#1), ∀ a x, ((![v1461, v1463] : Fin 2 → IVec S16 32) a x).toNat < S32x128.size a)
theorem k0_idx632_inb : ∀ (i : grid0.Coords) (k0_t2 : Fin k0_t2_loop.trips) (v1461 : IVec S16 32) (v1463 : IVec S16 32) (k0_hw632 : k0_chk632 i k0_t2 v1461 v1463), ∀ (k0_h6 : k0_cond6 i k0_t2 = 1#1), ∀ a x, ((![v1461, v1463] : Fin 2 → IVec S16 32) a x).toNat < S32x128.size a := fun i k0_t2 v1461 v1463 k0_hw632 k0_h6 => k0_hw632 k0_h6

def k0_chk633 (i : grid0.Coords) (k0_t2 : Fin k0_t2_loop.trips) (v1473 : IVec S16 32) (v1475 : IVec S16 32) : Prop :=
  (∀ (k0_h6 : k0_cond6 i k0_t2 = 1#1), ∀ a x, ((![v1473, v1475] : Fin 2 → IVec S16 32) a x).toNat < S32x128.size a)
theorem k0_idx633_inb : ∀ (i : grid0.Coords) (k0_t2 : Fin k0_t2_loop.trips) (v1473 : IVec S16 32) (v1475 : IVec S16 32) (k0_hw633 : k0_chk633 i k0_t2 v1473 v1475), ∀ (k0_h6 : k0_cond6 i k0_t2 = 1#1), ∀ a x, ((![v1473, v1475] : Fin 2 → IVec S16 32) a x).toNat < S32x128.size a := fun i k0_t2 v1473 v1475 k0_hw633 k0_h6 => k0_hw633 k0_h6

def k0_chk634 (i : grid0.Coords) (k0_t2 : Fin k0_t2_loop.trips) (v1485 : IVec S16 32) (v1487 : IVec S16 32) : Prop :=
  (∀ (k0_h6 : k0_cond6 i k0_t2 = 1#1), ∀ a x, ((![v1485, v1487] : Fin 2 → IVec S16 32) a x).toNat < S32x128.size a)
theorem k0_idx634_inb : ∀ (i : grid0.Coords) (k0_t2 : Fin k0_t2_loop.trips) (v1485 : IVec S16 32) (v1487 : IVec S16 32) (k0_hw634 : k0_chk634 i k0_t2 v1485 v1487), ∀ (k0_h6 : k0_cond6 i k0_t2 = 1#1), ∀ a x, ((![v1485, v1487] : Fin 2 → IVec S16 32) a x).toNat < S32x128.size a := fun i k0_t2 v1485 v1487 k0_hw634 k0_h6 => k0_hw634 k0_h6

def k0_chk635 (i : grid0.Coords) (k0_t2 : Fin k0_t2_loop.trips) (v1497 : IVec S16 32) (v1499 : IVec S16 32) : Prop :=
  (∀ (k0_h6 : k0_cond6 i k0_t2 = 1#1), ∀ a x, ((![v1497, v1499] : Fin 2 → IVec S16 32) a x).toNat < S32x128.size a)
theorem k0_idx635_inb : ∀ (i : grid0.Coords) (k0_t2 : Fin k0_t2_loop.trips) (v1497 : IVec S16 32) (v1499 : IVec S16 32) (k0_hw635 : k0_chk635 i k0_t2 v1497 v1499), ∀ (k0_h6 : k0_cond6 i k0_t2 = 1#1), ∀ a x, ((![v1497, v1499] : Fin 2 → IVec S16 32) a x).toNat < S32x128.size a := fun i k0_t2 v1497 v1499 k0_hw635 k0_h6 => k0_hw635 k0_h6

def k0_chk636 (i : grid0.Coords) (k0_t2 : Fin k0_t2_loop.trips) (v1509 : IVec S16 32) (v1511 : IVec S16 32) : Prop :=
  (∀ (k0_h6 : k0_cond6 i k0_t2 = 1#1), ∀ a x, ((![v1509, v1511] : Fin 2 → IVec S16 32) a x).toNat < S32x128.size a)
theorem k0_idx636_inb : ∀ (i : grid0.Coords) (k0_t2 : Fin k0_t2_loop.trips) (v1509 : IVec S16 32) (v1511 : IVec S16 32) (k0_hw636 : k0_chk636 i k0_t2 v1509 v1511), ∀ (k0_h6 : k0_cond6 i k0_t2 = 1#1), ∀ a x, ((![v1509, v1511] : Fin 2 → IVec S16 32) a x).toNat < S32x128.size a := fun i k0_t2 v1509 v1511 k0_hw636 k0_h6 => k0_hw636 k0_h6

def k0_chk637 (i : grid0.Coords) (k0_t2 : Fin k0_t2_loop.trips) (v1521 : IVec S16 32) (v1523 : IVec S16 32) : Prop :=
  (∀ (k0_h6 : k0_cond6 i k0_t2 = 1#1), ∀ a x, ((![v1521, v1523] : Fin 2 → IVec S16 32) a x).toNat < S32x128.size a)
theorem k0_idx637_inb : ∀ (i : grid0.Coords) (k0_t2 : Fin k0_t2_loop.trips) (v1521 : IVec S16 32) (v1523 : IVec S16 32) (k0_hw637 : k0_chk637 i k0_t2 v1521 v1523), ∀ (k0_h6 : k0_cond6 i k0_t2 = 1#1), ∀ a x, ((![v1521, v1523] : Fin 2 → IVec S16 32) a x).toNat < S32x128.size a := fun i k0_t2 v1521 v1523 k0_hw637 k0_h6 => k0_hw637 k0_h6

def k0_chk638 (i : grid0.Coords) (k0_t2 : Fin k0_t2_loop.trips) (v1533 : IVec S16 32) (v1535 : IVec S16 32) : Prop :=
  (∀ (k0_h6 : k0_cond6 i k0_t2 = 1#1), ∀ a x, ((![v1533, v1535] : Fin 2 → IVec S16 32) a x).toNat < S32x128.size a)
theorem k0_idx638_inb : ∀ (i : grid0.Coords) (k0_t2 : Fin k0_t2_loop.trips) (v1533 : IVec S16 32) (v1535 : IVec S16 32) (k0_hw638 : k0_chk638 i k0_t2 v1533 v1535), ∀ (k0_h6 : k0_cond6 i k0_t2 = 1#1), ∀ a x, ((![v1533, v1535] : Fin 2 → IVec S16 32) a x).toNat < S32x128.size a := fun i k0_t2 v1533 v1535 k0_hw638 k0_h6 => k0_hw638 k0_h6

def k0_chk639 (i : grid0.Coords) (k0_t2 : Fin k0_t2_loop.trips) (v1545 : IVec S16 32) (v1547 : IVec S16 32) : Prop :=
  (∀ (k0_h6 : k0_cond6 i k0_t2 = 1#1), ∀ a x, ((![v1545, v1547] : Fin 2 → IVec S16 32) a x).toNat < S32x128.size a)
theorem k0_idx639_inb : ∀ (i : grid0.Coords) (k0_t2 : Fin k0_t2_loop.trips) (v1545 : IVec S16 32) (v1547 : IVec S16 32) (k0_hw639 : k0_chk639 i k0_t2 v1545 v1547), ∀ (k0_h6 : k0_cond6 i k0_t2 = 1#1), ∀ a x, ((![v1545, v1547] : Fin 2 → IVec S16 32) a x).toNat < S32x128.size a := fun i k0_t2 v1545 v1547 k0_hw639 k0_h6 => k0_hw639 k0_h6

def k0_chk640 (i : grid0.Coords) (k0_t2 : Fin k0_t2_loop.trips) (v1557 : IVec S16 32) (v1559 : IVec S16 32) : Prop :=
  (∀ (k0_h6 : k0_cond6 i k0_t2 = 1#1), ∀ a x, ((![v1557, v1559] : Fin 2 → IVec S16 32) a x).toNat < S32x128.size a)
theorem k0_idx640_inb : ∀ (i : grid0.Coords) (k0_t2 : Fin k0_t2_loop.trips) (v1557 : IVec S16 32) (v1559 : IVec S16 32) (k0_hw640 : k0_chk640 i k0_t2 v1557 v1559), ∀ (k0_h6 : k0_cond6 i k0_t2 = 1#1), ∀ a x, ((![v1557, v1559] : Fin 2 → IVec S16 32) a x).toNat < S32x128.size a := fun i k0_t2 v1557 v1559 k0_hw640 k0_h6 => k0_hw640 k0_h6

def k0_chk641 (i : grid0.Coords) (k0_t2 : Fin k0_t2_loop.trips) (v1569 : IVec S16 32) (v1571 : IVec S16 32) : Prop :=
  (∀ (k0_h6 : k0_cond6 i k0_t2 = 1#1), ∀ a x, ((![v1569, v1571] : Fin 2 → IVec S16 32) a x).toNat < S32x128.size a)
theorem k0_idx641_inb : ∀ (i : grid0.Coords) (k0_t2 : Fin k0_t2_loop.trips) (v1569 : IVec S16 32) (v1571 : IVec S16 32) (k0_hw641 : k0_chk641 i k0_t2 v1569 v1571), ∀ (k0_h6 : k0_cond6 i k0_t2 = 1#1), ∀ a x, ((![v1569, v1571] : Fin 2 → IVec S16 32) a x).toNat < S32x128.size a := fun i k0_t2 v1569 v1571 k0_hw641 k0_h6 => k0_hw641 k0_h6

def k0_chk642 (i : grid0.Coords) (k0_t2 : Fin k0_t2_loop.trips) (v1581 : IVec S16 32) (v1583 : IVec S16 32) : Prop :=
  (∀ (k0_h6 : k0_cond6 i k0_t2 = 1#1), ∀ a x, ((![v1581, v1583] : Fin 2 → IVec S16 32) a x).toNat < S32x128.size a)
theorem k0_idx642_inb : ∀ (i : grid0.Coords) (k0_t2 : Fin k0_t2_loop.trips) (v1581 : IVec S16 32) (v1583 : IVec S16 32) (k0_hw642 : k0_chk642 i k0_t2 v1581 v1583), ∀ (k0_h6 : k0_cond6 i k0_t2 = 1#1), ∀ a x, ((![v1581, v1583] : Fin 2 → IVec S16 32) a x).toNat < S32x128.size a := fun i k0_t2 v1581 v1583 k0_hw642 k0_h6 => k0_hw642 k0_h6

def k0_chk643 (i : grid0.Coords) (k0_t2 : Fin k0_t2_loop.trips) (v1593 : IVec S16 32) (v1595 : IVec S16 32) : Prop :=
  (∀ (k0_h6 : k0_cond6 i k0_t2 = 1#1), ∀ a x, ((![v1593, v1595] : Fin 2 → IVec S16 32) a x).toNat < S32x128.size a)
theorem k0_idx643_inb : ∀ (i : grid0.Coords) (k0_t2 : Fin k0_t2_loop.trips) (v1593 : IVec S16 32) (v1595 : IVec S16 32) (k0_hw643 : k0_chk643 i k0_t2 v1593 v1595), ∀ (k0_h6 : k0_cond6 i k0_t2 = 1#1), ∀ a x, ((![v1593, v1595] : Fin 2 → IVec S16 32) a x).toNat < S32x128.size a := fun i k0_t2 v1593 v1595 k0_hw643 k0_h6 => k0_hw643 k0_h6

def k0_chk644 (i : grid0.Coords) (k0_t2 : Fin k0_t2_loop.trips) (v1605 : IVec S16 32) (v1607 : IVec S16 32) : Prop :=
  (∀ (k0_h6 : k0_cond6 i k0_t2 = 1#1), ∀ a x, ((![v1605, v1607] : Fin 2 → IVec S16 32) a x).toNat < S32x128.size a)
theorem k0_idx644_inb : ∀ (i : grid0.Coords) (k0_t2 : Fin k0_t2_loop.trips) (v1605 : IVec S16 32) (v1607 : IVec S16 32) (k0_hw644 : k0_chk644 i k0_t2 v1605 v1607), ∀ (k0_h6 : k0_cond6 i k0_t2 = 1#1), ∀ a x, ((![v1605, v1607] : Fin 2 → IVec S16 32) a x).toNat < S32x128.size a := fun i k0_t2 v1605 v1607 k0_hw644 k0_h6 => k0_hw644 k0_h6

def k0_chk645 (i : grid0.Coords) (k0_t2 : Fin k0_t2_loop.trips) (v1617 : IVec S16 32) (v1619 : IVec S16 32) : Prop :=
  (∀ (k0_h6 : k0_cond6 i k0_t2 = 1#1), ∀ a x, ((![v1617, v1619] : Fin 2 → IVec S16 32) a x).toNat < S32x128.size a)
theorem k0_idx645_inb : ∀ (i : grid0.Coords) (k0_t2 : Fin k0_t2_loop.trips) (v1617 : IVec S16 32) (v1619 : IVec S16 32) (k0_hw645 : k0_chk645 i k0_t2 v1617 v1619), ∀ (k0_h6 : k0_cond6 i k0_t2 = 1#1), ∀ a x, ((![v1617, v1619] : Fin 2 → IVec S16 32) a x).toNat < S32x128.size a := fun i k0_t2 v1617 v1619 k0_hw645 k0_h6 => k0_hw645 k0_h6

def k0_chk646 (i : grid0.Coords) (k0_t2 : Fin k0_t2_loop.trips) (v1629 : IVec S16 32) (v1631 : IVec S16 32) : Prop :=
  (∀ (k0_h6 : k0_cond6 i k0_t2 = 1#1), ∀ a x, ((![v1629, v1631] : Fin 2 → IVec S16 32) a x).toNat < S32x128.size a)
theorem k0_idx646_inb : ∀ (i : grid0.Coords) (k0_t2 : Fin k0_t2_loop.trips) (v1629 : IVec S16 32) (v1631 : IVec S16 32) (k0_hw646 : k0_chk646 i k0_t2 v1629 v1631), ∀ (k0_h6 : k0_cond6 i k0_t2 = 1#1), ∀ a x, ((![v1629, v1631] : Fin 2 → IVec S16 32) a x).toNat < S32x128.size a := fun i k0_t2 v1629 v1631 k0_hw646 k0_h6 => k0_hw646 k0_h6

def k0_chk647 (i : grid0.Coords) (k0_t2 : Fin k0_t2_loop.trips) (v1641 : IVec S16 32) (v1643 : IVec S16 32) : Prop :=
  (∀ (k0_h6 : k0_cond6 i k0_t2 = 1#1), ∀ a x, ((![v1641, v1643] : Fin 2 → IVec S16 32) a x).toNat < S32x128.size a)
theorem k0_idx647_inb : ∀ (i : grid0.Coords) (k0_t2 : Fin k0_t2_loop.trips) (v1641 : IVec S16 32) (v1643 : IVec S16 32) (k0_hw647 : k0_chk647 i k0_t2 v1641 v1643), ∀ (k0_h6 : k0_cond6 i k0_t2 = 1#1), ∀ a x, ((![v1641, v1643] : Fin 2 → IVec S16 32) a x).toNat < S32x128.size a := fun i k0_t2 v1641 v1643 k0_hw647 k0_h6 => k0_hw647 k0_h6

def k0_chk648 (i : grid0.Coords) (k0_t2 : Fin k0_t2_loop.trips) (v1653 : IVec S16 32) (v1655 : IVec S16 32) : Prop :=
  (∀ (k0_h6 : k0_cond6 i k0_t2 = 1#1), ∀ a x, ((![v1653, v1655] : Fin 2 → IVec S16 32) a x).toNat < S32x128.size a)
theorem k0_idx648_inb : ∀ (i : grid0.Coords) (k0_t2 : Fin k0_t2_loop.trips) (v1653 : IVec S16 32) (v1655 : IVec S16 32) (k0_hw648 : k0_chk648 i k0_t2 v1653 v1655), ∀ (k0_h6 : k0_cond6 i k0_t2 = 1#1), ∀ a x, ((![v1653, v1655] : Fin 2 → IVec S16 32) a x).toNat < S32x128.size a := fun i k0_t2 v1653 v1655 k0_hw648 k0_h6 => k0_hw648 k0_h6

def k0_chk649 (i : grid0.Coords) (k0_t2 : Fin k0_t2_loop.trips) (v1665 : IVec S16 32) (v1667 : IVec S16 32) : Prop :=
  (∀ (k0_h6 : k0_cond6 i k0_t2 = 1#1), ∀ a x, ((![v1665, v1667] : Fin 2 → IVec S16 32) a x).toNat < S32x128.size a)
theorem k0_idx649_inb : ∀ (i : grid0.Coords) (k0_t2 : Fin k0_t2_loop.trips) (v1665 : IVec S16 32) (v1667 : IVec S16 32) (k0_hw649 : k0_chk649 i k0_t2 v1665 v1667), ∀ (k0_h6 : k0_cond6 i k0_t2 = 1#1), ∀ a x, ((![v1665, v1667] : Fin 2 → IVec S16 32) a x).toNat < S32x128.size a := fun i k0_t2 v1665 v1667 k0_hw649 k0_h6 => k0_hw649 k0_h6

def k0_chk650 (i : grid0.Coords) (k0_t2 : Fin k0_t2_loop.trips) (v1677 : IVec S16 32) (v1679 : IVec S16 32) : Prop :=
  (∀ (k0_h6 : k0_cond6 i k0_t2 = 1#1), ∀ a x, ((![v1677, v1679] : Fin 2 → IVec S16 32) a x).toNat < S32x128.size a)
theorem k0_idx650_inb : ∀ (i : grid0.Coords) (k0_t2 : Fin k0_t2_loop.trips) (v1677 : IVec S16 32) (v1679 : IVec S16 32) (k0_hw650 : k0_chk650 i k0_t2 v1677 v1679), ∀ (k0_h6 : k0_cond6 i k0_t2 = 1#1), ∀ a x, ((![v1677, v1679] : Fin 2 → IVec S16 32) a x).toNat < S32x128.size a := fun i k0_t2 v1677 v1679 k0_hw650 k0_h6 => k0_hw650 k0_h6

def k0_chk651 (i : grid0.Coords) (k0_t2 : Fin k0_t2_loop.trips) (v1689 : IVec S16 32) (v1691 : IVec S16 32) : Prop :=
  (∀ (k0_h6 : k0_cond6 i k0_t2 = 1#1), ∀ a x, ((![v1689, v1691] : Fin 2 → IVec S16 32) a x).toNat < S32x128.size a)
theorem k0_idx651_inb : ∀ (i : grid0.Coords) (k0_t2 : Fin k0_t2_loop.trips) (v1689 : IVec S16 32) (v1691 : IVec S16 32) (k0_hw651 : k0_chk651 i k0_t2 v1689 v1691), ∀ (k0_h6 : k0_cond6 i k0_t2 = 1#1), ∀ a x, ((![v1689, v1691] : Fin 2 → IVec S16 32) a x).toNat < S32x128.size a := fun i k0_t2 v1689 v1691 k0_hw651 k0_h6 => k0_hw651 k0_h6

def k0_chk652 (i : grid0.Coords) (k0_t2 : Fin k0_t2_loop.trips) (v1701 : IVec S16 32) (v1703 : IVec S16 32) : Prop :=
  (∀ (k0_h6 : k0_cond6 i k0_t2 = 1#1), ∀ a x, ((![v1701, v1703] : Fin 2 → IVec S16 32) a x).toNat < S32x128.size a)
theorem k0_idx652_inb : ∀ (i : grid0.Coords) (k0_t2 : Fin k0_t2_loop.trips) (v1701 : IVec S16 32) (v1703 : IVec S16 32) (k0_hw652 : k0_chk652 i k0_t2 v1701 v1703), ∀ (k0_h6 : k0_cond6 i k0_t2 = 1#1), ∀ a x, ((![v1701, v1703] : Fin 2 → IVec S16 32) a x).toNat < S32x128.size a := fun i k0_t2 v1701 v1703 k0_hw652 k0_h6 => k0_hw652 k0_h6

def k0_chk653 (i : grid0.Coords) (k0_t2 : Fin k0_t2_loop.trips) (v1713 : IVec S16 32) (v1715 : IVec S16 32) : Prop :=
  (∀ (k0_h6 : k0_cond6 i k0_t2 = 1#1), ∀ a x, ((![v1713, v1715] : Fin 2 → IVec S16 32) a x).toNat < S32x128.size a)
theorem k0_idx653_inb : ∀ (i : grid0.Coords) (k0_t2 : Fin k0_t2_loop.trips) (v1713 : IVec S16 32) (v1715 : IVec S16 32) (k0_hw653 : k0_chk653 i k0_t2 v1713 v1715), ∀ (k0_h6 : k0_cond6 i k0_t2 = 1#1), ∀ a x, ((![v1713, v1715] : Fin 2 → IVec S16 32) a x).toNat < S32x128.size a := fun i k0_t2 v1713 v1715 k0_hw653 k0_h6 => k0_hw653 k0_h6

def k0_chk654 (i : grid0.Coords) (k0_t2 : Fin k0_t2_loop.trips) (v1725 : IVec S16 32) (v1727 : IVec S16 32) : Prop :=
  (∀ (k0_h6 : k0_cond6 i k0_t2 = 1#1), ∀ a x, ((![v1725, v1727] : Fin 2 → IVec S16 32) a x).toNat < S32x128.size a)
theorem k0_idx654_inb : ∀ (i : grid0.Coords) (k0_t2 : Fin k0_t2_loop.trips) (v1725 : IVec S16 32) (v1727 : IVec S16 32) (k0_hw654 : k0_chk654 i k0_t2 v1725 v1727), ∀ (k0_h6 : k0_cond6 i k0_t2 = 1#1), ∀ a x, ((![v1725, v1727] : Fin 2 → IVec S16 32) a x).toNat < S32x128.size a := fun i k0_t2 v1725 v1727 k0_hw654 k0_h6 => k0_hw654 k0_h6

def k0_chk655 (i : grid0.Coords) (k0_t2 : Fin k0_t2_loop.trips) (v1737 : IVec S16 32) (v1739 : IVec S16 32) : Prop :=
  (∀ (k0_h6 : k0_cond6 i k0_t2 = 1#1), ∀ a x, ((![v1737, v1739] : Fin 2 → IVec S16 32) a x).toNat < S32x128.size a)
theorem k0_idx655_inb : ∀ (i : grid0.Coords) (k0_t2 : Fin k0_t2_loop.trips) (v1737 : IVec S16 32) (v1739 : IVec S16 32) (k0_hw655 : k0_chk655 i k0_t2 v1737 v1739), ∀ (k0_h6 : k0_cond6 i k0_t2 = 1#1), ∀ a x, ((![v1737, v1739] : Fin 2 → IVec S16 32) a x).toNat < S32x128.size a := fun i k0_t2 v1737 v1739 k0_hw655 k0_h6 => k0_hw655 k0_h6

def k0_chk656 (i : grid0.Coords) (k0_t2 : Fin k0_t2_loop.trips) (v1749 : IVec S16 32) (v1751 : IVec S16 32) : Prop :=
  (∀ (k0_h6 : k0_cond6 i k0_t2 = 1#1), ∀ a x, ((![v1749, v1751] : Fin 2 → IVec S16 32) a x).toNat < S32x128.size a)
theorem k0_idx656_inb : ∀ (i : grid0.Coords) (k0_t2 : Fin k0_t2_loop.trips) (v1749 : IVec S16 32) (v1751 : IVec S16 32) (k0_hw656 : k0_chk656 i k0_t2 v1749 v1751), ∀ (k0_h6 : k0_cond6 i k0_t2 = 1#1), ∀ a x, ((![v1749, v1751] : Fin 2 → IVec S16 32) a x).toNat < S32x128.size a := fun i k0_t2 v1749 v1751 k0_hw656 k0_h6 => k0_hw656 k0_h6

def k0_chk657 (i : grid0.Coords) (k0_t2 : Fin k0_t2_loop.trips) (v1761 : IVec S16 32) (v1763 : IVec S16 32) : Prop :=
  (∀ (k0_h6 : k0_cond6 i k0_t2 = 1#1), ∀ a x, ((![v1761, v1763] : Fin 2 → IVec S16 32) a x).toNat < S32x128.size a)
theorem k0_idx657_inb : ∀ (i : grid0.Coords) (k0_t2 : Fin k0_t2_loop.trips) (v1761 : IVec S16 32) (v1763 : IVec S16 32) (k0_hw657 : k0_chk657 i k0_t2 v1761 v1763), ∀ (k0_h6 : k0_cond6 i k0_t2 = 1#1), ∀ a x, ((![v1761, v1763] : Fin 2 → IVec S16 32) a x).toNat < S32x128.size a := fun i k0_t2 v1761 v1763 k0_hw657 k0_h6 => k0_hw657 k0_h6

def k0_chk658 (i : grid0.Coords) (k0_t2 : Fin k0_t2_loop.trips) (v1773 : IVec S16 32) (v1775 : IVec S16 32) : Prop :=
  (∀ (k0_h6 : k0_cond6 i k0_t2 = 1#1), ∀ a x, ((![v1773, v1775] : Fin 2 → IVec S16 32) a x).toNat < S32x128.size a)
theorem k0_idx658_inb : ∀ (i : grid0.Coords) (k0_t2 : Fin k0_t2_loop.trips) (v1773 : IVec S16 32) (v1775 : IVec S16 32) (k0_hw658 : k0_chk658 i k0_t2 v1773 v1775), ∀ (k0_h6 : k0_cond6 i k0_t2 = 1#1), ∀ a x, ((![v1773, v1775] : Fin 2 → IVec S16 32) a x).toNat < S32x128.size a := fun i k0_t2 v1773 v1775 k0_hw658 k0_h6 => k0_hw658 k0_h6

def k0_chk659 (i : grid0.Coords) (k0_t2 : Fin k0_t2_loop.trips) (v1785 : IVec S16 32) (v1787 : IVec S16 32) : Prop :=
  (∀ (k0_h6 : k0_cond6 i k0_t2 = 1#1), ∀ a x, ((![v1785, v1787] : Fin 2 → IVec S16 32) a x).toNat < S32x128.size a)
theorem k0_idx659_inb : ∀ (i : grid0.Coords) (k0_t2 : Fin k0_t2_loop.trips) (v1785 : IVec S16 32) (v1787 : IVec S16 32) (k0_hw659 : k0_chk659 i k0_t2 v1785 v1787), ∀ (k0_h6 : k0_cond6 i k0_t2 = 1#1), ∀ a x, ((![v1785, v1787] : Fin 2 → IVec S16 32) a x).toNat < S32x128.size a := fun i k0_t2 v1785 v1787 k0_hw659 k0_h6 => k0_hw659 k0_h6

def k0_chk660 (i : grid0.Coords) (k0_t2 : Fin k0_t2_loop.trips) (v1797 : IVec S16 32) (v1799 : IVec S16 32) : Prop :=
  (∀ (k0_h6 : k0_cond6 i k0_t2 = 1#1), ∀ a x, ((![v1797, v1799] : Fin 2 → IVec S16 32) a x).toNat < S32x128.size a)
theorem k0_idx660_inb : ∀ (i : grid0.Coords) (k0_t2 : Fin k0_t2_loop.trips) (v1797 : IVec S16 32) (v1799 : IVec S16 32) (k0_hw660 : k0_chk660 i k0_t2 v1797 v1799), ∀ (k0_h6 : k0_cond6 i k0_t2 = 1#1), ∀ a x, ((![v1797, v1799] : Fin 2 → IVec S16 32) a x).toNat < S32x128.size a := fun i k0_t2 v1797 v1799 k0_hw660 k0_h6 => k0_hw660 k0_h6

def k0_chk661 (i : grid0.Coords) (k0_t2 : Fin k0_t2_loop.trips) (v1809 : IVec S16 32) (v1811 : IVec S16 32) : Prop :=
  (∀ (k0_h6 : k0_cond6 i k0_t2 = 1#1), ∀ a x, ((![v1809, v1811] : Fin 2 → IVec S16 32) a x).toNat < S32x128.size a)
theorem k0_idx661_inb : ∀ (i : grid0.Coords) (k0_t2 : Fin k0_t2_loop.trips) (v1809 : IVec S16 32) (v1811 : IVec S16 32) (k0_hw661 : k0_chk661 i k0_t2 v1809 v1811), ∀ (k0_h6 : k0_cond6 i k0_t2 = 1#1), ∀ a x, ((![v1809, v1811] : Fin 2 → IVec S16 32) a x).toNat < S32x128.size a := fun i k0_t2 v1809 v1811 k0_hw661 k0_h6 => k0_hw661 k0_h6

def k0_chk662 (i : grid0.Coords) (k0_t2 : Fin k0_t2_loop.trips) (v1821 : IVec S16 32) (v1823 : IVec S16 32) : Prop :=
  (∀ (k0_h6 : k0_cond6 i k0_t2 = 1#1), ∀ a x, ((![v1821, v1823] : Fin 2 → IVec S16 32) a x).toNat < S32x128.size a)
theorem k0_idx662_inb : ∀ (i : grid0.Coords) (k0_t2 : Fin k0_t2_loop.trips) (v1821 : IVec S16 32) (v1823 : IVec S16 32) (k0_hw662 : k0_chk662 i k0_t2 v1821 v1823), ∀ (k0_h6 : k0_cond6 i k0_t2 = 1#1), ∀ a x, ((![v1821, v1823] : Fin 2 → IVec S16 32) a x).toNat < S32x128.size a := fun i k0_t2 v1821 v1823 k0_hw662 k0_h6 => k0_hw662 k0_h6

def k0_chk663 (i : grid0.Coords) (k0_t2 : Fin k0_t2_loop.trips) (v1833 : IVec S16 32) (v1835 : IVec S16 32) : Prop :=
  (∀ (k0_h6 : k0_cond6 i k0_t2 = 1#1), ∀ a x, ((![v1833, v1835] : Fin 2 → IVec S16 32) a x).toNat < S32x128.size a)
theorem k0_idx663_inb : ∀ (i : grid0.Coords) (k0_t2 : Fin k0_t2_loop.trips) (v1833 : IVec S16 32) (v1835 : IVec S16 32) (k0_hw663 : k0_chk663 i k0_t2 v1833 v1835), ∀ (k0_h6 : k0_cond6 i k0_t2 = 1#1), ∀ a x, ((![v1833, v1835] : Fin 2 → IVec S16 32) a x).toNat < S32x128.size a := fun i k0_t2 v1833 v1835 k0_hw663 k0_h6 => k0_hw663 k0_h6

def k0_chk664 (i : grid0.Coords) (k0_t2 : Fin k0_t2_loop.trips) (v1845 : IVec S16 32) (v1847 : IVec S16 32) : Prop :=
  (∀ (k0_h6 : k0_cond6 i k0_t2 = 1#1), ∀ a x, ((![v1845, v1847] : Fin 2 → IVec S16 32) a x).toNat < S32x128.size a)
theorem k0_idx664_inb : ∀ (i : grid0.Coords) (k0_t2 : Fin k0_t2_loop.trips) (v1845 : IVec S16 32) (v1847 : IVec S16 32) (k0_hw664 : k0_chk664 i k0_t2 v1845 v1847), ∀ (k0_h6 : k0_cond6 i k0_t2 = 1#1), ∀ a x, ((![v1845, v1847] : Fin 2 → IVec S16 32) a x).toNat < S32x128.size a := fun i k0_t2 v1845 v1847 k0_hw664 k0_h6 => k0_hw664 k0_h6

def k0_chk665 (i : grid0.Coords) (k0_t2 : Fin k0_t2_loop.trips) (v1857 : IVec S16 32) (v1859 : IVec S16 32) : Prop :=
  (∀ (k0_h6 : k0_cond6 i k0_t2 = 1#1), ∀ a x, ((![v1857, v1859] : Fin 2 → IVec S16 32) a x).toNat < S32x128.size a)
theorem k0_idx665_inb : ∀ (i : grid0.Coords) (k0_t2 : Fin k0_t2_loop.trips) (v1857 : IVec S16 32) (v1859 : IVec S16 32) (k0_hw665 : k0_chk665 i k0_t2 v1857 v1859), ∀ (k0_h6 : k0_cond6 i k0_t2 = 1#1), ∀ a x, ((![v1857, v1859] : Fin 2 → IVec S16 32) a x).toNat < S32x128.size a := fun i k0_t2 v1857 v1859 k0_hw665 k0_h6 => k0_hw665 k0_h6

def k0_chk666 (i : grid0.Coords) (k0_t2 : Fin k0_t2_loop.trips) (v1869 : IVec S16 32) (v1871 : IVec S16 32) : Prop :=
  (∀ (k0_h6 : k0_cond6 i k0_t2 = 1#1), ∀ a x, ((![v1869, v1871] : Fin 2 → IVec S16 32) a x).toNat < S32x128.size a)
theorem k0_idx666_inb : ∀ (i : grid0.Coords) (k0_t2 : Fin k0_t2_loop.trips) (v1869 : IVec S16 32) (v1871 : IVec S16 32) (k0_hw666 : k0_chk666 i k0_t2 v1869 v1871), ∀ (k0_h6 : k0_cond6 i k0_t2 = 1#1), ∀ a x, ((![v1869, v1871] : Fin 2 → IVec S16 32) a x).toNat < S32x128.size a := fun i k0_t2 v1869 v1871 k0_hw666 k0_h6 => k0_hw666 k0_h6

def k0_chk667 (i : grid0.Coords) (k0_t2 : Fin k0_t2_loop.trips) (v1881 : IVec S16 32) (v1883 : IVec S16 32) : Prop :=
  (∀ (k0_h6 : k0_cond6 i k0_t2 = 1#1), ∀ a x, ((![v1881, v1883] : Fin 2 → IVec S16 32) a x).toNat < S32x128.size a)
theorem k0_idx667_inb : ∀ (i : grid0.Coords) (k0_t2 : Fin k0_t2_loop.trips) (v1881 : IVec S16 32) (v1883 : IVec S16 32) (k0_hw667 : k0_chk667 i k0_t2 v1881 v1883), ∀ (k0_h6 : k0_cond6 i k0_t2 = 1#1), ∀ a x, ((![v1881, v1883] : Fin 2 → IVec S16 32) a x).toNat < S32x128.size a := fun i k0_t2 v1881 v1883 k0_hw667 k0_h6 => k0_hw667 k0_h6

def k0_chk668 (i : grid0.Coords) (k0_t2 : Fin k0_t2_loop.trips) (v1893 : IVec S16 32) (v1895 : IVec S16 32) : Prop :=
  (∀ (k0_h6 : k0_cond6 i k0_t2 = 1#1), ∀ a x, ((![v1893, v1895] : Fin 2 → IVec S16 32) a x).toNat < S32x128.size a)
theorem k0_idx668_inb : ∀ (i : grid0.Coords) (k0_t2 : Fin k0_t2_loop.trips) (v1893 : IVec S16 32) (v1895 : IVec S16 32) (k0_hw668 : k0_chk668 i k0_t2 v1893 v1895), ∀ (k0_h6 : k0_cond6 i k0_t2 = 1#1), ∀ a x, ((![v1893, v1895] : Fin 2 → IVec S16 32) a x).toNat < S32x128.size a := fun i k0_t2 v1893 v1895 k0_hw668 k0_h6 => k0_hw668 k0_h6

def k0_chk669 (i : grid0.Coords) (k0_t2 : Fin k0_t2_loop.trips) (v1905 : IVec S16 32) (v1907 : IVec S16 32) : Prop :=
  (∀ (k0_h6 : k0_cond6 i k0_t2 = 1#1), ∀ a x, ((![v1905, v1907] : Fin 2 → IVec S16 32) a x).toNat < S32x128.size a)
theorem k0_idx669_inb : ∀ (i : grid0.Coords) (k0_t2 : Fin k0_t2_loop.trips) (v1905 : IVec S16 32) (v1907 : IVec S16 32) (k0_hw669 : k0_chk669 i k0_t2 v1905 v1907), ∀ (k0_h6 : k0_cond6 i k0_t2 = 1#1), ∀ a x, ((![v1905, v1907] : Fin 2 → IVec S16 32) a x).toNat < S32x128.size a := fun i k0_t2 v1905 v1907 k0_hw669 k0_h6 => k0_hw669 k0_h6

def k0_chk670 (i : grid0.Coords) (k0_t2 : Fin k0_t2_loop.trips) (v1917 : IVec S16 32) (v1919 : IVec S16 32) : Prop :=
  (∀ (k0_h6 : k0_cond6 i k0_t2 = 1#1), ∀ a x, ((![v1917, v1919] : Fin 2 → IVec S16 32) a x).toNat < S32x128.size a)
theorem k0_idx670_inb : ∀ (i : grid0.Coords) (k0_t2 : Fin k0_t2_loop.trips) (v1917 : IVec S16 32) (v1919 : IVec S16 32) (k0_hw670 : k0_chk670 i k0_t2 v1917 v1919), ∀ (k0_h6 : k0_cond6 i k0_t2 = 1#1), ∀ a x, ((![v1917, v1919] : Fin 2 → IVec S16 32) a x).toNat < S32x128.size a := fun i k0_t2 v1917 v1919 k0_hw670 k0_h6 => k0_hw670 k0_h6

def k0_chk671 (i : grid0.Coords) (k0_t2 : Fin k0_t2_loop.trips) (v1929 : IVec S16 32) (v1931 : IVec S16 32) : Prop :=
  (∀ (k0_h6 : k0_cond6 i k0_t2 = 1#1), ∀ a x, ((![v1929, v1931] : Fin 2 → IVec S16 32) a x).toNat < S32x128.size a)
theorem k0_idx671_inb : ∀ (i : grid0.Coords) (k0_t2 : Fin k0_t2_loop.trips) (v1929 : IVec S16 32) (v1931 : IVec S16 32) (k0_hw671 : k0_chk671 i k0_t2 v1929 v1931), ∀ (k0_h6 : k0_cond6 i k0_t2 = 1#1), ∀ a x, ((![v1929, v1931] : Fin 2 → IVec S16 32) a x).toNat < S32x128.size a := fun i k0_t2 v1929 v1931 k0_hw671 k0_h6 => k0_hw671 k0_h6

def k0_chk672 (i : grid0.Coords) (k0_t2 : Fin k0_t2_loop.trips) (v1941 : IVec S16 32) (v1943 : IVec S16 32) : Prop :=
  (∀ (k0_h6 : k0_cond6 i k0_t2 = 1#1), ∀ a x, ((![v1941, v1943] : Fin 2 → IVec S16 32) a x).toNat < S32x128.size a)
theorem k0_idx672_inb : ∀ (i : grid0.Coords) (k0_t2 : Fin k0_t2_loop.trips) (v1941 : IVec S16 32) (v1943 : IVec S16 32) (k0_hw672 : k0_chk672 i k0_t2 v1941 v1943), ∀ (k0_h6 : k0_cond6 i k0_t2 = 1#1), ∀ a x, ((![v1941, v1943] : Fin 2 → IVec S16 32) a x).toNat < S32x128.size a := fun i k0_t2 v1941 v1943 k0_hw672 k0_h6 => k0_hw672 k0_h6

def k0_chk673 (i : grid0.Coords) (k0_t2 : Fin k0_t2_loop.trips) (v1953 : IVec S16 32) (v1955 : IVec S16 32) : Prop :=
  (∀ (k0_h6 : k0_cond6 i k0_t2 = 1#1), ∀ a x, ((![v1953, v1955] : Fin 2 → IVec S16 32) a x).toNat < S32x128.size a)
theorem k0_idx673_inb : ∀ (i : grid0.Coords) (k0_t2 : Fin k0_t2_loop.trips) (v1953 : IVec S16 32) (v1955 : IVec S16 32) (k0_hw673 : k0_chk673 i k0_t2 v1953 v1955), ∀ (k0_h6 : k0_cond6 i k0_t2 = 1#1), ∀ a x, ((![v1953, v1955] : Fin 2 → IVec S16 32) a x).toNat < S32x128.size a := fun i k0_t2 v1953 v1955 k0_hw673 k0_h6 => k0_hw673 k0_h6

def k0_chk674 (i : grid0.Coords) (k0_t2 : Fin k0_t2_loop.trips) (v1965 : IVec S16 32) (v1967 : IVec S16 32) : Prop :=
  (∀ (k0_h6 : k0_cond6 i k0_t2 = 1#1), ∀ a x, ((![v1965, v1967] : Fin 2 → IVec S16 32) a x).toNat < S32x128.size a)
theorem k0_idx674_inb : ∀ (i : grid0.Coords) (k0_t2 : Fin k0_t2_loop.trips) (v1965 : IVec S16 32) (v1967 : IVec S16 32) (k0_hw674 : k0_chk674 i k0_t2 v1965 v1967), ∀ (k0_h6 : k0_cond6 i k0_t2 = 1#1), ∀ a x, ((![v1965, v1967] : Fin 2 → IVec S16 32) a x).toNat < S32x128.size a := fun i k0_t2 v1965 v1967 k0_hw674 k0_h6 => k0_hw674 k0_h6

def k0_chk675 (i : grid0.Coords) (k0_t2 : Fin k0_t2_loop.trips) (v1977 : IVec S16 32) (v1979 : IVec S16 32) : Prop :=
  (∀ (k0_h6 : k0_cond6 i k0_t2 = 1#1), ∀ a x, ((![v1977, v1979] : Fin 2 → IVec S16 32) a x).toNat < S32x128.size a)
theorem k0_idx675_inb : ∀ (i : grid0.Coords) (k0_t2 : Fin k0_t2_loop.trips) (v1977 : IVec S16 32) (v1979 : IVec S16 32) (k0_hw675 : k0_chk675 i k0_t2 v1977 v1979), ∀ (k0_h6 : k0_cond6 i k0_t2 = 1#1), ∀ a x, ((![v1977, v1979] : Fin 2 → IVec S16 32) a x).toNat < S32x128.size a := fun i k0_t2 v1977 v1979 k0_hw675 k0_h6 => k0_hw675 k0_h6

def k0_chk676 (i : grid0.Coords) (k0_t2 : Fin k0_t2_loop.trips) (v1989 : IVec S16 32) (v1991 : IVec S16 32) : Prop :=
  (∀ (k0_h6 : k0_cond6 i k0_t2 = 1#1), ∀ a x, ((![v1989, v1991] : Fin 2 → IVec S16 32) a x).toNat < S32x128.size a)
theorem k0_idx676_inb : ∀ (i : grid0.Coords) (k0_t2 : Fin k0_t2_loop.trips) (v1989 : IVec S16 32) (v1991 : IVec S16 32) (k0_hw676 : k0_chk676 i k0_t2 v1989 v1991), ∀ (k0_h6 : k0_cond6 i k0_t2 = 1#1), ∀ a x, ((![v1989, v1991] : Fin 2 → IVec S16 32) a x).toNat < S32x128.size a := fun i k0_t2 v1989 v1991 k0_hw676 k0_h6 => k0_hw676 k0_h6

def k0_chk677 (i : grid0.Coords) (k0_t2 : Fin k0_t2_loop.trips) (v2001 : IVec S16 32) (v2003 : IVec S16 32) : Prop :=
  (∀ (k0_h6 : k0_cond6 i k0_t2 = 1#1), ∀ a x, ((![v2001, v2003] : Fin 2 → IVec S16 32) a x).toNat < S32x128.size a)
theorem k0_idx677_inb : ∀ (i : grid0.Coords) (k0_t2 : Fin k0_t2_loop.trips) (v2001 : IVec S16 32) (v2003 : IVec S16 32) (k0_hw677 : k0_chk677 i k0_t2 v2001 v2003), ∀ (k0_h6 : k0_cond6 i k0_t2 = 1#1), ∀ a x, ((![v2001, v2003] : Fin 2 → IVec S16 32) a x).toNat < S32x128.size a := fun i k0_t2 v2001 v2003 k0_hw677 k0_h6 => k0_hw677 k0_h6

def k0_chk678 (i : grid0.Coords) (k0_t2 : Fin k0_t2_loop.trips) (v2013 : IVec S16 32) (v2015 : IVec S16 32) : Prop :=
  (∀ (k0_h6 : k0_cond6 i k0_t2 = 1#1), ∀ a x, ((![v2013, v2015] : Fin 2 → IVec S16 32) a x).toNat < S32x128.size a)
theorem k0_idx678_inb : ∀ (i : grid0.Coords) (k0_t2 : Fin k0_t2_loop.trips) (v2013 : IVec S16 32) (v2015 : IVec S16 32) (k0_hw678 : k0_chk678 i k0_t2 v2013 v2015), ∀ (k0_h6 : k0_cond6 i k0_t2 = 1#1), ∀ a x, ((![v2013, v2015] : Fin 2 → IVec S16 32) a x).toNat < S32x128.size a := fun i k0_t2 v2013 v2015 k0_hw678 k0_h6 => k0_hw678 k0_h6

def k0_chk679 (i : grid0.Coords) (k0_t2 : Fin k0_t2_loop.trips) (v2025 : IVec S16 32) (v2027 : IVec S16 32) : Prop :=
  (∀ (k0_h6 : k0_cond6 i k0_t2 = 1#1), ∀ a x, ((![v2025, v2027] : Fin 2 → IVec S16 32) a x).toNat < S32x128.size a)
theorem k0_idx679_inb : ∀ (i : grid0.Coords) (k0_t2 : Fin k0_t2_loop.trips) (v2025 : IVec S16 32) (v2027 : IVec S16 32) (k0_hw679 : k0_chk679 i k0_t2 v2025 v2027), ∀ (k0_h6 : k0_cond6 i k0_t2 = 1#1), ∀ a x, ((![v2025, v2027] : Fin 2 → IVec S16 32) a x).toNat < S32x128.size a := fun i k0_t2 v2025 v2027 k0_hw679 k0_h6 => k0_hw679 k0_h6

def k0_chk680 (i : grid0.Coords) (k0_t2 : Fin k0_t2_loop.trips) (v2037 : IVec S16 32) (v2039 : IVec S16 32) : Prop :=
  (∀ (k0_h6 : k0_cond6 i k0_t2 = 1#1), ∀ a x, ((![v2037, v2039] : Fin 2 → IVec S16 32) a x).toNat < S32x128.size a)
theorem k0_idx680_inb : ∀ (i : grid0.Coords) (k0_t2 : Fin k0_t2_loop.trips) (v2037 : IVec S16 32) (v2039 : IVec S16 32) (k0_hw680 : k0_chk680 i k0_t2 v2037 v2039), ∀ (k0_h6 : k0_cond6 i k0_t2 = 1#1), ∀ a x, ((![v2037, v2039] : Fin 2 → IVec S16 32) a x).toNat < S32x128.size a := fun i k0_t2 v2037 v2039 k0_hw680 k0_h6 => k0_hw680 k0_h6

def k0_chk681 (i : grid0.Coords) (k0_t2 : Fin k0_t2_loop.trips) (v2049 : IVec S16 32) (v2051 : IVec S16 32) : Prop :=
  (∀ (k0_h6 : k0_cond6 i k0_t2 = 1#1), ∀ a x, ((![v2049, v2051] : Fin 2 → IVec S16 32) a x).toNat < S32x128.size a)
theorem k0_idx681_inb : ∀ (i : grid0.Coords) (k0_t2 : Fin k0_t2_loop.trips) (v2049 : IVec S16 32) (v2051 : IVec S16 32) (k0_hw681 : k0_chk681 i k0_t2 v2049 v2051), ∀ (k0_h6 : k0_cond6 i k0_t2 = 1#1), ∀ a x, ((![v2049, v2051] : Fin 2 → IVec S16 32) a x).toNat < S32x128.size a := fun i k0_t2 v2049 v2051 k0_hw681 k0_h6 => k0_hw681 k0_h6

def k0_chk682 (i : grid0.Coords) (k0_t2 : Fin k0_t2_loop.trips) (v2061 : IVec S16 32) (v2063 : IVec S16 32) : Prop :=
  (∀ (k0_h6 : k0_cond6 i k0_t2 = 1#1), ∀ a x, ((![v2061, v2063] : Fin 2 → IVec S16 32) a x).toNat < S32x128.size a)
theorem k0_idx682_inb : ∀ (i : grid0.Coords) (k0_t2 : Fin k0_t2_loop.trips) (v2061 : IVec S16 32) (v2063 : IVec S16 32) (k0_hw682 : k0_chk682 i k0_t2 v2061 v2063), ∀ (k0_h6 : k0_cond6 i k0_t2 = 1#1), ∀ a x, ((![v2061, v2063] : Fin 2 → IVec S16 32) a x).toNat < S32x128.size a := fun i k0_t2 v2061 v2063 k0_hw682 k0_h6 => k0_hw682 k0_h6

def k0_chk683 (i : grid0.Coords) (k0_t2 : Fin k0_t2_loop.trips) (v2073 : IVec S16 32) (v2075 : IVec S16 32) : Prop :=
  (∀ (k0_h6 : k0_cond6 i k0_t2 = 1#1), ∀ a x, ((![v2073, v2075] : Fin 2 → IVec S16 32) a x).toNat < S32x128.size a)
theorem k0_idx683_inb : ∀ (i : grid0.Coords) (k0_t2 : Fin k0_t2_loop.trips) (v2073 : IVec S16 32) (v2075 : IVec S16 32) (k0_hw683 : k0_chk683 i k0_t2 v2073 v2075), ∀ (k0_h6 : k0_cond6 i k0_t2 = 1#1), ∀ a x, ((![v2073, v2075] : Fin 2 → IVec S16 32) a x).toNat < S32x128.size a := fun i k0_t2 v2073 v2075 k0_hw683 k0_h6 => k0_hw683 k0_h6

def k0_chk684 (i : grid0.Coords) (k0_t2 : Fin k0_t2_loop.trips) (v2085 : IVec S16 32) (v2087 : IVec S16 32) : Prop :=
  (∀ (k0_h6 : k0_cond6 i k0_t2 = 1#1), ∀ a x, ((![v2085, v2087] : Fin 2 → IVec S16 32) a x).toNat < S32x128.size a)
theorem k0_idx684_inb : ∀ (i : grid0.Coords) (k0_t2 : Fin k0_t2_loop.trips) (v2085 : IVec S16 32) (v2087 : IVec S16 32) (k0_hw684 : k0_chk684 i k0_t2 v2085 v2087), ∀ (k0_h6 : k0_cond6 i k0_t2 = 1#1), ∀ a x, ((![v2085, v2087] : Fin 2 → IVec S16 32) a x).toNat < S32x128.size a := fun i k0_t2 v2085 v2087 k0_hw684 k0_h6 => k0_hw684 k0_h6

def k0_chk685 (i : grid0.Coords) (k0_t2 : Fin k0_t2_loop.trips) (v2097 : IVec S16 32) (v2099 : IVec S16 32) : Prop :=
  (∀ (k0_h6 : k0_cond6 i k0_t2 = 1#1), ∀ a x, ((![v2097, v2099] : Fin 2 → IVec S16 32) a x).toNat < S32x128.size a)
theorem k0_idx685_inb : ∀ (i : grid0.Coords) (k0_t2 : Fin k0_t2_loop.trips) (v2097 : IVec S16 32) (v2099 : IVec S16 32) (k0_hw685 : k0_chk685 i k0_t2 v2097 v2099), ∀ (k0_h6 : k0_cond6 i k0_t2 = 1#1), ∀ a x, ((![v2097, v2099] : Fin 2 → IVec S16 32) a x).toNat < S32x128.size a := fun i k0_t2 v2097 v2099 k0_hw685 k0_h6 => k0_hw685 k0_h6

def k0_chk686 (i : grid0.Coords) (k0_t2 : Fin k0_t2_loop.trips) (v2109 : IVec S16 32) (v2111 : IVec S16 32) : Prop :=
  (∀ (k0_h6 : k0_cond6 i k0_t2 = 1#1), ∀ a x, ((![v2109, v2111] : Fin 2 → IVec S16 32) a x).toNat < S32x128.size a)
theorem k0_idx686_inb : ∀ (i : grid0.Coords) (k0_t2 : Fin k0_t2_loop.trips) (v2109 : IVec S16 32) (v2111 : IVec S16 32) (k0_hw686 : k0_chk686 i k0_t2 v2109 v2111), ∀ (k0_h6 : k0_cond6 i k0_t2 = 1#1), ∀ a x, ((![v2109, v2111] : Fin 2 → IVec S16 32) a x).toNat < S32x128.size a := fun i k0_t2 v2109 v2111 k0_hw686 k0_h6 => k0_hw686 k0_h6

def k0_chk687 (i : grid0.Coords) (k0_t2 : Fin k0_t2_loop.trips) (v2121 : IVec S16 32) (v2123 : IVec S16 32) : Prop :=
  (∀ (k0_h6 : k0_cond6 i k0_t2 = 1#1), ∀ a x, ((![v2121, v2123] : Fin 2 → IVec S16 32) a x).toNat < S32x128.size a)
theorem k0_idx687_inb : ∀ (i : grid0.Coords) (k0_t2 : Fin k0_t2_loop.trips) (v2121 : IVec S16 32) (v2123 : IVec S16 32) (k0_hw687 : k0_chk687 i k0_t2 v2121 v2123), ∀ (k0_h6 : k0_cond6 i k0_t2 = 1#1), ∀ a x, ((![v2121, v2123] : Fin 2 → IVec S16 32) a x).toNat < S32x128.size a := fun i k0_t2 v2121 v2123 k0_hw687 k0_h6 => k0_hw687 k0_h6

def k0_chk688 (i : grid0.Coords) (k0_t2 : Fin k0_t2_loop.trips) (v2133 : IVec S16 32) (v2135 : IVec S16 32) : Prop :=
  (∀ (k0_h6 : k0_cond6 i k0_t2 = 1#1), ∀ a x, ((![v2133, v2135] : Fin 2 → IVec S16 32) a x).toNat < S32x128.size a)
theorem k0_idx688_inb : ∀ (i : grid0.Coords) (k0_t2 : Fin k0_t2_loop.trips) (v2133 : IVec S16 32) (v2135 : IVec S16 32) (k0_hw688 : k0_chk688 i k0_t2 v2133 v2135), ∀ (k0_h6 : k0_cond6 i k0_t2 = 1#1), ∀ a x, ((![v2133, v2135] : Fin 2 → IVec S16 32) a x).toNat < S32x128.size a := fun i k0_t2 v2133 v2135 k0_hw688 k0_h6 => k0_hw688 k0_h6

def k0_chk689 (i : grid0.Coords) (k0_t2 : Fin k0_t2_loop.trips) (v2145 : IVec S16 32) (v2147 : IVec S16 32) : Prop :=
  (∀ (k0_h6 : k0_cond6 i k0_t2 = 1#1), ∀ a x, ((![v2145, v2147] : Fin 2 → IVec S16 32) a x).toNat < S32x128.size a)
theorem k0_idx689_inb : ∀ (i : grid0.Coords) (k0_t2 : Fin k0_t2_loop.trips) (v2145 : IVec S16 32) (v2147 : IVec S16 32) (k0_hw689 : k0_chk689 i k0_t2 v2145 v2147), ∀ (k0_h6 : k0_cond6 i k0_t2 = 1#1), ∀ a x, ((![v2145, v2147] : Fin 2 → IVec S16 32) a x).toNat < S32x128.size a := fun i k0_t2 v2145 v2147 k0_hw689 k0_h6 => k0_hw689 k0_h6

def k0_chk690 (i : grid0.Coords) (k0_t2 : Fin k0_t2_loop.trips) (v2157 : IVec S16 32) (v2159 : IVec S16 32) : Prop :=
  (∀ (k0_h6 : k0_cond6 i k0_t2 = 1#1), ∀ a x, ((![v2157, v2159] : Fin 2 → IVec S16 32) a x).toNat < S32x128.size a)
theorem k0_idx690_inb : ∀ (i : grid0.Coords) (k0_t2 : Fin k0_t2_loop.trips) (v2157 : IVec S16 32) (v2159 : IVec S16 32) (k0_hw690 : k0_chk690 i k0_t2 v2157 v2159), ∀ (k0_h6 : k0_cond6 i k0_t2 = 1#1), ∀ a x, ((![v2157, v2159] : Fin 2 → IVec S16 32) a x).toNat < S32x128.size a := fun i k0_t2 v2157 v2159 k0_hw690 k0_h6 => k0_hw690 k0_h6

def k0_chk691 (i : grid0.Coords) (k0_t2 : Fin k0_t2_loop.trips) (v2169 : IVec S16 32) (v2171 : IVec S16 32) : Prop :=
  (∀ (k0_h6 : k0_cond6 i k0_t2 = 1#1), ∀ a x, ((![v2169, v2171] : Fin 2 → IVec S16 32) a x).toNat < S32x128.size a)
theorem k0_idx691_inb : ∀ (i : grid0.Coords) (k0_t2 : Fin k0_t2_loop.trips) (v2169 : IVec S16 32) (v2171 : IVec S16 32) (k0_hw691 : k0_chk691 i k0_t2 v2169 v2171), ∀ (k0_h6 : k0_cond6 i k0_t2 = 1#1), ∀ a x, ((![v2169, v2171] : Fin 2 → IVec S16 32) a x).toNat < S32x128.size a := fun i k0_t2 v2169 v2171 k0_hw691 k0_h6 => k0_hw691 k0_h6

def k0_chk692 (i : grid0.Coords) (k0_t2 : Fin k0_t2_loop.trips) (v2181 : IVec S16 32) (v2183 : IVec S16 32) : Prop :=
  (∀ (k0_h6 : k0_cond6 i k0_t2 = 1#1), ∀ a x, ((![v2181, v2183] : Fin 2 → IVec S16 32) a x).toNat < S32x128.size a)
theorem k0_idx692_inb : ∀ (i : grid0.Coords) (k0_t2 : Fin k0_t2_loop.trips) (v2181 : IVec S16 32) (v2183 : IVec S16 32) (k0_hw692 : k0_chk692 i k0_t2 v2181 v2183), ∀ (k0_h6 : k0_cond6 i k0_t2 = 1#1), ∀ a x, ((![v2181, v2183] : Fin 2 → IVec S16 32) a x).toNat < S32x128.size a := fun i k0_t2 v2181 v2183 k0_hw692 k0_h6 => k0_hw692 k0_h6

def k0_chk693 (i : grid0.Coords) (k0_t2 : Fin k0_t2_loop.trips) (v2193 : IVec S16 32) (v2195 : IVec S16 32) : Prop :=
  (∀ (k0_h6 : k0_cond6 i k0_t2 = 1#1), ∀ a x, ((![v2193, v2195] : Fin 2 → IVec S16 32) a x).toNat < S32x128.size a)
theorem k0_idx693_inb : ∀ (i : grid0.Coords) (k0_t2 : Fin k0_t2_loop.trips) (v2193 : IVec S16 32) (v2195 : IVec S16 32) (k0_hw693 : k0_chk693 i k0_t2 v2193 v2195), ∀ (k0_h6 : k0_cond6 i k0_t2 = 1#1), ∀ a x, ((![v2193, v2195] : Fin 2 → IVec S16 32) a x).toNat < S32x128.size a := fun i k0_t2 v2193 v2195 k0_hw693 k0_h6 => k0_hw693 k0_h6

def k0_chk694 (i : grid0.Coords) (k0_t2 : Fin k0_t2_loop.trips) (v2205 : IVec S16 32) (v2207 : IVec S16 32) : Prop :=
  (∀ (k0_h6 : k0_cond6 i k0_t2 = 1#1), ∀ a x, ((![v2205, v2207] : Fin 2 → IVec S16 32) a x).toNat < S32x128.size a)
theorem k0_idx694_inb : ∀ (i : grid0.Coords) (k0_t2 : Fin k0_t2_loop.trips) (v2205 : IVec S16 32) (v2207 : IVec S16 32) (k0_hw694 : k0_chk694 i k0_t2 v2205 v2207), ∀ (k0_h6 : k0_cond6 i k0_t2 = 1#1), ∀ a x, ((![v2205, v2207] : Fin 2 → IVec S16 32) a x).toNat < S32x128.size a := fun i k0_t2 v2205 v2207 k0_hw694 k0_h6 => k0_hw694 k0_h6

def k0_chk695 (i : grid0.Coords) (k0_t2 : Fin k0_t2_loop.trips) (v2217 : IVec S16 32) (v2219 : IVec S16 32) : Prop :=
  (∀ (k0_h6 : k0_cond6 i k0_t2 = 1#1), ∀ a x, ((![v2217, v2219] : Fin 2 → IVec S16 32) a x).toNat < S32x128.size a)
theorem k0_idx695_inb : ∀ (i : grid0.Coords) (k0_t2 : Fin k0_t2_loop.trips) (v2217 : IVec S16 32) (v2219 : IVec S16 32) (k0_hw695 : k0_chk695 i k0_t2 v2217 v2219), ∀ (k0_h6 : k0_cond6 i k0_t2 = 1#1), ∀ a x, ((![v2217, v2219] : Fin 2 → IVec S16 32) a x).toNat < S32x128.size a := fun i k0_t2 v2217 v2219 k0_hw695 k0_h6 => k0_hw695 k0_h6

def k0_chk696 (i : grid0.Coords) (k0_t2 : Fin k0_t2_loop.trips) (v2229 : IVec S16 32) (v2231 : IVec S16 32) : Prop :=
  (∀ (k0_h6 : k0_cond6 i k0_t2 = 1#1), ∀ a x, ((![v2229, v2231] : Fin 2 → IVec S16 32) a x).toNat < S32x128.size a)
theorem k0_idx696_inb : ∀ (i : grid0.Coords) (k0_t2 : Fin k0_t2_loop.trips) (v2229 : IVec S16 32) (v2231 : IVec S16 32) (k0_hw696 : k0_chk696 i k0_t2 v2229 v2231), ∀ (k0_h6 : k0_cond6 i k0_t2 = 1#1), ∀ a x, ((![v2229, v2231] : Fin 2 → IVec S16 32) a x).toNat < S32x128.size a := fun i k0_t2 v2229 v2231 k0_hw696 k0_h6 => k0_hw696 k0_h6

def k0_chk697 (i : grid0.Coords) (k0_t2 : Fin k0_t2_loop.trips) (v2241 : IVec S16 32) (v2243 : IVec S16 32) : Prop :=
  (∀ (k0_h6 : k0_cond6 i k0_t2 = 1#1), ∀ a x, ((![v2241, v2243] : Fin 2 → IVec S16 32) a x).toNat < S32x128.size a)
theorem k0_idx697_inb : ∀ (i : grid0.Coords) (k0_t2 : Fin k0_t2_loop.trips) (v2241 : IVec S16 32) (v2243 : IVec S16 32) (k0_hw697 : k0_chk697 i k0_t2 v2241 v2243), ∀ (k0_h6 : k0_cond6 i k0_t2 = 1#1), ∀ a x, ((![v2241, v2243] : Fin 2 → IVec S16 32) a x).toNat < S32x128.size a := fun i k0_t2 v2241 v2243 k0_hw697 k0_h6 => k0_hw697 k0_h6

def k0_chk698 (i : grid0.Coords) (k0_t2 : Fin k0_t2_loop.trips) (v2253 : IVec S16 32) (v2255 : IVec S16 32) : Prop :=
  (∀ (k0_h6 : k0_cond6 i k0_t2 = 1#1), ∀ a x, ((![v2253, v2255] : Fin 2 → IVec S16 32) a x).toNat < S32x128.size a)
theorem k0_idx698_inb : ∀ (i : grid0.Coords) (k0_t2 : Fin k0_t2_loop.trips) (v2253 : IVec S16 32) (v2255 : IVec S16 32) (k0_hw698 : k0_chk698 i k0_t2 v2253 v2255), ∀ (k0_h6 : k0_cond6 i k0_t2 = 1#1), ∀ a x, ((![v2253, v2255] : Fin 2 → IVec S16 32) a x).toNat < S32x128.size a := fun i k0_t2 v2253 v2255 k0_hw698 k0_h6 => k0_hw698 k0_h6

def k0_chk699 (i : grid0.Coords) (k0_t2 : Fin k0_t2_loop.trips) (v2265 : IVec S16 32) (v2267 : IVec S16 32) : Prop :=
  (∀ (k0_h6 : k0_cond6 i k0_t2 = 1#1), ∀ a x, ((![v2265, v2267] : Fin 2 → IVec S16 32) a x).toNat < S32x128.size a)
theorem k0_idx699_inb : ∀ (i : grid0.Coords) (k0_t2 : Fin k0_t2_loop.trips) (v2265 : IVec S16 32) (v2267 : IVec S16 32) (k0_hw699 : k0_chk699 i k0_t2 v2265 v2267), ∀ (k0_h6 : k0_cond6 i k0_t2 = 1#1), ∀ a x, ((![v2265, v2267] : Fin 2 → IVec S16 32) a x).toNat < S32x128.size a := fun i k0_t2 v2265 v2267 k0_hw699 k0_h6 => k0_hw699 k0_h6

def k0_chk700 (i : grid0.Coords) (k0_t2 : Fin k0_t2_loop.trips) (v2277 : IVec S16 32) (v2279 : IVec S16 32) : Prop :=
  (∀ (k0_h6 : k0_cond6 i k0_t2 = 1#1), ∀ a x, ((![v2277, v2279] : Fin 2 → IVec S16 32) a x).toNat < S32x128.size a)
theorem k0_idx700_inb : ∀ (i : grid0.Coords) (k0_t2 : Fin k0_t2_loop.trips) (v2277 : IVec S16 32) (v2279 : IVec S16 32) (k0_hw700 : k0_chk700 i k0_t2 v2277 v2279), ∀ (k0_h6 : k0_cond6 i k0_t2 = 1#1), ∀ a x, ((![v2277, v2279] : Fin 2 → IVec S16 32) a x).toNat < S32x128.size a := fun i k0_t2 v2277 v2279 k0_hw700 k0_h6 => k0_hw700 k0_h6

def k0_chk701 (i : grid0.Coords) (k0_t2 : Fin k0_t2_loop.trips) (v2289 : IVec S16 32) (v2291 : IVec S16 32) : Prop :=
  (∀ (k0_h6 : k0_cond6 i k0_t2 = 1#1), ∀ a x, ((![v2289, v2291] : Fin 2 → IVec S16 32) a x).toNat < S32x128.size a)
theorem k0_idx701_inb : ∀ (i : grid0.Coords) (k0_t2 : Fin k0_t2_loop.trips) (v2289 : IVec S16 32) (v2291 : IVec S16 32) (k0_hw701 : k0_chk701 i k0_t2 v2289 v2291), ∀ (k0_h6 : k0_cond6 i k0_t2 = 1#1), ∀ a x, ((![v2289, v2291] : Fin 2 → IVec S16 32) a x).toNat < S32x128.size a := fun i k0_t2 v2289 v2291 k0_hw701 k0_h6 => k0_hw701 k0_h6

def k0_chk702 (i : grid0.Coords) (k0_t2 : Fin k0_t2_loop.trips) (v2301 : IVec S16 32) (v2303 : IVec S16 32) : Prop :=
  (∀ (k0_h6 : k0_cond6 i k0_t2 = 1#1), ∀ a x, ((![v2301, v2303] : Fin 2 → IVec S16 32) a x).toNat < S32x128.size a)
theorem k0_idx702_inb : ∀ (i : grid0.Coords) (k0_t2 : Fin k0_t2_loop.trips) (v2301 : IVec S16 32) (v2303 : IVec S16 32) (k0_hw702 : k0_chk702 i k0_t2 v2301 v2303), ∀ (k0_h6 : k0_cond6 i k0_t2 = 1#1), ∀ a x, ((![v2301, v2303] : Fin 2 → IVec S16 32) a x).toNat < S32x128.size a := fun i k0_t2 v2301 v2303 k0_hw702 k0_h6 => k0_hw702 k0_h6

def k0_chk703 (i : grid0.Coords) (k0_t2 : Fin k0_t2_loop.trips) (v2313 : IVec S16 32) (v2315 : IVec S16 32) : Prop :=
  (∀ (k0_h6 : k0_cond6 i k0_t2 = 1#1), ∀ a x, ((![v2313, v2315] : Fin 2 → IVec S16 32) a x).toNat < S32x128.size a)
theorem k0_idx703_inb : ∀ (i : grid0.Coords) (k0_t2 : Fin k0_t2_loop.trips) (v2313 : IVec S16 32) (v2315 : IVec S16 32) (k0_hw703 : k0_chk703 i k0_t2 v2313 v2315), ∀ (k0_h6 : k0_cond6 i k0_t2 = 1#1), ∀ a x, ((![v2313, v2315] : Fin 2 → IVec S16 32) a x).toNat < S32x128.size a := fun i k0_t2 v2313 v2315 k0_hw703 k0_h6 => k0_hw703 k0_h6

def k0_chk704 (i : grid0.Coords) (k0_t2 : Fin k0_t2_loop.trips) (v2325 : IVec S16 32) (v2327 : IVec S16 32) : Prop :=
  (∀ (k0_h6 : k0_cond6 i k0_t2 = 1#1), ∀ a x, ((![v2325, v2327] : Fin 2 → IVec S16 32) a x).toNat < S32x128.size a)
theorem k0_idx704_inb : ∀ (i : grid0.Coords) (k0_t2 : Fin k0_t2_loop.trips) (v2325 : IVec S16 32) (v2327 : IVec S16 32) (k0_hw704 : k0_chk704 i k0_t2 v2325 v2327), ∀ (k0_h6 : k0_cond6 i k0_t2 = 1#1), ∀ a x, ((![v2325, v2327] : Fin 2 → IVec S16 32) a x).toNat < S32x128.size a := fun i k0_t2 v2325 v2327 k0_hw704 k0_h6 => k0_hw704 k0_h6

def k0_chk705 (i : grid0.Coords) (k0_t2 : Fin k0_t2_loop.trips) (v2337 : IVec S16 32) (v2339 : IVec S16 32) : Prop :=
  (∀ (k0_h6 : k0_cond6 i k0_t2 = 1#1), ∀ a x, ((![v2337, v2339] : Fin 2 → IVec S16 32) a x).toNat < S32x128.size a)
theorem k0_idx705_inb : ∀ (i : grid0.Coords) (k0_t2 : Fin k0_t2_loop.trips) (v2337 : IVec S16 32) (v2339 : IVec S16 32) (k0_hw705 : k0_chk705 i k0_t2 v2337 v2339), ∀ (k0_h6 : k0_cond6 i k0_t2 = 1#1), ∀ a x, ((![v2337, v2339] : Fin 2 → IVec S16 32) a x).toNat < S32x128.size a := fun i k0_t2 v2337 v2339 k0_hw705 k0_h6 => k0_hw705 k0_h6

def k0_chk706 (i : grid0.Coords) (k0_t2 : Fin k0_t2_loop.trips) (v2349 : IVec S16 32) (v2351 : IVec S16 32) : Prop :=
  (∀ (k0_h6 : k0_cond6 i k0_t2 = 1#1), ∀ a x, ((![v2349, v2351] : Fin 2 → IVec S16 32) a x).toNat < S32x128.size a)
theorem k0_idx706_inb : ∀ (i : grid0.Coords) (k0_t2 : Fin k0_t2_loop.trips) (v2349 : IVec S16 32) (v2351 : IVec S16 32) (k0_hw706 : k0_chk706 i k0_t2 v2349 v2351), ∀ (k0_h6 : k0_cond6 i k0_t2 = 1#1), ∀ a x, ((![v2349, v2351] : Fin 2 → IVec S16 32) a x).toNat < S32x128.size a := fun i k0_t2 v2349 v2351 k0_hw706 k0_h6 => k0_hw706 k0_h6

def k0_chk707 (i : grid0.Coords) (k0_t2 : Fin k0_t2_loop.trips) (v2361 : IVec S16 32) (v2363 : IVec S16 32) : Prop :=
  (∀ (k0_h6 : k0_cond6 i k0_t2 = 1#1), ∀ a x, ((![v2361, v2363] : Fin 2 → IVec S16 32) a x).toNat < S32x128.size a)
theorem k0_idx707_inb : ∀ (i : grid0.Coords) (k0_t2 : Fin k0_t2_loop.trips) (v2361 : IVec S16 32) (v2363 : IVec S16 32) (k0_hw707 : k0_chk707 i k0_t2 v2361 v2363), ∀ (k0_h6 : k0_cond6 i k0_t2 = 1#1), ∀ a x, ((![v2361, v2363] : Fin 2 → IVec S16 32) a x).toNat < S32x128.size a := fun i k0_t2 v2361 v2363 k0_hw707 k0_h6 => k0_hw707 k0_h6

def k0_chk708 (i : grid0.Coords) (k0_t2 : Fin k0_t2_loop.trips) (v2373 : IVec S16 32) (v2375 : IVec S16 32) : Prop :=
  (∀ (k0_h6 : k0_cond6 i k0_t2 = 1#1), ∀ a x, ((![v2373, v2375] : Fin 2 → IVec S16 32) a x).toNat < S32x128.size a)
theorem k0_idx708_inb : ∀ (i : grid0.Coords) (k0_t2 : Fin k0_t2_loop.trips) (v2373 : IVec S16 32) (v2375 : IVec S16 32) (k0_hw708 : k0_chk708 i k0_t2 v2373 v2375), ∀ (k0_h6 : k0_cond6 i k0_t2 = 1#1), ∀ a x, ((![v2373, v2375] : Fin 2 → IVec S16 32) a x).toNat < S32x128.size a := fun i k0_t2 v2373 v2375 k0_hw708 k0_h6 => k0_hw708 k0_h6

def k0_chk709 (i : grid0.Coords) (k0_t2 : Fin k0_t2_loop.trips) (v2385 : IVec S16 32) (v2387 : IVec S16 32) : Prop :=
  (∀ (k0_h6 : k0_cond6 i k0_t2 = 1#1), ∀ a x, ((![v2385, v2387] : Fin 2 → IVec S16 32) a x).toNat < S32x128.size a)
theorem k0_idx709_inb : ∀ (i : grid0.Coords) (k0_t2 : Fin k0_t2_loop.trips) (v2385 : IVec S16 32) (v2387 : IVec S16 32) (k0_hw709 : k0_chk709 i k0_t2 v2385 v2387), ∀ (k0_h6 : k0_cond6 i k0_t2 = 1#1), ∀ a x, ((![v2385, v2387] : Fin 2 → IVec S16 32) a x).toNat < S32x128.size a := fun i k0_t2 v2385 v2387 k0_hw709 k0_h6 => k0_hw709 k0_h6

def k0_chk710 (i : grid0.Coords) (k0_t2 : Fin k0_t2_loop.trips) (v2397 : IVec S16 32) (v2399 : IVec S16 32) : Prop :=
  (∀ (k0_h6 : k0_cond6 i k0_t2 = 1#1), ∀ a x, ((![v2397, v2399] : Fin 2 → IVec S16 32) a x).toNat < S32x128.size a)
theorem k0_idx710_inb : ∀ (i : grid0.Coords) (k0_t2 : Fin k0_t2_loop.trips) (v2397 : IVec S16 32) (v2399 : IVec S16 32) (k0_hw710 : k0_chk710 i k0_t2 v2397 v2399), ∀ (k0_h6 : k0_cond6 i k0_t2 = 1#1), ∀ a x, ((![v2397, v2399] : Fin 2 → IVec S16 32) a x).toNat < S32x128.size a := fun i k0_t2 v2397 v2399 k0_hw710 k0_h6 => k0_hw710 k0_h6

def k0_chk711 (i : grid0.Coords) (k0_t2 : Fin k0_t2_loop.trips) (v2409 : IVec S16 32) (v2411 : IVec S16 32) : Prop :=
  (∀ (k0_h6 : k0_cond6 i k0_t2 = 1#1), ∀ a x, ((![v2409, v2411] : Fin 2 → IVec S16 32) a x).toNat < S32x128.size a)
theorem k0_idx711_inb : ∀ (i : grid0.Coords) (k0_t2 : Fin k0_t2_loop.trips) (v2409 : IVec S16 32) (v2411 : IVec S16 32) (k0_hw711 : k0_chk711 i k0_t2 v2409 v2411), ∀ (k0_h6 : k0_cond6 i k0_t2 = 1#1), ∀ a x, ((![v2409, v2411] : Fin 2 → IVec S16 32) a x).toNat < S32x128.size a := fun i k0_t2 v2409 v2411 k0_hw711 k0_h6 => k0_hw711 k0_h6

def k0_chk712 (i : grid0.Coords) (k0_t2 : Fin k0_t2_loop.trips) (v2421 : IVec S16 32) (v2423 : IVec S16 32) : Prop :=
  (∀ (k0_h6 : k0_cond6 i k0_t2 = 1#1), ∀ a x, ((![v2421, v2423] : Fin 2 → IVec S16 32) a x).toNat < S32x128.size a)
theorem k0_idx712_inb : ∀ (i : grid0.Coords) (k0_t2 : Fin k0_t2_loop.trips) (v2421 : IVec S16 32) (v2423 : IVec S16 32) (k0_hw712 : k0_chk712 i k0_t2 v2421 v2423), ∀ (k0_h6 : k0_cond6 i k0_t2 = 1#1), ∀ a x, ((![v2421, v2423] : Fin 2 → IVec S16 32) a x).toNat < S32x128.size a := fun i k0_t2 v2421 v2423 k0_hw712 k0_h6 => k0_hw712 k0_h6

def k0_chk713 (i : grid0.Coords) (k0_t2 : Fin k0_t2_loop.trips) (v2433 : IVec S16 32) (v2435 : IVec S16 32) : Prop :=
  (∀ (k0_h6 : k0_cond6 i k0_t2 = 1#1), ∀ a x, ((![v2433, v2435] : Fin 2 → IVec S16 32) a x).toNat < S32x128.size a)
theorem k0_idx713_inb : ∀ (i : grid0.Coords) (k0_t2 : Fin k0_t2_loop.trips) (v2433 : IVec S16 32) (v2435 : IVec S16 32) (k0_hw713 : k0_chk713 i k0_t2 v2433 v2435), ∀ (k0_h6 : k0_cond6 i k0_t2 = 1#1), ∀ a x, ((![v2433, v2435] : Fin 2 → IVec S16 32) a x).toNat < S32x128.size a := fun i k0_t2 v2433 v2435 k0_hw713 k0_h6 => k0_hw713 k0_h6

def k0_chk714 (i : grid0.Coords) (k0_t2 : Fin k0_t2_loop.trips) (v2445 : IVec S16 32) (v2447 : IVec S16 32) : Prop :=
  (∀ (k0_h6 : k0_cond6 i k0_t2 = 1#1), ∀ a x, ((![v2445, v2447] : Fin 2 → IVec S16 32) a x).toNat < S32x128.size a)
theorem k0_idx714_inb : ∀ (i : grid0.Coords) (k0_t2 : Fin k0_t2_loop.trips) (v2445 : IVec S16 32) (v2447 : IVec S16 32) (k0_hw714 : k0_chk714 i k0_t2 v2445 v2447), ∀ (k0_h6 : k0_cond6 i k0_t2 = 1#1), ∀ a x, ((![v2445, v2447] : Fin 2 → IVec S16 32) a x).toNat < S32x128.size a := fun i k0_t2 v2445 v2447 k0_hw714 k0_h6 => k0_hw714 k0_h6

def k0_chk715 (i : grid0.Coords) (k0_t2 : Fin k0_t2_loop.trips) (v2457 : IVec S16 32) (v2459 : IVec S16 32) : Prop :=
  (∀ (k0_h6 : k0_cond6 i k0_t2 = 1#1), ∀ a x, ((![v2457, v2459] : Fin 2 → IVec S16 32) a x).toNat < S32x128.size a)
theorem k0_idx715_inb : ∀ (i : grid0.Coords) (k0_t2 : Fin k0_t2_loop.trips) (v2457 : IVec S16 32) (v2459 : IVec S16 32) (k0_hw715 : k0_chk715 i k0_t2 v2457 v2459), ∀ (k0_h6 : k0_cond6 i k0_t2 = 1#1), ∀ a x, ((![v2457, v2459] : Fin 2 → IVec S16 32) a x).toNat < S32x128.size a := fun i k0_t2 v2457 v2459 k0_hw715 k0_h6 => k0_hw715 k0_h6

def k0_chk716 (i : grid0.Coords) (k0_t2 : Fin k0_t2_loop.trips) (v2469 : IVec S16 32) (v2471 : IVec S16 32) : Prop :=
  (∀ (k0_h6 : k0_cond6 i k0_t2 = 1#1), ∀ a x, ((![v2469, v2471] : Fin 2 → IVec S16 32) a x).toNat < S32x128.size a)
theorem k0_idx716_inb : ∀ (i : grid0.Coords) (k0_t2 : Fin k0_t2_loop.trips) (v2469 : IVec S16 32) (v2471 : IVec S16 32) (k0_hw716 : k0_chk716 i k0_t2 v2469 v2471), ∀ (k0_h6 : k0_cond6 i k0_t2 = 1#1), ∀ a x, ((![v2469, v2471] : Fin 2 → IVec S16 32) a x).toNat < S32x128.size a := fun i k0_t2 v2469 v2471 k0_hw716 k0_h6 => k0_hw716 k0_h6

def k0_chk717 (i : grid0.Coords) (k0_t2 : Fin k0_t2_loop.trips) (v2481 : IVec S16 32) (v2483 : IVec S16 32) : Prop :=
  (∀ (k0_h6 : k0_cond6 i k0_t2 = 1#1), ∀ a x, ((![v2481, v2483] : Fin 2 → IVec S16 32) a x).toNat < S32x128.size a)
theorem k0_idx717_inb : ∀ (i : grid0.Coords) (k0_t2 : Fin k0_t2_loop.trips) (v2481 : IVec S16 32) (v2483 : IVec S16 32) (k0_hw717 : k0_chk717 i k0_t2 v2481 v2483), ∀ (k0_h6 : k0_cond6 i k0_t2 = 1#1), ∀ a x, ((![v2481, v2483] : Fin 2 → IVec S16 32) a x).toNat < S32x128.size a := fun i k0_t2 v2481 v2483 k0_hw717 k0_h6 => k0_hw717 k0_h6

def k0_chk718 (i : grid0.Coords) (k0_t2 : Fin k0_t2_loop.trips) (v2493 : IVec S16 32) (v2495 : IVec S16 32) : Prop :=
  (∀ (k0_h6 : k0_cond6 i k0_t2 = 1#1), ∀ a x, ((![v2493, v2495] : Fin 2 → IVec S16 32) a x).toNat < S32x128.size a)
theorem k0_idx718_inb : ∀ (i : grid0.Coords) (k0_t2 : Fin k0_t2_loop.trips) (v2493 : IVec S16 32) (v2495 : IVec S16 32) (k0_hw718 : k0_chk718 i k0_t2 v2493 v2495), ∀ (k0_h6 : k0_cond6 i k0_t2 = 1#1), ∀ a x, ((![v2493, v2495] : Fin 2 → IVec S16 32) a x).toNat < S32x128.size a := fun i k0_t2 v2493 v2495 k0_hw718 k0_h6 => k0_hw718 k0_h6

def k0_chk719 (i : grid0.Coords) (k0_t2 : Fin k0_t2_loop.trips) (v2505 : IVec S16 32) (v2507 : IVec S16 32) : Prop :=
  (∀ (k0_h6 : k0_cond6 i k0_t2 = 1#1), ∀ a x, ((![v2505, v2507] : Fin 2 → IVec S16 32) a x).toNat < S32x128.size a)
theorem k0_idx719_inb : ∀ (i : grid0.Coords) (k0_t2 : Fin k0_t2_loop.trips) (v2505 : IVec S16 32) (v2507 : IVec S16 32) (k0_hw719 : k0_chk719 i k0_t2 v2505 v2507), ∀ (k0_h6 : k0_cond6 i k0_t2 = 1#1), ∀ a x, ((![v2505, v2507] : Fin 2 → IVec S16 32) a x).toNat < S32x128.size a := fun i k0_t2 v2505 v2507 k0_hw719 k0_h6 => k0_hw719 k0_h6

def k0_chk720 (i : grid0.Coords) (k0_t2 : Fin k0_t2_loop.trips) (v2517 : IVec S16 32) (v2519 : IVec S16 32) : Prop :=
  (∀ (k0_h6 : k0_cond6 i k0_t2 = 1#1), ∀ a x, ((![v2517, v2519] : Fin 2 → IVec S16 32) a x).toNat < S32x128.size a)
theorem k0_idx720_inb : ∀ (i : grid0.Coords) (k0_t2 : Fin k0_t2_loop.trips) (v2517 : IVec S16 32) (v2519 : IVec S16 32) (k0_hw720 : k0_chk720 i k0_t2 v2517 v2519), ∀ (k0_h6 : k0_cond6 i k0_t2 = 1#1), ∀ a x, ((![v2517, v2519] : Fin 2 → IVec S16 32) a x).toNat < S32x128.size a := fun i k0_t2 v2517 v2519 k0_hw720 k0_h6 => k0_hw720 k0_h6

def k0_chk721 (i : grid0.Coords) (k0_t2 : Fin k0_t2_loop.trips) (v2529 : IVec S16 32) (v2531 : IVec S16 32) : Prop :=
  (∀ (k0_h6 : k0_cond6 i k0_t2 = 1#1), ∀ a x, ((![v2529, v2531] : Fin 2 → IVec S16 32) a x).toNat < S32x128.size a)
theorem k0_idx721_inb : ∀ (i : grid0.Coords) (k0_t2 : Fin k0_t2_loop.trips) (v2529 : IVec S16 32) (v2531 : IVec S16 32) (k0_hw721 : k0_chk721 i k0_t2 v2529 v2531), ∀ (k0_h6 : k0_cond6 i k0_t2 = 1#1), ∀ a x, ((![v2529, v2531] : Fin 2 → IVec S16 32) a x).toNat < S32x128.size a := fun i k0_t2 v2529 v2531 k0_hw721 k0_h6 => k0_hw721 k0_h6

def k0_chk722 (i : grid0.Coords) (k0_t2 : Fin k0_t2_loop.trips) (v2541 : IVec S16 32) (v2543 : IVec S16 32) : Prop :=
  (∀ (k0_h6 : k0_cond6 i k0_t2 = 1#1), ∀ a x, ((![v2541, v2543] : Fin 2 → IVec S16 32) a x).toNat < S32x128.size a)
theorem k0_idx722_inb : ∀ (i : grid0.Coords) (k0_t2 : Fin k0_t2_loop.trips) (v2541 : IVec S16 32) (v2543 : IVec S16 32) (k0_hw722 : k0_chk722 i k0_t2 v2541 v2543), ∀ (k0_h6 : k0_cond6 i k0_t2 = 1#1), ∀ a x, ((![v2541, v2543] : Fin 2 → IVec S16 32) a x).toNat < S32x128.size a := fun i k0_t2 v2541 v2543 k0_hw722 k0_h6 => k0_hw722 k0_h6

def k0_chk723 (i : grid0.Coords) (k0_t2 : Fin k0_t2_loop.trips) (v2553 : IVec S16 32) (v2555 : IVec S16 32) : Prop :=
  (∀ (k0_h6 : k0_cond6 i k0_t2 = 1#1), ∀ a x, ((![v2553, v2555] : Fin 2 → IVec S16 32) a x).toNat < S32x128.size a)
theorem k0_idx723_inb : ∀ (i : grid0.Coords) (k0_t2 : Fin k0_t2_loop.trips) (v2553 : IVec S16 32) (v2555 : IVec S16 32) (k0_hw723 : k0_chk723 i k0_t2 v2553 v2555), ∀ (k0_h6 : k0_cond6 i k0_t2 = 1#1), ∀ a x, ((![v2553, v2555] : Fin 2 → IVec S16 32) a x).toNat < S32x128.size a := fun i k0_t2 v2553 v2555 k0_hw723 k0_h6 => k0_hw723 k0_h6

def k0_chk724 (i : grid0.Coords) (k0_t2 : Fin k0_t2_loop.trips) (v2565 : IVec S16 32) (v2567 : IVec S16 32) : Prop :=
  (∀ (k0_h6 : k0_cond6 i k0_t2 = 1#1), ∀ a x, ((![v2565, v2567] : Fin 2 → IVec S16 32) a x).toNat < S32x128.size a)
theorem k0_idx724_inb : ∀ (i : grid0.Coords) (k0_t2 : Fin k0_t2_loop.trips) (v2565 : IVec S16 32) (v2567 : IVec S16 32) (k0_hw724 : k0_chk724 i k0_t2 v2565 v2567), ∀ (k0_h6 : k0_cond6 i k0_t2 = 1#1), ∀ a x, ((![v2565, v2567] : Fin 2 → IVec S16 32) a x).toNat < S32x128.size a := fun i k0_t2 v2565 v2567 k0_hw724 k0_h6 => k0_hw724 k0_h6

def k0_chk725 (i : grid0.Coords) (k0_t2 : Fin k0_t2_loop.trips) (v2577 : IVec S16 32) (v2579 : IVec S16 32) : Prop :=
  (∀ (k0_h6 : k0_cond6 i k0_t2 = 1#1), ∀ a x, ((![v2577, v2579] : Fin 2 → IVec S16 32) a x).toNat < S32x128.size a)
theorem k0_idx725_inb : ∀ (i : grid0.Coords) (k0_t2 : Fin k0_t2_loop.trips) (v2577 : IVec S16 32) (v2579 : IVec S16 32) (k0_hw725 : k0_chk725 i k0_t2 v2577 v2579), ∀ (k0_h6 : k0_cond6 i k0_t2 = 1#1), ∀ a x, ((![v2577, v2579] : Fin 2 → IVec S16 32) a x).toNat < S32x128.size a := fun i k0_t2 v2577 v2579 k0_hw725 k0_h6 => k0_hw725 k0_h6

def k0_chk726 (i : grid0.Coords) (k0_t2 : Fin k0_t2_loop.trips) (v2589 : IVec S16 32) (v2591 : IVec S16 32) : Prop :=
  (∀ (k0_h6 : k0_cond6 i k0_t2 = 1#1), ∀ a x, ((![v2589, v2591] : Fin 2 → IVec S16 32) a x).toNat < S32x128.size a)
theorem k0_idx726_inb : ∀ (i : grid0.Coords) (k0_t2 : Fin k0_t2_loop.trips) (v2589 : IVec S16 32) (v2591 : IVec S16 32) (k0_hw726 : k0_chk726 i k0_t2 v2589 v2591), ∀ (k0_h6 : k0_cond6 i k0_t2 = 1#1), ∀ a x, ((![v2589, v2591] : Fin 2 → IVec S16 32) a x).toNat < S32x128.size a := fun i k0_t2 v2589 v2591 k0_hw726 k0_h6 => k0_hw726 k0_h6

def k0_chk727 (i : grid0.Coords) (k0_t2 : Fin k0_t2_loop.trips) (v2601 : IVec S16 32) (v2603 : IVec S16 32) : Prop :=
  (∀ (k0_h6 : k0_cond6 i k0_t2 = 1#1), ∀ a x, ((![v2601, v2603] : Fin 2 → IVec S16 32) a x).toNat < S32x128.size a)
theorem k0_idx727_inb : ∀ (i : grid0.Coords) (k0_t2 : Fin k0_t2_loop.trips) (v2601 : IVec S16 32) (v2603 : IVec S16 32) (k0_hw727 : k0_chk727 i k0_t2 v2601 v2603), ∀ (k0_h6 : k0_cond6 i k0_t2 = 1#1), ∀ a x, ((![v2601, v2603] : Fin 2 → IVec S16 32) a x).toNat < S32x128.size a := fun i k0_t2 v2601 v2603 k0_hw727 k0_h6 => k0_hw727 k0_h6

def k0_chk728 (i : grid0.Coords) (k0_t2 : Fin k0_t2_loop.trips) (v2613 : IVec S16 32) (v2615 : IVec S16 32) : Prop :=
  (∀ (k0_h6 : k0_cond6 i k0_t2 = 1#1), ∀ a x, ((![v2613, v2615] : Fin 2 → IVec S16 32) a x).toNat < S32x128.size a)
theorem k0_idx728_inb : ∀ (i : grid0.Coords) (k0_t2 : Fin k0_t2_loop.trips) (v2613 : IVec S16 32) (v2615 : IVec S16 32) (k0_hw728 : k0_chk728 i k0_t2 v2613 v2615), ∀ (k0_h6 : k0_cond6 i k0_t2 = 1#1), ∀ a x, ((![v2613, v2615] : Fin 2 → IVec S16 32) a x).toNat < S32x128.size a := fun i k0_t2 v2613 v2615 k0_hw728 k0_h6 => k0_hw728 k0_h6

def k0_chk729 (i : grid0.Coords) (k0_t2 : Fin k0_t2_loop.trips) (v2625 : IVec S16 32) (v2627 : IVec S16 32) : Prop :=
  (∀ (k0_h6 : k0_cond6 i k0_t2 = 1#1), ∀ a x, ((![v2625, v2627] : Fin 2 → IVec S16 32) a x).toNat < S32x128.size a)
theorem k0_idx729_inb : ∀ (i : grid0.Coords) (k0_t2 : Fin k0_t2_loop.trips) (v2625 : IVec S16 32) (v2627 : IVec S16 32) (k0_hw729 : k0_chk729 i k0_t2 v2625 v2627), ∀ (k0_h6 : k0_cond6 i k0_t2 = 1#1), ∀ a x, ((![v2625, v2627] : Fin 2 → IVec S16 32) a x).toNat < S32x128.size a := fun i k0_t2 v2625 v2627 k0_hw729 k0_h6 => k0_hw729 k0_h6

def k0_chk730 (i : grid0.Coords) (k0_t2 : Fin k0_t2_loop.trips) (v2637 : IVec S16 32) (v2639 : IVec S16 32) : Prop :=
  (∀ (k0_h6 : k0_cond6 i k0_t2 = 1#1), ∀ a x, ((![v2637, v2639] : Fin 2 → IVec S16 32) a x).toNat < S32x128.size a)
theorem k0_idx730_inb : ∀ (i : grid0.Coords) (k0_t2 : Fin k0_t2_loop.trips) (v2637 : IVec S16 32) (v2639 : IVec S16 32) (k0_hw730 : k0_chk730 i k0_t2 v2637 v2639), ∀ (k0_h6 : k0_cond6 i k0_t2 = 1#1), ∀ a x, ((![v2637, v2639] : Fin 2 → IVec S16 32) a x).toNat < S32x128.size a := fun i k0_t2 v2637 v2639 k0_hw730 k0_h6 => k0_hw730 k0_h6

def k0_chk731 (i : grid0.Coords) (k0_t2 : Fin k0_t2_loop.trips) (v2649 : IVec S16 32) (v2651 : IVec S16 32) : Prop :=
  (∀ (k0_h6 : k0_cond6 i k0_t2 = 1#1), ∀ a x, ((![v2649, v2651] : Fin 2 → IVec S16 32) a x).toNat < S32x128.size a)
theorem k0_idx731_inb : ∀ (i : grid0.Coords) (k0_t2 : Fin k0_t2_loop.trips) (v2649 : IVec S16 32) (v2651 : IVec S16 32) (k0_hw731 : k0_chk731 i k0_t2 v2649 v2651), ∀ (k0_h6 : k0_cond6 i k0_t2 = 1#1), ∀ a x, ((![v2649, v2651] : Fin 2 → IVec S16 32) a x).toNat < S32x128.size a := fun i k0_t2 v2649 v2651 k0_hw731 k0_h6 => k0_hw731 k0_h6

def k0_chk732 (i : grid0.Coords) (k0_t2 : Fin k0_t2_loop.trips) (v2661 : IVec S16 32) (v2663 : IVec S16 32) : Prop :=
  (∀ (k0_h6 : k0_cond6 i k0_t2 = 1#1), ∀ a x, ((![v2661, v2663] : Fin 2 → IVec S16 32) a x).toNat < S32x128.size a)
theorem k0_idx732_inb : ∀ (i : grid0.Coords) (k0_t2 : Fin k0_t2_loop.trips) (v2661 : IVec S16 32) (v2663 : IVec S16 32) (k0_hw732 : k0_chk732 i k0_t2 v2661 v2663), ∀ (k0_h6 : k0_cond6 i k0_t2 = 1#1), ∀ a x, ((![v2661, v2663] : Fin 2 → IVec S16 32) a x).toNat < S32x128.size a := fun i k0_t2 v2661 v2663 k0_hw732 k0_h6 => k0_hw732 k0_h6

def k0_chk733 (i : grid0.Coords) (k0_t2 : Fin k0_t2_loop.trips) (v2673 : IVec S16 32) (v2675 : IVec S16 32) : Prop :=
  (∀ (k0_h6 : k0_cond6 i k0_t2 = 1#1), ∀ a x, ((![v2673, v2675] : Fin 2 → IVec S16 32) a x).toNat < S32x128.size a)
theorem k0_idx733_inb : ∀ (i : grid0.Coords) (k0_t2 : Fin k0_t2_loop.trips) (v2673 : IVec S16 32) (v2675 : IVec S16 32) (k0_hw733 : k0_chk733 i k0_t2 v2673 v2675), ∀ (k0_h6 : k0_cond6 i k0_t2 = 1#1), ∀ a x, ((![v2673, v2675] : Fin 2 → IVec S16 32) a x).toNat < S32x128.size a := fun i k0_t2 v2673 v2675 k0_hw733 k0_h6 => k0_hw733 k0_h6

def k0_chk734 (i : grid0.Coords) (k0_t2 : Fin k0_t2_loop.trips) (v2685 : IVec S16 32) (v2687 : IVec S16 32) : Prop :=
  (∀ (k0_h6 : k0_cond6 i k0_t2 = 1#1), ∀ a x, ((![v2685, v2687] : Fin 2 → IVec S16 32) a x).toNat < S32x128.size a)
theorem k0_idx734_inb : ∀ (i : grid0.Coords) (k0_t2 : Fin k0_t2_loop.trips) (v2685 : IVec S16 32) (v2687 : IVec S16 32) (k0_hw734 : k0_chk734 i k0_t2 v2685 v2687), ∀ (k0_h6 : k0_cond6 i k0_t2 = 1#1), ∀ a x, ((![v2685, v2687] : Fin 2 → IVec S16 32) a x).toNat < S32x128.size a := fun i k0_t2 v2685 v2687 k0_hw734 k0_h6 => k0_hw734 k0_h6

def k0_chk735 (i : grid0.Coords) (k0_t2 : Fin k0_t2_loop.trips) (v2697 : IVec S16 32) (v2699 : IVec S16 32) : Prop :=
  (∀ (k0_h6 : k0_cond6 i k0_t2 = 1#1), ∀ a x, ((![v2697, v2699] : Fin 2 → IVec S16 32) a x).toNat < S32x128.size a)
theorem k0_idx735_inb : ∀ (i : grid0.Coords) (k0_t2 : Fin k0_t2_loop.trips) (v2697 : IVec S16 32) (v2699 : IVec S16 32) (k0_hw735 : k0_chk735 i k0_t2 v2697 v2699), ∀ (k0_h6 : k0_cond6 i k0_t2 = 1#1), ∀ a x, ((![v2697, v2699] : Fin 2 → IVec S16 32) a x).toNat < S32x128.size a := fun i k0_t2 v2697 v2699 k0_hw735 k0_h6 => k0_hw735 k0_h6

def k0_chk736 (i : grid0.Coords) (k0_t2 : Fin k0_t2_loop.trips) (v2709 : IVec S16 32) (v2711 : IVec S16 32) : Prop :=
  (∀ (k0_h6 : k0_cond6 i k0_t2 = 1#1), ∀ a x, ((![v2709, v2711] : Fin 2 → IVec S16 32) a x).toNat < S32x128.size a)
theorem k0_idx736_inb : ∀ (i : grid0.Coords) (k0_t2 : Fin k0_t2_loop.trips) (v2709 : IVec S16 32) (v2711 : IVec S16 32) (k0_hw736 : k0_chk736 i k0_t2 v2709 v2711), ∀ (k0_h6 : k0_cond6 i k0_t2 = 1#1), ∀ a x, ((![v2709, v2711] : Fin 2 → IVec S16 32) a x).toNat < S32x128.size a := fun i k0_t2 v2709 v2711 k0_hw736 k0_h6 => k0_hw736 k0_h6

def k0_chk737 (i : grid0.Coords) (k0_t2 : Fin k0_t2_loop.trips) (v2721 : IVec S16 32) (v2723 : IVec S16 32) : Prop :=
  (∀ (k0_h6 : k0_cond6 i k0_t2 = 1#1), ∀ a x, ((![v2721, v2723] : Fin 2 → IVec S16 32) a x).toNat < S32x128.size a)
theorem k0_idx737_inb : ∀ (i : grid0.Coords) (k0_t2 : Fin k0_t2_loop.trips) (v2721 : IVec S16 32) (v2723 : IVec S16 32) (k0_hw737 : k0_chk737 i k0_t2 v2721 v2723), ∀ (k0_h6 : k0_cond6 i k0_t2 = 1#1), ∀ a x, ((![v2721, v2723] : Fin 2 → IVec S16 32) a x).toNat < S32x128.size a := fun i k0_t2 v2721 v2723 k0_hw737 k0_h6 => k0_hw737 k0_h6

def k0_chk738 (i : grid0.Coords) (k0_t2 : Fin k0_t2_loop.trips) (v2733 : IVec S16 32) (v2735 : IVec S16 32) : Prop :=
  (∀ (k0_h6 : k0_cond6 i k0_t2 = 1#1), ∀ a x, ((![v2733, v2735] : Fin 2 → IVec S16 32) a x).toNat < S32x128.size a)
theorem k0_idx738_inb : ∀ (i : grid0.Coords) (k0_t2 : Fin k0_t2_loop.trips) (v2733 : IVec S16 32) (v2735 : IVec S16 32) (k0_hw738 : k0_chk738 i k0_t2 v2733 v2735), ∀ (k0_h6 : k0_cond6 i k0_t2 = 1#1), ∀ a x, ((![v2733, v2735] : Fin 2 → IVec S16 32) a x).toNat < S32x128.size a := fun i k0_t2 v2733 v2735 k0_hw738 k0_h6 => k0_hw738 k0_h6

def k0_chk739 (i : grid0.Coords) (k0_t2 : Fin k0_t2_loop.trips) (v2745 : IVec S16 32) (v2747 : IVec S16 32) : Prop :=
  (∀ (k0_h6 : k0_cond6 i k0_t2 = 1#1), ∀ a x, ((![v2745, v2747] : Fin 2 → IVec S16 32) a x).toNat < S32x128.size a)
theorem k0_idx739_inb : ∀ (i : grid0.Coords) (k0_t2 : Fin k0_t2_loop.trips) (v2745 : IVec S16 32) (v2747 : IVec S16 32) (k0_hw739 : k0_chk739 i k0_t2 v2745 v2747), ∀ (k0_h6 : k0_cond6 i k0_t2 = 1#1), ∀ a x, ((![v2745, v2747] : Fin 2 → IVec S16 32) a x).toNat < S32x128.size a := fun i k0_t2 v2745 v2747 k0_hw739 k0_h6 => k0_hw739 k0_h6

def k0_chk740 (i : grid0.Coords) (k0_t2 : Fin k0_t2_loop.trips) (v2757 : IVec S16 32) (v2759 : IVec S16 32) : Prop :=
  (∀ (k0_h6 : k0_cond6 i k0_t2 = 1#1), ∀ a x, ((![v2757, v2759] : Fin 2 → IVec S16 32) a x).toNat < S32x128.size a)
theorem k0_idx740_inb : ∀ (i : grid0.Coords) (k0_t2 : Fin k0_t2_loop.trips) (v2757 : IVec S16 32) (v2759 : IVec S16 32) (k0_hw740 : k0_chk740 i k0_t2 v2757 v2759), ∀ (k0_h6 : k0_cond6 i k0_t2 = 1#1), ∀ a x, ((![v2757, v2759] : Fin 2 → IVec S16 32) a x).toNat < S32x128.size a := fun i k0_t2 v2757 v2759 k0_hw740 k0_h6 => k0_hw740 k0_h6

def k0_chk741 (i : grid0.Coords) (k0_t2 : Fin k0_t2_loop.trips) (v2769 : IVec S16 32) (v2771 : IVec S16 32) : Prop :=
  (∀ (k0_h6 : k0_cond6 i k0_t2 = 1#1), ∀ a x, ((![v2769, v2771] : Fin 2 → IVec S16 32) a x).toNat < S32x128.size a)
theorem k0_idx741_inb : ∀ (i : grid0.Coords) (k0_t2 : Fin k0_t2_loop.trips) (v2769 : IVec S16 32) (v2771 : IVec S16 32) (k0_hw741 : k0_chk741 i k0_t2 v2769 v2771), ∀ (k0_h6 : k0_cond6 i k0_t2 = 1#1), ∀ a x, ((![v2769, v2771] : Fin 2 → IVec S16 32) a x).toNat < S32x128.size a := fun i k0_t2 v2769 v2771 k0_hw741 k0_h6 => k0_hw741 k0_h6

def k0_chk742 (i : grid0.Coords) (k0_t2 : Fin k0_t2_loop.trips) (v2781 : IVec S16 32) (v2783 : IVec S16 32) : Prop :=
  (∀ (k0_h6 : k0_cond6 i k0_t2 = 1#1), ∀ a x, ((![v2781, v2783] : Fin 2 → IVec S16 32) a x).toNat < S32x128.size a)
theorem k0_idx742_inb : ∀ (i : grid0.Coords) (k0_t2 : Fin k0_t2_loop.trips) (v2781 : IVec S16 32) (v2783 : IVec S16 32) (k0_hw742 : k0_chk742 i k0_t2 v2781 v2783), ∀ (k0_h6 : k0_cond6 i k0_t2 = 1#1), ∀ a x, ((![v2781, v2783] : Fin 2 → IVec S16 32) a x).toNat < S32x128.size a := fun i k0_t2 v2781 v2783 k0_hw742 k0_h6 => k0_hw742 k0_h6

def k0_chk743 (i : grid0.Coords) (k0_t2 : Fin k0_t2_loop.trips) (v2793 : IVec S16 32) (v2795 : IVec S16 32) : Prop :=
  (∀ (k0_h6 : k0_cond6 i k0_t2 = 1#1), ∀ a x, ((![v2793, v2795] : Fin 2 → IVec S16 32) a x).toNat < S32x128.size a)
theorem k0_idx743_inb : ∀ (i : grid0.Coords) (k0_t2 : Fin k0_t2_loop.trips) (v2793 : IVec S16 32) (v2795 : IVec S16 32) (k0_hw743 : k0_chk743 i k0_t2 v2793 v2795), ∀ (k0_h6 : k0_cond6 i k0_t2 = 1#1), ∀ a x, ((![v2793, v2795] : Fin 2 → IVec S16 32) a x).toNat < S32x128.size a := fun i k0_t2 v2793 v2795 k0_hw743 k0_h6 => k0_hw743 k0_h6

def k0_chk744 (i : grid0.Coords) (k0_t2 : Fin k0_t2_loop.trips) (v2805 : IVec S16 32) (v2807 : IVec S16 32) : Prop :=
  (∀ (k0_h6 : k0_cond6 i k0_t2 = 1#1), ∀ a x, ((![v2805, v2807] : Fin 2 → IVec S16 32) a x).toNat < S32x128.size a)
theorem k0_idx744_inb : ∀ (i : grid0.Coords) (k0_t2 : Fin k0_t2_loop.trips) (v2805 : IVec S16 32) (v2807 : IVec S16 32) (k0_hw744 : k0_chk744 i k0_t2 v2805 v2807), ∀ (k0_h6 : k0_cond6 i k0_t2 = 1#1), ∀ a x, ((![v2805, v2807] : Fin 2 → IVec S16 32) a x).toNat < S32x128.size a := fun i k0_t2 v2805 v2807 k0_hw744 k0_h6 => k0_hw744 k0_h6

def k0_chk745 (i : grid0.Coords) (k0_t2 : Fin k0_t2_loop.trips) (v2817 : IVec S16 32) (v2819 : IVec S16 32) : Prop :=
  (∀ (k0_h6 : k0_cond6 i k0_t2 = 1#1), ∀ a x, ((![v2817, v2819] : Fin 2 → IVec S16 32) a x).toNat < S32x128.size a)
theorem k0_idx745_inb : ∀ (i : grid0.Coords) (k0_t2 : Fin k0_t2_loop.trips) (v2817 : IVec S16 32) (v2819 : IVec S16 32) (k0_hw745 : k0_chk745 i k0_t2 v2817 v2819), ∀ (k0_h6 : k0_cond6 i k0_t2 = 1#1), ∀ a x, ((![v2817, v2819] : Fin 2 → IVec S16 32) a x).toNat < S32x128.size a := fun i k0_t2 v2817 v2819 k0_hw745 k0_h6 => k0_hw745 k0_h6

def k0_chk746 (i : grid0.Coords) (k0_t2 : Fin k0_t2_loop.trips) (v2829 : IVec S16 32) (v2831 : IVec S16 32) : Prop :=
  (∀ (k0_h6 : k0_cond6 i k0_t2 = 1#1), ∀ a x, ((![v2829, v2831] : Fin 2 → IVec S16 32) a x).toNat < S32x128.size a)
theorem k0_idx746_inb : ∀ (i : grid0.Coords) (k0_t2 : Fin k0_t2_loop.trips) (v2829 : IVec S16 32) (v2831 : IVec S16 32) (k0_hw746 : k0_chk746 i k0_t2 v2829 v2831), ∀ (k0_h6 : k0_cond6 i k0_t2 = 1#1), ∀ a x, ((![v2829, v2831] : Fin 2 → IVec S16 32) a x).toNat < S32x128.size a := fun i k0_t2 v2829 v2831 k0_hw746 k0_h6 => k0_hw746 k0_h6

def k0_chk747 (i : grid0.Coords) (k0_t2 : Fin k0_t2_loop.trips) (v2841 : IVec S16 32) (v2843 : IVec S16 32) : Prop :=
  (∀ (k0_h6 : k0_cond6 i k0_t2 = 1#1), ∀ a x, ((![v2841, v2843] : Fin 2 → IVec S16 32) a x).toNat < S32x128.size a)
theorem k0_idx747_inb : ∀ (i : grid0.Coords) (k0_t2 : Fin k0_t2_loop.trips) (v2841 : IVec S16 32) (v2843 : IVec S16 32) (k0_hw747 : k0_chk747 i k0_t2 v2841 v2843), ∀ (k0_h6 : k0_cond6 i k0_t2 = 1#1), ∀ a x, ((![v2841, v2843] : Fin 2 → IVec S16 32) a x).toNat < S32x128.size a := fun i k0_t2 v2841 v2843 k0_hw747 k0_h6 => k0_hw747 k0_h6

def k0_chk748 (i : grid0.Coords) (k0_t2 : Fin k0_t2_loop.trips) (v2853 : IVec S16 32) (v2855 : IVec S16 32) : Prop :=
  (∀ (k0_h6 : k0_cond6 i k0_t2 = 1#1), ∀ a x, ((![v2853, v2855] : Fin 2 → IVec S16 32) a x).toNat < S32x128.size a)
theorem k0_idx748_inb : ∀ (i : grid0.Coords) (k0_t2 : Fin k0_t2_loop.trips) (v2853 : IVec S16 32) (v2855 : IVec S16 32) (k0_hw748 : k0_chk748 i k0_t2 v2853 v2855), ∀ (k0_h6 : k0_cond6 i k0_t2 = 1#1), ∀ a x, ((![v2853, v2855] : Fin 2 → IVec S16 32) a x).toNat < S32x128.size a := fun i k0_t2 v2853 v2855 k0_hw748 k0_h6 => k0_hw748 k0_h6

def k0_chk749 (i : grid0.Coords) (k0_t2 : Fin k0_t2_loop.trips) (v2865 : IVec S16 32) (v2867 : IVec S16 32) : Prop :=
  (∀ (k0_h6 : k0_cond6 i k0_t2 = 1#1), ∀ a x, ((![v2865, v2867] : Fin 2 → IVec S16 32) a x).toNat < S32x128.size a)
theorem k0_idx749_inb : ∀ (i : grid0.Coords) (k0_t2 : Fin k0_t2_loop.trips) (v2865 : IVec S16 32) (v2867 : IVec S16 32) (k0_hw749 : k0_chk749 i k0_t2 v2865 v2867), ∀ (k0_h6 : k0_cond6 i k0_t2 = 1#1), ∀ a x, ((![v2865, v2867] : Fin 2 → IVec S16 32) a x).toNat < S32x128.size a := fun i k0_t2 v2865 v2867 k0_hw749 k0_h6 => k0_hw749 k0_h6

def k0_chk750 (i : grid0.Coords) (k0_t2 : Fin k0_t2_loop.trips) (v2877 : IVec S16 32) (v2879 : IVec S16 32) : Prop :=
  (∀ (k0_h6 : k0_cond6 i k0_t2 = 1#1), ∀ a x, ((![v2877, v2879] : Fin 2 → IVec S16 32) a x).toNat < S32x128.size a)
theorem k0_idx750_inb : ∀ (i : grid0.Coords) (k0_t2 : Fin k0_t2_loop.trips) (v2877 : IVec S16 32) (v2879 : IVec S16 32) (k0_hw750 : k0_chk750 i k0_t2 v2877 v2879), ∀ (k0_h6 : k0_cond6 i k0_t2 = 1#1), ∀ a x, ((![v2877, v2879] : Fin 2 → IVec S16 32) a x).toNat < S32x128.size a := fun i k0_t2 v2877 v2879 k0_hw750 k0_h6 => k0_hw750 k0_h6

def k0_chk751 (i : grid0.Coords) (k0_t2 : Fin k0_t2_loop.trips) (v2889 : IVec S16 32) (v2891 : IVec S16 32) : Prop :=
  (∀ (k0_h6 : k0_cond6 i k0_t2 = 1#1), ∀ a x, ((![v2889, v2891] : Fin 2 → IVec S16 32) a x).toNat < S32x128.size a)
theorem k0_idx751_inb : ∀ (i : grid0.Coords) (k0_t2 : Fin k0_t2_loop.trips) (v2889 : IVec S16 32) (v2891 : IVec S16 32) (k0_hw751 : k0_chk751 i k0_t2 v2889 v2891), ∀ (k0_h6 : k0_cond6 i k0_t2 = 1#1), ∀ a x, ((![v2889, v2891] : Fin 2 → IVec S16 32) a x).toNat < S32x128.size a := fun i k0_t2 v2889 v2891 k0_hw751 k0_h6 => k0_hw751 k0_h6

def k0_chk752 (i : grid0.Coords) (k0_t2 : Fin k0_t2_loop.trips) (v2901 : IVec S16 32) (v2903 : IVec S16 32) : Prop :=
  (∀ (k0_h6 : k0_cond6 i k0_t2 = 1#1), ∀ a x, ((![v2901, v2903] : Fin 2 → IVec S16 32) a x).toNat < S32x128.size a)
theorem k0_idx752_inb : ∀ (i : grid0.Coords) (k0_t2 : Fin k0_t2_loop.trips) (v2901 : IVec S16 32) (v2903 : IVec S16 32) (k0_hw752 : k0_chk752 i k0_t2 v2901 v2903), ∀ (k0_h6 : k0_cond6 i k0_t2 = 1#1), ∀ a x, ((![v2901, v2903] : Fin 2 → IVec S16 32) a x).toNat < S32x128.size a := fun i k0_t2 v2901 v2903 k0_hw752 k0_h6 => k0_hw752 k0_h6

def k0_chk753 (i : grid0.Coords) (k0_t2 : Fin k0_t2_loop.trips) (v2913 : IVec S16 32) (v2915 : IVec S16 32) : Prop :=
  (∀ (k0_h6 : k0_cond6 i k0_t2 = 1#1), ∀ a x, ((![v2913, v2915] : Fin 2 → IVec S16 32) a x).toNat < S32x128.size a)
theorem k0_idx753_inb : ∀ (i : grid0.Coords) (k0_t2 : Fin k0_t2_loop.trips) (v2913 : IVec S16 32) (v2915 : IVec S16 32) (k0_hw753 : k0_chk753 i k0_t2 v2913 v2915), ∀ (k0_h6 : k0_cond6 i k0_t2 = 1#1), ∀ a x, ((![v2913, v2915] : Fin 2 → IVec S16 32) a x).toNat < S32x128.size a := fun i k0_t2 v2913 v2915 k0_hw753 k0_h6 => k0_hw753 k0_h6

def k0_chk754 (i : grid0.Coords) (k0_t2 : Fin k0_t2_loop.trips) (v2925 : IVec S16 32) (v2927 : IVec S16 32) : Prop :=
  (∀ (k0_h6 : k0_cond6 i k0_t2 = 1#1), ∀ a x, ((![v2925, v2927] : Fin 2 → IVec S16 32) a x).toNat < S32x128.size a)
theorem k0_idx754_inb : ∀ (i : grid0.Coords) (k0_t2 : Fin k0_t2_loop.trips) (v2925 : IVec S16 32) (v2927 : IVec S16 32) (k0_hw754 : k0_chk754 i k0_t2 v2925 v2927), ∀ (k0_h6 : k0_cond6 i k0_t2 = 1#1), ∀ a x, ((![v2925, v2927] : Fin 2 → IVec S16 32) a x).toNat < S32x128.size a := fun i k0_t2 v2925 v2927 k0_hw754 k0_h6 => k0_hw754 k0_h6

def k0_chk755 (i : grid0.Coords) (k0_t2 : Fin k0_t2_loop.trips) (v2937 : IVec S16 32) (v2939 : IVec S16 32) : Prop :=
  (∀ (k0_h6 : k0_cond6 i k0_t2 = 1#1), ∀ a x, ((![v2937, v2939] : Fin 2 → IVec S16 32) a x).toNat < S32x128.size a)
theorem k0_idx755_inb : ∀ (i : grid0.Coords) (k0_t2 : Fin k0_t2_loop.trips) (v2937 : IVec S16 32) (v2939 : IVec S16 32) (k0_hw755 : k0_chk755 i k0_t2 v2937 v2939), ∀ (k0_h6 : k0_cond6 i k0_t2 = 1#1), ∀ a x, ((![v2937, v2939] : Fin 2 → IVec S16 32) a x).toNat < S32x128.size a := fun i k0_t2 v2937 v2939 k0_hw755 k0_h6 => k0_hw755 k0_h6

def k0_chk756 (i : grid0.Coords) (k0_t2 : Fin k0_t2_loop.trips) (v2949 : IVec S16 32) (v2951 : IVec S16 32) : Prop :=
  (∀ (k0_h6 : k0_cond6 i k0_t2 = 1#1), ∀ a x, ((![v2949, v2951] : Fin 2 → IVec S16 32) a x).toNat < S32x128.size a)
theorem k0_idx756_inb : ∀ (i : grid0.Coords) (k0_t2 : Fin k0_t2_loop.trips) (v2949 : IVec S16 32) (v2951 : IVec S16 32) (k0_hw756 : k0_chk756 i k0_t2 v2949 v2951), ∀ (k0_h6 : k0_cond6 i k0_t2 = 1#1), ∀ a x, ((![v2949, v2951] : Fin 2 → IVec S16 32) a x).toNat < S32x128.size a := fun i k0_t2 v2949 v2951 k0_hw756 k0_h6 => k0_hw756 k0_h6

def k0_chk757 (i : grid0.Coords) (k0_t2 : Fin k0_t2_loop.trips) (v2961 : IVec S16 32) (v2963 : IVec S16 32) : Prop :=
  (∀ (k0_h6 : k0_cond6 i k0_t2 = 1#1), ∀ a x, ((![v2961, v2963] : Fin 2 → IVec S16 32) a x).toNat < S32x128.size a)
theorem k0_idx757_inb : ∀ (i : grid0.Coords) (k0_t2 : Fin k0_t2_loop.trips) (v2961 : IVec S16 32) (v2963 : IVec S16 32) (k0_hw757 : k0_chk757 i k0_t2 v2961 v2963), ∀ (k0_h6 : k0_cond6 i k0_t2 = 1#1), ∀ a x, ((![v2961, v2963] : Fin 2 → IVec S16 32) a x).toNat < S32x128.size a := fun i k0_t2 v2961 v2963 k0_hw757 k0_h6 => k0_hw757 k0_h6

def k0_chk758 (i : grid0.Coords) (k0_t2 : Fin k0_t2_loop.trips) (v2973 : IVec S16 32) (v2975 : IVec S16 32) : Prop :=
  (∀ (k0_h6 : k0_cond6 i k0_t2 = 1#1), ∀ a x, ((![v2973, v2975] : Fin 2 → IVec S16 32) a x).toNat < S32x128.size a)
theorem k0_idx758_inb : ∀ (i : grid0.Coords) (k0_t2 : Fin k0_t2_loop.trips) (v2973 : IVec S16 32) (v2975 : IVec S16 32) (k0_hw758 : k0_chk758 i k0_t2 v2973 v2975), ∀ (k0_h6 : k0_cond6 i k0_t2 = 1#1), ∀ a x, ((![v2973, v2975] : Fin 2 → IVec S16 32) a x).toNat < S32x128.size a := fun i k0_t2 v2973 v2975 k0_hw758 k0_h6 => k0_hw758 k0_h6

def k0_chk759 (i : grid0.Coords) (k0_t2 : Fin k0_t2_loop.trips) (v2985 : IVec S16 32) (v2987 : IVec S16 32) : Prop :=
  (∀ (k0_h6 : k0_cond6 i k0_t2 = 1#1), ∀ a x, ((![v2985, v2987] : Fin 2 → IVec S16 32) a x).toNat < S32x128.size a)
theorem k0_idx759_inb : ∀ (i : grid0.Coords) (k0_t2 : Fin k0_t2_loop.trips) (v2985 : IVec S16 32) (v2987 : IVec S16 32) (k0_hw759 : k0_chk759 i k0_t2 v2985 v2987), ∀ (k0_h6 : k0_cond6 i k0_t2 = 1#1), ∀ a x, ((![v2985, v2987] : Fin 2 → IVec S16 32) a x).toNat < S32x128.size a := fun i k0_t2 v2985 v2987 k0_hw759 k0_h6 => k0_hw759 k0_h6

def k0_chk760 (i : grid0.Coords) (k0_t2 : Fin k0_t2_loop.trips) (v2997 : IVec S16 32) (v2999 : IVec S16 32) : Prop :=
  (∀ (k0_h6 : k0_cond6 i k0_t2 = 1#1), ∀ a x, ((![v2997, v2999] : Fin 2 → IVec S16 32) a x).toNat < S32x128.size a)
theorem k0_idx760_inb : ∀ (i : grid0.Coords) (k0_t2 : Fin k0_t2_loop.trips) (v2997 : IVec S16 32) (v2999 : IVec S16 32) (k0_hw760 : k0_chk760 i k0_t2 v2997 v2999), ∀ (k0_h6 : k0_cond6 i k0_t2 = 1#1), ∀ a x, ((![v2997, v2999] : Fin 2 → IVec S16 32) a x).toNat < S32x128.size a := fun i k0_t2 v2997 v2999 k0_hw760 k0_h6 => k0_hw760 k0_h6

def k0_chk761 (i : grid0.Coords) (k0_t2 : Fin k0_t2_loop.trips) (v3009 : IVec S16 32) (v3011 : IVec S16 32) : Prop :=
  (∀ (k0_h6 : k0_cond6 i k0_t2 = 1#1), ∀ a x, ((![v3009, v3011] : Fin 2 → IVec S16 32) a x).toNat < S32x128.size a)
theorem k0_idx761_inb : ∀ (i : grid0.Coords) (k0_t2 : Fin k0_t2_loop.trips) (v3009 : IVec S16 32) (v3011 : IVec S16 32) (k0_hw761 : k0_chk761 i k0_t2 v3009 v3011), ∀ (k0_h6 : k0_cond6 i k0_t2 = 1#1), ∀ a x, ((![v3009, v3011] : Fin 2 → IVec S16 32) a x).toNat < S32x128.size a := fun i k0_t2 v3009 v3011 k0_hw761 k0_h6 => k0_hw761 k0_h6

def k0_chk762 (i : grid0.Coords) (k0_t2 : Fin k0_t2_loop.trips) (v3021 : IVec S16 32) (v3023 : IVec S16 32) : Prop :=
  (∀ (k0_h6 : k0_cond6 i k0_t2 = 1#1), ∀ a x, ((![v3021, v3023] : Fin 2 → IVec S16 32) a x).toNat < S32x128.size a)
theorem k0_idx762_inb : ∀ (i : grid0.Coords) (k0_t2 : Fin k0_t2_loop.trips) (v3021 : IVec S16 32) (v3023 : IVec S16 32) (k0_hw762 : k0_chk762 i k0_t2 v3021 v3023), ∀ (k0_h6 : k0_cond6 i k0_t2 = 1#1), ∀ a x, ((![v3021, v3023] : Fin 2 → IVec S16 32) a x).toNat < S32x128.size a := fun i k0_t2 v3021 v3023 k0_hw762 k0_h6 => k0_hw762 k0_h6

def k0_chk763 (i : grid0.Coords) (k0_t2 : Fin k0_t2_loop.trips) (v3033 : IVec S16 32) (v3035 : IVec S16 32) : Prop :=
  (∀ (k0_h6 : k0_cond6 i k0_t2 = 1#1), ∀ a x, ((![v3033, v3035] : Fin 2 → IVec S16 32) a x).toNat < S32x128.size a)
theorem k0_idx763_inb : ∀ (i : grid0.Coords) (k0_t2 : Fin k0_t2_loop.trips) (v3033 : IVec S16 32) (v3035 : IVec S16 32) (k0_hw763 : k0_chk763 i k0_t2 v3033 v3035), ∀ (k0_h6 : k0_cond6 i k0_t2 = 1#1), ∀ a x, ((![v3033, v3035] : Fin 2 → IVec S16 32) a x).toNat < S32x128.size a := fun i k0_t2 v3033 v3035 k0_hw763 k0_h6 => k0_hw763 k0_h6

def k0_chk764 (i : grid0.Coords) (k0_t2 : Fin k0_t2_loop.trips) (v3045 : IVec S16 32) (v3047 : IVec S16 32) : Prop :=
  (∀ (k0_h6 : k0_cond6 i k0_t2 = 1#1), ∀ a x, ((![v3045, v3047] : Fin 2 → IVec S16 32) a x).toNat < S32x128.size a)
theorem k0_idx764_inb : ∀ (i : grid0.Coords) (k0_t2 : Fin k0_t2_loop.trips) (v3045 : IVec S16 32) (v3047 : IVec S16 32) (k0_hw764 : k0_chk764 i k0_t2 v3045 v3047), ∀ (k0_h6 : k0_cond6 i k0_t2 = 1#1), ∀ a x, ((![v3045, v3047] : Fin 2 → IVec S16 32) a x).toNat < S32x128.size a := fun i k0_t2 v3045 v3047 k0_hw764 k0_h6 => k0_hw764 k0_h6

def k0_chk765 (i : grid0.Coords) (k0_t2 : Fin k0_t2_loop.trips) (v3057 : IVec S16 32) (v3059 : IVec S16 32) : Prop :=
  (∀ (k0_h6 : k0_cond6 i k0_t2 = 1#1), ∀ a x, ((![v3057, v3059] : Fin 2 → IVec S16 32) a x).toNat < S32x128.size a)
theorem k0_idx765_inb : ∀ (i : grid0.Coords) (k0_t2 : Fin k0_t2_loop.trips) (v3057 : IVec S16 32) (v3059 : IVec S16 32) (k0_hw765 : k0_chk765 i k0_t2 v3057 v3059), ∀ (k0_h6 : k0_cond6 i k0_t2 = 1#1), ∀ a x, ((![v3057, v3059] : Fin 2 → IVec S16 32) a x).toNat < S32x128.size a := fun i k0_t2 v3057 v3059 k0_hw765 k0_h6 => k0_hw765 k0_h6

def k0_chk766 (i : grid0.Coords) (k0_t2 : Fin k0_t2_loop.trips) (v3069 : IVec S16 32) (v3071 : IVec S16 32) : Prop :=
  (∀ (k0_h6 : k0_cond6 i k0_t2 = 1#1), ∀ a x, ((![v3069, v3071] : Fin 2 → IVec S16 32) a x).toNat < S32x128.size a)
theorem k0_idx766_inb : ∀ (i : grid0.Coords) (k0_t2 : Fin k0_t2_loop.trips) (v3069 : IVec S16 32) (v3071 : IVec S16 32) (k0_hw766 : k0_chk766 i k0_t2 v3069 v3071), ∀ (k0_h6 : k0_cond6 i k0_t2 = 1#1), ∀ a x, ((![v3069, v3071] : Fin 2 → IVec S16 32) a x).toNat < S32x128.size a := fun i k0_t2 v3069 v3071 k0_hw766 k0_h6 => k0_hw766 k0_h6

def k0_chk767 (i : grid0.Coords) (k0_t2 : Fin k0_t2_loop.trips) (v3081 : IVec S16 32) (v3083 : IVec S16 32) : Prop :=
  (∀ (k0_h6 : k0_cond6 i k0_t2 = 1#1), ∀ a x, ((![v3081, v3083] : Fin 2 → IVec S16 32) a x).toNat < S32x128.size a)
theorem k0_idx767_inb : ∀ (i : grid0.Coords) (k0_t2 : Fin k0_t2_loop.trips) (v3081 : IVec S16 32) (v3083 : IVec S16 32) (k0_hw767 : k0_chk767 i k0_t2 v3081 v3083), ∀ (k0_h6 : k0_cond6 i k0_t2 = 1#1), ∀ a x, ((![v3081, v3083] : Fin 2 → IVec S16 32) a x).toNat < S32x128.size a := fun i k0_t2 v3081 v3083 k0_hw767 k0_h6 => k0_hw767 k0_h6

def k0_chk768 (i : grid0.Coords) (k0_t2 : Fin k0_t2_loop.trips) (v3093 : IVec S16 32) (v3095 : IVec S16 32) : Prop :=
  (∀ (k0_h6 : k0_cond6 i k0_t2 = 1#1), ∀ a x, ((![v3093, v3095] : Fin 2 → IVec S16 32) a x).toNat < S32x128.size a)
theorem k0_idx768_inb : ∀ (i : grid0.Coords) (k0_t2 : Fin k0_t2_loop.trips) (v3093 : IVec S16 32) (v3095 : IVec S16 32) (k0_hw768 : k0_chk768 i k0_t2 v3093 v3095), ∀ (k0_h6 : k0_cond6 i k0_t2 = 1#1), ∀ a x, ((![v3093, v3095] : Fin 2 → IVec S16 32) a x).toNat < S32x128.size a := fun i k0_t2 v3093 v3095 k0_hw768 k0_h6 => k0_hw768 k0_h6
def k0_mult10 (i : grid0.Coords) (k0_t2 : Fin k0_t2_loop.trips) : BitVec 32 :=
  let c247504_i32 : BitVec 32 := 247504#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let c1_i32_5 : BitVec 32 := 1#32
  let arg10 : BitVec 32 := Scf.iv c0_i32_4 c1_i32_5 k0_t2
  let c32_i32 : BitVec 32 := 32#32
  let v10 : BitVec 32 := Scalar.muli arg10 c32_i32
  let v11 : BitVec 32 := Scalar.addi v1 v10
  let c128_i32_14 : BitVec 32 := 128#32
  let v23 : BitVec 32 := Scalar.muli v11 c128_i32_14
  let c32_i32_1765 : BitVec 32 := 32#32
  let v3096 : BitVec 32 := Scalar.muli v23 c32_i32_1765
  let c0_i32_1767 : BitVec 32 := 0#32
  let v3098 : BitVec 1 := Scalar.cmpi .sgt v3096 c0_i32_1767
  let v3099 : BitVec 32 := Scalar.extui v3098
  let c0_i32_1768 : BitVec 32 := 0#32
  let v3100 : BitVec 1 := Scalar.cmpi .slt v3096 c0_i32_1768
  let v3101 : BitVec 32 := Scalar.extui v3100
  let v3102 : BitVec 32 := Scalar.subi v3099 v3101
  let c128_i32_1766 : BitVec 32 := 128#32
  let c0_i32_1769 : BitVec 32 := 0#32
  let v3103 : BitVec 1 := Scalar.cmpi .sgt c128_i32_1766 c0_i32_1769
  let v3104 : BitVec 32 := Scalar.extui v3103
  let c0_i32_1770 : BitVec 32 := 0#32
  let v3105 : BitVec 1 := Scalar.cmpi .slt c128_i32_1766 c0_i32_1770
  let v3106 : BitVec 32 := Scalar.extui v3105
  let v3107 : BitVec 32 := Scalar.subi v3104 v3106
  let v3108 : BitVec 1 := Scalar.cmpi .ne v3102 v3107
  let v3109 : BitVec 32 := Scalar.remsi v3096 c128_i32_1766
  let c0_i32_1771 : BitVec 32 := 0#32
  let v3110 : BitVec 1 := Scalar.cmpi .ne v3109 c0_i32_1771
  let v3111 : BitVec 1 := Scalar.andi v3108 v3110
  let v3097 : BitVec 32 := Scalar.divsi v3096 c128_i32_1766
  let c1_i32_1772 : BitVec 32 := 1#32
  let v3112 : BitVec 32 := Scalar.subi v3097 c1_i32_1772
  let v3113 : BitVec 32 := Scalar.select v3111 v3112 v3097
  let v3114 : BitVec 32 := Scalar.addi c247504_i32 v3113
  v3114
def k0_off9 (i : grid0.Coords) (k0_t2 : Fin k0_t2_loop.trips) : Fin 2 → Nat :=
  let c247504_i32 : BitVec 32 := 247504#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let c1_i32_5 : BitVec 32 := 1#32
  let arg10 : BitVec 32 := Scf.iv c0_i32_4 c1_i32_5 k0_t2
  let c32_i32 : BitVec 32 := 32#32
  let v10 : BitVec 32 := Scalar.muli arg10 c32_i32
  let v11 : BitVec 32 := Scalar.addi v1 v10
  let c128_i32_14 : BitVec 32 := 128#32
  let v23 : BitVec 32 := Scalar.muli v11 c128_i32_14
  let c32_i32_1765 : BitVec 32 := 32#32
  let v3096 : BitVec 32 := Scalar.muli v23 c32_i32_1765
  let c0_i32_1767 : BitVec 32 := 0#32
  let v3098 : BitVec 1 := Scalar.cmpi .sgt v3096 c0_i32_1767
  let v3099 : BitVec 32 := Scalar.extui v3098
  let c0_i32_1768 : BitVec 32 := 0#32
  let v3100 : BitVec 1 := Scalar.cmpi .slt v3096 c0_i32_1768
  let v3101 : BitVec 32 := Scalar.extui v3100
  let v3102 : BitVec 32 := Scalar.subi v3099 v3101
  let c128_i32_1766 : BitVec 32 := 128#32
  let c0_i32_1769 : BitVec 32 := 0#32
  let v3103 : BitVec 1 := Scalar.cmpi .sgt c128_i32_1766 c0_i32_1769
  let v3104 : BitVec 32 := Scalar.extui v3103
  let c0_i32_1770 : BitVec 32 := 0#32
  let v3105 : BitVec 1 := Scalar.cmpi .slt c128_i32_1766 c0_i32_1770
  let v3106 : BitVec 32 := Scalar.extui v3105
  let v3107 : BitVec 32 := Scalar.subi v3104 v3106
  let v3108 : BitVec 1 := Scalar.cmpi .ne v3102 v3107
  let v3109 : BitVec 32 := Scalar.remsi v3096 c128_i32_1766
  let c0_i32_1771 : BitVec 32 := 0#32
  let v3110 : BitVec 1 := Scalar.cmpi .ne v3109 c0_i32_1771
  let v3111 : BitVec 1 := Scalar.andi v3108 v3110
  let v3097 : BitVec 32 := Scalar.divsi v3096 c128_i32_1766
  let c1_i32_1772 : BitVec 32 := 1#32
  let v3112 : BitVec 32 := Scalar.subi v3097 c1_i32_1772
  let v3113 : BitVec 32 := Scalar.select v3111 v3112 v3097
  let v3114 : BitVec 32 := Scalar.addi c247504_i32 v3113
  let v3115 : BitVec 32 := v3114
  let c0_i32_1773_r2 : BitVec 32 := 0#32
  ![v3115.toNat, 0]
abbrev grid1 : Pipeline.Grid := ⟨2, ![2, 16], ![false, false]⟩

def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  v3
def k1_off1 (i : grid1.Coords) : Fin 2 → Nat :=
  let c0_i32_28_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let v4 : BitVec 32 := v3
  ![0, v4.toNat]
@[reducible] def k1_t1_loop : Scf.Loop 32 :=
  let c0_i32_13 : BitVec 32 := 0#32
  let c8_i32 : BitVec 32 := 8#32
  let v32 : BitVec 32 := Scalar.addi c0_i32_13 c8_i32
  let c1_i32_14 : BitVec 32 := 1#32
  ⟨c0_i32_13, v32, c1_i32_14⟩
def k1_off2 (k1_t1 : Fin k1_t1_loop.trips) : Fin 2 → Nat :=
  let c0_i32 : BitVec 32 := 0#32
  let c0_i32_0 : BitVec 32 := 0#32
  let v6 : BitVec 1 := Scalar.cmpi .sgt c0_i32 c0_i32_0
  let v7 : BitVec 32 := Scalar.extui v6
  let c0_i32_1 : BitVec 32 := 0#32
  let v8 : BitVec 1 := Scalar.cmpi .slt c0_i32 c0_i32_1
  let v9 : BitVec 32 := Scalar.extui v8
  let v10 : BitVec 32 := Scalar.subi v7 v9
  let c4_i32 : BitVec 32 := 4#32
  let c0_i32_2 : BitVec 32 := 0#32
  let v11 : BitVec 1 := Scalar.cmpi .sgt c4_i32 c0_i32_2
  let v12 : BitVec 32 := Scalar.extui v11
  let c0_i32_3 : BitVec 32 := 0#32
  let v13 : BitVec 1 := Scalar.cmpi .slt c4_i32 c0_i32_3
  let v14 : BitVec 32 := Scalar.extui v13
  let v15 : BitVec 32 := Scalar.subi v12 v14
  let v16 : BitVec 1 := Scalar.cmpi .ne v10 v15
  let v17 : BitVec 32 := Scalar.remsi c0_i32 c4_i32
  let c0_i32_4 : BitVec 32 := 0#32
  let v18 : BitVec 1 := Scalar.cmpi .ne v17 c0_i32_4
  let v19 : BitVec 1 := Scalar.andi v16 v18
  let v5 : BitVec 32 := Scalar.divsi c0_i32 c4_i32
  let c1_i32 : BitVec 32 := 1#32
  let v20 : BitVec 32 := Scalar.subi v5 c1_i32
  let v21 : BitVec 32 := Scalar.select v19 v20 v5
  let v51 : Index := Scalar.indexCast v21
  let c0_i32_5 : BitVec 32 := 0#32
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi c0_i32_5 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c128_i32 : BitVec 32 := 128#32
  let v48 : BitVec 32 := Scalar.muli v31 c128_i32
  let c0_i32_13 : BitVec 32 := 0#32
  let c1_i32_14 : BitVec 32 := 1#32
  let arg20 : BitVec 32 := Scf.iv c0_i32_13 c1_i32_14 k1_t1
  let c16_i32 : BitVec 32 := 16#32
  let v49 : BitVec 32 := Scalar.muli arg20 c16_i32
  let v50 : BitVec 32 := Scalar.addi v48 v49
  let v52 : Index := Scalar.indexCast v50
  ![v51.toNat, v52.toNat]
def k1_off3 (k1_t1 : Fin k1_t1_loop.trips) : Fin 2 → Nat :=
  let c0_i32_37 : BitVec 32 := 0#32
  let v85 : Index := Scalar.indexCast c0_i32_37
  let c0_i32_13 : BitVec 32 := 0#32
  let c1_i32_14 : BitVec 32 := 1#32
  let arg20 : BitVec 32 := Scf.iv c0_i32_13 c1_i32_14 k1_t1
  let c16_i32_36 : BitVec 32 := 16#32
  let v84 : BitVec 32 := Scalar.muli arg20 c16_i32_36
  let v86 : Index := Scalar.indexCast v84
  ![0, v86.toNat]
def k1_off4 (k1_t1 : Fin k1_t1_loop.trips) : Fin 2 → Nat :=
  let c0_i32_40 : BitVec 32 := 0#32
  let v95 : Index := Scalar.indexCast c0_i32_40
  let c0_i32_13 : BitVec 32 := 0#32
  let c1_i32_14 : BitVec 32 := 1#32
  let arg20 : BitVec 32 := Scf.iv c0_i32_13 c1_i32_14 k1_t1
  let c16_i32_39 : BitVec 32 := 16#32
  let v94 : BitVec 32 := Scalar.muli arg20 c16_i32_39
  let v96 : Index := Scalar.indexCast v94
  ![0, v96.toNat]

def k1_chk1 (v110 : IVec S16 32) : Prop :=
  (∀ a x, ((![v110] : Fin 1 → IVec S16 32) a x).toNat < S352.size a) ∧
  (∀ a x, ((![v110] : Fin 1 → IVec S16 32) a x).toNat < S352.size a) ∧
  (∀ a x, ((![v110] : Fin 1 → IVec S16 32) a x).toNat < S352.size a)
theorem k1_idx1_inb : ∀ (v110 : IVec S16 32) (k1_hw1 : k1_chk1 v110), ∀ a x, ((![v110] : Fin 1 → IVec S16 32) a x).toNat < S352.size a := fun v110 k1_hw1 => k1_hw1.1
theorem k1_idx2_inb : ∀ (v110 : IVec S16 32) (k1_hw1 : k1_chk1 v110), ∀ a x, ((![v110] : Fin 1 → IVec S16 32) a x).toNat < S352.size a := fun v110 k1_hw1 => k1_hw1.2.1
theorem k1_idx3_inb : ∀ (v110 : IVec S16 32) (k1_hw1 : k1_chk1 v110), ∀ a x, ((![v110] : Fin 1 → IVec S16 32) a x).toNat < S352.size a := fun v110 k1_hw1 => k1_hw1.2.2
def k1_off5 (v33 : BitVec 32) : Fin 1 → Nat :=
  let c0_i32_17 : BitVec 32 := 0#32
  let v35 : BitVec 32 := Scalar.addi c0_i32_17 v33
  let v36 : Index := Scalar.indexCast v35
  ![v36.toNat]

def k1_chk2 (v33 : BitVec 32) : Prop :=
  (∀ a, (k1_off5 v33) a + S16.size a ≤ S352.size a)
theorem k1_off5_inb : ∀ (v33 : BitVec 32) (k1_hw2 : k1_chk2 v33), ∀ a, (k1_off5 v33) a + S16.size a ≤ S352.size a := fun v33 k1_hw2 => k1_hw2

@[reducible] def k1_t2_loop : Scf.Loop 32 :=
  let c0_i32_25 : BitVec 32 := 0#32
  let c100_i32 : BitVec 32 := 100#32
  let v46 : BitVec 32 := Scalar.addi c0_i32_25 c100_i32
  let c1_i32_26 : BitVec 32 := 1#32
  ⟨c0_i32_25, v46, c1_i32_26⟩
def k1_cond1 (k1_t2 : Fin k1_t2_loop.trips) : BitVec 1 :=
  let c0_i32_25 : BitVec 32 := 0#32
  let c1_i32_26 : BitVec 32 := 1#32
  let arg20 : BitVec 32 := Scf.iv c0_i32_25 c1_i32_26 k1_t2
  let c2_i32_28 : BitVec 32 := 2#32
  let v48 : BitVec 32 := Scalar.muli arg20 c2_i32_28
  let c0_i32_29 : BitVec 32 := 0#32
  let v49 : BitVec 32 := Scalar.addi v48 c0_i32_29
  let c1_i32_30 : BitVec 32 := 1#32
  let v50 : BitVec 32 := Scalar.addi v49 c1_i32_30
  let c200_i32 : BitVec 32 := 200#32
  let v51 : BitVec 1 := Scalar.cmpi .slt v50 c200_i32
  let v52 : BitVec 32 := Scalar.extui v51
  let c0_i32_31 : BitVec 32 := 0#32
  let v53 : BitVec 1 := Scalar.cmpi .ne v52 c0_i32_31
  v53

@[reducible] def k1_t3_loop : Scf.Loop 32 :=
  let c0_i32_125 : BitVec 32 := 0#32
  let c8_i32_126 : BitVec 32 := 8#32
  let v216 : BitVec 32 := Scalar.addi c0_i32_125 c8_i32_126
  let c1_i32_127 : BitVec 32 := 1#32
  ⟨c0_i32_125, v216, c1_i32_127⟩
def k1_off6 (k1_t2 : Fin k1_t2_loop.trips) (k1_t3 : Fin k1_t3_loop.trips) : Fin 2 → Nat :=
  let c0_i32_25 : BitVec 32 := 0#32
  let c1_i32_26 : BitVec 32 := 1#32
  let arg20 : BitVec 32 := Scf.iv c0_i32_25 c1_i32_26 k1_t2
  let c2_i32_28 : BitVec 32 := 2#32
  let v48 : BitVec 32 := Scalar.muli arg20 c2_i32_28
  let c0_i32_29 : BitVec 32 := 0#32
  let v49 : BitVec 32 := Scalar.addi v48 c0_i32_29
  let c1_i32_110 : BitVec 32 := 1#32
  let v188 : BitVec 32 := Scalar.addi v49 c1_i32_110
  let c0_i32_112 : BitVec 32 := 0#32
  let v190 : BitVec 1 := Scalar.cmpi .sgt v188 c0_i32_112
  let v191 : BitVec 32 := Scalar.extui v190
  let c0_i32_113 : BitVec 32 := 0#32
  let v192 : BitVec 1 := Scalar.cmpi .slt v188 c0_i32_113
  let v193 : BitVec 32 := Scalar.extui v192
  let v194 : BitVec 32 := Scalar.subi v191 v193
  let c4_i32_111 : BitVec 32 := 4#32
  let c0_i32_114 : BitVec 32 := 0#32
  let v195 : BitVec 1 := Scalar.cmpi .sgt c4_i32_111 c0_i32_114
  let v196 : BitVec 32 := Scalar.extui v195
  let c0_i32_115 : BitVec 32 := 0#32
  let v197 : BitVec 1 := Scalar.cmpi .slt c4_i32_111 c0_i32_115
  let v198 : BitVec 32 := Scalar.extui v197
  let v199 : BitVec 32 := Scalar.subi v196 v198
  let v200 : BitVec 1 := Scalar.cmpi .ne v194 v199
  let v201 : BitVec 32 := Scalar.remsi v188 c4_i32_111
  let c0_i32_116 : BitVec 32 := 0#32
  let v202 : BitVec 1 := Scalar.cmpi .ne v201 c0_i32_116
  let v203 : BitVec 1 := Scalar.andi v200 v202
  let v189 : BitVec 32 := Scalar.divsi v188 c4_i32_111
  let c1_i32_117 : BitVec 32 := 1#32
  let v204 : BitVec 32 := Scalar.subi v189 c1_i32_117
  let v205 : BitVec 32 := Scalar.select v203 v204 v189
  let v233 : Index := Scalar.indexCast v205
  let c4_i32_118 : BitVec 32 := 4#32
  let c0_i32_119 : BitVec 32 := 0#32
  let v206 : BitVec 1 := Scalar.cmpi .eq c4_i32_118 c0_i32_119
  let c1_i32_120 : BitVec 32 := 1#32
  let v207 : BitVec 32 := Scalar.select v206 c1_i32_120 c4_i32_118
  let v208 : BitVec 32 := Scalar.remsi v188 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let c128_i32_137 : BitVec 32 := 128#32
  let v230 : BitVec 32 := Scalar.muli v215 c128_i32_137
  let c0_i32_125 : BitVec 32 := 0#32
  let c1_i32_127 : BitVec 32 := 1#32
  let arg22 : BitVec 32 := Scf.iv c0_i32_125 c1_i32_127 k1_t3
  let c16_i32_138 : BitVec 32 := 16#32
  let v231 : BitVec 32 := Scalar.muli arg22 c16_i32_138
  let v232 : BitVec 32 := Scalar.addi v230 v231
  let v234 : Index := Scalar.indexCast v232
  ![v233.toNat, v234.toNat]
def k1_off7 (k1_t3 : Fin k1_t3_loop.trips) : Fin 2 → Nat :=
  let c1_i32_148 : BitVec 32 := 1#32
  let v267 : Index := Scalar.indexCast c1_i32_148
  let c0_i32_125 : BitVec 32 := 0#32
  let c1_i32_127 : BitVec 32 := 1#32
  let arg22 : BitVec 32 := Scf.iv c0_i32_125 c1_i32_127 k1_t3
  let c16_i32_147 : BitVec 32 := 16#32
  let v266 : BitVec 32 := Scalar.muli arg22 c16_i32_147
  let v268 : Index := Scalar.indexCast v266
  ![1, v268.toNat]
def k1_off8 (k1_t3 : Fin k1_t3_loop.trips) : Fin 2 → Nat :=
  let c1_i32_151 : BitVec 32 := 1#32
  let v277 : Index := Scalar.indexCast c1_i32_151
  let c0_i32_125 : BitVec 32 := 0#32
  let c1_i32_127 : BitVec 32 := 1#32
  let arg22 : BitVec 32 := Scf.iv c0_i32_125 c1_i32_127 k1_t3
  let c16_i32_150 : BitVec 32 := 16#32
  let v276 : BitVec 32 := Scalar.muli arg22 c16_i32_150
  let v278 : Index := Scalar.indexCast v276
  ![1, v278.toNat]

def k1_chk3 (k1_t2 : Fin k1_t2_loop.trips) (v292 : IVec S16 32) : Prop :=
  (∀ (k1_h1 : k1_cond1 k1_t2 = 1#1), ∀ a x, ((![v292] : Fin 1 → IVec S16 32) a x).toNat < S352.size a) ∧
  (∀ (k1_h1 : k1_cond1 k1_t2 = 1#1), ∀ a x, ((![v292] : Fin 1 → IVec S16 32) a x).toNat < S352.size a) ∧
  (∀ (k1_h1 : k1_cond1 k1_t2 = 1#1), ∀ a x, ((![v292] : Fin 1 → IVec S16 32) a x).toNat < S352.size a)
theorem k1_idx4_inb : ∀ (k1_t2 : Fin k1_t2_loop.trips) (v292 : IVec S16 32) (k1_hw3 : k1_chk3 k1_t2 v292), ∀ (k1_h1 : k1_cond1 k1_t2 = 1#1), ∀ a x, ((![v292] : Fin 1 → IVec S16 32) a x).toNat < S352.size a := fun k1_t2 v292 k1_hw3 k1_h1 => k1_hw3.1 k1_h1
theorem k1_idx5_inb : ∀ (k1_t2 : Fin k1_t2_loop.trips) (v292 : IVec S16 32) (k1_hw3 : k1_chk3 k1_t2 v292), ∀ (k1_h1 : k1_cond1 k1_t2 = 1#1), ∀ a x, ((![v292] : Fin 1 → IVec S16 32) a x).toNat < S352.size a := fun k1_t2 v292 k1_hw3 k1_h1 => k1_hw3.2.1 k1_h1
theorem k1_idx6_inb : ∀ (k1_t2 : Fin k1_t2_loop.trips) (v292 : IVec S16 32) (k1_hw3 : k1_chk3 k1_t2 v292), ∀ (k1_h1 : k1_cond1 k1_t2 = 1#1), ∀ a x, ((![v292] : Fin 1 → IVec S16 32) a x).toNat < S352.size a := fun k1_t2 v292 k1_hw3 k1_h1 => k1_hw3.2.2 k1_h1
def k1_off9 (v217 : BitVec 32) : Fin 1 → Nat :=
  let c176_i32 : BitVec 32 := 176#32
  let v219 : BitVec 32 := Scalar.addi c176_i32 v217
  let v220 : Index := Scalar.indexCast v219
  ![v220.toNat]

def k1_chk4 (k1_t2 : Fin k1_t2_loop.trips) (v217 : BitVec 32) : Prop :=
  (∀ (k1_h1 : k1_cond1 k1_t2 = 1#1), ∀ a, (k1_off9 v217) a + S16.size a ≤ S352.size a)
theorem k1_off9_inb : ∀ (k1_t2 : Fin k1_t2_loop.trips) (v217 : BitVec 32) (k1_hw4 : k1_chk4 k1_t2 v217), ∀ (k1_h1 : k1_cond1 k1_t2 = 1#1), ∀ a, (k1_off9 v217) a + S16.size a ≤ S352.size a := fun k1_t2 v217 k1_hw4 k1_h1 => k1_hw4 k1_h1

@[reducible] def k1_t4_loop : Scf.Loop 32 :=
  let c0_i32_52 : BitVec 32 := 0#32
  let c64_i32 : BitVec 32 := 64#32
  let v88 : BitVec 32 := Scalar.addi c0_i32_52 c64_i32
  let c1_i32_53 : BitVec 32 := 1#32
  ⟨c0_i32_52, v88, c1_i32_53⟩
def k1_off10 (k1_t4 : Fin k1_t4_loop.trips) : Fin 2 → Nat :=
  let c0_i32_112 : BitVec 32 := 0#32
  let v190 : Index := Scalar.indexCast c0_i32_112
  let c0_i32_52 : BitVec 32 := 0#32
  let c1_i32_53 : BitVec 32 := 1#32
  let arg22 : BitVec 32 := Scf.iv c0_i32_52 c1_i32_53 k1_t4
  let c2_i32_110 : BitVec 32 := 2#32
  let v188 : BitVec 32 := Scalar.muli arg22 c2_i32_110
  let c0_i32_111 : BitVec 32 := 0#32
  let v189 : BitVec 32 := Scalar.addi v188 c0_i32_111
  let v191 : Index := Scalar.indexCast v189
  ![0, v191.toNat]
def k1_off11 (k1_t4 : Fin k1_t4_loop.trips) (v194 : BitVec 32) : Fin 2 → Nat :=
  let c0_i32_52 : BitVec 32 := 0#32
  let c1_i32_53 : BitVec 32 := 1#32
  let arg22 : BitVec 32 := Scf.iv c0_i32_52 c1_i32_53 k1_t4
  let c2_i32_110 : BitVec 32 := 2#32
  let v188 : BitVec 32 := Scalar.muli arg22 c2_i32_110
  let c0_i32_111 : BitVec 32 := 0#32
  let v189 : BitVec 32 := Scalar.addi v188 c0_i32_111
  let v199 : Index := Scalar.indexCast v189
  let c0_i32_114 : BitVec 32 := 0#32
  let v198 : BitVec 32 := Scalar.addi v194 c0_i32_114
  let v200 : Index := Scalar.indexCast v198
  ![v199.toNat, v200.toNat]

def k1_chk6 (v197 : IVec S16 32) (v203 : IVec S16 32) : Prop :=
  (∀ a x, ((![v203, v197] : Fin 2 → IVec S16 32) a x).toNat < S32x128.size a)
theorem k1_idx7_inb : ∀ (v197 : IVec S16 32) (v203 : IVec S16 32) (k1_hw6 : k1_chk6 v197 v203), ∀ a x, ((![v203, v197] : Fin 2 → IVec S16 32) a x).toNat < S32x128.size a := fun v197 v203 k1_hw6 => k1_hw6
def k1_off12 (k1_t4 : Fin k1_t4_loop.trips) (v194 : BitVec 32) : Fin 2 → Nat :=
  let c0_i32_52 : BitVec 32 := 0#32
  let c1_i32_53 : BitVec 32 := 1#32
  let arg22 : BitVec 32 := Scf.iv c0_i32_52 c1_i32_53 k1_t4
  let c2_i32_110 : BitVec 32 := 2#32
  let v188 : BitVec 32 := Scalar.muli arg22 c2_i32_110
  let c0_i32_111 : BitVec 32 := 0#32
  let v189 : BitVec 32 := Scalar.addi v188 c0_i32_111
  let v205 : Index := Scalar.indexCast v189
  let c16_i32_116 : BitVec 32 := 16#32
  let v204 : BitVec 32 := Scalar.addi v194 c16_i32_116
  let v206 : Index := Scalar.indexCast v204
  ![v205.toNat, v206.toNat]

def k1_chk5 (k1_t4 : Fin k1_t4_loop.trips) (v194 : BitVec 32) : Prop :=
  (∀ a, (k1_off11 k1_t4 v194) a + S1x16.size a ≤ S128x128.size a) ∧
  (∀ a, (k1_off12 k1_t4 v194) a + S1x16.size a ≤ S128x128.size a)
theorem k1_off11_inb : ∀ (k1_t4 : Fin k1_t4_loop.trips) (v194 : BitVec 32) (k1_hw5 : k1_chk5 k1_t4 v194), ∀ a, (k1_off11 k1_t4 v194) a + S1x16.size a ≤ S128x128.size a := fun k1_t4 v194 k1_hw5 => k1_hw5.1
theorem k1_off12_inb : ∀ (k1_t4 : Fin k1_t4_loop.trips) (v194 : BitVec 32) (k1_hw5 : k1_chk5 k1_t4 v194), ∀ a, (k1_off12 k1_t4 v194) a + S1x16.size a ≤ S128x128.size a := fun k1_t4 v194 k1_hw5 => k1_hw5.2

def k1_chk7 (v197 : IVec S16 32) (v209 : IVec S16 32) : Prop :=
  (∀ a x, ((![v209, v197] : Fin 2 → IVec S16 32) a x).toNat < S32x128.size a)
theorem k1_idx8_inb : ∀ (v197 : IVec S16 32) (v209 : IVec S16 32) (k1_hw7 : k1_chk7 v197 v209), ∀ a x, ((![v209, v197] : Fin 2 → IVec S16 32) a x).toNat < S32x128.size a := fun v197 v209 k1_hw7 => k1_hw7
def k1_off13 (k1_t4 : Fin k1_t4_loop.trips) : Fin 2 → Nat :=
  let c0_i32_120 : BitVec 32 := 0#32
  let v212 : Index := Scalar.indexCast c0_i32_120
  let c0_i32_52 : BitVec 32 := 0#32
  let c1_i32_53 : BitVec 32 := 1#32
  let arg22 : BitVec 32 := Scf.iv c0_i32_52 c1_i32_53 k1_t4
  let c2_i32_118 : BitVec 32 := 2#32
  let v210 : BitVec 32 := Scalar.muli arg22 c2_i32_118
  let c1_i32_119 : BitVec 32 := 1#32
  let v211 : BitVec 32 := Scalar.addi v210 c1_i32_119
  let v213 : Index := Scalar.indexCast v211
  ![0, v213.toNat]
def k1_off14 (k1_t4 : Fin k1_t4_loop.trips) (v216 : BitVec 32) : Fin 2 → Nat :=
  let c0_i32_52 : BitVec 32 := 0#32
  let c1_i32_53 : BitVec 32 := 1#32
  let arg22 : BitVec 32 := Scf.iv c0_i32_52 c1_i32_53 k1_t4
  let c2_i32_118 : BitVec 32 := 2#32
  let v210 : BitVec 32 := Scalar.muli arg22 c2_i32_118
  let c1_i32_119 : BitVec 32 := 1#32
  let v211 : BitVec 32 := Scalar.addi v210 c1_i32_119
  let v221 : Index := Scalar.indexCast v211
  let c0_i32_122 : BitVec 32 := 0#32
  let v220 : BitVec 32 := Scalar.addi v216 c0_i32_122
  let v222 : Index := Scalar.indexCast v220
  ![v221.toNat, v222.toNat]

def k1_chk9 (v219 : IVec S16 32) (v225 : IVec S16 32) : Prop :=
  (∀ a x, ((![v225, v219] : Fin 2 → IVec S16 32) a x).toNat < S32x128.size a)
theorem k1_idx9_inb : ∀ (v219 : IVec S16 32) (v225 : IVec S16 32) (k1_hw9 : k1_chk9 v219 v225), ∀ a x, ((![v225, v219] : Fin 2 → IVec S16 32) a x).toNat < S32x128.size a := fun v219 v225 k1_hw9 => k1_hw9
def k1_off15 (k1_t4 : Fin k1_t4_loop.trips) (v216 : BitVec 32) : Fin 2 → Nat :=
  let c0_i32_52 : BitVec 32 := 0#32
  let c1_i32_53 : BitVec 32 := 1#32
  let arg22 : BitVec 32 := Scf.iv c0_i32_52 c1_i32_53 k1_t4
  let c2_i32_118 : BitVec 32 := 2#32
  let v210 : BitVec 32 := Scalar.muli arg22 c2_i32_118
  let c1_i32_119 : BitVec 32 := 1#32
  let v211 : BitVec 32 := Scalar.addi v210 c1_i32_119
  let v227 : Index := Scalar.indexCast v211
  let c16_i32_124 : BitVec 32 := 16#32
  let v226 : BitVec 32 := Scalar.addi v216 c16_i32_124
  let v228 : Index := Scalar.indexCast v226
  ![v227.toNat, v228.toNat]

def k1_chk8 (k1_t4 : Fin k1_t4_loop.trips) (v216 : BitVec 32) : Prop :=
  (∀ a, (k1_off14 k1_t4 v216) a + S1x16.size a ≤ S128x128.size a) ∧
  (∀ a, (k1_off15 k1_t4 v216) a + S1x16.size a ≤ S128x128.size a)
theorem k1_off14_inb : ∀ (k1_t4 : Fin k1_t4_loop.trips) (v216 : BitVec 32) (k1_hw8 : k1_chk8 k1_t4 v216), ∀ a, (k1_off14 k1_t4 v216) a + S1x16.size a ≤ S128x128.size a := fun k1_t4 v216 k1_hw8 => k1_hw8.1
theorem k1_off15_inb : ∀ (k1_t4 : Fin k1_t4_loop.trips) (v216 : BitVec 32) (k1_hw8 : k1_chk8 k1_t4 v216), ∀ a, (k1_off15 k1_t4 v216) a + S1x16.size a ≤ S128x128.size a := fun k1_t4 v216 k1_hw8 => k1_hw8.2

def k1_chk10 (v219 : IVec S16 32) (v231 : IVec S16 32) : Prop :=
  (∀ a x, ((![v231, v219] : Fin 2 → IVec S16 32) a x).toNat < S32x128.size a)
theorem k1_idx10_inb : ∀ (v219 : IVec S16 32) (v231 : IVec S16 32) (k1_hw10 : k1_chk10 v219 v231), ∀ a x, ((![v231, v219] : Fin 2 → IVec S16 32) a x).toNat < S32x128.size a := fun v219 v231 k1_hw10 => k1_hw10
@[reducible] def k1_t5_loop (v87 : BitVec 32) : Scf.Loop 32 :=
  let c0_i32_61 : BitVec 32 := 0#32
  let c15_i32 : BitVec 32 := 15#32
  let v90 : BitVec 32 := Scalar.addi v87 c15_i32
  let c0_i32_55 : BitVec 32 := 0#32
  let v92 : BitVec 1 := Scalar.cmpi .sgt v90 c0_i32_55
  let v93 : BitVec 32 := Scalar.extui v92
  let c0_i32_56 : BitVec 32 := 0#32
  let v94 : BitVec 1 := Scalar.cmpi .slt v90 c0_i32_56
  let v95 : BitVec 32 := Scalar.extui v94
  let v96 : BitVec 32 := Scalar.subi v93 v95
  let c16_i32 : BitVec 32 := 16#32
  let c0_i32_57 : BitVec 32 := 0#32
  let v97 : BitVec 1 := Scalar.cmpi .sgt c16_i32 c0_i32_57
  let v98 : BitVec 32 := Scalar.extui v97
  let c0_i32_58 : BitVec 32 := 0#32
  let v99 : BitVec 1 := Scalar.cmpi .slt c16_i32 c0_i32_58
  let v100 : BitVec 32 := Scalar.extui v99
  let v101 : BitVec 32 := Scalar.subi v98 v100
  let v102 : BitVec 1 := Scalar.cmpi .ne v96 v101
  let v103 : BitVec 32 := Scalar.remsi v90 c16_i32
  let c0_i32_59 : BitVec 32 := 0#32
  let v104 : BitVec 1 := Scalar.cmpi .ne v103 c0_i32_59
  let v105 : BitVec 1 := Scalar.andi v102 v104
  let v91 : BitVec 32 := Scalar.divsi v90 c16_i32
  let c1_i32_60 : BitVec 32 := 1#32
  let v106 : BitVec 32 := Scalar.subi v91 c1_i32_60
  let v107 : BitVec 32 := Scalar.select v105 v106 v91
  let v108 : BitVec 32 := Scalar.subi v107 c0_i32_61
  let c1_i32_63 : BitVec 32 := 1#32
  let v110 : BitVec 32 := Scalar.divsi v108 c1_i32_63
  let v111 : BitVec 32 := Scalar.muli v110 c1_i32_63
  let v112 : BitVec 32 := Scalar.addi c0_i32_61 v111
  let c1_i32_64 : BitVec 32 := 1#32
  ⟨c0_i32_61, v112, c1_i32_64⟩

def k1_off16 (v87 : BitVec 32) (k1_t5 : Fin (k1_t5_loop v87).trips) : Fin 1 → Nat :=
  let c0_i32_111 : BitVec 32 := 0#32
  let c0_i32_61 : BitVec 32 := 0#32
  let c1_i32_64 : BitVec 32 := 1#32
  let arg22 : BitVec 32 := Scf.iv c0_i32_61 c1_i32_64 k1_t5
  let c16_i32_110 : BitVec 32 := 16#32
  let v188 : BitVec 32 := Scalar.muli arg22 c16_i32_110
  let v189 : BitVec 32 := Scalar.addi c0_i32_111 v188
  ![v189.toNat]
@[reducible] def k1_t6_loop (v87 : BitVec 32) (k1_t5 : Fin (k1_t5_loop v87).trips) : Scf.Loop 32 :=
  let c0_i32_118 : BitVec 32 := 0#32
  let c16_i32_117 : BitVec 32 := 16#32
  let c0_i32_61 : BitVec 32 := 0#32
  let c1_i32_64 : BitVec 32 := 1#32
  let arg22 : BitVec 32 := Scf.iv c0_i32_61 c1_i32_64 k1_t5
  let c16_i32_116 : BitVec 32 := 16#32
  let v194 : BitVec 32 := Scalar.muli arg22 c16_i32_116
  let v195 : BitVec 32 := Scalar.subi v87 v194
  let v196 : BitVec 32 := Scalar.minsi c16_i32_117 v195
  let v197 : BitVec 32 := Scalar.subi v196 c0_i32_118
  let c1_i32_120 : BitVec 32 := 1#32
  let v199 : BitVec 32 := Scalar.divsi v197 c1_i32_120
  let v200 : BitVec 32 := Scalar.muli v199 c1_i32_120
  let v201 : BitVec 32 := Scalar.addi c0_i32_118 v200
  let c1_i32_121 : BitVec 32 := 1#32
  ⟨c0_i32_118, v201, c1_i32_121⟩
def k1_off17 (v87 : BitVec 32) (k1_t5 : Fin (k1_t5_loop v87).trips) (k1_t6 : Fin (k1_t6_loop v87 k1_t5).trips) : Fin 1 → Nat :=
  let c0_i32_125 : BitVec 32 := 0#32
  let c0_i32_61 : BitVec 32 := 0#32
  let c1_i32_64 : BitVec 32 := 1#32
  let arg22 : BitVec 32 := Scf.iv c0_i32_61 c1_i32_64 k1_t5
  let c16_i32_124 : BitVec 32 := 16#32
  let v204 : BitVec 32 := Scalar.muli arg22 c16_i32_124
  let v205 : BitVec 32 := Scalar.addi c0_i32_125 v204
  let c0_i32_118 : BitVec 32 := 0#32
  let c1_i32_121 : BitVec 32 := 1#32
  let arg24 : BitVec 32 := Scf.iv c0_i32_118 c1_i32_121 k1_t6
  let v206 : BitVec 32 := Scalar.addi v205 arg24
  let v207 : Index := Scalar.indexCast v206
  ![v207.toNat]
def k1_off18 (v87 : BitVec 32) (k1_t5 : Fin (k1_t5_loop v87).trips) (k1_t6 : Fin (k1_t6_loop v87 k1_t5).trips) (v214 : BitVec 32) : Fin 2 → Nat :=
  let c0_i32_118 : BitVec 32 := 0#32
  let c1_i32_121 : BitVec 32 := 1#32
  let arg24 : BitVec 32 := Scf.iv c0_i32_118 c1_i32_121 k1_t6
  let v221 : Index := Scalar.indexCast arg24
  let c3_i32 : BitVec 32 := 3#32
  let v215 : BitVec 32 := Scalar.andi v214 c3_i32
  let c32_i32 : BitVec 32 := 32#32
  let v216 : BitVec 32 := Scalar.muli v215 c32_i32
  let c0_i32_127 : BitVec 32 := 0#32
  let v220 : BitVec 32 := Scalar.addi v216 c0_i32_127
  let v222 : Index := Scalar.indexCast v220
  ![v221.toNat, v222.toNat]

def k1_chk13 (v219 : IVec S16 32) (v225 : IVec S16 32) : Prop :=
  (∀ a x, ((![v225, v219] : Fin 2 → IVec S16 32) a x).toNat < S32x128.size a)
theorem k1_idx11_inb : ∀ (v219 : IVec S16 32) (v225 : IVec S16 32) (k1_hw13 : k1_chk13 v219 v225), ∀ a x, ((![v225, v219] : Fin 2 → IVec S16 32) a x).toNat < S32x128.size a := fun v219 v225 k1_hw13 => k1_hw13
def k1_off19 (v87 : BitVec 32) (k1_t5 : Fin (k1_t5_loop v87).trips) (k1_t6 : Fin (k1_t6_loop v87 k1_t5).trips) (v214 : BitVec 32) : Fin 2 → Nat :=
  let c0_i32_118 : BitVec 32 := 0#32
  let c1_i32_121 : BitVec 32 := 1#32
  let arg24 : BitVec 32 := Scf.iv c0_i32_118 c1_i32_121 k1_t6
  let v227 : Index := Scalar.indexCast arg24
  let c3_i32 : BitVec 32 := 3#32
  let v215 : BitVec 32 := Scalar.andi v214 c3_i32
  let c32_i32 : BitVec 32 := 32#32
  let v216 : BitVec 32 := Scalar.muli v215 c32_i32
  let c16_i32_129 : BitVec 32 := 16#32
  let v226 : BitVec 32 := Scalar.addi v216 c16_i32_129
  let v228 : Index := Scalar.indexCast v226
  ![v227.toNat, v228.toNat]

def k1_chk12 (v87 : BitVec 32) (k1_t5 : Fin (k1_t5_loop v87).trips) (k1_t6 : Fin (k1_t6_loop v87 k1_t5).trips) (v214 : BitVec 32) : Prop :=
  (∀ a, (k1_off18 v87 k1_t5 k1_t6 v214) a + S1x16.size a ≤ S16x128.size a) ∧
  (∀ a, (k1_off19 v87 k1_t5 k1_t6 v214) a + S1x16.size a ≤ S16x128.size a)
theorem k1_off18_inb : ∀ (v87 : BitVec 32) (k1_t5 : Fin (k1_t5_loop v87).trips) (k1_t6 : Fin (k1_t6_loop v87 k1_t5).trips) (v214 : BitVec 32) (k1_hw12 : k1_chk12 v87 k1_t5 k1_t6 v214), ∀ a, (k1_off18 v87 k1_t5 k1_t6 v214) a + S1x16.size a ≤ S16x128.size a := fun v87 k1_t5 k1_t6 v214 k1_hw12 => k1_hw12.1
theorem k1_off19_inb : ∀ (v87 : BitVec 32) (k1_t5 : Fin (k1_t5_loop v87).trips) (k1_t6 : Fin (k1_t6_loop v87 k1_t5).trips) (v214 : BitVec 32) (k1_hw12 : k1_chk12 v87 k1_t5 k1_t6 v214), ∀ a, (k1_off19 v87 k1_t5 k1_t6 v214) a + S1x16.size a ≤ S16x128.size a := fun v87 k1_t5 k1_t6 v214 k1_hw12 => k1_hw12.2

def k1_chk14 (v219 : IVec S16 32) (v231 : IVec S16 32) : Prop :=
  (∀ a x, ((![v231, v219] : Fin 2 → IVec S16 32) a x).toNat < S32x128.size a)
theorem k1_idx12_inb : ∀ (v219 : IVec S16 32) (v231 : IVec S16 32) (k1_hw14 : k1_chk14 v219 v231), ∀ a x, ((![v231, v219] : Fin 2 → IVec S16 32) a x).toNat < S32x128.size a := fun v219 v231 k1_hw14 => k1_hw14
@[reducible] def k1_t7_loop (v87 : BitVec 32) (k1_t5 : Fin (k1_t5_loop v87).trips) : Scf.Loop 32 :=
  let c0_i32_118 : BitVec 32 := 0#32
  let c16_i32_117 : BitVec 32 := 16#32
  let c0_i32_61 : BitVec 32 := 0#32
  let c1_i32_64 : BitVec 32 := 1#32
  let arg22 : BitVec 32 := Scf.iv c0_i32_61 c1_i32_64 k1_t5
  let c16_i32_116 : BitVec 32 := 16#32
  let v194 : BitVec 32 := Scalar.muli arg22 c16_i32_116
  let v195 : BitVec 32 := Scalar.subi v87 v194
  let v196 : BitVec 32 := Scalar.minsi c16_i32_117 v195
  let v197 : BitVec 32 := Scalar.subi v196 c0_i32_118
  let c1_i32_120 : BitVec 32 := 1#32
  let v199 : BitVec 32 := Scalar.divsi v197 c1_i32_120
  let v200 : BitVec 32 := Scalar.muli v199 c1_i32_120
  let v201 : BitVec 32 := Scalar.addi c0_i32_118 v200
  let v198 : BitVec 32 := Scalar.addi c0_i32_118 v197
  let c1_i32_122 : BitVec 32 := 1#32
  ⟨v201, v198, c1_i32_122⟩
def k1_off20 (v87 : BitVec 32) (k1_t5 : Fin (k1_t5_loop v87).trips) (k1_t7 : Fin (k1_t7_loop v87 k1_t5).trips) : Fin 1 → Nat :=
  let c0_i32_125 : BitVec 32 := 0#32
  let c0_i32_61 : BitVec 32 := 0#32
  let c1_i32_64 : BitVec 32 := 1#32
  let arg22 : BitVec 32 := Scf.iv c0_i32_61 c1_i32_64 k1_t5
  let c16_i32_124 : BitVec 32 := 16#32
  let v204 : BitVec 32 := Scalar.muli arg22 c16_i32_124
  let v205 : BitVec 32 := Scalar.addi c0_i32_125 v204
  let c0_i32_118 : BitVec 32 := 0#32
  let c16_i32_117 : BitVec 32 := 16#32
  let c16_i32_116 : BitVec 32 := 16#32
  let v194 : BitVec 32 := Scalar.muli arg22 c16_i32_116
  let v195 : BitVec 32 := Scalar.subi v87 v194
  let v196 : BitVec 32 := Scalar.minsi c16_i32_117 v195
  let v197 : BitVec 32 := Scalar.subi v196 c0_i32_118
  let c1_i32_120 : BitVec 32 := 1#32
  let v199 : BitVec 32 := Scalar.divsi v197 c1_i32_120
  let v200 : BitVec 32 := Scalar.muli v199 c1_i32_120
  let v201 : BitVec 32 := Scalar.addi c0_i32_118 v200
  let c1_i32_122 : BitVec 32 := 1#32
  let arg24 : BitVec 32 := Scf.iv v201 c1_i32_122 k1_t7
  let v206 : BitVec 32 := Scalar.addi v205 arg24
  let v207 : Index := Scalar.indexCast v206
  ![v207.toNat]
def k1_off21 (v87 : BitVec 32) (k1_t5 : Fin (k1_t5_loop v87).trips) (k1_t7 : Fin (k1_t7_loop v87 k1_t5).trips) (v214 : BitVec 32) : Fin 2 → Nat :=
  let c0_i32_118 : BitVec 32 := 0#32
  let c16_i32_117 : BitVec 32 := 16#32
  let c0_i32_61 : BitVec 32 := 0#32
  let c1_i32_64 : BitVec 32 := 1#32
  let arg22 : BitVec 32 := Scf.iv c0_i32_61 c1_i32_64 k1_t5
  let c16_i32_116 : BitVec 32 := 16#32
  let v194 : BitVec 32 := Scalar.muli arg22 c16_i32_116
  let v195 : BitVec 32 := Scalar.subi v87 v194
  let v196 : BitVec 32 := Scalar.minsi c16_i32_117 v195
  let v197 : BitVec 32 := Scalar.subi v196 c0_i32_118
  let c1_i32_120 : BitVec 32 := 1#32
  let v199 : BitVec 32 := Scalar.divsi v197 c1_i32_120
  let v200 : BitVec 32 := Scalar.muli v199 c1_i32_120
  let v201 : BitVec 32 := Scalar.addi c0_i32_118 v200
  let c1_i32_122 : BitVec 32 := 1#32
  let arg24 : BitVec 32 := Scf.iv v201 c1_i32_122 k1_t7
  let v221 : Index := Scalar.indexCast arg24
  let c3_i32 : BitVec 32 := 3#32
  let v215 : BitVec 32 := Scalar.andi v214 c3_i32
  let c32_i32 : BitVec 32 := 32#32
  let v216 : BitVec 32 := Scalar.muli v215 c32_i32
  let c0_i32_127 : BitVec 32 := 0#32
  let v220 : BitVec 32 := Scalar.addi v216 c0_i32_127
  let v222 : Index := Scalar.indexCast v220
  ![v221.toNat, v222.toNat]

def k1_chk16 (v219 : IVec S16 32) (v225 : IVec S16 32) : Prop :=
  (∀ a x, ((![v225, v219] : Fin 2 → IVec S16 32) a x).toNat < S32x128.size a)
theorem k1_idx13_inb : ∀ (v219 : IVec S16 32) (v225 : IVec S16 32) (k1_hw16 : k1_chk16 v219 v225), ∀ a x, ((![v225, v219] : Fin 2 → IVec S16 32) a x).toNat < S32x128.size a := fun v219 v225 k1_hw16 => k1_hw16
def k1_off22 (v87 : BitVec 32) (k1_t5 : Fin (k1_t5_loop v87).trips) (k1_t7 : Fin (k1_t7_loop v87 k1_t5).trips) (v214 : BitVec 32) : Fin 2 → Nat :=
  let c0_i32_118 : BitVec 32 := 0#32
  let c16_i32_117 : BitVec 32 := 16#32
  let c0_i32_61 : BitVec 32 := 0#32
  let c1_i32_64 : BitVec 32 := 1#32
  let arg22 : BitVec 32 := Scf.iv c0_i32_61 c1_i32_64 k1_t5
  let c16_i32_116 : BitVec 32 := 16#32
  let v194 : BitVec 32 := Scalar.muli arg22 c16_i32_116
  let v195 : BitVec 32 := Scalar.subi v87 v194
  let v196 : BitVec 32 := Scalar.minsi c16_i32_117 v195
  let v197 : BitVec 32 := Scalar.subi v196 c0_i32_118
  let c1_i32_120 : BitVec 32 := 1#32
  let v199 : BitVec 32 := Scalar.divsi v197 c1_i32_120
  let v200 : BitVec 32 := Scalar.muli v199 c1_i32_120
  let v201 : BitVec 32 := Scalar.addi c0_i32_118 v200
  let c1_i32_122 : BitVec 32 := 1#32
  let arg24 : BitVec 32 := Scf.iv v201 c1_i32_122 k1_t7
  let v227 : Index := Scalar.indexCast arg24
  let c3_i32 : BitVec 32 := 3#32
  let v215 : BitVec 32 := Scalar.andi v214 c3_i32
  let c32_i32 : BitVec 32 := 32#32
  let v216 : BitVec 32 := Scalar.muli v215 c32_i32
  let c16_i32_129 : BitVec 32 := 16#32
  let v226 : BitVec 32 := Scalar.addi v216 c16_i32_129
  let v228 : Index := Scalar.indexCast v226
  ![v227.toNat, v228.toNat]

def k1_chk15 (v87 : BitVec 32) (k1_t5 : Fin (k1_t5_loop v87).trips) (k1_t7 : Fin (k1_t7_loop v87 k1_t5).trips) (v214 : BitVec 32) : Prop :=
  (∀ a, (k1_off21 v87 k1_t5 k1_t7 v214) a + S1x16.size a ≤ S16x128.size a) ∧
  (∀ a, (k1_off22 v87 k1_t5 k1_t7 v214) a + S1x16.size a ≤ S16x128.size a)
theorem k1_off21_inb : ∀ (v87 : BitVec 32) (k1_t5 : Fin (k1_t5_loop v87).trips) (k1_t7 : Fin (k1_t7_loop v87 k1_t5).trips) (v214 : BitVec 32) (k1_hw15 : k1_chk15 v87 k1_t5 k1_t7 v214), ∀ a, (k1_off21 v87 k1_t5 k1_t7 v214) a + S1x16.size a ≤ S16x128.size a := fun v87 k1_t5 k1_t7 v214 k1_hw15 => k1_hw15.1
theorem k1_off22_inb : ∀ (v87 : BitVec 32) (k1_t5 : Fin (k1_t5_loop v87).trips) (k1_t7 : Fin (k1_t7_loop v87 k1_t5).trips) (v214 : BitVec 32) (k1_hw15 : k1_chk15 v87 k1_t5 k1_t7 v214), ∀ a, (k1_off22 v87 k1_t5 k1_t7 v214) a + S1x16.size a ≤ S16x128.size a := fun v87 k1_t5 k1_t7 v214 k1_hw15 => k1_hw15.2

def k1_chk17 (v219 : IVec S16 32) (v231 : IVec S16 32) : Prop :=
  (∀ a x, ((![v231, v219] : Fin 2 → IVec S16 32) a x).toNat < S32x128.size a)
theorem k1_idx14_inb : ∀ (v219 : IVec S16 32) (v231 : IVec S16 32) (k1_hw17 : k1_chk17 v219 v231), ∀ a x, ((![v231, v219] : Fin 2 → IVec S16 32) a x).toNat < S32x128.size a := fun v219 v231 k1_hw17 => k1_hw17
@[reducible] def k1_t8_loop (v87 : BitVec 32) : Scf.Loop 32 :=
  let c0_i32_61 : BitVec 32 := 0#32
  let c15_i32 : BitVec 32 := 15#32
  let v90 : BitVec 32 := Scalar.addi v87 c15_i32
  let c0_i32_55 : BitVec 32 := 0#32
  let v92 : BitVec 1 := Scalar.cmpi .sgt v90 c0_i32_55
  let v93 : BitVec 32 := Scalar.extui v92
  let c0_i32_56 : BitVec 32 := 0#32
  let v94 : BitVec 1 := Scalar.cmpi .slt v90 c0_i32_56
  let v95 : BitVec 32 := Scalar.extui v94
  let v96 : BitVec 32 := Scalar.subi v93 v95
  let c16_i32 : BitVec 32 := 16#32
  let c0_i32_57 : BitVec 32 := 0#32
  let v97 : BitVec 1 := Scalar.cmpi .sgt c16_i32 c0_i32_57
  let v98 : BitVec 32 := Scalar.extui v97
  let c0_i32_58 : BitVec 32 := 0#32
  let v99 : BitVec 1 := Scalar.cmpi .slt c16_i32 c0_i32_58
  let v100 : BitVec 32 := Scalar.extui v99
  let v101 : BitVec 32 := Scalar.subi v98 v100
  let v102 : BitVec 1 := Scalar.cmpi .ne v96 v101
  let v103 : BitVec 32 := Scalar.remsi v90 c16_i32
  let c0_i32_59 : BitVec 32 := 0#32
  let v104 : BitVec 1 := Scalar.cmpi .ne v103 c0_i32_59
  let v105 : BitVec 1 := Scalar.andi v102 v104
  let v91 : BitVec 32 := Scalar.divsi v90 c16_i32
  let c1_i32_60 : BitVec 32 := 1#32
  let v106 : BitVec 32 := Scalar.subi v91 c1_i32_60
  let v107 : BitVec 32 := Scalar.select v105 v106 v91
  let v108 : BitVec 32 := Scalar.subi v107 c0_i32_61
  let c1_i32_63 : BitVec 32 := 1#32
  let v110 : BitVec 32 := Scalar.divsi v108 c1_i32_63
  let v111 : BitVec 32 := Scalar.muli v110 c1_i32_63
  let v112 : BitVec 32 := Scalar.addi c0_i32_61 v111
  let v109 : BitVec 32 := Scalar.addi c0_i32_61 v108
  let c1_i32_65 : BitVec 32 := 1#32
  ⟨v112, v109, c1_i32_65⟩
def k1_off23 (v87 : BitVec 32) (k1_t8 : Fin (k1_t8_loop v87).trips) : Fin 1 → Nat :=
  let c0_i32_111 : BitVec 32 := 0#32
  let c0_i32_61 : BitVec 32 := 0#32
  let c15_i32 : BitVec 32 := 15#32
  let v90 : BitVec 32 := Scalar.addi v87 c15_i32
  let c0_i32_55 : BitVec 32 := 0#32
  let v92 : BitVec 1 := Scalar.cmpi .sgt v90 c0_i32_55
  let v93 : BitVec 32 := Scalar.extui v92
  let c0_i32_56 : BitVec 32 := 0#32
  let v94 : BitVec 1 := Scalar.cmpi .slt v90 c0_i32_56
  let v95 : BitVec 32 := Scalar.extui v94
  let v96 : BitVec 32 := Scalar.subi v93 v95
  let c16_i32 : BitVec 32 := 16#32
  let c0_i32_57 : BitVec 32 := 0#32
  let v97 : BitVec 1 := Scalar.cmpi .sgt c16_i32 c0_i32_57
  let v98 : BitVec 32 := Scalar.extui v97
  let c0_i32_58 : BitVec 32 := 0#32
  let v99 : BitVec 1 := Scalar.cmpi .slt c16_i32 c0_i32_58
  let v100 : BitVec 32 := Scalar.extui v99
  let v101 : BitVec 32 := Scalar.subi v98 v100
  let v102 : BitVec 1 := Scalar.cmpi .ne v96 v101
  let v103 : BitVec 32 := Scalar.remsi v90 c16_i32
  let c0_i32_59 : BitVec 32 := 0#32
  let v104 : BitVec 1 := Scalar.cmpi .ne v103 c0_i32_59
  let v105 : BitVec 1 := Scalar.andi v102 v104
  let v91 : BitVec 32 := Scalar.divsi v90 c16_i32
  let c1_i32_60 : BitVec 32 := 1#32
  let v106 : BitVec 32 := Scalar.subi v91 c1_i32_60
  let v107 : BitVec 32 := Scalar.select v105 v106 v91
  let v108 : BitVec 32 := Scalar.subi v107 c0_i32_61
  let c1_i32_63 : BitVec 32 := 1#32
  let v110 : BitVec 32 := Scalar.divsi v108 c1_i32_63
  let v111 : BitVec 32 := Scalar.muli v110 c1_i32_63
  let v112 : BitVec 32 := Scalar.addi c0_i32_61 v111
  let c1_i32_65 : BitVec 32 := 1#32
  let arg22 : BitVec 32 := Scf.iv v112 c1_i32_65 k1_t8
  let c16_i32_110 : BitVec 32 := 16#32
  let v188 : BitVec 32 := Scalar.muli arg22 c16_i32_110
  let v189 : BitVec 32 := Scalar.addi c0_i32_111 v188
  ![v189.toNat]
@[reducible] def k1_t9_loop (v87 : BitVec 32) (k1_t8 : Fin (k1_t8_loop v87).trips) : Scf.Loop 32 :=
  let c0_i32_118 : BitVec 32 := 0#32
  let c16_i32_117 : BitVec 32 := 16#32
  let c0_i32_61 : BitVec 32 := 0#32
  let c15_i32 : BitVec 32 := 15#32
  let v90 : BitVec 32 := Scalar.addi v87 c15_i32
  let c0_i32_55 : BitVec 32 := 0#32
  let v92 : BitVec 1 := Scalar.cmpi .sgt v90 c0_i32_55
  let v93 : BitVec 32 := Scalar.extui v92
  let c0_i32_56 : BitVec 32 := 0#32
  let v94 : BitVec 1 := Scalar.cmpi .slt v90 c0_i32_56
  let v95 : BitVec 32 := Scalar.extui v94
  let v96 : BitVec 32 := Scalar.subi v93 v95
  let c16_i32 : BitVec 32 := 16#32
  let c0_i32_57 : BitVec 32 := 0#32
  let v97 : BitVec 1 := Scalar.cmpi .sgt c16_i32 c0_i32_57
  let v98 : BitVec 32 := Scalar.extui v97
  let c0_i32_58 : BitVec 32 := 0#32
  let v99 : BitVec 1 := Scalar.cmpi .slt c16_i32 c0_i32_58
  let v100 : BitVec 32 := Scalar.extui v99
  let v101 : BitVec 32 := Scalar.subi v98 v100
  let v102 : BitVec 1 := Scalar.cmpi .ne v96 v101
  let v103 : BitVec 32 := Scalar.remsi v90 c16_i32
  let c0_i32_59 : BitVec 32 := 0#32
  let v104 : BitVec 1 := Scalar.cmpi .ne v103 c0_i32_59
  let v105 : BitVec 1 := Scalar.andi v102 v104
  let v91 : BitVec 32 := Scalar.divsi v90 c16_i32
  let c1_i32_60 : BitVec 32 := 1#32
  let v106 : BitVec 32 := Scalar.subi v91 c1_i32_60
  let v107 : BitVec 32 := Scalar.select v105 v106 v91
  let v108 : BitVec 32 := Scalar.subi v107 c0_i32_61
  let c1_i32_63 : BitVec 32 := 1#32
  let v110 : BitVec 32 := Scalar.divsi v108 c1_i32_63
  let v111 : BitVec 32 := Scalar.muli v110 c1_i32_63
  let v112 : BitVec 32 := Scalar.addi c0_i32_61 v111
  let c1_i32_65 : BitVec 32 := 1#32
  let arg22 : BitVec 32 := Scf.iv v112 c1_i32_65 k1_t8
  let c16_i32_116 : BitVec 32 := 16#32
  let v194 : BitVec 32 := Scalar.muli arg22 c16_i32_116
  let v195 : BitVec 32 := Scalar.subi v87 v194
  let v196 : BitVec 32 := Scalar.minsi c16_i32_117 v195
  let v197 : BitVec 32 := Scalar.subi v196 c0_i32_118
  let c1_i32_120 : BitVec 32 := 1#32
  let v199 : BitVec 32 := Scalar.divsi v197 c1_i32_120
  let v200 : BitVec 32 := Scalar.muli v199 c1_i32_120
  let v201 : BitVec 32 := Scalar.addi c0_i32_118 v200
  let c1_i32_121 : BitVec 32 := 1#32
  ⟨c0_i32_118, v201, c1_i32_121⟩
def k1_off24 (v87 : BitVec 32) (k1_t8 : Fin (k1_t8_loop v87).trips) (k1_t9 : Fin (k1_t9_loop v87 k1_t8).trips) : Fin 1 → Nat :=
  let c0_i32_125 : BitVec 32 := 0#32
  let c0_i32_61 : BitVec 32 := 0#32
  let c15_i32 : BitVec 32 := 15#32
  let v90 : BitVec 32 := Scalar.addi v87 c15_i32
  let c0_i32_55 : BitVec 32 := 0#32
  let v92 : BitVec 1 := Scalar.cmpi .sgt v90 c0_i32_55
  let v93 : BitVec 32 := Scalar.extui v92
  let c0_i32_56 : BitVec 32 := 0#32
  let v94 : BitVec 1 := Scalar.cmpi .slt v90 c0_i32_56
  let v95 : BitVec 32 := Scalar.extui v94
  let v96 : BitVec 32 := Scalar.subi v93 v95
  let c16_i32 : BitVec 32 := 16#32
  let c0_i32_57 : BitVec 32 := 0#32
  let v97 : BitVec 1 := Scalar.cmpi .sgt c16_i32 c0_i32_57
  let v98 : BitVec 32 := Scalar.extui v97
  let c0_i32_58 : BitVec 32 := 0#32
  let v99 : BitVec 1 := Scalar.cmpi .slt c16_i32 c0_i32_58
  let v100 : BitVec 32 := Scalar.extui v99
  let v101 : BitVec 32 := Scalar.subi v98 v100
  let v102 : BitVec 1 := Scalar.cmpi .ne v96 v101
  let v103 : BitVec 32 := Scalar.remsi v90 c16_i32
  let c0_i32_59 : BitVec 32 := 0#32
  let v104 : BitVec 1 := Scalar.cmpi .ne v103 c0_i32_59
  let v105 : BitVec 1 := Scalar.andi v102 v104
  let v91 : BitVec 32 := Scalar.divsi v90 c16_i32
  let c1_i32_60 : BitVec 32 := 1#32
  let v106 : BitVec 32 := Scalar.subi v91 c1_i32_60
  let v107 : BitVec 32 := Scalar.select v105 v106 v91
  let v108 : BitVec 32 := Scalar.subi v107 c0_i32_61
  let c1_i32_63 : BitVec 32 := 1#32
  let v110 : BitVec 32 := Scalar.divsi v108 c1_i32_63
  let v111 : BitVec 32 := Scalar.muli v110 c1_i32_63
  let v112 : BitVec 32 := Scalar.addi c0_i32_61 v111
  let c1_i32_65 : BitVec 32 := 1#32
  let arg22 : BitVec 32 := Scf.iv v112 c1_i32_65 k1_t8
  let c16_i32_124 : BitVec 32 := 16#32
  let v204 : BitVec 32 := Scalar.muli arg22 c16_i32_124
  let v205 : BitVec 32 := Scalar.addi c0_i32_125 v204
  let c0_i32_118 : BitVec 32 := 0#32
  let c1_i32_121 : BitVec 32 := 1#32
  let arg24 : BitVec 32 := Scf.iv c0_i32_118 c1_i32_121 k1_t9
  let v206 : BitVec 32 := Scalar.addi v205 arg24
  let v207 : Index := Scalar.indexCast v206
  ![v207.toNat]
def k1_off25 (v87 : BitVec 32) (k1_t8 : Fin (k1_t8_loop v87).trips) (k1_t9 : Fin (k1_t9_loop v87 k1_t8).trips) (v214 : BitVec 32) : Fin 2 → Nat :=
  let c0_i32_118 : BitVec 32 := 0#32
  let c1_i32_121 : BitVec 32 := 1#32
  let arg24 : BitVec 32 := Scf.iv c0_i32_118 c1_i32_121 k1_t9
  let v221 : Index := Scalar.indexCast arg24
  let c3_i32 : BitVec 32 := 3#32
  let v215 : BitVec 32 := Scalar.andi v214 c3_i32
  let c32_i32 : BitVec 32 := 32#32
  let v216 : BitVec 32 := Scalar.muli v215 c32_i32
  let c0_i32_127 : BitVec 32 := 0#32
  let v220 : BitVec 32 := Scalar.addi v216 c0_i32_127
  let v222 : Index := Scalar.indexCast v220
  ![v221.toNat, v222.toNat]

def k1_chk19 (v219 : IVec S16 32) (v225 : IVec S16 32) : Prop :=
  (∀ a x, ((![v225, v219] : Fin 2 → IVec S16 32) a x).toNat < S32x128.size a)
theorem k1_idx15_inb : ∀ (v219 : IVec S16 32) (v225 : IVec S16 32) (k1_hw19 : k1_chk19 v219 v225), ∀ a x, ((![v225, v219] : Fin 2 → IVec S16 32) a x).toNat < S32x128.size a := fun v219 v225 k1_hw19 => k1_hw19
def k1_off26 (v87 : BitVec 32) (k1_t8 : Fin (k1_t8_loop v87).trips) (k1_t9 : Fin (k1_t9_loop v87 k1_t8).trips) (v214 : BitVec 32) : Fin 2 → Nat :=
  let c0_i32_118 : BitVec 32 := 0#32
  let c1_i32_121 : BitVec 32 := 1#32
  let arg24 : BitVec 32 := Scf.iv c0_i32_118 c1_i32_121 k1_t9
  let v227 : Index := Scalar.indexCast arg24
  let c3_i32 : BitVec 32 := 3#32
  let v215 : BitVec 32 := Scalar.andi v214 c3_i32
  let c32_i32 : BitVec 32 := 32#32
  let v216 : BitVec 32 := Scalar.muli v215 c32_i32
  let c16_i32_129 : BitVec 32 := 16#32
  let v226 : BitVec 32 := Scalar.addi v216 c16_i32_129
  let v228 : Index := Scalar.indexCast v226
  ![v227.toNat, v228.toNat]

def k1_chk18 (v87 : BitVec 32) (k1_t8 : Fin (k1_t8_loop v87).trips) (k1_t9 : Fin (k1_t9_loop v87 k1_t8).trips) (v214 : BitVec 32) : Prop :=
  (∀ a, (k1_off25 v87 k1_t8 k1_t9 v214) a + S1x16.size a ≤ S16x128.size a) ∧
  (∀ a, (k1_off26 v87 k1_t8 k1_t9 v214) a + S1x16.size a ≤ S16x128.size a)
theorem k1_off25_inb : ∀ (v87 : BitVec 32) (k1_t8 : Fin (k1_t8_loop v87).trips) (k1_t9 : Fin (k1_t9_loop v87 k1_t8).trips) (v214 : BitVec 32) (k1_hw18 : k1_chk18 v87 k1_t8 k1_t9 v214), ∀ a, (k1_off25 v87 k1_t8 k1_t9 v214) a + S1x16.size a ≤ S16x128.size a := fun v87 k1_t8 k1_t9 v214 k1_hw18 => k1_hw18.1
theorem k1_off26_inb : ∀ (v87 : BitVec 32) (k1_t8 : Fin (k1_t8_loop v87).trips) (k1_t9 : Fin (k1_t9_loop v87 k1_t8).trips) (v214 : BitVec 32) (k1_hw18 : k1_chk18 v87 k1_t8 k1_t9 v214), ∀ a, (k1_off26 v87 k1_t8 k1_t9 v214) a + S1x16.size a ≤ S16x128.size a := fun v87 k1_t8 k1_t9 v214 k1_hw18 => k1_hw18.2

def k1_chk20 (v219 : IVec S16 32) (v231 : IVec S16 32) : Prop :=
  (∀ a x, ((![v231, v219] : Fin 2 → IVec S16 32) a x).toNat < S32x128.size a)
theorem k1_idx16_inb : ∀ (v219 : IVec S16 32) (v231 : IVec S16 32) (k1_hw20 : k1_chk20 v219 v231), ∀ a x, ((![v231, v219] : Fin 2 → IVec S16 32) a x).toNat < S32x128.size a := fun v219 v231 k1_hw20 => k1_hw20
@[reducible] def k1_t10_loop (v87 : BitVec 32) (k1_t8 : Fin (k1_t8_loop v87).trips) : Scf.Loop 32 :=
  let c0_i32_118 : BitVec 32 := 0#32
  let c16_i32_117 : BitVec 32 := 16#32
  let c0_i32_61 : BitVec 32 := 0#32
  let c15_i32 : BitVec 32 := 15#32
  let v90 : BitVec 32 := Scalar.addi v87 c15_i32
  let c0_i32_55 : BitVec 32 := 0#32
  let v92 : BitVec 1 := Scalar.cmpi .sgt v90 c0_i32_55
  let v93 : BitVec 32 := Scalar.extui v92
  let c0_i32_56 : BitVec 32 := 0#32
  let v94 : BitVec 1 := Scalar.cmpi .slt v90 c0_i32_56
  let v95 : BitVec 32 := Scalar.extui v94
  let v96 : BitVec 32 := Scalar.subi v93 v95
  let c16_i32 : BitVec 32 := 16#32
  let c0_i32_57 : BitVec 32 := 0#32
  let v97 : BitVec 1 := Scalar.cmpi .sgt c16_i32 c0_i32_57
  let v98 : BitVec 32 := Scalar.extui v97
  let c0_i32_58 : BitVec 32 := 0#32
  let v99 : BitVec 1 := Scalar.cmpi .slt c16_i32 c0_i32_58
  let v100 : BitVec 32 := Scalar.extui v99
  let v101 : BitVec 32 := Scalar.subi v98 v100
  let v102 : BitVec 1 := Scalar.cmpi .ne v96 v101
  let v103 : BitVec 32 := Scalar.remsi v90 c16_i32
  let c0_i32_59 : BitVec 32 := 0#32
  let v104 : BitVec 1 := Scalar.cmpi .ne v103 c0_i32_59
  let v105 : BitVec 1 := Scalar.andi v102 v104
  let v91 : BitVec 32 := Scalar.divsi v90 c16_i32
  let c1_i32_60 : BitVec 32 := 1#32
  let v106 : BitVec 32 := Scalar.subi v91 c1_i32_60
  let v107 : BitVec 32 := Scalar.select v105 v106 v91
  let v108 : BitVec 32 := Scalar.subi v107 c0_i32_61
  let c1_i32_63 : BitVec 32 := 1#32
  let v110 : BitVec 32 := Scalar.divsi v108 c1_i32_63
  let v111 : BitVec 32 := Scalar.muli v110 c1_i32_63
  let v112 : BitVec 32 := Scalar.addi c0_i32_61 v111
  let c1_i32_65 : BitVec 32 := 1#32
  let arg22 : BitVec 32 := Scf.iv v112 c1_i32_65 k1_t8
  let c16_i32_116 : BitVec 32 := 16#32
  let v194 : BitVec 32 := Scalar.muli arg22 c16_i32_116
  let v195 : BitVec 32 := Scalar.subi v87 v194
  let v196 : BitVec 32 := Scalar.minsi c16_i32_117 v195
  let v197 : BitVec 32 := Scalar.subi v196 c0_i32_118
  let c1_i32_120 : BitVec 32 := 1#32
  let v199 : BitVec 32 := Scalar.divsi v197 c1_i32_120
  let v200 : BitVec 32 := Scalar.muli v199 c1_i32_120
  let v201 : BitVec 32 := Scalar.addi c0_i32_118 v200
  let v198 : BitVec 32 := Scalar.addi c0_i32_118 v197
  let c1_i32_122 : BitVec 32 := 1#32
  ⟨v201, v198, c1_i32_122⟩
def k1_off27 (v87 : BitVec 32) (k1_t8 : Fin (k1_t8_loop v87).trips) (k1_t10 : Fin (k1_t10_loop v87 k1_t8).trips) : Fin 1 → Nat :=
  let c0_i32_125 : BitVec 32 := 0#32
  let c0_i32_61 : BitVec 32 := 0#32
  let c15_i32 : BitVec 32 := 15#32
  let v90 : BitVec 32 := Scalar.addi v87 c15_i32
  let c0_i32_55 : BitVec 32 := 0#32
  let v92 : BitVec 1 := Scalar.cmpi .sgt v90 c0_i32_55
  let v93 : BitVec 32 := Scalar.extui v92
  let c0_i32_56 : BitVec 32 := 0#32
  let v94 : BitVec 1 := Scalar.cmpi .slt v90 c0_i32_56
  let v95 : BitVec 32 := Scalar.extui v94
  let v96 : BitVec 32 := Scalar.subi v93 v95
  let c16_i32 : BitVec 32 := 16#32
  let c0_i32_57 : BitVec 32 := 0#32
  let v97 : BitVec 1 := Scalar.cmpi .sgt c16_i32 c0_i32_57
  let v98 : BitVec 32 := Scalar.extui v97
  let c0_i32_58 : BitVec 32 := 0#32
  let v99 : BitVec 1 := Scalar.cmpi .slt c16_i32 c0_i32_58
  let v100 : BitVec 32 := Scalar.extui v99
  let v101 : BitVec 32 := Scalar.subi v98 v100
  let v102 : BitVec 1 := Scalar.cmpi .ne v96 v101
  let v103 : BitVec 32 := Scalar.remsi v90 c16_i32
  let c0_i32_59 : BitVec 32 := 0#32
  let v104 : BitVec 1 := Scalar.cmpi .ne v103 c0_i32_59
  let v105 : BitVec 1 := Scalar.andi v102 v104
  let v91 : BitVec 32 := Scalar.divsi v90 c16_i32
  let c1_i32_60 : BitVec 32 := 1#32
  let v106 : BitVec 32 := Scalar.subi v91 c1_i32_60
  let v107 : BitVec 32 := Scalar.select v105 v106 v91
  let v108 : BitVec 32 := Scalar.subi v107 c0_i32_61
  let c1_i32_63 : BitVec 32 := 1#32
  let v110 : BitVec 32 := Scalar.divsi v108 c1_i32_63
  let v111 : BitVec 32 := Scalar.muli v110 c1_i32_63
  let v112 : BitVec 32 := Scalar.addi c0_i32_61 v111
  let c1_i32_65 : BitVec 32 := 1#32
  let arg22 : BitVec 32 := Scf.iv v112 c1_i32_65 k1_t8
  let c16_i32_124 : BitVec 32 := 16#32
  let v204 : BitVec 32 := Scalar.muli arg22 c16_i32_124
  let v205 : BitVec 32 := Scalar.addi c0_i32_125 v204
  let c0_i32_118 : BitVec 32 := 0#32
  let c16_i32_117 : BitVec 32 := 16#32
  let c16_i32_116 : BitVec 32 := 16#32
  let v194 : BitVec 32 := Scalar.muli arg22 c16_i32_116
  let v195 : BitVec 32 := Scalar.subi v87 v194
  let v196 : BitVec 32 := Scalar.minsi c16_i32_117 v195
  let v197 : BitVec 32 := Scalar.subi v196 c0_i32_118
  let c1_i32_120 : BitVec 32 := 1#32
  let v199 : BitVec 32 := Scalar.divsi v197 c1_i32_120
  let v200 : BitVec 32 := Scalar.muli v199 c1_i32_120
  let v201 : BitVec 32 := Scalar.addi c0_i32_118 v200
  let c1_i32_122 : BitVec 32 := 1#32
  let arg24 : BitVec 32 := Scf.iv v201 c1_i32_122 k1_t10
  let v206 : BitVec 32 := Scalar.addi v205 arg24
  let v207 : Index := Scalar.indexCast v206
  ![v207.toNat]

def k1_chk11 (v87 : BitVec 32) : Prop :=
  ((k1_t5_loop v87).OK) ∧
  (∀ k1_t5 : Fin (k1_t5_loop v87).trips, ∀ a, (k1_off16 v87 k1_t5) a + S16.size a ≤ S352.size a) ∧
  (∀ k1_t5 : Fin (k1_t5_loop v87).trips, (k1_t6_loop v87 k1_t5).OK) ∧
  (∀ (k1_t5 : Fin (k1_t5_loop v87).trips) (k1_t6 : Fin (k1_t6_loop v87 k1_t5).trips), ∀ a, (k1_off17 v87 k1_t5 k1_t6) a + S16.size a ≤ S352.size a) ∧
  (∀ k1_t5 : Fin (k1_t5_loop v87).trips, (k1_t7_loop v87 k1_t5).OK) ∧
  (∀ (k1_t5 : Fin (k1_t5_loop v87).trips) (k1_t7 : Fin (k1_t7_loop v87 k1_t5).trips), ∀ a, (k1_off20 v87 k1_t5 k1_t7) a + S16.size a ≤ S352.size a) ∧
  ((k1_t8_loop v87).OK) ∧
  (∀ k1_t8 : Fin (k1_t8_loop v87).trips, ∀ a, (k1_off23 v87 k1_t8) a + S16.size a ≤ S352.size a) ∧
  (∀ k1_t8 : Fin (k1_t8_loop v87).trips, (k1_t9_loop v87 k1_t8).OK) ∧
  (∀ (k1_t8 : Fin (k1_t8_loop v87).trips) (k1_t9 : Fin (k1_t9_loop v87 k1_t8).trips), ∀ a, (k1_off24 v87 k1_t8 k1_t9) a + S16.size a ≤ S352.size a) ∧
  (∀ k1_t8 : Fin (k1_t8_loop v87).trips, (k1_t10_loop v87 k1_t8).OK) ∧
  (∀ (k1_t8 : Fin (k1_t8_loop v87).trips) (k1_t10 : Fin (k1_t10_loop v87 k1_t8).trips), ∀ a, (k1_off27 v87 k1_t8 k1_t10) a + S16.size a ≤ S352.size a)
theorem k1_t5_ok : ∀ (v87 : BitVec 32) (k1_hw11 : k1_chk11 v87), (k1_t5_loop v87).OK := fun v87 k1_hw11 => k1_hw11.1
theorem k1_off16_inb : ∀ (v87 : BitVec 32) (k1_hw11 : k1_chk11 v87) (k1_t5 : Fin (k1_t5_loop v87).trips), ∀ a, (k1_off16 v87 k1_t5) a + S16.size a ≤ S352.size a := fun v87 k1_hw11 k1_t5 => k1_hw11.2.1 k1_t5
theorem k1_t6_ok : ∀ (v87 : BitVec 32) (k1_hw11 : k1_chk11 v87) (k1_t5 : Fin (k1_t5_loop v87).trips), (k1_t6_loop v87 k1_t5).OK := fun v87 k1_hw11 k1_t5 => k1_hw11.2.2.1 k1_t5
theorem k1_off17_inb : ∀ (v87 : BitVec 32) (k1_hw11 : k1_chk11 v87) (k1_t5 : Fin (k1_t5_loop v87).trips) (k1_t6 : Fin (k1_t6_loop v87 k1_t5).trips), ∀ a, (k1_off17 v87 k1_t5 k1_t6) a + S16.size a ≤ S352.size a := fun v87 k1_hw11 k1_t5 k1_t6 => k1_hw11.2.2.2.1 k1_t5 k1_t6
theorem k1_t7_ok : ∀ (v87 : BitVec 32) (k1_hw11 : k1_chk11 v87) (k1_t5 : Fin (k1_t5_loop v87).trips), (k1_t7_loop v87 k1_t5).OK := fun v87 k1_hw11 k1_t5 => k1_hw11.2.2.2.2.1 k1_t5
theorem k1_off20_inb : ∀ (v87 : BitVec 32) (k1_hw11 : k1_chk11 v87) (k1_t5 : Fin (k1_t5_loop v87).trips) (k1_t7 : Fin (k1_t7_loop v87 k1_t5).trips), ∀ a, (k1_off20 v87 k1_t5 k1_t7) a + S16.size a ≤ S352.size a := fun v87 k1_hw11 k1_t5 k1_t7 => k1_hw11.2.2.2.2.2.1 k1_t5 k1_t7
theorem k1_t8_ok : ∀ (v87 : BitVec 32) (k1_hw11 : k1_chk11 v87), (k1_t8_loop v87).OK := fun v87 k1_hw11 => k1_hw11.2.2.2.2.2.2.1
theorem k1_off23_inb : ∀ (v87 : BitVec 32) (k1_hw11 : k1_chk11 v87) (k1_t8 : Fin (k1_t8_loop v87).trips), ∀ a, (k1_off23 v87 k1_t8) a + S16.size a ≤ S352.size a := fun v87 k1_hw11 k1_t8 => k1_hw11.2.2.2.2.2.2.2.1 k1_t8
theorem k1_t9_ok : ∀ (v87 : BitVec 32) (k1_hw11 : k1_chk11 v87) (k1_t8 : Fin (k1_t8_loop v87).trips), (k1_t9_loop v87 k1_t8).OK := fun v87 k1_hw11 k1_t8 => k1_hw11.2.2.2.2.2.2.2.2.1 k1_t8
theorem k1_off24_inb : ∀ (v87 : BitVec 32) (k1_hw11 : k1_chk11 v87) (k1_t8 : Fin (k1_t8_loop v87).trips) (k1_t9 : Fin (k1_t9_loop v87 k1_t8).trips), ∀ a, (k1_off24 v87 k1_t8 k1_t9) a + S16.size a ≤ S352.size a := fun v87 k1_hw11 k1_t8 k1_t9 => k1_hw11.2.2.2.2.2.2.2.2.2.1 k1_t8 k1_t9
theorem k1_t10_ok : ∀ (v87 : BitVec 32) (k1_hw11 : k1_chk11 v87) (k1_t8 : Fin (k1_t8_loop v87).trips), (k1_t10_loop v87 k1_t8).OK := fun v87 k1_hw11 k1_t8 => k1_hw11.2.2.2.2.2.2.2.2.2.2.1 k1_t8
theorem k1_off27_inb : ∀ (v87 : BitVec 32) (k1_hw11 : k1_chk11 v87) (k1_t8 : Fin (k1_t8_loop v87).trips) (k1_t10 : Fin (k1_t10_loop v87 k1_t8).trips), ∀ a, (k1_off27 v87 k1_t8 k1_t10) a + S16.size a ≤ S352.size a := fun v87 k1_hw11 k1_t8 k1_t10 => k1_hw11.2.2.2.2.2.2.2.2.2.2.2 k1_t8 k1_t10

def k1_off28 (v87 : BitVec 32) (k1_t8 : Fin (k1_t8_loop v87).trips) (k1_t10 : Fin (k1_t10_loop v87 k1_t8).trips) (v214 : BitVec 32) : Fin 2 → Nat :=
  let c0_i32_118 : BitVec 32 := 0#32
  let c16_i32_117 : BitVec 32 := 16#32
  let c0_i32_61 : BitVec 32 := 0#32
  let c15_i32 : BitVec 32 := 15#32
  let v90 : BitVec 32 := Scalar.addi v87 c15_i32
  let c0_i32_55 : BitVec 32 := 0#32
  let v92 : BitVec 1 := Scalar.cmpi .sgt v90 c0_i32_55
  let v93 : BitVec 32 := Scalar.extui v92
  let c0_i32_56 : BitVec 32 := 0#32
  let v94 : BitVec 1 := Scalar.cmpi .slt v90 c0_i32_56
  let v95 : BitVec 32 := Scalar.extui v94
  let v96 : BitVec 32 := Scalar.subi v93 v95
  let c16_i32 : BitVec 32 := 16#32
  let c0_i32_57 : BitVec 32 := 0#32
  let v97 : BitVec 1 := Scalar.cmpi .sgt c16_i32 c0_i32_57
  let v98 : BitVec 32 := Scalar.extui v97
  let c0_i32_58 : BitVec 32 := 0#32
  let v99 : BitVec 1 := Scalar.cmpi .slt c16_i32 c0_i32_58
  let v100 : BitVec 32 := Scalar.extui v99
  let v101 : BitVec 32 := Scalar.subi v98 v100
  let v102 : BitVec 1 := Scalar.cmpi .ne v96 v101
  let v103 : BitVec 32 := Scalar.remsi v90 c16_i32
  let c0_i32_59 : BitVec 32 := 0#32
  let v104 : BitVec 1 := Scalar.cmpi .ne v103 c0_i32_59
  let v105 : BitVec 1 := Scalar.andi v102 v104
  let v91 : BitVec 32 := Scalar.divsi v90 c16_i32
  let c1_i32_60 : BitVec 32 := 1#32
  let v106 : BitVec 32 := Scalar.subi v91 c1_i32_60
  let v107 : BitVec 32 := Scalar.select v105 v106 v91
  let v108 : BitVec 32 := Scalar.subi v107 c0_i32_61
  let c1_i32_63 : BitVec 32 := 1#32
  let v110 : BitVec 32 := Scalar.divsi v108 c1_i32_63
  let v111 : BitVec 32 := Scalar.muli v110 c1_i32_63
  let v112 : BitVec 32 := Scalar.addi c0_i32_61 v111
  let c1_i32_65 : BitVec 32 := 1#32
  let arg22 : BitVec 32 := Scf.iv v112 c1_i32_65 k1_t8
  let c16_i32_116 : BitVec 32 := 16#32
  let v194 : BitVec 32 := Scalar.muli arg22 c16_i32_116
  let v195 : BitVec 32 := Scalar.subi v87 v194
  let v196 : BitVec 32 := Scalar.minsi c16_i32_117 v195
  let v197 : BitVec 32 := Scalar.subi v196 c0_i32_118
  let c1_i32_120 : BitVec 32 := 1#32
  let v199 : BitVec 32 := Scalar.divsi v197 c1_i32_120
  let v200 : BitVec 32 := Scalar.muli v199 c1_i32_120
  let v201 : BitVec 32 := Scalar.addi c0_i32_118 v200
  let c1_i32_122 : BitVec 32 := 1#32
  let arg24 : BitVec 32 := Scf.iv v201 c1_i32_122 k1_t10
  let v221 : Index := Scalar.indexCast arg24
  let c3_i32 : BitVec 32 := 3#32
  let v215 : BitVec 32 := Scalar.andi v214 c3_i32
  let c32_i32 : BitVec 32 := 32#32
  let v216 : BitVec 32 := Scalar.muli v215 c32_i32
  let c0_i32_127 : BitVec 32 := 0#32
  let v220 : BitVec 32 := Scalar.addi v216 c0_i32_127
  let v222 : Index := Scalar.indexCast v220
  ![v221.toNat, v222.toNat]

def k1_chk22 (v219 : IVec S16 32) (v225 : IVec S16 32) : Prop :=
  (∀ a x, ((![v225, v219] : Fin 2 → IVec S16 32) a x).toNat < S32x128.size a)
theorem k1_idx17_inb : ∀ (v219 : IVec S16 32) (v225 : IVec S16 32) (k1_hw22 : k1_chk22 v219 v225), ∀ a x, ((![v225, v219] : Fin 2 → IVec S16 32) a x).toNat < S32x128.size a := fun v219 v225 k1_hw22 => k1_hw22
def k1_off29 (v87 : BitVec 32) (k1_t8 : Fin (k1_t8_loop v87).trips) (k1_t10 : Fin (k1_t10_loop v87 k1_t8).trips) (v214 : BitVec 32) : Fin 2 → Nat :=
  let c0_i32_118 : BitVec 32 := 0#32
  let c16_i32_117 : BitVec 32 := 16#32
  let c0_i32_61 : BitVec 32 := 0#32
  let c15_i32 : BitVec 32 := 15#32
  let v90 : BitVec 32 := Scalar.addi v87 c15_i32
  let c0_i32_55 : BitVec 32 := 0#32
  let v92 : BitVec 1 := Scalar.cmpi .sgt v90 c0_i32_55
  let v93 : BitVec 32 := Scalar.extui v92
  let c0_i32_56 : BitVec 32 := 0#32
  let v94 : BitVec 1 := Scalar.cmpi .slt v90 c0_i32_56
  let v95 : BitVec 32 := Scalar.extui v94
  let v96 : BitVec 32 := Scalar.subi v93 v95
  let c16_i32 : BitVec 32 := 16#32
  let c0_i32_57 : BitVec 32 := 0#32
  let v97 : BitVec 1 := Scalar.cmpi .sgt c16_i32 c0_i32_57
  let v98 : BitVec 32 := Scalar.extui v97
  let c0_i32_58 : BitVec 32 := 0#32
  let v99 : BitVec 1 := Scalar.cmpi .slt c16_i32 c0_i32_58
  let v100 : BitVec 32 := Scalar.extui v99
  let v101 : BitVec 32 := Scalar.subi v98 v100
  let v102 : BitVec 1 := Scalar.cmpi .ne v96 v101
  let v103 : BitVec 32 := Scalar.remsi v90 c16_i32
  let c0_i32_59 : BitVec 32 := 0#32
  let v104 : BitVec 1 := Scalar.cmpi .ne v103 c0_i32_59
  let v105 : BitVec 1 := Scalar.andi v102 v104
  let v91 : BitVec 32 := Scalar.divsi v90 c16_i32
  let c1_i32_60 : BitVec 32 := 1#32
  let v106 : BitVec 32 := Scalar.subi v91 c1_i32_60
  let v107 : BitVec 32 := Scalar.select v105 v106 v91
  let v108 : BitVec 32 := Scalar.subi v107 c0_i32_61
  let c1_i32_63 : BitVec 32 := 1#32
  let v110 : BitVec 32 := Scalar.divsi v108 c1_i32_63
  let v111 : BitVec 32 := Scalar.muli v110 c1_i32_63
  let v112 : BitVec 32 := Scalar.addi c0_i32_61 v111
  let c1_i32_65 : BitVec 32 := 1#32
  let arg22 : BitVec 32 := Scf.iv v112 c1_i32_65 k1_t8
  let c16_i32_116 : BitVec 32 := 16#32
  let v194 : BitVec 32 := Scalar.muli arg22 c16_i32_116
  let v195 : BitVec 32 := Scalar.subi v87 v194
  let v196 : BitVec 32 := Scalar.minsi c16_i32_117 v195
  let v197 : BitVec 32 := Scalar.subi v196 c0_i32_118
  let c1_i32_120 : BitVec 32 := 1#32
  let v199 : BitVec 32 := Scalar.divsi v197 c1_i32_120
  let v200 : BitVec 32 := Scalar.muli v199 c1_i32_120
  let v201 : BitVec 32 := Scalar.addi c0_i32_118 v200
  let c1_i32_122 : BitVec 32 := 1#32
  let arg24 : BitVec 32 := Scf.iv v201 c1_i32_122 k1_t10
  let v227 : Index := Scalar.indexCast arg24
  let c3_i32 : BitVec 32 := 3#32
  let v215 : BitVec 32 := Scalar.andi v214 c3_i32
  let c32_i32 : BitVec 32 := 32#32
  let v216 : BitVec 32 := Scalar.muli v215 c32_i32
  let c16_i32_129 : BitVec 32 := 16#32
  let v226 : BitVec 32 := Scalar.addi v216 c16_i32_129
  let v228 : Index := Scalar.indexCast v226
  ![v227.toNat, v228.toNat]

def k1_chk21 (v87 : BitVec 32) (k1_t8 : Fin (k1_t8_loop v87).trips) (k1_t10 : Fin (k1_t10_loop v87 k1_t8).trips) (v214 : BitVec 32) : Prop :=
  (∀ a, (k1_off28 v87 k1_t8 k1_t10 v214) a + S1x16.size a ≤ S16x128.size a) ∧
  (∀ a, (k1_off29 v87 k1_t8 k1_t10 v214) a + S1x16.size a ≤ S16x128.size a)
theorem k1_off28_inb : ∀ (v87 : BitVec 32) (k1_t8 : Fin (k1_t8_loop v87).trips) (k1_t10 : Fin (k1_t10_loop v87 k1_t8).trips) (v214 : BitVec 32) (k1_hw21 : k1_chk21 v87 k1_t8 k1_t10 v214), ∀ a, (k1_off28 v87 k1_t8 k1_t10 v214) a + S1x16.size a ≤ S16x128.size a := fun v87 k1_t8 k1_t10 v214 k1_hw21 => k1_hw21.1
theorem k1_off29_inb : ∀ (v87 : BitVec 32) (k1_t8 : Fin (k1_t8_loop v87).trips) (k1_t10 : Fin (k1_t10_loop v87 k1_t8).trips) (v214 : BitVec 32) (k1_hw21 : k1_chk21 v87 k1_t8 k1_t10 v214), ∀ a, (k1_off29 v87 k1_t8 k1_t10 v214) a + S1x16.size a ≤ S16x128.size a := fun v87 k1_t8 k1_t10 v214 k1_hw21 => k1_hw21.2

def k1_chk23 (v219 : IVec S16 32) (v231 : IVec S16 32) : Prop :=
  (∀ a x, ((![v231, v219] : Fin 2 → IVec S16 32) a x).toNat < S32x128.size a)
theorem k1_idx18_inb : ∀ (v219 : IVec S16 32) (v231 : IVec S16 32) (k1_hw23 : k1_chk23 v219 v231), ∀ a x, ((![v231, v219] : Fin 2 → IVec S16 32) a x).toNat < S32x128.size a := fun v219 v231 k1_hw23 => k1_hw23
def k1_mult2 (i : grid1.Coords) (k1_t2 : Fin k1_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let v4 : BitVec 32 := v3
  let c0_i32_25 : BitVec 32 := 0#32
  let c1_i32_26 : BitVec 32 := 1#32
  let arg20 : BitVec 32 := Scf.iv c0_i32_25 c1_i32_26 k1_t2
  let c2_i32_28 : BitVec 32 := 2#32
  let v48 : BitVec 32 := Scalar.muli arg20 c2_i32_28
  let c0_i32_29 : BitVec 32 := 0#32
  let v49 : BitVec 32 := Scalar.addi v48 c0_i32_29
  let c4_i32_39 : BitVec 32 := 4#32
  let c0_i32_40 : BitVec 32 := 0#32
  let v71 : BitVec 1 := Scalar.cmpi .eq c4_i32_39 c0_i32_40
  let c1_i32_41 : BitVec 32 := 1#32
  let v72 : BitVec 32 := Scalar.select v71 c1_i32_41 c4_i32_39
  let v73 : BitVec 32 := Scalar.remsi v49 v72
  let c0_i32_43 : BitVec 32 := 0#32
  let v75 : BitVec 1 := Scalar.cmpi .slt v73 c0_i32_43
  let c0_i32_44 : BitVec 32 := 0#32
  let v76 : BitVec 1 := Scalar.cmpi .slt v72 c0_i32_44
  let v77 : BitVec 1 := Scalar.xori v75 v76
  let c0_i32_42 : BitVec 32 := 0#32
  let v74 : BitVec 1 := Scalar.cmpi .ne v73 c0_i32_42
  let v78 : BitVec 1 := Scalar.andi v77 v74
  let v79 : BitVec 32 := Scalar.addi v73 v72
  let v80 : BitVec 32 := Scalar.select v78 v79 v73
  let c128_i32 : BitVec 32 := 128#32
  let v115 : BitVec 32 := Scalar.muli v80 c128_i32
  let v116 : BitVec 32 := Scalar.addi v4 v115
  v116
def k1_off30 (i : grid1.Coords) (k1_t2 : Fin k1_t2_loop.trips) : Fin 3 → Nat :=
  let c0_i32_25 : BitVec 32 := 0#32
  let c1_i32_26 : BitVec 32 := 1#32
  let arg20 : BitVec 32 := Scf.iv c0_i32_25 c1_i32_26 k1_t2
  let c2_i32_28 : BitVec 32 := 2#32
  let v48 : BitVec 32 := Scalar.muli arg20 c2_i32_28
  let c0_i32_29 : BitVec 32 := 0#32
  let v49 : BitVec 32 := Scalar.addi v48 c0_i32_29
  let c0_i32_33 : BitVec 32 := 0#32
  let v55 : BitVec 1 := Scalar.cmpi .sgt v49 c0_i32_33
  let v56 : BitVec 32 := Scalar.extui v55
  let c0_i32_34 : BitVec 32 := 0#32
  let v57 : BitVec 1 := Scalar.cmpi .slt v49 c0_i32_34
  let v58 : BitVec 32 := Scalar.extui v57
  let v59 : BitVec 32 := Scalar.subi v56 v58
  let c4_i32_32 : BitVec 32 := 4#32
  let c0_i32_35 : BitVec 32 := 0#32
  let v60 : BitVec 1 := Scalar.cmpi .sgt c4_i32_32 c0_i32_35
  let v61 : BitVec 32 := Scalar.extui v60
  let c0_i32_36 : BitVec 32 := 0#32
  let v62 : BitVec 1 := Scalar.cmpi .slt c4_i32_32 c0_i32_36
  let v63 : BitVec 32 := Scalar.extui v62
  let v64 : BitVec 32 := Scalar.subi v61 v63
  let v65 : BitVec 1 := Scalar.cmpi .ne v59 v64
  let v66 : BitVec 32 := Scalar.remsi v49 c4_i32_32
  let c0_i32_37 : BitVec 32 := 0#32
  let v67 : BitVec 1 := Scalar.cmpi .ne v66 c0_i32_37
  let v68 : BitVec 1 := Scalar.andi v65 v67
  let v54 : BitVec 32 := Scalar.divsi v49 c4_i32_32
  let c1_i32_38 : BitVec 32 := 1#32
  let v69 : BitVec 32 := Scalar.subi v54 c1_i32_38
  let v70 : BitVec 32 := Scalar.select v68 v69 v54
  let c0_i32_110_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let v4 : BitVec 32 := v3
  let c4_i32_39 : BitVec 32 := 4#32
  let c0_i32_40 : BitVec 32 := 0#32
  let v71 : BitVec 1 := Scalar.cmpi .eq c4_i32_39 c0_i32_40
  let c1_i32_41 : BitVec 32 := 1#32
  let v72 : BitVec 32 := Scalar.select v71 c1_i32_41 c4_i32_39
  let v73 : BitVec 32 := Scalar.remsi v49 v72
  let c0_i32_43 : BitVec 32 := 0#32
  let v75 : BitVec 1 := Scalar.cmpi .slt v73 c0_i32_43
  let c0_i32_44 : BitVec 32 := 0#32
  let v76 : BitVec 1 := Scalar.cmpi .slt v72 c0_i32_44
  let v77 : BitVec 1 := Scalar.xori v75 v76
  let c0_i32_42 : BitVec 32 := 0#32
  let v74 : BitVec 1 := Scalar.cmpi .ne v73 c0_i32_42
  let v78 : BitVec 1 := Scalar.andi v77 v74
  let v79 : BitVec 32 := Scalar.addi v73 v72
  let v80 : BitVec 32 := Scalar.select v78 v79 v73
  let c128_i32 : BitVec 32 := 128#32
  let v115 : BitVec 32 := Scalar.muli v80 c128_i32
  let v116 : BitVec 32 := Scalar.addi v4 v115
  let v117 : BitVec 32 := v116
  ![v70.toNat, 0, v117.toNat]
def k1_cond2 (k1_t2 : Fin k1_t2_loop.trips) : BitVec 1 :=
  let c0_i32_25 : BitVec 32 := 0#32
  let c1_i32_26 : BitVec 32 := 1#32
  let arg20 : BitVec 32 := Scf.iv c0_i32_25 c1_i32_26 k1_t2
  let c2_i32_66 : BitVec 32 := 2#32
  let v118 : BitVec 32 := Scalar.muli arg20 c2_i32_66
  let c1_i32_67 : BitVec 32 := 1#32
  let v119 : BitVec 32 := Scalar.addi v118 c1_i32_67
  let c1_i32_68 : BitVec 32 := 1#32
  let v120 : BitVec 32 := Scalar.addi v119 c1_i32_68
  let c200_i32_69 : BitVec 32 := 200#32
  let v121 : BitVec 1 := Scalar.cmpi .slt v120 c200_i32_69
  let v122 : BitVec 32 := Scalar.extui v121
  let c0_i32_70 : BitVec 32 := 0#32
  let v123 : BitVec 1 := Scalar.cmpi .ne v122 c0_i32_70
  v123

@[reducible] def k1_t11_loop : Scf.Loop 32 :=
  let c0_i32_125 : BitVec 32 := 0#32
  let c8_i32_126 : BitVec 32 := 8#32
  let v216 : BitVec 32 := Scalar.addi c0_i32_125 c8_i32_126
  let c1_i32_127 : BitVec 32 := 1#32
  ⟨c0_i32_125, v216, c1_i32_127⟩
def k1_off31 (k1_t2 : Fin k1_t2_loop.trips) (k1_t11 : Fin k1_t11_loop.trips) : Fin 2 → Nat :=
  let c0_i32_25 : BitVec 32 := 0#32
  let c1_i32_26 : BitVec 32 := 1#32
  let arg20 : BitVec 32 := Scf.iv c0_i32_25 c1_i32_26 k1_t2
  let c2_i32_66 : BitVec 32 := 2#32
  let v118 : BitVec 32 := Scalar.muli arg20 c2_i32_66
  let c1_i32_67 : BitVec 32 := 1#32
  let v119 : BitVec 32 := Scalar.addi v118 c1_i32_67
  let c1_i32_110 : BitVec 32 := 1#32
  let v188 : BitVec 32 := Scalar.addi v119 c1_i32_110
  let c0_i32_112 : BitVec 32 := 0#32
  let v190 : BitVec 1 := Scalar.cmpi .sgt v188 c0_i32_112
  let v191 : BitVec 32 := Scalar.extui v190
  let c0_i32_113 : BitVec 32 := 0#32
  let v192 : BitVec 1 := Scalar.cmpi .slt v188 c0_i32_113
  let v193 : BitVec 32 := Scalar.extui v192
  let v194 : BitVec 32 := Scalar.subi v191 v193
  let c4_i32_111 : BitVec 32 := 4#32
  let c0_i32_114 : BitVec 32 := 0#32
  let v195 : BitVec 1 := Scalar.cmpi .sgt c4_i32_111 c0_i32_114
  let v196 : BitVec 32 := Scalar.extui v195
  let c0_i32_115 : BitVec 32 := 0#32
  let v197 : BitVec 1 := Scalar.cmpi .slt c4_i32_111 c0_i32_115
  let v198 : BitVec 32 := Scalar.extui v197
  let v199 : BitVec 32 := Scalar.subi v196 v198
  let v200 : BitVec 1 := Scalar.cmpi .ne v194 v199
  let v201 : BitVec 32 := Scalar.remsi v188 c4_i32_111
  let c0_i32_116 : BitVec 32 := 0#32
  let v202 : BitVec 1 := Scalar.cmpi .ne v201 c0_i32_116
  let v203 : BitVec 1 := Scalar.andi v200 v202
  let v189 : BitVec 32 := Scalar.divsi v188 c4_i32_111
  let c1_i32_117 : BitVec 32 := 1#32
  let v204 : BitVec 32 := Scalar.subi v189 c1_i32_117
  let v205 : BitVec 32 := Scalar.select v203 v204 v189
  let v233 : Index := Scalar.indexCast v205
  let c4_i32_118 : BitVec 32 := 4#32
  let c0_i32_119 : BitVec 32 := 0#32
  let v206 : BitVec 1 := Scalar.cmpi .eq c4_i32_118 c0_i32_119
  let c1_i32_120 : BitVec 32 := 1#32
  let v207 : BitVec 32 := Scalar.select v206 c1_i32_120 c4_i32_118
  let v208 : BitVec 32 := Scalar.remsi v188 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let c128_i32_138 : BitVec 32 := 128#32
  let v230 : BitVec 32 := Scalar.muli v215 c128_i32_138
  let c0_i32_125 : BitVec 32 := 0#32
  let c1_i32_127 : BitVec 32 := 1#32
  let arg22 : BitVec 32 := Scf.iv c0_i32_125 c1_i32_127 k1_t11
  let c16_i32_139 : BitVec 32 := 16#32
  let v231 : BitVec 32 := Scalar.muli arg22 c16_i32_139
  let v232 : BitVec 32 := Scalar.addi v230 v231
  let v234 : Index := Scalar.indexCast v232
  ![v233.toNat, v234.toNat]
def k1_off32 (k1_t11 : Fin k1_t11_loop.trips) : Fin 2 → Nat :=
  let c0_i32_149 : BitVec 32 := 0#32
  let v267 : Index := Scalar.indexCast c0_i32_149
  let c0_i32_125 : BitVec 32 := 0#32
  let c1_i32_127 : BitVec 32 := 1#32
  let arg22 : BitVec 32 := Scf.iv c0_i32_125 c1_i32_127 k1_t11
  let c16_i32_148 : BitVec 32 := 16#32
  let v266 : BitVec 32 := Scalar.muli arg22 c16_i32_148
  let v268 : Index := Scalar.indexCast v266
  ![0, v268.toNat]
def k1_off33 (k1_t11 : Fin k1_t11_loop.trips) : Fin 2 → Nat :=
  let c0_i32_152 : BitVec 32 := 0#32
  let v277 : Index := Scalar.indexCast c0_i32_152
  let c0_i32_125 : BitVec 32 := 0#32
  let c1_i32_127 : BitVec 32 := 1#32
  let arg22 : BitVec 32 := Scf.iv c0_i32_125 c1_i32_127 k1_t11
  let c16_i32_151 : BitVec 32 := 16#32
  let v276 : BitVec 32 := Scalar.muli arg22 c16_i32_151
  let v278 : Index := Scalar.indexCast v276
  ![0, v278.toNat]

def k1_chk24 (k1_t2 : Fin k1_t2_loop.trips) (v292 : IVec S16 32) : Prop :=
  (∀ (k1_h2 : k1_cond2 k1_t2 = 1#1), ∀ a x, ((![v292] : Fin 1 → IVec S16 32) a x).toNat < S352.size a) ∧
  (∀ (k1_h2 : k1_cond2 k1_t2 = 1#1), ∀ a x, ((![v292] : Fin 1 → IVec S16 32) a x).toNat < S352.size a) ∧
  (∀ (k1_h2 : k1_cond2 k1_t2 = 1#1), ∀ a x, ((![v292] : Fin 1 → IVec S16 32) a x).toNat < S352.size a)
theorem k1_idx19_inb : ∀ (k1_t2 : Fin k1_t2_loop.trips) (v292 : IVec S16 32) (k1_hw24 : k1_chk24 k1_t2 v292), ∀ (k1_h2 : k1_cond2 k1_t2 = 1#1), ∀ a x, ((![v292] : Fin 1 → IVec S16 32) a x).toNat < S352.size a := fun k1_t2 v292 k1_hw24 k1_h2 => k1_hw24.1 k1_h2
theorem k1_idx20_inb : ∀ (k1_t2 : Fin k1_t2_loop.trips) (v292 : IVec S16 32) (k1_hw24 : k1_chk24 k1_t2 v292), ∀ (k1_h2 : k1_cond2 k1_t2 = 1#1), ∀ a x, ((![v292] : Fin 1 → IVec S16 32) a x).toNat < S352.size a := fun k1_t2 v292 k1_hw24 k1_h2 => k1_hw24.2.1 k1_h2
theorem k1_idx21_inb : ∀ (k1_t2 : Fin k1_t2_loop.trips) (v292 : IVec S16 32) (k1_hw24 : k1_chk24 k1_t2 v292), ∀ (k1_h2 : k1_cond2 k1_t2 = 1#1), ∀ a x, ((![v292] : Fin 1 → IVec S16 32) a x).toNat < S352.size a := fun k1_t2 v292 k1_hw24 k1_h2 => k1_hw24.2.2 k1_h2
def k1_off34 (v217 : BitVec 32) : Fin 1 → Nat :=
  let c0_i32_130 : BitVec 32 := 0#32
  let v219 : BitVec 32 := Scalar.addi c0_i32_130 v217
  let v220 : Index := Scalar.indexCast v219
  ![v220.toNat]

def k1_chk25 (k1_t2 : Fin k1_t2_loop.trips) (v217 : BitVec 32) : Prop :=
  (∀ (k1_h2 : k1_cond2 k1_t2 = 1#1), ∀ a, (k1_off34 v217) a + S16.size a ≤ S352.size a)
theorem k1_off34_inb : ∀ (k1_t2 : Fin k1_t2_loop.trips) (v217 : BitVec 32) (k1_hw25 : k1_chk25 k1_t2 v217), ∀ (k1_h2 : k1_cond2 k1_t2 = 1#1), ∀ a, (k1_off34 v217) a + S16.size a ≤ S352.size a := fun k1_t2 v217 k1_hw25 k1_h2 => k1_hw25 k1_h2

@[reducible] def k1_t12_loop : Scf.Loop 32 :=
  let c0_i32_91 : BitVec 32 := 0#32
  let c64_i32_92 : BitVec 32 := 64#32
  let v158 : BitVec 32 := Scalar.addi c0_i32_91 c64_i32_92
  let c1_i32_93 : BitVec 32 := 1#32
  ⟨c0_i32_91, v158, c1_i32_93⟩
def k1_off35 (k1_t12 : Fin k1_t12_loop.trips) : Fin 2 → Nat :=
  let c1_i32_112 : BitVec 32 := 1#32
  let v190 : Index := Scalar.indexCast c1_i32_112
  let c0_i32_91 : BitVec 32 := 0#32
  let c1_i32_93 : BitVec 32 := 1#32
  let arg22 : BitVec 32 := Scf.iv c0_i32_91 c1_i32_93 k1_t12
  let c2_i32_110 : BitVec 32 := 2#32
  let v188 : BitVec 32 := Scalar.muli arg22 c2_i32_110
  let c0_i32_111 : BitVec 32 := 0#32
  let v189 : BitVec 32 := Scalar.addi v188 c0_i32_111
  let v191 : Index := Scalar.indexCast v189
  ![1, v191.toNat]
def k1_off36 (k1_t12 : Fin k1_t12_loop.trips) (v194 : BitVec 32) : Fin 2 → Nat :=
  let c0_i32_91 : BitVec 32 := 0#32
  let c1_i32_93 : BitVec 32 := 1#32
  let arg22 : BitVec 32 := Scf.iv c0_i32_91 c1_i32_93 k1_t12
  let c2_i32_110 : BitVec 32 := 2#32
  let v188 : BitVec 32 := Scalar.muli arg22 c2_i32_110
  let c0_i32_111 : BitVec 32 := 0#32
  let v189 : BitVec 32 := Scalar.addi v188 c0_i32_111
  let v199 : Index := Scalar.indexCast v189
  let c0_i32_114 : BitVec 32 := 0#32
  let v198 : BitVec 32 := Scalar.addi v194 c0_i32_114
  let v200 : Index := Scalar.indexCast v198
  ![v199.toNat, v200.toNat]

def k1_chk27 (v197 : IVec S16 32) (v203 : IVec S16 32) : Prop :=
  (∀ a x, ((![v203, v197] : Fin 2 → IVec S16 32) a x).toNat < S32x128.size a)
theorem k1_idx22_inb : ∀ (v197 : IVec S16 32) (v203 : IVec S16 32) (k1_hw27 : k1_chk27 v197 v203), ∀ a x, ((![v203, v197] : Fin 2 → IVec S16 32) a x).toNat < S32x128.size a := fun v197 v203 k1_hw27 => k1_hw27
def k1_off37 (k1_t12 : Fin k1_t12_loop.trips) (v194 : BitVec 32) : Fin 2 → Nat :=
  let c0_i32_91 : BitVec 32 := 0#32
  let c1_i32_93 : BitVec 32 := 1#32
  let arg22 : BitVec 32 := Scf.iv c0_i32_91 c1_i32_93 k1_t12
  let c2_i32_110 : BitVec 32 := 2#32
  let v188 : BitVec 32 := Scalar.muli arg22 c2_i32_110
  let c0_i32_111 : BitVec 32 := 0#32
  let v189 : BitVec 32 := Scalar.addi v188 c0_i32_111
  let v205 : Index := Scalar.indexCast v189
  let c16_i32_116 : BitVec 32 := 16#32
  let v204 : BitVec 32 := Scalar.addi v194 c16_i32_116
  let v206 : Index := Scalar.indexCast v204
  ![v205.toNat, v206.toNat]

def k1_chk26 (k1_t12 : Fin k1_t12_loop.trips) (v194 : BitVec 32) : Prop :=
  (∀ a, (k1_off36 k1_t12 v194) a + S1x16.size a ≤ S128x128.size a) ∧
  (∀ a, (k1_off37 k1_t12 v194) a + S1x16.size a ≤ S128x128.size a)
theorem k1_off36_inb : ∀ (k1_t12 : Fin k1_t12_loop.trips) (v194 : BitVec 32) (k1_hw26 : k1_chk26 k1_t12 v194), ∀ a, (k1_off36 k1_t12 v194) a + S1x16.size a ≤ S128x128.size a := fun k1_t12 v194 k1_hw26 => k1_hw26.1
theorem k1_off37_inb : ∀ (k1_t12 : Fin k1_t12_loop.trips) (v194 : BitVec 32) (k1_hw26 : k1_chk26 k1_t12 v194), ∀ a, (k1_off37 k1_t12 v194) a + S1x16.size a ≤ S128x128.size a := fun k1_t12 v194 k1_hw26 => k1_hw26.2

def k1_chk28 (v197 : IVec S16 32) (v209 : IVec S16 32) : Prop :=
  (∀ a x, ((![v209, v197] : Fin 2 → IVec S16 32) a x).toNat < S32x128.size a)
theorem k1_idx23_inb : ∀ (v197 : IVec S16 32) (v209 : IVec S16 32) (k1_hw28 : k1_chk28 v197 v209), ∀ a x, ((![v209, v197] : Fin 2 → IVec S16 32) a x).toNat < S32x128.size a := fun v197 v209 k1_hw28 => k1_hw28
def k1_off38 (k1_t12 : Fin k1_t12_loop.trips) : Fin 2 → Nat :=
  let c1_i32_120 : BitVec 32 := 1#32
  let v212 : Index := Scalar.indexCast c1_i32_120
  let c0_i32_91 : BitVec 32 := 0#32
  let c1_i32_93 : BitVec 32 := 1#32
  let arg22 : BitVec 32 := Scf.iv c0_i32_91 c1_i32_93 k1_t12
  let c2_i32_118 : BitVec 32 := 2#32
  let v210 : BitVec 32 := Scalar.muli arg22 c2_i32_118
  let c1_i32_119 : BitVec 32 := 1#32
  let v211 : BitVec 32 := Scalar.addi v210 c1_i32_119
  let v213 : Index := Scalar.indexCast v211
  ![1, v213.toNat]
def k1_off39 (k1_t12 : Fin k1_t12_loop.trips) (v216 : BitVec 32) : Fin 2 → Nat :=
  let c0_i32_91 : BitVec 32 := 0#32
  let c1_i32_93 : BitVec 32 := 1#32
  let arg22 : BitVec 32 := Scf.iv c0_i32_91 c1_i32_93 k1_t12
  let c2_i32_118 : BitVec 32 := 2#32
  let v210 : BitVec 32 := Scalar.muli arg22 c2_i32_118
  let c1_i32_119 : BitVec 32 := 1#32
  let v211 : BitVec 32 := Scalar.addi v210 c1_i32_119
  let v221 : Index := Scalar.indexCast v211
  let c0_i32_122 : BitVec 32 := 0#32
  let v220 : BitVec 32 := Scalar.addi v216 c0_i32_122
  let v222 : Index := Scalar.indexCast v220
  ![v221.toNat, v222.toNat]

def k1_chk30 (v219 : IVec S16 32) (v225 : IVec S16 32) : Prop :=
  (∀ a x, ((![v225, v219] : Fin 2 → IVec S16 32) a x).toNat < S32x128.size a)
theorem k1_idx24_inb : ∀ (v219 : IVec S16 32) (v225 : IVec S16 32) (k1_hw30 : k1_chk30 v219 v225), ∀ a x, ((![v225, v219] : Fin 2 → IVec S16 32) a x).toNat < S32x128.size a := fun v219 v225 k1_hw30 => k1_hw30
def k1_off40 (k1_t12 : Fin k1_t12_loop.trips) (v216 : BitVec 32) : Fin 2 → Nat :=
  let c0_i32_91 : BitVec 32 := 0#32
  let c1_i32_93 : BitVec 32 := 1#32
  let arg22 : BitVec 32 := Scf.iv c0_i32_91 c1_i32_93 k1_t12
  let c2_i32_118 : BitVec 32 := 2#32
  let v210 : BitVec 32 := Scalar.muli arg22 c2_i32_118
  let c1_i32_119 : BitVec 32 := 1#32
  let v211 : BitVec 32 := Scalar.addi v210 c1_i32_119
  let v227 : Index := Scalar.indexCast v211
  let c16_i32_124 : BitVec 32 := 16#32
  let v226 : BitVec 32 := Scalar.addi v216 c16_i32_124
  let v228 : Index := Scalar.indexCast v226
  ![v227.toNat, v228.toNat]

def k1_chk29 (k1_t12 : Fin k1_t12_loop.trips) (v216 : BitVec 32) : Prop :=
  (∀ a, (k1_off39 k1_t12 v216) a + S1x16.size a ≤ S128x128.size a) ∧
  (∀ a, (k1_off40 k1_t12 v216) a + S1x16.size a ≤ S128x128.size a)
theorem k1_off39_inb : ∀ (k1_t12 : Fin k1_t12_loop.trips) (v216 : BitVec 32) (k1_hw29 : k1_chk29 k1_t12 v216), ∀ a, (k1_off39 k1_t12 v216) a + S1x16.size a ≤ S128x128.size a := fun k1_t12 v216 k1_hw29 => k1_hw29.1
theorem k1_off40_inb : ∀ (k1_t12 : Fin k1_t12_loop.trips) (v216 : BitVec 32) (k1_hw29 : k1_chk29 k1_t12 v216), ∀ a, (k1_off40 k1_t12 v216) a + S1x16.size a ≤ S128x128.size a := fun k1_t12 v216 k1_hw29 => k1_hw29.2

def k1_chk31 (v219 : IVec S16 32) (v231 : IVec S16 32) : Prop :=
  (∀ a x, ((![v231, v219] : Fin 2 → IVec S16 32) a x).toNat < S32x128.size a)
theorem k1_idx25_inb : ∀ (v219 : IVec S16 32) (v231 : IVec S16 32) (k1_hw31 : k1_chk31 v219 v231), ∀ a x, ((![v231, v219] : Fin 2 → IVec S16 32) a x).toNat < S32x128.size a := fun v219 v231 k1_hw31 => k1_hw31
@[reducible] def k1_t13_loop (v157 : BitVec 32) : Scf.Loop 32 :=
  let c0_i32_103 : BitVec 32 := 0#32
  let c15_i32_95 : BitVec 32 := 15#32
  let v160 : BitVec 32 := Scalar.addi v157 c15_i32_95
  let c0_i32_97 : BitVec 32 := 0#32
  let v162 : BitVec 1 := Scalar.cmpi .sgt v160 c0_i32_97
  let v163 : BitVec 32 := Scalar.extui v162
  let c0_i32_98 : BitVec 32 := 0#32
  let v164 : BitVec 1 := Scalar.cmpi .slt v160 c0_i32_98
  let v165 : BitVec 32 := Scalar.extui v164
  let v166 : BitVec 32 := Scalar.subi v163 v165
  let c16_i32_96 : BitVec 32 := 16#32
  let c0_i32_99 : BitVec 32 := 0#32
  let v167 : BitVec 1 := Scalar.cmpi .sgt c16_i32_96 c0_i32_99
  let v168 : BitVec 32 := Scalar.extui v167
  let c0_i32_100 : BitVec 32 := 0#32
  let v169 : BitVec 1 := Scalar.cmpi .slt c16_i32_96 c0_i32_100
  let v170 : BitVec 32 := Scalar.extui v169
  let v171 : BitVec 32 := Scalar.subi v168 v170
  let v172 : BitVec 1 := Scalar.cmpi .ne v166 v171
  let v173 : BitVec 32 := Scalar.remsi v160 c16_i32_96
  let c0_i32_101 : BitVec 32 := 0#32
  let v174 : BitVec 1 := Scalar.cmpi .ne v173 c0_i32_101
  let v175 : BitVec 1 := Scalar.andi v172 v174
  let v161 : BitVec 32 := Scalar.divsi v160 c16_i32_96
  let c1_i32_102 : BitVec 32 := 1#32
  let v176 : BitVec 32 := Scalar.subi v161 c1_i32_102
  let v177 : BitVec 32 := Scalar.select v175 v176 v161
  let v178 : BitVec 32 := Scalar.subi v177 c0_i32_103
  let c1_i32_105 : BitVec 32 := 1#32
  let v180 : BitVec 32 := Scalar.divsi v178 c1_i32_105
  let v181 : BitVec 32 := Scalar.muli v180 c1_i32_105
  let v182 : BitVec 32 := Scalar.addi c0_i32_103 v181
  let c1_i32_106 : BitVec 32 := 1#32
  ⟨c0_i32_103, v182, c1_i32_106⟩

def k1_off41 (v157 : BitVec 32) (k1_t13 : Fin (k1_t13_loop v157).trips) : Fin 1 → Nat :=
  let c176_i32 : BitVec 32 := 176#32
  let c0_i32_103 : BitVec 32 := 0#32
  let c1_i32_106 : BitVec 32 := 1#32
  let arg22 : BitVec 32 := Scf.iv c0_i32_103 c1_i32_106 k1_t13
  let c16_i32_110 : BitVec 32 := 16#32
  let v188 : BitVec 32 := Scalar.muli arg22 c16_i32_110
  let v189 : BitVec 32 := Scalar.addi c176_i32 v188
  ![v189.toNat]
@[reducible] def k1_t14_loop (v157 : BitVec 32) (k1_t13 : Fin (k1_t13_loop v157).trips) : Scf.Loop 32 :=
  let c0_i32_117 : BitVec 32 := 0#32
  let c16_i32_116 : BitVec 32 := 16#32
  let c0_i32_103 : BitVec 32 := 0#32
  let c1_i32_106 : BitVec 32 := 1#32
  let arg22 : BitVec 32 := Scf.iv c0_i32_103 c1_i32_106 k1_t13
  let c16_i32_115 : BitVec 32 := 16#32
  let v194 : BitVec 32 := Scalar.muli arg22 c16_i32_115
  let v195 : BitVec 32 := Scalar.subi v157 v194
  let v196 : BitVec 32 := Scalar.minsi c16_i32_116 v195
  let v197 : BitVec 32 := Scalar.subi v196 c0_i32_117
  let c1_i32_119 : BitVec 32 := 1#32
  let v199 : BitVec 32 := Scalar.divsi v197 c1_i32_119
  let v200 : BitVec 32 := Scalar.muli v199 c1_i32_119
  let v201 : BitVec 32 := Scalar.addi c0_i32_117 v200
  let c1_i32_120 : BitVec 32 := 1#32
  ⟨c0_i32_117, v201, c1_i32_120⟩
def k1_off42 (v157 : BitVec 32) (k1_t13 : Fin (k1_t13_loop v157).trips) (k1_t14 : Fin (k1_t14_loop v157 k1_t13).trips) : Fin 1 → Nat :=
  let c176_i32_124 : BitVec 32 := 176#32
  let c0_i32_103 : BitVec 32 := 0#32
  let c1_i32_106 : BitVec 32 := 1#32
  let arg22 : BitVec 32 := Scf.iv c0_i32_103 c1_i32_106 k1_t13
  let c16_i32_123 : BitVec 32 := 16#32
  let v204 : BitVec 32 := Scalar.muli arg22 c16_i32_123
  let v205 : BitVec 32 := Scalar.addi c176_i32_124 v204
  let c0_i32_117 : BitVec 32 := 0#32
  let c1_i32_120 : BitVec 32 := 1#32
  let arg24 : BitVec 32 := Scf.iv c0_i32_117 c1_i32_120 k1_t14
  let v206 : BitVec 32 := Scalar.addi v205 arg24
  let v207 : Index := Scalar.indexCast v206
  ![v207.toNat]
def k1_off43 (v157 : BitVec 32) (k1_t13 : Fin (k1_t13_loop v157).trips) (k1_t14 : Fin (k1_t14_loop v157 k1_t13).trips) (v214 : BitVec 32) : Fin 2 → Nat :=
  let c0_i32_117 : BitVec 32 := 0#32
  let c1_i32_120 : BitVec 32 := 1#32
  let arg24 : BitVec 32 := Scf.iv c0_i32_117 c1_i32_120 k1_t14
  let v221 : Index := Scalar.indexCast arg24
  let c3_i32 : BitVec 32 := 3#32
  let v215 : BitVec 32 := Scalar.andi v214 c3_i32
  let c32_i32 : BitVec 32 := 32#32
  let v216 : BitVec 32 := Scalar.muli v215 c32_i32
  let c0_i32_126 : BitVec 32 := 0#32
  let v220 : BitVec 32 := Scalar.addi v216 c0_i32_126
  let v222 : Index := Scalar.indexCast v220
  ![v221.toNat, v222.toNat]

def k1_chk34 (v219 : IVec S16 32) (v225 : IVec S16 32) : Prop :=
  (∀ a x, ((![v225, v219] : Fin 2 → IVec S16 32) a x).toNat < S32x128.size a)
theorem k1_idx26_inb : ∀ (v219 : IVec S16 32) (v225 : IVec S16 32) (k1_hw34 : k1_chk34 v219 v225), ∀ a x, ((![v225, v219] : Fin 2 → IVec S16 32) a x).toNat < S32x128.size a := fun v219 v225 k1_hw34 => k1_hw34
def k1_off44 (v157 : BitVec 32) (k1_t13 : Fin (k1_t13_loop v157).trips) (k1_t14 : Fin (k1_t14_loop v157 k1_t13).trips) (v214 : BitVec 32) : Fin 2 → Nat :=
  let c0_i32_117 : BitVec 32 := 0#32
  let c1_i32_120 : BitVec 32 := 1#32
  let arg24 : BitVec 32 := Scf.iv c0_i32_117 c1_i32_120 k1_t14
  let v227 : Index := Scalar.indexCast arg24
  let c3_i32 : BitVec 32 := 3#32
  let v215 : BitVec 32 := Scalar.andi v214 c3_i32
  let c32_i32 : BitVec 32 := 32#32
  let v216 : BitVec 32 := Scalar.muli v215 c32_i32
  let c16_i32_128 : BitVec 32 := 16#32
  let v226 : BitVec 32 := Scalar.addi v216 c16_i32_128
  let v228 : Index := Scalar.indexCast v226
  ![v227.toNat, v228.toNat]

def k1_chk33 (v157 : BitVec 32) (k1_t13 : Fin (k1_t13_loop v157).trips) (k1_t14 : Fin (k1_t14_loop v157 k1_t13).trips) (v214 : BitVec 32) : Prop :=
  (∀ a, (k1_off43 v157 k1_t13 k1_t14 v214) a + S1x16.size a ≤ S16x128.size a) ∧
  (∀ a, (k1_off44 v157 k1_t13 k1_t14 v214) a + S1x16.size a ≤ S16x128.size a)
theorem k1_off43_inb : ∀ (v157 : BitVec 32) (k1_t13 : Fin (k1_t13_loop v157).trips) (k1_t14 : Fin (k1_t14_loop v157 k1_t13).trips) (v214 : BitVec 32) (k1_hw33 : k1_chk33 v157 k1_t13 k1_t14 v214), ∀ a, (k1_off43 v157 k1_t13 k1_t14 v214) a + S1x16.size a ≤ S16x128.size a := fun v157 k1_t13 k1_t14 v214 k1_hw33 => k1_hw33.1
theorem k1_off44_inb : ∀ (v157 : BitVec 32) (k1_t13 : Fin (k1_t13_loop v157).trips) (k1_t14 : Fin (k1_t14_loop v157 k1_t13).trips) (v214 : BitVec 32) (k1_hw33 : k1_chk33 v157 k1_t13 k1_t14 v214), ∀ a, (k1_off44 v157 k1_t13 k1_t14 v214) a + S1x16.size a ≤ S16x128.size a := fun v157 k1_t13 k1_t14 v214 k1_hw33 => k1_hw33.2

def k1_chk35 (v219 : IVec S16 32) (v231 : IVec S16 32) : Prop :=
  (∀ a x, ((![v231, v219] : Fin 2 → IVec S16 32) a x).toNat < S32x128.size a)
theorem k1_idx27_inb : ∀ (v219 : IVec S16 32) (v231 : IVec S16 32) (k1_hw35 : k1_chk35 v219 v231), ∀ a x, ((![v231, v219] : Fin 2 → IVec S16 32) a x).toNat < S32x128.size a := fun v219 v231 k1_hw35 => k1_hw35
@[reducible] def k1_t15_loop (v157 : BitVec 32) (k1_t13 : Fin (k1_t13_loop v157).trips) : Scf.Loop 32 :=
  let c0_i32_117 : BitVec 32 := 0#32
  let c16_i32_116 : BitVec 32 := 16#32
  let c0_i32_103 : BitVec 32 := 0#32
  let c1_i32_106 : BitVec 32 := 1#32
  let arg22 : BitVec 32 := Scf.iv c0_i32_103 c1_i32_106 k1_t13
  let c16_i32_115 : BitVec 32 := 16#32
  let v194 : BitVec 32 := Scalar.muli arg22 c16_i32_115
  let v195 : BitVec 32 := Scalar.subi v157 v194
  let v196 : BitVec 32 := Scalar.minsi c16_i32_116 v195
  let v197 : BitVec 32 := Scalar.subi v196 c0_i32_117
  let c1_i32_119 : BitVec 32 := 1#32
  let v199 : BitVec 32 := Scalar.divsi v197 c1_i32_119
  let v200 : BitVec 32 := Scalar.muli v199 c1_i32_119
  let v201 : BitVec 32 := Scalar.addi c0_i32_117 v200
  let v198 : BitVec 32 := Scalar.addi c0_i32_117 v197
  let c1_i32_121 : BitVec 32 := 1#32
  ⟨v201, v198, c1_i32_121⟩
def k1_off45 (v157 : BitVec 32) (k1_t13 : Fin (k1_t13_loop v157).trips) (k1_t15 : Fin (k1_t15_loop v157 k1_t13).trips) : Fin 1 → Nat :=
  let c176_i32_124 : BitVec 32 := 176#32
  let c0_i32_103 : BitVec 32 := 0#32
  let c1_i32_106 : BitVec 32 := 1#32
  let arg22 : BitVec 32 := Scf.iv c0_i32_103 c1_i32_106 k1_t13
  let c16_i32_123 : BitVec 32 := 16#32
  let v204 : BitVec 32 := Scalar.muli arg22 c16_i32_123
  let v205 : BitVec 32 := Scalar.addi c176_i32_124 v204
  let c0_i32_117 : BitVec 32 := 0#32
  let c16_i32_116 : BitVec 32 := 16#32
  let c16_i32_115 : BitVec 32 := 16#32
  let v194 : BitVec 32 := Scalar.muli arg22 c16_i32_115
  let v195 : BitVec 32 := Scalar.subi v157 v194
  let v196 : BitVec 32 := Scalar.minsi c16_i32_116 v195
  let v197 : BitVec 32 := Scalar.subi v196 c0_i32_117
  let c1_i32_119 : BitVec 32 := 1#32
  let v199 : BitVec 32 := Scalar.divsi v197 c1_i32_119
  let v200 : BitVec 32 := Scalar.muli v199 c1_i32_119
  let v201 : BitVec 32 := Scalar.addi c0_i32_117 v200
  let c1_i32_121 : BitVec 32 := 1#32
  let arg24 : BitVec 32 := Scf.iv v201 c1_i32_121 k1_t15
  let v206 : BitVec 32 := Scalar.addi v205 arg24
  let v207 : Index := Scalar.indexCast v206
  ![v207.toNat]
def k1_off46 (v157 : BitVec 32) (k1_t13 : Fin (k1_t13_loop v157).trips) (k1_t15 : Fin (k1_t15_loop v157 k1_t13).trips) (v214 : BitVec 32) : Fin 2 → Nat :=
  let c0_i32_117 : BitVec 32 := 0#32
  let c16_i32_116 : BitVec 32 := 16#32
  let c0_i32_103 : BitVec 32 := 0#32
  let c1_i32_106 : BitVec 32 := 1#32
  let arg22 : BitVec 32 := Scf.iv c0_i32_103 c1_i32_106 k1_t13
  let c16_i32_115 : BitVec 32 := 16#32
  let v194 : BitVec 32 := Scalar.muli arg22 c16_i32_115
  let v195 : BitVec 32 := Scalar.subi v157 v194
  let v196 : BitVec 32 := Scalar.minsi c16_i32_116 v195
  let v197 : BitVec 32 := Scalar.subi v196 c0_i32_117
  let c1_i32_119 : BitVec 32 := 1#32
  let v199 : BitVec 32 := Scalar.divsi v197 c1_i32_119
  let v200 : BitVec 32 := Scalar.muli v199 c1_i32_119
  let v201 : BitVec 32 := Scalar.addi c0_i32_117 v200
  let c1_i32_121 : BitVec 32 := 1#32
  let arg24 : BitVec 32 := Scf.iv v201 c1_i32_121 k1_t15
  let v221 : Index := Scalar.indexCast arg24
  let c3_i32 : BitVec 32 := 3#32
  let v215 : BitVec 32 := Scalar.andi v214 c3_i32
  let c32_i32 : BitVec 32 := 32#32
  let v216 : BitVec 32 := Scalar.muli v215 c32_i32
  let c0_i32_126 : BitVec 32 := 0#32
  let v220 : BitVec 32 := Scalar.addi v216 c0_i32_126
  let v222 : Index := Scalar.indexCast v220
  ![v221.toNat, v222.toNat]

def k1_chk37 (v219 : IVec S16 32) (v225 : IVec S16 32) : Prop :=
  (∀ a x, ((![v225, v219] : Fin 2 → IVec S16 32) a x).toNat < S32x128.size a)
theorem k1_idx28_inb : ∀ (v219 : IVec S16 32) (v225 : IVec S16 32) (k1_hw37 : k1_chk37 v219 v225), ∀ a x, ((![v225, v219] : Fin 2 → IVec S16 32) a x).toNat < S32x128.size a := fun v219 v225 k1_hw37 => k1_hw37
def k1_off47 (v157 : BitVec 32) (k1_t13 : Fin (k1_t13_loop v157).trips) (k1_t15 : Fin (k1_t15_loop v157 k1_t13).trips) (v214 : BitVec 32) : Fin 2 → Nat :=
  let c0_i32_117 : BitVec 32 := 0#32
  let c16_i32_116 : BitVec 32 := 16#32
  let c0_i32_103 : BitVec 32 := 0#32
  let c1_i32_106 : BitVec 32 := 1#32
  let arg22 : BitVec 32 := Scf.iv c0_i32_103 c1_i32_106 k1_t13
  let c16_i32_115 : BitVec 32 := 16#32
  let v194 : BitVec 32 := Scalar.muli arg22 c16_i32_115
  let v195 : BitVec 32 := Scalar.subi v157 v194
  let v196 : BitVec 32 := Scalar.minsi c16_i32_116 v195
  let v197 : BitVec 32 := Scalar.subi v196 c0_i32_117
  let c1_i32_119 : BitVec 32 := 1#32
  let v199 : BitVec 32 := Scalar.divsi v197 c1_i32_119
  let v200 : BitVec 32 := Scalar.muli v199 c1_i32_119
  let v201 : BitVec 32 := Scalar.addi c0_i32_117 v200
  let c1_i32_121 : BitVec 32 := 1#32
  let arg24 : BitVec 32 := Scf.iv v201 c1_i32_121 k1_t15
  let v227 : Index := Scalar.indexCast arg24
  let c3_i32 : BitVec 32 := 3#32
  let v215 : BitVec 32 := Scalar.andi v214 c3_i32
  let c32_i32 : BitVec 32 := 32#32
  let v216 : BitVec 32 := Scalar.muli v215 c32_i32
  let c16_i32_128 : BitVec 32 := 16#32
  let v226 : BitVec 32 := Scalar.addi v216 c16_i32_128
  let v228 : Index := Scalar.indexCast v226
  ![v227.toNat, v228.toNat]

def k1_chk36 (v157 : BitVec 32) (k1_t13 : Fin (k1_t13_loop v157).trips) (k1_t15 : Fin (k1_t15_loop v157 k1_t13).trips) (v214 : BitVec 32) : Prop :=
  (∀ a, (k1_off46 v157 k1_t13 k1_t15 v214) a + S1x16.size a ≤ S16x128.size a) ∧
  (∀ a, (k1_off47 v157 k1_t13 k1_t15 v214) a + S1x16.size a ≤ S16x128.size a)
theorem k1_off46_inb : ∀ (v157 : BitVec 32) (k1_t13 : Fin (k1_t13_loop v157).trips) (k1_t15 : Fin (k1_t15_loop v157 k1_t13).trips) (v214 : BitVec 32) (k1_hw36 : k1_chk36 v157 k1_t13 k1_t15 v214), ∀ a, (k1_off46 v157 k1_t13 k1_t15 v214) a + S1x16.size a ≤ S16x128.size a := fun v157 k1_t13 k1_t15 v214 k1_hw36 => k1_hw36.1
theorem k1_off47_inb : ∀ (v157 : BitVec 32) (k1_t13 : Fin (k1_t13_loop v157).trips) (k1_t15 : Fin (k1_t15_loop v157 k1_t13).trips) (v214 : BitVec 32) (k1_hw36 : k1_chk36 v157 k1_t13 k1_t15 v214), ∀ a, (k1_off47 v157 k1_t13 k1_t15 v214) a + S1x16.size a ≤ S16x128.size a := fun v157 k1_t13 k1_t15 v214 k1_hw36 => k1_hw36.2

def k1_chk38 (v219 : IVec S16 32) (v231 : IVec S16 32) : Prop :=
  (∀ a x, ((![v231, v219] : Fin 2 → IVec S16 32) a x).toNat < S32x128.size a)
theorem k1_idx29_inb : ∀ (v219 : IVec S16 32) (v231 : IVec S16 32) (k1_hw38 : k1_chk38 v219 v231), ∀ a x, ((![v231, v219] : Fin 2 → IVec S16 32) a x).toNat < S32x128.size a := fun v219 v231 k1_hw38 => k1_hw38
@[reducible] def k1_t16_loop (v157 : BitVec 32) : Scf.Loop 32 :=
  let c0_i32_103 : BitVec 32 := 0#32
  let c15_i32_95 : BitVec 32 := 15#32
  let v160 : BitVec 32 := Scalar.addi v157 c15_i32_95
  let c0_i32_97 : BitVec 32 := 0#32
  let v162 : BitVec 1 := Scalar.cmpi .sgt v160 c0_i32_97
  let v163 : BitVec 32 := Scalar.extui v162
  let c0_i32_98 : BitVec 32 := 0#32
  let v164 : BitVec 1 := Scalar.cmpi .slt v160 c0_i32_98
  let v165 : BitVec 32 := Scalar.extui v164
  let v166 : BitVec 32 := Scalar.subi v163 v165
  let c16_i32_96 : BitVec 32 := 16#32
  let c0_i32_99 : BitVec 32 := 0#32
  let v167 : BitVec 1 := Scalar.cmpi .sgt c16_i32_96 c0_i32_99
  let v168 : BitVec 32 := Scalar.extui v167
  let c0_i32_100 : BitVec 32 := 0#32
  let v169 : BitVec 1 := Scalar.cmpi .slt c16_i32_96 c0_i32_100
  let v170 : BitVec 32 := Scalar.extui v169
  let v171 : BitVec 32 := Scalar.subi v168 v170
  let v172 : BitVec 1 := Scalar.cmpi .ne v166 v171
  let v173 : BitVec 32 := Scalar.remsi v160 c16_i32_96
  let c0_i32_101 : BitVec 32 := 0#32
  let v174 : BitVec 1 := Scalar.cmpi .ne v173 c0_i32_101
  let v175 : BitVec 1 := Scalar.andi v172 v174
  let v161 : BitVec 32 := Scalar.divsi v160 c16_i32_96
  let c1_i32_102 : BitVec 32 := 1#32
  let v176 : BitVec 32 := Scalar.subi v161 c1_i32_102
  let v177 : BitVec 32 := Scalar.select v175 v176 v161
  let v178 : BitVec 32 := Scalar.subi v177 c0_i32_103
  let c1_i32_105 : BitVec 32 := 1#32
  let v180 : BitVec 32 := Scalar.divsi v178 c1_i32_105
  let v181 : BitVec 32 := Scalar.muli v180 c1_i32_105
  let v182 : BitVec 32 := Scalar.addi c0_i32_103 v181
  let v179 : BitVec 32 := Scalar.addi c0_i32_103 v178
  let c1_i32_107 : BitVec 32 := 1#32
  ⟨v182, v179, c1_i32_107⟩
def k1_off48 (v157 : BitVec 32) (k1_t16 : Fin (k1_t16_loop v157).trips) : Fin 1 → Nat :=
  let c176_i32 : BitVec 32 := 176#32
  let c0_i32_103 : BitVec 32 := 0#32
  let c15_i32_95 : BitVec 32 := 15#32
  let v160 : BitVec 32 := Scalar.addi v157 c15_i32_95
  let c0_i32_97 : BitVec 32 := 0#32
  let v162 : BitVec 1 := Scalar.cmpi .sgt v160 c0_i32_97
  let v163 : BitVec 32 := Scalar.extui v162
  let c0_i32_98 : BitVec 32 := 0#32
  let v164 : BitVec 1 := Scalar.cmpi .slt v160 c0_i32_98
  let v165 : BitVec 32 := Scalar.extui v164
  let v166 : BitVec 32 := Scalar.subi v163 v165
  let c16_i32_96 : BitVec 32 := 16#32
  let c0_i32_99 : BitVec 32 := 0#32
  let v167 : BitVec 1 := Scalar.cmpi .sgt c16_i32_96 c0_i32_99
  let v168 : BitVec 32 := Scalar.extui v167
  let c0_i32_100 : BitVec 32 := 0#32
  let v169 : BitVec 1 := Scalar.cmpi .slt c16_i32_96 c0_i32_100
  let v170 : BitVec 32 := Scalar.extui v169
  let v171 : BitVec 32 := Scalar.subi v168 v170
  let v172 : BitVec 1 := Scalar.cmpi .ne v166 v171
  let v173 : BitVec 32 := Scalar.remsi v160 c16_i32_96
  let c0_i32_101 : BitVec 32 := 0#32
  let v174 : BitVec 1 := Scalar.cmpi .ne v173 c0_i32_101
  let v175 : BitVec 1 := Scalar.andi v172 v174
  let v161 : BitVec 32 := Scalar.divsi v160 c16_i32_96
  let c1_i32_102 : BitVec 32 := 1#32
  let v176 : BitVec 32 := Scalar.subi v161 c1_i32_102
  let v177 : BitVec 32 := Scalar.select v175 v176 v161
  let v178 : BitVec 32 := Scalar.subi v177 c0_i32_103
  let c1_i32_105 : BitVec 32 := 1#32
  let v180 : BitVec 32 := Scalar.divsi v178 c1_i32_105
  let v181 : BitVec 32 := Scalar.muli v180 c1_i32_105
  let v182 : BitVec 32 := Scalar.addi c0_i32_103 v181
  let c1_i32_107 : BitVec 32 := 1#32
  let arg22 : BitVec 32 := Scf.iv v182 c1_i32_107 k1_t16
  let c16_i32_110 : BitVec 32 := 16#32
  let v188 : BitVec 32 := Scalar.muli arg22 c16_i32_110
  let v189 : BitVec 32 := Scalar.addi c176_i32 v188
  ![v189.toNat]
@[reducible] def k1_t17_loop (v157 : BitVec 32) (k1_t16 : Fin (k1_t16_loop v157).trips) : Scf.Loop 32 :=
  let c0_i32_117 : BitVec 32 := 0#32
  let c16_i32_116 : BitVec 32 := 16#32
  let c0_i32_103 : BitVec 32 := 0#32
  let c15_i32_95 : BitVec 32 := 15#32
  let v160 : BitVec 32 := Scalar.addi v157 c15_i32_95
  let c0_i32_97 : BitVec 32 := 0#32
  let v162 : BitVec 1 := Scalar.cmpi .sgt v160 c0_i32_97
  let v163 : BitVec 32 := Scalar.extui v162
  let c0_i32_98 : BitVec 32 := 0#32
  let v164 : BitVec 1 := Scalar.cmpi .slt v160 c0_i32_98
  let v165 : BitVec 32 := Scalar.extui v164
  let v166 : BitVec 32 := Scalar.subi v163 v165
  let c16_i32_96 : BitVec 32 := 16#32
  let c0_i32_99 : BitVec 32 := 0#32
  let v167 : BitVec 1 := Scalar.cmpi .sgt c16_i32_96 c0_i32_99
  let v168 : BitVec 32 := Scalar.extui v167
  let c0_i32_100 : BitVec 32 := 0#32
  let v169 : BitVec 1 := Scalar.cmpi .slt c16_i32_96 c0_i32_100
  let v170 : BitVec 32 := Scalar.extui v169
  let v171 : BitVec 32 := Scalar.subi v168 v170
  let v172 : BitVec 1 := Scalar.cmpi .ne v166 v171
  let v173 : BitVec 32 := Scalar.remsi v160 c16_i32_96
  let c0_i32_101 : BitVec 32 := 0#32
  let v174 : BitVec 1 := Scalar.cmpi .ne v173 c0_i32_101
  let v175 : BitVec 1 := Scalar.andi v172 v174
  let v161 : BitVec 32 := Scalar.divsi v160 c16_i32_96
  let c1_i32_102 : BitVec 32 := 1#32
  let v176 : BitVec 32 := Scalar.subi v161 c1_i32_102
  let v177 : BitVec 32 := Scalar.select v175 v176 v161
  let v178 : BitVec 32 := Scalar.subi v177 c0_i32_103
  let c1_i32_105 : BitVec 32 := 1#32
  let v180 : BitVec 32 := Scalar.divsi v178 c1_i32_105
  let v181 : BitVec 32 := Scalar.muli v180 c1_i32_105
  let v182 : BitVec 32 := Scalar.addi c0_i32_103 v181
  let c1_i32_107 : BitVec 32 := 1#32
  let arg22 : BitVec 32 := Scf.iv v182 c1_i32_107 k1_t16
  let c16_i32_115 : BitVec 32 := 16#32
  let v194 : BitVec 32 := Scalar.muli arg22 c16_i32_115
  let v195 : BitVec 32 := Scalar.subi v157 v194
  let v196 : BitVec 32 := Scalar.minsi c16_i32_116 v195
  let v197 : BitVec 32 := Scalar.subi v196 c0_i32_117
  let c1_i32_119 : BitVec 32 := 1#32
  let v199 : BitVec 32 := Scalar.divsi v197 c1_i32_119
  let v200 : BitVec 32 := Scalar.muli v199 c1_i32_119
  let v201 : BitVec 32 := Scalar.addi c0_i32_117 v200
  let c1_i32_120 : BitVec 32 := 1#32
  ⟨c0_i32_117, v201, c1_i32_120⟩
def k1_off49 (v157 : BitVec 32) (k1_t16 : Fin (k1_t16_loop v157).trips) (k1_t17 : Fin (k1_t17_loop v157 k1_t16).trips) : Fin 1 → Nat :=
  let c176_i32_124 : BitVec 32 := 176#32
  let c0_i32_103 : BitVec 32 := 0#32
  let c15_i32_95 : BitVec 32 := 15#32
  let v160 : BitVec 32 := Scalar.addi v157 c15_i32_95
  let c0_i32_97 : BitVec 32 := 0#32
  let v162 : BitVec 1 := Scalar.cmpi .sgt v160 c0_i32_97
  let v163 : BitVec 32 := Scalar.extui v162
  let c0_i32_98 : BitVec 32 := 0#32
  let v164 : BitVec 1 := Scalar.cmpi .slt v160 c0_i32_98
  let v165 : BitVec 32 := Scalar.extui v164
  let v166 : BitVec 32 := Scalar.subi v163 v165
  let c16_i32_96 : BitVec 32 := 16#32
  let c0_i32_99 : BitVec 32 := 0#32
  let v167 : BitVec 1 := Scalar.cmpi .sgt c16_i32_96 c0_i32_99
  let v168 : BitVec 32 := Scalar.extui v167
  let c0_i32_100 : BitVec 32 := 0#32
  let v169 : BitVec 1 := Scalar.cmpi .slt c16_i32_96 c0_i32_100
  let v170 : BitVec 32 := Scalar.extui v169
  let v171 : BitVec 32 := Scalar.subi v168 v170
  let v172 : BitVec 1 := Scalar.cmpi .ne v166 v171
  let v173 : BitVec 32 := Scalar.remsi v160 c16_i32_96
  let c0_i32_101 : BitVec 32 := 0#32
  let v174 : BitVec 1 := Scalar.cmpi .ne v173 c0_i32_101
  let v175 : BitVec 1 := Scalar.andi v172 v174
  let v161 : BitVec 32 := Scalar.divsi v160 c16_i32_96
  let c1_i32_102 : BitVec 32 := 1#32
  let v176 : BitVec 32 := Scalar.subi v161 c1_i32_102
  let v177 : BitVec 32 := Scalar.select v175 v176 v161
  let v178 : BitVec 32 := Scalar.subi v177 c0_i32_103
  let c1_i32_105 : BitVec 32 := 1#32
  let v180 : BitVec 32 := Scalar.divsi v178 c1_i32_105
  let v181 : BitVec 32 := Scalar.muli v180 c1_i32_105
  let v182 : BitVec 32 := Scalar.addi c0_i32_103 v181
  let c1_i32_107 : BitVec 32 := 1#32
  let arg22 : BitVec 32 := Scf.iv v182 c1_i32_107 k1_t16
  let c16_i32_123 : BitVec 32 := 16#32
  let v204 : BitVec 32 := Scalar.muli arg22 c16_i32_123
  let v205 : BitVec 32 := Scalar.addi c176_i32_124 v204
  let c0_i32_117 : BitVec 32 := 0#32
  let c1_i32_120 : BitVec 32 := 1#32
  let arg24 : BitVec 32 := Scf.iv c0_i32_117 c1_i32_120 k1_t17
  let v206 : BitVec 32 := Scalar.addi v205 arg24
  let v207 : Index := Scalar.indexCast v206
  ![v207.toNat]
def k1_off50 (v157 : BitVec 32) (k1_t16 : Fin (k1_t16_loop v157).trips) (k1_t17 : Fin (k1_t17_loop v157 k1_t16).trips) (v214 : BitVec 32) : Fin 2 → Nat :=
  let c0_i32_117 : BitVec 32 := 0#32
  let c1_i32_120 : BitVec 32 := 1#32
  let arg24 : BitVec 32 := Scf.iv c0_i32_117 c1_i32_120 k1_t17
  let v221 : Index := Scalar.indexCast arg24
  let c3_i32 : BitVec 32 := 3#32
  let v215 : BitVec 32 := Scalar.andi v214 c3_i32
  let c32_i32 : BitVec 32 := 32#32
  let v216 : BitVec 32 := Scalar.muli v215 c32_i32
  let c0_i32_126 : BitVec 32 := 0#32
  let v220 : BitVec 32 := Scalar.addi v216 c0_i32_126
  let v222 : Index := Scalar.indexCast v220
  ![v221.toNat, v222.toNat]

def k1_chk40 (v219 : IVec S16 32) (v225 : IVec S16 32) : Prop :=
  (∀ a x, ((![v225, v219] : Fin 2 → IVec S16 32) a x).toNat < S32x128.size a)
theorem k1_idx30_inb : ∀ (v219 : IVec S16 32) (v225 : IVec S16 32) (k1_hw40 : k1_chk40 v219 v225), ∀ a x, ((![v225, v219] : Fin 2 → IVec S16 32) a x).toNat < S32x128.size a := fun v219 v225 k1_hw40 => k1_hw40
def k1_off51 (v157 : BitVec 32) (k1_t16 : Fin (k1_t16_loop v157).trips) (k1_t17 : Fin (k1_t17_loop v157 k1_t16).trips) (v214 : BitVec 32) : Fin 2 → Nat :=
  let c0_i32_117 : BitVec 32 := 0#32
  let c1_i32_120 : BitVec 32 := 1#32
  let arg24 : BitVec 32 := Scf.iv c0_i32_117 c1_i32_120 k1_t17
  let v227 : Index := Scalar.indexCast arg24
  let c3_i32 : BitVec 32 := 3#32
  let v215 : BitVec 32 := Scalar.andi v214 c3_i32
  let c32_i32 : BitVec 32 := 32#32
  let v216 : BitVec 32 := Scalar.muli v215 c32_i32
  let c16_i32_128 : BitVec 32 := 16#32
  let v226 : BitVec 32 := Scalar.addi v216 c16_i32_128
  let v228 : Index := Scalar.indexCast v226
  ![v227.toNat, v228.toNat]

def k1_chk39 (v157 : BitVec 32) (k1_t16 : Fin (k1_t16_loop v157).trips) (k1_t17 : Fin (k1_t17_loop v157 k1_t16).trips) (v214 : BitVec 32) : Prop :=
  (∀ a, (k1_off50 v157 k1_t16 k1_t17 v214) a + S1x16.size a ≤ S16x128.size a) ∧
  (∀ a, (k1_off51 v157 k1_t16 k1_t17 v214) a + S1x16.size a ≤ S16x128.size a)
theorem k1_off50_inb : ∀ (v157 : BitVec 32) (k1_t16 : Fin (k1_t16_loop v157).trips) (k1_t17 : Fin (k1_t17_loop v157 k1_t16).trips) (v214 : BitVec 32) (k1_hw39 : k1_chk39 v157 k1_t16 k1_t17 v214), ∀ a, (k1_off50 v157 k1_t16 k1_t17 v214) a + S1x16.size a ≤ S16x128.size a := fun v157 k1_t16 k1_t17 v214 k1_hw39 => k1_hw39.1
theorem k1_off51_inb : ∀ (v157 : BitVec 32) (k1_t16 : Fin (k1_t16_loop v157).trips) (k1_t17 : Fin (k1_t17_loop v157 k1_t16).trips) (v214 : BitVec 32) (k1_hw39 : k1_chk39 v157 k1_t16 k1_t17 v214), ∀ a, (k1_off51 v157 k1_t16 k1_t17 v214) a + S1x16.size a ≤ S16x128.size a := fun v157 k1_t16 k1_t17 v214 k1_hw39 => k1_hw39.2

def k1_chk41 (v219 : IVec S16 32) (v231 : IVec S16 32) : Prop :=
  (∀ a x, ((![v231, v219] : Fin 2 → IVec S16 32) a x).toNat < S32x128.size a)
theorem k1_idx31_inb : ∀ (v219 : IVec S16 32) (v231 : IVec S16 32) (k1_hw41 : k1_chk41 v219 v231), ∀ a x, ((![v231, v219] : Fin 2 → IVec S16 32) a x).toNat < S32x128.size a := fun v219 v231 k1_hw41 => k1_hw41
@[reducible] def k1_t18_loop (v157 : BitVec 32) (k1_t16 : Fin (k1_t16_loop v157).trips) : Scf.Loop 32 :=
  let c0_i32_117 : BitVec 32 := 0#32
  let c16_i32_116 : BitVec 32 := 16#32
  let c0_i32_103 : BitVec 32 := 0#32
  let c15_i32_95 : BitVec 32 := 15#32
  let v160 : BitVec 32 := Scalar.addi v157 c15_i32_95
  let c0_i32_97 : BitVec 32 := 0#32
  let v162 : BitVec 1 := Scalar.cmpi .sgt v160 c0_i32_97
  let v163 : BitVec 32 := Scalar.extui v162
  let c0_i32_98 : BitVec 32 := 0#32
  let v164 : BitVec 1 := Scalar.cmpi .slt v160 c0_i32_98
  let v165 : BitVec 32 := Scalar.extui v164
  let v166 : BitVec 32 := Scalar.subi v163 v165
  let c16_i32_96 : BitVec 32 := 16#32
  let c0_i32_99 : BitVec 32 := 0#32
  let v167 : BitVec 1 := Scalar.cmpi .sgt c16_i32_96 c0_i32_99
  let v168 : BitVec 32 := Scalar.extui v167
  let c0_i32_100 : BitVec 32 := 0#32
  let v169 : BitVec 1 := Scalar.cmpi .slt c16_i32_96 c0_i32_100
  let v170 : BitVec 32 := Scalar.extui v169
  let v171 : BitVec 32 := Scalar.subi v168 v170
  let v172 : BitVec 1 := Scalar.cmpi .ne v166 v171
  let v173 : BitVec 32 := Scalar.remsi v160 c16_i32_96
  let c0_i32_101 : BitVec 32 := 0#32
  let v174 : BitVec 1 := Scalar.cmpi .ne v173 c0_i32_101
  let v175 : BitVec 1 := Scalar.andi v172 v174
  let v161 : BitVec 32 := Scalar.divsi v160 c16_i32_96
  let c1_i32_102 : BitVec 32 := 1#32
  let v176 : BitVec 32 := Scalar.subi v161 c1_i32_102
  let v177 : BitVec 32 := Scalar.select v175 v176 v161
  let v178 : BitVec 32 := Scalar.subi v177 c0_i32_103
  let c1_i32_105 : BitVec 32 := 1#32
  let v180 : BitVec 32 := Scalar.divsi v178 c1_i32_105
  let v181 : BitVec 32 := Scalar.muli v180 c1_i32_105
  let v182 : BitVec 32 := Scalar.addi c0_i32_103 v181
  let c1_i32_107 : BitVec 32 := 1#32
  let arg22 : BitVec 32 := Scf.iv v182 c1_i32_107 k1_t16
  let c16_i32_115 : BitVec 32 := 16#32
  let v194 : BitVec 32 := Scalar.muli arg22 c16_i32_115
  let v195 : BitVec 32 := Scalar.subi v157 v194
  let v196 : BitVec 32 := Scalar.minsi c16_i32_116 v195
  let v197 : BitVec 32 := Scalar.subi v196 c0_i32_117
  let c1_i32_119 : BitVec 32 := 1#32
  let v199 : BitVec 32 := Scalar.divsi v197 c1_i32_119
  let v200 : BitVec 32 := Scalar.muli v199 c1_i32_119
  let v201 : BitVec 32 := Scalar.addi c0_i32_117 v200
  let v198 : BitVec 32 := Scalar.addi c0_i32_117 v197
  let c1_i32_121 : BitVec 32 := 1#32
  ⟨v201, v198, c1_i32_121⟩
def k1_off52 (v157 : BitVec 32) (k1_t16 : Fin (k1_t16_loop v157).trips) (k1_t18 : Fin (k1_t18_loop v157 k1_t16).trips) : Fin 1 → Nat :=
  let c176_i32_124 : BitVec 32 := 176#32
  let c0_i32_103 : BitVec 32 := 0#32
  let c15_i32_95 : BitVec 32 := 15#32
  let v160 : BitVec 32 := Scalar.addi v157 c15_i32_95
  let c0_i32_97 : BitVec 32 := 0#32
  let v162 : BitVec 1 := Scalar.cmpi .sgt v160 c0_i32_97
  let v163 : BitVec 32 := Scalar.extui v162
  let c0_i32_98 : BitVec 32 := 0#32
  let v164 : BitVec 1 := Scalar.cmpi .slt v160 c0_i32_98
  let v165 : BitVec 32 := Scalar.extui v164
  let v166 : BitVec 32 := Scalar.subi v163 v165
  let c16_i32_96 : BitVec 32 := 16#32
  let c0_i32_99 : BitVec 32 := 0#32
  let v167 : BitVec 1 := Scalar.cmpi .sgt c16_i32_96 c0_i32_99
  let v168 : BitVec 32 := Scalar.extui v167
  let c0_i32_100 : BitVec 32 := 0#32
  let v169 : BitVec 1 := Scalar.cmpi .slt c16_i32_96 c0_i32_100
  let v170 : BitVec 32 := Scalar.extui v169
  let v171 : BitVec 32 := Scalar.subi v168 v170
  let v172 : BitVec 1 := Scalar.cmpi .ne v166 v171
  let v173 : BitVec 32 := Scalar.remsi v160 c16_i32_96
  let c0_i32_101 : BitVec 32 := 0#32
  let v174 : BitVec 1 := Scalar.cmpi .ne v173 c0_i32_101
  let v175 : BitVec 1 := Scalar.andi v172 v174
  let v161 : BitVec 32 := Scalar.divsi v160 c16_i32_96
  let c1_i32_102 : BitVec 32 := 1#32
  let v176 : BitVec 32 := Scalar.subi v161 c1_i32_102
  let v177 : BitVec 32 := Scalar.select v175 v176 v161
  let v178 : BitVec 32 := Scalar.subi v177 c0_i32_103
  let c1_i32_105 : BitVec 32 := 1#32
  let v180 : BitVec 32 := Scalar.divsi v178 c1_i32_105
  let v181 : BitVec 32 := Scalar.muli v180 c1_i32_105
  let v182 : BitVec 32 := Scalar.addi c0_i32_103 v181
  let c1_i32_107 : BitVec 32 := 1#32
  let arg22 : BitVec 32 := Scf.iv v182 c1_i32_107 k1_t16
  let c16_i32_123 : BitVec 32 := 16#32
  let v204 : BitVec 32 := Scalar.muli arg22 c16_i32_123
  let v205 : BitVec 32 := Scalar.addi c176_i32_124 v204
  let c0_i32_117 : BitVec 32 := 0#32
  let c16_i32_116 : BitVec 32 := 16#32
  let c16_i32_115 : BitVec 32 := 16#32
  let v194 : BitVec 32 := Scalar.muli arg22 c16_i32_115
  let v195 : BitVec 32 := Scalar.subi v157 v194
  let v196 : BitVec 32 := Scalar.minsi c16_i32_116 v195
  let v197 : BitVec 32 := Scalar.subi v196 c0_i32_117
  let c1_i32_119 : BitVec 32 := 1#32
  let v199 : BitVec 32 := Scalar.divsi v197 c1_i32_119
  let v200 : BitVec 32 := Scalar.muli v199 c1_i32_119
  let v201 : BitVec 32 := Scalar.addi c0_i32_117 v200
  let c1_i32_121 : BitVec 32 := 1#32
  let arg24 : BitVec 32 := Scf.iv v201 c1_i32_121 k1_t18
  let v206 : BitVec 32 := Scalar.addi v205 arg24
  let v207 : Index := Scalar.indexCast v206
  ![v207.toNat]

def k1_chk32 (v157 : BitVec 32) : Prop :=
  ((k1_t13_loop v157).OK) ∧
  (∀ k1_t13 : Fin (k1_t13_loop v157).trips, ∀ a, (k1_off41 v157 k1_t13) a + S16.size a ≤ S352.size a) ∧
  (∀ k1_t13 : Fin (k1_t13_loop v157).trips, (k1_t14_loop v157 k1_t13).OK) ∧
  (∀ (k1_t13 : Fin (k1_t13_loop v157).trips) (k1_t14 : Fin (k1_t14_loop v157 k1_t13).trips), ∀ a, (k1_off42 v157 k1_t13 k1_t14) a + S16.size a ≤ S352.size a) ∧
  (∀ k1_t13 : Fin (k1_t13_loop v157).trips, (k1_t15_loop v157 k1_t13).OK) ∧
  (∀ (k1_t13 : Fin (k1_t13_loop v157).trips) (k1_t15 : Fin (k1_t15_loop v157 k1_t13).trips), ∀ a, (k1_off45 v157 k1_t13 k1_t15) a + S16.size a ≤ S352.size a) ∧
  ((k1_t16_loop v157).OK) ∧
  (∀ k1_t16 : Fin (k1_t16_loop v157).trips, ∀ a, (k1_off48 v157 k1_t16) a + S16.size a ≤ S352.size a) ∧
  (∀ k1_t16 : Fin (k1_t16_loop v157).trips, (k1_t17_loop v157 k1_t16).OK) ∧
  (∀ (k1_t16 : Fin (k1_t16_loop v157).trips) (k1_t17 : Fin (k1_t17_loop v157 k1_t16).trips), ∀ a, (k1_off49 v157 k1_t16 k1_t17) a + S16.size a ≤ S352.size a) ∧
  (∀ k1_t16 : Fin (k1_t16_loop v157).trips, (k1_t18_loop v157 k1_t16).OK) ∧
  (∀ (k1_t16 : Fin (k1_t16_loop v157).trips) (k1_t18 : Fin (k1_t18_loop v157 k1_t16).trips), ∀ a, (k1_off52 v157 k1_t16 k1_t18) a + S16.size a ≤ S352.size a)
theorem k1_t13_ok : ∀ (v157 : BitVec 32) (k1_hw32 : k1_chk32 v157), (k1_t13_loop v157).OK := fun v157 k1_hw32 => k1_hw32.1
theorem k1_off41_inb : ∀ (v157 : BitVec 32) (k1_hw32 : k1_chk32 v157) (k1_t13 : Fin (k1_t13_loop v157).trips), ∀ a, (k1_off41 v157 k1_t13) a + S16.size a ≤ S352.size a := fun v157 k1_hw32 k1_t13 => k1_hw32.2.1 k1_t13
theorem k1_t14_ok : ∀ (v157 : BitVec 32) (k1_hw32 : k1_chk32 v157) (k1_t13 : Fin (k1_t13_loop v157).trips), (k1_t14_loop v157 k1_t13).OK := fun v157 k1_hw32 k1_t13 => k1_hw32.2.2.1 k1_t13
theorem k1_off42_inb : ∀ (v157 : BitVec 32) (k1_hw32 : k1_chk32 v157) (k1_t13 : Fin (k1_t13_loop v157).trips) (k1_t14 : Fin (k1_t14_loop v157 k1_t13).trips), ∀ a, (k1_off42 v157 k1_t13 k1_t14) a + S16.size a ≤ S352.size a := fun v157 k1_hw32 k1_t13 k1_t14 => k1_hw32.2.2.2.1 k1_t13 k1_t14
theorem k1_t15_ok : ∀ (v157 : BitVec 32) (k1_hw32 : k1_chk32 v157) (k1_t13 : Fin (k1_t13_loop v157).trips), (k1_t15_loop v157 k1_t13).OK := fun v157 k1_hw32 k1_t13 => k1_hw32.2.2.2.2.1 k1_t13
theorem k1_off45_inb : ∀ (v157 : BitVec 32) (k1_hw32 : k1_chk32 v157) (k1_t13 : Fin (k1_t13_loop v157).trips) (k1_t15 : Fin (k1_t15_loop v157 k1_t13).trips), ∀ a, (k1_off45 v157 k1_t13 k1_t15) a + S16.size a ≤ S352.size a := fun v157 k1_hw32 k1_t13 k1_t15 => k1_hw32.2.2.2.2.2.1 k1_t13 k1_t15
theorem k1_t16_ok : ∀ (v157 : BitVec 32) (k1_hw32 : k1_chk32 v157), (k1_t16_loop v157).OK := fun v157 k1_hw32 => k1_hw32.2.2.2.2.2.2.1
theorem k1_off48_inb : ∀ (v157 : BitVec 32) (k1_hw32 : k1_chk32 v157) (k1_t16 : Fin (k1_t16_loop v157).trips), ∀ a, (k1_off48 v157 k1_t16) a + S16.size a ≤ S352.size a := fun v157 k1_hw32 k1_t16 => k1_hw32.2.2.2.2.2.2.2.1 k1_t16
theorem k1_t17_ok : ∀ (v157 : BitVec 32) (k1_hw32 : k1_chk32 v157) (k1_t16 : Fin (k1_t16_loop v157).trips), (k1_t17_loop v157 k1_t16).OK := fun v157 k1_hw32 k1_t16 => k1_hw32.2.2.2.2.2.2.2.2.1 k1_t16
theorem k1_off49_inb : ∀ (v157 : BitVec 32) (k1_hw32 : k1_chk32 v157) (k1_t16 : Fin (k1_t16_loop v157).trips) (k1_t17 : Fin (k1_t17_loop v157 k1_t16).trips), ∀ a, (k1_off49 v157 k1_t16 k1_t17) a + S16.size a ≤ S352.size a := fun v157 k1_hw32 k1_t16 k1_t17 => k1_hw32.2.2.2.2.2.2.2.2.2.1 k1_t16 k1_t17
theorem k1_t18_ok : ∀ (v157 : BitVec 32) (k1_hw32 : k1_chk32 v157) (k1_t16 : Fin (k1_t16_loop v157).trips), (k1_t18_loop v157 k1_t16).OK := fun v157 k1_hw32 k1_t16 => k1_hw32.2.2.2.2.2.2.2.2.2.2.1 k1_t16
theorem k1_off52_inb : ∀ (v157 : BitVec 32) (k1_hw32 : k1_chk32 v157) (k1_t16 : Fin (k1_t16_loop v157).trips) (k1_t18 : Fin (k1_t18_loop v157 k1_t16).trips), ∀ a, (k1_off52 v157 k1_t16 k1_t18) a + S16.size a ≤ S352.size a := fun v157 k1_hw32 k1_t16 k1_t18 => k1_hw32.2.2.2.2.2.2.2.2.2.2.2 k1_t16 k1_t18

def k1_off53 (v157 : BitVec 32) (k1_t16 : Fin (k1_t16_loop v157).trips) (k1_t18 : Fin (k1_t18_loop v157 k1_t16).trips) (v214 : BitVec 32) : Fin 2 → Nat :=
  let c0_i32_117 : BitVec 32 := 0#32
  let c16_i32_116 : BitVec 32 := 16#32
  let c0_i32_103 : BitVec 32 := 0#32
  let c15_i32_95 : BitVec 32 := 15#32
  let v160 : BitVec 32 := Scalar.addi v157 c15_i32_95
  let c0_i32_97 : BitVec 32 := 0#32
  let v162 : BitVec 1 := Scalar.cmpi .sgt v160 c0_i32_97
  let v163 : BitVec 32 := Scalar.extui v162
  let c0_i32_98 : BitVec 32 := 0#32
  let v164 : BitVec 1 := Scalar.cmpi .slt v160 c0_i32_98
  let v165 : BitVec 32 := Scalar.extui v164
  let v166 : BitVec 32 := Scalar.subi v163 v165
  let c16_i32_96 : BitVec 32 := 16#32
  let c0_i32_99 : BitVec 32 := 0#32
  let v167 : BitVec 1 := Scalar.cmpi .sgt c16_i32_96 c0_i32_99
  let v168 : BitVec 32 := Scalar.extui v167
  let c0_i32_100 : BitVec 32 := 0#32
  let v169 : BitVec 1 := Scalar.cmpi .slt c16_i32_96 c0_i32_100
  let v170 : BitVec 32 := Scalar.extui v169
  let v171 : BitVec 32 := Scalar.subi v168 v170
  let v172 : BitVec 1 := Scalar.cmpi .ne v166 v171
  let v173 : BitVec 32 := Scalar.remsi v160 c16_i32_96
  let c0_i32_101 : BitVec 32 := 0#32
  let v174 : BitVec 1 := Scalar.cmpi .ne v173 c0_i32_101
  let v175 : BitVec 1 := Scalar.andi v172 v174
  let v161 : BitVec 32 := Scalar.divsi v160 c16_i32_96
  let c1_i32_102 : BitVec 32 := 1#32
  let v176 : BitVec 32 := Scalar.subi v161 c1_i32_102
  let v177 : BitVec 32 := Scalar.select v175 v176 v161
  let v178 : BitVec 32 := Scalar.subi v177 c0_i32_103
  let c1_i32_105 : BitVec 32 := 1#32
  let v180 : BitVec 32 := Scalar.divsi v178 c1_i32_105
  let v181 : BitVec 32 := Scalar.muli v180 c1_i32_105
  let v182 : BitVec 32 := Scalar.addi c0_i32_103 v181
  let c1_i32_107 : BitVec 32 := 1#32
  let arg22 : BitVec 32 := Scf.iv v182 c1_i32_107 k1_t16
  let c16_i32_115 : BitVec 32 := 16#32
  let v194 : BitVec 32 := Scalar.muli arg22 c16_i32_115
  let v195 : BitVec 32 := Scalar.subi v157 v194
  let v196 : BitVec 32 := Scalar.minsi c16_i32_116 v195
  let v197 : BitVec 32 := Scalar.subi v196 c0_i32_117
  let c1_i32_119 : BitVec 32 := 1#32
  let v199 : BitVec 32 := Scalar.divsi v197 c1_i32_119
  let v200 : BitVec 32 := Scalar.muli v199 c1_i32_119
  let v201 : BitVec 32 := Scalar.addi c0_i32_117 v200
  let c1_i32_121 : BitVec 32 := 1#32
  let arg24 : BitVec 32 := Scf.iv v201 c1_i32_121 k1_t18
  let v221 : Index := Scalar.indexCast arg24
  let c3_i32 : BitVec 32 := 3#32
  let v215 : BitVec 32 := Scalar.andi v214 c3_i32
  let c32_i32 : BitVec 32 := 32#32
  let v216 : BitVec 32 := Scalar.muli v215 c32_i32
  let c0_i32_126 : BitVec 32 := 0#32
  let v220 : BitVec 32 := Scalar.addi v216 c0_i32_126
  let v222 : Index := Scalar.indexCast v220
  ![v221.toNat, v222.toNat]

def k1_chk43 (v219 : IVec S16 32) (v225 : IVec S16 32) : Prop :=
  (∀ a x, ((![v225, v219] : Fin 2 → IVec S16 32) a x).toNat < S32x128.size a)
theorem k1_idx32_inb : ∀ (v219 : IVec S16 32) (v225 : IVec S16 32) (k1_hw43 : k1_chk43 v219 v225), ∀ a x, ((![v225, v219] : Fin 2 → IVec S16 32) a x).toNat < S32x128.size a := fun v219 v225 k1_hw43 => k1_hw43
def k1_off54 (v157 : BitVec 32) (k1_t16 : Fin (k1_t16_loop v157).trips) (k1_t18 : Fin (k1_t18_loop v157 k1_t16).trips) (v214 : BitVec 32) : Fin 2 → Nat :=
  let c0_i32_117 : BitVec 32 := 0#32
  let c16_i32_116 : BitVec 32 := 16#32
  let c0_i32_103 : BitVec 32 := 0#32
  let c15_i32_95 : BitVec 32 := 15#32
  let v160 : BitVec 32 := Scalar.addi v157 c15_i32_95
  let c0_i32_97 : BitVec 32 := 0#32
  let v162 : BitVec 1 := Scalar.cmpi .sgt v160 c0_i32_97
  let v163 : BitVec 32 := Scalar.extui v162
  let c0_i32_98 : BitVec 32 := 0#32
  let v164 : BitVec 1 := Scalar.cmpi .slt v160 c0_i32_98
  let v165 : BitVec 32 := Scalar.extui v164
  let v166 : BitVec 32 := Scalar.subi v163 v165
  let c16_i32_96 : BitVec 32 := 16#32
  let c0_i32_99 : BitVec 32 := 0#32
  let v167 : BitVec 1 := Scalar.cmpi .sgt c16_i32_96 c0_i32_99
  let v168 : BitVec 32 := Scalar.extui v167
  let c0_i32_100 : BitVec 32 := 0#32
  let v169 : BitVec 1 := Scalar.cmpi .slt c16_i32_96 c0_i32_100
  let v170 : BitVec 32 := Scalar.extui v169
  let v171 : BitVec 32 := Scalar.subi v168 v170
  let v172 : BitVec 1 := Scalar.cmpi .ne v166 v171
  let v173 : BitVec 32 := Scalar.remsi v160 c16_i32_96
  let c0_i32_101 : BitVec 32 := 0#32
  let v174 : BitVec 1 := Scalar.cmpi .ne v173 c0_i32_101
  let v175 : BitVec 1 := Scalar.andi v172 v174
  let v161 : BitVec 32 := Scalar.divsi v160 c16_i32_96
  let c1_i32_102 : BitVec 32 := 1#32
  let v176 : BitVec 32 := Scalar.subi v161 c1_i32_102
  let v177 : BitVec 32 := Scalar.select v175 v176 v161
  let v178 : BitVec 32 := Scalar.subi v177 c0_i32_103
  let c1_i32_105 : BitVec 32 := 1#32
  let v180 : BitVec 32 := Scalar.divsi v178 c1_i32_105
  let v181 : BitVec 32 := Scalar.muli v180 c1_i32_105
  let v182 : BitVec 32 := Scalar.addi c0_i32_103 v181
  let c1_i32_107 : BitVec 32 := 1#32
  let arg22 : BitVec 32 := Scf.iv v182 c1_i32_107 k1_t16
  let c16_i32_115 : BitVec 32 := 16#32
  let v194 : BitVec 32 := Scalar.muli arg22 c16_i32_115
  let v195 : BitVec 32 := Scalar.subi v157 v194
  let v196 : BitVec 32 := Scalar.minsi c16_i32_116 v195
  let v197 : BitVec 32 := Scalar.subi v196 c0_i32_117
  let c1_i32_119 : BitVec 32 := 1#32
  let v199 : BitVec 32 := Scalar.divsi v197 c1_i32_119
  let v200 : BitVec 32 := Scalar.muli v199 c1_i32_119
  let v201 : BitVec 32 := Scalar.addi c0_i32_117 v200
  let c1_i32_121 : BitVec 32 := 1#32
  let arg24 : BitVec 32 := Scf.iv v201 c1_i32_121 k1_t18
  let v227 : Index := Scalar.indexCast arg24
  let c3_i32 : BitVec 32 := 3#32
  let v215 : BitVec 32 := Scalar.andi v214 c3_i32
  let c32_i32 : BitVec 32 := 32#32
  let v216 : BitVec 32 := Scalar.muli v215 c32_i32
  let c16_i32_128 : BitVec 32 := 16#32
  let v226 : BitVec 32 := Scalar.addi v216 c16_i32_128
  let v228 : Index := Scalar.indexCast v226
  ![v227.toNat, v228.toNat]

def k1_chk42 (v157 : BitVec 32) (k1_t16 : Fin (k1_t16_loop v157).trips) (k1_t18 : Fin (k1_t18_loop v157 k1_t16).trips) (v214 : BitVec 32) : Prop :=
  (∀ a, (k1_off53 v157 k1_t16 k1_t18 v214) a + S1x16.size a ≤ S16x128.size a) ∧
  (∀ a, (k1_off54 v157 k1_t16 k1_t18 v214) a + S1x16.size a ≤ S16x128.size a)
theorem k1_off53_inb : ∀ (v157 : BitVec 32) (k1_t16 : Fin (k1_t16_loop v157).trips) (k1_t18 : Fin (k1_t18_loop v157 k1_t16).trips) (v214 : BitVec 32) (k1_hw42 : k1_chk42 v157 k1_t16 k1_t18 v214), ∀ a, (k1_off53 v157 k1_t16 k1_t18 v214) a + S1x16.size a ≤ S16x128.size a := fun v157 k1_t16 k1_t18 v214 k1_hw42 => k1_hw42.1
theorem k1_off54_inb : ∀ (v157 : BitVec 32) (k1_t16 : Fin (k1_t16_loop v157).trips) (k1_t18 : Fin (k1_t18_loop v157 k1_t16).trips) (v214 : BitVec 32) (k1_hw42 : k1_chk42 v157 k1_t16 k1_t18 v214), ∀ a, (k1_off54 v157 k1_t16 k1_t18 v214) a + S1x16.size a ≤ S16x128.size a := fun v157 k1_t16 k1_t18 v214 k1_hw42 => k1_hw42.2

def k1_chk44 (v219 : IVec S16 32) (v231 : IVec S16 32) : Prop :=
  (∀ a x, ((![v231, v219] : Fin 2 → IVec S16 32) a x).toNat < S32x128.size a)
theorem k1_idx33_inb : ∀ (v219 : IVec S16 32) (v231 : IVec S16 32) (k1_hw44 : k1_chk44 v219 v231), ∀ a x, ((![v231, v219] : Fin 2 → IVec S16 32) a x).toNat < S32x128.size a := fun v219 v231 k1_hw44 => k1_hw44
def k1_mult3 (i : grid1.Coords) (k1_t2 : Fin k1_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let v4 : BitVec 32 := v3
  let c0_i32_25 : BitVec 32 := 0#32
  let c1_i32_26 : BitVec 32 := 1#32
  let arg20 : BitVec 32 := Scf.iv c0_i32_25 c1_i32_26 k1_t2
  let c2_i32_66 : BitVec 32 := 2#32
  let v118 : BitVec 32 := Scalar.muli arg20 c2_i32_66
  let c1_i32_67 : BitVec 32 := 1#32
  let v119 : BitVec 32 := Scalar.addi v118 c1_i32_67
  let c4_i32_78 : BitVec 32 := 4#32
  let c0_i32_79 : BitVec 32 := 0#32
  let v141 : BitVec 1 := Scalar.cmpi .eq c4_i32_78 c0_i32_79
  let c1_i32_80 : BitVec 32 := 1#32
  let v142 : BitVec 32 := Scalar.select v141 c1_i32_80 c4_i32_78
  let v143 : BitVec 32 := Scalar.remsi v119 v142
  let c0_i32_82 : BitVec 32 := 0#32
  let v145 : BitVec 1 := Scalar.cmpi .slt v143 c0_i32_82
  let c0_i32_83 : BitVec 32 := 0#32
  let v146 : BitVec 1 := Scalar.cmpi .slt v142 c0_i32_83
  let v147 : BitVec 1 := Scalar.xori v145 v146
  let c0_i32_81 : BitVec 32 := 0#32
  let v144 : BitVec 1 := Scalar.cmpi .ne v143 c0_i32_81
  let v148 : BitVec 1 := Scalar.andi v147 v144
  let v149 : BitVec 32 := Scalar.addi v143 v142
  let v150 : BitVec 32 := Scalar.select v148 v149 v143
  let c128_i32_108 : BitVec 32 := 128#32
  let v185 : BitVec 32 := Scalar.muli v150 c128_i32_108
  let v186 : BitVec 32 := Scalar.addi v4 v185
  v186
def k1_off55 (i : grid1.Coords) (k1_t2 : Fin k1_t2_loop.trips) : Fin 3 → Nat :=
  let c0_i32_25 : BitVec 32 := 0#32
  let c1_i32_26 : BitVec 32 := 1#32
  let arg20 : BitVec 32 := Scf.iv c0_i32_25 c1_i32_26 k1_t2
  let c2_i32_66 : BitVec 32 := 2#32
  let v118 : BitVec 32 := Scalar.muli arg20 c2_i32_66
  let c1_i32_67 : BitVec 32 := 1#32
  let v119 : BitVec 32 := Scalar.addi v118 c1_i32_67
  let c0_i32_72 : BitVec 32 := 0#32
  let v125 : BitVec 1 := Scalar.cmpi .sgt v119 c0_i32_72
  let v126 : BitVec 32 := Scalar.extui v125
  let c0_i32_73 : BitVec 32 := 0#32
  let v127 : BitVec 1 := Scalar.cmpi .slt v119 c0_i32_73
  let v128 : BitVec 32 := Scalar.extui v127
  let v129 : BitVec 32 := Scalar.subi v126 v128
  let c4_i32_71 : BitVec 32 := 4#32
  let c0_i32_74 : BitVec 32 := 0#32
  let v130 : BitVec 1 := Scalar.cmpi .sgt c4_i32_71 c0_i32_74
  let v131 : BitVec 32 := Scalar.extui v130
  let c0_i32_75 : BitVec 32 := 0#32
  let v132 : BitVec 1 := Scalar.cmpi .slt c4_i32_71 c0_i32_75
  let v133 : BitVec 32 := Scalar.extui v132
  let v134 : BitVec 32 := Scalar.subi v131 v133
  let v135 : BitVec 1 := Scalar.cmpi .ne v129 v134
  let v136 : BitVec 32 := Scalar.remsi v119 c4_i32_71
  let c0_i32_76 : BitVec 32 := 0#32
  let v137 : BitVec 1 := Scalar.cmpi .ne v136 c0_i32_76
  let v138 : BitVec 1 := Scalar.andi v135 v137
  let v124 : BitVec 32 := Scalar.divsi v119 c4_i32_71
  let c1_i32_77 : BitVec 32 := 1#32
  let v139 : BitVec 32 := Scalar.subi v124 c1_i32_77
  let v140 : BitVec 32 := Scalar.select v138 v139 v124
  let c0_i32_110_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let v4 : BitVec 32 := v3
  let c4_i32_78 : BitVec 32 := 4#32
  let c0_i32_79 : BitVec 32 := 0#32
  let v141 : BitVec 1 := Scalar.cmpi .eq c4_i32_78 c0_i32_79
  let c1_i32_80 : BitVec 32 := 1#32
  let v142 : BitVec 32 := Scalar.select v141 c1_i32_80 c4_i32_78
  let v143 : BitVec 32 := Scalar.remsi v119 v142
  let c0_i32_82 : BitVec 32 := 0#32
  let v145 : BitVec 1 := Scalar.cmpi .slt v143 c0_i32_82
  let c0_i32_83 : BitVec 32 := 0#32
  let v146 : BitVec 1 := Scalar.cmpi .slt v142 c0_i32_83
  let v147 : BitVec 1 := Scalar.xori v145 v146
  let c0_i32_81 : BitVec 32 := 0#32
  let v144 : BitVec 1 := Scalar.cmpi .ne v143 c0_i32_81
  let v148 : BitVec 1 := Scalar.andi v147 v144
  let v149 : BitVec 32 := Scalar.addi v143 v142
  let v150 : BitVec 32 := Scalar.select v148 v149 v143
  let c128_i32_108 : BitVec 32 := 128#32
  let v185 : BitVec 32 := Scalar.muli v150 c128_i32_108
  let v186 : BitVec 32 := Scalar.addi v4 v185
  let v187 : BitVec 32 := v186
  ![v140.toNat, 0, v187.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== Reference.lean ====
abbrev S16384x50 : Shape := ⟨2, ![16384, 50]⟩
abbrev S990000x32 : Shape := ⟨2, ![990000, 32]⟩
abbrev S10000x32 : Shape := ⟨2, ![10000, 32]⟩
abbrev S1000000x32 : Shape := ⟨2, ![1000000, 32]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x32 : Shape := ⟨3, ![16384, 50, 32]⟩

abbrev nBuf : Space → Nat
  | .hbm => 27
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S990000x32, .f32⟩
  | .hbm, ⟨2, _⟩ => ⟨S10000x32, .f32⟩
  | .hbm, ⟨3, _⟩ => ⟨S1000000x32, .f32⟩
  | .hbm, ⟨4, _⟩ => ⟨S_, .i32⟩
  | .hbm, ⟨5, _⟩ => ⟨S16384x50, .i32⟩
  | .hbm, ⟨6, _⟩ => ⟨S16384x50, .i1⟩
  | .hbm, ⟨7, _⟩ => ⟨S_, .i32⟩
  | .hbm, ⟨8, _⟩ => ⟨S16384x50, .i32⟩
  | .hbm, ⟨9, _⟩ => ⟨S16384x50, .i32⟩
  | .hbm, ⟨10, _⟩ => ⟨S16384x50, .i32⟩
  | .hbm, ⟨11, _⟩ => ⟨S16384x50x1, .i32⟩
  | .hbm, ⟨12, _⟩ => ⟨S1, .i32⟩
  | .hbm, ⟨13, _⟩ => ⟨S_, .i32⟩
  | .hbm, ⟨14, _⟩ => ⟨S16384x50x1, .i32⟩
  | .hbm, ⟨15, _⟩ => ⟨S16384x50x1, .i1⟩
  | .hbm, ⟨16, _⟩ => ⟨S1x1x1, .i32⟩
  | .hbm, ⟨17, _⟩ => ⟨S16384x50x1, .i32⟩
  | .hbm, ⟨18, _⟩ => ⟨S16384x50x1, .i1⟩
  | .hbm, ⟨19, _⟩ => ⟨S16384x50x1, .i1⟩
  | .hbm, ⟨20, _⟩ => ⟨S_, .i1⟩
  | .hbm, ⟨21, _⟩ => ⟨S16384x50, .i1⟩
  | .hbm, ⟨22, _⟩ => ⟨S16384x50x32, .f32⟩
  | .hbm, ⟨23, _⟩ => ⟨S16384x50x32, .i1⟩
  | .hbm, ⟨24, _⟩ => ⟨S_, .f32⟩
  | .hbm, ⟨25, _⟩ => ⟨S16384x50x32, .f32⟩
  | .hbm, ⟨26, _⟩ => ⟨S16384x50x32, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩

abbrev nD : Nat := 1
abbrev τ : Topo := Topo.v7x

variable {F : FTy → Type} [FloatOps F]
-- ==== Proof.Holds.lean ====
/-
  `holds c m S q X`: the elements `S` of what memref `m` names, on thread `c`, held at share `q` and reading `X` there —
  the buffer's own contents kept out of sight. One rule per operation the lookup kernel makes: load, store, indexed
  store, indirect gather, local copy, check.
-/
module

public import Idealize.ShloMosaic.Lib.SparseCore.Quiescent
public import Idealize.ShloMosaic.Lib.SparseCore.Ops
public import Idealize.ShloMosaic.Lib.SparseCore.Stream
public import Idealize.ShloMosaic.Lib.Tactic
public import proofs.«01_k».proof.Proof.Gen.KernelIdeal

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
abbrev UU : Type := UH × Counters
abbrev HX : Type := HIx 2

local notation "𝕄" => MT nD τ sig HX (Elt F) ℕ UU ℕ

abbrev 𝒱₀ : Variants := Variants.none

/-- `X` with the rectangle `r`'s elements set to `w`. -/
def updRect {α : Type} {s : Shape} (r : Rect s) (w : r.shape.Idx → α) (X : s.Idx → α) : s.Idx → α :=
  open Classical in fun x => if h : ∃ j, r.emb j = x then w h.choose else X x

theorem updRect_emb {α : Type} {s : Shape} (r : Rect s) (w : r.shape.Idx → α) (X : s.Idx → α) (j : r.shape.Idx) :
    updRect r w X (r.emb j) = w j := by
  have h : ∃ j', r.emb j' = r.emb j := ⟨j, rfl⟩
  unfold updRect; rw [dif_pos h]; exact congrArg w (r.emb.injective h.choose_spec)

theorem updRect_of_not {α : Type} {s : Shape} (r : Rect s) (w : r.shape.Idx → α) (X : s.Idx → α) (x : s.Idx)
    (h : ¬∃ j, r.emb j = x) : updRect r w X x = X x := by
  unfold updRect; rw [dif_neg h]

section

variable (c : Thread nD τ)

/-- The elements `S` of what `m` names, held at share `q`, reading `X` there. -/
def holds {cs : Space} {s : Shape} {e : EltTy} (m : Memref sig c.2.kind cs s e) (S : Finset s.Idx) (q : PosShare TreeShare)
    (X : s.Idx → Elt F e) : sProp 𝕄 :=
  iprop(∃ f, (m.view.loc c ↦[m.view.setOn S]{q} f) ∗ ⌜∀ x ∈ S, m.view.read (Elt F) f x = X x⌝)

variable {c} {cs : Space} {s : Shape} {e : EltTy} {m : Memref sig c.2.kind cs s e} {S : Finset s.Idx} {q : PosShare TreeShare}
  {X : s.Idx → Elt F e}

theorem holds_intro (f : Buf (Elt F) (m.view.loc c)) : (m.view.loc c ↦[m.view.setOn S]{q} f : sProp 𝕄) ⊢ holds c m S q (m.view.read (Elt F) f) := by
  iintro H; unfold holds; iexists f
  isplitl [H]; · iexact H
  ipureintro; exact fun _ _ => rfl

theorem holds_congr {Y : s.Idx → Elt F e} (h : ∀ x ∈ S, X x = Y x) : holds c m S q X ⊢ holds c m S q Y := by
  unfold holds; iintro ⟨%f, H, %hf⟩; iexists f
  isplitl [H]; · iexact H
  ipureintro; exact fun x hx => (hf x hx).trans (h x hx)

theorem holds_forget : holds c m S q X ⊢ iprop(∃ f, (m.view.loc c ↦[m.view.setOn S]{q} f : sProp 𝕄)) := by
  unfold holds; iintro ⟨%f, H, -⟩; iexists f; iexact H

/-- Two parts of the held elements. -/
theorem holds_split {S₁ : Finset s.Idx} (h : S₁ ⊆ S) : holds c m S q X ⊢ iprop(holds c m S₁ q X ∗ holds c m (S \ S₁) q X) := by
  unfold holds; iintro ⟨%f, H, %hf⟩
  ihave H2 := (pointsTo_split_subset (q := q) (f := f) (S := m.view.setOn S) (Finset.map_subset_map.mpr h : m.view.setOn S₁ ⊆ m.view.setOn S)).1 $$ H
  icases H2 with ⟨H1, H2⟩
  isplitl [H1]
  · iexists f; isplitl [H1]; · iexact H1
    ipureintro; exact fun x hx => hf x (h hx)
  · iexists f; isplitl [H2]
    · iapply (Entails.of_eq (show (m.view.loc c ↦[m.view.setOn S \ m.view.setOn S₁]{q} f : sProp 𝕄) = m.view.loc c ↦[m.view.setOn (S \ S₁)]{q} f by
        unfold View.setOn; rw [Finset.map_sdiff])); iexact H2
    ipureintro; exact fun x hx => hf x (Finset.mem_sdiff.mp hx).1

theorem holds_load {cs : CoreSpace} {m : Memref sig c.2.kind cs s e} {S : Finset s.Idx} {Λ : Labels} {defs : Defs nD τ sig (Elt F) Λ} {α : Type} {Q : α → sProp 𝕄}
    {r : Rect s} {hl : m.view.LoadsAt r.toLoadRect} {k : (r.shape.Idx → Elt F e) → Prog (TpuEff nD τ sig (Elt F) Λ c.2) α}
    (hS : r.set ⊆ S) :
    holds c m S q X ⊢ iprop((holds c m S q X -∗ wp frame (wpE defs 𝒱₀ c none) Set.univ (k fun j => X (r.emb j)) Q)
      -∗ wp frame (wpE defs 𝒱₀ c none) Set.univ (Prog.lift (.load m r.toLoadRect hl) >>= k) Q) := by
  unfold holds
  iintro ⟨%f, H, %hf⟩ Hk
  have hS' : (m.access r).set ⊆ m.view.setOn S := by rw [show (m.access r).set = r.set.map m.view.emb from View.set_slice ..]; exact Finset.map_subset_map.mpr hS
  iapply (wp_load_rect (defs := defs) 𝒱₀ c none Set.univ (m := m) (r := r) (k := k) (hl := hl) (Q := Q) (q := q) (f := f) hS') $$ H
  iintro H
  have hr : (m.access r).read (Elt F) f = fun j => X (r.emb j) := by
    funext j
    rw [← hf (r.emb j) (hS (by rw [← Rect.map_emb_univ]; exact Finset.mem_map_of_mem _ (Finset.mem_univ j)))]; rfl
  rw [hr]
  iapply Hk; iexists f; isplitl [H]; · iexact H
  ipureintro; exact hf

theorem holds_store {cs : CoreSpace} {m : Memref sig c.2.kind cs s e} {S : Finset s.Idx} {Λ : Labels} {defs : Defs nD τ sig (Elt F) Λ} {α : Type} {Q : α → sProp 𝕄}
    {r : Rect s} {w : r.shape.Idx → Elt F e} {hx : (m.access r).Stores Finset.univ}
    {hm : (Finset.univ : Finset r.shape.Idx) = Finset.univ ∨ ∀ a, r.stride a = 1} {k : PUnit → Prog (TpuEff nD τ sig (Elt F) Λ c.2) α}
    (hS : r.set ⊆ S) :
    holds c m S fullShare X ⊢ iprop((holds c m S fullShare (updRect r w X) -∗ wp frame (wpE defs 𝒱₀ c none) Set.univ (k ⟨⟩) Q)
      -∗ wp frame (wpE defs 𝒱₀ c none) Set.univ (Prog.lift (.store m r w Finset.univ hx hm) >>= k) Q) := by
  unfold holds
  iintro ⟨%f, H, %hf⟩ Hk
  have hS' : (m.access r).setOn Finset.univ ⊆ m.view.setOn S := by
    rw [View.setOn_univ, show (m.access r).set = r.set.map m.view.emb from View.set_slice ..]; exact Finset.map_subset_map.mpr hS
  iapply (wp_store (defs := defs) 𝒱₀ c none Set.univ (m := m) (r := r) (w := w) (k := k) (hx := hx) (hm := hm) (Q := Q) (f := f) hS') $$ H
  iintro H
  iapply Hk; iexists _; isplitl [H]; · iexact H
  ipureintro; intro x hx'
  by_cases h : ∃ j, r.emb j = x
  · obtain ⟨j, rfl⟩ := h
    rw [updRect_emb]; exact View.read_slice_write_emb (v := m.view) r f w (Finset.mem_univ j)
  · rw [updRect_of_not _ _ _ _ h, ← hf x hx']
    refine View.read_slice_write_of_not_mem (v := m.view) r f w _ fun hm => h ?_
    obtain ⟨j, -, hj⟩ := Finset.mem_map.mp hm; exact ⟨j, hj⟩

theorem holds_storeIdx [FloatOps F] {m : Memref sig c.2.kind .vmem s e} {Λ : Labels} {defs : Defs nD τ sig (Elt F) Λ} {α : Type} {Q : α → sProp 𝕄}
    {d : Fin 1 → Nat} {idxs : Fin s.rank → IVec ⟨1, d⟩ 32} {v : Vec F ⟨1, d⟩ e} {mask : IVec ⟨1, d⟩ 1} {add : Bool}
    {h : ∀ a x, (idxs a x).toNat < s.size a} {hs : (m.access (.whole s)).Stores Finset.univ} {k : PUnit → Prog (TpuEff nD τ sig (Elt F) Λ c.2) α} :
    holds c m Finset.univ fullShare X ⊢ iprop((holds c m Finset.univ fullShare (storeIdx X idxs v mask add h) -∗ wp frame (wpE defs 𝒱₀ c none) Set.univ (k ⟨⟩) Q)
      -∗ wp frame (wpE defs 𝒱₀ c none) Set.univ (SparseCore.vectorStoreIdx m idxs v mask add h hs >>= k) Q) := by
  unfold holds
  iintro ⟨%f, H, %hf⟩ Hk
  have hset : (m.access (.whole s)).set = m.view.setOn Finset.univ := by
    rw [show (m.access (.whole s)).set = (Rect.whole s).set.map m.view.emb from View.set_slice .., Rect.set_whole]; rfl
  have hrd : (m.access (.whole s)).read (Elt F) f = X := by
    funext j; rw [← hf j (Finset.mem_univ _)]
    show m.view.read (Elt F) f ((Rect.whole s).emb j) = _
    rw [Rect.emb_whole_apply]
  ihave H' := (Entails.of_eq (show (m.view.loc c ↦[m.view.setOn Finset.univ]{fullShare} f : sProp 𝕄)
      = (m.access (.whole s)).loc c ↦[(m.access (.whole s)).set]{fullShare} f by rw [hset])) $$ H
  iapply (SparseCore.wp_vectorStoreIdx (defs := defs) 𝒱₀ c none Set.univ (base := m) (idxs := idxs) (v := v) (mask := mask) (add := add) (h := h) (hs := hs) (k := k) (Q := Q) (f := f)) $$ H'
  iintro H
  rw [hrd, hset]
  iapply Hk; iexists _; isplitl [H]; · iexact H
  ipureintro; intro x _
  have := View.read_slice_write_emb (v := m.view) (Rect.whole s) f (storeIdx X idxs v mask add h) (Finset.mem_univ x)
  rw [Rect.emb_whole_apply] at this
  exact this

theorem wp_check {Λ : Labels} {defs : Defs nD τ sig (Elt F) Λ} {α : Type} {Q : α → sProp 𝕄} {P : Prop} {d : Decidable P}
    {k : PLift P → Prog (TpuEff nD τ sig (Elt F) Λ c.2) α} (h : P) :
    wp (M := 𝕄) frame (wpE defs 𝒱₀ c none) Set.univ (k ⟨h⟩) Q ⊢ wp frame (wpE defs 𝒱₀ c none) Set.univ (Prog.lift (.assume P d) >>= k) Q :=
  wp_assume 𝒱₀ c none Set.univ h

end

end Cert.Proof.Lookup
-- ==== Proof.Vec.lean ====
/-
  The pure half of the lookup: indices by their coordinates' numbers, the indexed store at distinct targets, the running
  sum of a mask as a count, and the words one vector of vocabulary numbers yields lane by lane.
-/
module

public import Idealize.ShloMosaic.Lib.SparseCore.Ops
public import proofs.«01_k».proof.Proof.Holds
public import proofs.«01_k».proof.Proof.Gen.KernelIdeal.Skeleton
public import Mathlib.Order.Nat
public import Mathlib.Data.Nat.Count

@[expose] public section

noncomputable section

namespace Cert.Proof.Lookup

open Cert.KernelIdeal Cert.KernelIdeal.Gen
open Idealize.ShloMosaic

variable {F : FTy → Type}

/-! ## Indices by number -/

/-- The index numbered `r` of a rank-one shape. -/
def ix1 {a : ℕ} [NeZero a] (r : ℕ) : (⟨1, ![a]⟩ : Shape).Idx := fun x => match x with | 0 => Fin.ofNat a r

/-- The index `(r, c)` of a rank-two shape. -/
def ix2 {a b : ℕ} [NeZero a] [NeZero b] (r c : ℕ) : (⟨2, ![a, b]⟩ : Shape).Idx :=
  fun x => match x with | 0 => Fin.ofNat a r | 1 => Fin.ofNat b c

theorem ix1_val {a : ℕ} [NeZero a] {r : ℕ} (h : r < a) : ((ix1 r : (⟨1, ![a]⟩ : Shape).Idx) 0).val = r := Nat.mod_eq_of_lt h
theorem ix2_val0 {a b : ℕ} [NeZero a] [NeZero b] {r c : ℕ} (h : r < a) : ((ix2 r c : (⟨2, ![a, b]⟩ : Shape).Idx) 0).val = r := Nat.mod_eq_of_lt h
theorem ix2_val1 {a b : ℕ} [NeZero a] [NeZero b] {r c : ℕ} (h : c < b) : ((ix2 r c : (⟨2, ![a, b]⟩ : Shape).Idx) 1).val = c := Nat.mod_eq_of_lt h

theorem eq_ix1 {a : ℕ} [NeZero a] {x : (⟨1, ![a]⟩ : Shape).Idx} {r : ℕ} (h : (x 0).val = r) : x = ix1 r := by
  subst h; funext i; match i with
  | 0 => exact Fin.ext (Nat.mod_eq_of_lt (x 0).isLt).symm
theorem eq_ix2 {a b : ℕ} [NeZero a] [NeZero b] {x : (⟨2, ![a, b]⟩ : Shape).Idx} {r c : ℕ} (h : (x 0).val = r) (h' : (x 1).val = c) : x = ix2 r c := by
  subst h; subst h'; funext i; match i with
  | 0 => exact Fin.ext (Nat.mod_eq_of_lt (x 0).isLt).symm
  | 1 => exact Fin.ext (Nat.mod_eq_of_lt (x 1).isLt).symm

theorem ix1_inj {a : ℕ} [NeZero a] {r r' : ℕ} (h : r < a) (h' : r' < a) : (ix1 r : (⟨1, ![a]⟩ : Shape).Idx) = ix1 r' ↔ r = r' :=
  ⟨fun e => by rw [← ix1_val h, e, ix1_val h'], fun e => e ▸ rfl⟩

theorem forall_ix1 {a : ℕ} [NeZero a] {P : (⟨1, ![a]⟩ : Shape).Idx → Prop} (h : ∀ r < a, P (ix1 r)) (x) : P x := by
  rw [eq_ix1 (x := x) rfl]; exact h _ (x 0).isLt

/-! ## Rectangles at unit stride -/

theorem emb_unit1 {a n : ℕ} [NeZero a] {o : Fin 1 → ℕ} {h} (j : (⟨1, ![n]⟩ : Shape).Idx) :
    (Rect.unit (s := ⟨1, ![a]⟩) o (⟨1, ![n]⟩ : Shape).size h).emb j = ix1 (o 0 + (j 0).val) :=
  eq_ix1 (by show o 0 + 1 * (j 0).val = _; omega)

theorem emb_unit2 {a b n k : ℕ} [NeZero a] [NeZero b] {o : Fin 2 → ℕ} {h} (j : (⟨2, ![n, k]⟩ : Shape).Idx) :
    (Rect.unit (s := ⟨2, ![a, b]⟩) o (⟨2, ![n, k]⟩ : Shape).size h).emb j = ix2 (o 0 + (j 0).val) (o 1 + (j 1).val) :=
  eq_ix2 (by show o 0 + 1 * (j 0).val = _; omega) (by show o 1 + 1 * (j 1).val = _; omega)

theorem upd_unit1 {α : Type} {a n : ℕ} [NeZero a] [NeZero n] {o : Fin 1 → ℕ} {h} (w : (⟨1, ![n]⟩ : Shape).Idx → α) (X) {c : ℕ} (hc : c < a) :
    updRect (Rect.unit (s := ⟨1, ![a]⟩) o (⟨1, ![n]⟩ : Shape).size h) w X (ix1 c)
      = if o 0 ≤ c ∧ c < o 0 + n then w (ix1 (c - o 0)) else X (ix1 c) := by
  split
  · rename_i hh
    have he : (ix1 c : (⟨1, ![a]⟩ : Shape).Idx) = (Rect.unit (s := ⟨1, ![a]⟩) o (⟨1, ![n]⟩ : Shape).size h).emb (ix1 (c - o 0)) := by
      rw [emb_unit1]; rw [ix1_val (by omega)]; congr 1; omega
    rw [he, updRect_emb]
  · rename_i hh
    refine updRect_of_not _ _ _ _ ?_
    rintro ⟨j, hj⟩; rw [emb_unit1] at hj
    have hj0 : (j 0).val < n := (j 0).isLt
    have hb : o 0 + n ≤ a := h 0
    rw [ix1_inj (by omega) hc] at hj; omega

theorem upd_unit2 {α : Type} {a b n : ℕ} [NeZero a] [NeZero b] [NeZero n] {o : Fin 2 → ℕ} {h} (w : (⟨2, ![1, n]⟩ : Shape).Idx → α) (X) {r c : ℕ} (hr : r < a) (hc : c < b) :
    updRect (Rect.unit (s := ⟨2, ![a, b]⟩) o (⟨2, ![1, n]⟩ : Shape).size h) w X (ix2 r c)
      = if r = o 0 ∧ o 1 ≤ c ∧ c < o 1 + n then w (ix2 0 (c - o 1)) else X (ix2 r c) := by
  split
  · rename_i hh
    have he : (ix2 r c : (⟨2, ![a, b]⟩ : Shape).Idx) = (Rect.unit (s := ⟨2, ![a, b]⟩) o (⟨2, ![1, n]⟩ : Shape).size h).emb (ix2 0 (c - o 1)) := by
      rw [emb_unit2, ix2_val0 (by omega), ix2_val1 (by omega)]; congr 1 <;> omega
    rw [he, updRect_emb]
  · rename_i hh
    refine updRect_of_not _ _ _ _ ?_
    rintro ⟨j, hj⟩; rw [emb_unit2] at hj
    have hj0 : (j 0).val < 1 := (j 0).isLt
    have hj1 : (j 1).val < n := (j 1).isLt
    have hb0 : o 0 + 1 ≤ a := h 0
    have hb1 : o 1 + n ≤ b := h 1
    have e0 := congrArg (fun x : (⟨2, ![a, b]⟩ : Shape).Idx => (x 0).val) hj
    have e1 := congrArg (fun x : (⟨2, ![a, b]⟩ : Shape).Idx => (x 1).val) hj
    simp only [ix2_val0 hr, ix2_val1 hc] at e0 e1
    rw [ix2_val0 (by omega)] at e0; rw [ix2_val1 (by omega)] at e1
    omega

/-! ## The indexed store at distinct targets -/

section Scatter

variable [FloatOps F] {s : Shape} {e : EltTy} {d : Fin 1 → Nat} {f : Vec F s e} {idxs : Fin s.rank → IVec ⟨1, d⟩ 32} {v : Vec F ⟨1, d⟩ e}
  {h : ∀ a x, (idxs a x).toNat < s.size a}

variable (idxs h v) in
/-- One lane's store. -/
def laneStep (g : Vec F s e) (k : Fin (d 0)) : Vec F s e :=
  open Classical in fun j => if j = idxAt idxs h (Shape.ofLane k) then v (Shape.ofLane k) else g j

theorem storeIdx_eq : storeIdx f idxs v (fun _ => 1#1) false h = (List.finRange (d 0)).foldl (laneStep idxs v h) f := by
  unfold storeIdx; congr 1; funext g k j
  show (if (1#1 : BitVec 1) = 1 then _ else g) j = _
  rw [if_pos (show (1#1 : BitVec 1) = 1 from rfl)]
  split
  · rename_i hh; unfold laneStep; rw [if_pos (funext fun a => Fin.ext (hh a))]; rfl
  · rename_i hh; unfold laneStep; rw [if_neg fun e => hh fun a => by rw [e]]

theorem fold_miss (j : s.Idx) (hj : ∀ x, idxAt idxs h x ≠ j) (l : List (Fin (d 0))) (g : Vec F s e) :
    l.foldl (laneStep idxs v h) g j = g j := by
  induction l generalizing g with
  | nil => rfl
  | cons k l ih =>
    rw [List.foldl_cons, ih]
    unfold laneStep; rw [if_neg]
    intro hh; exact hj _ hh.symm

theorem storeIdx_miss (j : s.Idx) (hj : ∀ x, idxAt idxs h x ≠ j) : storeIdx f idxs v (fun _ => 1#1) false h j = f j := by
  rw [storeIdx_eq]; exact fold_miss j hj _ f

theorem fold_hit (hinj : ∀ x y, idxAt idxs h x = idxAt idxs h y → x = y) (k₀ : Fin (d 0)) (l : List (Fin (d 0))) (hk : k₀ ∈ l) (g : Vec F s e) :
    l.foldl (laneStep idxs v h) g (idxAt idxs h (Shape.ofLane k₀)) = v (Shape.ofLane k₀) := by
  induction l using List.reverseRecOn generalizing g with
  | nil => cases hk
  | append_singleton l k ih =>
    rw [List.foldl_append, List.foldl_cons, List.foldl_nil]
    unfold laneStep
    by_cases hkk : k = k₀
    · subst hkk; rw [if_pos rfl]
    · rw [if_neg]
      · exact ih ((List.mem_append.mp hk).resolve_right (by simpa using Ne.symm hkk)) g
      · intro hh
        have := hinj (Shape.ofLane k₀) (Shape.ofLane k) hh
        exact hkk (Fin.ext (congrArg (fun x : (⟨1, d⟩ : Shape).Idx => (x 0).val) this).symm)

theorem storeIdx_hit (hinj : ∀ x y, idxAt idxs h x = idxAt idxs h y → x = y) (x : (⟨1, d⟩ : Shape).Idx) :
    storeIdx f idxs v (fun _ => 1#1) false h (idxAt idxs h x) = v x := by
  have hx : x = Shape.ofLane (x 0) := by funext a; rw [Fin.eq_zero a]; rfl
  rw [storeIdx_eq, hx]; exact fold_hit hinj _ _ (List.mem_finRange _) f

end Scatter

/-! ## The running sum of a mask -/

theorem filter_upto (i : Fin 16) : ((List.finRange 16).filter fun k => decide (0 < k.val ∧ k.val ≤ i.val)) = (List.range i.val).map fun n => Fin.ofNat 16 (n + 1) := by
  revert i; decide

/-- The running sum of ones at the lanes where `P` holds is how many there are up to the lane. -/
theorem scan_count (P : ℕ → Prop) [DecidablePred P] (v : IVec S16 32) (hv : ∀ l < 16, v (ix1 l) = if P l then 1#32 else 0#32) (l : ℕ) (hl : l < 16) :
    scan .sum v (ix1 l) = BitVec.ofNat 32 (Nat.count P (l + 1)) := by
  have key : ∀ n, n < 16 → (List.range n).foldl (fun r k => IntOp.addi r (v (Shape.ofLane (Fin.ofNat 16 (k + 1))))) (v (Shape.ofLane (d := ![16]) ⟨0, by decide⟩)) = BitVec.ofNat 32 (Nat.count P (n + 1)) := by
    intro n hn
    induction n with
    | zero => rw [List.range_zero, List.foldl_nil, show (Shape.ofLane (d := ![16]) ⟨0, by decide⟩ : S16.Idx) = ix1 0 from eq_ix1 rfl, hv 0 (by omega), Nat.count_succ, Nat.count_zero]; split <;> rfl
    | succ n ih =>
      rw [List.range_succ, List.foldl_append, ih (by omega), List.foldl_cons, List.foldl_nil, Nat.count_succ P (n + 1)]
      rw [show (Shape.ofLane (Fin.ofNat 16 (n + 1)) : S16.Idx) = ix1 (n + 1) from eq_ix1 (Nat.mod_eq_of_lt hn), hv _ hn]
      rw [IntOp.addi, BitVec.ofNat_add (x := Nat.count P (n + 1))]; split <;> rfl
  have hf : ((List.finRange 16).filter fun k => decide (0 < k.val ∧ k.val ≤ ((ix1 l : S16.Idx) 0).val)) = (List.range l).map fun n => Fin.ofNat 16 (n + 1) := by
    have := filter_upto ⟨l, hl⟩
    rw [← this, ix1_val hl]
  refine (congrArg (fun L : List (Fin 16) => L.foldl (fun r k => IntOp.addi r (v (Shape.ofLane (d := ![16]) k))) (v (Shape.ofLane (d := ![16]) ⟨0, by decide⟩))) hf).trans ?_
  exact List.foldl_map.trans (key l hl)

/-! ## One vocabulary number -/

/-- Served from the small table. -/
def isT (v : BitVec 32) : Prop := (989952 ≤ v.toNat ∧ v.toNat < 990000) ∨ 999984 ≤ v.toNat
instance : DecidablePred isT := fun v => inferInstanceAs (Decidable ((989952 ≤ v.toNat ∧ v.toNat < 990000) ∨ 999984 ≤ v.toNat))

/-- Its place in the small table's list. -/
def slot (v : BitVec 32) : ℕ := if v.toNat < 990000 then v.toNat - 989952 else v.toNat - 999984 + 48
/-- The packed row read for it, and the first column there. -/
def srow (v : BitVec 32) : ℕ := if isT v then 0 else if v.toNat < 990000 then v.toNat / 4 else 247504 + (v.toNat - 990000) / 4
def scol (v : BitVec 32) : ℕ := if isT v then 0 else v.toNat % 4 * 32

theorem slot_lt {v : BitVec 32} (hv : v.toNat < 1000000) (h : isT v) : slot v < 64 := by
  unfold slot isT at *; split <;> omega
theorem srow_lt {v : BitVec 32} (hv : v.toNat < 1000000) : srow v < 250004 := by
  unfold srow; split
  · omega
  · split <;> omega
theorem scol_le {v : BitVec 32} : scol v ≤ 96 := by
  unfold scol; split <;> omega

theorem toInt_small {v : BitVec 32} (h : v.toNat < 2147483648) : v.toInt = v.toNat := BitVec.toInt_eq_toNat_of_lt (by omega)

theorem cmpi_sge {v : BitVec 32} (hv : v.toNat < 1000000) {n : ℕ} (hn : n < 1000000) :
    IntOp.cmpi .sge v (BitVec.ofNat 32 n) = if n ≤ v.toNat then 1#1 else 0#1 := by
  have hn' : (BitVec.ofNat 32 n).toNat = n := by rw [BitVec.toNat_ofNat]; omega
  show BitVec.ofBool (decide ((BitVec.ofNat 32 n).toInt ≤ v.toInt)) = _
  rw [toInt_small (by omega), toInt_small (by omega), hn']
  by_cases h : n ≤ v.toNat <;> simp [h]
theorem cmpi_slt {v : BitVec 32} (hv : v.toNat < 1000000) {n : ℕ} (hn : n < 1000000) :
    IntOp.cmpi .slt v (BitVec.ofNat 32 n) = if v.toNat < n then 1#1 else 0#1 := by
  have hn' : (BitVec.ofNat 32 n).toNat = n := by rw [BitVec.toNat_ofNat]; omega
  show BitVec.ofBool (decide (v.toInt < (BitVec.ofNat 32 n).toInt)) = _
  rw [toInt_small (by omega), toInt_small (by omega), hn']
  by_cases h : v.toNat < n <;> simp [h]

theorem bitT {v : BitVec 32} (hv : v.toNat < 1000000) :
    IntOp.ori (IntOp.andi (IntOp.cmpi .sge v 989952#32) (IntOp.cmpi .slt v 990000#32)) (IntOp.cmpi .sge v 999984#32) = if isT v then 1#1 else 0#1 := by
  rw [cmpi_sge hv (by omega), cmpi_slt hv (by omega), cmpi_sge hv (by omega)]
  unfold isT
  by_cases h1 : 989952 ≤ v.toNat <;> by_cases h2 : v.toNat < 990000 <;> by_cases h3 : 999984 ≤ v.toNat <;> simp [h1, h2, h3, IntOp.ori, IntOp.andi]

theorem shr2 {u : ArithUnit} (v : BitVec 32) : IntOp.shrui u v 2#32 = BitVec.ofNat 32 (v.toNat / 4) := by
  apply BitVec.eq_of_toNat_eq
  show (if (2#32 : BitVec 32).toNat < 32 then v >>> (2#32).toNat else _).toNat = _
  rw [if_pos (by decide)]
  rw [BitVec.toNat_ushiftRight, BitVec.toNat_ofNat, Nat.shiftRight_eq_div_pow]
  have := v.isLt
  show v.toNat / 4 = v.toNat / 4 % 2 ^ 32; omega

theorem sub_ofNat {v : BitVec 32} {n : ℕ} (hn : n < 4294967296) (h : n ≤ v.toNat) : v - BitVec.ofNat 32 n = BitVec.ofNat 32 (v.toNat - n) := by
  apply BitVec.eq_of_toNat_eq
  have := v.isLt
  rw [BitVec.toNat_sub, BitVec.toNat_ofNat, BitVec.toNat_ofNat]; omega

theorem and3 (v : BitVec 32) : v &&& 3#32 = BitVec.ofNat 32 (v.toNat % 4) := by
  apply BitVec.eq_of_toNat_eq
  rw [BitVec.toNat_and, show (3#32 : BitVec 32).toNat = 2 ^ 2 - 1 from rfl, Nat.and_two_pow_sub_one_eq_mod, BitVec.toNat_ofNat]
  have := v.isLt
  omega

theorem mul32 (v : BitVec 32) (h : v.toNat < 4) : v * 32#32 = BitVec.ofNat 32 (v.toNat * 32) := by
  apply BitVec.eq_of_toNat_eq
  rw [BitVec.toNat_mul, BitVec.toNat_ofNat]; rfl

theorem wordSlot {v : BitVec 32} (hv : v.toNat < 1000000) (h : isT v) :
    Scalar.select (IntOp.cmpi .slt v 990000#32) (IntOp.subi v 989952#32) (IntOp.addi (IntOp.subi v 999984#32) 48#32) = BitVec.ofNat 32 (slot v) := by
  rw [cmpi_slt hv (by omega)]
  unfold slot isT at *
  by_cases h2 : v.toNat < 990000
  · rw [if_pos h2, if_pos h2]; exact sub_ofNat (by omega) (by omega)
  · rw [if_neg h2, if_neg h2]
    show (v - BitVec.ofNat 32 999984) + 48#32 = _
    rw [sub_ofNat (by omega) (by omega), ← BitVec.ofNat_add]

theorem wordRow {u : ArithUnit} {v : BitVec 32} (hv : v.toNat < 1000000) :
    Scalar.select (if isT v then 1#1 else 0#1) 0#32
      (Scalar.select (IntOp.cmpi .slt v 990000#32) (IntOp.shrui u v 2#32) (IntOp.addi 247504#32 (IntOp.shrui u (IntOp.subi v 990000#32) 2#32)))
      = BitVec.ofNat 32 (srow v) := by
  unfold srow
  by_cases h : isT v
  · rw [if_pos h, if_pos h]; rfl
  · rw [if_neg h, if_neg h, cmpi_slt hv (by omega)]
    show Scalar.select _ _ _ = _
    by_cases h2 : v.toNat < 990000
    · rw [if_pos h2, if_pos h2]; exact shr2 (u := u) v
    · rw [if_neg h2, if_neg h2]
      show 247504#32 + IntOp.shrui u (v - BitVec.ofNat 32 990000) 2#32 = _
      rw [sub_ofNat (by omega) (by omega), shr2, ← BitVec.ofNat_add, BitVec.toNat_ofNat, Nat.mod_eq_of_lt (by omega)]

theorem wordCol {v : BitVec 32} :
    Scalar.select (if isT v then 1#1 else 0#1) 0#32 (IntOp.muli (IntOp.andi v 3#32) 32#32) = BitVec.ofNat 32 (scol v) := by
  unfold scol
  by_cases h : isT v
  · rw [if_pos h, if_pos h]; rfl
  · rw [if_neg h, if_neg h]
    show (v &&& 3#32) * 32#32 = _
    have : (BitVec.ofNat 32 (v.toNat % 4)).toNat = v.toNat % 4 := by rw [BitVec.toNat_ofNat]; omega
    rw [and3, mul32 _ (by omega), this]

/-! ## One vector of vocabulary numbers -/

theorem cast_1x16 {α : Type} (x : S1x16.Idx → α) (l : ℕ) (hl : l < 16) : shapeCast S16 x shapeCasts_S1x16_S16 (ix1 l) = x (ix2 0 l) := by
  refine congrArg x (Shape.reshapeEquiv_eq_of_rowMajor _ ?_)
  rw [Shape.rowMajor_val_two, Shape.rowMajor_val_one, ix1_val hl, ix2_val0 (by omega), ix2_val1 hl]
  simp
theorem cast_16 {α : Type} (x : S16.Idx → α) (l : ℕ) (hl : l < 16) : shapeCast S1x16 x shapeCasts_S16_S1x16 (ix2 0 l) = x (ix1 l) := by
  refine congrArg x (Shape.reshapeEquiv_eq_of_rowMajor _ ?_)
  rw [Shape.rowMajor_val_two, Shape.rowMajor_val_one, ix1_val hl, ix2_val0 (by omega), ix2_val1 hl]
  simp

section Lanes

variable (x : Vec F S1x16 .i32) (l : ℕ)

theorem pay33_lane (hl : l < 16) : k1_pay33 x (ix1 l) = x (ix2 0 l) := cast_1x16 x l hl

theorem pay34_lane (hl : l < 16) (hv : (x (ix2 0 l) : BitVec 32).toNat < 1000000) : k1_pay34 x (ix1 l) = if isT (x (ix2 0 l)) then 1#1 else 0#1 := by
  show IntOp.ori (IntOp.andi (IntOp.cmpi .sge (k1_pay33 x (ix1 l)) 989952#32) (IntOp.cmpi .slt (k1_pay33 x (ix1 l)) 990000#32)) (IntOp.cmpi .sge (k1_pay33 x (ix1 l)) 999984#32) = _
  rw [pay33_lane x l hl]; exact bitT hv
theorem pay35_lane (hl : l < 16) (hv : (x (ix2 0 l) : BitVec 32).toNat < 1000000) (h : isT (x (ix2 0 l))) : k1_pay35 x (ix1 l) = BitVec.ofNat 32 (slot (x (ix2 0 l))) := by
  show Scalar.select (IntOp.cmpi .slt (k1_pay33 x (ix1 l)) 990000#32) (IntOp.subi (k1_pay33 x (ix1 l)) 989952#32) (IntOp.addi (IntOp.subi (k1_pay33 x (ix1 l)) 999984#32) 48#32) = _
  rw [pay33_lane x l hl]; exact wordSlot hv h
theorem pay36_lane (hl : l < 16) (hv : (x (ix2 0 l) : BitVec 32).toNat < 1000000) : k1_pay36 x (ix1 l) = BitVec.ofNat 32 (srow (x (ix2 0 l))) := by
  show Scalar.select (k1_pay34 x (ix1 l)) 0#32 (Scalar.select (IntOp.cmpi .slt (k1_pay33 x (ix1 l)) 990000#32) (IntOp.shrui .vector (k1_pay33 x (ix1 l)) 2#32)
    (IntOp.addi 247504#32 (IntOp.shrui .vector (IntOp.subi (k1_pay33 x (ix1 l)) 990000#32) 2#32))) = _
  rw [pay34_lane x l hl hv, pay33_lane x l hl]; exact wordRow hv
theorem pay1_lane (hl : l < 16) (hv : (x (ix2 0 l) : BitVec 32).toNat < 1000000) :
    k1_pay1 (k1_pay33 x) (k1_pay34 x) (ix1 l) = BitVec.ofNat 32 (scol (x (ix2 0 l))) := by
  show Scalar.select (k1_pay34 x (ix1 l)) 0#32 (IntOp.muli (IntOp.andi (k1_pay33 x (ix1 l)) 3#32) 32#32) = _
  rw [pay34_lane x l hl hv, pay33_lane x l hl]; exact wordCol

/-- How many of a vector's lanes up to and with `l` are served from the small table. -/
theorem pay2_lane (w : ℕ → BitVec 32) (hw : ∀ l < 16, w l = x (ix2 0 l)) (hv : ∀ l < 16, (w l).toNat < 1000000) (hl : l < 16) :
    k1_pay2 (k1_pay34 x) (ix1 l) = BitVec.ofNat 32 (Nat.count (fun l => isT (w l)) (l + 1)) := by
  refine scan_count (fun l => isT (w l)) _ (fun l hl => ?_) l hl
  show Scalar.select (k1_pay34 x (ix1 l)) 1#32 0#32 = _
  rw [pay34_lane x l hl (hw l hl ▸ hv l hl), hw l hl]
  split <;> rfl

theorem iota_lane (hl : l < 16) (h) : iota .scVector S16 32 [0] h (ix1 l) = BitVec.ofNat 32 l := by
  show BitVec.ofNat 32 (0 * 16 + _) = _
  rw [ix1_val hl, Nat.zero_mul, Nat.zero_add]

end Lanes

end Cert.Proof.Lookup
-- ==== Proof.Trips.lean ====
/-
  The lookup's loop bodies as a few templates — one 16-word step of the table building, one column written into the
  transposed block, one gathered row, one overridden lane — each proved once; the printed bodies are instances of them.
-/
module

public import proofs.«01_k».proof.Proof.Vec

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

abbrev cV (L : grid1.Coords) : Fin τ.nSC := (L 0).castLE hcore0
abbrev jV (L : grid1.Coords) : Fin τ.nSub := (L 1).castLE hsub0
/-- A subcore's program. -/
abbrev PR (F : FTy → Type) [FloatOps F] (L : grid1.Coords) (α : Type) : Type 1 := Prog (TpuEff nD τ sig (Elt F) Λ₀ (.scVector (cV L) (jV L))) α
/-- The subcore's thread. -/
abbrev tV (d : Dev nD) (L : grid1.Coords) : Thread nD τ := V d (cV L) (jV L)

/-- The weakest precondition on the subcore. -/
abbrev WP {α : Type} (d : Dev nD) (L : grid1.Coords) (p : PR F L α) (Q : α → sProp 𝕄) : sProp 𝕄 :=
  wp frame (wpE (defs₀ (F := F)) 𝒱₀ (tV d L) none) Set.univ p Q

theorem wp_seq {α β : Type} {d : Dev nD} {L : grid1.Coords} {p : PR F L α} {k : α → PR F L β} {P : sProp 𝕄} {R : α → sProp 𝕄} {Q : β → sProp 𝕄}
    (h : P ⊢ WP d L p R) : P ⊢ iprop((∀ a, R a -∗ WP d L (k a) Q) -∗ WP d L (p >>= k) Q) := by
  unfold WP; rw [wp_bind]
  iintro HP Hk
  iapply (wp_wand_r frame (wpE (defs₀ (F := F)) 𝒱₀ (tV d L) none) Set.univ (p := p) (Q := R))
  isplitl [HP]
  · iapply h; iexact HP
  · iexact Hk

theorem wp_done {α : Type} {d : Dev nD} {L : grid1.Coords} {a : α} {Q : α → sProp 𝕄} : Q a ⊢ WP d L (pure a) Q := by
  unfold WP; rw [wp_pure]; iintro H; imodintro; iexact H

/-! ## One column -/

/-- The scatter's targets are columns of the transposed block. -/
abbrev InCol (r c : IVec S16 32) : Prop := ∀ a x, ((![r, c] : Fin 2 → IVec S16 32) a x).toNat < S32x128.size a

/-- Thirty-two entries of a row of `g`, read in two vectors, scattered down column `col` of `och`. -/
def putCol {L : grid1.Coords} {a b : ℕ} (g : Memref sig .scVector .vmem ⟨2, ![a, b]⟩ .f32) (och : Memref sig .scVector .vmem S32x128 .f32)
    (o0 o1 : Fin 2 → ℕ) (h0 : ∀ x, o0 x + S1x16.size x ≤ (⟨2, ![a, b]⟩ : Shape).size x) (h1 : ∀ x, o1 x + S1x16.size x ≤ (⟨2, ![a, b]⟩ : Shape).size x)
    (ra rb col : IVec S16 32) (dA : Decidable (InCol ra col)) (dB : Decidable (InCol rb col)) : PR F L PUnit := do
  let x : Vec F S1x16 .f32 ← Prog.lift (.load g (Rect.unit (s := ⟨2, ![a, b]⟩) o0 S1x16.size h0).toLoadRect (View.loadsAt_vmem h_S1x16))
  have hA : InCol ra col := (← Prog.lift (TpuEff.assume (InCol ra col) dA)).down
  SparseCore.vectorStoreIdx och ![ra, col] (shapeCast S16 x shapeCasts_S1x16_S16) (fun _ => 1#1) false hA (View.stores_vmem_bits_univ h_S32x128 rfl)
  let y : Vec F S1x16 .f32 ← Prog.lift (.load g (Rect.unit (s := ⟨2, ![a, b]⟩) o1 S1x16.size h1).toLoadRect (View.loadsAt_vmem h_S1x16))
  have hB : InCol rb col := (← Prog.lift (TpuEff.assume (InCol rb col) dB)).down
  SparseCore.vectorStoreIdx och ![rb, col] (shapeCast S16 y shapeCasts_S1x16_S16) (fun _ => 1#1) false hB (View.stores_vmem_bits_univ h_S32x128 rfl)
  pure ⟨⟩

theorem inCol_of {r c : IVec S16 32} {b j : ℕ} (hr : ∀ l < 16, r (ix1 l) = BitVec.ofNat 32 (b + l)) (hc : ∀ l < 16, c (ix1 l) = BitVec.ofNat 32 j)
    (hb : b + 16 ≤ 32) (hj : j < 128) : InCol r c := by
  intro a x
  revert x
  refine forall_ix1 fun l hl => ?_
  match a with
  | 0 => show (r (ix1 l)).toNat < 32; rw [hr l hl, BitVec.toNat_ofNat]; omega
  | 1 => show (c (ix1 l)).toNat < 128; rw [hc l hl, BitVec.toNat_ofNat]; omega

/-- A vector scattered down rows `b..b+16` of column `j`. -/
theorem storeIdx_col {r c : IVec S16 32} {b j : ℕ} (hr : ∀ l < 16, r (ix1 l) = BitVec.ofNat 32 (b + l)) (hc : ∀ l < 16, c (ix1 l) = BitVec.ofNat 32 j)
    (hb : b + 16 ≤ 32) (hj : j < 128) (h : InCol r c) (f : Vec F S32x128 .f32) (v : Vec F S16 .f32) (e k : ℕ) (he : e < 32) (hk : k < 128) :
    storeIdx f ![r, c] v (fun _ => 1#1) false h (ix2 e k) = if k = j ∧ b ≤ e ∧ e < b + 16 then v (ix1 (e - b)) else f (ix2 e k) := by
  have hat : ∀ l < 16, idxAt (s := S32x128) ![r, c] h (ix1 l) = ix2 (b + l) j := fun l hl => by
    refine eq_ix2 ?_ ?_
    · show (r (ix1 l)).toNat = _; rw [hr l hl, BitVec.toNat_ofNat]; omega
    · show (c (ix1 l)).toNat = _; rw [hc l hl, BitVec.toNat_ofNat]; omega
  split
  · rename_i hh
    have : (ix2 e k : S32x128.Idx) = idxAt (s := S32x128) ![r, c] h (ix1 (e - b)) := by rw [hat _ (by omega)]; congr 1 <;> omega
    rw [this]
    refine storeIdx_hit (F := F) ?_ _
    refine forall_ix1 fun l hl => forall_ix1 fun l' hl' he => ?_
    rw [hat l hl, hat l' hl'] at he
    have := congrArg (fun x : S32x128.Idx => (x 0).val) he
    simp only [ix2_val0 (show b + l < 32 by omega), ix2_val0 (show b + l' < 32 by omega)] at this
    rw [Nat.add_left_cancel this]
  · rename_i hh
    refine storeIdx_miss (F := F) _ (forall_ix1 fun l hl he' => hh ?_)
    rw [hat l hl] at he'
    have e0 := congrArg (fun x : S32x128.Idx => (x 0).val) he'
    have e1 := congrArg (fun x : S32x128.Idx => (x 1).val) he'
    simp only [ix2_val0 (show b + l < 32 by omega), ix2_val0 he] at e0
    simp only [ix2_val1 hj, ix2_val1 hk] at e1
    omega

section Col

variable {d : Dev nD} {L : grid1.Coords} {a b : ℕ} [NeZero a] [NeZero b] {g : Memref sig .scVector .vmem ⟨2, ![a, b]⟩ .f32} {och : Memref sig .scVector .vmem S32x128 .f32}
  {o0 o1 : Fin 2 → ℕ} {h0 : ∀ x, o0 x + S1x16.size x ≤ (⟨2, ![a, b]⟩ : Shape).size x} {h1 : ∀ x, o1 x + S1x16.size x ≤ (⟨2, ![a, b]⟩ : Shape).size x}
  {ra rb col : IVec S16 32} {dA : Decidable (InCol ra col)} {dB : Decidable (InCol rb col)}

theorem wp_putCol {q : PosShare TreeShare} {X : (⟨2, ![a, b]⟩ : Shape).Idx → Elt F .f32} {O : S32x128.Idx → Elt F .f32} {r s j : ℕ}
    (e0 : o0 = ![r, s]) (e1 : o1 = ![r, s + 16]) (hra : ∀ l < 16, ra (ix1 l) = BitVec.ofNat 32 (0 + l)) (hrb : ∀ l < 16, rb (ix1 l) = BitVec.ofNat 32 (16 + l))
    (hcol : ∀ l < 16, col (ix1 l) = BitVec.ofNat 32 j) (hj : j < 128) :
    iprop(holds (tV d L) g Finset.univ q X ∗ holds (tV d L) och Finset.univ fullShare O)
      ⊢ WP d L (putCol (L := L) g och o0 o1 h0 h1 ra rb col dA dB) fun _ => iprop(holds (tV d L) g Finset.univ q X
          ∗ ∃ O', holds (tV d L) och Finset.univ fullShare O' ∗ ⌜∀ e < 32, ∀ k < 128, O' (ix2 e k) = if k = j then X (ix2 r (s + e)) else O (ix2 e k)⌝) := by
  subst e0; subst e1
  have hA := inCol_of hra hcol (by omega) hj
  have hB := inCol_of hrb hcol (by omega) hj
  unfold putCol
  iintro ⟨Hg, Ho⟩
  iapply (holds_load (c := tV d L) (Finset.subset_univ _)) $$ Hg; iintro Hg
  iapply (wp_check (c := tV d L) hA)
  iapply (holds_storeIdx (c := tV d L)) $$ Ho; iintro Ho
  iapply (holds_load (c := tV d L) (Finset.subset_univ _)) $$ Hg; iintro Hg
  iapply (wp_check (c := tV d L) hB)
  iapply (holds_storeIdx (c := tV d L)) $$ Ho; iintro Ho
  iapply wp_done
  isplitl [Hg]; · iexact Hg
  iexists _; isplitl [Ho]; · iexact Ho
  ipureintro; intro e he k hk
  rw [storeIdx_col hrb hcol (by omega) hj _ _ _ e k he hk, storeIdx_col hra hcol (by omega) hj _ _ _ e k he hk]
  by_cases hkj : k = j
  · rw [if_pos hkj]
    by_cases he' : 16 ≤ e
    · rw [if_pos ⟨hkj, he', by omega⟩]
      rw [cast_1x16 _ _ (by omega)]
      rw [emb_unit2, ix2_val0 (by omega), ix2_val1 (by omega)]
      show X (ix2 (r + 0) (s + 16 + (e - 16))) = _
      congr 2; omega
    · rw [if_neg (by omega), if_pos ⟨hkj, by omega, by omega⟩]
      rw [cast_1x16 _ _ (by omega)]
      rw [emb_unit2, ix2_val0 (by omega), ix2_val1 (by omega)]
      rfl
  · rw [if_neg (by omega), if_neg (by omega), if_neg hkj]

end Col

/-! ## One gathered row, one overridden lane -/

/-- The first word of a loaded vector. -/
abbrev lane0 (x : Vec F S1x16 .i32) : BitVec 32 := extractAt ![0] (k1_pay50 x) inpos_S1_p0
abbrev lane0' (x : Vec F S16 .i32) : BitVec 32 := extractAt ![0] (k1_pay85 x) inpos_S1_p0

theorem lane0_eq (x : Vec F S1x16 .i32) : lane0 x = x (ix2 0 0) := (congrArg (shapeCast S16 x shapeCasts_S1x16_S16) (eq_ix1 (r := 0) rfl)).trans (cast_1x16 x 0 (by omega))
theorem lane0'_eq (x : Vec F S16 .i32) : lane0' x = x (ix1 0) := congrArg x (eq_ix1 (r := 0) rfl)

def rowHalf {L : grid1.Coords} (sw : Memref sig .scVector .vmem S2x144 .i32) (g : Memref sig .scVector .vmem S128x128 .f32) (och : Memref sig .scVector .vmem S32x128 .f32)
    (os : Fin 2 → ℕ) (hos : ∀ x, os x + S1x16.size x ≤ S2x144.size x) (C : BitVec 32 → Prop) (dC : ∀ v, Decidable (C v)) (o0 o1 : BitVec 32 → Fin 2 → ℕ)
    (h0 : ∀ v, C v → ∀ x, o0 v x + S1x16.size x ≤ S128x128.size x) (h1 : ∀ v, C v → ∀ x, o1 v x + S1x16.size x ≤ S128x128.size x)
    (ra rb col : IVec S16 32) (dA : Decidable (InCol ra col)) (dB : Decidable (InCol rb col)) : PR F L PUnit := do
  let x : Vec F S1x16 .i32 ← Prog.lift (.load sw (Rect.unit (s := S2x144) os S1x16.size hos).toLoadRect (View.loadsAt_vmem h_S1x16))
  have hC : C (lane0 x) := (← Prog.lift (TpuEff.assume (C (lane0 x)) (dC (lane0 x)))).down
  putCol g och (o0 (lane0 x)) (o1 (lane0 x)) (h0 _ hC) (h1 _ hC) ra rb col dA dB

theorem wp_rowHalf {d : Dev nD} {L : grid1.Coords} {sw : Memref sig .scVector .vmem S2x144 .i32} {g : Memref sig .scVector .vmem S128x128 .f32} {och : Memref sig .scVector .vmem S32x128 .f32}
    {os : Fin 2 → ℕ} {hos : ∀ x, os x + S1x16.size x ≤ S2x144.size x} {C : BitVec 32 → Prop} {dC : ∀ v, Decidable (C v)} {o0 o1 : BitVec 32 → Fin 2 → ℕ}
    {h0 : ∀ v, C v → ∀ x, o0 v x + S1x16.size x ≤ S128x128.size x} {h1 : ∀ v, C v → ∀ x, o1 v x + S1x16.size x ≤ S128x128.size x}
    {ra rb col : IVec S16 32} {dA : Decidable (InCol ra col)} {dB : Decidable (InCol rb col)}
    {SW : S2x144.Idx → Elt F .i32} {G : S128x128.Idx → Elt F .f32} {O : S32x128.Idx → Elt F .f32} {b j : ℕ} {w : BitVec 32}
    (eos : os = ![b, j]) (hw : SW (ix2 b j) = w) (hC : C w) (e0 : o0 w = ![j, w.toNat]) (e1 : o1 w = ![j, w.toNat + 16])
    (hra : ∀ l < 16, ra (ix1 l) = BitVec.ofNat 32 (0 + l)) (hrb : ∀ l < 16, rb (ix1 l) = BitVec.ofNat 32 (16 + l))
    (hcol : ∀ l < 16, col (ix1 l) = BitVec.ofNat 32 j) (hj : j < 128) :
    iprop(holds (tV d L) sw Finset.univ fullShare SW ∗ holds (tV d L) g Finset.univ fullShare G ∗ holds (tV d L) och Finset.univ fullShare O)
      ⊢ WP d L (rowHalf (L := L) sw g och os hos C dC o0 o1 h0 h1 ra rb col dA dB) fun _ => iprop(holds (tV d L) sw Finset.univ fullShare SW
          ∗ holds (tV d L) g Finset.univ fullShare G
          ∗ ∃ O', holds (tV d L) och Finset.univ fullShare O' ∗ ⌜∀ e < 32, ∀ k < 128, O' (ix2 e k) = if k = j then G (ix2 j (w.toNat + e)) else O (ix2 e k)⌝) := by
  unfold rowHalf
  iintro ⟨Hs, Hg, Ho⟩
  iapply (holds_load (c := tV d L) (Finset.subset_univ _)) $$ Hs; iintro Hs
  have hl : lane0 (fun i => SW ((Rect.unit (s := S2x144) os S1x16.size hos).emb i)) = w := by
    rw [lane0_eq, emb_unit2, ← hw]; subst eos; rfl
  obtain rfl := hl
  iapply (wp_check (c := tV d L) hC)
  iapply (wp_wand_r frame (wpE (defs₀ (F := F)) 𝒱₀ (tV d L) none) Set.univ)
  isplitl [Hg Ho]
  · iapply (wp_putCol e0 e1 hra hrb hcol hj)
    isplitl [Hg]; · iexact Hg
    iexact Ho
  iintro %_ H
  isplitl [Hs]; · iexact Hs
  iexact H

/-- Two gathered rows put down as two columns. -/
def rowTrip {L : grid1.Coords} (sw : Memref sig .scVector .vmem S2x144 .i32) (g : Memref sig .scVector .vmem S128x128 .f32) (och : Memref sig .scVector .vmem S32x128 .f32)
    (os : Fin 2 → ℕ) (hos : ∀ x, os x + S1x16.size x ≤ S2x144.size x) (C : BitVec 32 → Prop) (dC : ∀ v, Decidable (C v)) (o0 o1 : BitVec 32 → Fin 2 → ℕ)
    (h0 : ∀ v, C v → ∀ x, o0 v x + S1x16.size x ≤ S128x128.size x) (h1 : ∀ v, C v → ∀ x, o1 v x + S1x16.size x ≤ S128x128.size x)
    (ra rb col : IVec S16 32) (dA : Decidable (InCol ra col)) (dB : Decidable (InCol rb col))
    (os' : Fin 2 → ℕ) (hos' : ∀ x, os' x + S1x16.size x ≤ S2x144.size x) (C' : BitVec 32 → Prop) (dC' : ∀ v, Decidable (C' v)) (o0' o1' : BitVec 32 → Fin 2 → ℕ)
    (h0' : ∀ v, C' v → ∀ x, o0' v x + S1x16.size x ≤ S128x128.size x) (h1' : ∀ v, C' v → ∀ x, o1' v x + S1x16.size x ≤ S128x128.size x)
    (ra' rb' col' : IVec S16 32) (dA' : Decidable (InCol ra' col')) (dB' : Decidable (InCol rb' col')) : PR F L (BitVec 32) := do
  rowHalf sw g och os hos C dC o0 o1 h0 h1 ra rb col dA dB
  rowHalf sw g och os' hos' C' dC' o0' o1' h0' h1' ra' rb' col' dA' dB'
  pure 0#32

/-- One place of the small table's list put down as a column. -/
def laneTrip {L : grid1.Coords} (pos tsl : Memref sig .scVector .vmem S352 .i32) (tg : Memref sig .scVector .vmem S16x128 .f32) (och : Memref sig .scVector .vmem S32x128 .f32)
    (op : Fin 1 → ℕ) (hop : ∀ x, op x + S16.size x ≤ S352.size x) (C : BitVec 32 → Prop) (dC : ∀ v, Decidable (C v)) (o0 o1 : BitVec 32 → Fin 2 → ℕ)
    (h0 : ∀ v, C v → ∀ x, o0 v x + S1x16.size x ≤ S16x128.size x) (h1 : ∀ v, C v → ∀ x, o1 v x + S1x16.size x ≤ S16x128.size x)
    (ra rb : IVec S16 32) (dA : ∀ col, Decidable (InCol ra col)) (dB : ∀ col, Decidable (InCol rb col)) : PR F L (BitVec 32) := do
  let x : Vec F S16 .i32 ← Prog.lift (.load pos (Rect.unit (s := S352) op S16.size hop).toLoadRect (View.loadsAt_vmem h_S16))
  let y : Vec F S16 .i32 ← Prog.lift (.load tsl (Rect.unit (s := S352) op S16.size hop).toLoadRect (View.loadsAt_vmem h_S16))
  have hC : C (lane0' y) := (← Prog.lift (TpuEff.assume (C (lane0' y)) (dC (lane0' y)))).down
  putCol tg och (o0 (lane0' y)) (o1 (lane0' y)) (h0 _ hC) (h1 _ hC) ra rb (k1_pay86 x) (dA _) (dB _)
  pure 0#32

theorem pay86_eq (x : Vec F S16 .i32) (w : BitVec 32) (hw : x (ix1 0) = w) (i : S16.Idx) : k1_pay86 x i = w := by
  show 0#32 + lane0' x = w
  rw [lane0'_eq, BitVec.zero_add, hw]

theorem wp_laneTrip {d : Dev nD} {L : grid1.Coords} {pos tsl : Memref sig .scVector .vmem S352 .i32} {tg : Memref sig .scVector .vmem S16x128 .f32} {och : Memref sig .scVector .vmem S32x128 .f32}
    {op : Fin 1 → ℕ} {hop : ∀ x, op x + S16.size x ≤ S352.size x} {C : BitVec 32 → Prop} {dC : ∀ v, Decidable (C v)} {o0 o1 : BitVec 32 → Fin 2 → ℕ}
    {h0 : ∀ v, C v → ∀ x, o0 v x + S1x16.size x ≤ S16x128.size x} {h1 : ∀ v, C v → ∀ x, o1 v x + S1x16.size x ≤ S16x128.size x}
    {ra rb : IVec S16 32} {dA : ∀ col, Decidable (InCol ra col)} {dB : ∀ col, Decidable (InCol rb col)}
    {POS TSL : S352.Idx → Elt F .i32} {G : S16x128.Idx → Elt F .f32} {O : S32x128.Idx → Elt F .f32} {p j r s : ℕ} {w : BitVec 32}
    (eop : op = ![p]) (hp : POS (ix1 p) = BitVec.ofNat 32 j) (hw : TSL (ix1 p) = w) (hC : C w) (e0 : o0 w = ![r, s]) (e1 : o1 w = ![r, s + 16])
    (hra : ∀ l < 16, ra (ix1 l) = BitVec.ofNat 32 (0 + l)) (hrb : ∀ l < 16, rb (ix1 l) = BitVec.ofNat 32 (16 + l)) (hj : j < 128) :
    iprop(holds (tV d L) pos Finset.univ fullShare POS ∗ holds (tV d L) tsl Finset.univ fullShare TSL ∗ holds (tV d L) tg Finset.univ fullShare G ∗ holds (tV d L) och Finset.univ fullShare O)
      ⊢ WP d L (laneTrip (L := L) pos tsl tg och op hop C dC o0 o1 h0 h1 ra rb dA dB) fun _ => iprop(holds (tV d L) pos Finset.univ fullShare POS
          ∗ holds (tV d L) tsl Finset.univ fullShare TSL ∗ holds (tV d L) tg Finset.univ fullShare G
          ∗ ∃ O', holds (tV d L) och Finset.univ fullShare O' ∗ ⌜∀ e < 32, ∀ k < 128, O' (ix2 e k) = if k = j then G (ix2 r (s + e)) else O (ix2 e k)⌝) := by
  unfold laneTrip
  iintro ⟨Hp, Hs, Hg, Ho⟩
  iapply (holds_load (c := tV d L) (Finset.subset_univ _)) $$ Hp; iintro Hp
  iapply (holds_load (c := tV d L) (Finset.subset_univ _)) $$ Hs; iintro Hs
  have hl : lane0' (fun i => TSL ((Rect.unit (s := S352) op S16.size hop).emb i)) = w := by
    rw [lane0'_eq, emb_unit1, ← hw]; subst eop; rfl
  have hc : ∀ l < 16, k1_pay86 (fun i => POS ((Rect.unit (s := S352) op S16.size hop).emb i)) (ix1 l) = BitVec.ofNat 32 j := fun l _ => by
    refine pay86_eq _ _ ?_ _
    rw [emb_unit1, ← hp]; subst eop; rfl
  obtain rfl := hl
  iapply (wp_check (c := tV d L) hC)
  iapply (wp_seq (wp_putCol (d := d) (L := L) e0 e1 hra hrb hc hj)) $$ [Hg Ho]
  · isplitl [Hg]; · iexact Hg
    iexact Ho
  iintro %_ H
  iapply wp_done
  isplitl [Hp]; · iexact Hp
  isplitl [Hs]; · iexact Hs
  iexact H

/-! ## One step of the table building -/

/-- How many numbers before the `j`th are served from the small table. -/
def rank (w : ℕ → BitVec 32) (j : ℕ) : ℕ := Nat.count (fun i => isT (w i)) j

theorem rank_le (w : ℕ → BitVec 32) (j : ℕ) : rank w j ≤ j := Nat.count_le _
theorem rank_mono (w : ℕ → BitVec 32) {i j : ℕ} (h : i ≤ j) : rank w i ≤ rank w j := Nat.count_monotone _ h
theorem rank_lt (w : ℕ → BitVec 32) {i j : ℕ} (hi : isT (w i)) (h : i < j) : rank w i < rank w j := Nat.count_strict_mono hi h
theorem rank_inj (w : ℕ → BitVec 32) {i j : ℕ} (hi : isT (w i)) (hj : isT (w j)) (h : rank w i = rank w j) : i = j := Nat.count_injective hi hj h
theorem rank_add (w : ℕ → BitVec 32) (n l : ℕ) : rank w (n + l) = rank w n + Nat.count (fun i => isT (w (n + i))) l := Nat.count_add _ _ _
theorem rank_surj (w : ℕ → BitVec 32) {n p : ℕ} (h : p < rank w n) : ∃ j < n, isT (w j) ∧ rank w j = p := by
  induction n with
  | zero => exact absurd h (by simp [rank])
  | succ n ih =>
    by_cases hp : p < rank w n
    · obtain ⟨j, hj, h1, h2⟩ := ih hp; exact ⟨j, by omega, h1, h2⟩
    · have hs : rank w (n + 1) = rank w n + if isT (w n) then 1 else 0 := Nat.count_succ _ _
      by_cases hT : isT (w n)
      · rw [if_pos hT] at hs; exact ⟨n, by omega, hT, by omega⟩
      · rw [if_neg hT] at hs; omega

/-- The tables' part for the first `n` numbers of a chunk. -/
def Tab (b off n : ℕ) (w : ℕ → BitVec 32) (SW : S2x144.Idx → BitVec 32) (POS TSL TI4 : S352.Idx → BitVec 32) : Prop :=
  (∀ j < n, SW (ix2 b j) = BitVec.ofNat 32 (scol (w j)))
  ∧ ∀ j < n, isT (w j) → POS (ix1 (off + rank w j)) = BitVec.ofNat 32 j ∧ TSL (ix1 (off + rank w j)) = BitVec.ofNat 32 (slot (w j))
      ∧ TI4 (ix1 (off + rank w j)) = BitVec.ofNat 32 (slot (w j) / 4)

/-- Outside half `b` the tables are the old ones. -/
def Same (b off : ℕ) (SW SW' : S2x144.Idx → BitVec 32) (POS TSL TI4 POS' TSL' TI4' : S352.Idx → BitVec 32) : Prop :=
  (∀ r < 2, r ≠ b → ∀ c < 144, SW' (ix2 r c) = SW (ix2 r c))
  ∧ ∀ r < 352, ¬(off ≤ r ∧ r < off + 176) → POS' (ix1 r) = POS (ix1 r) ∧ TSL' (ix1 r) = TSL (ix1 r) ∧ TI4' (ix1 r) = TI4 (ix1 r)

theorem Same.refl (b off : ℕ) (SW : S2x144.Idx → BitVec 32) (POS TSL TI4 : S352.Idx → BitVec 32) : Same b off SW SW POS TSL TI4 POS TSL TI4 :=
  ⟨fun _ _ _ _ _ => rfl, fun _ _ _ => ⟨rfl, rfl, rfl⟩⟩

theorem Same.trans {b off : ℕ} {SW SW' SW'' : S2x144.Idx → BitVec 32} {P T I P' T' I' P'' T'' I'' : S352.Idx → BitVec 32}
    (h : Same b off SW SW' P T I P' T' I') (h' : Same b off SW' SW'' P' T' I' P'' T'' I'') : Same b off SW SW'' P T I P'' T'' I'' :=
  ⟨fun r hr hb c hc => (h'.1 r hr hb c hc).trans (h.1 r hr hb c hc), fun r hr hn =>
    ⟨(h'.2 r hr hn).1.trans (h.2 r hr hn).1, (h'.2 r hr hn).2.1.trans (h.2 r hr hn).2.1, (h'.2 r hr hn).2.2.trans (h.2 r hr hn).2.2⟩⟩

theorem inTab_of {v : IVec S16 32} {t : ℕ → ℕ} (hv : ∀ l < 16, v (ix1 l) = BitVec.ofNat 32 (t l)) (ht : ∀ l < 16, t l < 352) :
    ∀ a x, ((![v] : Fin 1 → IVec S16 32) a x).toNat < S352.size a := by
  intro a x
  revert x
  refine forall_ix1 fun l hl => ?_
  match a with
  | 0 => show (v (ix1 l)).toNat < 352; have := ht l hl; rw [hv l hl, BitVec.toNat_ofNat]; omega

section Tab1

variable {v : IVec S16 32} {t : ℕ → ℕ} (hv : ∀ l < 16, v (ix1 l) = BitVec.ofNat 32 (t l)) (ht : ∀ l < 16, t l < 352)
  (h : ∀ a x, ((![v] : Fin 1 → IVec S16 32) a x).toNat < S352.size a) (f : Vec F S352 .i32) (u : Vec F S16 .i32)

include hv ht in
theorem at_tab (l : ℕ) (hl : l < 16) : idxAt (s := S352) ![v] h (ix1 l) = ix1 (t l) := by
  refine eq_ix1 ?_
  show (v (ix1 l)).toNat = _; have := ht l hl; rw [hv l hl, BitVec.toNat_ofNat]; omega

include hv ht in
theorem storeIdx_tab_hit (hinj : ∀ l < 16, ∀ l' < 16, t l = t l' → l = l') (l : ℕ) (hl : l < 16) :
    storeIdx f ![v] u (fun _ => 1#1) false h (ix1 (t l)) = u (ix1 l) := by
  rw [← at_tab hv ht h l hl]
  refine storeIdx_hit (F := F) ?_ _
  refine forall_ix1 fun l hl => forall_ix1 fun l' hl' he => ?_
  rw [at_tab hv ht h l hl, at_tab hv ht h l' hl', ix1_inj (ht l hl) (ht l' hl')] at he
  rw [hinj l hl l' hl' he]

include hv ht in
theorem storeIdx_tab_miss (r : ℕ) (hr : r < 352) (hn : ∀ l < 16, t l ≠ r) :
    storeIdx f ![v] u (fun _ => 1#1) false h (ix1 r) = f (ix1 r) := by
  refine storeIdx_miss (F := F) _ (forall_ix1 fun l hl he => hn l hl ?_)
  rwa [at_tab hv ht h l hl, ix1_inj (ht l hl) hr] at he

end Tab1

def preTrip {L : grid1.Coords} (xw : Memref sig .scVector .vmem S50x512 .i32) (i4 : Memref sig .scVector .vmem S2x128 .i32) (sw : Memref sig .scVector .vmem S2x144 .i32)
    (pos tsl ti4 : Memref sig .scVector .vmem S352 .i32) (ox : Fin 2 → ℕ) (hox : ∀ x, ox x + S1x16.size x ≤ S50x512.size x)
    (oi : Fin 2 → ℕ) (hoi : ∀ x, oi x + S1x16.size x ≤ S2x128.size x) (os : Fin 2 → ℕ) (hos : ∀ x, os x + S1x16.size x ≤ S2x144.size x)
    (C : IVec S16 32 → Prop) (dC : ∀ v, Decidable (C v)) (hC : ∀ v, C v → ∀ a x, ((![v] : Fin 1 → IVec S16 32) a x).toNat < S352.size a)
    (tgt : IVec S16 1 → IVec S16 32) (kv : IVec S16 32) (acc : BitVec 32) : PR F L (BitVec 32) := do
  let x : Vec F S1x16 .i32 ← Prog.lift (.load xw (Rect.unit (s := S50x512) ox S1x16.size hox).toLoadRect (View.loadsAt_vmem h_S1x16))
  let _y : Vec F S1x16 .i32 ← Prog.lift (.load i4 (Rect.unit (s := S2x128) oi S1x16.size hoi).toLoadRect (View.loadsAt_vmem h_S1x16))
  Prog.lift (.store i4 (Rect.unit (s := S2x128) oi S1x16.size hoi) (shapeCast S1x16 (k1_pay36 x) shapeCasts_S16_S1x16) Finset.univ (View.stores_vmem_bits_univ h_S1x16 rfl) (.inl rfl))
  let _z : Vec F S1x16 .i32 ← Prog.lift (.load sw (Rect.unit (s := S2x144) os S1x16.size hos).toLoadRect (View.loadsAt_vmem h_S1x16))
  Prog.lift (.store sw (Rect.unit (s := S2x144) os S1x16.size hos) (shapeCast S1x16 (k1_pay1 (k1_pay33 x) (k1_pay34 x)) shapeCasts_S16_S1x16) Finset.univ (View.stores_vmem_bits_univ h_S1x16 rfl) (.inl rfl))
  have hc : C (tgt (k1_pay34 x)) := (← Prog.lift (TpuEff.assume (C (tgt (k1_pay34 x))) (dC (tgt (k1_pay34 x))))).down
  SparseCore.vectorStoreIdx pos ![tgt (k1_pay34 x)] kv (fun _ => 1#1) false (hC _ hc) (View.stores_vmem_bits_univ h_S352 rfl)
  SparseCore.vectorStoreIdx tsl ![tgt (k1_pay34 x)] (k1_pay35 x) (fun _ => 1#1) false (hC _ hc) (View.stores_vmem_bits_univ h_S352 rfl)
  SparseCore.vectorStoreIdx ti4 ![tgt (k1_pay34 x)] (k1_pay5 (k1_pay35 x)) (fun _ => 1#1) false (hC _ hc) (View.stores_vmem_bits_univ h_S352 rfl)
  pure (Scalar.addi acc (extractAt ![0] (k1_pay6 (k1_pay34 x)) inpos_S1_p0))

theorem slice15 (y : IVec S16 32) : extractAt ![0] (extractStridedSlice S1 ![15] y slices_S16_o15_S1) inpos_S1_p0 = y (ix1 15) := congrArg y (eq_ix1 (r := 15) rfl)
theorem pay6_eq (m : IVec S16 1) : extractAt ![0] (k1_pay6 m) inpos_S1_p0 = k1_pay2 m (ix1 15) := slice15 (k1_pay2 m)

/-- Where the step's lanes go. -/
def tgtN (off n : ℕ) (w : ℕ → BitVec 32) (l : ℕ) : ℕ := if isT (w (n + l)) then off + rank w (n + l) else off + 144 + l

theorem tgtN_range {off n : ℕ} {w : ℕ → BitVec 32} (hn : n + 16 ≤ 128) {l : ℕ} (hl : l < 16) : off ≤ tgtN off n w l ∧ tgtN off n w l < off + 176 := by
  unfold tgtN; have := rank_le w (n + l); split <;> omega
theorem tgtN_inj {off n : ℕ} {w : ℕ → BitVec 32} (hn : n + 16 ≤ 128) : ∀ l < 16, ∀ l' < 16, tgtN off n w l = tgtN off n w l' → l = l' := by
  intro l hl l' hl' h
  have h1 := rank_le w (n + l); have h2 := rank_le w (n + l')
  unfold tgtN at h
  by_cases hT : isT (w (n + l)) <;> by_cases hT' : isT (w (n + l'))
  · rw [if_pos hT, if_pos hT'] at h
    have := rank_inj w hT hT' (by omega); omega
  · rw [if_pos hT, if_neg hT'] at h; omega
  · rw [if_neg hT, if_pos hT'] at h; omega
  · rw [if_neg hT, if_neg hT'] at h; omega
theorem tgtN_old {off n : ℕ} {w : ℕ → BitVec 32} (hn : n + 16 ≤ 128) {j : ℕ} (hj : j < n) (hT : isT (w j)) {l : ℕ} (hl : l < 16) : tgtN off n w l ≠ off + rank w j := by
  have h1 := rank_le w j
  unfold tgtN; split
  · have := rank_lt w hT (show j < n + l by omega); omega
  · omega

theorem wp_preTrip {d : Dev nD} {L : grid1.Coords} {xw : Memref sig .scVector .vmem S50x512 .i32} {i4 : Memref sig .scVector .vmem S2x128 .i32} {sw : Memref sig .scVector .vmem S2x144 .i32}
    {pos tsl ti4 : Memref sig .scVector .vmem S352 .i32} {ox : Fin 2 → ℕ} {hox : ∀ x, ox x + S1x16.size x ≤ S50x512.size x}
    {oi : Fin 2 → ℕ} {hoi : ∀ x, oi x + S1x16.size x ≤ S2x128.size x} {os : Fin 2 → ℕ} {hos : ∀ x, os x + S1x16.size x ≤ S2x144.size x}
    {C : IVec S16 32 → Prop} {dC : ∀ v, Decidable (C v)} {hC : ∀ v, C v → ∀ a x, ((![v] : Fin 1 → IVec S16 32) a x).toNat < S352.size a}
    {tgt : IVec S16 1 → IVec S16 32} {kv : IVec S16 32} {acc : BitVec 32}
    {XW : S50x512.Idx → Elt F .i32} {I4 : S2x128.Idx → Elt F .i32} {SW : S2x144.Idx → Elt F .i32} {POS TSL TI4 : S352.Idx → Elt F .i32}
    {R : Finset S2x128.Idx} {b off n : ℕ} {w : ℕ → BitVec 32}
    (hw : ∀ j < 128, (w j).toNat < 1000000) (hb : b < 2) (hoff : off + 176 ≤ 352) (hn : n + 16 ≤ 128)
    (hx : ∀ l < 16, XW (ix2 (ox 0) (ox 1 + l)) = w (n + l)) (eoi : oi = ![b, n]) (eos : os = ![b, n])
    (hR : ∀ c < 128, (ix2 b c : S2x128.Idx) ∈ R) (hCr : ∀ v, (∀ a x, ((![v] : Fin 1 → IVec S16 32) a x).toNat < S352.size a) → C v)
    (hkv : ∀ l < 16, kv (ix1 l) = BitVec.ofNat 32 (n + l)) (hacc : acc = BitVec.ofNat 32 (rank w n))
    (htgt : ∀ m l, l < 16 → tgt m (ix1 l) = Scalar.select (m (ix1 l)) (BitVec.ofNat 32 off + acc + k1_pay2 m (ix1 l) - 1#32) (BitVec.ofNat 32 (off + 144) + BitVec.ofNat 32 l))
    (hI : ∀ j < n, I4 (ix2 b j) = BitVec.ofNat 32 (srow (w j))) (hT : Tab b off n w SW POS TSL TI4) :
    iprop(holds (tV d L) xw Finset.univ fullShare XW ∗ holds (tV d L) i4 R fullShare I4 ∗ holds (tV d L) sw Finset.univ fullShare SW
        ∗ holds (tV d L) pos Finset.univ fullShare POS ∗ holds (tV d L) tsl Finset.univ fullShare TSL ∗ holds (tV d L) ti4 Finset.univ fullShare TI4)
      ⊢ WP d L (preTrip (L := L) xw i4 sw pos tsl ti4 ox hox oi hoi os hos C dC hC tgt kv acc) fun acc' => iprop(⌜acc' = BitVec.ofNat 32 (rank w (n + 16))⌝
        ∗ holds (tV d L) xw Finset.univ fullShare XW ∗ ∃ I4' SW' POS' TSL' TI4', ⌜(∀ j < n + 16, I4' (ix2 b j) = BitVec.ofNat 32 (srow (w j)))
            ∧ Tab b off (n + 16) w SW' POS' TSL' TI4' ∧ Same b off SW SW' POS TSL TI4 POS' TSL' TI4'⌝
        ∗ holds (tV d L) i4 R fullShare I4' ∗ holds (tV d L) sw Finset.univ fullShare SW'
        ∗ holds (tV d L) pos Finset.univ fullShare POS' ∗ holds (tV d L) tsl Finset.univ fullShare TSL' ∗ holds (tV d L) ti4 Finset.univ fullShare TI4') := by
  subst eoi; subst eos
  have hsub : (Rect.unit (s := S2x128) ![b, n] S1x16.size hoi).set ⊆ R := by
    rw [← Rect.map_emb_univ]
    intro y hy; obtain ⟨j, -, rfl⟩ := Finset.mem_map.mp hy
    rw [emb_unit2]
    have h0 : (j 0).val < 1 := (j 0).isLt
    have h1 : (j 1).val < 16 := (j 1).isLt
    rw [show (![b, n] : Fin 2 → ℕ) 0 + (j 0).val = b by show b + _ = _; omega]
    exact hR _ (by show n + _ < 128; omega)
  unfold preTrip
  iintro ⟨Hx, Hi, Hs, Hp, Ht, H4⟩
  iapply (holds_load (c := tV d L) (Finset.subset_univ _)) $$ Hx; iintro Hx
  -- the sixteen numbers
  set x : Vec F S1x16 .i32 := fun j => XW ((Rect.unit (s := S50x512) ox S1x16.size hox).emb j) with hxdef
  have hxl : ∀ l < 16, x (ix2 0 l) = w (n + l) := fun l hl => by
    rw [hxdef]; show XW ((Rect.unit (s := S50x512) ox S1x16.size hox).emb (ix2 0 l)) = _
    rw [emb_unit2, ix2_val0 (by omega), ix2_val1 hl]; exact hx l hl
  have hv : ∀ l < 16, (x (ix2 0 l) : BitVec 32).toNat < 1000000 := fun l hl => by rw [hxl l hl]; exact hw _ (by omega)
  have hcs : ∀ l < 16, k1_pay2 (k1_pay34 x) (ix1 l) = BitVec.ofNat 32 (Nat.count (fun i => isT (w (n + i))) (l + 1)) := fun l hl =>
    pay2_lane x l (fun i => w (n + i)) (fun l hl => (hxl l hl).symm) (fun l hl => hw _ (by omega)) hl
  have hmk : ∀ l < 16, k1_pay34 x (ix1 l) = if isT (w (n + l)) then 1#1 else 0#1 := fun l hl => by rw [pay34_lane x l hl (hv l hl), hxl l hl]
  have htg : ∀ l < 16, tgt (k1_pay34 x) (ix1 l) = BitVec.ofNat 32 (tgtN off n w l) := fun l hl => by
    rw [htgt _ l hl, hmk l hl, hcs l hl]
    unfold tgtN
    by_cases hT : isT (w (n + l))
    · rw [if_pos hT, if_pos hT]
      show BitVec.ofNat 32 off + acc + BitVec.ofNat 32 _ - 1#32 = _
      rw [hacc, Nat.count_succ, if_pos hT, rank_add, ← BitVec.ofNat_add, ← BitVec.ofNat_add]
      have hc := Nat.count_le (fun i => isT (w (n + i))) (n := l)
      have hr := rank_le w n
      have hlt : (BitVec.ofNat 32 (off + rank w n + (Nat.count (fun i => isT (w (n + i))) l + 1))).toNat = off + rank w n + (Nat.count (fun i => isT (w (n + i))) l + 1) := by
        rw [BitVec.toNat_ofNat]; omega
      show _ - BitVec.ofNat 32 1 = _
      rw [sub_ofNat (by omega) (by omega), hlt]
      exact congrArg (BitVec.ofNat 32) (by omega)
    · rw [if_neg hT, if_neg hT]
      show BitVec.ofNat 32 _ + BitVec.ofNat 32 l = _
      rw [← BitVec.ofNat_add]
  have htr : ∀ l < 16, tgtN off n w l < 352 := fun l hl => by have := (tgtN_range (off := off) (w := w) hn hl).2; omega
  have hin := inTab_of htg htr
  iapply (holds_load (c := tV d L) hsub) $$ Hi; iintro Hi
  iapply (holds_store (c := tV d L) hsub) $$ Hi; iintro Hi
  iapply (holds_load (c := tV d L) (Finset.subset_univ _)) $$ Hs; iintro Hs
  iapply (holds_store (c := tV d L) (Finset.subset_univ _)) $$ Hs; iintro Hs
  iapply (wp_check (c := tV d L) (hCr _ hin))
  iapply (holds_storeIdx (c := tV d L)) $$ Hp; iintro Hp
  iapply (holds_storeIdx (c := tV d L)) $$ Ht; iintro Ht
  iapply (holds_storeIdx (c := tV d L)) $$ H4; iintro H4
  iapply wp_done
  isplitr
  · ipureintro
    rw [pay6_eq]
    show acc + k1_pay2 (k1_pay34 x) (ix1 15) = _
    rw [hcs 15 (by omega), hacc, rank_add, BitVec.ofNat_add]
  isplitl [Hx]; · iexact Hx
  iexists _; iexists _; iexists _; iexists _; iexists _
  isplitr
  swap
  · isplitl [Hi]; · iexact Hi
    isplitl [Hs]; · iexact Hs
    isplitl [Hp]; · iexact Hp
    isplitl [Ht]; · iexact Ht
    iexact H4
  ipureintro
  refine ⟨fun j hj => ?_, ⟨fun j hj => ?_, fun j hj hTj => ?_⟩, fun r hr hrb c hc => ?_, fun r hr hnr => ?_⟩
  · rw [upd_unit2 _ _ hb (by omega)]
    show (if b = b ∧ n ≤ j ∧ j < n + 16 then _ else _) = _
    by_cases hjn : n ≤ j
    · rw [if_pos ⟨rfl, hjn, by omega⟩]
      show shapeCast S1x16 (k1_pay36 x) shapeCasts_S16_S1x16 (ix2 0 (j - n)) = _
      rw [cast_16 _ _ (by omega), pay36_lane x _ (by omega) (hv _ (by omega)), hxl _ (by omega)]
      congr 3; omega
    · rw [if_neg (by omega)]; exact hI j (by omega)
  · rw [upd_unit2 _ _ hb (by omega)]
    show (if b = b ∧ n ≤ j ∧ j < n + 16 then _ else _) = _
    by_cases hjn : n ≤ j
    · rw [if_pos ⟨rfl, hjn, by omega⟩]
      show shapeCast S1x16 (k1_pay1 (k1_pay33 x) (k1_pay34 x)) shapeCasts_S16_S1x16 (ix2 0 (j - n)) = _
      rw [cast_16 _ _ (by omega), pay1_lane x _ (by omega) (hv _ (by omega)), hxl _ (by omega)]
      congr 3; omega
    · rw [if_neg (by omega)]; exact hT.1 j (by omega)
  · by_cases hjn : n ≤ j
    · obtain ⟨l, rfl⟩ := Nat.exists_eq_add_of_le hjn
      have hl : l < 16 := by omega
      have ht : off + rank w (n + l) = tgtN off n w l := by unfold tgtN; rw [if_pos hTj]
      rw [ht]
      have hTx : isT (x (ix2 0 l)) := by rw [hxl l hl]; exact hTj
      have hs4 := slot_lt (hw _ (show n + l < 128 by omega)) hTj
      refine ⟨?_, ?_, ?_⟩
      · exact (storeIdx_tab_hit htg htr _ _ _ (tgtN_inj hn) l hl).trans (hkv l hl)
      · refine (storeIdx_tab_hit htg htr _ _ _ (tgtN_inj hn) l hl).trans ?_
        show k1_pay35 x (ix1 l) = _
        rw [pay35_lane x l hl (hv l hl) hTx, hxl l hl]
      · refine (storeIdx_tab_hit htg htr _ _ _ (tgtN_inj hn) l hl).trans ?_
        show IntOp.shrui .vector (k1_pay35 x (ix1 l)) 2#32 = _
        rw [shr2, pay35_lane x l hl (hv l hl) hTx, hxl l hl, BitVec.toNat_ofNat, Nat.mod_eq_of_lt (by omega)]
    · have hlt : off + rank w j < 352 := by have := rank_le w j; omega
      have hne : ∀ l < 16, tgtN off n w l ≠ off + rank w j := fun l hl => tgtN_old hn (by omega) hTj hl
      obtain ⟨h1, h2, h3⟩ := hT.2 j (by omega) hTj
      exact ⟨(storeIdx_tab_miss htg htr _ _ _ _ hlt hne).trans h1, (storeIdx_tab_miss htg htr _ _ _ _ hlt hne).trans h2, (storeIdx_tab_miss htg htr _ _ _ _ hlt hne).trans h3⟩
  · rw [upd_unit2 _ _ hr hc]
    exact if_neg fun hh => hrb hh.1
  · have hne : ∀ l < 16, tgtN off n w l ≠ r := fun l hl => by have := tgtN_range (off := off) (w := w) hn hl; omega
    exact ⟨storeIdx_tab_miss htg htr _ _ _ _ hr hne, storeIdx_tab_miss htg htr _ _ _ _ hr hne, storeIdx_tab_miss htg htr _ _ _ _ hr hne⟩

end Cert.Proof.Lookup
-- ==== Proof.Gath.lean ====
/-
  Held elements seen through a slice of a memref, and the stream's and the copies' rules on held elements: the indirect
  gather, the local copy, the wait.
-/
module

public import proofs.«01_k».proof.Proof.Trips

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

/-! ## Slices -/

section Views

variable {c : Thread nD τ} {cs : Space} {s s' : Shape} {e : EltTy} {m : Memref sig c.2.kind cs s e} {q : PosShare TreeShare} {X : s.Idx → Elt F e}

theorem setOn_slice (r : Rect s) (hr : ∀ a, r.stride a = 1) : (m.slice r hr).view.setOn Finset.univ = m.view.setOn r.set :=
  (View.setOn_univ _).trans (View.set_slice (v := m.view) r)

theorem holds_slice (r : Rect s) (hr : ∀ a, r.stride a = 1) :
    holds c m r.set q X ⊢ holds c (m.slice r hr) Finset.univ q (fun j => X (r.emb j)) := by
  unfold holds; iintro ⟨%f, H, %hf⟩; iexists f
  isplitl [H]
  · iapply (Entails.of_eq (show (m.view.loc c ↦[m.view.setOn r.set]{q} f : sProp 𝕄) = (m.slice r hr).view.loc c ↦[(m.slice r hr).view.setOn Finset.univ]{q} f by
      rw [setOn_slice])); iexact H
  ipureintro; intro j _
  exact hf (r.emb j) (by rw [← Rect.map_emb_univ]; exact Finset.mem_map_of_mem _ (Finset.mem_univ j))

theorem holds_unslice (r : Rect s) (hr : ∀ a, r.stride a = 1) {Y : r.shape.Idx → Elt F e} (h : ∀ j, X (r.emb j) = Y j) :
    holds c (m.slice r hr) Finset.univ q Y ⊢ holds c m r.set q X := by
  unfold holds; iintro ⟨%f, H, %hf⟩; iexists f
  isplitl [H]
  · iapply (Entails.of_eq (show ((m.slice r hr).view.loc c ↦[(m.slice r hr).view.setOn Finset.univ]{q} f : sProp 𝕄) = m.view.loc c ↦[m.view.setOn r.set]{q} f by
      rw [setOn_slice])); iexact H
  ipureintro; intro x hx
  rw [← Rect.map_emb_univ] at hx
  obtain ⟨j, -, rfl⟩ := Finset.mem_map.mp hx
  exact (hf j (Finset.mem_univ j)).trans (h j).symm

theorem holds_squeeze (h : s.Squeezes s') :
    holds c m Finset.univ q X ⊢ holds c (m.squeeze s' h) Finset.univ q (fun j => X (Shape.reshapeEquiv h.numel_eq j)) := by
  unfold holds; iintro ⟨%f, H, %hf⟩; iexists f
  isplitl [H]
  · iapply (Entails.of_eq (show (m.view.loc c ↦[m.view.setOn Finset.univ]{q} f : sProp 𝕄) = (m.squeeze s' h).view.loc c ↦[(m.squeeze s' h).view.setOn Finset.univ]{q} f by
      rw [View.setOn_univ, View.setOn_univ]; exact (congrArg (fun S => (m.view.loc c ↦[S]{q} f : sProp 𝕄)) (View.set_reshape (v := m.view) h.numel_eq)).symm)); iexact H
  ipureintro; intro j _
  exact hf _ (Finset.mem_univ _)

theorem holds_unsqueeze (h : s.Squeezes s') {Y : s'.Idx → Elt F e} (hY : ∀ j, X (Shape.reshapeEquiv h.numel_eq j) = Y j) :
    holds c (m.squeeze s' h) Finset.univ q Y ⊢ holds c m Finset.univ q X := by
  unfold holds; iintro ⟨%f, H, %hf⟩; iexists f
  isplitl [H]
  · iapply (Entails.of_eq (show ((m.squeeze s' h).view.loc c ↦[(m.squeeze s' h).view.setOn Finset.univ]{q} f : sProp 𝕄) = m.view.loc c ↦[m.view.setOn Finset.univ]{q} f by
      rw [View.setOn_univ, View.setOn_univ]; exact congrArg (fun S => (m.view.loc c ↦[S]{q} f : sProp 𝕄)) (View.set_reshape (v := m.view) h.numel_eq))); iexact H
  ipureintro; intro x _
  obtain ⟨j, rfl⟩ := (Shape.reshapeEquiv h.numel_eq).surjective x
  exact (hf j (Finset.mem_univ j)).trans (hY j).symm

/-- Two parts joined. -/
theorem holds_join {S S₁ : Finset s.Idx} (h : S₁ ⊆ S) : iprop(holds c m S₁ q X ∗ holds c m (S \ S₁) q X) ⊢ holds c m S q X := by
  unfold holds; iintro ⟨⟨%g, Hg, %hg⟩, ⟨%f, Hf, %hf⟩⟩
  have hsd : m.view.setOn (S \ S₁) = m.view.setOn S \ m.view.setOn S₁ := by unfold View.setOn; rw [Finset.map_sdiff]
  have hsub : m.view.setOn S₁ ⊆ m.view.setOn S := Finset.map_subset_map.mpr h
  rw [hsd]
  ihave H := (pointsTo_join_subset (ℓ := m.view.loc c) hsub) $$ [Hg Hf]
  · isplitl [Hg]; · iexact Hg
    iexact Hf
  iexists _; isplitl [H]; · iexact H
  ipureintro; intro x hx
  by_cases h1 : x ∈ S₁
  · rw [← hg x h1]
    exact congrArg _ (Finset.piecewise_eq_of_mem _ _ _ ((View.mem_setOn (v := m.view)).mpr h1))
  · rw [← hf x (Finset.mem_sdiff.mpr ⟨hx, h1⟩)]
    exact congrArg _ (Finset.piecewise_eq_of_notMem _ _ _ (fun hh => h1 ((View.mem_setOn (v := m.view)).mp hh)))

end Views

/-! ## The stream and the copies -/

/-- The right to wait at the lowest level, and what has been waited for since `W`. -/
def OW (d : Dev nD) (L : grid1.Coords) (O : CellTallies nD τ sig HX) (W : Waits sig HX) : sProp 𝕄 :=
  iprop(Transfers.MayWaits (tV d L) (default : HX) O ∗ ∃ W', ⌜∀ p ∈ W', p ∈ W ∨ p.2 = none⌝ ∗ owes (tV d L) O W')

/-- A transfer on its way to `D`. -/
abbrev Fly (d : Dev nD) (L : grid1.Coords) (sem : DmaSem sig) (N : ℕ) (D : sProp 𝕄) : sProp 𝕄 :=
  Transfers.Flight countersEmb (tV d L) (.dma sem) (default : HX) N D

section Rules

variable {d : Dev nD} {L : grid1.Coords} {O : CellTallies nD τ sig HX} {W : Waits sig HX}

theorem wp_waitFly {α : Type} {Q : α → sProp 𝕄} {sp : Space} {s : Shape} {e : EltTy} {sem : DmaSem sig} {N : ℕ} {D : sProp 𝕄} {s₁ : Shape} {e₁ : EltTy} {sp₁ : Space}
    {src : Memref sig .scVector sp₁ s₁ e₁} {dst : Memref sig .scVector sp s e} {hsrc : src.view.WordExact} {hdst : dst.view.WordExact}
    {k : PUnit → PR F L α} (hN : dst.view.dmaCredit = N) :
    iprop(Fly d L sem N D ∗ OW d L O W) ⊢ iprop((iprop(D ∗ semVal ((tV d L), SemLoc.dma sem) 0 ∗ OW d L O W) -∗ WP d L (k ⟨⟩) Q)
      -∗ WP d L (.op (.waitDma2 sem src dst hsrc hdst) k) Q) := by
  unfold OW
  iintro ⟨Hf, #Hm, %W', %hW, HO⟩ Hk
  iapply (Transfers.wp_waitLocalO (dstw := dst) (srcw := src) countersEmb 𝒱₀ (tV d L) none (default : HX) hN) $$ [Hf HO]
  · isplitl [Hf]; · iexact Hf
    isplitl [HO]; · iexact HO
    iapply (Transfers.MayWaits.elim (SemLoc.dma sem)) $$ Hm
  iintro ⟨HD, Hs, HO⟩
  iapply Hk
  isplitl [HD]; · iexact HD
  isplitl [Hs]; · iexact Hs
  isplitr; · iexact Hm
  iexists (insert (SemLoc.dma sem, (default : HX)) W'); isplitr [HO]
  · ipureintro; intro p hp
    rcases Finset.mem_insert.mp hp with h | h
    · exact Or.inr (by rw [h]; rfl)
    · exact hW p h
  iexact HO

theorem wp_copyFly {α : Type} {Q : α → sProp 𝕄} {sp sp' : Space} {s : Shape} {e : EltTy} {sem : DmaSem sig} {N : ℕ}
    {src : Memref sig .scVector sp s e} {dst : Memref sig .scVector sp' s e} {hsrc : src.view.WordExact} {hdst : dst.view.WordExact} {hsem}
    {k : PUnit → PR F L α} {q : PosShare TreeShare} {X Y : s.Idx → Elt F e} (hN : dst.view.dmaCredit = N) (hN0 : 0 < N) :
    iprop(holds (tV d L) src Finset.univ q X ∗ holds (tV d L) dst Finset.univ fullShare Y ∗ semVal ((tV d L), SemLoc.dma sem) 0)
      ⊢ iprop((Fly d L sem N iprop(holds (tV d L) dst Finset.univ fullShare X ∗ holds (tV d L) src Finset.univ q X) -∗ WP d L (k ⟨⟩) Q)
      -∗ WP d L (Prog.lift (.enqueueDma src (.here dst) (.dma sem) hsrc hdst hsem) >>= k) Q) := by
  unfold holds
  iintro ⟨⟨%fs, Hs, %hfs⟩, ⟨%fd, Hd, %hfd⟩, Hv⟩ Hk
  obtain rfl : src.view.read (Elt F) fs = X := funext fun x => hfs x (Finset.mem_univ _)
  iapply (Transfers.wp_dmaLocal (src := src) (dst := dst) (via := .same) (Sd := dst.view.setOn Finset.univ) countersEmb 𝒱₀ (tV d L) none (default : HX) N (show dst.view.amount (.dma sem) = N from hN) hN0 subset_rfl) $$ [Hs Hd Hv]
  · isplitl [Hs]; · iexact Hs
    isplitl [Hd]; · iexact Hd
    iexact Hv
  iintro Hf
  iapply Hk
  iapply (Transfers.Flight_mono (D' := iprop((∃ f, (dst.view.loc (tV d L) ↦[dst.view.setOn Finset.univ]{fullShare} f) ∗ ⌜∀ x ∈ Finset.univ, dst.view.read (Elt F) f x = src.view.read (Elt F) fs x⌝)
    ∗ ∃ f, (src.view.loc (tV d L) ↦[src.view.setOn Finset.univ]{q} f) ∗ ⌜∀ x ∈ Finset.univ, src.view.read (Elt F) f x = src.view.read (Elt F) fs x⌝)) ?_) $$ Hf
  iintro ⟨Hd, Hs⟩
  isplitl [Hd]
  · iexists _; isplitl [Hd]; · iexact Hd
    ipureintro; intro x _
    exact View.read_write_of_mem (v := dst.view) fd _ (Finset.mem_univ x)
  · iexists _; isplitl [Hs]; · iexact Hs
    ipureintro; intro x _; rfl

theorem wp_gatherFly {α : Type} {Q : α → sProp 𝕄} {sp : Space} {s₀ s si : Shape} {a : ℕ} {e : EltTy} {sem : DmaSem sig} {N : ℕ}
    {src : Memref sig .scVector sp s₀ e} {dst : Memref sig .scVector .vmem s e} {hg : s₀.Gathers a s} {offs : Memref sig .scVector .vmem si .i32}
    {hn : si.numel = s.size hg.axis'} {hp} {hsrc : src.view.WordExact} {he : e.bits = 32} {hsp : sp = .hbm ∨ sp = .shared} {hr : s₀.StreamRows a}
    {k : PUnit → PR F L α} {q qo : PosShare TreeShare} {fs : Buf (Elt F) (src.view.loc (tV d L))} {X : s.Idx → Elt F e} {I : si.Idx → Elt F .i32}
    (hN : ∑ j, (dst.slice (s.rowRect hg.axis' j) (s.stride_rowRect hg.axis' j)).view.dmaCredit = N) (hs : 0 < s.numel)
    (hin : ∀ x, (I x : BitVec 32).toNat < s₀.size hg.axis) :
    iprop((src.view.loc (tV d L) ↦[src.view.set]{q} fs) ∗ holds (tV d L) dst Finset.univ fullShare X ∗ holds (tV d L) offs Finset.univ qo I ∗ semVal ((tV d L), SemLoc.dma sem) 0)
      ⊢ iprop((Fly d L sem N iprop(holds (tV d L) dst Finset.univ fullShare (SparseCore.gatherPayload hg (src.view.read (Elt F) fs) (SparseCore.rows I hn hin))
          ∗ (src.view.loc (tV d L) ↦[src.view.set]{q} fs) ∗ holds (tV d L) offs Finset.univ qo I) -∗ WP d L (k ⟨⟩) Q)
      -∗ WP d L (SparseCore.enqueueIndirectGather hp src dst hg offs hn sem hsrc he hsp hr >>= k) Q) := by
  unfold holds
  iintro ⟨Hsrc, ⟨%fd, Hd, %hfd⟩, ⟨%fo, Ho, %hfo⟩, Hv⟩ Hk
  obtain rfl : offs.view.read (Elt F) fo = I := funext fun x => hfo x (Finset.mem_univ _)
  iapply (SparseCore.wp_indirectGatherLocal (hp := hp) (hg := hg) (hn := hn) (src := src) (dst := dst) (offs := offs) (sem := sem) (fo := fo) (fd := fd) (fs := fs) countersEmb 𝒱₀ (tV d L) none (default : HX) N hN hs hin) $$ [Hsrc Hd Ho Hv]
  · isplitl [Hsrc]; · iexact Hsrc
    isplitl [Hd]; · iexact Hd
    isplitl [Ho]; · iexact Ho
    iexact Hv
  iintro Hf
  iapply Hk
  iapply (Transfers.Flight_mono ?_) $$ Hf
  iintro ⟨Hd, Hsrc, Ho⟩
  isplitl [Hd]
  · iexists _; isplitl [Hd]; · iexact Hd
    ipureintro; intro x _
    exact View.read_write_of_mem (v := dst.view) fd _ (Finset.mem_univ x)
  isplitl [Hsrc]; · iexact Hsrc
  iexists _; isplitl [Ho]; · iexact Ho
  ipureintro; intro x _; rfl

end Rules

/-! ## What a gather reads -/

theorem gather_at {a b n : ℕ} [NeZero a] [NeZero b] [NeZero n] {hg : (⟨2, ![a, b]⟩ : Shape).Gathers 0 ⟨2, ![n, b]⟩} {g : (⟨2, ![a, b]⟩ : Shape).Idx → Elt F .f32} {I : (⟨1, ![n]⟩ : Shape).Idx → BitVec 32}
    {hn : (⟨1, ![n]⟩ : Shape).numel = (⟨2, ![n, b]⟩ : Shape).size hg.axis'} {hin : ∀ x, (I x).toNat < (⟨2, ![a, b]⟩ : Shape).size hg.axis} {j c : ℕ} (hj : j < n) (hc : c < b) :
    SparseCore.gatherPayload hg g (SparseCore.rows (F := F) I hn hin) (ix2 j c) = g (ix2 (I (ix1 j)).toNat c) := by
  unfold SparseCore.gatherPayload
  refine congrArg g (eq_ix2 ?_ ?_)
  · have := congrArg Fin.val (Shape.Gathers.idx_axis hg (SparseCore.rows (F := F) I hn hin) (ix2 j c))
    refine this.trans ?_
    show (I _).toNat = _
    refine congrArg (fun x => (I x).toNat) (eq_ix1 ?_)
    rw [← Shape.rowMajor_val_one, Equiv.apply_symm_apply]
    exact ix2_val0 (b := b) (c := c) hj
  · exact (Shape.Gathers.idx_of_ne hg _ _ 1 one_ne_zero).trans (ix2_val1 hc)

end Cert.Proof.Lookup
-- ==== Proof.Inst.lean ====
/-
  A subcore's operands as one record, and the lookup's printed loop bodies as instances of the templates.
-/
module

public import proofs.«01_k».proof.Proof.Trips

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

/-- The lookup's operands: the transposed numbers, the two tables, the result, the scratch arrays and the semaphores. -/
structure Args where
  xt : Memref sig .scVector .hbm S50x16384 .i32
  hxt : xt.IsWhole
  rm : Memref sig .scVector .hbm S250004x128 .f32
  hrm : rm.IsWhole
  tl : Memref sig .scVector .hbm S16x128 .f32
  htl : tl.IsWhole
  out : Memref sig .scVector .hbm S50x32x16384 .f32
  hout : out.IsWhole
  xw : Memref sig .scVector .vmem S50x512 .i32
  hxw : xw.IsWhole
  i4 : Memref sig .scVector .vmem S2x128 .i32
  hi4 : i4.IsWhole
  sw : Memref sig .scVector .vmem S2x144 .i32
  hsw : sw.IsWhole
  cv : Memref sig .scVector .vmem S2x16 .i32
  hcv : cv.IsWhole
  pos : Memref sig .scVector .vmem S352 .i32
  hpos : pos.IsWhole
  tsl : Memref sig .scVector .vmem S352 .i32
  htsl : tsl.IsWhole
  ti4 : Memref sig .scVector .vmem S352 .i32
  hti4 : ti4.IsWhole
  g0 : Memref sig .scVector .vmem S128x128 .f32
  hg0 : g0.IsWhole
  g1 : Memref sig .scVector .vmem S128x128 .f32
  hg1 : g1.IsWhole
  och : Memref sig .scVector .vmem S32x128 .f32
  hoch : och.IsWhole
  tg : Memref sig .scVector .vmem S16x128 .f32
  htg : tg.IsWhole
  s0 : DmaSems sig S_
  s1 : DmaSems sig S_
  st : DmaSems sig S_
  r0 : DmaSems sig S_
  r1 : DmaSems sig S_
  r2 : DmaSems sig S_

variable (L : grid1.Coords) (A : Args)

/-- The printed bodies at a record of operands. -/
abbrev Args.app {β : Sort _} (A : Args) (f : (arg2 : Memref sig .scVector .hbm S50x16384 .i32) → arg2.IsWhole → (arg3 : Memref sig .scVector .hbm S250004x128 .f32) → arg3.IsWhole
    → (arg4 : Memref sig .scVector .hbm S16x128 .f32) → arg4.IsWhole → (arg5 : Memref sig .scVector .hbm S50x32x16384 .f32) → arg5.IsWhole
    → (arg6 : Memref sig .scVector .vmem S50x512 .i32) → arg6.IsWhole → (arg7 : Memref sig .scVector .vmem S2x128 .i32) → arg7.IsWhole
    → (arg8 : Memref sig .scVector .vmem S2x144 .i32) → arg8.IsWhole → (arg9 : Memref sig .scVector .vmem S2x16 .i32) → arg9.IsWhole
    → (arg10 : Memref sig .scVector .vmem S352 .i32) → arg10.IsWhole → (arg11 : Memref sig .scVector .vmem S352 .i32) → arg11.IsWhole
    → (arg12 : Memref sig .scVector .vmem S352 .i32) → arg12.IsWhole → (arg13 : Memref sig .scVector .vmem S128x128 .f32) → arg13.IsWhole
    → (arg14 : Memref sig .scVector .vmem S128x128 .f32) → arg14.IsWhole → (arg15 : Memref sig .scVector .vmem S32x128 .f32) → arg15.IsWhole
    → (arg16 : Memref sig .scVector .vmem S16x128 .f32) → arg16.IsWhole → DmaSems sig S_ → DmaSems sig S_ → DmaSems sig S_ → DmaSems sig S_ → DmaSems sig S_ → DmaSems sig S_ → β) : β :=
  f A.xt A.hxt A.rm A.hrm A.tl A.htl A.out A.hout A.xw A.hxw A.i4 A.hi4 A.sw A.hsw A.cv A.hcv A.pos A.hpos A.tsl A.htsl A.ti4 A.hti4 A.g0 A.hg0 A.g1 A.hg1 A.och A.hoch A.tg A.htg
    A.s0 A.s1 A.st A.r0 A.r1 A.r2

/-! ## The row loops -/

theorem t4_eq (v2 : IVec S16 32) (v4 : BitVec 32) (t2 : Fin k1_t2_loop.trips) (v80 : BitVec 32) (t : Fin k1_t4_loop.trips) (acc : BitVec 32) :
    A.app (k1_t4_body (F := F) L) v2 v4 t2 v80 t acc = rowTrip (F := F) (L := L) A.sw A.g0 A.och
      (k1_off10 t) (k1_off10_inb t) (k1_chk5 t) (k1_chk5.dec t) (k1_off11 t) (k1_off12 t) (k1_off11_inb t) (k1_off12_inb t)
      (k1_pay53 v2) (k1_pay55 v2) (k1_pay51 0#32 1#32 t) (k1_chk6.dec _ _) (k1_chk7.dec _ _)
      (k1_off13 t) (k1_off13_inb t) (k1_chk8 t) (k1_chk8.dec t) (k1_off14 t) (k1_off15 t) (k1_off14_inb t) (k1_off15_inb t)
      (k1_pay82 v2) (k1_pay84 v2) (k1_pay57 0#32 1#32 t) (k1_chk9.dec _ _) (k1_chk10.dec _ _) := by
  unfold Args.app k1_t4_body
  rw [k1_part4_eq_skeleton]
  rfl

theorem t12_eq (v2 : IVec S16 32) (v142 v143 : BitVec 32) (v144 v145 v146 : BitVec 1) (t : Fin k1_t12_loop.trips) (acc : BitVec 32) :
    A.app (k1_t12_body (F := F) L) v2 v142 v143 v144 v145 v146 t acc = rowTrip (F := F) (L := L) A.sw A.g1 A.och
      (k1_off35 t) (k1_off35_inb t) (k1_chk26 t) (k1_chk26.dec t) (k1_off36 t) (k1_off37 t) (k1_off36_inb t) (k1_off37_inb t)
      (k1_pay74 v2) (k1_pay76 v2) (k1_pay72 0#32 1#32 t) (k1_chk27.dec _ _) (k1_chk28.dec _ _)
      (k1_off38 t) (k1_off38_inb t) (k1_chk29 t) (k1_chk29.dec t) (k1_off39 t) (k1_off40 t) (k1_off39_inb t) (k1_off40_inb t)
      (k1_pay112 v2) (k1_pay114 v2) (k1_pay78 0#32 1#32 t) (k1_chk30.dec _ _) (k1_chk31.dec _ _) := by
  unfold Args.app k1_t12_body
  rw [k1_part7_eq_skeleton]
  rfl

/-! ## The lane loops -/

theorem t6_eq (v2 : IVec S16 32) (v4 : BitVec 32) (t2 : Fin k1_t2_loop.trips) (v80 v87 : BitVec 32) (h11 : k1_chk11 v87) (t5 : Fin (k1_t5_loop v87).trips)
    (t : Fin (k1_t6_loop v87 t5).trips) (acc : BitVec 32) :
    A.app (k1_t6_body (F := F) L) v2 v4 t2 v80 v87 h11 t5 t acc = laneTrip (F := F) (L := L) A.pos A.tsl A.tg A.och
      (k1_off17 v87 t5 t) (k1_off17_inb v87 h11 t5 t) (k1_chk12 v87 t5 t) (k1_chk12.dec v87 t5 t) (k1_off18 v87 t5 t) (k1_off19 v87 t5 t)
      (k1_off18_inb v87 t5 t) (k1_off19_inb v87 t5 t) (k1_pay88 v2) (k1_pay90 v2) (fun col => k1_chk13.dec col _) (fun col => k1_chk14.dec col _) := rfl

theorem t14_eq (v2 : IVec S16 32) (v157 : BitVec 32) (h32 : k1_chk32 v157) (t13 : Fin (k1_t13_loop v157).trips)
    (t : Fin (k1_t14_loop v157 t13).trips) (acc : BitVec 32) :
    A.app (k1_t14_body (F := F) L) v2 v157 h32 t13 t acc = laneTrip (F := F) (L := L) A.pos A.tsl A.tg A.och
      (k1_off42 v157 t13 t) (k1_off42_inb v157 h32 t13 t) (k1_chk33 v157 t13 t) (k1_chk33.dec v157 t13 t) (k1_off43 v157 t13 t) (k1_off44 v157 t13 t)
      (k1_off43_inb v157 t13 t) (k1_off44_inb v157 t13 t) (k1_pay12 v2) (k1_pay14 v2) (fun col => k1_chk34.dec col _) (fun col => k1_chk35.dec col _) := rfl

/-! ## The table-building loops -/

theorem t1_eq (v2 : IVec S16 32) (v21 v31 : BitVec 32) (t : Fin k1_t1_loop.trips) (acc : BitVec 32) :
    A.app (k1_t1_body (F := F) L) v2 v21 v31 t acc = preTrip (F := F) (L := L) A.xw A.i4 A.sw A.pos A.tsl A.ti4
      (k1_off2 t) (k1_off2_inb t) (k1_off3 t) (k1_off3_inb t) (k1_off4 t) (k1_off4_inb t) k1_chk1 k1_chk1.dec k1_idx1_inb (k1_pay3 v2 acc) (k1_pay4 v2 (Scf.iv 0#32 1#32 t)) acc := by
  unfold Args.app k1_t1_body
  rw [k1_part1_eq_skeleton]
  rfl

theorem t3_eq (v2 : IVec S16 32) (t2 : Fin k1_t2_loop.trips) (v49 : BitVec 32) (h1 : k1_cond1 t2 = 1#1) (v205 v215 : BitVec 32) (t : Fin k1_t3_loop.trips) (acc : BitVec 32) :
    A.app (k1_t3_body (F := F) L) v2 t2 v49 h1 v205 v215 t acc = preTrip (F := F) (L := L) A.xw A.i4 A.sw A.pos A.tsl A.ti4
      (k1_off6 t2 t) (k1_off6_inb t2 t h1) (k1_off7 t) (k1_off7_inb t2 t h1) (k1_off8 t) (k1_off8_inb t2 t h1) (k1_chk3 t2) (k1_chk3.dec t2)
      (fun v h => k1_idx4_inb t2 v h h1) (k1_pay43 v2 acc) (k1_pay44 v2 (Scf.iv 0#32 1#32 t)) acc := by
  unfold Args.app k1_t3_body
  rw [k1_part2_eq_skeleton]
  rfl

theorem t11_eq (v2 : IVec S16 32) (t2 : Fin k1_t2_loop.trips) (v119 : BitVec 32) (h2 : k1_cond2 t2 = 1#1) (v205 v215 : BitVec 32) (t : Fin k1_t11_loop.trips) (acc : BitVec 32) :
    A.app (k1_t11_body (F := F) L) v2 t2 v119 h2 v205 v215 t acc = preTrip (F := F) (L := L) A.xw A.i4 A.sw A.pos A.tsl A.ti4
      (k1_off31 t2 t) (k1_off31_inb t2 t h2) (k1_off32 t) (k1_off32_inb t2 t h2) (k1_off33 t) (k1_off33_inb t2 t h2) (k1_chk24 t2) (k1_chk24.dec t2)
      (fun v h => k1_idx19_inb t2 v h h2) (k1_pay64 v2 acc) (k1_pay65 v2 (Scf.iv 0#32 1#32 t)) acc := by
  unfold Args.app k1_t11_body
  rw [k1_part5_eq_skeleton]
  rfl

end Cert.Proof.Lookup
-- ==== Proof.Loops.lean ====
/-
  The lookup's loops, each from what one trip does: the table building, the columns put down, the lanes served from the
  small table.
-/
module

public import proofs.«01_k».proof.Proof.Gath
public import proofs.«01_k».proof.Proof.Inst

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

theorem wp_rowTrip {d : Dev nD} {L : grid1.Coords} {sw : Memref sig .scVector .vmem S2x144 .i32} {g : Memref sig .scVector .vmem S128x128 .f32} {och : Memref sig .scVector .vmem S32x128 .f32}
    {os : Fin 2 → ℕ} {hos : ∀ x, os x + S1x16.size x ≤ S2x144.size x} {C : BitVec 32 → Prop} {dC : ∀ v, Decidable (C v)} {o0 o1 : BitVec 32 → Fin 2 → ℕ}
    {h0 : ∀ v, C v → ∀ x, o0 v x + S1x16.size x ≤ S128x128.size x} {h1 : ∀ v, C v → ∀ x, o1 v x + S1x16.size x ≤ S128x128.size x}
    {ra rb col : IVec S16 32} {dA : Decidable (InCol ra col)} {dB : Decidable (InCol rb col)}
    {os' : Fin 2 → ℕ} {hos' : ∀ x, os' x + S1x16.size x ≤ S2x144.size x} {C' : BitVec 32 → Prop} {dC' : ∀ v, Decidable (C' v)} {o0' o1' : BitVec 32 → Fin 2 → ℕ}
    {h0' : ∀ v, C' v → ∀ x, o0' v x + S1x16.size x ≤ S128x128.size x} {h1' : ∀ v, C' v → ∀ x, o1' v x + S1x16.size x ≤ S128x128.size x}
    {ra' rb' col' : IVec S16 32} {dA' : Decidable (InCol ra' col')} {dB' : Decidable (InCol rb' col')}
    {SW : S2x144.Idx → Elt F .i32} {G : S128x128.Idx → Elt F .f32} {O : S32x128.Idx → Elt F .f32} {b j : ℕ} {w w' : BitVec 32}
    (eos : os = ![b, j]) (hw : SW (ix2 b j) = w) (hC : C w) (e0 : o0 w = ![j, w.toNat]) (e1 : o1 w = ![j, w.toNat + 16])
    (hra : ∀ l < 16, ra (ix1 l) = BitVec.ofNat 32 (0 + l)) (hrb : ∀ l < 16, rb (ix1 l) = BitVec.ofNat 32 (16 + l))
    (hcol : ∀ l < 16, col (ix1 l) = BitVec.ofNat 32 j)
    (eos' : os' = ![b, j + 1]) (hw' : SW (ix2 b (j + 1)) = w') (hC' : C' w') (e0' : o0' w' = ![j + 1, w'.toNat]) (e1' : o1' w' = ![j + 1, w'.toNat + 16])
    (hra' : ∀ l < 16, ra' (ix1 l) = BitVec.ofNat 32 (0 + l)) (hrb' : ∀ l < 16, rb' (ix1 l) = BitVec.ofNat 32 (16 + l))
    (hcol' : ∀ l < 16, col' (ix1 l) = BitVec.ofNat 32 (j + 1)) (hj : j + 1 < 128) :
    iprop(holds (tV d L) sw Finset.univ fullShare SW ∗ holds (tV d L) g Finset.univ fullShare G ∗ holds (tV d L) och Finset.univ fullShare O)
      ⊢ WP d L (rowTrip (L := L) sw g och os hos C dC o0 o1 h0 h1 ra rb col dA dB os' hos' C' dC' o0' o1' h0' h1' ra' rb' col' dA' dB') fun _ => iprop(holds (tV d L) sw Finset.univ fullShare SW
          ∗ holds (tV d L) g Finset.univ fullShare G
          ∗ ∃ O', holds (tV d L) och Finset.univ fullShare O' ∗ ⌜∀ e < 32, ∀ k < 128, O' (ix2 e k) = if k = j + 1 then G (ix2 (j + 1) (w'.toNat + e)) else if k = j then G (ix2 j (w.toNat + e)) else O (ix2 e k)⌝) := by
  unfold rowTrip
  iintro H
  iapply (wp_seq (wp_rowHalf eos hw hC e0 e1 hra hrb hcol (by omega))) $$ H
  iintro %_ ⟨Hs, Hg, %O₁, Ho, %h₁⟩
  iapply (wp_seq (wp_rowHalf eos' hw' hC' e0' e1' hra' hrb' hcol' hj)) $$ [Hs Hg Ho]
  · isplitl [Hs]; · iexact Hs
    isplitl [Hg]; · iexact Hg
    iexact Ho
  iintro %_ ⟨Hs, Hg, %O₂, Ho, %h₂⟩
  iapply wp_done
  isplitl [Hs]; · iexact Hs
  isplitl [Hg]; · iexact Hg
  iexists O₂; isplitl [Ho]; · iexact Ho
  ipureintro; intro e he k hk
  rw [h₂ e he k hk, h₁ e he k hk]

section Loops

variable {d : Dev nD} {L : grid1.Coords} {A : Args} {lb ub st : BitVec 32} {hok : Scf.OK lb ub st} {init : BitVec 32}
  {body : Fin (Scf.trips lb ub st) → BitVec 32 → PR F L (BitVec 32)}

/-- Every gathered row put down as its column. -/
theorem wp_rows {g : Memref sig .scVector .vmem S128x128 .f32} {SW : S2x144.Idx → Elt F .i32} {G : S128x128.Idx → Elt F .f32} {O : S32x128.Idx → Elt F .f32} {c : ℕ → ℕ}
    (ht : Scf.trips lb ub st = 64)
    (hstep : ∀ (t : Fin (Scf.trips lb ub st)) acc O, iprop(holds (tV d L) A.sw Finset.univ fullShare SW ∗ holds (tV d L) g Finset.univ fullShare G ∗ holds (tV d L) A.och Finset.univ fullShare O)
      ⊢ WP d L (body t acc) fun _ => iprop(holds (tV d L) A.sw Finset.univ fullShare SW ∗ holds (tV d L) g Finset.univ fullShare G
          ∗ ∃ O', holds (tV d L) A.och Finset.univ fullShare O' ∗ ⌜∀ e < 32, ∀ k < 128, O' (ix2 e k) = if k = 2 * t.val + 1 then G (ix2 (2 * t.val + 1) (c (2 * t.val + 1) + e))
            else if k = 2 * t.val then G (ix2 (2 * t.val) (c (2 * t.val) + e)) else O (ix2 e k)⌝)) :
    iprop(holds (tV d L) A.sw Finset.univ fullShare SW ∗ holds (tV d L) g Finset.univ fullShare G ∗ holds (tV d L) A.och Finset.univ fullShare O)
      ⊢ WP d L (Scf.for lb ub st hok init body) fun _ => iprop(holds (tV d L) A.sw Finset.univ fullShare SW ∗ holds (tV d L) g Finset.univ fullShare G
          ∗ ∃ O', holds (tV d L) A.och Finset.univ fullShare O' ∗ ⌜∀ e < 32, ∀ k < 128, O' (ix2 e k) = G (ix2 k (c k + e))⌝) := by
  iintro ⟨Hs, Hg, Ho⟩
  iapply (Scf.wp_for frame (wpE (defs₀ (F := F)) 𝒱₀ (tV d L) none) Set.univ lb ub st hok init body
    (fun n (_ : BitVec 32) => iprop(holds (tV d L) A.sw Finset.univ fullShare SW ∗ holds (tV d L) g Finset.univ fullShare G
      ∗ ∃ O', holds (tV d L) A.och Finset.univ fullShare O' ∗ ⌜∀ e < 32, ∀ k < 128, k < 2 * n → O' (ix2 e k) = G (ix2 k (c k + e))⌝)) ?_)
  rotate_left
  · isplitl [Hs Hg Ho]
    · isplitl [Hs]; · iexact Hs
      isplitl [Hg]; · iexact Hg
      iexists O; isplitl [Ho]; · iexact Ho
      ipureintro; intro e _ k _ h; omega
    · iintro %_ ⟨Hs, Hg, %O', Ho, %h⟩
      isplitl [Hs]; · iexact Hs
      isplitl [Hg]; · iexact Hg
      iexists O'; isplitl [Ho]; · iexact Ho
      ipureintro; intro e he k hk; exact h e he k hk (by rw [ht]; omega)
  · intro t acc
    iintro ⟨Hs, Hg, %O', Ho, %h⟩
    iapply (wp_wand_r frame (wpE (defs₀ (F := F)) 𝒱₀ (tV d L) none) Set.univ)
    isplitl [Hs Hg Ho]
    · iapply (hstep t acc O')
      isplitl [Hs]; · iexact Hs
      isplitl [Hg]; · iexact Hg
      iexact Ho
    iintro %_ ⟨Hs, Hg, %O₂, Ho, %h₂⟩
    isplitl [Hs]; · iexact Hs
    isplitl [Hg]; · iexact Hg
    iexists O₂; isplitl [Ho]; · iexact Ho
    ipureintro; intro e he k hk hlt
    rw [h₂ e he k hk]
    split
    · rename_i hh; rw [hh]
    · split
      · rename_i hh; rw [hh]
      · exact h e he k hk (by omega)

/-- Columns whose numbers the small table serves, those of rank below `p` put down. -/
def Put (w : ℕ → BitVec 32) (T : S16x128.Idx → Elt F .f32) (p : ℕ) (B O : S32x128.Idx → Elt F .f32) : Prop :=
  ∀ e < 32, ∀ k < 128, O (ix2 e k) = if isT (w k) ∧ rank w k < p then T (ix2 (slot (w k) / 4) (slot (w k) % 4 * 32 + e)) else B (ix2 e k)

theorem Put.step {w : ℕ → BitVec 32} {T : S16x128.Idx → Elt F .f32} {p j : ℕ} {B O O' : S32x128.Idx → Elt F .f32} {x : ℕ → Elt F .f32}
    (h : Put w T p B O) (hT : isT (w j)) (hr : rank w j = p) (h' : ∀ e < 32, ∀ k < 128, O' (ix2 e k) = if k = j then x e else O (ix2 e k))
    (hx : ∀ e < 32, x e = T (ix2 (slot (w j) / 4) (slot (w j) % 4 * 32 + e))) : Put w T (p + 1) B O' := by
  intro e he k hk
  rw [h' e he k hk]
  by_cases hkj : k = j
  · subst hkj; rw [if_pos rfl, if_pos ⟨hT, by omega⟩]; exact hx e he
  · rw [if_neg hkj, h e he k hk]
    by_cases hk' : isT (w k)
    · have hne : rank w k ≠ p := fun hh => hkj (rank_inj w hk' hT (by omega))
      by_cases hlt : rank w k < p
      · rw [if_pos ⟨hk', hlt⟩, if_pos ⟨hk', by omega⟩]
      · rw [if_neg (fun hh => hlt hh.2), if_neg (fun hh => by have := hh.2; omega)]
    · rw [if_neg (fun hh => hk' hh.1), if_neg (fun hh => hk' hh.1)]

/-- The tables a lane is served from. -/
abbrev Served (d : Dev nD) (L : grid1.Coords) (A : Args) (POS TSL : S352.Idx → Elt F .i32) (G : S16x128.Idx → Elt F .f32) : sProp 𝕄 :=
  iprop(holds (tV d L) A.pos Finset.univ fullShare POS ∗ holds (tV d L) A.tsl Finset.univ fullShare TSL ∗ holds (tV d L) A.tg Finset.univ fullShare G)

/-- Up to sixteen lanes of the small table put down. -/
theorem wp_lanes {w : ℕ → BitVec 32} {T : S16x128.Idx → Elt F .f32} {POS TSL : S352.Idx → Elt F .i32} {G : S16x128.Idx → Elt F .f32} {B O : S32x128.Idx → Elt F .f32} {p n : ℕ}
    (ht : Scf.trips lb ub st = n) (hn : p + n ≤ rank w 128)
    (hG : ∀ u < n, ∀ j < 128, isT (w j) → rank w j = p + u → ∀ c < 128, G (ix2 u c) = T (ix2 (slot (w j) / 4) c))
    (hstep : ∀ (t : Fin (Scf.trips lb ub st)) acc O, ∀ j < 128, isT (w j) → rank w j = p + t.val →
      iprop(Served d L A POS TSL G ∗ holds (tV d L) A.och Finset.univ fullShare O)
      ⊢ WP d L (body t acc) fun _ => iprop(Served d L A POS TSL G
          ∗ ∃ O', holds (tV d L) A.och Finset.univ fullShare O' ∗ ⌜∀ e < 32, ∀ k < 128, O' (ix2 e k) = if k = j then G (ix2 t.val (slot (w j) % 4 * 32 + e)) else O (ix2 e k)⌝))
    (hO : Put w T p B O) :
    iprop(Served d L A POS TSL G ∗ holds (tV d L) A.och Finset.univ fullShare O)
      ⊢ WP d L (Scf.for lb ub st hok init body) fun _ => iprop(Served d L A POS TSL G
          ∗ ∃ O', holds (tV d L) A.och Finset.univ fullShare O' ∗ ⌜Put w T (p + n) B O'⌝) := by
  iintro ⟨Hs, Ho⟩
  iapply (Scf.wp_for frame (wpE (defs₀ (F := F)) 𝒱₀ (tV d L) none) Set.univ lb ub st hok init body
    (fun i (_ : BitVec 32) => iprop(Served d L A POS TSL G ∗ ∃ O', holds (tV d L) A.och Finset.univ fullShare O' ∗ ⌜Put w T (p + i) B O'⌝)) ?_)
  rotate_left
  · isplitl [Hs Ho]
    · isplitl [Hs]; · iexact Hs
      iexists O; isplitl [Ho]; · iexact Ho
      ipureintro; exact hO
    · rw [ht]; iintro %_ H; iexact H
  · intro t acc
    have htl : t.val < n := ht ▸ t.isLt
    obtain ⟨j, hj, hT, hr⟩ := rank_surj w (show p + t.val < rank w 128 by omega)
    iintro ⟨Hs, %O', Ho, %h⟩
    iapply (wp_wand_r frame (wpE (defs₀ (F := F)) 𝒱₀ (tV d L) none) Set.univ)
    isplitl [Hs Ho]
    · iapply (hstep t acc O' j hj hT hr)
      isplitl [Hs]; · iexact Hs
      iexact Ho
    iintro %_ ⟨Hs, %O₂, Ho, %h₂⟩
    isplitl [Hs]; · iexact Hs
    iexists O₂; isplitl [Ho]; · iexact Ho
    ipureintro
    exact h.step hT hr h₂ fun e he => hG t.val htl j hj hT hr _ (by omega)

/-- The tables of both halves. -/
abbrev Tables (d : Dev nD) (L : grid1.Coords) (A : Args) (SW : S2x144.Idx → Elt F .i32) (POS TSL TI4 : S352.Idx → Elt F .i32) : sProp 𝕄 :=
  iprop(holds (tV d L) A.sw Finset.univ fullShare SW ∗ holds (tV d L) A.pos Finset.univ fullShare POS ∗ holds (tV d L) A.tsl Finset.univ fullShare TSL
    ∗ holds (tV d L) A.ti4 Finset.univ fullShare TI4)

/-- The table building after `n` numbers. -/
def Building (d : Dev nD) (L : grid1.Coords) (A : Args) (R : Finset S2x128.Idx) (b off n : ℕ) (w : ℕ → BitVec 32) (XW : S50x512.Idx → Elt F .i32)
    (SW : S2x144.Idx → Elt F .i32) (POS TSL TI4 : S352.Idx → Elt F .i32) (acc : BitVec 32) : sProp 𝕄 :=
  iprop(⌜acc = BitVec.ofNat 32 (rank w n)⌝
        ∗ holds (tV d L) A.xw Finset.univ fullShare XW ∗ ∃ I4' SW' POS' TSL' TI4', ⌜(∀ j < n, I4' (ix2 b j) = BitVec.ofNat 32 (srow (w j)))
            ∧ Tab b off n w SW' POS' TSL' TI4' ∧ Same b off SW SW' POS TSL TI4 POS' TSL' TI4'⌝
        ∗ holds (tV d L) A.i4 R fullShare I4' ∗ Tables d L A SW' POS' TSL' TI4')

theorem wp_build {R : Finset S2x128.Idx} {b off : ℕ} {w : ℕ → BitVec 32} {XW : S50x512.Idx → Elt F .i32} {I4 : S2x128.Idx → Elt F .i32}
    {SW : S2x144.Idx → Elt F .i32} {POS TSL TI4 : S352.Idx → Elt F .i32} (ht : Scf.trips lb ub st = 8) (hi : init = 0#32)
    (hstep : ∀ (t : Fin (Scf.trips lb ub st)) acc I4 SW POS TSL TI4, acc = BitVec.ofNat 32 (rank w (16 * t.val)) → (∀ j < 16 * t.val, I4 (ix2 b j) = BitVec.ofNat 32 (srow (w j))) →
      Tab b off (16 * t.val) w SW POS TSL TI4 →
      iprop(holds (tV d L) A.xw Finset.univ fullShare XW ∗ holds (tV d L) A.i4 R fullShare I4 ∗ Tables d L A SW POS TSL TI4)
        ⊢ WP d L (body t acc) (Building d L A R b off (16 * t.val + 16) w XW SW POS TSL TI4)) :
    iprop(holds (tV d L) A.xw Finset.univ fullShare XW ∗ holds (tV d L) A.i4 R fullShare I4 ∗ Tables d L A SW POS TSL TI4)
      ⊢ WP d L (Scf.for lb ub st hok init body) (Building d L A R b off 128 w XW SW POS TSL TI4) := by
  iintro ⟨Hx, Hi, Ht⟩
  iapply (Scf.wp_for frame (wpE (defs₀ (F := F)) 𝒱₀ (tV d L) none) Set.univ lb ub st hok init body
    (fun i (acc : BitVec 32) => Building d L A R b off (16 * i) w XW SW POS TSL TI4 acc) ?_)
  rotate_left
  · isplitl [Hx Hi Ht]
    · unfold Building
      isplitr; · ipureintro; rw [hi]; rfl
      isplitl [Hx]; · iexact Hx
      iexists I4; iexists SW; iexists POS; iexists TSL; iexists TI4
      isplitr
      · ipureintro; exact ⟨fun j hj => absurd hj (by omega), ⟨fun j hj => absurd hj (by omega), fun j hj => absurd hj (by omega)⟩, Same.refl ..⟩
      isplitl [Hi]; · iexact Hi
      iexact Ht
    · rw [ht]; iintro %_ H; iexact H
  · intro t acc
    unfold Building
    iintro ⟨%hacc, Hx, %I4', %SW', %POS', %TSL', %TI4', %h, Hi, Ht⟩
    iapply (wp_wand_r frame (wpE (defs₀ (F := F)) 𝒱₀ (tV d L) none) Set.univ)
    isplitl [Hx Hi Ht]
    · iapply (hstep t acc I4' SW' POS' TSL' TI4' hacc h.1 h.2.1)
      isplitl [Hx]; · iexact Hx
      isplitl [Hi]; · iexact Hi
      iexact Ht
    unfold Building
    iintro %acc' ⟨%hacc', Hx, %I2, %SW2, %POS2, %TSL2, %TI2, %h2, Hi, Ht⟩
    isplitr; · ipureintro; exact hacc'
    isplitl [Hx]; · iexact Hx
    iexists I2; iexists SW2; iexists POS2; iexists TSL2; iexists TI2
    isplitr
    · ipureintro; exact ⟨h2.1, h2.2.1, h.2.2.trans h2.2.2⟩
    isplitl [Hi]; · iexact Hi
    iexact Ht

end Loops

end Cert.Proof.Lookup
-- ==== Proof.Steps.lean ====
/-
  A chunk's gather sent off — the tables closed, the count written, the rows asked for — and the small table's rows
  fetched sixteen at a time and put down.
-/
module

public import proofs.«01_k».proof.Proof.Loops

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

/-- The packed table and the small table as the subcores name them. -/
abbrev Args.rmS (A : Args) : Memref sig .scVector .hbm S250004x128 .f32 :=
  A.rm.slice (Rect.unit (s := S250004x128) ![0, 0] S250004x128.size inb_S250004x128_S250004x128_0_0) (fun _ => rfl)
abbrev Args.tlS (A : Args) : Memref sig .scVector .hbm S16x128 .f32 :=
  A.tl.slice (Rect.unit (s := S16x128) ![0, 0] S16x128.size inb_S16x128_S16x128_0_0) (fun _ => rfl)

/-- What the copies' sizes are: the gathers' rows add up, and no copy is empty. -/
structure Args.Sizes (A : Args) : Prop where
  g0 : ∀ h : S250004x128.Gathers 0 S128x128, ∑ j, (A.g0.slice (S128x128.rowRect h.axis' j) (S128x128.stride_rowRect h.axis' j)).view.dmaCredit = A.g0.view.dmaCredit
  g1 : ∀ h : S250004x128.Gathers 0 S128x128, ∑ j, (A.g1.slice (S128x128.rowRect h.axis' j) (S128x128.stride_rowRect h.axis' j)).view.dmaCredit = A.g1.view.dmaCredit
  tg : ∀ h : S16x128.Gathers 0 S16x128, ∑ j, (A.tg.slice (S16x128.rowRect h.axis' j) (S16x128.stride_rowRect h.axis' j)).view.dmaCredit = A.tg.view.dmaCredit
  xw : 0 < A.xw.view.dmaCredit
  out : ∀ o h, 0 < ((A.out.slice (Rect.unit (s := S50x32x16384) o S1x32x128.size h) (fun _ => rfl)).squeeze S32x128 squeezes_S1x32x128_S32x128).view.dmaCredit

/-- Row `b` of the row numbers. -/
abbrev rowRect (ob : Fin 2 → ℕ) (h : ∀ x, ob x + S1x128.size x ≤ S2x128.size x) : Rect S2x128 := Rect.unit (s := S2x128) ob S1x128.size h
abbrev Args.list (A : Args) (ob : Fin 2 → ℕ) (h : ∀ x, ob x + S1x128.size x ≤ S2x128.size x) : Memref sig .scVector .vmem S128 .i32 :=
  (A.i4.slice (rowRect ob h) (fun _ => rfl)).squeeze S128 squeezes_S1x128_S128

theorem reshape_128 {j : ℕ} (hj : j < 128) : Shape.reshapeEquiv squeezes_S1x128_S128.numel_eq (ix1 j : S128.Idx) = (ix2 0 j : S1x128.Idx) := by
  refine Shape.reshapeEquiv_eq_of_rowMajor _ ?_
  have h1 : (ix1 j : S128.Idx) 0 = ⟨j, hj⟩ := Fin.ext (ix1_val hj)
  rw [show (S128.rowMajor (ix1 j)).val = _ from Shape.rowMajor_val_one _, show (S1x128.rowMajor (ix2 0 j)).val = _ from Shape.rowMajor_val_two _]
  rw [ix1_val hj, ix2_val0 (by omega), ix2_val1 hj]; omega

/-- What a gather of the rows of the numbers `w` brings. -/
def Got (d : Dev nD) (L : grid1.Coords) (A : Args) (g : Memref sig .scVector .vmem S128x128 .f32) (b : ℕ) (S : Finset S2x128.Idx) (q : PosShare TreeShare)
    (fs : Buf (Elt F) (A.rmS.view.loc (tV d L))) (w : ℕ → BitVec 32) : sProp 𝕄 :=
  iprop(∃ G I4, ⌜∀ j < 128, ∀ c < 128, G (ix2 j c) = A.rmS.view.read (Elt F) fs (ix2 (srow (w j)) c)⌝ ∗ holds (tV d L) g Finset.univ fullShare G
    ∗ (A.rmS.view.loc (tV d L) ↦[A.rmS.view.set]{q} fs) ∗ holds (tV d L) A.i4 S fullShare I4)

def issueTail {L : grid1.Coords} (A : Args) (g : Memref sig .scVector .vmem S128x128 .f32) (sem : DmaSems sig S_) (ob : Fin 2 → ℕ)
    (hcv : ∀ x, ob x + S1x16.size x ≤ S2x16.size x) (hi4 : ∀ x, ob x + S1x128.size x ≤ S2x128.size x)
    (C : BitVec 32 → Prop) (dC : ∀ v, Decidable (C v)) (o : BitVec 32 → Fin 1 → ℕ) (ho : ∀ v, C v → ∀ x, o v x + S16.size x ≤ S352.size x)
    (zp : IVec S16 32) (pay : BitVec 32 → IVec S16 32) (v : BitVec 32) : PR F L PUnit := do
  have hC : C v := (← Prog.lift (TpuEff.assume (C v) (dC v))).down
  let _x : Vec F S16 .i32 ← Prog.lift (.load A.ti4 (Rect.unit (s := S352) (o v) S16.size (ho v hC)).toLoadRect (View.loadsAt_vmem h_S16))
  Prog.lift (.store A.ti4 (Rect.unit (s := S352) (o v) S16.size (ho v hC)) zp Finset.univ (View.stores_vmem_bits_univ h_S16 rfl) (.inl rfl))
  let _y : Vec F S1x16 .i32 ← Prog.lift (.load A.cv (Rect.unit (s := S2x16) ob S1x16.size hcv).toLoadRect (View.loadsAt_vmem h_S1x16))
  Prog.lift (.store A.cv (Rect.unit (s := S2x16) ob S1x16.size hcv) (shapeCast S1x16 (pay v) shapeCasts_S16_S1x16) Finset.univ (View.stores_vmem_bits_univ h_S1x16 rfl) (.inl rfl))
  SparseCore.enqueueIndirectGather rfl A.rmS g gathers_S250004x128_S128x128 (A.list ob hi4) rfl sem.sem (View.wordExact_bits rfl) rfl (Or.inl rfl)
  pure ⟨⟩

theorem wp_issueTail {d : Dev nD} {L : grid1.Coords} {A : Args} {g : Memref sig .scVector .vmem S128x128 .f32} {sem : DmaSems sig S_} {ob : Fin 2 → ℕ}
    {hcv : ∀ x, ob x + S1x16.size x ≤ S2x16.size x} {hi4 : ∀ x, ob x + S1x128.size x ≤ S2x128.size x}
    {C : BitVec 32 → Prop} {dC : ∀ v, Decidable (C v)} {o : BitVec 32 → Fin 1 → ℕ} {ho : ∀ v, C v → ∀ x, o v x + S16.size x ≤ S352.size x}
    {zp : IVec S16 32} {pay : BitVec 32 → IVec S16 32} {v : BitVec 32} {b p : ℕ} {w : ℕ → BitVec 32} {q : PosShare TreeShare} {fs : Buf (Elt F) (A.rmS.view.loc (tV d L))}
    {I4 : S2x128.Idx → Elt F .i32} {CV : S2x16.Idx → Elt F .i32} {TI4 : S352.Idx → Elt F .i32} {X : S128x128.Idx → Elt F .f32}
    (hN : ∀ h : S250004x128.Gathers 0 S128x128, ∑ j, (g.slice (S128x128.rowRect h.axis' j) (S128x128.stride_rowRect h.axis' j)).view.dmaCredit = g.view.dmaCredit)
    (hob : ob = ![b, 0]) (hb : b < 2) (hC : C v) (hov : o v = ![p]) (hz : ∀ l < 16, zp (ix1 l) = 0#32) (hpay : ∀ l < 16, pay v (ix1 l) = v)
    (hw : ∀ j < 128, (w j).toNat < 1000000) (hI : ∀ j < 128, I4 (ix2 b j) = BitVec.ofNat 32 (srow (w j))) :
    iprop((A.rmS.view.loc (tV d L) ↦[A.rmS.view.set]{q} fs) ∗ holds (tV d L) A.i4 (rowRect ob hi4).set fullShare I4 ∗ holds (tV d L) A.cv Finset.univ fullShare CV
        ∗ holds (tV d L) A.ti4 Finset.univ fullShare TI4 ∗ holds (tV d L) g Finset.univ fullShare X ∗ semVal ((tV d L), SemLoc.dma sem.sem) 0)
      ⊢ WP d L (issueTail (L := L) A g sem ob hcv hi4 C dC o ho zp pay v) fun _ => iprop(
        Fly d L sem.sem g.view.dmaCredit (Got d L A g b (rowRect ob hi4).set q fs w)
        ∗ ∃ CV' TI4', ⌜(∀ r < 2, ∀ c < 16, CV' (ix2 r c) = if r = b then v else CV (ix2 r c))
            ∧ ∀ r < 352, TI4' (ix1 r) = if p ≤ r ∧ r < p + 16 then 0#32 else TI4 (ix1 r)⌝
        ∗ holds (tV d L) A.cv Finset.univ fullShare CV' ∗ holds (tV d L) A.ti4 Finset.univ fullShare TI4') := by
  subst hob
  unfold issueTail
  iintro ⟨Hrm, Hi, Hc, Ht, Hg, Hs⟩
  iapply (wp_check (c := tV d L) hC)
  iapply (holds_load (c := tV d L) (Finset.subset_univ _)) $$ Ht; iintro Ht
  iapply (holds_store (c := tV d L) (Finset.subset_univ _)) $$ Ht; iintro Ht
  iapply (holds_load (c := tV d L) (Finset.subset_univ _)) $$ Hc; iintro Hc
  iapply (holds_store (c := tV d L) (Finset.subset_univ _)) $$ Hc; iintro Hc
  ihave Hi := (holds_slice (rowRect ![b, 0] hi4) (fun _ => rfl)) $$ Hi
  ihave Hi := (holds_squeeze squeezes_S1x128_S128) $$ Hi
  have hl : ∀ j < 128, I4 ((rowRect ![b, 0] hi4).emb (Shape.reshapeEquiv squeezes_S1x128_S128.numel_eq (ix1 j : S128.Idx))) = BitVec.ofNat 32 (srow (w j)) := fun j hj => by
    rw [reshape_128 hj, emb_unit2, ix2_val0 (by omega), ix2_val1 hj, ← hI j hj]
    show I4 (ix2 (b + 0) (0 + j)) = _
    rw [Nat.add_zero, Nat.zero_add]
  have hlt : ∀ j < 128, (BitVec.ofNat 32 (srow (w j))).toNat = srow (w j) := fun j hj => by
    have := srow_lt (hw j hj); rw [BitVec.toNat_ofNat]; omega
  iapply (wp_gatherFly (d := d) (L := L) (hg := gathers_S250004x128_S128x128)
    (I := fun x : S128.Idx => I4 ((rowRect ![b, 0] hi4).emb (Shape.reshapeEquiv squeezes_S1x128_S128.numel_eq x))) (hN _) (by decide)
    (forall_ix1 fun j hj => by rw [hl j hj, hlt j hj]; exact srow_lt (hw j hj))) $$ [Hrm Hg Hi Hs]
  · isplitl [Hrm]; · iexact Hrm
    isplitl [Hg]; · iexact Hg
    isplitl [Hi]; · iexact Hi
    iexact Hs
  iintro Hf
  iapply wp_done
  isplitl [Hf]
  · iapply (Transfers.Flight_mono ?_) $$ Hf
    unfold Got
    iintro ⟨Hg, Hrm, Hi⟩
    iexists _; iexists I4
    isplitr [Hg Hrm Hi]; rotate_left
    · isplitl [Hg]; · iexact Hg
      isplitl [Hrm]; · iexact Hrm
      ihave Hi := (holds_unsqueeze (c := tV d L) (m := A.i4.slice (rowRect ![b, 0] hi4) (fun _ => rfl)) (X := fun y => I4 ((rowRect ![b, 0] hi4).emb y)) squeezes_S1x128_S128 (fun j => rfl)) $$ Hi
      iapply (holds_unslice (c := tV d L) (m := A.i4) (X := I4) (rowRect ![b, 0] hi4) (fun _ => rfl) (fun j => rfl)) $$ Hi
    · ipureintro; intro j hj c hc
      refine (gather_at hj hc).trans ?_
      rw [hl j hj, hlt j hj]
  iexists _; iexists _
  isplitr [Hc Ht]; rotate_left
  · isplitl [Hc]; · iexact Hc
    iexact Ht
  · ipureintro
    refine ⟨fun r hr c hc => ?_, fun r hr => ?_⟩
    · rw [upd_unit2 _ _ hr hc]
      by_cases h : r = b
      · rw [if_pos (show r = (![b, 0] : Fin 2 → ℕ) 0 ∧ (![b, 0] : Fin 2 → ℕ) 1 ≤ c ∧ c < (![b, 0] : Fin 2 → ℕ) 1 + 16 from ⟨h, Nat.zero_le _, by show c < 0 + 16; omega⟩), if_pos h]
        exact (cast_16 _ _ (by show c - 0 < 16; omega)).trans (hpay _ (by show c - 0 < 16; omega))
      · rw [if_neg (fun hh => h hh.1), if_neg h]
    · rw [upd_unit1 _ _ hr, hov]
      by_cases h : p ≤ r ∧ r < p + 16
      · rw [if_pos h, if_pos (show (![p] : Fin 1 → ℕ) 0 ≤ r ∧ r < (![p] : Fin 1 → ℕ) 0 + 16 from h)]
        exact hz _ (by show r - p < 16; omega)
      · rw [if_neg h, if_neg (show ¬((![p] : Fin 1 → ℕ) 0 ≤ r ∧ r < (![p] : Fin 1 → ℕ) 0 + 16) from h)]

/-! ## The tables of a chunk -/

/-- The tables' values. -/
structure Tb where
  sw : S2x144.Idx → BitVec 32
  cv : S2x16.Idx → BitVec 32
  pos : S352.Idx → BitVec 32
  tsl : S352.Idx → BitVec 32
  ti4 : S352.Idx → BitVec 32

/-- Half `b` of the tables is the numbers `w`'s. -/
def Ready (b : ℕ) (w : ℕ → BitVec 32) (t : Tb) : Prop :=
  Tab b (176 * b) 128 w t.sw t.pos t.tsl t.ti4 ∧ (∀ i < 16, t.ti4 (ix1 (176 * b + rank w 128 + i)) = 0#32) ∧ ∀ c < 16, t.cv (ix2 b c) = BitVec.ofNat 32 (rank w 128)

abbrev Held (d : Dev nD) (L : grid1.Coords) (A : Args) (t : Tb) : sProp 𝕄 :=
  iprop(Tables (F := F) d L A t.sw t.pos t.tsl t.ti4 ∗ holds (tV d L) A.cv Finset.univ fullShare t.cv)

theorem Ready.close {b : ℕ} {w : ℕ → BitVec 32} {t t' : Tb} {ti4 : S352.Idx → BitVec 32} (hb : b < 2)
    (h : Tab b (176 * b) 128 w t'.sw t'.pos t'.tsl ti4) (hs : Same b (176 * b) t.sw t'.sw t.pos t.tsl t.ti4 t'.pos t'.tsl ti4)
    (hc : ∀ r < 2, ∀ c < 16, t'.cv (ix2 r c) = if r = b then BitVec.ofNat 32 (rank w 128) else t.cv (ix2 r c))
    (hz : ∀ r < 352, t'.ti4 (ix1 r) = if 176 * b + rank w 128 ≤ r ∧ r < 176 * b + rank w 128 + 16 then 0#32 else ti4 (ix1 r)) :
    Ready b w t' ∧ ∀ b' < 2, b' ≠ b → ∀ w', Ready b' w' t → Ready b' w' t' := by
  have hr128 := rank_le w 128
  refine ⟨⟨⟨h.1, fun j hj hT => ?_⟩, fun i hi => ?_, fun c hc' => ?_⟩, fun b' hb' hne w' h' => ?_⟩
  · have h1 := h.2 j hj hT
    have h2 := rank_lt w hT hj
    refine ⟨h1.1, h1.2.1, ?_⟩
    rw [hz _ (by omega), if_neg (by omega)]; exact h1.2.2
  · rw [hz _ (by omega), if_pos (by omega)]
  · rw [hc b hb c hc', if_pos rfl]
  · have hr' := rank_le w' 128
    have hout : ∀ r, r < 176 → ¬(176 * b ≤ 176 * b' + r ∧ 176 * b' + r < 176 * b + 176) := fun r hr => by omega
    have hsm : ∀ r, r < 176 → t'.pos (ix1 (176 * b' + r)) = t.pos (ix1 (176 * b' + r)) ∧ t'.tsl (ix1 (176 * b' + r)) = t.tsl (ix1 (176 * b' + r)) ∧ t'.ti4 (ix1 (176 * b' + r)) = t.ti4 (ix1 (176 * b' + r)) := fun r hr => by
      have := hs.2 (176 * b' + r) (by omega) (hout r hr)
      refine ⟨this.1, this.2.1, ?_⟩
      rw [hz _ (by omega), if_neg (by have := hout r hr; omega)]; exact this.2.2
    refine ⟨⟨fun j hj => (hs.1 b' hb' hne j (by omega)).trans (h'.1.1 j hj), fun j hj hT => ?_⟩, fun i hi => ?_, fun c hc' => ?_⟩
    · have h1 := h'.1.2 j hj hT
      have h2 := rank_lt w' hT hj
      have h3 := hsm (rank w' j) (by omega)
      exact ⟨h3.1.trans h1.1, h3.2.1.trans h1.2.1, h3.2.2.trans h1.2.2⟩
    · have := (hsm (rank w' 128 + i) (by omega)).2.2
      rw [← Nat.add_assoc] at this; exact this.trans (h'.2.1 i hi)
    · rw [hc b' hb' c hc', if_neg hne]; exact h'.2.2 c hc'

section Issue

variable {d : Dev nD} {L : grid1.Coords} {A : Args} {lb ub st : BitVec 32} {hok : Scf.OK lb ub st} {init : BitVec 32}
  {body : Fin (Scf.trips lb ub st) → BitVec 32 → PR F L (BitVec 32)}

theorem wp_issue {g : Memref sig .scVector .vmem S128x128 .f32} {sem : DmaSems sig S_} {ob : Fin 2 → ℕ}
    {hcv : ∀ x, ob x + S1x16.size x ≤ S2x16.size x} {hi4 : ∀ x, ob x + S1x128.size x ≤ S2x128.size x}
    {C : BitVec 32 → Prop} {dC : ∀ v, Decidable (C v)} {o : BitVec 32 → Fin 1 → ℕ} {ho : ∀ v, C v → ∀ x, o v x + S16.size x ≤ S352.size x}
    {zp : IVec S16 32} {pay : BitVec 32 → IVec S16 32} {b : ℕ} {w : ℕ → BitVec 32} {q : PosShare TreeShare} {fs : Buf (Elt F) (A.rmS.view.loc (tV d L))}
    {XW : S50x512.Idx → Elt F .i32} {I4 : S2x128.Idx → Elt F .i32} {X : S128x128.Idx → Elt F .f32} {t : Tb}
    (hN : ∀ h : S250004x128.Gathers 0 S128x128, ∑ j, (g.slice (S128x128.rowRect h.axis' j) (S128x128.stride_rowRect h.axis' j)).view.dmaCredit = g.view.dmaCredit)
    (hob : ob = ![b, 0]) (hb : b < 2) (hC : ∀ n < 129, C (BitVec.ofNat 32 n)) (hov : ∀ n < 129, o (BitVec.ofNat 32 n) = ![176 * b + n])
    (hz : ∀ l < 16, zp (ix1 l) = 0#32) (hpay : ∀ v, ∀ l < 16, pay v (ix1 l) = v) (hw : ∀ j < 128, (w j).toNat < 1000000)
    (ht : Scf.trips lb ub st = 8) (hi : init = 0#32)
    (hstep : ∀ (t : Fin (Scf.trips lb ub st)) acc I4 SW POS TSL TI4, acc = BitVec.ofNat 32 (rank w (16 * t.val)) → (∀ j < 16 * t.val, I4 (ix2 b j) = BitVec.ofNat 32 (srow (w j))) →
      Tab b (176 * b) (16 * t.val) w SW POS TSL TI4 →
      iprop(holds (tV d L) A.xw Finset.univ fullShare XW ∗ holds (tV d L) A.i4 (rowRect ob hi4).set fullShare I4 ∗ Tables d L A SW POS TSL TI4)
        ⊢ WP d L (body t acc) (Building d L A (rowRect ob hi4).set b (176 * b) (16 * t.val + 16) w XW SW POS TSL TI4)) :
    iprop(holds (tV d L) A.xw Finset.univ fullShare XW ∗ (A.rmS.view.loc (tV d L) ↦[A.rmS.view.set]{q} fs) ∗ holds (tV d L) A.i4 (rowRect ob hi4).set fullShare I4
        ∗ Held d L A t ∗ holds (tV d L) g Finset.univ fullShare X ∗ semVal ((tV d L), SemLoc.dma sem.sem) 0)
      ⊢ WP d L (Scf.for lb ub st hok init body >>= fun v => issueTail (L := L) A g sem ob hcv hi4 C dC o ho zp pay v) fun _ => iprop(
        holds (tV d L) A.xw Finset.univ fullShare XW ∗ Fly d L sem.sem g.view.dmaCredit (Got d L A g b (rowRect ob hi4).set q fs w)
        ∗ ∃ t', ⌜Ready b w t' ∧ ∀ b' < 2, b' ≠ b → ∀ w', Ready b' w' t → Ready b' w' t'⌝ ∗ Held d L A t') := by
  iintro ⟨Hx, Hrm, Hi, ⟨Ht, Hc⟩, Hg, Hs⟩
  iapply (wp_seq (wp_build (d := d) (L := L) (A := A) ht hi hstep)) $$ [Hx Hi Ht]
  · isplitl [Hx]; · iexact Hx
    isplitl [Hi]; · iexact Hi
    iexact Ht
  unfold Building
  iintro %v ⟨%hv, Hx, %I4', %SW', %POS', %TSL', %TI4', %h, Hi, ⟨Hsw, Hpos, Htsl, Hti⟩⟩
  subst hv
  have hrl := rank_le w 128
  iapply (wp_wand_r frame (wpE (defs₀ (F := F)) 𝒱₀ (tV d L) none) Set.univ)
  isplitl [Hrm Hi Hc Hti Hg Hs]
  · iapply (wp_issueTail (d := d) (L := L) (w := w) hN hob hb (hC _ (by omega)) (hov _ (by omega)) hz (hpay _) hw h.1)
    isplitl [Hrm]; · iexact Hrm
    isplitl [Hi]; · iexact Hi
    isplitl [Hc]; · iexact Hc
    isplitl [Hti]; · iexact Hti
    isplitl [Hg]; · iexact Hg
    iexact Hs
  iintro %_ ⟨Hf, %CV', %TI', %h', Hc, Hti⟩
  isplitl [Hx]; · iexact Hx
  isplitl [Hf]; · iexact Hf
  iexists (⟨SW', CV', POS', TSL', TI'⟩ : Tb)
  isplitr
  · ipureintro; exact Ready.close hb h.2.1 h.2.2 h'.1 h'.2
  isplitr [Hc]; rotate_left; · iexact Hc
  isplitl [Hsw]; · iexact Hsw
  isplitl [Hpos]; · iexact Hpos
  isplitl [Htsl]; · iexact Htsl
  iexact Hti

end Issue

end Cert.Proof.Lookup
-- ==== Proof.Blocks.lean ====
/-
  A gathered chunk put down: its rows as columns, then the small table's rows fetched sixteen at a time and put down over
  them.
-/
module

public import proofs.«01_k».proof.Proof.Steps

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

def block {L : grid1.Coords} (A : Args) (o : Fin 1 → ℕ) (ho : ∀ x, o x + S16.size x ≤ S352.size x) (p : PR F L (BitVec 32)) (q : BitVec 32 → PR F L (BitVec 32)) : PR F L (BitVec 32) := do
  SparseCore.enqueueIndirectGather rfl A.tlS A.tg gathers_S16x128_S16x128 (A.ti4.slice (Rect.unit (s := S352) o S16.size ho) (fun _ => rfl)) rfl A.st.sem (View.wordExact_bits rfl) rfl (Or.inl rfl)
  SparseCore.waitIndirectGather A.st.sem A.tlS A.tg (View.wordExact_bits rfl) A.htg.wordExact
  let v ← p
  let _w ← q v
  pure 0#32

section Blocks

variable {d : Dev nD} {L : grid1.Coords} {A : Args} {O : CellTallies nD τ sig HX} {W : Waits sig HX}

/-- What putting down the small table's rows uses. -/
def Small (d : Dev nD) (L : grid1.Coords) (A : Args) (POS TSL TI4 : S352.Idx → Elt F .i32) (q : PosShare TreeShare) (fs : Buf (Elt F) (A.tlS.view.loc (tV d L)))
    (O : CellTallies nD τ sig HX) (W : Waits sig HX) : sProp 𝕄 :=
  iprop((A.tlS.view.loc (tV d L) ↦[A.tlS.view.set]{q} fs) ∗ holds (tV d L) A.pos Finset.univ fullShare POS ∗ holds (tV d L) A.tsl Finset.univ fullShare TSL
    ∗ holds (tV d L) A.ti4 Finset.univ fullShare TI4 ∗ (∃ G, holds (tV d L) A.tg Finset.univ fullShare G) ∗ semVal ((tV d L), SemLoc.dma A.st.sem) 0 ∗ OW d L O W)

theorem wp_block {o : Fin 1 → ℕ} {ho : ∀ x, o x + S16.size x ≤ S352.size x} {pp : PR F L (BitVec 32)} {qq : BitVec 32 → PR F L (BitVec 32)}
    {POS TSL TI4 : S352.Idx → Elt F .i32} {q : PosShare TreeShare} {fs : Buf (Elt F) (A.tlS.view.loc (tV d L))} {w : ℕ → BitVec 32} {p p' po : ℕ} {B X : S32x128.Idx → Elt F .f32}
    (hN : A.Sizes) (eo : o = ![po]) (hin : ∀ u < 16, (TI4 (ix1 (po + u)) : BitVec 32).toNat < 16)
    (hp : ∀ G X, (∀ u < 16, ∀ c < 128, G (ix2 u c) = A.tlS.view.read (Elt F) fs (ix2 (TI4 (ix1 (po + u)) : BitVec 32).toNat c)) → Put w (A.tlS.view.read (Elt F) fs) p B X →
      iprop(Served d L A POS TSL G ∗ holds (tV d L) A.och Finset.univ fullShare X)
        ⊢ WP d L pp fun _ => iprop(Served d L A POS TSL G ∗ ∃ O', holds (tV d L) A.och Finset.univ fullShare O' ∗ ⌜Put w (A.tlS.view.read (Elt F) fs) p' B O'⌝))
    (hq : ∀ v (R : sProp 𝕄), R ⊢ WP d L (qq v) fun _ => R)
    (hX : Put w (A.tlS.view.read (Elt F) fs) p B X) :
    iprop(Small d L A POS TSL TI4 q fs O W ∗ holds (tV d L) A.och Finset.univ fullShare X)
      ⊢ WP d L (block (L := L) A o ho pp qq) fun _ => iprop(Small d L A POS TSL TI4 q fs O W
          ∗ ∃ O', holds (tV d L) A.och Finset.univ fullShare O' ∗ ⌜Put w (A.tlS.view.read (Elt F) fs) p' B O'⌝) := by
  unfold block Small
  iintro ⟨⟨Htl, Hp, Hs, Ht, ⟨%G₀, Hg⟩, Hv, HO⟩, Ho⟩
  ihave Ht := (holds_split (Finset.subset_univ (Rect.unit (s := S352) o S16.size ho).set)) $$ Ht
  icases Ht with ⟨Ht, Htr⟩
  ihave Ht := (holds_slice (Rect.unit (s := S352) o S16.size ho) (fun _ => rfl)) $$ Ht
  have hl : ∀ u < 16, TI4 ((Rect.unit (s := S352) o S16.size ho).emb (ix1 u : S16.Idx)) = TI4 (ix1 (po + u)) := fun u hu => by
    rw [emb_unit1, ix1_val hu, eo]; rfl
  iapply (wp_gatherFly (d := d) (L := L) (hg := gathers_S16x128_S16x128) (I := fun x : S16.Idx => TI4 ((Rect.unit (s := S352) o S16.size ho).emb x)) (hN.tg _) (by decide)
    (forall_ix1 fun u hu => by rw [hl u hu]; exact hin u hu)) $$ [Htl Hg Ht Hv]
  · isplitl [Htl]; · iexact Htl
    isplitl [Hg]; · iexact Hg
    isplitl [Ht]; · iexact Ht
    iexact Hv
  iintro Hf
  iapply (wp_waitFly (d := d) (L := L) (O := O) (W := W) (dst := A.tg) rfl) $$ [Hf HO]
  · isplitl [Hf]; · iexact Hf
    iexact HO
  iintro ⟨⟨Hg, Htl, Ht⟩, Hv, HO⟩
  ihave Ht := (holds_unslice (c := tV d L) (m := A.ti4) (q := fullShare) (X := TI4) (Y := fun x : S16.Idx => TI4 ((Rect.unit (s := S352) o S16.size ho).emb x)) (Rect.unit (s := S352) o S16.size ho) (fun _ => rfl) (fun j => rfl)) $$ Ht
  ihave Ht := (holds_join (c := tV d L) (m := A.ti4) (X := TI4) (Finset.subset_univ (Rect.unit (s := S352) o S16.size ho).set)) $$ [Ht Htr]
  · isplitl [Ht]; · iexact Ht
    iexact Htr
  iapply (wp_seq (hp _ X (fun u hu c hc => (gather_at (g := A.tlS.view.read (Elt F) fs) (I := fun x : S16.Idx => TI4 ((Rect.unit (s := S352) o S16.size ho).emb x)) hu hc).trans
    (congrArg (fun v : BitVec 32 => A.tlS.view.read (Elt F) fs (ix2 v.toNat c)) (hl u hu))) hX)) $$ [Hp Hs Hg Ho]
  · isplitl [Hp Hs Hg]
    · isplitl [Hp]; · iexact Hp
      isplitl [Hs]; · iexact Hs
      iexact Hg
    iexact Ho
  iintro %v ⟨⟨Hp, Hs, Hg⟩, Ho⟩
  iapply (wp_seq (hq v _)) $$ Ho
  iintro %_ Ho
  iapply wp_done
  isplitr [Ho]; rotate_left; · iexact Ho
  isplitl [Htl]; · iexact Htl
  isplitl [Hp]; · iexact Hp
  isplitl [Hs]; · iexact Hs
  isplitl [Ht]; · iexact Ht
  isplitl [Hg]; · iexists _; iexact Hg
  isplitl [Hv]; · iexact Hv
  iexact HO

variable {lb ub st : BitVec 32} {hok : Scf.OK lb ub st} {init : BitVec 32} {body : Fin (Scf.trips lb ub st) → BitVec 32 → PR F L (BitVec 32)}

theorem wp_blocks {R : sProp 𝕄} {w : ℕ → BitVec 32} {T : S16x128.Idx → Elt F .f32} {n : ℕ} {B : S32x128.Idx → Elt F .f32}
    (ht : Scf.trips lb ub st = (n + 15) / 16)
    (hstep : ∀ (t : Fin (Scf.trips lb ub st)) acc X, Put w T (16 * t.val) B X →
      iprop(R ∗ holds (tV d L) A.och Finset.univ fullShare X)
      ⊢ WP d L (body t acc) fun _ => iprop(R ∗ ∃ O', holds (tV d L) A.och Finset.univ fullShare O' ∗ ⌜Put w T (16 * t.val + min 16 (n - 16 * t.val)) B O'⌝)) :
    iprop(R ∗ holds (tV d L) A.och Finset.univ fullShare B)
      ⊢ WP d L (Scf.for lb ub st hok init body) fun _ => iprop(R ∗ ∃ O', holds (tV d L) A.och Finset.univ fullShare O' ∗ ⌜Put w T n B O'⌝) := by
  iintro ⟨HR, Ho⟩
  iapply (Scf.wp_for frame (wpE (defs₀ (F := F)) 𝒱₀ (tV d L) none) Set.univ lb ub st hok init body
    (fun i (_ : BitVec 32) => iprop(R ∗ ∃ O', holds (tV d L) A.och Finset.univ fullShare O' ∗ ⌜Put w T (min (16 * i) n) B O'⌝)) ?_)
  rotate_left
  · isplitl [HR Ho]
    · isplitl [HR]; · iexact HR
      iexists B; isplitl [Ho]; · iexact Ho
      ipureintro; intro e he k hk
      rw [if_neg (fun hh => by have := hh.2; omega)]
    · rw [ht, show min (16 * ((n + 15) / 16)) n = n by omega]; iintro %_ H; iexact H
  · intro t acc
    have htl : t.val < (n + 15) / 16 := ht ▸ t.isLt
    iintro ⟨HR, %O', Ho, %h⟩
    rw [show min (16 * t.val) n = 16 * t.val by omega] at h
    iapply (wp_wand_r frame (wpE (defs₀ (F := F)) 𝒱₀ (tV d L) none) Set.univ)
    isplitl [HR Ho]
    · iapply (hstep t acc O' h)
      isplitl [HR]; · iexact HR
      iexact Ho
    rw [show 16 * t.val + min 16 (n - 16 * t.val) = min (16 * (t.val + 1)) n by omega]
    iintro %_ H; iexact H

end Blocks

/-! ## The chunk's value -/

/-- Entry `e` of the row the word `v` names: of the small table, or of the packed one. -/
def val (RM : S250004x128.Idx → Elt F .f32) (T : S16x128.Idx → Elt F .f32) (v : BitVec 32) (e : ℕ) : Elt F .f32 :=
  if isT v then T (ix2 (slot v / 4) (slot v % 4 * 32 + e)) else RM (ix2 (srow v) (scol v + e))

theorem val_of_put {RM : S250004x128.Idx → Elt F .f32} {T : S16x128.Idx → Elt F .f32} {w : ℕ → BitVec 32} {G : S128x128.Idx → Elt F .f32} {B O : S32x128.Idx → Elt F .f32}
    (hG : ∀ j < 128, ∀ c < 128, G (ix2 j c) = RM (ix2 (srow (w j)) c)) (hB : ∀ e < 32, ∀ k < 128, B (ix2 e k) = G (ix2 k (scol (w k) + e)))
    (hO : Put w T (rank w 128) B O) : ∀ e < 32, ∀ k < 128, O (ix2 e k) = val RM T (w k) e := by
  intro e he k hk
  unfold val
  rw [hO e he k hk]
  by_cases hT : isT (w k)
  · rw [if_pos ⟨hT, rank_lt w hT hk⟩, if_pos hT]
  · rw [if_neg (fun hh => hT hh.1), if_neg hT, hB e he k hk, hG k hk _ (by have := @scol_le (w k); omega)]

/-! ## A chunk put down -/

/-- The first word of a loaded vector, by the second name the program has for it. -/
abbrev first (x : Vec F S1x16 .i32) : BitVec 32 := extractAt ![0] (k1_pay80 x) inpos_S1_p0
theorem first_eq (x : Vec F S1x16 .i32) : first x = x (ix2 0 0) := (congrArg (shapeCast S16 x shapeCasts_S1x16_S16) (eq_ix1 (r := 0) rfl)).trans (cast_1x16 x 0 (by omega))

def eat {L : grid1.Coords} (A : Args) (g : Memref sig .scVector .vmem S128x128 .f32) (hg : g.IsWhole) (sem : DmaSems sig S_) (ob : Fin 2 → ℕ)
    (hcv : ∀ x, ob x + S1x16.size x ≤ S2x16.size x) (C : BitVec 32 → Prop) (dC : ∀ v, Decidable (C v)) (p : PR F L (BitVec 32))
    (q : ∀ v, C v → PR F L (BitVec 32)) (r : ∀ v, C v → BitVec 32 → PR F L (BitVec 32)) : PR F L PUnit := do
  SparseCore.waitIndirectGather sem.sem A.rmS g (View.wordExact_bits rfl) hg.wordExact
  let x : Vec F S1x16 .i32 ← Prog.lift (.load A.cv (Rect.unit (s := S2x16) ob S1x16.size hcv).toLoadRect (View.loadsAt_vmem h_S1x16))
  have hC : C (first x) := (← Prog.lift (TpuEff.assume (C (first x)) (dC (first x)))).down
  let _a ← p
  let v ← q (first x) hC
  let _b ← r (first x) hC v
  pure ⟨⟩

section Eat

variable {d : Dev nD} {L : grid1.Coords} {A : Args} {O : CellTallies nD τ sig HX} {W : Waits sig HX}

theorem wp_eat {g : Memref sig .scVector .vmem S128x128 .f32} {hg : g.IsWhole} {sem : DmaSems sig S_} {ob : Fin 2 → ℕ}
    {hcv : ∀ x, ob x + S1x16.size x ≤ S2x16.size x} {C : BitVec 32 → Prop} {dC : ∀ v, Decidable (C v)} {pp : PR F L (BitVec 32)}
    {qq : ∀ v, C v → PR F L (BitVec 32)} {rr : ∀ v, C v → BitVec 32 → PR F L (BitVec 32)} {b : ℕ} {S : Finset S2x128.Idx} {q qt : PosShare TreeShare}
    {fs : Buf (Elt F) (A.rmS.view.loc (tV d L))} {ft : Buf (Elt F) (A.tlS.view.loc (tV d L))} {w : ℕ → BitVec 32} {t : Tb} {X : S32x128.Idx → Elt F .f32}
    (hob : ob = ![b, 0]) (hC : ∀ n < 129, C (BitVec.ofNat 32 n)) (hr : Ready b w t)
    (hp : ∀ G X, iprop(holds (tV d L) A.sw Finset.univ fullShare t.sw ∗ holds (tV d L) g Finset.univ fullShare G ∗ holds (tV d L) A.och Finset.univ fullShare X)
      ⊢ WP d L pp fun _ => iprop(holds (tV d L) A.sw Finset.univ fullShare t.sw ∗ holds (tV d L) g Finset.univ fullShare G
          ∗ ∃ O', holds (tV d L) A.och Finset.univ fullShare O' ∗ ⌜∀ e < 32, ∀ k < 128, O' (ix2 e k) = G (ix2 k (scol (w k) + e))⌝))
    (hq : ∀ hC B, iprop(Small d L A t.pos t.tsl t.ti4 qt ft O W ∗ holds (tV d L) A.och Finset.univ fullShare B)
      ⊢ WP d L (qq (BitVec.ofNat 32 (rank w 128)) hC) fun _ => iprop(Small d L A t.pos t.tsl t.ti4 qt ft O W
          ∗ ∃ O', holds (tV d L) A.och Finset.univ fullShare O' ∗ ⌜Put w (A.tlS.view.read (Elt F) ft) (rank w 128) B O'⌝))
    (hrr : ∀ hC v (R : sProp 𝕄), R ⊢ WP d L (rr (BitVec.ofNat 32 (rank w 128)) hC v) fun _ => R) :
    iprop(Fly d L sem.sem g.view.dmaCredit (Got d L A g b S q fs w) ∗ holds (tV d L) A.sw Finset.univ fullShare t.sw ∗ holds (tV d L) A.cv Finset.univ fullShare t.cv
        ∗ Small d L A t.pos t.tsl t.ti4 qt ft O W ∗ holds (tV d L) A.och Finset.univ fullShare X)
      ⊢ WP d L (eat (L := L) A g hg sem ob hcv C dC pp qq rr) fun _ => iprop(
        (∃ G, holds (tV d L) g Finset.univ fullShare G) ∗ (A.rmS.view.loc (tV d L) ↦[A.rmS.view.set]{q} fs) ∗ (∃ I4, holds (tV d L) A.i4 S fullShare I4)
        ∗ semVal ((tV d L), SemLoc.dma sem.sem) 0
        ∗ holds (tV d L) A.sw Finset.univ fullShare t.sw ∗ holds (tV d L) A.cv Finset.univ fullShare t.cv
        ∗ Small d L A t.pos t.tsl t.ti4 qt ft O W
        ∗ ∃ O', holds (tV d L) A.och Finset.univ fullShare O' ∗ ⌜∀ e < 32, ∀ k < 128, O' (ix2 e k) = val (A.rmS.view.read (Elt F) fs) (A.tlS.view.read (Elt F) ft) (w k) e⌝) := by
  unfold eat Small
  iintro ⟨Hf, Hsw, Hcv, ⟨Htl, Hp, Hs, Ht, Hg0, Hv, HO⟩, Ho⟩
  iapply (wp_waitFly (d := d) (L := L) (O := O) (W := W) (dst := g) rfl) $$ [Hf HO]
  · isplitl [Hf]; · iexact Hf
    iexact HO
  unfold Got
  iintro ⟨⟨%G, %I4, %hG, Hg, Hrm, Hi⟩, Hv0, HO⟩
  iapply (holds_load (c := tV d L) (Finset.subset_univ _)) $$ Hcv; iintro Hcv
  have hrl := rank_le w 128
  have hfst : first (F := F) (fun j => t.cv ((Rect.unit (s := S2x16) ob S1x16.size hcv).emb j)) = BitVec.ofNat 32 (rank w 128) := by
    rw [first_eq, emb_unit2, ← hr.2.2 0 (by omega)]; subst hob; rfl
  have hc0 : C (first (F := F) (fun j => t.cv ((Rect.unit (s := S2x16) ob S1x16.size hcv).emb j))) := by rw [hfst]; exact hC _ (by omega)
  iapply (wp_check (c := tV d L) hc0)
  iapply (wp_seq (hp G X)) $$ [Hsw Hg Ho]
  · isplitl [Hsw]; · iexact Hsw
    isplitl [Hg]; · iexact Hg
    iexact Ho
  iintro %_ ⟨Hsw, Hg, %B, Ho, %hB⟩
  have hq' : ∀ v, v = BitVec.ofNat 32 (rank w 128) → ∀ hC B, iprop(Small d L A t.pos t.tsl t.ti4 qt ft O W ∗ holds (tV d L) A.och Finset.univ fullShare B)
      ⊢ WP d L (qq v hC) fun _ => iprop(Small d L A t.pos t.tsl t.ti4 qt ft O W
          ∗ ∃ O', holds (tV d L) A.och Finset.univ fullShare O' ∗ ⌜Put w (A.tlS.view.read (Elt F) ft) (rank w 128) B O'⌝) := fun v hv => by subst hv; exact hq
  have hrr' : ∀ v, v = BitVec.ofNat 32 (rank w 128) → ∀ hC v' (R : sProp 𝕄), R ⊢ WP d L (rr v hC v') fun _ => R := fun v hv => by subst hv; exact hrr
  iapply (wp_seq (hq' _ hfst _ B)) $$ [Htl Hp Hs Ht Hg0 Hv HO Ho]
  · unfold Small
    isplitr [Ho]; rotate_left; · iexact Ho
    isplitl [Htl]; · iexact Htl
    isplitl [Hp]; · iexact Hp
    isplitl [Hs]; · iexact Hs
    isplitl [Ht]; · iexact Ht
    isplitl [Hg0]; · iexact Hg0
    isplitl [Hv]; · iexact Hv
    iexact HO
  iintro %v ⟨HS, %O', Ho, %hO'⟩
  iapply (wp_seq (hrr' _ hfst _ v _)) $$ Ho
  iintro %_ Ho
  iapply wp_done
  isplitl [Hg]; · iexists G; iexact Hg
  isplitl [Hrm]; · iexact Hrm
  isplitl [Hi]; · iexists I4; iexact Hi
  isplitl [Hv0]; · iexact Hv0
  isplitl [Hsw]; · iexact Hsw
  isplitl [Hcv]; · iexact Hcv
  isplitl [HS]
  · unfold Small; iexact HS
  iexists O'; isplitl [Ho]; · iexact Ho
  ipureintro; exact val_of_put hG hB hO'

end Eat

end Cert.Proof.Lookup
-- ==== Proof.Offs.lean ====
/-
  The lookup's offsets and trip counts in closed form, over every trip and every count up to 128.
-/
module

public import proofs.«01_k».proof.Proof.Vec

@[expose] public section

noncomputable section

namespace Cert.Proof.Lookup

open Cert.KernelIdeal Cert.KernelIdeal.Gen
open Idealize.ShloMosaic

theorem t1_trips : k1_t1_loop.trips = 8 := by decide
theorem t3_trips : k1_t3_loop.trips = 8 := by decide
theorem t11_trips : k1_t11_loop.trips = 8 := by decide
theorem t4_trips : k1_t4_loop.trips = 64 := by decide
theorem t12_trips : k1_t12_loop.trips = 64 := by decide
theorem t2_trips : k1_t2_loop.trips = 100 := by decide

theorem off2_eq : ∀ t : Fin k1_t1_loop.trips, k1_off2 t = ![0, 16 * t.val] := by decide +kernel
theorem off6_eq : ∀ (t2 : Fin k1_t2_loop.trips) (t : Fin k1_t3_loop.trips), k1_off6 t2 t = ![(2 * t2.val + 1) / 4, (2 * t2.val + 1) % 4 * 128 + 16 * t.val] := by decide +kernel
theorem off31_eq : ∀ (t2 : Fin k1_t2_loop.trips) (t : Fin k1_t11_loop.trips), k1_off31 t2 t = ![(2 * t2.val + 2) / 4, (2 * t2.val + 2) % 4 * 128 + 16 * t.val] := by decide +kernel
theorem off30_eq : ∀ (a : Fin 2) (b : Fin 16) (t2 : Fin k1_t2_loop.trips), ∀ L : grid1.Coords, L 0 = a → L 1 = b → k1_off30 L t2 = ![(2 * t2.val) / 4, 0, (1024 * b.val + 512 * a.val) + (2 * t2.val) % 4 * 128] := by
  have h : ∀ (a : Fin 2) (b : Fin 16) (t2 : Fin k1_t2_loop.trips), k1_off30 (fun | 0 => a | 1 => b) t2 = ![(2 * t2.val) / 4, 0, (1024 * b.val + 512 * a.val) + (2 * t2.val) % 4 * 128] := by decide +kernel
  intro a b t2 L ha hb
  have hL : L = (fun | 0 => a | 1 => b) := by funext k; match k with
    | 0 => exact ha
    | 1 => exact hb
  rw [hL]; exact h a b t2
theorem off55_eq : ∀ (a : Fin 2) (b : Fin 16) (t2 : Fin k1_t2_loop.trips), ∀ L : grid1.Coords, L 0 = a → L 1 = b → k1_off55 L t2 = ![(2 * t2.val + 1) / 4, 0, (1024 * b.val + 512 * a.val) + (2 * t2.val + 1) % 4 * 128] := by
  have h : ∀ (a : Fin 2) (b : Fin 16) (t2 : Fin k1_t2_loop.trips), k1_off55 (fun | 0 => a | 1 => b) t2 = ![(2 * t2.val + 1) / 4, 0, (1024 * b.val + 512 * a.val) + (2 * t2.val + 1) % 4 * 128] := by decide +kernel
  intro a b t2 L ha hb
  have hL : L = (fun | 0 => a | 1 => b) := by funext k; match k with
    | 0 => exact ha
    | 1 => exact hb
  rw [hL]; exact h a b t2
theorem cond1_eq : ∀ t2 : Fin k1_t2_loop.trips, k1_cond1 t2 = 1#1 := by decide +kernel
theorem cond2_eq : ∀ t2 : Fin k1_t2_loop.trips, k1_cond2 t2 = 1#1 ↔ t2.val < 99 := by decide +kernel

theorem off5_eq : ∀ n : Fin 129, k1_off5 (BitVec.ofNat 32 n.val) = ![0 + n.val] := by decide +kernel
theorem off9_eq : ∀ n : Fin 129, k1_off9 (BitVec.ofNat 32 n.val) = ![176 + n.val] := by decide +kernel
theorem off34_eq : ∀ n : Fin 129, k1_off34 (BitVec.ofNat 32 n.val) = ![0 + n.val] := by decide +kernel

theorem off11_eq : ∀ (t : Fin k1_t4_loop.trips) (q : Fin 4), k1_off11 t (BitVec.ofNat 32 (q.val * 32)) = ![2 * t.val, q.val * 32] := by decide +kernel
theorem off12_eq : ∀ (t : Fin k1_t4_loop.trips) (q : Fin 4), k1_off12 t (BitVec.ofNat 32 (q.val * 32)) = ![2 * t.val, q.val * 32 + 16] := by decide +kernel
theorem off14_eq : ∀ (t : Fin k1_t4_loop.trips) (q : Fin 4), k1_off14 t (BitVec.ofNat 32 (q.val * 32)) = ![2 * t.val + 1, q.val * 32] := by decide +kernel
theorem off15_eq : ∀ (t : Fin k1_t4_loop.trips) (q : Fin 4), k1_off15 t (BitVec.ofNat 32 (q.val * 32)) = ![2 * t.val + 1, q.val * 32 + 16] := by decide +kernel
theorem off36_eq : ∀ (t : Fin k1_t12_loop.trips) (q : Fin 4), k1_off36 t (BitVec.ofNat 32 (q.val * 32)) = ![2 * t.val, q.val * 32] := by decide +kernel
theorem off37_eq : ∀ (t : Fin k1_t12_loop.trips) (q : Fin 4), k1_off37 t (BitVec.ofNat 32 (q.val * 32)) = ![2 * t.val, q.val * 32 + 16] := by decide +kernel
theorem off39_eq : ∀ (t : Fin k1_t12_loop.trips) (q : Fin 4), k1_off39 t (BitVec.ofNat 32 (q.val * 32)) = ![2 * t.val + 1, q.val * 32] := by decide +kernel
theorem off40_eq : ∀ (t : Fin k1_t12_loop.trips) (q : Fin 4), k1_off40 t (BitVec.ofNat 32 (q.val * 32)) = ![2 * t.val + 1, q.val * 32 + 16] := by decide +kernel
theorem chk5_of : ∀ (t : Fin k1_t4_loop.trips) (q : Fin 4), k1_chk5 t (BitVec.ofNat 32 (q.val * 32)) := by decide +kernel
theorem chk8_of : ∀ (t : Fin k1_t4_loop.trips) (q : Fin 4), k1_chk8 t (BitVec.ofNat 32 (q.val * 32)) := by decide +kernel
theorem chk26_of : ∀ (t : Fin k1_t12_loop.trips) (q : Fin 4), k1_chk26 t (BitVec.ofNat 32 (q.val * 32)) := by decide +kernel
theorem chk29_of : ∀ (t : Fin k1_t12_loop.trips) (q : Fin 4), k1_chk29 t (BitVec.ofNat 32 (q.val * 32)) := by decide +kernel

theorem chk11_of : ∀ n : Fin 129, k1_chk11 (BitVec.ofNat 32 n.val) := by decide +kernel
theorem chk32_of : ∀ n : Fin 129, k1_chk32 (BitVec.ofNat 32 n.val) := by decide +kernel
theorem t5_trips : ∀ n : Fin 129, (k1_t5_loop (BitVec.ofNat 32 n.val)).trips = (n.val + 15) / 16 := by decide +kernel
theorem t13_trips : ∀ n : Fin 129, (k1_t13_loop (BitVec.ofNat 32 n.val)).trips = (n.val + 15) / 16 := by decide +kernel
theorem t6_trips : ∀ (n : Fin 129) (t : Fin (k1_t5_loop (BitVec.ofNat 32 n.val)).trips), (k1_t6_loop (BitVec.ofNat 32 n.val) t).trips = min 16 (n.val - 16 * t.val) := by decide +kernel
theorem t14_trips : ∀ (n : Fin 129) (t : Fin (k1_t13_loop (BitVec.ofNat 32 n.val)).trips), (k1_t14_loop (BitVec.ofNat 32 n.val) t).trips = min 16 (n.val - 16 * t.val) := by decide +kernel
theorem t7_trips : ∀ (n : Fin 129) (t : Fin (k1_t5_loop (BitVec.ofNat 32 n.val)).trips), (k1_t7_loop (BitVec.ofNat 32 n.val) t).trips = 0 := by decide +kernel
theorem t15_trips : ∀ (n : Fin 129) (t : Fin (k1_t13_loop (BitVec.ofNat 32 n.val)).trips), (k1_t15_loop (BitVec.ofNat 32 n.val) t).trips = 0 := by decide +kernel
theorem t8_trips : ∀ n : Fin 129, (k1_t8_loop (BitVec.ofNat 32 n.val)).trips = 0 := by decide +kernel
theorem t16_trips : ∀ n : Fin 129, (k1_t16_loop (BitVec.ofNat 32 n.val)).trips = 0 := by decide +kernel
theorem off16_eq : ∀ (n : Fin 129) (t : Fin (k1_t5_loop (BitVec.ofNat 32 n.val)).trips), k1_off16 (BitVec.ofNat 32 n.val) t = ![0 + 16 * t.val] := by decide +kernel
theorem off41_eq : ∀ (n : Fin 129) (t : Fin (k1_t13_loop (BitVec.ofNat 32 n.val)).trips), k1_off41 (BitVec.ofNat 32 n.val) t = ![176 + 16 * t.val] := by decide +kernel
theorem off17_eq : ∀ (n : Fin 129) (t : Fin (k1_t5_loop (BitVec.ofNat 32 n.val)).trips) (u : Fin (k1_t6_loop (BitVec.ofNat 32 n.val) t).trips),
    k1_off17 (BitVec.ofNat 32 n.val) t u = ![0 + (16 * t.val + u.val)] := by decide +kernel
theorem off42_eq : ∀ (n : Fin 129) (t : Fin (k1_t13_loop (BitVec.ofNat 32 n.val)).trips) (u : Fin (k1_t14_loop (BitVec.ofNat 32 n.val) t).trips),
    k1_off42 (BitVec.ofNat 32 n.val) t u = ![176 + (16 * t.val + u.val)] := by decide +kernel

/-- A lane's row and columns in the sixteen rows read from the small table. -/
theorem lane_row : ∀ u : Fin 16, (Scalar.indexCast (Scf.iv 0#32 1#32 u.val)).toNat = u.val := by decide +kernel
theorem lane_col : ∀ s : Fin 64, (Scalar.indexCast (Scalar.addi (Scalar.muli (Scalar.andi (BitVec.ofNat 32 s.val) 3#32) 32#32) 0#32)).toNat = s.val % 4 * 32 := by decide +kernel
theorem lane_col' : ∀ s : Fin 64, (Scalar.indexCast (Scalar.addi (Scalar.muli (Scalar.andi (BitVec.ofNat 32 s.val) 3#32) 32#32) 16#32)).toNat = s.val % 4 * 32 + 16 := by decide +kernel

theorem off18_eq (v : BitVec 32) (t : Fin (k1_t5_loop v).trips) (u : Fin (k1_t6_loop v t).trips) (hu : u.val < 16) (s : Fin 64) :
    k1_off18 v t u (BitVec.ofNat 32 s.val) = ![u.val, s.val % 4 * 32] := by
  show ![(Scalar.indexCast (Scf.iv 0#32 1#32 u.val)).toNat, _] = _
  exact congrArg₂ (fun a b : ℕ => ![a, b]) (lane_row ⟨u.val, hu⟩) (lane_col s)
theorem off19_eq (v : BitVec 32) (t : Fin (k1_t5_loop v).trips) (u : Fin (k1_t6_loop v t).trips) (hu : u.val < 16) (s : Fin 64) :
    k1_off19 v t u (BitVec.ofNat 32 s.val) = ![u.val, s.val % 4 * 32 + 16] := by
  show ![(Scalar.indexCast (Scf.iv 0#32 1#32 u.val)).toNat, _] = _
  exact congrArg₂ (fun a b : ℕ => ![a, b]) (lane_row ⟨u.val, hu⟩) (lane_col' s)
theorem off43_eq (v : BitVec 32) (t : Fin (k1_t13_loop v).trips) (u : Fin (k1_t14_loop v t).trips) (hu : u.val < 16) (s : Fin 64) :
    k1_off43 v t u (BitVec.ofNat 32 s.val) = ![u.val, s.val % 4 * 32] := by
  show ![(Scalar.indexCast (Scf.iv 0#32 1#32 u.val)).toNat, _] = _
  exact congrArg₂ (fun a b : ℕ => ![a, b]) (lane_row ⟨u.val, hu⟩) (lane_col s)
theorem off44_eq (v : BitVec 32) (t : Fin (k1_t13_loop v).trips) (u : Fin (k1_t14_loop v t).trips) (hu : u.val < 16) (s : Fin 64) :
    k1_off44 v t u (BitVec.ofNat 32 s.val) = ![u.val, s.val % 4 * 32 + 16] := by
  show ![(Scalar.indexCast (Scf.iv 0#32 1#32 u.val)).toNat, _] = _
  exact congrArg₂ (fun a b : ℕ => ![a, b]) (lane_row ⟨u.val, hu⟩) (lane_col' s)

theorem inRow16 {o0 o1 : Fin 2 → ℕ} {r c : ℕ} (hr : r < 16) (hc : c + 32 ≤ 128) (e0 : o0 = ![r, c]) (e1 : o1 = ![r, c + 16]) :
    (∀ a, o0 a + S1x16.size a ≤ S16x128.size a) ∧ (∀ a, o1 a + S1x16.size a ≤ S16x128.size a) := by
  subst e0; subst e1
  refine ⟨fun a => ?_, fun a => ?_⟩
  · match a with
    | 0 => show r + 1 ≤ 16; omega
    | 1 => show c + 16 ≤ 128; omega
  · match a with
    | 0 => show r + 1 ≤ 16; omega
    | 1 => show c + 16 + 16 ≤ 128; omega

theorem chk12_of (v : BitVec 32) (t : Fin (k1_t5_loop v).trips) (u : Fin (k1_t6_loop v t).trips) (hu : u.val < 16) (s : Fin 64) : k1_chk12 v t u (BitVec.ofNat 32 s.val) :=
  inRow16 hu (by omega) (off18_eq v t u hu s) (off19_eq v t u hu s)
theorem chk33_of (v : BitVec 32) (t : Fin (k1_t13_loop v).trips) (u : Fin (k1_t14_loop v t).trips) (hu : u.val < 16) (s : Fin 64) : k1_chk33 v t u (BitVec.ofNat 32 s.val) :=
  inRow16 hu (by omega) (off43_eq v t u hu s) (off44_eq v t u hu s)

/-! ## The vectors of row and column numbers -/

section Vecs

variable (l : ℕ) (hl : l < 16)
include hl

theorem v2_lane : (iota .scVector S16 32 [0] iota_S16_d0_w32_scVector : IVec S16 32) (ix1 l) = BitVec.ofNat 32 l := iota_lane l hl _

variable {v2 : IVec S16 32} (h2 : ∀ l < 16, v2 (ix1 l) = BitVec.ofNat 32 l)
include h2

theorem rows0 : k1_pay53 v2 (ix1 l) = BitVec.ofNat 32 (0 + l) := by
  show 0#32 + v2 (ix1 l) = _; rw [h2 l hl, Nat.zero_add, BitVec.zero_add]
theorem rows16 : k1_pay55 v2 (ix1 l) = BitVec.ofNat 32 (16 + l) := by
  show BitVec.ofNat 32 16 + v2 (ix1 l) = _; rw [h2 l hl, BitVec.ofNat_add]

end Vecs

theorem col_even : ∀ t : Fin k1_t4_loop.trips, 0#32 + (Scf.iv 0#32 1#32 t.val * 2#32 + 0#32) = BitVec.ofNat 32 (2 * t.val) := by decide +kernel
theorem col_odd : ∀ t : Fin k1_t4_loop.trips, 0#32 + (Scf.iv 0#32 1#32 t.val * 2#32 + 1#32) = BitVec.ofNat 32 (2 * t.val + 1) := by decide +kernel
theorem lanes_at : ∀ t : Fin k1_t1_loop.trips, Scf.iv 0#32 1#32 t.val * 16#32 = BitVec.ofNat 32 (16 * t.val) := by decide +kernel

/-- A first column read from the table is a multiple of 32 below 128. -/
theorem scol_quarter (v : BitVec 32) : ∃ q : Fin 4, scol v = q.val * 32 := by
  unfold scol
  split
  · exact ⟨0, rfl⟩
  · exact ⟨⟨v.toNat % 4, by omega⟩, rfl⟩

end Cert.Proof.Lookup
-- ==== Proof.Inner.lean ====
/-
  The printed loops of the lookup as instances of the templates, each with what it does.
-/
module

public import proofs.«01_k».proof.Proof.Blocks
public import proofs.«01_k».proof.Proof.Offs

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

/-- Number `j` of chunk `n`. -/
def word (XW : S50x512.Idx → BitVec 32) (n j : ℕ) : BitVec 32 := XW (ix2 (n / 4) (n % 4 * 128 + j))

theorem Ready.place {b : ℕ} {w : ℕ → BitVec 32} {t : Tb} (h : Ready b w t) (hw : ∀ j < 128, (w j).toNat < 1000000) {j : ℕ} (hj : j < 128) (hT : isT (w j)) :
    (t.ti4 (ix1 (176 * b + rank w j))).toNat = slot (w j) / 4 := by
  have := slot_lt (hw j hj) hT
  rw [(h.1.2 j hj hT).2.2, BitVec.toNat_ofNat]; omega

theorem Ready.small {b : ℕ} {w : ℕ → BitVec 32} {t : Tb} (h : Ready b w t) (hw : ∀ j < 128, (w j).toNat < 1000000) (hb : b < 2) {p : ℕ} (hp : p < rank w 128 + 16) :
    (t.ti4 (ix1 (176 * b + p))).toNat < 16 := by
  by_cases hlt : p < rank w 128
  · obtain ⟨j, hj, hT, hr⟩ := rank_surj w hlt
    have := slot_lt (hw j hj) hT
    rw [← hr, h.place hw hj hT]; omega
  · have := h.2.1 (p - rank w 128) (by omega)
    rw [show 176 * b + rank w 128 + (p - rank w 128) = 176 * b + p by omega] at this
    rw [this]; decide

section Inner

variable {d : Dev nD} {L : grid1.Coords} {A : Args} {O : CellTallies nD τ sig HX} {W : Waits sig HX}

/-- A loop with no trips. -/
theorem wp_none {lb ub st : BitVec 32} {hok : Scf.OK lb ub st} {init : BitVec 32} {body : Fin (Scf.trips lb ub st) → BitVec 32 → PR F L (BitVec 32)} {R : sProp 𝕄}
    (ht : Scf.trips lb ub st = 0) : R ⊢ WP d L (Scf.for lb ub st hok init body) fun _ => R := by
  iintro HR
  iapply (Scf.wp_for frame (wpE (defs₀ (F := F)) 𝒱₀ (tV d L) none) Set.univ lb ub st hok init body (fun _ _ => R) ?_)
  rotate_left
  · isplitl [HR]; · iexact HR
    iintro %_ H; iexact H
  · intro t; exact absurd t.isLt (by omega)

/-! ## Rows -/

theorem row4 {v2 : IVec S16 32} (h2 : ∀ l < 16, v2 (ix1 l) = BitVec.ofNat 32 l) {SW : S2x144.Idx → Elt F .i32} {w : ℕ → BitVec 32}
    (hS : ∀ j < 128, SW (ix2 0 j) = BitVec.ofNat 32 (scol (w j))) (G : S128x128.Idx → Elt F .f32) (v4 : BitVec 32) (t2 : Fin k1_t2_loop.trips) (v80 : BitVec 32) (t : Fin k1_t4_loop.trips) (acc : BitVec 32) (O : S32x128.Idx → Elt F .f32) :
    iprop(holds (tV d L) A.sw Finset.univ fullShare SW ∗ holds (tV d L) A.g0 Finset.univ fullShare G ∗ holds (tV d L) A.och Finset.univ fullShare O)
      ⊢ WP d L (A.app (k1_t4_body (F := F) L) v2 v4 t2 v80 t acc) fun _ => iprop(holds (tV d L) A.sw Finset.univ fullShare SW ∗ holds (tV d L) A.g0 Finset.univ fullShare G
          ∗ ∃ O', holds (tV d L) A.och Finset.univ fullShare O' ∗ ⌜∀ e < 32, ∀ k < 128, O' (ix2 e k) = if k = 2 * t.val + 1 then G (ix2 (2 * t.val + 1) (scol (w (2 * t.val + 1)) + e))
            else if k = 2 * t.val then G (ix2 (2 * t.val) (scol (w (2 * t.val)) + e)) else O (ix2 e k)⌝) := by
  have htl : t.val < 64 := t4_trips ▸ t.isLt
  obtain ⟨q, hq⟩ := scol_quarter (w (2 * t.val))
  obtain ⟨q', hq'⟩ := scol_quarter (w (2 * t.val + 1))
  have e : (BitVec.ofNat 32 (scol (w (2 * t.val)))).toNat = scol (w (2 * t.val)) := by rw [BitVec.toNat_ofNat]; omega
  have e' : (BitVec.ofNat 32 (scol (w (2 * t.val + 1)))).toNat = scol (w (2 * t.val + 1)) := by rw [BitVec.toNat_ofNat]; omega
  rw [t4_eq]
  have h := wp_rowTrip (F := F) (d := d) (L := L) (sw := A.sw) (g := A.g0) (och := A.och) (hos := k1_off10_inb t) (C := k1_chk5 t) (dC := k1_chk5.dec t) (o0 := k1_off11 t) (o1 := k1_off12 t)
    (h0 := k1_off11_inb t) (h1 := k1_off12_inb t) (ra := k1_pay53 v2) (rb := k1_pay55 v2) (col := k1_pay51 0#32 1#32 t) (dA := k1_chk6.dec _ _) (dB := k1_chk7.dec _ _)
    (hos' := k1_off13_inb t) (C' := k1_chk8 t) (dC' := k1_chk8.dec t) (o0' := k1_off14 t) (o1' := k1_off15 t)
    (h0' := k1_off14_inb t) (h1' := k1_off15_inb t) (ra' := k1_pay82 v2) (rb' := k1_pay84 v2) (col' := k1_pay57 0#32 1#32 t) (dA' := k1_chk9.dec _ _) (dB' := k1_chk10.dec _ _)
    (SW := SW) (G := G) (O := O) (b := 0) (j := 2 * t.val) (w := BitVec.ofNat 32 (scol (w (2 * t.val)))) (w' := BitVec.ofNat 32 (scol (w (2 * t.val + 1))))
    (k1_off10_eq t) (hS _ (by omega)) (by rw [hq]; exact chk5_of t q) (by rw [e, hq]; exact off11_eq t q) (by rw [e, hq]; exact off12_eq t q)
    (fun l hl => rows0 l hl h2) (fun l hl => rows16 l hl h2) (fun l hl => col_even t)
    (k1_off13_eq t) (hS _ (by omega)) (by rw [hq']; exact chk8_of t q') (by rw [e', hq']; exact off14_eq t q') (by rw [e', hq']; exact off15_eq t q')
    (fun l hl => rows0 l hl h2) (fun l hl => rows16 l hl h2) (fun l hl => col_odd t) (by omega)
  rw [e, e'] at h
  exact h

theorem row12 {v2 : IVec S16 32} (h2 : ∀ l < 16, v2 (ix1 l) = BitVec.ofNat 32 l) {SW : S2x144.Idx → Elt F .i32} {w : ℕ → BitVec 32}
    (hS : ∀ j < 128, SW (ix2 1 j) = BitVec.ofNat 32 (scol (w j))) (G : S128x128.Idx → Elt F .f32) (v142 v143 : BitVec 32) (v144 v145 v146 : BitVec 1) (t : Fin k1_t12_loop.trips) (acc : BitVec 32) (O : S32x128.Idx → Elt F .f32) :
    iprop(holds (tV d L) A.sw Finset.univ fullShare SW ∗ holds (tV d L) A.g1 Finset.univ fullShare G ∗ holds (tV d L) A.och Finset.univ fullShare O)
      ⊢ WP d L (A.app (k1_t12_body (F := F) L) v2 v142 v143 v144 v145 v146 t acc) fun _ => iprop(holds (tV d L) A.sw Finset.univ fullShare SW ∗ holds (tV d L) A.g1 Finset.univ fullShare G
          ∗ ∃ O', holds (tV d L) A.och Finset.univ fullShare O' ∗ ⌜∀ e < 32, ∀ k < 128, O' (ix2 e k) = if k = 2 * t.val + 1 then G (ix2 (2 * t.val + 1) (scol (w (2 * t.val + 1)) + e))
            else if k = 2 * t.val then G (ix2 (2 * t.val) (scol (w (2 * t.val)) + e)) else O (ix2 e k)⌝) := by
  have htl : t.val < 64 := t12_trips ▸ t.isLt
  obtain ⟨q, hq⟩ := scol_quarter (w (2 * t.val))
  obtain ⟨q', hq'⟩ := scol_quarter (w (2 * t.val + 1))
  have e : (BitVec.ofNat 32 (scol (w (2 * t.val)))).toNat = scol (w (2 * t.val)) := by rw [BitVec.toNat_ofNat]; omega
  have e' : (BitVec.ofNat 32 (scol (w (2 * t.val + 1)))).toNat = scol (w (2 * t.val + 1)) := by rw [BitVec.toNat_ofNat]; omega
  rw [t12_eq]
  have h := wp_rowTrip (F := F) (d := d) (L := L) (sw := A.sw) (g := A.g1) (och := A.och) (hos := k1_off35_inb t) (C := k1_chk26 t) (dC := k1_chk26.dec t) (o0 := k1_off36 t) (o1 := k1_off37 t)
    (h0 := k1_off36_inb t) (h1 := k1_off37_inb t) (ra := k1_pay74 v2) (rb := k1_pay76 v2) (col := k1_pay72 0#32 1#32 t) (dA := k1_chk27.dec _ _) (dB := k1_chk28.dec _ _)
    (hos' := k1_off38_inb t) (C' := k1_chk29 t) (dC' := k1_chk29.dec t) (o0' := k1_off39 t) (o1' := k1_off40 t)
    (h0' := k1_off39_inb t) (h1' := k1_off40_inb t) (ra' := k1_pay112 v2) (rb' := k1_pay114 v2) (col' := k1_pay78 0#32 1#32 t) (dA' := k1_chk30.dec _ _) (dB' := k1_chk31.dec _ _)
    (SW := SW) (G := G) (O := O) (b := 1) (j := 2 * t.val) (w := BitVec.ofNat 32 (scol (w (2 * t.val)))) (w' := BitVec.ofNat 32 (scol (w (2 * t.val + 1))))
    (k1_off35_eq t) (hS _ (by omega)) (by rw [hq]; exact chk26_of t q) (by rw [e, hq]; exact off36_eq t q) (by rw [e, hq]; exact off37_eq t q)
    (fun l hl => rows0 l hl h2) (fun l hl => rows16 l hl h2) (fun l hl => col_even t)
    (k1_off38_eq t) (hS _ (by omega)) (by rw [hq']; exact chk29_of t q') (by rw [e', hq']; exact off39_eq t q') (by rw [e', hq']; exact off40_eq t q')
    (fun l hl => rows0 l hl h2) (fun l hl => rows16 l hl h2) (fun l hl => col_odd t) (by omega)
  rw [e, e'] at h
  exact h

/-! ## Table building -/

theorem pre1 {v2 : IVec S16 32} (h2 : ∀ l < 16, v2 (ix1 l) = BitVec.ofNat 32 l) {XW : S50x512.Idx → Elt F .i32} {R : Finset S2x128.Idx} (v21 v31 : BitVec 32)
    (hw : ∀ j < 128, (word XW (0) j).toNat < 1000000) (hR : ∀ c < 128, (ix2 0 c : S2x128.Idx) ∈ R)
    (t : Fin k1_t1_loop.trips) (acc : BitVec 32) (I4 : S2x128.Idx → Elt F .i32) (SW : S2x144.Idx → Elt F .i32) (POS TSL TI4 : S352.Idx → Elt F .i32)
    (hacc : acc = BitVec.ofNat 32 (rank (word XW (0)) (16 * t.val))) (hI : ∀ j < 16 * t.val, I4 (ix2 0 j) = BitVec.ofNat 32 (srow (word XW (0) j)))
    (hT : Tab 0 (176 * 0) (16 * t.val) (word XW (0)) SW POS TSL TI4) :
    iprop(holds (tV d L) A.xw Finset.univ fullShare XW ∗ holds (tV d L) A.i4 R fullShare I4 ∗ Tables d L A SW POS TSL TI4)
      ⊢ WP d L (A.app (k1_t1_body (F := F) L) v2 v21 v31 t acc) (Building d L A R 0 (176 * 0) (16 * t.val + 16) (word XW (0)) XW SW POS TSL TI4) := by
  have htl : t.val < 8 := t1_trips ▸ t.isLt
  rw [t1_eq]
  refine wp_preTrip (d := d) (L := L) hw (by omega) (by omega) (by omega) (fun l hl => ?_) (k1_off3_eq t) (k1_off4_eq t) hR
    (fun v h => ⟨h, h, h⟩) (fun l hl => ?_) hacc (fun m l hl => ?_) hI hT
  · rw [off2_eq t]; show XW (ix2 _ _) = XW (ix2 _ _); refine congrArg XW (congrArg₂ ix2 rfl ?_); show 16 * t.val + l = 0 % 4 * 128 + (16 * t.val + l); omega
  · show Scf.iv 0#32 1#32 t.val * 16#32 + v2 (ix1 l) = _
    rw [lanes_at t, h2 l hl, BitVec.ofNat_add]
  · show Scalar.select _ (BitVec.ofNat 32 (176 * 0) + acc + k1_pay2 m (ix1 l) - 1#32) (BitVec.ofNat 32 (176 * 0 + 144) + v2 (ix1 l)) = _
    rw [h2 l hl]

theorem pre3 {v2 : IVec S16 32} (h2 : ∀ l < 16, v2 (ix1 l) = BitVec.ofNat 32 l) {XW : S50x512.Idx → Elt F .i32} {R : Finset S2x128.Idx} (t2 : Fin k1_t2_loop.trips) (v49 : BitVec 32) (h1 : k1_cond1 t2 = 1#1) (v205 v215 : BitVec 32)
    (hw : ∀ j < 128, (word XW (2 * t2.val + 1) j).toNat < 1000000) (hR : ∀ c < 128, (ix2 1 c : S2x128.Idx) ∈ R)
    (t : Fin k1_t3_loop.trips) (acc : BitVec 32) (I4 : S2x128.Idx → Elt F .i32) (SW : S2x144.Idx → Elt F .i32) (POS TSL TI4 : S352.Idx → Elt F .i32)
    (hacc : acc = BitVec.ofNat 32 (rank (word XW (2 * t2.val + 1)) (16 * t.val))) (hI : ∀ j < 16 * t.val, I4 (ix2 1 j) = BitVec.ofNat 32 (srow (word XW (2 * t2.val + 1) j)))
    (hT : Tab 1 (176 * 1) (16 * t.val) (word XW (2 * t2.val + 1)) SW POS TSL TI4) :
    iprop(holds (tV d L) A.xw Finset.univ fullShare XW ∗ holds (tV d L) A.i4 R fullShare I4 ∗ Tables d L A SW POS TSL TI4)
      ⊢ WP d L (A.app (k1_t3_body (F := F) L) v2 t2 v49 h1 v205 v215 t acc) (Building d L A R 1 (176 * 1) (16 * t.val + 16) (word XW (2 * t2.val + 1)) XW SW POS TSL TI4) := by
  have htl : t.val < 8 := t3_trips ▸ t.isLt
  rw [t3_eq]
  refine wp_preTrip (d := d) (L := L) hw (by omega) (by omega) (by omega) (fun l hl => ?_) (k1_off7_eq t) (k1_off8_eq t) hR
    (fun v h => ⟨fun _ => h, fun _ => h, fun _ => h⟩) (fun l hl => ?_) hacc (fun m l hl => ?_) hI hT
  · rw [off6_eq t2 t]; show XW (ix2 _ _) = XW (ix2 _ _); refine congrArg XW (congrArg₂ ix2 rfl ?_); show _ + 16 * t.val + l = _; omega
  · show Scf.iv 0#32 1#32 t.val * 16#32 + v2 (ix1 l) = _
    rw [lanes_at t, h2 l hl, BitVec.ofNat_add]
  · show Scalar.select _ (BitVec.ofNat 32 (176 * 1) + acc + k1_pay2 m (ix1 l) - 1#32) (BitVec.ofNat 32 (176 * 1 + 144) + v2 (ix1 l)) = _
    rw [h2 l hl]

theorem pre11 {v2 : IVec S16 32} (h2 : ∀ l < 16, v2 (ix1 l) = BitVec.ofNat 32 l) {XW : S50x512.Idx → Elt F .i32} {R : Finset S2x128.Idx} (t2 : Fin k1_t2_loop.trips) (v119 : BitVec 32) (h2c : k1_cond2 t2 = 1#1) (v205 v215 : BitVec 32)
    (hw : ∀ j < 128, (word XW (2 * t2.val + 2) j).toNat < 1000000) (hR : ∀ c < 128, (ix2 0 c : S2x128.Idx) ∈ R)
    (t : Fin k1_t11_loop.trips) (acc : BitVec 32) (I4 : S2x128.Idx → Elt F .i32) (SW : S2x144.Idx → Elt F .i32) (POS TSL TI4 : S352.Idx → Elt F .i32)
    (hacc : acc = BitVec.ofNat 32 (rank (word XW (2 * t2.val + 2)) (16 * t.val))) (hI : ∀ j < 16 * t.val, I4 (ix2 0 j) = BitVec.ofNat 32 (srow (word XW (2 * t2.val + 2) j)))
    (hT : Tab 0 (176 * 0) (16 * t.val) (word XW (2 * t2.val + 2)) SW POS TSL TI4) :
    iprop(holds (tV d L) A.xw Finset.univ fullShare XW ∗ holds (tV d L) A.i4 R fullShare I4 ∗ Tables d L A SW POS TSL TI4)
      ⊢ WP d L (A.app (k1_t11_body (F := F) L) v2 t2 v119 h2c v205 v215 t acc) (Building d L A R 0 (176 * 0) (16 * t.val + 16) (word XW (2 * t2.val + 2)) XW SW POS TSL TI4) := by
  have htl : t.val < 8 := t11_trips ▸ t.isLt
  rw [t11_eq]
  refine wp_preTrip (d := d) (L := L) hw (by omega) (by omega) (by omega) (fun l hl => ?_) (k1_off32_eq t) (k1_off33_eq t) hR
    (fun v h => ⟨fun _ => h, fun _ => h, fun _ => h⟩) (fun l hl => ?_) hacc (fun m l hl => ?_) hI hT
  · rw [off31_eq t2 t]; show XW (ix2 _ _) = XW (ix2 _ _); refine congrArg XW (congrArg₂ ix2 rfl ?_); show _ + 16 * t.val + l = _; omega
  · show Scf.iv 0#32 1#32 t.val * 16#32 + v2 (ix1 l) = _
    rw [lanes_at t, h2 l hl, BitVec.ofNat_add]
  · show Scalar.select _ (BitVec.ofNat 32 (176 * 0) + acc + k1_pay2 m (ix1 l) - 1#32) (BitVec.ofNat 32 (176 * 0 + 144) + v2 (ix1 l)) = _
    rw [h2 l hl]

/-! ## The small table's rows -/

theorem block5_eq (v2 : IVec S16 32) (v4 : BitVec 32) (t2 : Fin k1_t2_loop.trips) (v80 v : BitVec 32) (h : k1_chk11 v) (t : Fin (k1_t5_loop v).trips) (acc : BitVec 32) :
    A.app (k1_t5_body (F := F) L) v2 v4 t2 v80 v h t acc = block (F := F) (L := L) A (k1_off16 v t) (k1_off16_inb v h t)
      (Scf.Loop.for (k1_t6_loop v t) (k1_t6_ok v h t) 0#32 (A.app (k1_t6_body (F := F) L) v2 v4 t2 v80 v h t))
      (fun a => Scf.Loop.for (k1_t7_loop v t) (k1_t7_ok v h t) a (A.app (k1_t7_body (F := F) L) v2 v4 t2 v80 v h t)) := rfl

theorem lane6 {v2 : IVec S16 32} (h2 : ∀ l < 16, v2 (ix1 l) = BitVec.ofNat 32 l) {w : ℕ → BitVec 32} {tb : Tb} (hr : Ready 0 w tb) (hw : ∀ j < 128, (w j).toNat < 1000000)
    (v4 : BitVec 32) (t2 : Fin k1_t2_loop.trips) (v80 : BitVec 32) (n : Fin 129) (h : k1_chk11 (BitVec.ofNat 32 n.val)) (t : Fin (k1_t5_loop (BitVec.ofNat 32 n.val)).trips) (u : Fin (k1_t6_loop (BitVec.ofNat 32 n.val) t).trips) (acc : BitVec 32)
    (G : S16x128.Idx → Elt F .f32) (O : S32x128.Idx → Elt F .f32) (j : ℕ) (hj : j < 128) (hT : isT (w j)) (hrk : rank w j = 16 * t.val + u.val) :
    iprop(Served d L A tb.pos tb.tsl G ∗ holds (tV d L) A.och Finset.univ fullShare O)
      ⊢ WP d L (A.app (k1_t6_body (F := F) L) v2 v4 t2 v80 (BitVec.ofNat 32 n.val) h t u acc) fun _ => iprop(Served d L A tb.pos tb.tsl G
          ∗ ∃ O', holds (tV d L) A.och Finset.univ fullShare O' ∗ ⌜∀ e < 32, ∀ k < 128, O' (ix2 e k) = if k = j then G (ix2 u.val (slot (w j) % 4 * 32 + e)) else O (ix2 e k)⌝) := by
  have hu : u.val < 16 := lt_of_lt_of_le u.isLt ((t6_trips n t).le.trans (Nat.min_le_left _ _))
  have hs := slot_lt (hw j hj) hT
  rw [t6_eq]
  iintro ⟨⟨Hp, Hs, Hg⟩, Ho⟩
  iapply (wp_wand_r frame (wpE (defs₀ (F := F)) 𝒱₀ (tV d L) none) Set.univ)
  isplitl [Hp Hs Hg Ho]
  · iapply (wp_laneTrip (d := d) (L := L) (j := j) (r := u.val) (s := slot (w j) % 4 * 32) (off17_eq n t u) (((congrArg (fun x => tb.pos (ix1 (176 * 0 + x))) hrk.symm)).trans (hr.1.2 j hj hT).1)
      ((congrArg (fun x => tb.tsl (ix1 (176 * 0 + x))) hrk.symm).trans (hr.1.2 j hj hT).2.1) (chk12_of _ t u hu ⟨_, hs⟩) (off18_eq _ t u hu ⟨_, hs⟩) (off19_eq _ t u hu ⟨_, hs⟩)
      (fun l hl => rows0 l hl h2) (fun l hl => rows16 l hl h2) hj)
    isplitl [Hp]; · iexact Hp
    isplitl [Hs]; · iexact Hs
    isplitl [Hg]; · iexact Hg
    iexact Ho
  iintro %_ ⟨Hp, Hs, Hg, H⟩
  isplitr [H]; rotate_left; · iexact H
  isplitl [Hp]; · iexact Hp
  isplitl [Hs]; · iexact Hs
  iexact Hg

theorem blocks5 {v2 : IVec S16 32} (hN : A.Sizes) (h2 : ∀ l < 16, v2 (ix1 l) = BitVec.ofNat 32 l) {w : ℕ → BitVec 32} {tb : Tb} (hr : Ready 0 w tb) (hw : ∀ j < 128, (w j).toNat < 1000000)
    {q : PosShare TreeShare} {fs : Buf (Elt F) (A.tlS.view.loc (tV d L))}
    (v4 : BitVec 32) (t2 : Fin k1_t2_loop.trips) (v80 : BitVec 32) (n : Fin 129) (hn : n.val = rank w 128) (h : k1_chk11 (BitVec.ofNat 32 n.val)) (B : S32x128.Idx → Elt F .f32) :
    iprop(Small d L A tb.pos tb.tsl tb.ti4 q fs O W ∗ holds (tV d L) A.och Finset.univ fullShare B)
      ⊢ WP d L (Scf.Loop.for (k1_t5_loop (BitVec.ofNat 32 n.val)) (k1_t5_ok (BitVec.ofNat 32 n.val) h) 0#32 (A.app (k1_t5_body (F := F) L) v2 v4 t2 v80 (BitVec.ofNat 32 n.val) h)) fun _ =>
          iprop(Small d L A tb.pos tb.tsl tb.ti4 q fs O W ∗ ∃ O', holds (tV d L) A.och Finset.univ fullShare O' ∗ ⌜Put w (A.tlS.view.read (Elt F) fs) (rank w 128) B O'⌝) := by
  rw [← hn]
  refine wp_blocks (d := d) (L := L) (A := A) (t5_trips n) fun t acc X hX => ?_
  have htl : t.val < (n.val + 15) / 16 := t5_trips n ▸ t.isLt
  rw [block5_eq]
  refine wp_block (po := 176 * 0 + 16 * t.val) hN (off16_eq n t) (fun u hu => ?_) (fun G X' hG hX' => ?_) (fun v R => wp_none (t7_trips n t)) hX
  · rw [Nat.add_assoc]; exact hr.small hw (by omega) (by omega)
  · refine wp_lanes (d := d) (L := L) (A := A) (t6_trips n t) (by omega) (fun u hu j hj hT hrk c hc => ?_) (fun u acc O j hj hT hrk => ?_) hX'
    · rw [hG u (by omega) c hc, Nat.add_assoc, ← hrk, hr.place hw hj hT]
    · exact lane6 h2 hr hw v4 t2 v80 n h t u acc G O j hj hT hrk

theorem block13_eq (v2 : IVec S16 32) (v : BitVec 32) (h : k1_chk32 v) (t : Fin (k1_t13_loop v).trips) (acc : BitVec 32) :
    A.app (k1_t13_body (F := F) L) v2 v h t acc = block (F := F) (L := L) A (k1_off41 v t) (k1_off41_inb v h t)
      (Scf.Loop.for (k1_t14_loop v t) (k1_t14_ok v h t) 0#32 (A.app (k1_t14_body (F := F) L) v2 v h t))
      (fun a => Scf.Loop.for (k1_t15_loop v t) (k1_t15_ok v h t) a (A.app (k1_t15_body (F := F) L) v2 v h t)) := rfl

theorem lane14 {v2 : IVec S16 32} (h2 : ∀ l < 16, v2 (ix1 l) = BitVec.ofNat 32 l) {w : ℕ → BitVec 32} {tb : Tb} (hr : Ready 1 w tb) (hw : ∀ j < 128, (w j).toNat < 1000000)
     (n : Fin 129) (h : k1_chk32 (BitVec.ofNat 32 n.val)) (t : Fin (k1_t13_loop (BitVec.ofNat 32 n.val)).trips) (u : Fin (k1_t14_loop (BitVec.ofNat 32 n.val) t).trips) (acc : BitVec 32)
    (G : S16x128.Idx → Elt F .f32) (O : S32x128.Idx → Elt F .f32) (j : ℕ) (hj : j < 128) (hT : isT (w j)) (hrk : rank w j = 16 * t.val + u.val) :
    iprop(Served d L A tb.pos tb.tsl G ∗ holds (tV d L) A.och Finset.univ fullShare O)
      ⊢ WP d L (A.app (k1_t14_body (F := F) L) v2  (BitVec.ofNat 32 n.val) h t u acc) fun _ => iprop(Served d L A tb.pos tb.tsl G
          ∗ ∃ O', holds (tV d L) A.och Finset.univ fullShare O' ∗ ⌜∀ e < 32, ∀ k < 128, O' (ix2 e k) = if k = j then G (ix2 u.val (slot (w j) % 4 * 32 + e)) else O (ix2 e k)⌝) := by
  have hu : u.val < 16 := lt_of_lt_of_le u.isLt ((t14_trips n t).le.trans (Nat.min_le_left _ _))
  have hs := slot_lt (hw j hj) hT
  rw [t14_eq]
  iintro ⟨⟨Hp, Hs, Hg⟩, Ho⟩
  iapply (wp_wand_r frame (wpE (defs₀ (F := F)) 𝒱₀ (tV d L) none) Set.univ)
  isplitl [Hp Hs Hg Ho]
  · iapply (wp_laneTrip (d := d) (L := L) (j := j) (r := u.val) (s := slot (w j) % 4 * 32) (off42_eq n t u) (((congrArg (fun x => tb.pos (ix1 (176 * 1 + x))) hrk.symm)).trans (hr.1.2 j hj hT).1)
      ((congrArg (fun x => tb.tsl (ix1 (176 * 1 + x))) hrk.symm).trans (hr.1.2 j hj hT).2.1) (chk33_of _ t u hu ⟨_, hs⟩) (off43_eq _ t u hu ⟨_, hs⟩) (off44_eq _ t u hu ⟨_, hs⟩)
      (fun l hl => rows0 l hl h2) (fun l hl => rows16 l hl h2) hj)
    isplitl [Hp]; · iexact Hp
    isplitl [Hs]; · iexact Hs
    isplitl [Hg]; · iexact Hg
    iexact Ho
  iintro %_ ⟨Hp, Hs, Hg, H⟩
  isplitr [H]; rotate_left; · iexact H
  isplitl [Hp]; · iexact Hp
  isplitl [Hs]; · iexact Hs
  iexact Hg

theorem blocks13 {v2 : IVec S16 32} (hN : A.Sizes) (h2 : ∀ l < 16, v2 (ix1 l) = BitVec.ofNat 32 l) {w : ℕ → BitVec 32} {tb : Tb} (hr : Ready 1 w tb) (hw : ∀ j < 128, (w j).toNat < 1000000)
    {q : PosShare TreeShare} {fs : Buf (Elt F) (A.tlS.view.loc (tV d L))}
     (n : Fin 129) (hn : n.val = rank w 128) (h : k1_chk32 (BitVec.ofNat 32 n.val)) (B : S32x128.Idx → Elt F .f32) :
    iprop(Small d L A tb.pos tb.tsl tb.ti4 q fs O W ∗ holds (tV d L) A.och Finset.univ fullShare B)
      ⊢ WP d L (Scf.Loop.for (k1_t13_loop (BitVec.ofNat 32 n.val)) (k1_t13_ok (BitVec.ofNat 32 n.val) h) 0#32 (A.app (k1_t13_body (F := F) L) v2  (BitVec.ofNat 32 n.val) h)) fun _ =>
          iprop(Small d L A tb.pos tb.tsl tb.ti4 q fs O W ∗ ∃ O', holds (tV d L) A.och Finset.univ fullShare O' ∗ ⌜Put w (A.tlS.view.read (Elt F) fs) (rank w 128) B O'⌝) := by
  rw [← hn]
  refine wp_blocks (d := d) (L := L) (A := A) (t13_trips n) fun t acc X hX => ?_
  have htl : t.val < (n.val + 15) / 16 := t13_trips n ▸ t.isLt
  rw [block13_eq]
  refine wp_block (po := 176 * 1 + 16 * t.val) hN (off41_eq n t) (fun u hu => ?_) (fun G X' hG hX' => ?_) (fun v R => wp_none (t15_trips n t)) hX
  · rw [Nat.add_assoc]; exact hr.small hw (by omega) (by omega)
  · refine wp_lanes (d := d) (L := L) (A := A) (t14_trips n t) (by omega) (fun u hu j hj hT hrk c hc => ?_) (fun u acc O j hj hT hrk => ?_) hX'
    · rw [hG u (by omega) c hc, Nat.add_assoc, ← hrk, hr.place hw hj hT]
    · exact lane14 h2 hr hw  n h t u acc G O j hj hT hrk

end Inner

end Cert.Proof.Lookup
-- ==== Proof.Printed.lean ====
/-
  The printed program of a subcore put as the templates: one step of the loop over pairs of chunks, and the whole.
-/
module

public import proofs.«01_k».proof.Proof.Inner

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

variable (L : grid1.Coords) (A : Args)

def outCopy {L : grid1.Coords} {α : Type} (A : Args) (o : Fin 3 → ℕ) (ho : ∀ x, o x + S1x32x128.size x ≤ S50x32x16384.size x) (sem : DmaSems sig S_) (k : PR F L α) : PR F L α := do
  Prog.lift (.enqueueDma A.och (.here ((A.out.slice (Rect.unit (s := S50x32x16384) o S1x32x128.size ho) (fun _ => rfl)).squeeze S32x128 squeezes_S1x32x128_S32x128)) (.dma sem.sem)
    A.hoch.wordExact ((View.wordExact_bits rfl).reshape _ _) ⟨Or.inl rfl, trivial⟩)
  Prog.lift (.waitDma2 sem.sem A.och ((A.out.slice (Rect.unit (s := S50x32x16384) o S1x32x128.size ho) (fun _ => rfl)).squeeze S32x128 squeezes_S1x32x128_S32x128)
    A.hoch.wordExact ((View.wordExact_bits rfl).reshape _ _))
  k

abbrev issue1 (v2 : IVec S16 32) (t2 : Fin k1_t2_loop.trips) (h1 : k1_cond1 t2 = 1#1) (v49 v205 v215 : BitVec 32) : PR F L PUnit :=
  Scf.Loop.for k1_t3_loop (k1_t3_ok t2 h1) 0#32 (A.app (k1_t3_body (F := F) L) v2 t2 v49 h1 v205 v215)
    >>= issueTail (L := L) A A.g1 A.s1 ![1, 0] inb_S2x16_S1x16_1_0 inb_S2x128_S1x128_1_0 (k1_chk4 t2) (k1_chk4.dec t2) k1_off9 (fun v h => k1_off9_inb t2 v h h1)
        k1_pay47 (fun v => k1_pay79 k1_pay48 (k1_pay49 v))

abbrev issue0 (v2 : IVec S16 32) (t2 : Fin k1_t2_loop.trips) (h2 : k1_cond2 t2 = 1#1) (v119 v205 v215 : BitVec 32) : PR F L PUnit :=
  Scf.Loop.for k1_t11_loop (k1_t11_ok t2 h2) 0#32 (A.app (k1_t11_body (F := F) L) v2 t2 v119 h2 v205 v215)
    >>= issueTail (L := L) A A.g0 A.s0 ![0, 0] inb_S2x16_S1x16_0_0 inb_S2x128_S1x128_0_0 (k1_chk25 t2) (k1_chk25.dec t2) k1_off34 (fun v h => k1_off34_inb t2 v h h2)
        k1_pay68 (fun v => k1_pay109 k1_pay69 (k1_pay70 v))

abbrev first0 (v2 : IVec S16 32) (v21 v31 : BitVec 32) : PR F L PUnit :=
  Scf.Loop.for k1_t1_loop k1_t1_ok 0#32 (A.app (k1_t1_body (F := F) L) v2 v21 v31)
    >>= issueTail (L := L) A A.g0 A.s0 ![0, 0] inb_S2x16_S1x16_0_0 inb_S2x128_S1x128_0_0 k1_chk2 k1_chk2.dec k1_off5 k1_off5_inb k1_pay7 k1_pay8

abbrev eat0 (v2 : IVec S16 32) (v4 : BitVec 32) (t2 : Fin k1_t2_loop.trips) (v80 : BitVec 32) : PR F L PUnit :=
  eat (L := L) A A.g0 A.hg0 A.s0 ![0, 0] inb_S2x16_S1x16_0_0 k1_chk11 k1_chk11.dec
    (Scf.Loop.for k1_t4_loop k1_t4_ok 0#32 (A.app (k1_t4_body (F := F) L) v2 v4 t2 v80))
    (fun v h => Scf.Loop.for (k1_t5_loop v) (k1_t5_ok v h) 0#32 (A.app (k1_t5_body (F := F) L) v2 v4 t2 v80 v h))
    (fun v h a => Scf.Loop.for (k1_t8_loop v) (k1_t8_ok v h) a (A.app (k1_t8_body (F := F) L) v2 v4 t2 v80 v h))

abbrev eat1 (v2 : IVec S16 32) (v142 v143 : BitVec 32) (v144 v145 v146 : BitVec 1) : PR F L PUnit :=
  eat (L := L) A A.g1 A.hg1 A.s1 ![1, 0] inb_S2x16_S1x16_1_0 k1_chk32 k1_chk32.dec
    (Scf.Loop.for k1_t12_loop k1_t12_ok 0#32 (A.app (k1_t12_body (F := F) L) v2 v142 v143 v144 v145 v146))
    (fun v h => Scf.Loop.for (k1_t13_loop v) (k1_t13_ok v h) 0#32 (A.app (k1_t13_body (F := F) L) v2 v h))
    (fun v h a => Scf.Loop.for (k1_t16_loop v) (k1_t16_ok v h) a (A.app (k1_t16_body (F := F) L) v2 v h))

theorem t2_eq (v2 : IVec S16 32) (v4 : BitVec 32) (t2 : Fin k1_t2_loop.trips) (acc : BitVec 32) (h1 : k1_cond1 t2 = 1#1) :
    ∃ v49 v205 v215 v80 v119 v205' v215' v142 v143 v144 v145 v146, A.app (k1_t2_body (F := F) L) v2 v4 t2 acc
      = issue1 L A v2 t2 h1 v49 v205 v215 >>= fun _ => eat0 L A v2 v4 t2 v80 >>= fun _ => outCopy (L := L) A (k1_off30 L t2) (k1_off30_inb L t2) A.r1
          ((if h2 : k1_cond2 t2 = 1#1 then issue0 L A v2 t2 h2 v119 v205' v215' else pure ⟨⟩) >>= fun _ =>
            eat1 L A v2 v142 v143 v144 v145 v146 >>= fun _ => outCopy (L := L) A (k1_off55 L t2) (k1_off55_inb L t2) A.r2 (pure 0#32)) := by
  by_cases h2 : k1_cond2 t2 = 1#1
  · iterate 12 apply Exists.intro
    · unfold issue1 issue0 eat0 eat1 Args.app issueTail eat outCopy k1_t2_body
      simp only [dif_pos h1, dif_pos h2, k1_part8_eq_skeleton, k1_part8_skel, k1_part9_eq_skeleton, k1_part9_skel, k1_part10_eq_skeleton, k1_part10_skel, k1_part11_eq_skeleton, k1_part11_skel,
        k1_part3_eq_skeleton, k1_part3_skel, k1_part6_eq_skeleton, k1_part6_skel, bind_assoc, pure_bind]
      rfl
  · iterate 12 apply Exists.intro
    · unfold issue1 issue0 eat0 eat1 Args.app issueTail eat outCopy k1_t2_body
      simp only [dif_pos h1, dif_neg h2, k1_part8_eq_skeleton, k1_part8_skel, k1_part9_eq_skeleton, k1_part9_skel, k1_part10_eq_skeleton, k1_part10_skel, k1_part11_eq_skeleton, k1_part11_skel,
        k1_part3_eq_skeleton, k1_part3_skel, k1_part6_eq_skeleton, k1_part6_skel, bind_assoc, pure_bind]
      rfl
    all_goals exact 0#32

def inCopy {L : grid1.Coords} {α : Type} (A : Args) (o : Fin 2 → ℕ) (ho : ∀ x, o x + S50x512.size x ≤ S50x16384.size x) (sem : DmaSems sig S_) (k : PR F L α) : PR F L α := do
  Prog.lift (.enqueueDma (A.xt.slice (Rect.unit (s := S50x16384) o S50x512.size ho) (fun _ => rfl)) (.here A.xw) (.dma sem.sem) (View.wordExact_bits rfl) A.hxw.wordExact ⟨Or.inl rfl, trivial⟩)
  Prog.lift (.waitDma2 sem.sem (A.xt.slice (Rect.unit (s := S50x16384) o S50x512.size ho) (fun _ => rfl)) A.xw (View.wordExact_bits rfl) A.hxw.wordExact)
  k

theorem k_eq : ∃ v4 v21 v31, A.app (cc1_k (F := F) L)
      = inCopy (L := L) A (k1_off1 L) (k1_off1_inb L) A.r0 (first0 L A (iota .scVector S16 32 [0] iota_S16_d0_w32_scVector) v21 v31 >>= fun _ =>
          Scf.Loop.for k1_t2_loop k1_t2_ok 0#32 (A.app (k1_t2_body (F := F) L) (iota .scVector S16 32 [0] iota_S16_d0_w32_scVector) v4) >>= fun _ => pure ⟨⟩) := by
  iterate 3 apply Exists.intro
  · unfold first0 Args.app issueTail inCopy
    rw [cc1_k_eq_skeleton]
    simp only [cc1_k_skel, k1_part12_eq_skeleton, k1_part12_skel, bind_assoc, pure_bind]
    rfl

end Cert.Proof.Lookup
-- ==== Proof.Chunk.lean ====
/-
  A chunk of the result: its words made ready and their gather sent, its block put down, its block copied out.
-/
module

public import proofs.«01_k».proof.Proof.Printed

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

def ix3 {a b c : ℕ} [NeZero a] [NeZero b] [NeZero c] (r s t : ℕ) : (⟨3, ![a, b, c]⟩ : Shape).Idx :=
  fun k => match k with | 0 => Fin.ofNat a r | 1 => Fin.ofNat b s | 2 => Fin.ofNat c t
theorem ix3_val0 {a b c : ℕ} [NeZero a] [NeZero b] [NeZero c] {r s t : ℕ} (h : r < a) : ((ix3 r s t : (⟨3, ![a, b, c]⟩ : Shape).Idx) 0).val = r := Nat.mod_eq_of_lt h
theorem ix3_val1 {a b c : ℕ} [NeZero a] [NeZero b] [NeZero c] {r s t : ℕ} (h : s < b) : ((ix3 r s t : (⟨3, ![a, b, c]⟩ : Shape).Idx) 1).val = s := Nat.mod_eq_of_lt h
theorem ix3_val2 {a b c : ℕ} [NeZero a] [NeZero b] [NeZero c] {r s t : ℕ} (h : t < c) : ((ix3 r s t : (⟨3, ![a, b, c]⟩ : Shape).Idx) 2).val = t := Nat.mod_eq_of_lt h
theorem eq_ix3 {a b c : ℕ} [NeZero a] [NeZero b] [NeZero c] {x : (⟨3, ![a, b, c]⟩ : Shape).Idx} {r s t : ℕ} (h : (x 0).val = r) (h' : (x 1).val = s) (h'' : (x 2).val = t) : x = ix3 r s t := by
  subst h; subst h'; subst h''
  funext k
  match k with
  | 0 => exact Fin.ext (Nat.mod_eq_of_lt (x 0).isLt).symm
  | 1 => exact Fin.ext (Nat.mod_eq_of_lt (x 1).isLt).symm
  | 2 => exact Fin.ext (Nat.mod_eq_of_lt (x 2).isLt).symm
theorem emb_unit3 {a b c n k m : ℕ} [NeZero a] [NeZero b] [NeZero c] {o : Fin 3 → ℕ} {h} (j : (⟨3, ![n, k, m]⟩ : Shape).Idx) :
    (Rect.unit (s := ⟨3, ![a, b, c]⟩) o (⟨3, ![n, k, m]⟩ : Shape).size h).emb j = ix3 (o 0 + (j 0).val) (o 1 + (j 1).val) (o 2 + (j 2).val) :=
  eq_ix3 (by show o 0 + 1 * (j 0).val = _; omega) (by show o 1 + 1 * (j 1).val = _; omega) (by show o 2 + 1 * (j 2).val = _; omega)

theorem forall_ix2 {a b : ℕ} [NeZero a] [NeZero b] {P : (⟨2, ![a, b]⟩ : Shape).Idx → Prop} (h : ∀ r < a, ∀ c < b, P (ix2 r c)) : ∀ x, P x := fun x => by
  have := h (x 0).val (x 0).isLt (x 1).val (x 1).isLt
  rwa [← eq_ix2 rfl rfl] at this

theorem reshape_block {e k : ℕ} (he : e < 32) (hk : k < 128) : Shape.reshapeEquiv squeezes_S1x32x128_S32x128.numel_eq (ix2 e k : S32x128.Idx) = (ix3 0 e k : S1x32x128.Idx) := by
  refine Shape.reshapeEquiv_eq_of_rowMajor _ ?_
  rw [show (S1x32x128.rowMajor (ix3 0 e k)).val = _ from Shape.rowMajor_val_three _, show (S32x128.rowMajor (ix2 e k)).val = _ from Shape.rowMajor_val_two _]
  rw [ix3_val0 (by omega), ix3_val1 he, ix3_val2 hk, ix2_val0 he, ix2_val1 hk]
  show (0 * 32 + e) * 128 + k = e * 128 + k; omega

/-! ## The result's columns of a subcore -/

/-- The columns from `base` on. -/
def cols (base : ℕ) : Finset S50x32x16384.Idx := Finset.univ.filter fun x => base ≤ (x 2).val ∧ (x 2).val < base + 512
/-- The chunk an entry belongs to. -/
def cnum (base : ℕ) (x : S50x32x16384.Idx) : ℕ := 4 * (x 0).val + ((x 2).val - base) / 128

theorem mem_chunk {base n : ℕ} {h} (hn : n < 200) (hb : base + 512 ≤ 16384) (x : S50x32x16384.Idx) :
    x ∈ (Rect.unit (s := S50x32x16384) ![n / 4, 0, base + n % 4 * 128] S1x32x128.size h).set ↔ x ∈ cols base ∧ cnum base x = n := by
  rw [← Rect.map_emb_univ, Finset.mem_map, cols, Finset.mem_filter]
  constructor
  · rintro ⟨j, -, rfl⟩
    rw [emb_unit3]
    have h0 : (j 0).val < 1 := (j 0).isLt
    have h1 : (j 1).val < 32 := (j 1).isLt
    have h2 : (j 2).val < 128 := (j 2).isLt
    rw [show (![n / 4, 0, base + n % 4 * 128] : Fin 3 → ℕ) 0 + (j 0).val = n / 4 by show n / 4 + _ = _; omega,
      show (![n / 4, 0, base + n % 4 * 128] : Fin 3 → ℕ) 1 + (j 1).val = (j 1).val from Nat.zero_add _,
      show (![n / 4, 0, base + n % 4 * 128] : Fin 3 → ℕ) 2 + (j 2).val = base + n % 4 * 128 + (j 2).val from rfl]
    unfold cnum
    rw [ix3_val0 (by omega), ix3_val2 (by omega)]
    exact ⟨⟨Finset.mem_univ _, by omega, by omega⟩, by omega⟩
  · rintro ⟨⟨-, h1, h2⟩, h⟩
    unfold cnum at h
    have hx1 : (x 1).val < 32 := (x 1).isLt
    refine ⟨ix3 0 (x 1).val ((x 2).val - (base + n % 4 * 128)), Finset.mem_univ _, ?_⟩
    rw [emb_unit3, ix3_val0 (by omega), ix3_val1 hx1, ix3_val2 (by omega)]
    refine (eq_ix3 ?_ ?_ ?_).symm
    · show _ = n / 4 + 0; omega
    · show _ = 0 + _; omega
    · show _ = base + n % 4 * 128 + _; omega

section Chunk

variable {d : Dev nD} {L : grid1.Coords} {A : Args} {O : CellTallies nD τ sig HX} {W : Waits sig HX}

/-- A chunk's block copied out. -/
theorem wp_outCopy {α : Type} {Q : α → sProp 𝕄} {k : PR F L α} {o : Fin 3 → ℕ} {ho} {sem : DmaSems sig S_} {base n : ℕ} {Z Y : S50x32x16384.Idx → Elt F .f32} {B : S32x128.Idx → Elt F .f32}
    (hN : A.Sizes) (hn : n < 200) (hb : base + 512 ≤ 16384) (eo : o = ![n / 4, 0, base + n % 4 * 128]) (hY : ∀ x ∈ cols base, cnum base x < n → Y x = Z x)
    (hB : ∀ e < 32, ∀ k < 128, B (ix2 e k) = Z (ix3 (n / 4) e (base + n % 4 * 128 + k))) :
    iprop(holds (tV d L) A.out (cols base) fullShare Y ∗ holds (tV d L) A.och Finset.univ fullShare B ∗ semVal ((tV d L), SemLoc.dma sem.sem) 0 ∗ OW d L O W)
      ⊢ iprop((iprop((∃ Y', ⌜∀ x ∈ cols base, cnum base x < n + 1 → Y' x = Z x⌝ ∗ holds (tV d L) A.out (cols base) fullShare Y') ∗ holds (tV d L) A.och Finset.univ fullShare B
            ∗ semVal ((tV d L), SemLoc.dma sem.sem) 0 ∗ OW d L O W) -∗ WP d L k Q)
          -∗ WP d L (outCopy (L := L) A o ho sem k) Q) := by
  subst eo
  have hmem := fun x => mem_chunk (h := ho) hn hb x
  generalize hR : Rect.unit (s := S50x32x16384) ![n / 4, 0, base + n % 4 * 128] S1x32x128.size ho = R at hmem
  unfold outCopy
  iintro ⟨Hout, Hoch, Hv, HO⟩ Hk
  ihave Hout := (holds_split (S₁ := R.set) (fun x hx => ((hmem x).mp hx).1)) $$ Hout
  icases Hout with ⟨H1, H2⟩
  subst hR
  ihave H1 := (holds_slice _ (fun _ => rfl)) $$ H1
  ihave H1 := (holds_squeeze squeezes_S1x32x128_S32x128) $$ H1
  iapply (wp_copyFly (d := d) (L := L) rfl (hN.out _ _)) $$ [Hoch H1 Hv]
  · isplitl [Hoch]; · iexact Hoch
    isplitl [H1]; · iexact H1
    iexact Hv
  iintro Hf
  iapply (wp_waitFly (d := d) (L := L) (O := O) (W := W) rfl) $$ [Hf HO]
  · isplitl [Hf]; · iexact Hf
    iexact HO
  iintro ⟨⟨H1, Hoch⟩, Hv, HO⟩
  ihave H1 := (holds_unsqueeze (c := tV d L) (m := A.out.slice (Rect.unit (s := S50x32x16384) ![n / 4, 0, base + n % 4 * 128] S1x32x128.size ho) (fun _ => rfl))
    (X := fun y => Z ((Rect.unit (s := S50x32x16384) ![n / 4, 0, base + n % 4 * 128] S1x32x128.size ho).emb y)) squeezes_S1x32x128_S32x128 (forall_ix2 fun e he k hk => by
      rw [reshape_block he hk, emb_unit3, ix3_val0 (by omega), ix3_val1 he, ix3_val2 hk, hB e he k hk]
      show Z (ix3 (n / 4 + 0) (0 + e) _) = _
      rw [Nat.add_zero, Nat.zero_add]; rfl)) $$ H1
  ihave H1 := (holds_unslice (c := tV d L) (m := A.out) (X := Z) (Rect.unit (s := S50x32x16384) ![n / 4, 0, base + n % 4 * 128] S1x32x128.size ho) (fun _ => rfl) (fun j => rfl)) $$ H1
  ihave H1 := (holds_congr (c := tV d L) (m := A.out) (Y := fun x => if cnum base x = n then Z x else Y x) (fun x hx => by rw [if_pos ((hmem x).mp hx).2])) $$ H1
  ihave H2 := (holds_congr (c := tV d L) (m := A.out) (Y := fun x => if cnum base x = n then Z x else Y x) (fun x hx => by
    rw [if_neg fun hh => (Finset.mem_sdiff.mp hx).2 ((hmem x).mpr ⟨(Finset.mem_sdiff.mp hx).1, hh⟩)])) $$ H2
  iapply Hk
  isplitl [H1 H2]
  · iexists (fun x => if cnum base x = n then Z x else Y x)
    isplitr [H1 H2]
    · ipureintro; intro x hx hlt
      beta_reduce
      by_cases h : cnum base x = n
      · rw [if_pos h]
      · rw [if_neg h]; exact hY x hx (by omega)
    iapply (holds_join (c := tV d L) (m := A.out) (fun x hx => ((hmem x).mp hx).1))
    isplitl [H1]; · iexact H1
    iexact H2
  isplitl [Hoch]; · iexact Hoch
  isplitl [Hv]; · iexact Hv
  iexact HO

end Chunk

end Cert.Proof.Lookup
-- ==== Proof.Subcore.lean ====
/-
  A subcore's whole work: the words copied in, a hundred pairs of chunks, the result's columns holding the rows asked for.
-/
module

public import proofs.«01_k».proof.Proof.Chunk

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

section Subcore

variable {d : Dev nD} {L : grid1.Coords} {A : Args} {O : CellTallies nD τ sig HX} {W : Waits sig HX}

theorem mem_row {b : ℕ} {h : ∀ x, (![b, 0] : Fin 2 → ℕ) x + S1x128.size x ≤ S2x128.size x} : ∀ c < 128, (ix2 b c : S2x128.Idx) ∈ (rowRect ![b, 0] h).set := fun c hc => by
  rw [← Rect.map_emb_univ, Finset.mem_map]
  refine ⟨ix2 0 c, Finset.mem_univ _, ?_⟩
  rw [emb_unit2, ix2_val0 (by omega), ix2_val1 hc]
  show ix2 (b + 0) (0 + c) = _
  rw [Nat.add_zero, Nat.zero_add]

abbrev row0 : Finset S2x128.Idx := (rowRect ![0, 0] inb_S2x128_S1x128_0_0).set
abbrev row1 : Finset S2x128.Idx := (rowRect ![1, 0] inb_S2x128_S1x128_1_0).set

/-- What a sending of a gather needs and gives. -/
abbrev Sent (d : Dev nD) (L : grid1.Coords) (A : Args) (g : Memref sig .scVector .vmem S128x128 .f32) (sem : DmaSems sig S_) (b : ℕ) (S : Finset S2x128.Idx) (XW : S50x512.Idx → Elt F .i32)
    (q : PosShare TreeShare) (fs : Buf (Elt F) (A.rmS.view.loc (tV d L))) (w : ℕ → BitVec 32) (t : Tb) : sProp 𝕄 :=
  iprop(holds (tV d L) A.xw Finset.univ fullShare XW ∗ Fly d L sem.sem g.view.dmaCredit (Got d L A g b S q fs w)
    ∗ ∃ t', ⌜Ready b w t' ∧ ∀ b' < 2, b' ≠ b → ∀ w', Ready b' w' t → Ready b' w' t'⌝ ∗ Held d L A t')
abbrev Unsent (d : Dev nD) (L : grid1.Coords) (A : Args) (g : Memref sig .scVector .vmem S128x128 .f32) (sem : DmaSems sig S_) (S : Finset S2x128.Idx)
    (q : PosShare TreeShare) (fs : Buf (Elt F) (A.rmS.view.loc (tV d L))) : sProp 𝕄 :=
  iprop((A.rmS.view.loc (tV d L) ↦[A.rmS.view.set]{q} fs) ∗ (∃ I4, holds (tV d L) A.i4 S fullShare I4)
        ∗ (∃ X, holds (tV d L) g Finset.univ fullShare X) ∗ semVal ((tV d L), SemLoc.dma sem.sem) 0)

theorem inb352 {o : Fin 1 → ℕ} {p : ℕ} (hp : p + 16 ≤ 352) (eo : o = ![p]) : ∀ a, o a + S16.size a ≤ S352.size a := fun a => by
  subst eo
  match a with
  | 0 => exact hp

variable {v2 : IVec S16 32} (h2 : ∀ l < 16, v2 (ix1 l) = BitVec.ofNat 32 l) {XW : S50x512.Idx → Elt F .i32} {q qt : PosShare TreeShare} {fs : Buf (Elt F) (A.rmS.view.loc (tV d L))}
  {ft : Buf (Elt F) (A.tlS.view.loc (tV d L))} {tb : Tb}
include h2

theorem wp_first0 (hN : A.Sizes) (v21 v31 : BitVec 32) (hw : ∀ j < 128, (word XW 0 j).toNat < 1000000) :
    iprop(holds (tV d L) A.xw Finset.univ fullShare XW ∗ Unsent d L A A.g0 A.s0 row0 q fs ∗ Held d L A tb)
      ⊢ WP d L (first0 L A v2 v21 v31) fun _ => Sent d L A A.g0 A.s0 0 row0 XW q fs (word XW 0) tb := by
  iintro ⟨Hx, ⟨Hrm, ⟨%I4, Hi⟩, ⟨%X, Hg⟩, Hs⟩, Ht⟩
  iapply (wp_issue (d := d) (L := L) (t := tb) hN.g0 rfl (by decide) (fun n hn => inb352 (by omega) (off5_eq ⟨n, hn⟩)) (fun n hn => off5_eq ⟨n, hn⟩) (fun _ _ => rfl)
    (fun v _ _ => BitVec.zero_add v) hw t1_trips rfl (pre1 h2 v21 v31 hw mem_row))
  isplitl [Hx]; · iexact Hx
  isplitl [Hrm]; · iexact Hrm
  isplitl [Hi]; · iexact Hi
  isplitl [Ht]; · iexact Ht
  isplitl [Hg]; · iexact Hg
  iexact Hs

theorem wp_issue1 (hN : A.Sizes) (t2 : Fin k1_t2_loop.trips) (h1 : k1_cond1 t2 = 1#1) (v49 v205 v215 : BitVec 32) (hw : ∀ j < 128, (word XW (2 * t2.val + 1) j).toNat < 1000000) :
    iprop(holds (tV d L) A.xw Finset.univ fullShare XW ∗ Unsent d L A A.g1 A.s1 row1 q fs ∗ Held d L A tb)
      ⊢ WP d L (issue1 L A v2 t2 h1 v49 v205 v215) fun _ => Sent d L A A.g1 A.s1 1 row1 XW q fs (word XW (2 * t2.val + 1)) tb := by
  iintro ⟨Hx, ⟨Hrm, ⟨%I4, Hi⟩, ⟨%X, Hg⟩, Hs⟩, Ht⟩
  iapply (wp_issue (d := d) (L := L) (t := tb) hN.g1 rfl (by decide) (fun n hn _ => inb352 (by omega) (off9_eq ⟨n, hn⟩)) (fun n hn => off9_eq ⟨n, hn⟩) (fun _ _ => rfl)
    (fun v _ _ => BitVec.zero_add v) hw t3_trips rfl (pre3 h2 t2 v49 h1 v205 v215 hw mem_row))
  isplitl [Hx]; · iexact Hx
  isplitl [Hrm]; · iexact Hrm
  isplitl [Hi]; · iexact Hi
  isplitl [Ht]; · iexact Ht
  isplitl [Hg]; · iexact Hg
  iexact Hs

theorem wp_issue0 (hN : A.Sizes) (t2 : Fin k1_t2_loop.trips) (hc : k1_cond2 t2 = 1#1) (v119 v205 v215 : BitVec 32) (hw : ∀ j < 128, (word XW (2 * t2.val + 2) j).toNat < 1000000) :
    iprop(holds (tV d L) A.xw Finset.univ fullShare XW ∗ Unsent d L A A.g0 A.s0 row0 q fs ∗ Held d L A tb)
      ⊢ WP d L (issue0 L A v2 t2 hc v119 v205 v215) fun _ => Sent d L A A.g0 A.s0 0 row0 XW q fs (word XW (2 * t2.val + 2)) tb := by
  iintro ⟨Hx, ⟨Hrm, ⟨%I4, Hi⟩, ⟨%X, Hg⟩, Hs⟩, Ht⟩
  iapply (wp_issue (d := d) (L := L) (t := tb) hN.g0 rfl (by decide) (fun n hn _ => inb352 (by omega) (off34_eq ⟨n, hn⟩)) (fun n hn => off34_eq ⟨n, hn⟩) (fun _ _ => rfl)
    (fun v _ _ => BitVec.zero_add v) hw t11_trips rfl (pre11 h2 t2 v119 hc v205 v215 hw mem_row))
  isplitl [Hx]; · iexact Hx
  isplitl [Hrm]; · iexact Hrm
  isplitl [Hi]; · iexact Hi
  isplitl [Ht]; · iexact Ht
  isplitl [Hg]; · iexact Hg
  iexact Hs

omit h2 in
/-- What stays with a subcore through the putting down. -/
def Rest (d : Dev nD) (L : grid1.Coords) (A : Args) (qt : PosShare TreeShare) (ft : Buf (Elt F) (A.tlS.view.loc (tV d L))) (O : CellTallies nD τ sig HX) (W : Waits sig HX) : sProp 𝕄 :=
  iprop((A.tlS.view.loc (tV d L) ↦[A.tlS.view.set]{qt} ft) ∗ (∃ G, holds (tV d L) A.tg Finset.univ fullShare G) ∗ semVal ((tV d L), SemLoc.dma A.st.sem) 0 ∗ OW d L O W)

omit h2 in
theorem wp_eat' {g : Memref sig .scVector .vmem S128x128 .f32} {hg : g.IsWhole} {sem : DmaSems sig S_} {ob : Fin 2 → ℕ}
    {hcv : ∀ x, ob x + S1x16.size x ≤ S2x16.size x} {C : BitVec 32 → Prop} {dC : ∀ v, Decidable (C v)} {pp : PR F L (BitVec 32)}
    {qq : ∀ v, C v → PR F L (BitVec 32)} {rr : ∀ v, C v → BitVec 32 → PR F L (BitVec 32)} {b : ℕ} {S : Finset S2x128.Idx} {w : ℕ → BitVec 32}
    (he : ∀ X, iprop(Fly d L sem.sem g.view.dmaCredit (Got d L A g b S q fs w) ∗ holds (tV d L) A.sw Finset.univ fullShare tb.sw ∗ holds (tV d L) A.cv Finset.univ fullShare tb.cv
        ∗ Small d L A tb.pos tb.tsl tb.ti4 qt ft O W ∗ holds (tV d L) A.och Finset.univ fullShare X)
      ⊢ WP d L (eat (L := L) A g hg sem ob hcv C dC pp qq rr) fun _ => iprop(
        (∃ G, holds (tV d L) g Finset.univ fullShare G) ∗ (A.rmS.view.loc (tV d L) ↦[A.rmS.view.set]{q} fs) ∗ (∃ I4, holds (tV d L) A.i4 S fullShare I4)
        ∗ semVal ((tV d L), SemLoc.dma sem.sem) 0
        ∗ holds (tV d L) A.sw Finset.univ fullShare tb.sw ∗ holds (tV d L) A.cv Finset.univ fullShare tb.cv
        ∗ Small d L A tb.pos tb.tsl tb.ti4 qt ft O W
        ∗ ∃ O', holds (tV d L) A.och Finset.univ fullShare O' ∗ ⌜∀ e < 32, ∀ k < 128, O' (ix2 e k) = val (A.rmS.view.read (Elt F) fs) (A.tlS.view.read (Elt F) ft) (w k) e⌝)) :
    iprop(Fly d L sem.sem g.view.dmaCredit (Got d L A g b S q fs w) ∗ Held d L A tb ∗ Rest d L A qt ft O W ∗ (∃ X, holds (tV d L) A.och Finset.univ fullShare X))
      ⊢ WP d L (eat (L := L) A g hg sem ob hcv C dC pp qq rr) fun _ => iprop(Unsent d L A g sem S q fs ∗ Held d L A tb ∗ Rest d L A qt ft O W
        ∗ ∃ O', holds (tV d L) A.och Finset.univ fullShare O' ∗ ⌜∀ e < 32, ∀ k < 128, O' (ix2 e k) = val (A.rmS.view.read (Elt F) fs) (A.tlS.view.read (Elt F) ft) (w k) e⌝) := by
  unfold Rest
  iintro ⟨Hf, ⟨⟨Hsw, Hp, Hs, Ht⟩, Hc⟩, ⟨Htl, Hg, Hv, HO⟩, ⟨%X, Ho⟩⟩
  iapply (wp_wand_r frame (wpE (defs₀ (F := F)) 𝒱₀ (tV d L) none) Set.univ)
  isplitl [Hf Hsw Hp Hs Ht Hc Htl Hg Hv HO Ho]
  · iapply (he X)
    unfold Small
    isplitl [Hf]; · iexact Hf
    isplitl [Hsw]; · iexact Hsw
    isplitl [Hc]; · iexact Hc
    isplitr [Ho]; rotate_left; · iexact Ho
    isplitl [Htl]; · iexact Htl
    isplitl [Hp]; · iexact Hp
    isplitl [Hs]; · iexact Hs
    isplitl [Ht]; · iexact Ht
    isplitl [Hg]; · iexact Hg
    isplitl [Hv]; · iexact Hv
    iexact HO
  unfold Small
  iintro %_ ⟨HG, Hrm, Hi, Hsem, Hsw, Hc, ⟨Htl, Hp, Hs, Ht, Hg, Hv, HO⟩, Ho⟩
  isplitl [HG Hrm Hi Hsem]
  · isplitl [Hrm]; · iexact Hrm
    isplitl [Hi]; · iexact Hi
    isplitl [HG]; · iexact HG
    iexact Hsem
  isplitl [Hsw Hp Hs Ht Hc]
  · isplitr [Hc]; rotate_left; · iexact Hc
    isplitl [Hsw]; · iexact Hsw
    isplitl [Hp]; · iexact Hp
    isplitl [Hs]; · iexact Hs
    iexact Ht
  isplitr [Ho]; rotate_left; · iexact Ho
  isplitl [Htl]; · iexact Htl
  isplitl [Hg]; · iexact Hg
  isplitl [Hv]; · iexact Hv
  iexact HO

theorem wp_eat0 (hN : A.Sizes) (v4 : BitVec 32) (t2 : Fin k1_t2_loop.trips) (v80 : BitVec 32) {w : ℕ → BitVec 32} (hr : Ready 0 w tb) (hw : ∀ j < 128, (w j).toNat < 1000000) :
    iprop(Fly d L A.s0.sem A.g0.view.dmaCredit (Got d L A A.g0 0 row0 q fs w) ∗ Held d L A tb ∗ Rest d L A qt ft O W ∗ (∃ X, holds (tV d L) A.och Finset.univ fullShare X))
      ⊢ WP d L (eat0 L A v2 v4 t2 v80) fun _ => iprop(Unsent d L A A.g0 A.s0 row0 q fs ∗ Held d L A tb ∗ Rest d L A qt ft O W
        ∗ ∃ O', holds (tV d L) A.och Finset.univ fullShare O' ∗ ⌜∀ e < 32, ∀ k < 128, O' (ix2 e k) = val (A.rmS.view.read (Elt F) fs) (A.tlS.view.read (Elt F) ft) (w k) e⌝) := by
  have hn : rank w 128 < 129 := Nat.lt_succ_of_le (rank_le w 128)
  exact wp_eat' fun X => wp_eat rfl (fun n hn => chk11_of ⟨n, hn⟩) hr
    (fun G X => wp_rows t4_trips fun t acc O' => row4 h2 hr.1.1 G v4 t2 v80 t acc O')
    (fun hC B => blocks5 hN h2 hr hw v4 t2 v80 ⟨_, hn⟩ rfl hC B) (fun hC v R => wp_none (t8_trips ⟨_, hn⟩))

theorem wp_eat1 (hN : A.Sizes) (v142 v143 : BitVec 32) (v144 v145 v146 : BitVec 1) {w : ℕ → BitVec 32} (hr : Ready 1 w tb) (hw : ∀ j < 128, (w j).toNat < 1000000) :
    iprop(Fly d L A.s1.sem A.g1.view.dmaCredit (Got d L A A.g1 1 row1 q fs w) ∗ Held d L A tb ∗ Rest d L A qt ft O W ∗ (∃ X, holds (tV d L) A.och Finset.univ fullShare X))
      ⊢ WP d L (eat1 L A v2 v142 v143 v144 v145 v146) fun _ => iprop(Unsent d L A A.g1 A.s1 row1 q fs ∗ Held d L A tb ∗ Rest d L A qt ft O W
        ∗ ∃ O', holds (tV d L) A.och Finset.univ fullShare O' ∗ ⌜∀ e < 32, ∀ k < 128, O' (ix2 e k) = val (A.rmS.view.read (Elt F) fs) (A.tlS.view.read (Elt F) ft) (w k) e⌝) := by
  have hn : rank w 128 < 129 := Nat.lt_succ_of_le (rank_le w 128)
  exact wp_eat' fun X => wp_eat rfl (fun n hn => chk32_of ⟨n, hn⟩) hr
    (fun G X => wp_rows t12_trips fun t acc O' => row12 h2 hr.1.1 G v142 v143 v144 v145 v146 t acc O')
    (fun hC B => blocks13 hN h2 hr hw ⟨_, hn⟩ rfl hC B) (fun hC v R => wp_none (t16_trips ⟨_, hn⟩))

end Subcore

end Cert.Proof.Lookup
-- ==== Proof.Tile.lean ====
/-
  A subcore's whole work: the words copied in, a hundred pairs of chunks, the result's columns holding the rows asked for.
-/
module

public import proofs.«01_k».proof.Proof.Subcore

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

section Tile

variable {d : Dev nD} {L : grid1.Coords} {A : Args} {O : CellTallies nD τ sig HX} {W : Waits sig HX}

/-- The first of a subcore's columns. -/
def base (L : grid1.Coords) : ℕ := 1024 * (L 1).val + 512 * (L 0).val

theorem base_le (L : grid1.Coords) : base L + 512 ≤ 16384 := by
  have h0 : (L 0).val < 2 := (L 0).isLt
  have h1 : (L 1).val < 16 := (L 1).isLt
  unfold base; omega

theorem wp_out {α : Type} {Q : α → sProp 𝕄} {k : PR F L α} {o : Fin 3 → ℕ} {ho} {sem : DmaSems sig S_} {n : ℕ} {Z Y : S50x32x16384.Idx → Elt F .f32} {B : S32x128.Idx → Elt F .f32}
    {qt : PosShare TreeShare} {ft : Buf (Elt F) (A.tlS.view.loc (tV d L))}
    (hN : A.Sizes) (hn : n < 200) (eo : o = ![n / 4, 0, base L + n % 4 * 128]) (hY : ∀ x ∈ cols (base L), cnum (base L) x < n → Y x = Z x)
    (hB : ∀ e < 32, ∀ k < 128, B (ix2 e k) = Z (ix3 (n / 4) e (base L + n % 4 * 128 + k))) :
    iprop(holds (tV d L) A.out (cols (base L)) fullShare Y ∗ holds (tV d L) A.och Finset.univ fullShare B ∗ semVal ((tV d L), SemLoc.dma sem.sem) 0 ∗ Rest d L A qt ft O W)
      ⊢ iprop((iprop((∃ Y', ⌜∀ x ∈ cols (base L), cnum (base L) x < n + 1 → Y' x = Z x⌝ ∗ holds (tV d L) A.out (cols (base L)) fullShare Y')
            ∗ (∃ B, holds (tV d L) A.och Finset.univ fullShare B) ∗ semVal ((tV d L), SemLoc.dma sem.sem) 0 ∗ Rest d L A qt ft O W) -∗ WP d L k Q)
          -∗ WP d L (outCopy (L := L) A o ho sem k) Q) := by
  unfold Rest
  iintro ⟨Hout, Hoch, Hv, ⟨Htl, Hg, Hst, HO⟩⟩ Hk
  iapply (wp_outCopy hN hn (base_le L) eo hY hB) $$ [Hout Hoch Hv HO]
  · isplitl [Hout]; · iexact Hout
    isplitl [Hoch]; · iexact Hoch
    isplitl [Hv]; · iexact Hv
    iexact HO
  iintro ⟨Hout, Hoch, Hv, HO⟩
  iapply Hk
  isplitl [Hout]; · iexact Hout
  isplitl [Hoch]; · iexists B; iexact Hoch
  isplitl [Hv]; · iexact Hv
  isplitl [Htl]; · iexact Htl
  isplitl [Hg]; · iexact Hg
  isplitl [Hst]; · iexact Hst
  iexact HO

/-- A loop that keeps what holds between its trips. -/
theorem wp_forInv {lb ub st : BitVec 32} {hok} {init : BitVec 32} {body : Fin (Scf.trips lb ub st) → BitVec 32 → PR F L (BitVec 32)} {n : ℕ} (ht : Scf.trips lb ub st = n) (I : ℕ → sProp 𝕄)
    (hstep : ∀ t acc, I t.val ⊢ WP d L (body t acc) fun _ => I (t.val + 1)) : I 0 ⊢ WP d L (Scf.for lb ub st hok init body) fun _ => I n := by
  subst ht
  iintro H
  iapply (Scf.wp_for frame (wpE (defs₀ (F := F)) 𝒱₀ (tV d L) none) Set.univ lb ub st hok init body (fun i _ => I i) ?_)
  rotate_left
  · isplitl [H]; · iexact H
    iintro %_ H; iexact H
  · exact hstep

/-- Buffer 0 between the pairs: filling with the next chunk, or idle after the last one. -/
def Next (d : Dev nD) (L : grid1.Coords) (A : Args) (XW : S50x512.Idx → Elt F .i32) (q : PosShare TreeShare) (fs : Buf (Elt F) (A.rmS.view.loc (tV d L))) (n : ℕ) : sProp 𝕄 :=
  iprop(∃ tb, Held d L A tb ∗ ((⌜n < 200 ∧ Ready 0 (word XW n) tb⌝ ∗ Fly d L A.s0.sem A.g0.view.dmaCredit (Got d L A A.g0 0 row0 q fs (word XW n)))
    ∨ (⌜200 ≤ n⌝ ∗ Unsent d L A A.g0 A.s0 row0 q fs)))

/-- What a subcore holds between the pairs. -/
def Inv (d : Dev nD) (L : grid1.Coords) (A : Args) (XW : S50x512.Idx → Elt F .i32) (q qt : PosShare TreeShare) (fs : Buf (Elt F) (A.rmS.view.loc (tV d L)))
    (ft : Buf (Elt F) (A.tlS.view.loc (tV d L))) (O : CellTallies nD τ sig HX) (W : Waits sig HX) (Z : S50x32x16384.Idx → Elt F .f32) (t : ℕ) : sProp 𝕄 :=
  iprop(holds (tV d L) A.xw Finset.univ fullShare XW ∗ Next d L A XW q.left fs (2 * t) ∗ Unsent d L A A.g1 A.s1 row1 q.right fs
    ∗ Rest d L A qt ft O W ∗ (∃ B, holds (tV d L) A.och Finset.univ fullShare B) ∗ semVal ((tV d L), SemLoc.dma A.r1.sem) 0 ∗ semVal ((tV d L), SemLoc.dma A.r2.sem) 0
    ∗ ∃ Y, ⌜∀ x ∈ cols (base L), cnum (base L) x < 2 * t → Y x = Z x⌝ ∗ holds (tV d L) A.out (cols (base L)) fullShare Y)

variable {v2 : IVec S16 32} (h2 : ∀ l < 16, v2 (ix1 l) = BitVec.ofNat 32 l) {XW : S50x512.Idx → Elt F .i32} {q qt : PosShare TreeShare} {fs : Buf (Elt F) (A.rmS.view.loc (tV d L))}
  {ft : Buf (Elt F) (A.tlS.view.loc (tV d L))} {tb : Tb} {Z : S50x32x16384.Idx → Elt F .f32}
include h2

theorem wp_refill (hN : A.Sizes) (t2 : Fin k1_t2_loop.trips) (v119 v205 v215 : BitVec 32) (hw : ∀ n < 200, ∀ j < 128, (word XW n j).toNat < 1000000)
    {w' : ℕ → BitVec 32} (hr : Ready 1 w' tb) :
    iprop(holds (tV d L) A.xw Finset.univ fullShare XW ∗ Unsent d L A A.g0 A.s0 row0 q fs ∗ Held d L A tb)
      ⊢ WP d L (if hc : k1_cond2 t2 = 1#1 then issue0 L A v2 t2 hc v119 v205 v215 else pure ⟨⟩) fun _ => iprop(
        holds (tV d L) A.xw Finset.univ fullShare XW ∗ ∃ tb, ⌜Ready 1 w' tb⌝ ∗ Held d L A tb
          ∗ ((⌜2 * (t2.val + 1) < 200 ∧ Ready 0 (word XW (2 * (t2.val + 1))) tb⌝ ∗ Fly d L A.s0.sem A.g0.view.dmaCredit (Got d L A A.g0 0 row0 q fs (word XW (2 * (t2.val + 1)))))
            ∨ (⌜200 ≤ 2 * (t2.val + 1)⌝ ∗ Unsent d L A A.g0 A.s0 row0 q fs))) := by
  by_cases hc : k1_cond2 t2 = 1#1
  · have ht := (cond2_eq t2).mp hc
    rw [dif_pos hc]
    iintro H
    iapply (wp_wand_r frame (wpE (defs₀ (F := F)) 𝒱₀ (tV d L) none) Set.univ)
    isplitl [H]; · iapply (wp_issue0 (tb := tb) h2 hN t2 hc v119 v205 v215 (hw _ (by omega))); iexact H
    iintro %_ ⟨Hx, Hf, %t', %ht', Hh⟩
    isplitl [Hx]; · iexact Hx
    iexists t'
    isplitr [Hf Hh]; · ipureintro; exact ht'.2 1 (by omega) (by omega) _ hr
    isplitl [Hh]; · iexact Hh
    ileft
    isplitr [Hf]; · ipureintro; exact ⟨by omega, ht'.1⟩
    iexact Hf
  · have ht := mt (cond2_eq t2).mpr hc
    rw [dif_neg hc]
    iintro ⟨Hx, Hu, Hh⟩
    iapply wp_done
    isplitl [Hx]; · iexact Hx
    iexists tb
    isplitr [Hu Hh]; · ipureintro; exact hr
    isplitl [Hh]; · iexact Hh
    iright
    isplitr [Hu]; · ipureintro; omega
    iexact Hu

set_option maxHeartbeats 4000000 in
theorem wp_pair (hN : A.Sizes) (v4 : BitVec 32) (t2 : Fin k1_t2_loop.trips) (acc : BitVec 32) (hw : ∀ n < 200, ∀ j < 128, (word XW n j).toNat < 1000000)
    (hZ : ∀ n < 200, ∀ e < 32, ∀ k < 128, val (A.rmS.view.read (Elt F) fs) (A.tlS.view.read (Elt F) ft) (word XW n k) e = Z (ix3 (n / 4) e (base L + n % 4 * 128 + k))) :
    Inv d L A XW q qt fs ft O W Z t2.val ⊢ WP d L (A.app (k1_t2_body (F := F) L) v2 v4 t2 acc) fun _ => Inv d L A XW q qt fs ft O W Z (t2.val + 1) := by
  have ht : t2.val < 100 := t2_trips ▸ t2.isLt
  obtain ⟨v49, v205, v215, v80, v119, v205', v215', v142, v143, v144, v145, v146, he⟩ := t2_eq (F := F) L A v2 v4 t2 acc (cond1_eq t2)
  rw [he]
  unfold Inv
  iintro ⟨Hx, HN, Hu1, HR, Ho, H1, H2, %Y, %hY, Hout⟩
  unfold Next
  icases HN with ⟨%tb, Hh, HN⟩
  icases HN with (⟨%hn, Hf0⟩ | ⟨%hn, -⟩)
  rotate_left
  · exact absurd hn (by omega)
  iapply (wp_seq (wp_issue1 (tb := tb) h2 hN t2 (cond1_eq t2) v49 v205 v215 (hw _ (by omega)))) $$ [Hx Hu1 Hh]
  · isplitl [Hx]; · iexact Hx
    isplitl [Hu1]; · iexact Hu1
    iexact Hh
  iintro %_ ⟨Hx, Hf1, %tb1, %ht1, Hh⟩
  iapply (wp_seq (wp_eat0 (tb := tb1) (O := O) (W := W) h2 hN v4 t2 v80 (ht1.2 0 (by omega) (by omega) _ hn.2) (hw _ (by omega)))) $$ [Hf0 Hh HR Ho]
  · isplitl [Hf0]; · iexact Hf0
    isplitl [Hh]; · iexact Hh
    isplitl [HR]; · iexact HR
    iexact Ho
  iintro %_ ⟨Hu0, Hh, HR, %B, Ho, %hB⟩
  iapply (wp_out (n := 2 * t2.val) hN (by omega) (off30_eq (L 0) (L 1) t2 L rfl rfl) hY (fun e he k hk => (hB e he k hk).trans (hZ _ (by omega) e he k hk))) $$ [Hout Ho H1 HR]
  · isplitl [Hout]; · iexact Hout
    isplitl [Ho]; · iexact Ho
    isplitl [H1]; · iexact H1
    iexact HR
  iintro ⟨⟨%Y', %hY', Hout⟩, Ho, H1, HR⟩
  iapply (wp_seq (wp_refill (tb := tb1) h2 hN t2 v119 v205' v215' hw ht1.1)) $$ [Hx Hu0 Hh]
  · isplitl [Hx]; · iexact Hx
    isplitl [Hu0]; · iexact Hu0
    iexact Hh
  iintro %_ ⟨Hx, %tb2, %ht2, Hh, HN⟩
  iapply (wp_seq (wp_eat1 (tb := tb2) (O := O) (W := W) h2 hN v142 v143 v144 v145 v146 ht2 (hw _ (by omega)))) $$ [Hf1 Hh HR Ho]
  · isplitl [Hf1]; · iexact Hf1
    isplitl [Hh]; · iexact Hh
    isplitl [HR]; · iexact HR
    iexact Ho
  iintro %_ ⟨Hu1, Hh, HR, %B', Ho, %hB'⟩
  iapply (wp_out (n := 2 * t2.val + 1) hN (by omega) (off55_eq (L 0) (L 1) t2 L rfl rfl) hY' (fun e he k hk => (hB' e he k hk).trans (hZ _ (by omega) e he k hk))) $$ [Hout Ho H2 HR]
  · isplitl [Hout]; · iexact Hout
    isplitl [Ho]; · iexact Ho
    isplitl [H2]; · iexact H2
    iexact HR
  iintro ⟨Hout, Ho, H2, HR⟩
  iapply wp_done
  isplitl [Hx]; · iexact Hx
  isplitl [Hh HN]
  · iexists tb2
    isplitl [Hh]; · iexact Hh
    iexact HN
  isplitl [Hu1]; · iexact Hu1
  isplitl [HR]; · iexact HR
  isplitl [Ho]; · iexact Ho
  isplitl [H1]; · iexact H1
  isplitl [H2]; · iexact H2
  iexact Hout

set_option maxHeartbeats 4000000 in
theorem wp_pairs (hN : A.Sizes) (v4 : BitVec 32) (hw : ∀ n < 200, ∀ j < 128, (word XW n j).toNat < 1000000)
    (hZ : ∀ n < 200, ∀ e < 32, ∀ k < 128, val (A.rmS.view.read (Elt F) fs) (A.tlS.view.read (Elt F) ft) (word XW n k) e = Z (ix3 (n / 4) e (base L + n % 4 * 128 + k))) :
    Inv d L A XW q qt fs ft O W Z 0 ⊢ WP d L (Scf.Loop.for k1_t2_loop k1_t2_ok 0#32 (A.app (k1_t2_body (F := F) L) v2 v4)) fun _ => Inv d L A XW q qt fs ft O W Z 100 :=
  wp_forInv (lb := k1_t2_loop.lb) (ub := k1_t2_loop.ub) (st := k1_t2_loop.st) (hok := k1_t2_ok) (init := 0#32) (body := A.app (k1_t2_body (F := F) L) v2 v4) t2_trips (Inv d L A XW q qt fs ft O W Z) fun t acc => wp_pair h2 hN v4 t acc hw hZ

end Tile

end Cert.Proof.Lookup
-- ==== Proof.Body.lean ====
/-
  The subcore's task from start to end: what it is handed, what it gives back.
-/
module

public import proofs.«01_k».proof.Proof.Tile

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

section Body

variable {d : Dev nD} {L : grid1.Coords} {A : Args} {O : CellTallies nD τ sig HX} {W : Waits sig HX}

theorem off1_eq (L : grid1.Coords) : k1_off1 L = ![0, base L] := by
  have h : ∀ (a : Fin 2) (b : Fin 16), k1_off1 (fun | 0 => a | 1 => b) = ![0, 1024 * b.val + 512 * a.val] := by decide +kernel
  have hL : L = (fun | 0 => L 0 | 1 => L 1) := by
    funext k; match k with
    | 0 => rfl
    | 1 => rfl
  rw [hL]; exact h (L 0) (L 1)

/-- A subcore's words out of all the words. -/
def words (L : grid1.Coords) (XT : S50x16384.Idx → Elt F .i32) : S50x512.Idx → Elt F .i32 := fun x => XT (ix2 (x 0).val (base L + (x 1).val))

theorem words_eq (XT : S50x16384.Idx → Elt F .i32) {o : Fin 2 → ℕ} (eo : o = ![0, base L]) (ho) (x : S50x512.Idx) :
    XT ((Rect.unit (s := S50x16384) o S50x512.size ho).emb x) = words L XT x := by
  subst eo
  unfold words
  rw [emb_unit2]
  show XT (ix2 (0 + _) _) = _
  rw [Nat.zero_add]; rfl

theorem wp_inCopy {α : Type} {Q : α → sProp 𝕄} {k : PR F L α} {o : Fin 2 → ℕ} {ho} {sem : DmaSems sig S_} {q : PosShare TreeShare} {XT : S50x16384.Idx → Elt F .i32} {X : S50x512.Idx → Elt F .i32}
    (hN : A.Sizes) (eo : o = ![0, base L]) :
    iprop(holds (tV d L) A.xt Finset.univ q XT ∗ holds (tV d L) A.xw Finset.univ fullShare X ∗ semVal ((tV d L), SemLoc.dma sem.sem) 0 ∗ OW d L O W)
      ⊢ iprop((iprop(holds (tV d L) A.xt Finset.univ q XT ∗ holds (tV d L) A.xw Finset.univ fullShare (words L XT)
            ∗ semVal ((tV d L), SemLoc.dma sem.sem) 0 ∗ OW d L O W) -∗ WP d L k Q)
          -∗ WP d L (inCopy (L := L) A o ho sem k) Q) := by
  have hw := words_eq (L := L) XT eo ho
  have hs : holds (tV d L) A.xt (Rect.unit (s := S50x16384) o S50x512.size ho).set q XT
      ⊢ holds (tV d L) (A.xt.slice (Rect.unit (s := S50x16384) o S50x512.size ho) (fun _ => rfl)) Finset.univ q (words L XT) :=
    (holds_slice (Rect.unit (s := S50x16384) o S50x512.size ho) (fun _ => rfl)).trans (holds_congr fun x _ => hw x)
  have hs' : holds (tV d L) (A.xt.slice (Rect.unit (s := S50x16384) o S50x512.size ho) (fun _ => rfl)) Finset.univ q (words L XT)
      ⊢ holds (tV d L) A.xt (Rect.unit (s := S50x16384) o S50x512.size ho).set q XT :=
    holds_unslice (Rect.unit (s := S50x16384) o S50x512.size ho) (fun _ => rfl) hw
  unfold inCopy
  iintro ⟨Hxt, Hxw, Hv, HO⟩ Hk
  ihave Hxt := (holds_split (S₁ := (Rect.unit (s := S50x16384) o S50x512.size ho).set) (Finset.subset_univ _)) $$ Hxt
  icases Hxt with ⟨H1, H2⟩
  ihave H1 := hs $$ H1
  iapply (wp_copyFly (d := d) (L := L) rfl hN.xw) $$ [Hxw H1 Hv]
  · isplitl [H1]; · iexact H1
    isplitl [Hxw]; · iexact Hxw
    iexact Hv
  iintro Hf
  iapply (wp_waitFly (d := d) (L := L) (O := O) (W := W) rfl) $$ [Hf HO]
  · isplitl [Hf]; · iexact Hf
    iexact HO
  iintro ⟨⟨Hxw, H1⟩, Hv, HO⟩
  ihave H1 := hs' $$ H1
  iapply Hk
  isplitl [H1 H2]
  · iapply (holds_join (c := tV d L) (m := A.xt) (Finset.subset_univ _))
    isplitl [H1]; · iexact H1
    iexact H2
  isplitl [Hxw]; · iexact Hxw
  isplitl [Hv]; · iexact Hv
  iexact HO

theorem holds_join' {sp : Space} {s : Shape} {e : EltTy} {m : Memref sig .scVector sp s e} {q : PosShare TreeShare} {X Y : s.Idx → Elt F e} {S S₁ : Finset s.Idx} (h : S₁ ⊆ S) :
    iprop(holds (tV d L) m S₁ q X ∗ holds (tV d L) m (S \ S₁) q Y) ⊢ iprop(∃ Z, holds (tV d L) m S q Z) := by
  iintro ⟨H1, H2⟩
  iexists (fun x => if x ∈ S₁ then X x else Y x)
  iapply (holds_join (c := tV d L) h)
  isplitl [H1]
  · iapply (holds_congr (c := tV d L) (fun x hx => by rw [if_pos hx])); iexact H1
  · iapply (holds_congr (c := tV d L) (fun x hx => by rw [if_neg (Finset.mem_sdiff.mp hx).2])); iexact H2

theorem row1_sub : row1 ⊆ Finset.univ \ row0 := fun x hx => by
  refine Finset.mem_sdiff.mpr ⟨Finset.mem_univ _, fun h0 => ?_⟩
  unfold row1 at hx
  unfold row0 at h0
  have h1 : (x 0).val = 1 := by
    rw [← Rect.map_emb_univ, Finset.mem_map] at hx
    obtain ⟨j, -, rfl⟩ := hx
    have : (j 0).val < 1 := (j 0).isLt
    rw [emb_unit2, ix2_val0 (show (![1, 0] : Fin 2 → ℕ) 0 + (j 0).val < 2 by show 1 + (j 0).val < 2; omega)]
    show 1 + (j 0).val = 1
    omega
  have h2 : (x 0).val = 0 := by
    rw [← Rect.map_emb_univ, Finset.mem_map] at h0
    obtain ⟨j, -, rfl⟩ := h0
    have : (j 0).val < 1 := (j 0).isLt
    rw [emb_unit2, ix2_val0 (show (![0, 0] : Fin 2 → ℕ) 0 + (j 0).val < 2 by show 0 + (j 0).val < 2; omega)]
    show 0 + (j 0).val = 0
    omega
  omega

/-- A subcore's own memory and semaphores, at whatever they hold. -/
def Mine (d : Dev nD) (L : grid1.Coords) (A : Args) : sProp 𝕄 :=
  iprop((∃ X, holds (F := F) (tV d L) A.xw Finset.univ fullShare X) ∗ (∃ X, holds (F := F) (tV d L) A.i4 Finset.univ fullShare X) ∗ (∃ X, holds (F := F) (tV d L) A.sw Finset.univ fullShare X)
    ∗ (∃ X, holds (F := F) (tV d L) A.cv Finset.univ fullShare X) ∗ (∃ X, holds (F := F) (tV d L) A.pos Finset.univ fullShare X) ∗ (∃ X, holds (F := F) (tV d L) A.tsl Finset.univ fullShare X)
    ∗ (∃ X, holds (F := F) (tV d L) A.ti4 Finset.univ fullShare X) ∗ (∃ X, holds (F := F) (tV d L) A.g0 Finset.univ fullShare X) ∗ (∃ X, holds (F := F) (tV d L) A.g1 Finset.univ fullShare X)
    ∗ (∃ X, holds (F := F) (tV d L) A.och Finset.univ fullShare X) ∗ (∃ X, holds (F := F) (tV d L) A.tg Finset.univ fullShare X)
    ∗ semVal ((tV d L), SemLoc.dma A.s0.sem) 0 ∗ semVal ((tV d L), SemLoc.dma A.s1.sem) 0 ∗ semVal ((tV d L), SemLoc.dma A.st.sem) 0
    ∗ semVal ((tV d L), SemLoc.dma A.r0.sem) 0 ∗ semVal ((tV d L), SemLoc.dma A.r1.sem) 0 ∗ semVal ((tV d L), SemLoc.dma A.r2.sem) 0)

/-- What a subcore reads. -/
def Reads (d : Dev nD) (L : grid1.Coords) (A : Args) (XT : S50x16384.Idx → Elt F .i32) (qx q qt : PosShare TreeShare) (fs : Buf (Elt F) (A.rmS.view.loc (tV d L)))
    (ft : Buf (Elt F) (A.tlS.view.loc (tV d L))) : sProp 𝕄 :=
  iprop(holds (tV d L) A.xt Finset.univ qx XT ∗ (A.rmS.view.loc (tV d L) ↦[A.rmS.view.set]{q} fs) ∗ (A.tlS.view.loc (tV d L) ↦[A.tlS.view.set]{qt} ft))

set_option maxHeartbeats 4000000 in
theorem wp_k (hN : A.Sizes) {XT : S50x16384.Idx → Elt F .i32} {qx q qt : PosShare TreeShare} {fs : Buf (Elt F) (A.rmS.view.loc (tV d L))} {ft : Buf (Elt F) (A.tlS.view.loc (tV d L))}
    {Z Y : S50x32x16384.Idx → Elt F .f32} (h2 : ∀ l < 16, iota .scVector S16 32 [0] iota_S16_d0_w32_scVector (ix1 l) = BitVec.ofNat 32 l)
    (hw : ∀ n < 200, ∀ j < 128, (word (words L XT) n j).toNat < 1000000)
    (hZ : ∀ n < 200, ∀ e < 32, ∀ k < 128, val (A.rmS.view.read (Elt F) fs) (A.tlS.view.read (Elt F) ft) (word (words L XT) n k) e = Z (ix3 (n / 4) e (base L + n % 4 * 128 + k))) :
    iprop(Reads d L A XT qx q qt fs ft ∗ holds (tV d L) A.out (cols (base L)) fullShare Y ∗ Mine d L A ∗ OW d L O W)
      ⊢ WP d L (A.app (cc1_k (F := F) L)) fun _ => iprop(Reads d L A XT qx q qt fs ft ∗ holds (tV d L) A.out (cols (base L)) fullShare Z ∗ Mine d L A ∗ OW d L O W) := by
  obtain ⟨v4, v21, v31, he⟩ := k_eq (F := F) L A
  rw [he]
  unfold Reads Mine
  iintro ⟨⟨Hxt, Hrm, Htl⟩, Hout, ⟨⟨%XW, Hxw⟩, ⟨%I4, Hi⟩, ⟨%SW, Hsw⟩, ⟨%CV, Hcv⟩, ⟨%POS, Hpos⟩, ⟨%TSL, Htsl⟩, ⟨%TI4, Hti⟩, Hg0, Hg1, Hoch, Htg, Hs0, Hs1, Hst, Hr0, Hr1, Hr2⟩, HO⟩
  iapply (wp_inCopy (O := O) (W := W) hN (off1_eq L)) $$ [Hxt Hxw Hr0 HO]
  · isplitl [Hxt]; · iexact Hxt
    isplitl [Hxw]; · iexact Hxw
    isplitl [Hr0]; · iexact Hr0
    iexact HO
  iintro ⟨Hxt, Hxw, Hr0, HO⟩
  ihave Hrm := (pointsTo_share (PosShare.mem_left_op_right q)).1 $$ Hrm
  icases Hrm with ⟨Hrl, Hrr⟩
  ihave Hi := (holds_split (S₁ := row0) (Finset.subset_univ _)) $$ Hi
  icases Hi with ⟨Hi0, Hi⟩
  ihave Hi := (holds_split (S₁ := row1) row1_sub) $$ Hi
  icases Hi with ⟨Hi1, Hi⟩
  iapply (wp_seq (wp_first0 (tb := ⟨SW, CV, POS, TSL, TI4⟩) h2 hN v21 v31 (hw 0 (by omega)))) $$ [Hxw Hrl Hi0 Hg0 Hs0 Hsw Hcv Hpos Htsl Hti]
  · isplitl [Hxw]; · iexact Hxw
    isplitl [Hrl Hi0 Hg0 Hs0]
    · isplitl [Hrl]; · iexact Hrl
      isplitl [Hi0]; · iexists I4; iexact Hi0
      isplitl [Hg0]; · iexact Hg0
      iexact Hs0
    isplitr [Hcv]; rotate_left; · iexact Hcv
    isplitl [Hsw]; · iexact Hsw
    isplitl [Hpos]; · iexact Hpos
    isplitl [Htsl]; · iexact Htsl
    iexact Hti
  iintro %_ ⟨Hxw, Hf, %tb, %htb, Hh⟩
  iapply (wp_seq (wp_pairs (q := q) (O := O) (W := W) h2 hN v4 hw hZ)) $$ [Hxw Hf Hh Hrr Hi1 Hg1 Hs1 Htl Htg Hst HO Hoch Hr1 Hr2 Hout]
  · unfold Inv Next Rest
    isplitl [Hxw]; · iexact Hxw
    isplitl [Hf Hh]
    · iexists tb
      isplitl [Hh]; · iexact Hh
      ileft
      isplitr [Hf]; · ipureintro; exact ⟨by omega, htb.1⟩
      iexact Hf
    isplitl [Hrr Hi1 Hg1 Hs1]
    · isplitl [Hrr]; · iexact Hrr
      isplitl [Hi1]; · iexists I4; iexact Hi1
      isplitl [Hg1]; · iexact Hg1
      iexact Hs1
    isplitl [Htl Htg Hst HO]
    · isplitl [Htl]; · iexact Htl
      isplitl [Htg]; · iexact Htg
      isplitl [Hst]; · iexact Hst
      iexact HO
    isplitl [Hoch]; · iexact Hoch
    isplitl [Hr1]; · iexact Hr1
    isplitl [Hr2]; · iexact Hr2
    iexists Y
    isplitr [Hout]; · ipureintro; exact fun x _ h => absurd h (by omega)
    iexact Hout
  unfold Inv Next Rest
  iintro %_ ⟨Hxw, ⟨%tb', ⟨⟨Hsw, Hpos, Htsl, Hti⟩, Hcv⟩, HN⟩, ⟨Hrr, ⟨%I1, Hi1⟩, Hg1, Hs1⟩, ⟨Htl, Htg, Hst, HO⟩, Hoch, Hr1, Hr2, %Y', %hY', Hout⟩
  icases HN with (⟨%hn, -⟩ | ⟨-, Hrl, ⟨%I0, Hi0⟩, Hg0, Hs0⟩)
  · exact absurd hn.1 (by omega)
  ihave Hrm := (pointsTo_share (PosShare.mem_left_op_right q)).2 $$ [Hrl Hrr]
  · isplitl [Hrl]; · iexact Hrl
    iexact Hrr
  ihave Hi := (holds_join' row1_sub) $$ [Hi1 Hi]
  · isplitl [Hi1]; · iexact Hi1
    iexact Hi
  icases Hi with ⟨%I', Hi⟩
  ihave Hi := (holds_join' (Finset.subset_univ row0)) $$ [Hi0 Hi]
  · isplitl [Hi0]; · iexact Hi0
    iexact Hi
  ihave Hout := (holds_congr (c := tV d L) (m := A.out) (Y := Z) (fun x hx => hY' x hx (by
    have h0 : (x 0).val < 50 := (x 0).isLt
    have h3 := (Finset.mem_filter.mp hx).2
    unfold cnum; omega))) $$ Hout
  iapply wp_done
  isplitl [Hxt Hrm Htl]
  · isplitl [Hxt]; · iexact Hxt
    isplitl [Hrm]; · iexact Hrm
    iexact Htl
  isplitl [Hout]; · iexact Hout
  isplitr [HO]; rotate_left; · iexact HO
  isplitl [Hxw]; · iexists _; iexact Hxw
  isplitl [Hi]; · iexact Hi
  isplitl [Hsw]; · iexists _; iexact Hsw
  isplitl [Hcv]; · iexists _; iexact Hcv
  isplitl [Hpos]; · iexists _; iexact Hpos
  isplitl [Htsl]; · iexists _; iexact Htsl
  isplitl [Hti]; · iexists _; iexact Hti
  isplitl [Hg0]; · iexact Hg0
  isplitl [Hg1]; · iexact Hg1
  isplitl [Hoch]; · iexact Hoch
  isplitl [Htg]; · iexact Htg
  isplitl [Hs0]; · iexact Hs0
  isplitl [Hs1]; · iexact Hs1
  isplitl [Hst]; · iexact Hst
  isplitl [Hr0]; · iexact Hr0
  isplitl [Hr1]; · iexact Hr1
  iexact Hr2

end Body

end Cert.Proof.Lookup
-- ==== Proof.Own.lean ====
/-
  The operands of the launched lookup, and its memory and semaphores among a subcore's own.
-/
module

public import proofs.«01_k».proof.Proof.Body

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

open Idealize.ShloMosaic.SparseCore.Cfg (ownBufs ownSems0 ownCells ownRefs mem_ownCells)

/-! ## Some members out of a separating conjunction -/

section Take

variable {M : Type} [URA M] {I : Type} [DecidableEq I]

def seps (Φ : I → sProp M) : List I → sProp M → sProp M
  | [], R => R
  | a :: l, R => iprop(Φ a ∗ seps Φ l R)

def restOf (s : Finset I) : List I → Finset I
  | [] => s
  | a :: l => restOf (s.erase a) l

theorem bigSep_take (Φ : I → sProp M) : ∀ (l : List I) (s : Finset I), l.Nodup → (∀ x ∈ l, x ∈ s) → bigSep s Φ = seps Φ l (bigSep (restOf s l) Φ)
  | [], _, _, _ => rfl
  | a :: l, s, hn, h => by
    rw [SparseCore.bigSep_erase' (h a List.mem_cons_self)]
    refine congrArg (fun R => iprop(Φ a ∗ R)) (bigSep_take Φ l (s.erase a) (List.nodup_cons.mp hn).2 fun x hx => ?_)
    exact Finset.mem_erase.mpr ⟨fun e => (List.nodup_cons.mp hn).1 (e ▸ hx), h x (List.mem_cons_of_mem a hx)⟩

end Take

/-- The launched lookup's operands. -/
abbrev A₀ : Args where
  xt := Memref.whole main_v2_scv
  hxt := Memref.isWhole_whole _
  rm := Memref.whole main_v8_scv
  hrm := Memref.isWhole_whole _
  tl := Memref.whole main_v7_scv
  htl := Memref.isWhole_whole _
  out := Memref.whole main_v9_scv
  hout := Memref.isWhole_whole _
  xw := Memref.whole cc1_scratch0
  hxw := Memref.isWhole_whole _
  i4 := Memref.whole cc1_scratch1
  hi4 := Memref.isWhole_whole _
  sw := Memref.whole cc1_scratch2
  hsw := Memref.isWhole_whole _
  cv := Memref.whole cc1_scratch3
  hcv := Memref.isWhole_whole _
  pos := Memref.whole cc1_scratch4
  hpos := Memref.isWhole_whole _
  tsl := Memref.whole cc1_scratch5
  htsl := Memref.isWhole_whole _
  ti4 := Memref.whole cc1_scratch6
  hti4 := Memref.isWhole_whole _
  g0 := Memref.whole cc1_scratch7
  hg0 := Memref.isWhole_whole _
  g1 := Memref.whole cc1_scratch8
  hg1 := Memref.isWhole_whole _
  och := Memref.whole cc1_scratch9
  hoch := Memref.isWhole_whole _
  tg := Memref.whole cc1_scratch10
  htg := Memref.isWhole_whole _
  s0 := cc1_scratch11
  s1 := cc1_scratch12
  st := cc1_scratch13
  r0 := cc1_scoped0
  r1 := cc1_scoped1
  r2 := cc1_scoped2

theorem sizes : A₀.Sizes where
  g0 := by decide
  g1 := by decide
  tg := by decide
  xw := by decide
  out := fun _ _ => View.dmaCredit_pos _ (by decide)

section Own

variable (d : Dev nD) (L : grid1.Coords)

theorem holds_of_buf {c : Thread nD τ} {sp : Space} {s : Shape} {e : EltTy} {m : Memref sig c.2.kind sp s e} (h : m.view.set = Finset.univ) {q : PosShare TreeShare} (f : Buf (Elt F) (m.view.loc c)) :
    (m.view.loc c ↦{q} f : sProp 𝕄) ⊢ holds c m Finset.univ q (m.view.read (Elt F) f) := by
  refine Entails.trans (Entails.of_eq ?_) (holds_intro f)
  rw [View.setOn_univ, h]

theorem buf_of_holds {c : Thread nD τ} {sp : Space} {s : Shape} {e : EltTy} {m : Memref sig c.2.kind sp s e} (h : m.view.set = Finset.univ) {q : PosShare TreeShare} {X : s.Idx → Elt F e} :
    holds c m Finset.univ q X ⊢ iprop(∃ f, (m.view.loc c ↦{q} f : sProp 𝕄)) := by
  refine holds_forget.trans (Entails.of_eq ?_)
  rw [View.setOn_univ, h]

/-- A scratch buffer's own holding. -/
theorem own_holds {r : Ref sig .scVector} : iprop(∃ f, ((tV d L).loc r ↦{fullShare} f : sProp 𝕄)) ⊢ iprop(∃ X, holds (F := F) (tV d L) (Memref.whole r) Finset.univ fullShare X) := by
  iintro ⟨%f, H⟩
  iexists _
  iapply (holds_of_buf (c := tV d L) (m := Memref.whole r) (View.set_whole _) f); iexact H

theorem holds_own {r : Ref sig .scVector} : iprop(∃ X, holds (F := F) (tV d L) (Memref.whole r) Finset.univ fullShare X) ⊢ iprop(∃ f, ((tV d L).loc r ↦{fullShare} f : sProp 𝕄)) := by
  iintro ⟨%X, H⟩
  iapply (buf_of_holds (c := tV d L) (m := Memref.whole r) (View.set_whole _)); iexact H

abbrev scratch : List (Ref sig .scVector) :=
  [cc1_scratch0, cc1_scratch1, cc1_scratch2, cc1_scratch3, cc1_scratch4, cc1_scratch5, cc1_scratch6, cc1_scratch7, cc1_scratch8, cc1_scratch9, cc1_scratch10]
abbrev sems : List (SemLoc sig) := [.dma cc1_scratch11.sem, .dma cc1_scratch12.sem, .dma cc1_scratch13.sem, .dma cc1_scoped0.sem, .dma cc1_scoped1.sem, .dma cc1_scoped2.sem]

theorem scratch_nodup : scratch.Nodup := by decide

/-- What of a subcore's own memory and semaphores the lookup leaves alone. -/
def Left : sProp 𝕄 :=
  iprop((bigSep (restOf (ownRefs (τ := τ) (tV d L).2) (scratch.map (Proc.devRef (tV d L).2))) fun b => iprop(∃ f, ((d, b) : Loc nD τ sig) ↦{fullShare} f))
    ∗ bigSep (restOf (ownCells (tV d L)) (sems.map fun sm => (tV d L, sm))) fun g => semVal g 0)

theorem own_eq : (iprop(ownBufs (tV d L) ∗ ownSems0 (tV d L)) : sProp 𝕄)
    = iprop(seps (fun b => iprop(∃ f, ((d, b) : Loc nD τ sig) ↦{fullShare} f)) (scratch.map (Proc.devRef (tV d L).2))
          (bigSep (restOf (ownRefs (τ := τ) (tV d L).2) (scratch.map (Proc.devRef (tV d L).2))) fun b => iprop(∃ f, ((d, b) : Loc nD τ sig) ↦{fullShare} f))
        ∗ seps (fun g => semVal g 0) (sems.map fun sm => (tV d L, sm)) (bigSep (restOf (ownCells (tV d L)) (sems.map fun sm => (tV d L, sm))) fun g => semVal g 0)) := by
  unfold SparseCore.Cfg.ownBufs SparseCore.Cfg.ownSems0
  rw [← bigSep_take, ← bigSep_take]
  · exact List.Nodup.map (fun _ _ e => (Prod.mk.inj e).2) (by decide)
  · intro x hx
    obtain ⟨sm, hsm, rfl⟩ := List.mem_map.mp hx
    exact mem_ownCells.mpr ⟨rfl, (show ∀ sm ∈ sems, sm.isScoped .scVector = true by decide) sm hsm⟩
  · exact List.Nodup.map (Proc.devRef_injective _) scratch_nodup
  · intro x hx
    obtain ⟨r, hr, rfl⟩ := List.mem_map.mp hx
    exact SparseCore.Cfg.mem_ownRefs_of_owner (by
      simp only [scratch, List.mem_cons, List.not_mem_nil, _root_.or_false] at hr
      rcases hr with rfl | rfl | rfl | rfl | rfl | rfl | rfl | rfl | rfl | rfl | rfl <;> rfl)

theorem mine_of_own : iprop(ownBufs (tV d L) ∗ ownSems0 (tV d L)) ⊢ (iprop(Mine d L A₀ ∗ Left d L) : sProp 𝕄) := by
  rw [own_eq]
  unfold Mine Left
  simp only [scratch, sems, List.map, seps]
  iintro ⟨⟨H0, H1, H2, H3, H4, H5, H6, H7, H8, H9, H10, HR⟩, S0, S1, S2, S3, S4, S5, SR⟩
  isplitr [HR SR]; rotate_left
  · isplitl [HR]; · iexact HR
    iexact SR
  isplitl [H0]; · iapply (own_holds d L (r := cc1_scratch0)); iexact H0
  isplitl [H1]; · iapply (own_holds d L (r := cc1_scratch1)); iexact H1
  isplitl [H2]; · iapply (own_holds d L (r := cc1_scratch2)); iexact H2
  isplitl [H3]; · iapply (own_holds d L (r := cc1_scratch3)); iexact H3
  isplitl [H4]; · iapply (own_holds d L (r := cc1_scratch4)); iexact H4
  isplitl [H5]; · iapply (own_holds d L (r := cc1_scratch5)); iexact H5
  isplitl [H6]; · iapply (own_holds d L (r := cc1_scratch6)); iexact H6
  isplitl [H7]; · iapply (own_holds d L (r := cc1_scratch7)); iexact H7
  isplitl [H8]; · iapply (own_holds d L (r := cc1_scratch8)); iexact H8
  isplitl [H9]; · iapply (own_holds d L (r := cc1_scratch9)); iexact H9
  isplitl [H10]; · iapply (own_holds d L (r := cc1_scratch10)); iexact H10
  isplitl [S0]; · iexact S0
  isplitl [S1]; · iexact S1
  isplitl [S2]; · iexact S2
  isplitl [S3]; · iexact S3
  isplitl [S4]; · iexact S4
  iexact S5

theorem own_of_mine : (iprop(Mine d L A₀ ∗ Left d L) : sProp 𝕄) ⊢ iprop(ownBufs (tV d L) ∗ ownSems0 (tV d L)) := by
  rw [own_eq]
  unfold Mine Left
  simp only [scratch, sems, List.map, seps]
  iintro ⟨⟨H0, H1, H2, H3, H4, H5, H6, H7, H8, H9, H10, S0, S1, S2, S3, S4, S5⟩, HR, SR⟩
  isplitr [S0 S1 S2 S3 S4 S5 SR]
  · isplitl [H0]; · iapply (holds_own d L (r := cc1_scratch0)); iexact H0
    isplitl [H1]; · iapply (holds_own d L (r := cc1_scratch1)); iexact H1
    isplitl [H2]; · iapply (holds_own d L (r := cc1_scratch2)); iexact H2
    isplitl [H3]; · iapply (holds_own d L (r := cc1_scratch3)); iexact H3
    isplitl [H4]; · iapply (holds_own d L (r := cc1_scratch4)); iexact H4
    isplitl [H5]; · iapply (holds_own d L (r := cc1_scratch5)); iexact H5
    isplitl [H6]; · iapply (holds_own d L (r := cc1_scratch6)); iexact H6
    isplitl [H7]; · iapply (holds_own d L (r := cc1_scratch7)); iexact H7
    isplitl [H8]; · iapply (holds_own d L (r := cc1_scratch8)); iexact H8
    isplitl [H9]; · iapply (holds_own d L (r := cc1_scratch9)); iexact H9
    isplitl [H10]; · iapply (holds_own d L (r := cc1_scratch10)); iexact H10
    iexact HR
  isplitl [S0]; · iexact S0
  isplitl [S1]; · iexact S1
  isplitl [S2]; · iexact S2
  isplitl [S3]; · iexact S3
  isplitl [S4]; · iexact S4
  isplitl [S5]; · iexact S5
  iexact SR

end Own

end Cert.Proof.Lookup
-- ==== Proof.Pack.lean ====
/-
  The repacking call's inner step: a block of thirty-two columns of a table, read sixteen entries at a time and
  scattered to the rows of the packed block. `At c r p`: with the vectors before vector `r` of row `c` scattered, the
  program `p` does what is asked of the rest.
-/
module

public import proofs.«01_k».proof.Proof.Gath

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

/-- Lane by lane, sixteen times `r` and up; times thirty-two, plus `c`: where row `c`'s vector `r` goes in the packed block, counted along its rows. -/
def flatAt (v : IVec S16 32) (c r : ℕ) : IVec S16 32 :=
  addi (muli (addi (broadcast S16 (BitVec.ofNat 32 (r * 16))) v) (broadcast S16 32#32)) (broadcast S16 (BitVec.ofNat 32 c))
def rowAt (v : IVec S16 32) (c r : ℕ) : IVec S16 32 := shrui (flatAt v c r) (broadcast S16 7#32)
def colAt (v : IVec S16 32) (c r : ℕ) : IVec S16 32 := andi (flatAt v c r) (broadcast S16 127#32)

/-- The packed block's entries whose vector is before vector `r` of row `c` are the block's. -/
def Packed (AV f : S32x128.Idx → Elt F .f32) (c r : ℕ) : Prop :=
  ∀ i < 32, ∀ j < 128, j % 32 * 8 + (i * 4 + j / 32) / 16 < c * 8 + r → f (ix2 i j) = AV (ix2 (j % 32) (i * 4 + j / 32))

theorem shr7 {u : ArithUnit} (v : BitVec 32) : (IntOp.shrui u v 7#32).toNat = v.toNat / 128 := by
  show (if (7#32 : BitVec 32).toNat < 32 then v >>> (7#32).toNat else _).toNat = _
  rw [if_pos (by decide), BitVec.toNat_ushiftRight, Nat.shiftRight_eq_div_pow]
  rfl

section Lanes

variable {v : IVec S16 32} (hv : ∀ l < 16, v (ix1 l) = BitVec.ofNat 32 l) {c r : ℕ} (hc : c < 32) (hr : r < 8) {l : ℕ} (hl : l < 16)

include hv hc hr hl

theorem flatAt_lane : flatAt v c r (ix1 l) = BitVec.ofNat 32 ((r * 16 + l) * 32 + c) := by
  show (BitVec.ofNat 32 (r * 16) + v (ix1 l)) * 32#32 + BitVec.ofNat 32 c = _
  rw [hv l hl]
  apply BitVec.eq_of_toNat_eq
  simp only [BitVec.toNat_add, BitVec.toNat_mul, BitVec.toNat_ofNat]
  omega

theorem rowAt_lane : (rowAt v c r (ix1 l)).toNat = (r * 16 + l) / 4 := by
  refine (shr7 (u := .vector) (flatAt v c r (ix1 l))).trans ?_
  rw [flatAt_lane hv hc hr hl, BitVec.toNat_ofNat]
  omega

theorem colAt_lane : (colAt v c r (ix1 l)).toNat = l % 4 * 32 + c := by
  show (flatAt v c r (ix1 l) &&& 127#32).toNat = _
  rw [flatAt_lane hv hc hr hl, BitVec.toNat_and, show (127#32).toNat = 2 ^ 7 - 1 from rfl, Nat.and_two_pow_sub_one_eq_mod, BitVec.toNat_ofNat]
  omega

end Lanes

theorem inCol_pack {v : IVec S16 32} (hv : ∀ l < 16, v (ix1 l) = BitVec.ofNat 32 l) {c r : ℕ} (hc : c < 32) (hr : r < 8) : InCol (rowAt v c r) (colAt v c r) := by
  intro a x
  revert x
  refine forall_ix1 fun l hl => ?_
  match a with
  | 0 => show (rowAt v c r (ix1 l)).toNat < 32; rw [rowAt_lane hv hc hr hl]; omega
  | 1 => show (colAt v c r (ix1 l)).toNat < 128; rw [colAt_lane hv hc hr hl]; omega

theorem packed_step {v : IVec S16 32} (hv : ∀ l < 16, v (ix1 l) = BitVec.ofNat 32 l) {c r : ℕ} (hc : c < 32) (hr : r < 8) {AV f : S32x128.Idx → Elt F .f32}
    (hf : Packed AV f c r) {w : Vec F S16 .f32} (hw : ∀ l < 16, w (ix1 l) = AV (ix2 c (r * 16 + l))) (h : InCol (rowAt v c r) (colAt v c r)) :
    Packed AV (storeIdx f ![rowAt v c r, colAt v c r] w (fun _ => 1#1) false h) c (r + 1) := by
  have hat : ∀ l < 16, idxAt (s := S32x128) ![rowAt v c r, colAt v c r] h (ix1 l) = ix2 ((r * 16 + l) / 4) (l % 4 * 32 + c) := fun l hl =>
    eq_ix2 (rowAt_lane hv hc hr hl) (colAt_lane hv hc hr hl)
  have hinj : ∀ l < 16, ∀ l' < 16, (ix2 ((r * 16 + l) / 4) (l % 4 * 32 + c) : S32x128.Idx) = ix2 ((r * 16 + l') / 4) (l' % 4 * 32 + c) → l = l' := by
    intro l hl l' hl' he
    have e0 := congrArg (fun x : S32x128.Idx => (x 0).val) he
    have e1 := congrArg (fun x : S32x128.Idx => (x 1).val) he
    simp only [ix2_val0 (show (r * 16 + l) / 4 < 32 by omega), ix2_val0 (show (r * 16 + l') / 4 < 32 by omega)] at e0
    simp only [ix2_val1 (show l % 4 * 32 + c < 128 by omega), ix2_val1 (show l' % 4 * 32 + c < 128 by omega)] at e1
    omega
  intro i hi j hj hlt
  by_cases hh : j % 32 = c ∧ (i * 4 + j / 32) / 16 = r
  · obtain ⟨h1, h2⟩ := hh
    have hl : i * 4 + j / 32 - r * 16 < 16 := by omega
    have he : (ix2 i j : S32x128.Idx) = idxAt (s := S32x128) ![rowAt v c r, colAt v c r] h (ix1 (i * 4 + j / 32 - r * 16)) := by
      rw [hat _ hl]; congr 1 <;> omega
    rw [he, storeIdx_hit (F := F) (forall_ix1 fun l hl => forall_ix1 fun l' hl' he => by rw [hat l hl, hat l' hl'] at he; rw [hinj l hl l' hl' he]), hw _ hl]
    congr 2 <;> omega
  · rw [storeIdx_miss (F := F) _ (forall_ix1 fun l hl he => hh ?_)]
    · exact hf i hi j hj (by omega)
    · rw [hat l hl] at he
      have e0 := congrArg (fun x : S32x128.Idx => (x 0).val) he
      have e1 := congrArg (fun x : S32x128.Idx => (x 1).val) he
      simp only [ix2_val0 (show (r * 16 + l) / 4 < 32 by omega), ix2_val0 hi] at e0
      simp only [ix2_val1 (show l % 4 * 32 + c < 128 by omega), ix2_val1 hj] at e1
      omega

section At

variable {d : Dev nD} {L : grid1.Coords} {av pk : Memref sig .scVector .vmem S32x128 .f32} {AV : S32x128.Idx → Elt F .f32} {R : sProp (MT nD τ sig HX (Elt F) ℕ UU ℕ)} {α : Type} {Q : α → sProp (MT nD τ sig HX (Elt F) ℕ UU ℕ)}

/-- With the vectors before vector `r` of row `c` scattered, `p` does what is asked of the rest. -/
def At (d : Dev nD) (L : grid1.Coords) (av pk : Memref sig .scVector .vmem S32x128 .f32) (AV : S32x128.Idx → Elt F .f32) (R : sProp 𝕄) (Q : α → sProp 𝕄) (c r : ℕ) (p : PR F L α) : Prop :=
  ∀ f, Packed AV f c r → iprop(holds (tV d L) av Finset.univ fullShare AV ∗ holds (tV d L) pk Finset.univ fullShare f ∗ R) ⊢ WP d L p Q

/-- The load's rule, its program written as the operation and what follows. -/
theorem op_load {m : Memref sig .scVector .vmem S32x128 .f32} {X : S32x128.Idx → Elt F .f32} {r : Rect S32x128} {hl : m.view.LoadsAt r.toLoadRect} {k : (r.shape.Idx → Elt F .f32) → PR F L α} :
    holds (tV d L) m Finset.univ fullShare X ⊢ iprop((holds (tV d L) m Finset.univ fullShare X -∗ WP d L (k fun j => X (r.emb j)) Q) -∗ WP d L (Prog.op (TpuEff.load m r.toLoadRect hl) k) Q) :=
  holds_load (c := tV d L) (m := m) (k := k) (Finset.subset_univ _)

theorem At_load {c r : ℕ} {h : ∀ a, (![c, r * 16] : Fin 2 → ℕ) a + S1x16.size a ≤ S32x128.size a} {hl : av.view.LoadsAt (Rect.unit (s := S32x128) ![c, r * 16] S1x16.size h).toLoadRect}
    {k : ((Rect.unit (s := S32x128) ![c, r * 16] S1x16.size h).shape.Idx → Elt F .f32) → PR F L α}
    (hk : ∀ x : S1x16.Idx → Elt F .f32, (∀ l < 16, shapeCast S16 x shapeCasts_S1x16_S16 (ix1 l) = AV (ix2 c (r * 16 + l))) → At d L av pk AV R Q c r (k x)) :
    At d L av pk AV R Q c r (Prog.op (TpuEff.load av (Rect.unit (s := S32x128) ![c, r * 16] S1x16.size h).toLoadRect hl) k) := by
  intro f hf
  iintro ⟨Ha, Hp, HR⟩
  iapply (op_load (r := Rect.unit (s := S32x128) ![c, r * 16] S1x16.size h) (hl := hl) (k := k)) $$ Ha
  iintro Ha
  iapply (hk _ (fun l hl => ?_) f hf)
  rotate_left
  · isplitl [Ha]; · iexact Ha
    isplitl [Hp] <;> iassumption
  · rw [cast_1x16 _ l hl, emb_unit2]
    congr 2
    exact congrArg (r * 16 + ·) (ix2_val1 (a := 1) (b := 16) (r := 0) hl)

theorem At_check {v : IVec S16 32} (hv : ∀ l < 16, v (ix1 l) = BitVec.ofNat 32 l) {c r : ℕ} (hc : c < 32) (hr : r < 8) {P : Prop} {dec : Decidable P}
    {k : PLift P → PR F L α} (hP : InCol (rowAt v c r) (colAt v c r) → P) (hk : ∀ h : P, At d L av pk AV R Q c r (k ⟨h⟩)) :
    At d L av pk AV R Q c r (.op (.assume P dec) k) := by
  intro f hf
  exact (hk (hP (inCol_pack hv hc hr)) f hf).trans (wp_check (c := tV d L) _)

theorem At_store {v : IVec S16 32} (hv : ∀ l < 16, v (ix1 l) = BitVec.ofNat 32 l) {c r : ℕ} (hc : c < 32) (hr : r < 8) {w : Vec F S16 .f32}
    {i0 i1 : IVec S16 32} {h : ∀ a x, ((![i0, i1] : Fin 2 → IVec S16 32) a x).toNat < S32x128.size a}
    {hl} {hx} {hm} {k : PUnit → PR F L α}
    (hw : ∀ l < 16, w (ix1 l) = AV (ix2 c (r * 16 + l))) (h0 : i0 = rowAt v c r) (h1 : i1 = colAt v c r)
    (hk : At d L av pk AV R Q c (r + 1) (k ⟨⟩)) :
    At d L av pk AV R Q c r (.op (.load pk (.whole S32x128) hl) fun f => .op (.store pk (.whole S32x128) (storeIdx f ![i0, i1] w (fun _ => 1#1) false h) Finset.univ hx hm) k) := by
  subst h0; subst h1
  intro f hf
  show _ ⊢ WP d L (SparseCore.vectorStoreIdx pk ![rowAt v c r, colAt v c r] w (fun _ => 1#1) false h hx >>= k) Q
  iintro ⟨Ha, Hp, HR⟩
  iapply (holds_storeIdx (c := tV d L) (m := pk) (idxs := ![rowAt v c r, colAt v c r]) (v := w) (mask := fun _ => 1#1) (add := false) (h := h) (hs := hx) (k := k)) $$ Hp
  iintro Hp
  iapply (hk _ (packed_step hv hc hr hf hw h))
  isplitl [Ha]; · iexact Ha
  isplitl [Hp] <;> iassumption

theorem At_row {c : ℕ} {p : PR F L α} (hk : At d L av pk AV R Q (c + 1) 0 p) : At d L av pk AV R Q c 8 p :=
  fun f hf => hk f fun i hi j hj hlt => hf i hi j hj (by omega)

variable {O : CellTallies nD τ sig HX} {W : Waits sig HX}

/-- The packing's start: the wait for the block. -/
theorem At_wait {sem : DmaSem sig} {N : ℕ} {D : sProp 𝕄} {s₁ : Shape} {e₁ : EltTy} {sp₁ : Space} {src : Memref sig .scVector sp₁ s₁ e₁} {hsrc : src.view.WordExact} {hdst : av.view.WordExact}
    {k : PUnit → PR F L α} (hN : av.view.dmaCredit = N) (hk : At d L av pk AV iprop(D ∗ semVal ((tV d L), SemLoc.dma sem) 0 ∗ OW d L O W ∗ R) Q 0 0 (k ⟨⟩)) :
    iprop(Fly d L sem N iprop(holds (tV d L) av Finset.univ fullShare AV ∗ D) ∗ OW d L O W ∗ (∃ f, holds (tV d L) pk Finset.univ fullShare f) ∗ R)
      ⊢ WP d L (.op (.waitDma2 sem src av hsrc hdst) k) Q := by
  iintro ⟨Hf, HO, ⟨%f, Hp⟩, HR⟩
  iapply (wp_waitFly (F := F) (O := O) (W := W) (k := k) hN) $$ [Hf HO]
  · isplitl [Hf] <;> iassumption
  iintro ⟨⟨Ha, HD⟩, Hs, HO⟩
  iapply (hk f fun i _ j _ h => absurd h (by omega))
  isplitl [Ha]; · iexact Ha
  isplitl [Hp]; · iexact Hp
  isplitl [HD]; · iexact HD
  isplitl [Hs]; · iexact Hs
  isplitl [HO] <;> iassumption

/-- The packing's start when the block is first asked for. -/
theorem At_fetch {sem : DmaSem sig} {N : ℕ} {src src' : Memref sig .scVector .hbm S32x128 .f32} {h1 : src.view.WordExact} {h2 : av.view.WordExact} {h3} {h4 : src'.view.WordExact} {h5 : av.view.WordExact}
    {q : PosShare TreeShare} {k : PUnit → PR F L α} (hN : av.view.dmaCredit = N) (hN0 : 0 < N)
    (hk : At d L av pk AV iprop(holds (tV d L) src Finset.univ q AV ∗ semVal ((tV d L), SemLoc.dma sem) 0 ∗ OW d L O W ∗ R) Q 0 0 (k ⟨⟩)) :
    iprop(holds (tV d L) src Finset.univ q AV ∗ (∃ X, holds (tV d L) av Finset.univ fullShare X) ∗ semVal ((tV d L), SemLoc.dma sem) 0 ∗ OW d L O W
        ∗ (∃ f, holds (tV d L) pk Finset.univ fullShare f) ∗ R)
      ⊢ WP d L (.op (.enqueueDma src (.here av) (.dma sem) h1 h2 h3) fun _ => .op (.waitDma2 sem src' av h4 h5) k) Q := by
  show _ ⊢ WP d L (Prog.lift (.enqueueDma src (.here av) (.dma sem) h1 h2 h3) >>= fun _ => Prog.op (.waitDma2 sem src' av h4 h5) k) Q
  iintro ⟨Hs, ⟨%X, Ha⟩, Hv, HO, Hp, HR⟩
  iapply (wp_copyFly (d := d) (L := L) hN hN0) $$ [Hs Ha Hv]
  · isplitl [Hs]; · iexact Hs
    isplitl [Ha]; · iexact Ha
    iexact Hv
  iintro Hf
  iapply (At_wait (O := O) (W := W) hN hk)
  isplitl [Hf]; · iexact Hf
  isplitl [HO]; · iexact HO
  isplitl [Hp]; · iexact Hp
  iexact HR

end At

end Cert.Proof.Lookup
-- ==== Proof.Copies.lean ====
/-
  The three printed copies of the packing, by the inner step 256 times.
-/
module

public import proofs.«01_k».proof.Proof.Pack

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

/-- The repacking call's operands: the two transposed tables, the packed table, the two block buffers, the packed block and the semaphores. -/
structure Args0 where
  fw : Memref sig .scVector .hbm S32x990000 .f32
  hfw : fw.IsWhole
  gw : Memref sig .scVector .hbm S32x10000 .f32
  hgw : gw.IsWhole
  out : Memref sig .scVector .hbm S250004x128 .f32
  hout : out.IsWhole
  a0 : Memref sig .scVector .vmem S32x128 .f32
  ha0 : a0.IsWhole
  a1 : Memref sig .scVector .vmem S32x128 .f32
  ha1 : a1.IsWhole
  pk : Memref sig .scVector .vmem S32x128 .f32
  hpk : pk.IsWhole
  s0 : DmaSems sig S_
  s1 : DmaSems sig S_
  r0 : DmaSems sig S_
  r1 : DmaSems sig S_
  r2 : DmaSems sig S_

/-- The printed text at a record of operands. -/
abbrev Args0.app {β : Sort _} (A : Args0) (f : (arg2 : Memref sig .scVector .hbm S32x990000 .f32) → arg2.IsWhole → (arg3 : Memref sig .scVector .hbm S32x10000 .f32) → arg3.IsWhole
    → (arg4 : Memref sig .scVector .hbm S250004x128 .f32) → arg4.IsWhole → (arg5 : Memref sig .scVector .vmem S32x128 .f32) → arg5.IsWhole
    → (arg6 : Memref sig .scVector .vmem S32x128 .f32) → arg6.IsWhole → (arg7 : Memref sig .scVector .vmem S32x128 .f32) → arg7.IsWhole
    → DmaSems sig S_ → DmaSems sig S_ → DmaSems sig S_ → DmaSems sig S_ → DmaSems sig S_ → β) : β :=
  f A.fw A.hfw A.gw A.hgw A.out A.hout A.a0 A.ha0 A.a1 A.ha1 A.pk A.hpk A.s0 A.s1 A.r0 A.r1 A.r2

/-- The printed packing of the even fixed block, and what follows it. -/
def packs1 (L : grid1.Coords) (A : Args0) (v : IVec S16 32) (t : Fin k0_t1_loop.trips) (w : BitVec 32) (h : k0_cond3 L t = 1#1) (K : PR F L PUnit) : PR F L PUnit :=
  A.app (k0_part95 (F := F) L) v t w h >>= fun x => A.app (k0_part96 (F := F) L) v t h x.1 x.2 >>= fun _ => K

/-- The printed packing of the odd fixed block, and what follows it. -/
def packs2 (L : grid1.Coords) (A : Args0) (v : IVec S16 32) (t : Fin k0_t1_loop.trips) (w : BitVec 32) (h : k0_cond5 L t = 1#1) (K : PR F L PUnit) : PR F L PUnit :=
  A.app (k0_part191 (F := F) L) v t w h >>= fun x => A.app (k0_part192 (F := F) L) v t h x.1 x.2 >>= fun _ => K

/-- The printed fetching and packing of a grad block, and what follows it. -/
def packs3 (L : grid1.Coords) (A : Args0) (v : IVec S16 32) (t : Fin k0_t2_loop.trips) (w : BitVec 32) (h : k0_cond6 L t = 1#1) (K : PR F L PUnit) : PR F L PUnit :=
  A.app (k0_part287 (F := F) L) v t w h >>= fun x => A.app (k0_part288 (F := F) L) v t h x.1 x.2.1 x.2.2.1 x.2.2.2.1 x.2.2.2.2 >>= fun _ => K

section Copies

variable {d : Dev nD} {L : grid1.Coords} {A : Args0} {O : CellTallies nD τ sig HX} {W : Waits sig HX} {AV : S32x128.Idx → Elt F .f32} {D R : sProp (MT nD τ sig HX (Elt F) ℕ UU ℕ)} {Q : PUnit → sProp (MT nD τ sig HX (Elt F) ℕ UU ℕ)} {N : ℕ}
  {v : IVec S16 32} (hv : ∀ l < 16, v (ix1 l) = BitVec.ofNat 32 l)

include hv

/-- The packed block of the even fixed block, once it has arrived. -/
theorem pack1 (hN : A.a0.view.dmaCredit = N) (t : Fin k0_t1_loop.trips) (w : BitVec 32) (h : k0_cond3 L t = 1#1) {K : PR F L PUnit}
    (hK : At d L A.a0 A.pk AV iprop(D ∗ semVal ((tV d L), SemLoc.dma A.s0.sem) 0 ∗ OW d L O W ∗ R) Q 32 0 K) :
    iprop(Fly d L A.s0.sem N iprop(holds (tV d L) A.a0 Finset.univ fullShare AV ∗ D) ∗ OW d L O W ∗ (∃ f, holds (tV d L) A.pk Finset.univ fullShare f) ∗ R)
      ⊢ WP d L (packs1 L A v t w h K) Q := by
  unfold packs1 Args0.app
  refine At_wait hN ?_
  iterate 32 (
    iterate 8 (
      refine At_load ?_
      intro x hx
      refine At_check hv (by decide) (by decide) (fun h _ => h) ?_
      intro hp
      refine At_store hv (by decide) (by decide) hx rfl rfl ?_
      clear hp hx
      try clear x)
    refine At_row ?_)
  exact hK

/-- The packed block of the odd fixed block, once it has arrived. -/
theorem pack2 (hN : A.a1.view.dmaCredit = N) (t : Fin k0_t1_loop.trips) (w : BitVec 32) (h : k0_cond5 L t = 1#1) {K : PR F L PUnit}
    (hK : At d L A.a1 A.pk AV iprop(D ∗ semVal ((tV d L), SemLoc.dma A.s1.sem) 0 ∗ OW d L O W ∗ R) Q 32 0 K) :
    iprop(Fly d L A.s1.sem N iprop(holds (tV d L) A.a1 Finset.univ fullShare AV ∗ D) ∗ OW d L O W ∗ (∃ f, holds (tV d L) A.pk Finset.univ fullShare f) ∗ R)
      ⊢ WP d L (packs2 L A v t w h K) Q := by
  unfold packs2 Args0.app
  refine At_wait hN ?_
  iterate 32 (
    iterate 8 (
      refine At_load ?_
      intro x hx
      refine At_check hv (by decide) (by decide) (fun h _ => h) ?_
      intro hp
      refine At_store hv (by decide) (by decide) hx rfl rfl ?_
      clear hp hx
      try clear x)
    refine At_row ?_)
  exact hK

/-- The packed block of a grad block, asked for and waited for. -/
theorem pack3 (hN : A.a0.view.dmaCredit = N) (hN0 : 0 < N) (t : Fin k0_t2_loop.trips) (w : BitVec 32) (h : k0_cond6 L t = 1#1) {q : PosShare TreeShare} {K : PR F L PUnit}
    (hK : At d L A.a0 A.pk AV iprop(holds (tV d L) (A.gw.slice (Rect.unit (s := S32x10000) (k0_off8 L t) S32x128.size (k0_off8_inb L t h)) (fun _ => rfl)) Finset.univ q AV
        ∗ semVal ((tV d L), SemLoc.dma A.s0.sem) 0 ∗ OW d L O W ∗ R) Q 32 0 K) :
    iprop(holds (tV d L) (A.gw.slice (Rect.unit (s := S32x10000) (k0_off8 L t) S32x128.size (k0_off8_inb L t h)) (fun _ => rfl)) Finset.univ q AV
        ∗ (∃ X, holds (tV d L) A.a0 Finset.univ fullShare X) ∗ semVal ((tV d L), SemLoc.dma A.s0.sem) 0 ∗ OW d L O W ∗ (∃ f, holds (tV d L) A.pk Finset.univ fullShare f) ∗ R)
      ⊢ WP d L (packs3 L A v t w h K) Q := by
  unfold packs3 Args0.app
  refine At_fetch hN hN0 ?_
  iterate 32 (
    iterate 8 (
      refine At_load ?_
      intro x hx
      refine At_check hv (by decide) (by decide) (fun h _ => h) ?_
      intro hp
      refine At_store hv (by decide) (by decide) hx rfl rfl ?_
      clear hp hx
      try clear x)
    refine At_row ?_)
  exact hK

end Copies

end Cert.Proof.Lookup
-- ==== Proof.Repack.lean ====
/-
  The repacking's blocks: which block a stage of a subcore is, asking for it, packing it, and putting it out.
-/
module

public import proofs.«01_k».proof.Proof.Copies
public import proofs.«01_k».proof.Proof.Tile

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

/-- The subcore's number among all. -/
def wid (L : grid1.Coords) : ℕ := 2 * (L 1).val + (L 0).val

theorem wid_lt (L : grid1.Coords) : wid L < 32 := by
  have h0 : (L 0).val < 2 := (L 0).isLt
  have h1 : (L 1).val < 16 := (L 1).isLt
  unfold wid; omega

theorem r1_trips : k0_t1_loop.trips = 121 := by decide +kernel
theorem r2_trips : k0_t2_loop.trips = 3 := by decide +kernel

/-! ## The conditions -/

theorem c1_iff : ∀ L : grid1.Coords, k0_cond1 L = 1#1 ↔ wid L + 64 * 0 < 7734 := by decide +kernel
theorem c2_iff : ∀ (L : grid1.Coords) (t : Fin k0_t1_loop.trips), k0_cond2 L t = 1#1 ↔ wid L + (64 * t.val + 32) < 7734 := by decide +kernel
theorem c3_iff : ∀ (L : grid1.Coords) (t : Fin k0_t1_loop.trips), k0_cond3 L t = 1#1 ↔ wid L + 64 * t.val < 7734 := by decide +kernel
theorem c4_iff : ∀ (L : grid1.Coords) (t : Fin k0_t1_loop.trips), k0_cond4 L t = 1#1 ↔ wid L + 64 * (t.val + 1) < 7734 := by decide +kernel
theorem c5_iff : ∀ (L : grid1.Coords) (t : Fin k0_t1_loop.trips), k0_cond5 L t = 1#1 ↔ wid L + (64 * t.val + 32) < 7734 := by decide +kernel
theorem c6_iff : ∀ (L : grid1.Coords) (t : Fin k0_t2_loop.trips), k0_cond6 L t = 1#1 ↔ wid L + 32 * t.val < 78 := by decide +kernel

theorem pair_eq {a b a' b' : ℕ} (h : a = a') (h' : b = b') : (![a, b] : Fin 2 → ℕ) = ![a', b'] := by subst h; subst h'; rfl

theorem o1_eq (L : grid1.Coords) : k0_off1 L = ![0, 128 * (wid L + 64 * 0)] := (k0_off1_eq L).trans (pair_eq rfl (by unfold wid; omega))
theorem o2_eq (L : grid1.Coords) (t : Fin k0_t1_loop.trips) : k0_off2 L t = ![0, 128 * (wid L + (64 * t.val + 32))] := (k0_off2_eq L t).trans (pair_eq rfl (by unfold wid; omega))
theorem o4_eq (L : grid1.Coords) (t : Fin k0_t1_loop.trips) : k0_off4 L t = ![32 * (wid L + 64 * t.val), 0] := (k0_off4_eq L t).trans (pair_eq (by unfold wid; omega) rfl)
theorem o5_eq (L : grid1.Coords) (t : Fin k0_t1_loop.trips) : k0_off5 L t = ![0, 128 * (wid L + 64 * (t.val + 1))] := (k0_off5_eq L t).trans (pair_eq rfl (by unfold wid; omega))
theorem o7_eq (L : grid1.Coords) (t : Fin k0_t1_loop.trips) : k0_off7 L t = ![32 * (wid L + (64 * t.val + 32)), 0] := (k0_off7_eq L t).trans (pair_eq (by unfold wid; omega) rfl)
theorem o8_eq (L : grid1.Coords) (t : Fin k0_t2_loop.trips) : k0_off8 L t = ![0, 128 * (wid L + 32 * t.val)] := (k0_off8_eq L t).trans (pair_eq rfl (by unfold wid; omega))
theorem o9_eq (L : grid1.Coords) (t : Fin k0_t2_loop.trips) : k0_off9 L t = ![247504 + 32 * (wid L + 32 * t.val), 0] := (k0_off9_eq L t).trans (pair_eq (by unfold wid; omega) rfl)

/-! ## The rows of the packed table -/

/-- The subcore that writes a row. -/
def owner (x : S250004x128.Idx) : ℕ := if (x 0).val < 247504 then (x 0).val / 32 % 32 else ((x 0).val - 247504) / 32 % 32
/-- The stage it writes it at. -/
def stage (x : S250004x128.Idx) : ℕ := if (x 0).val < 247504 then (x 0).val / 1024 else 242 + ((x 0).val - 247504) / 1024
/-- The rows that are written at all. -/
def Real (x : S250004x128.Idx) : Prop := (x 0).val < 247488 ∨ (247504 ≤ (x 0).val ∧ (x 0).val < 250000)
def mine (w : ℕ) : Finset S250004x128.Idx := Finset.univ.filter fun x => owner x = w

/-- The packed table of two transposed tables; what no block covers is as it was. -/
def packT (FW : S32x990000.Idx → Elt F .f32) (GW : S32x10000.Idx → Elt F .f32) (Y₀ : S250004x128.Idx → Elt F .f32) : S250004x128.Idx → Elt F .f32 := fun x =>
  if (x 0).val < 247488 then FW (ix2 ((x 1).val % 32) ((x 0).val * 4 + (x 1).val / 32))
  else if 247504 ≤ (x 0).val ∧ (x 0).val < 250000 then GW (ix2 ((x 1).val % 32) (((x 0).val - 247504) * 4 + (x 1).val / 32)) else Y₀ x

theorem mem_rows {b : ℕ} {h} (hb : b + 32 ≤ 250004) (x : S250004x128.Idx) :
    x ∈ (Rect.unit (s := S250004x128) ![b, 0] S32x128.size h).set ↔ b ≤ (x 0).val ∧ (x 0).val < b + 32 := by
  rw [← Rect.map_emb_univ, Finset.mem_map]
  constructor
  · rintro ⟨j, -, rfl⟩
    have h0 : (j 0).val < 32 := (j 0).isLt
    rw [emb_unit2, show (![b, 0] : Fin 2 → ℕ) 0 + (j 0).val = b + (j 0).val from rfl, ix2_val0 (by omega)]
    omega
  · rintro ⟨h1, h2⟩
    have hx1 : (x 1).val < 128 := (x 1).isLt
    refine ⟨ix2 ((x 0).val - b) (x 1).val, Finset.mem_univ _, ?_⟩
    rw [emb_unit2, ix2_val0 (by omega), ix2_val1 hx1]
    refine (eq_ix2 ?_ ?_).symm
    · show _ = b + _; omega
    · show _ = 0 + _; omega

/-- A fixed block's rows are one stage's. -/
theorem mem_fixed {w n b : ℕ} {o : Fin 2 → ℕ} {h} (eo : o = ![b, 0]) (eb : b = 32 * (w + 32 * n)) (hw : w < 32) (hn : w + 32 * n < 7734) (x : S250004x128.Idx) :
    x ∈ (Rect.unit (s := S250004x128) o S32x128.size h).set ↔ x ∈ mine w ∧ stage x = n := by
  subst eo; subst eb
  rw [mem_rows (by omega), mine, Finset.mem_filter]
  unfold owner stage
  have h0 : (x 0).val < 250004 := (x 0).isLt
  constructor
  · intro hh
    rw [if_pos (by omega), if_pos (by omega)]
    exact ⟨⟨Finset.mem_univ _, by omega⟩, by omega⟩
  · rintro ⟨⟨-, h1⟩, h2⟩
    by_cases hl : (x 0).val < 247504
    · rw [if_pos hl] at h1 h2; omega
    · rw [if_neg hl] at h1 h2; omega

/-- A grad block's rows are one stage's. -/
theorem mem_grad {w n b : ℕ} {o : Fin 2 → ℕ} {h} (eo : o = ![b, 0]) (eb : b = 247504 + 32 * (w + 32 * n)) (hw : w < 32) (hn : w + 32 * n < 78) (x : S250004x128.Idx) :
    x ∈ (Rect.unit (s := S250004x128) o S32x128.size h).set ↔ x ∈ mine w ∧ stage x = 242 + n := by
  subst eo; subst eb
  rw [mem_rows (by omega), mine, Finset.mem_filter]
  unfold owner stage
  have h0 : (x 0).val < 250004 := (x 0).isLt
  constructor
  · intro hh
    rw [if_neg (by omega), if_neg (by omega)]
    exact ⟨⟨Finset.mem_univ _, by omega⟩, by omega⟩
  · rintro ⟨⟨-, h1⟩, h2⟩
    by_cases hl : (x 0).val < 247504
    · rw [if_pos hl] at h1 h2; omega
    · rw [if_neg hl] at h1 h2; omega

theorem skip_fixed {w n : ℕ} (hn' : n < 242) (hn : ¬w + 32 * n < 7734) (x : S250004x128.Idx) (hx : x ∈ mine w) (hs : stage x = n) : ¬Real x := by
  have h1 := (Finset.mem_filter.mp hx).2
  unfold owner at h1; unfold stage at hs; unfold Real
  by_cases hl : (x 0).val < 247504
  · rw [if_pos hl] at h1 hs; omega
  · rw [if_neg hl] at h1 hs; omega

theorem skip_grad {w n : ℕ} (hn : ¬w + 32 * n < 78) (x : S250004x128.Idx) (hx : x ∈ mine w) (hs : stage x = 242 + n) : ¬Real x := by
  have h1 := (Finset.mem_filter.mp hx).2
  unfold owner at h1; unfold stage at hs; unfold Real
  by_cases hl : (x 0).val < 247504
  · rw [if_pos hl] at h1 hs; omega
  · rw [if_neg hl] at h1 hs; omega

/-! ## A block -/

/-- Block `cid` of a transposed table. -/
def blk {n : ℕ} [NeZero n] (X : (⟨2, ![32, n]⟩ : Shape).Idx → Elt F .f32) (cid : ℕ) : S32x128.Idx → Elt F .f32 := fun x => X (ix2 (x 0).val (128 * cid + (x 1).val))

theorem blk_eq {n : ℕ} [NeZero n] (X : (⟨2, ![32, n]⟩ : Shape).Idx → Elt F .f32) {cid : ℕ} {o : Fin 2 → ℕ} {ho} (eo : o = ![0, 128 * cid]) (x : S32x128.Idx) :
    X ((Rect.unit (s := ⟨2, ![32, n]⟩) o S32x128.size ho).emb x) = blk X cid x := by
  subst eo
  unfold blk
  rw [emb_unit2]
  show X (ix2 (0 + _) _) = _
  rw [Nat.zero_add]; rfl

theorem packed_fixed {FW : S32x990000.Idx → Elt F .f32} {GW : S32x10000.Idx → Elt F .f32} {Y₀ : S250004x128.Idx → Elt F .f32} {cid : ℕ} {f : S32x128.Idx → Elt F .f32}
    (hc : cid < 7734) (hf : Packed (blk FW cid) f 32 0) : ∀ i < 32, ∀ j < 128, f (ix2 i j) = packT FW GW Y₀ (ix2 (32 * cid + i) j) := by
  intro i hi j hj
  rw [hf i hi j hj (by omega)]
  unfold blk packT
  rw [ix2_val0 (by omega), ix2_val1 (by omega), ix2_val0 (by omega), ix2_val1 hj, if_pos (by omega)]
  congr 2; omega

theorem packed_grad {FW : S32x990000.Idx → Elt F .f32} {GW : S32x10000.Idx → Elt F .f32} {Y₀ : S250004x128.Idx → Elt F .f32} {cid : ℕ} {f : S32x128.Idx → Elt F .f32}
    (hc : cid < 78) (hf : Packed (blk GW cid) f 32 0) : ∀ i < 32, ∀ j < 128, f (ix2 i j) = packT FW GW Y₀ (ix2 (247504 + 32 * cid + i) j) := by
  intro i hi j hj
  rw [hf i hi j hj (by omega)]
  unfold blk packT
  rw [ix2_val0 (by omega), ix2_val1 (by omega), ix2_val0 (by omega), ix2_val1 hj, if_neg (by omega), if_pos (by omega)]
  have he : 128 * cid + (i * 4 + j / 32) = (247504 + 32 * cid + i - 247504) * 4 + j / 32 := by omega
  rw [he]

/-- Two halves of what is held. -/
theorem holds_halves {d : Dev nD} {L : grid1.Coords} {sp : Space} {s : Shape} {e : EltTy} {m : Memref sig .scVector sp s e} {q : PosShare TreeShare} {X : s.Idx → Elt F e} {S : Finset s.Idx} :
    holds (tV d L) m S q X ⊢ iprop(holds (tV d L) m S q.left X ∗ holds (tV d L) m S q.right X) := by
  unfold holds
  iintro ⟨%f, H, %hf⟩
  ihave H := (pointsTo_share (PosShare.mem_left_op_right q)).1 $$ H
  icases H with ⟨H1, H2⟩
  isplitl [H1]
  · iexists f; isplitl [H1]; · iexact H1
    ipureintro; exact hf
  · iexists f; isplitl [H2]; · iexact H2
    ipureintro; exact hf

theorem holds_whole {d : Dev nD} {L : grid1.Coords} {sp : Space} {s : Shape} {e : EltTy} {m : Memref sig .scVector sp s e} {q : PosShare TreeShare} {X : s.Idx → Elt F e} {S : Finset s.Idx} :
    iprop(holds (tV d L) m S q.left X ∗ holds (tV d L) m S q.right X) ⊢ holds (tV d L) m S q X := by
  unfold holds
  iintro ⟨⟨%f, H1, %hf⟩, ⟨%g, H2, -⟩⟩
  ihave H := (persistent_entails_right (pointsTo_agree (ℓ := m.view.loc (tV d L)) (I := m.view.setOn S) (J := m.view.setOn S) (q₁ := q.left) (q₂ := q.right) (f := f) (g := g))) $$ [H1 H2]
  · isplitl [H1]; · iexact H1
    iexact H2
  icases H with ⟨%hag, H1, H2⟩
  ihave H2 := (Entails.of_eq (pointsTo_congr (ℓ := m.view.loc (tV d L)) (I := m.view.setOn S) (q := q.right) (f := g) (g := f) (fun i hi => (hag i (Finset.mem_inter.mpr ⟨hi, hi⟩)).1.symm))) $$ H2
  iexists f
  isplitl [H1 H2]
  · iapply (pointsTo_share (PosShare.mem_left_op_right q)).2
    isplitl [H1]; · iexact H1
    iexact H2
  ipureintro; exact hf

section Block

variable {d : Dev nD} {L : grid1.Coords} {A : Args0} {O : CellTallies nD τ sig HX} {W : Waits sig HX}

structure Args0.Sizes (A : Args0) : Prop where
  a0 : 0 < A.a0.view.dmaCredit
  a1 : 0 < A.a1.view.dmaCredit
  out : ∀ o h, 0 < (A.out.slice (Rect.unit (s := S250004x128) o S32x128.size h) (fun _ => rfl)).view.dmaCredit

/-- The subcore's rows, right up to stage `n` and where nothing is written. -/
def OutAt (d : Dev nD) (L : grid1.Coords) (A : Args0) (Z : S250004x128.Idx → Elt F .f32) (n : ℕ) : sProp 𝕄 :=
  iprop(∃ Y, ⌜∀ x ∈ mine (wid L), (stage x < n ∨ ¬Real x) → Y x = Z x⌝ ∗ holds (tV d L) A.out (mine (wid L)) fullShare Y)

/-- The packed block put out. -/
def putOut {L : grid1.Coords} (A : Args0) (o : Fin 2 → ℕ) (ho : ∀ x, o x + S32x128.size x ≤ S250004x128.size x) (sem : DmaSems sig S_) : PR F L PUnit := do
  Prog.lift (.enqueueDma A.pk (.here (A.out.slice (Rect.unit (s := S250004x128) o S32x128.size ho) (fun _ => rfl))) (.dma sem.sem) A.hpk.wordExact (View.wordExact_bits rfl) ⟨Or.inl rfl, trivial⟩)
  Prog.lift (.waitDma2 sem.sem A.pk (A.out.slice (Rect.unit (s := S250004x128) o S32x128.size ho) (fun _ => rfl)) A.hpk.wordExact (View.wordExact_bits rfl))
  pure ⟨⟩

theorem wp_putOut {o : Fin 2 → ℕ} {ho} {sem : DmaSems sig S_} {b n : ℕ} {Z : S250004x128.Idx → Elt F .f32} {B : S32x128.Idx → Elt F .f32}
    (hN : A.Sizes) (eo : o = ![b, 0]) (hb : b + 32 ≤ 250004) (hmem : ∀ x, x ∈ (Rect.unit (s := S250004x128) o S32x128.size ho).set ↔ x ∈ mine (wid L) ∧ stage x = n)
    (hB : ∀ i < 32, ∀ j < 128, B (ix2 i j) = Z (ix2 (b + i) j)) :
    iprop(holds (tV d L) A.pk Finset.univ fullShare B ∗ OW d L O W ∗ semVal ((tV d L), SemLoc.dma sem.sem) 0 ∗ OutAt d L A Z n)
      ⊢ WP d L (putOut (L := L) A o ho sem) fun _ => iprop(OW d L O W ∗ (∃ f, holds (tV d L) A.pk Finset.univ fullShare f)
          ∗ semVal ((tV d L), SemLoc.dma sem.sem) 0 ∗ OutAt d L A Z (n + 1)) := by
  have hz : ∀ j, Z ((Rect.unit (s := S250004x128) o S32x128.size ho).emb j) = B j := by
    subst eo
    refine forall_ix2 fun i hi j hj => ?_
    rw [hB i hi j hj, emb_unit2, ix2_val0 hi, ix2_val1 hj]
    show Z (ix2 (b + i) (0 + j)) = _
    rw [Nat.zero_add]
  unfold putOut OutAt
  iintro ⟨Hpk, HO, Hv, %Y, %hY, Hout⟩
  ihave Hout := (holds_split (S₁ := (Rect.unit (s := S250004x128) o S32x128.size ho).set) (fun x hx => ((hmem x).mp hx).1)) $$ Hout
  icases Hout with ⟨H1, H2⟩
  ihave H1 := (holds_slice _ (fun _ => rfl)) $$ H1
  iapply (wp_copyFly (d := d) (L := L) rfl (hN.out _ _)) $$ [Hpk H1 Hv]
  · isplitl [Hpk]; · iexact Hpk
    isplitl [H1]; · iexact H1
    iexact Hv
  iintro Hf
  iapply (wp_waitFly (d := d) (L := L) (O := O) (W := W) rfl) $$ [Hf HO]
  · isplitl [Hf]; · iexact Hf
    iexact HO
  iintro ⟨⟨H1, Hpk⟩, Hv, HO⟩
  ihave H1 := (holds_unslice (c := tV d L) (m := A.out) (X := Z) (Rect.unit (s := S250004x128) o S32x128.size ho) (fun _ => rfl) hz) $$ H1
  ihave H1 := (holds_congr (c := tV d L) (m := A.out) (Y := fun x => if stage x = n then Z x else Y x) (fun x hx => by rw [if_pos ((hmem x).mp hx).2])) $$ H1
  ihave H2 := (holds_congr (c := tV d L) (m := A.out) (Y := fun x => if stage x = n then Z x else Y x) (fun x hx => by
    rw [if_neg fun hh => (Finset.mem_sdiff.mp hx).2 ((hmem x).mpr ⟨(Finset.mem_sdiff.mp hx).1, hh⟩)])) $$ H2
  iapply wp_done
  isplitl [HO]; · iexact HO
  isplitl [Hpk]; · iexists B; iexact Hpk
  isplitl [Hv]; · iexact Hv
  iexists (fun x => if stage x = n then Z x else Y x)
  isplitr [H1 H2]
  · ipureintro; intro x hx hlt
    beta_reduce
    by_cases h : stage x = n
    · rw [if_pos h]
    · rw [if_neg h]; exact hY x hx (hlt.imp (fun h' => by omega) id)
  iapply (holds_join (c := tV d L) (m := A.out) (fun x hx => ((hmem x).mp hx).1))
  isplitl [H1]; · iexact H1
  iexact H2

/-- A stage that writes nothing. -/
theorem OutAt_skip {Z : S250004x128.Idx → Elt F .f32} {n : ℕ} (h : ∀ x ∈ mine (wid L), stage x = n → ¬Real x) : OutAt d L A Z n ⊢ OutAt d L A Z (n + 1) := by
  unfold OutAt
  iintro ⟨%Y, %hY, H⟩
  iexists Y
  isplitr [H]
  · ipureintro; intro x hx hlt
    refine hY x hx ?_
    by_cases hs : stage x = n
    · exact Or.inr (h x hx hs)
    · exact hlt.imp (fun h' => by omega) id
  iexact H

/-! ## Asking for a fixed block, and using it -/

/-- A buffer with nothing on its way to it. -/
def Free (d : Dev nD) (L : grid1.Coords) (fw : Memref sig .scVector .hbm S32x990000 .f32) (a : Memref sig .scVector .vmem S32x128 .f32) (s : DmaSems sig S_) (q : PosShare TreeShare)
    (FW : S32x990000.Idx → Elt F .f32) : sProp 𝕄 :=
  iprop(holds (tV d L) fw Finset.univ q FW ∗ (∃ X, holds (tV d L) a Finset.univ fullShare X) ∗ semVal ((tV d L), SemLoc.dma s.sem) 0)

/-- A buffer with block `cid` on its way to it. -/
def Ahead (d : Dev nD) (L : grid1.Coords) (fw : Memref sig .scVector .hbm S32x990000 .f32) (a : Memref sig .scVector .vmem S32x128 .f32) (s : DmaSems sig S_) (q : PosShare TreeShare)
    (FW : S32x990000.Idx → Elt F .f32) (cid : ℕ) : sProp 𝕄 :=
  iprop(∃ (o : Fin 2 → ℕ) (ho : ∀ x, o x + S32x128.size x ≤ S32x990000.size x), ⌜o = ![0, 128 * cid]⌝
    ∗ Fly d L s.sem a.view.dmaCredit iprop(holds (tV d L) a Finset.univ fullShare (blk FW cid) ∗ holds (tV d L) (fw.slice (Rect.unit (s := S32x990000) o S32x128.size ho) (fun _ => rfl)) Finset.univ q (blk FW cid))
    ∗ holds (tV d L) fw (Finset.univ \ (Rect.unit (s := S32x990000) o S32x128.size ho).set) q FW)

def Slot (d : Dev nD) (L : grid1.Coords) (fw : Memref sig .scVector .hbm S32x990000 .f32) (a : Memref sig .scVector .vmem S32x128 .f32) (s : DmaSems sig S_) (q : PosShare TreeShare)
    (FW : S32x990000.Idx → Elt F .f32) (cid : ℕ) : sProp 𝕄 :=
  iprop((⌜cid < 7734⌝ ∗ Ahead d L fw a s q FW cid) ∨ (⌜¬cid < 7734⌝ ∗ Free d L fw a s q FW))

/-- Asking for a block, if there is one. -/
def fetch {L : grid1.Coords} (fw : Memref sig .scVector .hbm S32x990000 .f32) (a : Memref sig .scVector .vmem S32x128 .f32) (ha : a.IsWhole) (s : DmaSems sig S_) (c : BitVec 1) (o : Fin 2 → ℕ)
    (ho : c = 1#1 → ∀ x, o x + S32x128.size x ≤ S32x990000.size x) : PR F L PUnit :=
  if h : c = 1#1 then do
    Prog.lift (.enqueueDma (fw.slice (Rect.unit (s := S32x990000) o S32x128.size (ho h)) (fun _ => rfl)) (.here a) (.dma s.sem) (View.wordExact_bits rfl) ha.wordExact ⟨Or.inl rfl, trivial⟩)
    pure ⟨⟩
  else do
    pure ⟨⟩

section Slots

variable {fw : Memref sig .scVector .hbm S32x990000 .f32} {a : Memref sig .scVector .vmem S32x128 .f32} {ha : a.IsWhole} {s : DmaSems sig S_} {q : PosShare TreeShare} {FW : S32x990000.Idx → Elt F .f32}
  {cid : ℕ}

theorem wp_fetch {c : BitVec 1} {o : Fin 2 → ℕ} {ho} (hN : 0 < a.view.dmaCredit) (hc : c = 1#1 ↔ cid < 7734) (eo : o = ![0, 128 * cid]) :
    Free d L fw a s q FW ⊢ WP d L (fetch (L := L) fw a ha s c o ho) fun _ => Slot d L fw a s q FW cid := by
  unfold fetch Slot
  by_cases h : c = 1#1
  · rw [dif_pos h]
    have hs : holds (tV d L) fw (Rect.unit (s := S32x990000) o S32x128.size (ho h)).set q FW
        ⊢ holds (tV d L) (fw.slice (Rect.unit (s := S32x990000) o S32x128.size (ho h)) (fun _ => rfl)) Finset.univ q (blk FW cid) :=
      (holds_slice (Rect.unit (s := S32x990000) o S32x128.size (ho h)) (fun _ => rfl)).trans (holds_congr fun x _ => blk_eq FW eo x)
    unfold Free
    iintro ⟨Hf, ⟨%X, Ha⟩, Hv⟩
    ihave Hf := (holds_split (S₁ := (Rect.unit (s := S32x990000) o S32x128.size (ho h)).set) (Finset.subset_univ _)) $$ Hf
    icases Hf with ⟨H1, H2⟩
    ihave H1 := hs $$ H1
    iapply (wp_copyFly (d := d) (L := L) rfl hN) $$ [H1 Ha Hv]
    · isplitl [H1]; · iexact H1
      isplitl [Ha]; · iexact Ha
      iexact Hv
    iintro Hfl
    iapply wp_done
    ileft
    isplitr [H2 Hfl]; · ipureintro; exact hc.mp h
    unfold Ahead
    iexists o, (ho h)
    isplitr [H2 Hfl]; · ipureintro; exact eo
    isplitl [Hfl]; · iexact Hfl
    iexact H2
  · rw [dif_neg h]
    iintro H
    iapply wp_done
    iright
    isplitr [H]; · ipureintro; exact fun h' => h (hc.mpr h')
    iexact H

theorem Slot_free (h : ¬cid < 7734) : Slot d L fw a s q FW cid ⊢ Free d L fw a s q FW := by
  unfold Slot
  iintro H
  icases H with (⟨%h', -⟩ | ⟨-, H⟩)
  · exact absurd h' h
  iexact H

/-- A block packed and put out, if there is one. -/
theorem wp_use {c : BitVec 1} {n : ℕ} {body : c = 1#1 → PR F L PUnit} {pk : sProp (MT nD τ sig HX (Elt F) ℕ UU ℕ)} {r : DmaSems sig S_} {Z : S250004x128.Idx → Elt F .f32} (hc : c = 1#1 ↔ cid < 7734)
    (hbody : ∀ (h : c = 1#1) (D : sProp (MT nD τ sig HX (Elt F) ℕ UU ℕ)), iprop(Fly d L s.sem a.view.dmaCredit iprop(holds (tV d L) a Finset.univ fullShare (blk FW cid) ∗ D) ∗ OW d L O W ∗ pk
          ∗ semVal ((tV d L), SemLoc.dma r.sem) 0 ∗ OutAt d L A Z n)
        ⊢ WP d L (body h) fun _ => iprop((holds (tV d L) a Finset.univ fullShare (blk FW cid) ∗ D ∗ semVal ((tV d L), SemLoc.dma s.sem) 0)
          ∗ OW d L O W ∗ pk ∗ semVal ((tV d L), SemLoc.dma r.sem) 0 ∗ OutAt d L A Z (n + 1)))
    (hskip : ¬cid < 7734 → ∀ x ∈ mine (wid L), stage x = n → ¬Real x) :
    iprop(Slot d L fw a s q FW cid ∗ OW d L O W ∗ pk ∗ semVal ((tV d L), SemLoc.dma r.sem) 0 ∗ OutAt d L A Z n)
      ⊢ WP d L (if h : c = 1#1 then body h else pure ⟨⟩) fun _ => iprop(Free d L fw a s q FW
          ∗ OW d L O W ∗ pk ∗ semVal ((tV d L), SemLoc.dma r.sem) 0 ∗ OutAt d L A Z (n + 1)) := by
  unfold Slot
  by_cases h : c = 1#1
  · rw [dif_pos h]
    iintro ⟨H, HO, Hp, Hr, Hout⟩
    icases H with (⟨-, H⟩ | ⟨%h', -⟩)
    · unfold Ahead
      icases H with ⟨%o, %ho, %eo, Hf, H2⟩
      iapply (wp_wand_r frame (wpE (defs₀ (F := F)) 𝒱₀ (tV d L) none) Set.univ)
      isplitl [Hf HO Hp Hr Hout]
      · iapply (hbody h _)
        isplitl [Hf]; · iexact Hf
        isplitl [HO]; · iexact HO
        isplitl [Hp]; · iexact Hp
        isplitl [Hr]; · iexact Hr
        iexact Hout
      iintro %_ ⟨⟨Ha, H1, Hv⟩, H⟩
      ihave H1 := (holds_unslice (Rect.unit (s := S32x990000) o S32x128.size ho) (fun _ => rfl) (blk_eq FW eo)) $$ H1
      isplitr [H]; rotate_left; · iexact H
      unfold Free
      isplitl [H1 H2]
      · iapply (holds_join (c := tV d L) (Finset.subset_univ _))
        isplitl [H1]; · iexact H1
        iexact H2
      isplitl [Ha]; · iexists _; iexact Ha
      iexact Hv
    · exact absurd (hc.mp h) h'
  · rw [dif_neg h]
    have h' : ¬cid < 7734 := fun h' => h (hc.mpr h')
    iintro ⟨H, HO, Hp, Hr, Hout⟩
    icases H with (⟨%h'', -⟩ | ⟨-, H⟩)
    · exact absurd h'' h'
    ihave Hout := (OutAt_skip (hskip h')) $$ Hout
    iapply wp_done
    isplitl [H]; · iexact H
    isplitl [HO]; · iexact HO
    isplitl [Hp]; · iexact Hp
    isplitl [Hr]; · iexact Hr
    iexact Hout

end Slots

end Block

end Cert.Proof.Lookup
-- ==== Proof.Repacker.lean ====
/-
  The repacking's task from start to end.
-/
module

public import proofs.«01_k».proof.Proof.Repack

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

section Prints

variable (L : grid1.Coords) (A : Args0)

abbrev even (v : IVec S16 32) (t : Fin k0_t1_loop.trips) (w : BitVec 32) : PR F L PUnit :=
  if h : k0_cond3 L t = 1#1 then packs1 L A v t w h (putOut (L := L) A (k0_off4 L t) (k0_off4_inb L t h) A.r0) else pure ⟨⟩

abbrev odd (v : IVec S16 32) (t : Fin k0_t1_loop.trips) (w : BitVec 32) : PR F L PUnit :=
  if h : k0_cond5 L t = 1#1 then packs2 L A v t w h (putOut (L := L) A (k0_off7 L t) (k0_off7_inb L t h) A.r1) else pure ⟨⟩

abbrev gradOne (v : IVec S16 32) (t : Fin k0_t2_loop.trips) (w : BitVec 32) : PR F L PUnit :=
  if h : k0_cond6 L t = 1#1 then packs3 L A v t w h (putOut (L := L) A (k0_off9 L t) (k0_off9_inb L t h) A.r2) else pure ⟨⟩

set_option maxHeartbeats 2000000 in
theorem r1_eq (v : IVec S16 32) (v1 : BitVec 32) (t : Fin k0_t1_loop.trips) (acc : BitVec 32) : A.app (k0_t1_body (F := F) L) v1 v t acc
    = fetch (L := L) A.fw A.a1 A.ha1 A.s1 (k0_cond2 L t) (k0_off2 L t) (k0_off2_inb L t) >>= fun _ => even L A v t (Scalar.addi v1 (Scalar.muli (Scalar.addi (Scalar.muli (Scf.iv 0#32 1#32 t) 2#32) 0#32) 32#32)) >>= fun _ =>
      fetch (L := L) A.fw A.a0 A.ha0 A.s0 (k0_cond4 L t) (k0_off5 L t) (k0_off5_inb L t) >>= fun _ => odd L A v t (Scalar.addi v1 (Scalar.muli (Scalar.addi (Scalar.muli (Scf.iv 0#32 1#32 t) 2#32) 1#32) 32#32)) >>= fun _ => pure 0#32 := by
  unfold fetch even odd packs1 packs2 Args0.app putOut k0_t1_body
  simp only [bind_assoc, pure_bind]
  by_cases h2 : k0_cond2 L t = 1#1
  all_goals by_cases h3 : k0_cond3 L t = 1#1
  all_goals by_cases h4 : k0_cond4 L t = 1#1
  all_goals by_cases h5 : k0_cond5 L t = 1#1
  all_goals (
    first | simp only [dif_pos h2] | simp only [dif_neg h2]
    first | simp only [dif_pos h3] | simp only [dif_neg h3]
    first | simp only [dif_pos h4] | simp only [dif_neg h4]
    first | simp only [dif_pos h5] | simp only [dif_neg h5]
    try simp only [bind_assoc, pure_bind]
    try rfl)

theorem r2_eq (v : IVec S16 32) (v1 : BitVec 32) (t : Fin k0_t2_loop.trips) (acc : BitVec 32) : A.app (k0_t2_body (F := F) L) v1 v t acc
    = gradOne L A v t (Scalar.addi v1 (Scalar.muli (Scf.iv 0#32 1#32 t) 32#32)) >>= fun _ => pure 0#32 := by
  unfold gradOne packs3 Args0.app putOut k0_t2_body
  simp only [bind_assoc, pure_bind]
  by_cases h6 : k0_cond6 L t = 1#1
  all_goals (
    first | simp only [dif_pos h6] | simp only [dif_neg h6]
    try simp only [bind_assoc, pure_bind]
    try rfl)

theorem k0_eq : A.app (cc0_k (F := F) L)
    = fetch (L := L) A.fw A.a0 A.ha0 A.s0 (k0_cond1 L) (k0_off1 L) (k0_off1_inb L) >>= fun _ =>
      Scf.Loop.for k0_t1_loop k0_t1_ok 0#32 (A.app (k0_t1_body (F := F) L) (Scalar.addi (Scalar.muli (BitVec.ofNat 32 (L 1).val) 2#32) (BitVec.ofNat 32 (L 0).val))
        (iota .scVector S16 32 [0] iota_S16_d0_w32_scVector)) >>= fun _ =>
      Scf.Loop.for k0_t2_loop k0_t2_ok 0#32 (A.app (k0_t2_body (F := F) L) (Scalar.addi (Scalar.muli (BitVec.ofNat 32 (L 1).val) 2#32) (BitVec.ofNat 32 (L 0).val))
        (iota .scVector S16 32 [0] iota_S16_d0_w32_scVector)) >>= fun _ => pure ⟨⟩ := by
  unfold fetch Args0.app
  rw [cc0_k_eq_skeleton]
  unfold cc0_k_skel
  simp only [bind_assoc, pure_bind]
  by_cases h1 : k0_cond1 L = 1#1
  all_goals (
    first | simp only [dif_pos h1] | simp only [dif_neg h1]
    try simp only [bind_assoc, pure_bind]
    try rfl)

end Prints

section Stages

variable {d : Dev nD} {L : grid1.Coords} {A : Args0} {O : CellTallies nD τ sig HX} {W : Waits sig HX} {FW : S32x990000.Idx → Elt F .f32} {GW : S32x10000.Idx → Elt F .f32}
  {Y₀ : S250004x128.Idx → Elt F .f32} {q : PosShare TreeShare} {v : IVec S16 32} (hv : ∀ l < 16, v (ix1 l) = BitVec.ofNat 32 l)

include hv

theorem wp_even (hN : A.Sizes) (t : Fin k0_t1_loop.trips) (w : BitVec 32) :
    iprop(Slot d L A.fw A.a0 A.s0 q FW (wid L + 64 * t.val) ∗ OW d L O W ∗ (∃ f, holds (tV d L) A.pk Finset.univ fullShare f) ∗ semVal ((tV d L), SemLoc.dma A.r0.sem) 0
        ∗ OutAt d L A (packT FW GW Y₀) (2 * t.val))
      ⊢ WP d L (even L A v t w) fun _ => iprop(Free d L A.fw A.a0 A.s0 q FW ∗ OW d L O W ∗ (∃ f, holds (tV d L) A.pk Finset.univ fullShare f) ∗ semVal ((tV d L), SemLoc.dma A.r0.sem) 0
        ∗ OutAt d L A (packT FW GW Y₀) (2 * t.val + 1)) := by
  have ht : t.val < 121 := r1_trips ▸ t.isLt
  have hw := wid_lt L
  have hbody := fun (h : k0_cond3 L t = 1#1) (D : sProp (MT nD τ sig HX (Elt F) ℕ UU ℕ)) => pack1 (A := A) (AV := blk FW (wid L + 64 * t.val)) (O := O) (W := W) (d := d) (D := D) hv rfl t w h
    (R := iprop(semVal ((tV d L), SemLoc.dma A.r0.sem) 0 ∗ OutAt d L A (packT FW GW Y₀) (2 * t.val)))
    (K := putOut (L := L) A (k0_off4 L t) (k0_off4_inb L t h) A.r0)
    (Q := fun _ => iprop((holds (tV d L) A.a0 Finset.univ fullShare (blk FW (wid L + 64 * t.val)) ∗ D ∗ semVal ((tV d L), SemLoc.dma A.s0.sem) 0)
        ∗ OW d L O W ∗ (∃ f, holds (tV d L) A.pk Finset.univ fullShare f) ∗ semVal ((tV d L), SemLoc.dma A.r0.sem) 0 ∗ OutAt d L A (packT FW GW Y₀) (2 * t.val + 1)))
    (fun f hf => by
      have hc := (c3_iff L t).mp h
      have hm := mem_fixed (w := wid L) (n := 2 * t.val) (h := k0_off4_inb L t h) (o4_eq L t) (by omega) hw (by omega)
      iintro ⟨Ha, Hp, HD, Hs, HO, Hr, Hout⟩
      iapply (wp_wand_r frame (wpE (defs₀ (F := F)) 𝒱₀ (tV d L) none) Set.univ)
      isplitl [Hp HO Hr Hout]
      · iapply (wp_putOut hN (o4_eq L t) (by omega) hm (packed_fixed hc hf))
        isplitl [Hp]; · iexact Hp
        isplitl [HO]; · iexact HO
        isplitl [Hr]; · iexact Hr
        iexact Hout
      iintro %_ H
      isplitr [H]; rotate_left; · iexact H
      isplitl [Ha]; · iexact Ha
      isplitl [HD]; · iexact HD
      iexact Hs)
  exact wp_use (c3_iff L t) hbody (fun hn => skip_fixed (n := 2 * t.val) (by omega) (by omega))

set_option maxHeartbeats 2000000 in
theorem wp_odd (hN : A.Sizes) (t : Fin k0_t1_loop.trips) (w : BitVec 32) :
    iprop(Slot d L A.fw A.a1 A.s1 q FW (wid L + (64 * t.val + 32)) ∗ OW d L O W ∗ (∃ f, holds (tV d L) A.pk Finset.univ fullShare f) ∗ semVal ((tV d L), SemLoc.dma A.r1.sem) 0
        ∗ OutAt d L A (packT FW GW Y₀) (2 * t.val + 1))
      ⊢ WP d L (odd L A v t w) fun _ => iprop(Free d L A.fw A.a1 A.s1 q FW ∗ OW d L O W ∗ (∃ f, holds (tV d L) A.pk Finset.univ fullShare f) ∗ semVal ((tV d L), SemLoc.dma A.r1.sem) 0
        ∗ OutAt d L A (packT FW GW Y₀) (2 * t.val + 1 + 1)) := by
  have ht : t.val < 121 := r1_trips ▸ t.isLt
  have hw := wid_lt L
  have hbody := fun (h : k0_cond5 L t = 1#1) (D : sProp (MT nD τ sig HX (Elt F) ℕ UU ℕ)) => pack2 (A := A) (AV := blk FW (wid L + (64 * t.val + 32))) (O := O) (W := W) (d := d) (D := D) hv rfl t w h
    (R := iprop(semVal ((tV d L), SemLoc.dma A.r1.sem) 0 ∗ OutAt d L A (packT FW GW Y₀) (2 * t.val + 1)))
    (K := putOut (L := L) A (k0_off7 L t) (k0_off7_inb L t h) A.r1)
    (Q := fun _ => iprop((holds (tV d L) A.a1 Finset.univ fullShare (blk FW (wid L + (64 * t.val + 32))) ∗ D ∗ semVal ((tV d L), SemLoc.dma A.s1.sem) 0)
        ∗ OW d L O W ∗ (∃ f, holds (tV d L) A.pk Finset.univ fullShare f) ∗ semVal ((tV d L), SemLoc.dma A.r1.sem) 0 ∗ OutAt d L A (packT FW GW Y₀) (2 * t.val + 1 + 1)))
    (fun f hf => by
      have hc := (c5_iff L t).mp h
      have hm := mem_fixed (w := wid L) (n := 2 * t.val + 1) (h := k0_off7_inb L t h) (o7_eq L t) (by omega) hw (by omega)
      iintro ⟨Ha, Hp, HD, Hs, HO, Hr, Hout⟩
      iapply (wp_wand_r frame (wpE (defs₀ (F := F)) 𝒱₀ (tV d L) none) Set.univ)
      isplitl [Hp HO Hr Hout]
      · iapply (wp_putOut hN (o7_eq L t) (by omega) hm (packed_fixed hc hf))
        isplitl [Hp]; · iexact Hp
        isplitl [HO]; · iexact HO
        isplitl [Hr]; · iexact Hr
        iexact Hout
      iintro %_ H
      isplitr [H]; rotate_left; · iexact H
      isplitl [Ha]; · iexact Ha
      isplitl [HD]; · iexact HD
      iexact Hs)
  exact wp_use (c5_iff L t) hbody (fun hn => skip_fixed (n := 2 * t.val + 1) (by omega) (by omega))

/-- What a subcore holds between the pairs of fixed blocks. -/
def Inv0 (d : Dev nD) (L : grid1.Coords) (A : Args0) (O : CellTallies nD τ sig HX) (W : Waits sig HX) (FW : S32x990000.Idx → Elt F .f32) (q : PosShare TreeShare)
    (Z : S250004x128.Idx → Elt F .f32) (t : ℕ) : sProp 𝕄 :=
  iprop(Slot d L A.fw A.a0 A.s0 q.left FW (wid L + 64 * t) ∗ Free d L A.fw A.a1 A.s1 q.right FW ∗ OW d L O W ∗ (∃ f, holds (tV d L) A.pk Finset.univ fullShare f)
    ∗ semVal ((tV d L), SemLoc.dma A.r0.sem) 0 ∗ semVal ((tV d L), SemLoc.dma A.r1.sem) 0 ∗ OutAt d L A Z (2 * t))

set_option maxHeartbeats 2000000 in
theorem wp_trip0 (hN : A.Sizes) (v1 : BitVec 32) (t : Fin k0_t1_loop.trips) (acc : BitVec 32) :
    Inv0 d L A O W FW q (packT FW GW Y₀) t.val ⊢ WP d L (A.app (k0_t1_body (F := F) L) v1 v t acc) fun _ => Inv0 d L A O W FW q (packT FW GW Y₀) (t.val + 1) := by
  rw [r1_eq]
  unfold Inv0
  iintro ⟨H0, H1, HO, Hp, Hr0, Hr1, Hout⟩
  iapply (wp_seq (wp_fetch (d := d) (L := L) (fw := A.fw) (a := A.a1) (ha := A.ha1) (s := A.s1) (q := q.right) (FW := FW) hN.a1 (c2_iff L t) (o2_eq L t))) $$ [H1]
  · iexact H1
  iintro %_ H1
  iapply (wp_seq (wp_even (GW := GW) (Y₀ := Y₀) (O := O) (W := W) hv hN t _)) $$ [H0 HO Hp Hr0 Hout]
  · isplitl [H0]; · iexact H0
    isplitl [HO]; · iexact HO
    isplitl [Hp]; · iexact Hp
    isplitl [Hr0]; · iexact Hr0
    iexact Hout
  iintro %_ ⟨H0, HO, Hp, Hr0, Hout⟩
  iapply (wp_seq (wp_fetch (d := d) (L := L) (fw := A.fw) (a := A.a0) (ha := A.ha0) (s := A.s0) (q := q.left) (FW := FW) hN.a0 (c4_iff L t) (o5_eq L t))) $$ [H0]
  · iexact H0
  iintro %_ H0
  iapply (wp_seq (wp_odd (GW := GW) (Y₀ := Y₀) (O := O) (W := W) hv hN t _)) $$ [H1 HO Hp Hr1 Hout]
  · isplitl [H1]; · iexact H1
    isplitl [HO]; · iexact HO
    isplitl [Hp]; · iexact Hp
    isplitl [Hr1]; · iexact Hr1
    iexact Hout
  iintro %_ ⟨H1, HO, Hp, Hr1, Hout⟩
  iapply wp_done
  isplitl [H0]; · iexact H0
  isplitl [H1]; · iexact H1
  isplitl [HO]; · iexact HO
  isplitl [Hp]; · iexact Hp
  isplitl [Hr0]; · iexact Hr0
  isplitl [Hr1]; · iexact Hr1
  iexact Hout

/-- What a subcore holds between the grad blocks. -/
def Inv1 (d : Dev nD) (L : grid1.Coords) (A : Args0) (O : CellTallies nD τ sig HX) (W : Waits sig HX) (GW : S32x10000.Idx → Elt F .f32) (q : PosShare TreeShare)
    (Z : S250004x128.Idx → Elt F .f32) (t : ℕ) : sProp 𝕄 :=
  iprop(holds (tV d L) A.gw Finset.univ q GW ∗ (∃ X, holds (F := F) (tV d L) A.a0 Finset.univ fullShare X) ∗ semVal ((tV d L), SemLoc.dma A.s0.sem) 0 ∗ OW d L O W
    ∗ (∃ f, holds (tV d L) A.pk Finset.univ fullShare f) ∗ semVal ((tV d L), SemLoc.dma A.r2.sem) 0 ∗ OutAt d L A Z (242 + t))

theorem wp_trip1 (hN : A.Sizes) (v1 : BitVec 32) (t : Fin k0_t2_loop.trips) (acc : BitVec 32) :
    Inv1 d L A O W GW q (packT FW GW Y₀) t.val ⊢ WP d L (A.app (k0_t2_body (F := F) L) v1 v t acc) fun _ => Inv1 d L A O W GW q (packT FW GW Y₀) (t.val + 1) := by
  have ht : t.val < 3 := r2_trips ▸ t.isLt
  have hw := wid_lt L
  rw [r2_eq]
  unfold Inv1 gradOne
  by_cases h : k0_cond6 L t = 1#1
  · rw [dif_pos h]
    have hc := (c6_iff L t).mp h
    have hs : holds (tV d L) A.gw (Rect.unit (s := S32x10000) (k0_off8 L t) S32x128.size (k0_off8_inb L t h)).set q GW
        ⊢ holds (tV d L) (A.gw.slice (Rect.unit (s := S32x10000) (k0_off8 L t) S32x128.size (k0_off8_inb L t h)) (fun _ => rfl)) Finset.univ q (blk GW (wid L + 32 * t.val)) :=
      (holds_slice (Rect.unit (s := S32x10000) (k0_off8 L t) S32x128.size (k0_off8_inb L t h)) (fun _ => rfl)).trans (holds_congr fun x _ => blk_eq GW (o8_eq L t) x)
    have hs' : holds (tV d L) (A.gw.slice (Rect.unit (s := S32x10000) (k0_off8 L t) S32x128.size (k0_off8_inb L t h)) (fun _ => rfl)) Finset.univ q (blk GW (wid L + 32 * t.val))
        ⊢ holds (tV d L) A.gw (Rect.unit (s := S32x10000) (k0_off8 L t) S32x128.size (k0_off8_inb L t h)).set q GW :=
      holds_unslice (Rect.unit (s := S32x10000) (k0_off8 L t) S32x128.size (k0_off8_inb L t h)) (fun _ => rfl) (blk_eq GW (o8_eq L t))
    have hm := mem_grad (w := wid L) (n := t.val) (h := k0_off9_inb L t h) (o9_eq L t) (by omega) hw (by omega)
    have hbody := fun w : BitVec 32 => pack3 (A := A) (AV := blk GW (wid L + 32 * t.val)) (O := O) (W := W) (d := d) (q := q) hv rfl hN.a0 t w h
      (R := iprop(semVal ((tV d L), SemLoc.dma A.r2.sem) 0 ∗ OutAt d L A (packT FW GW Y₀) (242 + t.val)))
      (K := putOut (L := L) A (k0_off9 L t) (k0_off9_inb L t h) A.r2)
      (Q := fun _ => iprop((holds (tV d L) A.a0 Finset.univ fullShare (blk GW (wid L + 32 * t.val)) ∗ holds (tV d L) (A.gw.slice (Rect.unit (s := S32x10000) (k0_off8 L t) S32x128.size (k0_off8_inb L t h)) (fun _ => rfl)) Finset.univ q (blk GW (wid L + 32 * t.val))
          ∗ semVal ((tV d L), SemLoc.dma A.s0.sem) 0) ∗ OW d L O W ∗ (∃ f, holds (tV d L) A.pk Finset.univ fullShare f) ∗ semVal ((tV d L), SemLoc.dma A.r2.sem) 0
          ∗ OutAt d L A (packT FW GW Y₀) (242 + t.val + 1)))
      (fun f hf => by
        iintro ⟨Ha, Hp, HD, Hs, HO, Hr, Hout⟩
        iapply (wp_wand_r frame (wpE (defs₀ (F := F)) 𝒱₀ (tV d L) none) Set.univ)
        isplitl [Hp HO Hr Hout]
        · iapply (wp_putOut hN (o9_eq L t) (by omega) hm (packed_grad hc hf))
          isplitl [Hp]; · iexact Hp
          isplitl [HO]; · iexact HO
          isplitl [Hr]; · iexact Hr
          iexact Hout
        iintro %_ H
        isplitr [H]; rotate_left; · iexact H
        isplitl [Ha]; · iexact Ha
        isplitl [HD]; · iexact HD
        iexact Hs)
    iintro ⟨Hg, Ha, Hs, HO, Hp, Hr, Hout⟩
    ihave Hg := (holds_split (S₁ := (Rect.unit (s := S32x10000) (k0_off8 L t) S32x128.size (k0_off8_inb L t h)).set) (Finset.subset_univ _)) $$ Hg
    icases Hg with ⟨H1, H2⟩
    ihave H1 := hs $$ H1
    iapply (wp_seq (hbody _)) $$ [H1 Ha Hs HO Hp Hr Hout]
    · isplitl [H1]; · iexact H1
      isplitl [Ha]; · iexact Ha
      isplitl [Hs]; · iexact Hs
      isplitl [HO]; · iexact HO
      isplitl [Hp]; · iexact Hp
      isplitl [Hr]; · iexact Hr
      iexact Hout
    iintro %_ ⟨⟨Ha, H1, Hs⟩, HO, Hp, Hr, Hout⟩
    ihave H1 := hs' $$ H1
    iapply wp_done
    isplitl [H1 H2]
    · iapply (holds_join (c := tV d L) (m := A.gw) (Finset.subset_univ _))
      isplitl [H1]; · iexact H1
      iexact H2
    isplitl [Ha]; · iexists _; iexact Ha
    isplitl [Hs]; · iexact Hs
    isplitl [HO]; · iexact HO
    isplitl [Hp]; · iexact Hp
    isplitl [Hr]; · iexact Hr
    iexact Hout
  · rw [dif_neg h]
    have hn : ¬wid L + 32 * t.val < 78 := fun h' => h ((c6_iff L t).mpr h')
    iintro ⟨Hg, Ha, Hs, HO, Hp, Hr, Hout⟩
    ihave Hout := (OutAt_skip (n := 242 + t.val) (skip_grad hn)) $$ Hout
    iapply wp_done
    isplitl [Hg]; · iexact Hg
    isplitl [Ha]; · iexact Ha
    isplitl [Hs]; · iexact Hs
    isplitl [HO]; · iexact HO
    isplitl [Hp]; · iexact Hp
    isplitl [Hr]; · iexact Hr
    iexact Hout

end Stages

section Task

variable {d : Dev nD} {L : grid1.Coords} {A : Args0} {O : CellTallies nD τ sig HX} {W : Waits sig HX} {FW : S32x990000.Idx → Elt F .f32} {GW : S32x10000.Idx → Elt F .f32}
  {Y₀ : S250004x128.Idx → Elt F .f32} {q qg : PosShare TreeShare}

/-- A subcore's own memory and semaphores for the repacking, at whatever they hold. -/
def Mine0 (d : Dev nD) (L : grid1.Coords) (A : Args0) : sProp 𝕄 :=
  iprop((∃ X, holds (F := F) (tV d L) A.a0 Finset.univ fullShare X) ∗ (∃ X, holds (F := F) (tV d L) A.a1 Finset.univ fullShare X) ∗ (∃ X, holds (F := F) (tV d L) A.pk Finset.univ fullShare X)
    ∗ semVal ((tV d L), SemLoc.dma A.s0.sem) 0 ∗ semVal ((tV d L), SemLoc.dma A.s1.sem) 0
    ∗ semVal ((tV d L), SemLoc.dma A.r0.sem) 0 ∗ semVal ((tV d L), SemLoc.dma A.r1.sem) 0 ∗ semVal ((tV d L), SemLoc.dma A.r2.sem) 0)

/-- What a subcore reads for the repacking. -/
def Reads0 (d : Dev nD) (L : grid1.Coords) (A : Args0) (FW : S32x990000.Idx → Elt F .f32) (GW : S32x10000.Idx → Elt F .f32) (q qg : PosShare TreeShare) : sProp 𝕄 :=
  iprop(holds (tV d L) A.fw Finset.univ q FW ∗ holds (tV d L) A.gw Finset.univ qg GW)

theorem stage_lt (x : S250004x128.Idx) : stage x < 242 + 3 := by
  have h0 : (x 0).val < 250004 := (x 0).isLt
  unfold stage
  split <;> omega

theorem wp_k0 (hN : A.Sizes) (hv : ∀ l < 16, iota .scVector S16 32 [0] iota_S16_d0_w32_scVector (ix1 l) = BitVec.ofNat 32 l) :
    iprop(Reads0 d L A FW GW q qg ∗ holds (tV d L) A.out (mine (wid L)) fullShare Y₀ ∗ Mine0 d L A ∗ OW d L O W)
      ⊢ WP d L (A.app (cc0_k (F := F) L)) fun _ => iprop(Reads0 d L A FW GW q qg ∗ holds (tV d L) A.out (mine (wid L)) fullShare (packT FW GW Y₀) ∗ Mine0 d L A ∗ OW d L O W) := by
  have hw := wid_lt L
  rw [k0_eq]
  unfold Reads0 Mine0
  iintro ⟨⟨Hf, Hg⟩, Hout, ⟨Ha0, Ha1, Hp, Hs0, Hs1, Hr0, Hr1, Hr2⟩, HO⟩
  ihave Hf := holds_halves $$ Hf
  icases Hf with ⟨Hl, Hr⟩
  iapply (wp_seq (wp_fetch (d := d) (L := L) (fw := A.fw) (a := A.a0) (ha := A.ha0) (s := A.s0) (q := q.left) (FW := FW) hN.a0 (c1_iff L) (o1_eq L))) $$ [Hl Ha0 Hs0]
  · unfold Free
    isplitl [Hl]; · iexact Hl
    isplitl [Ha0]; · iexact Ha0
    iexact Hs0
  iintro %_ H0
  iapply (wp_seq (wp_forInv (d := d) (L := L) (lb := k0_t1_loop.lb) (ub := k0_t1_loop.ub) (st := k0_t1_loop.st) (hok := k0_t1_ok) (init := 0#32) r1_trips
    (Inv0 d L A O W FW q (packT FW GW Y₀)) fun t acc => wp_trip0 hv hN _ t acc)) $$ [H0 Hr Ha1 Hs1 HO Hp Hr0 Hr1 Hout]
  · unfold Inv0 Free
    isplitl [H0]; · iexact H0
    isplitl [Hr Ha1 Hs1]
    · isplitl [Hr]; · iexact Hr
      isplitl [Ha1]; · iexact Ha1
      iexact Hs1
    isplitl [HO]; · iexact HO
    isplitl [Hp]; · iexact Hp
    isplitl [Hr0]; · iexact Hr0
    isplitl [Hr1]; · iexact Hr1
    unfold OutAt
    iexists Y₀
    isplitr [Hout]
    · ipureintro; intro x _ hx
      have hu : ¬Real x := hx.resolve_left (by omega)
      unfold Real at hu
      unfold packT
      rw [if_neg (fun h => hu (Or.inl h)), if_neg (fun h => hu (Or.inr h))]
    iexact Hout
  unfold Inv0
  iintro %_ ⟨H0, H1, HO, Hp, Hr0, Hr1, Hout⟩
  ihave H0 := (Slot_free (by omega)) $$ H0
  unfold Free
  icases H0 with ⟨Hl, Ha0, Hs0⟩
  icases H1 with ⟨Hr, Ha1, Hs1⟩
  iapply (wp_seq (wp_forInv (d := d) (L := L) (lb := k0_t2_loop.lb) (ub := k0_t2_loop.ub) (st := k0_t2_loop.st) (hok := k0_t2_ok) (init := 0#32) r2_trips
    (Inv1 d L A O W GW qg (packT FW GW Y₀)) fun t acc => wp_trip1 hv hN _ t acc)) $$ [Hg Ha0 Hs0 HO Hp Hr2 Hout]
  · unfold Inv1
    isplitl [Hg]; · iexact Hg
    isplitl [Ha0]; · iexact Ha0
    isplitl [Hs0]; · iexact Hs0
    isplitl [HO]; · iexact HO
    isplitl [Hp]; · iexact Hp
    isplitl [Hr2]; · iexact Hr2
    iexact Hout
  unfold Inv1 OutAt
  iintro %_ ⟨Hg, Ha0, Hs0, HO, Hp, Hr2, %Y, %hY, Hout⟩
  ihave Hout := (holds_congr (c := tV d L) (m := A.out) (Y := packT FW GW Y₀) (fun x hx => hY x hx (Or.inl (stage_lt x)))) $$ Hout
  iapply wp_done
  isplitl [Hl Hr Hg]
  · isplitl [Hl Hr]
    · iapply holds_whole
      isplitl [Hl]; · iexact Hl
      iexact Hr
    iexact Hg
  isplitl [Hout]; · iexact Hout
  isplitr [HO]; rotate_left; · iexact HO
  isplitl [Ha0]; · iexact Ha0
  isplitl [Ha1]; · iexact Ha1
  isplitl [Hp]; · iexact Hp
  isplitl [Hs0]; · iexact Hs0
  isplitl [Hs1]; · iexact Hs1
  isplitl [Hr0]; · iexact Hr0
  isplitl [Hr1]; · iexact Hr1
  iexact Hr2

end Task

end Cert.Proof.Lookup
-- ==== Proof.Own0.lean ====
/-
  The operands of the launched repacking, and its memory and semaphores among a subcore's own.
-/
module

public import proofs.«01_k».proof.Proof.Own
public import proofs.«01_k».proof.Proof.Repacker

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

open Idealize.ShloMosaic.SparseCore.Cfg (ownBufs ownSems0 ownCells ownRefs mem_ownCells)

/-- The launched repacking's operands. -/
abbrev B₀ : Args0 where
  fw := Memref.whole main_v0_scv
  hfw := Memref.isWhole_whole _
  gw := Memref.whole main_v1_scv
  hgw := Memref.isWhole_whole _
  out := Memref.whole main_v8_scv
  hout := Memref.isWhole_whole _
  a0 := Memref.whole cc0_scratch0
  ha0 := Memref.isWhole_whole _
  a1 := Memref.whole cc0_scratch1
  ha1 := Memref.isWhole_whole _
  pk := Memref.whole cc0_scratch2
  hpk := Memref.isWhole_whole _
  s0 := cc0_scratch3
  s1 := cc0_scratch4
  r0 := cc0_scoped0
  r1 := cc0_scoped1
  r2 := cc0_scoped2

theorem sizes0 : B₀.Sizes where
  a0 := by decide
  a1 := by decide
  out := fun _ _ => View.dmaCredit_pos _ (show 0 < S32x128.numel by decide)

section Own

variable (d : Dev nD) (L : grid1.Coords)

abbrev scratch0 : List (Ref sig .scVector) := [cc0_scratch0, cc0_scratch1, cc0_scratch2]
abbrev sems0 : List (SemLoc sig) := [.dma cc0_scratch3.sem, .dma cc0_scratch4.sem, .dma cc0_scoped0.sem, .dma cc0_scoped1.sem, .dma cc0_scoped2.sem]

theorem scratch0_nodup : scratch0.Nodup := by decide

/-- What of a subcore's own memory and semaphores the repacking leaves alone. -/
def Left0 : sProp 𝕄 :=
  iprop((bigSep (restOf (ownRefs (τ := τ) (tV d L).2) (scratch0.map (Proc.devRef (tV d L).2))) fun b => iprop(∃ f, ((d, b) : Loc nD τ sig) ↦{fullShare} f))
    ∗ bigSep (restOf (ownCells (tV d L)) (sems0.map fun sm => (tV d L, sm))) fun g => semVal g 0)

theorem own_eq0 : (iprop(ownBufs (tV d L) ∗ ownSems0 (tV d L)) : sProp 𝕄)
    = iprop(seps (fun b => iprop(∃ f, ((d, b) : Loc nD τ sig) ↦{fullShare} f)) (scratch0.map (Proc.devRef (tV d L).2))
          (bigSep (restOf (ownRefs (τ := τ) (tV d L).2) (scratch0.map (Proc.devRef (tV d L).2))) fun b => iprop(∃ f, ((d, b) : Loc nD τ sig) ↦{fullShare} f))
        ∗ seps (fun g => semVal g 0) (sems0.map fun sm => (tV d L, sm)) (bigSep (restOf (ownCells (tV d L)) (sems0.map fun sm => (tV d L, sm))) fun g => semVal g 0)) := by
  unfold SparseCore.Cfg.ownBufs SparseCore.Cfg.ownSems0
  rw [← bigSep_take, ← bigSep_take]
  · exact List.Nodup.map (fun _ _ e => (Prod.mk.inj e).2) (by decide)
  · intro x hx
    obtain ⟨sm, hsm, rfl⟩ := List.mem_map.mp hx
    exact mem_ownCells.mpr ⟨rfl, (show ∀ sm ∈ sems0, sm.isScoped .scVector = true by decide) sm hsm⟩
  · exact List.Nodup.map (Proc.devRef_injective _) scratch0_nodup
  · intro x hx
    obtain ⟨r, hr, rfl⟩ := List.mem_map.mp hx
    exact SparseCore.Cfg.mem_ownRefs_of_owner (by
      simp only [scratch0, List.mem_cons, List.not_mem_nil, _root_.or_false] at hr
      rcases hr with rfl | rfl | rfl <;> rfl)

theorem mine0_of_own : iprop(ownBufs (tV d L) ∗ ownSems0 (tV d L)) ⊢ (iprop(Mine0 d L B₀ ∗ Left0 d L) : sProp 𝕄) := by
  rw [own_eq0]
  unfold Mine0 Left0
  simp only [scratch0, sems0, List.map, seps]
  iintro ⟨⟨H0, H1, H2, HR⟩, S0, S1, S2, S3, S4, SR⟩
  isplitr [HR SR]; rotate_left
  · isplitl [HR]; · iexact HR
    iexact SR
  isplitl [H0]; · iapply (own_holds d L (r := cc0_scratch0)); iexact H0
  isplitl [H1]; · iapply (own_holds d L (r := cc0_scratch1)); iexact H1
  isplitl [H2]; · iapply (own_holds d L (r := cc0_scratch2)); iexact H2
  isplitl [S0]; · iexact S0
  isplitl [S1]; · iexact S1
  isplitl [S2]; · iexact S2
  isplitl [S3]; · iexact S3
  iexact S4

theorem own_of_mine0 : (iprop(Mine0 d L B₀ ∗ Left0 d L) : sProp 𝕄) ⊢ iprop(ownBufs (tV d L) ∗ ownSems0 (tV d L)) := by
  rw [own_eq0]
  unfold Mine0 Left0
  simp only [scratch0, sems0, List.map, seps]
  iintro ⟨⟨H0, H1, H2, S0, S1, S2, S3, S4⟩, HR, SR⟩
  isplitr [S0 S1 S2 S3 S4 SR]
  · isplitl [H0]; · iapply (holds_own d L (r := cc0_scratch0)); iexact H0
    isplitl [H1]; · iapply (holds_own d L (r := cc0_scratch1)); iexact H1
    isplitl [H2]; · iapply (holds_own d L (r := cc0_scratch2)); iexact H2
    iexact HR
  isplitl [S0]; · iexact S0
  isplitl [S1]; · iexact S1
  isplitl [S2]; · iexact S2
  isplitl [S3]; · iexact S3
  isplitl [S4]; · iexact S4
  iexact SR

end Own

end Cert.Proof.Lookup
-- ==== Proof.Launch.lean ====
/-
  The launch: what the two calls hand the SparseCores and their subcores and get back, and each subcore's task in each
  call.
-/
module

public import proofs.«01_k».proof.Proof.Own0
public import Idealize.ShloMosaic.Lib.SparseCore.Quiescent
public import Idealize.ShloMosaic.Lib.StableHlo.Run
public import Idealize.ShloMosaic.Lib.Pipeline.Kit

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig HX (Elt F) ℕ UU ℕ) := embL

variable (m : (ℓ : Loc nD τ sig) → Buf (Elt F) ℓ) (ρ : Dev nD → PrngReg)

abbrev aLoc (d : Dev nD) : Loc nD τ sig := (SparseCore.T d).loc main_arg0
abbrev fLoc (d : Dev nD) : Loc nD τ sig := (SparseCore.T d).loc main_arg1
abbrev gLoc (d : Dev nD) : Loc nD τ sig := (SparseCore.T d).loc main_arg2
abbrev ftLoc (d : Dev nD) : Loc nD τ sig := (SparseCore.T d).loc main_v0
abbrev gtLoc (d : Dev nD) : Loc nD τ sig := (SparseCore.T d).loc main_v1
abbrev xLoc (d : Dev nD) : Loc nD τ sig := (SparseCore.T d).loc main_v2
abbrev tLoc (d : Dev nD) : Loc nD τ sig := (SparseCore.T d).loc main_v7
abbrev rLoc (d : Dev nD) : Loc nD τ sig := (SparseCore.T d).loc main_v8
abbrev oLoc (d : Dev nD) : Loc nD τ sig := (SparseCore.T d).loc main_v9
abbrev vLoc (d : Dev nD) : Loc nD τ sig := (SparseCore.T d).loc main_v10

/-- The transposed tables and numbers. -/
def FT (d : Dev nD) : S32x990000.Idx → Elt F .f32 := transpose S32x990000 [1, 0] (m (fLoc d) : S990000x32.Idx → Elt F .f32) transposes_S990000x32_S32x990000_1_0
def GT (d : Dev nD) : S32x10000.Idx → Elt F .f32 := transpose S32x10000 [1, 0] (m (gLoc d) : S10000x32.Idx → Elt F .f32) transposes_S10000x32_S32x10000_1_0
def XT (d : Dev nD) : S50x16384.Idx → BitVec 32 :=
  transpose S50x16384 [1, 0] (m (aLoc d) : S16384x50.Idx → BitVec 32) transposes_S16384x50_S50x16384_1_0

/-- The last rows of the tables, one under the other, and the table of them the lookup reads. -/
def LAST (d : Dev nD) : S64x32.Idx → Elt F .f32 :=
  concatenate S64x32 0 [⟨S48x32, extractStridedSlice S48x32 ![989952, 0] (m (fLoc d) : S990000x32.Idx → Elt F .f32) slices_S990000x32_S48x32_989952_0⟩,
    ⟨S16x32, extractStridedSlice S16x32 ![9984, 0] (m (gLoc d) : S10000x32.Idx → Elt F .f32) slices_S10000x32_S16x32_9984_0⟩] concatenates_S48x32_S16x32_S64x32_d0
def TL (d : Dev nD) : S16x128.Idx → Elt F .f32 :=
  shapeCast S16x128 (pad S64x32 ![0, 0] ![0, 0] ![0, 0] (LAST m d) (sitofp .f32 (constantI S_ 32 0#32)) pads_S64x32_S64x32_000_000 h_S_ : S64x32.Idx → Elt F .f32) shapeCasts_S64x32_S16x128

/-- The packed table, the lookup's result, and the result transposed back. -/
def PK (d : Dev nD) : S250004x128.Idx → Elt F .f32 := packT (F := F) (FT m d) (GT m d) (m (rLoc d))
def Z (d : Dev nD) : S50x32x16384.Idx → Elt F .f32 := fun x =>
  val (F := F) (PK m d) (TL m d) (XT m d (ix2 (x 0).val (x 2).val)) (x 1).val
def RES (d : Dev nD) : S16384x50x32.Idx → Elt F .f32 :=
  transpose S16384x50x32 [2, 0, 1] (Z m d) transposes_S50x32x16384_S16384x50x32_2_0_1

/-- What the proof asks of the numbers. -/
def PreOK : Prop := ∀ (d : Dev nD) (j : S16384x50.Idx), BitVec.toNat (w := 32) (m (aLoc d) j) < 1000000

/-! ## Shares -/

/-- Part `i` of a share halved `n` times. -/
def part : ℕ → PosShare TreeShare → ℕ → PosShare TreeShare
  | 0, q, _ => q
  | n + 1, q, i => if i < 2 ^ n then part n q.left i else part n q.right (i - 2 ^ n)

def halves (n : ℕ) : Fin (2 ^ n) ⊕ Fin (2 ^ n) ≃ Fin (2 ^ (n + 1)) := finSumFinEquiv.trans (finCongr (by omega))

theorem pointsTo_parts {ℓ : Loc nD τ sig} (I : Finset (Idx ℓ)) (f : Buf (Elt F) ℓ) (n : ℕ) :
    ∀ q : PosShare TreeShare, (ℓ ↦[I]{q} f : sProp 𝕄) = bigSep Finset.univ fun i : Fin (2 ^ n) => ℓ ↦[I]{part n q i.val} f := by
  induction n with
  | zero => exact fun q => (bigSep_univ_of_subsingleton (0 : Fin 1) (Φ := fun i : Fin (2 ^ 0) => (ℓ ↦[I]{part 0 q i.val} f : sProp 𝕄))).symm
  | succ n ih =>
    intro q
    have hs := pointsTo_share (Ix := HX) (Name := ℕ) (U := UU) (Lvl := ℕ) (ℓ := ℓ) (I := I) (f := f) (PosShare.mem_left_op_right q)
    refine (BI.Entails.antisymm hs.1 hs.2).trans ?_
    rw [ih q.left, ih q.right, bigSep_univ_equiv (halves n), bigSep_univ_sum]
    congr 1 <;> refine bigSep_congr fun i _ => ?_
    · have h : ((halves n) (Sum.inl i)).val = i.val := by simp [halves]
      rw [h, show part (n + 1) q i.val = if i.val < 2 ^ n then part n q.left i.val else part n q.right (i.val - 2 ^ n) from rfl, if_pos i.isLt]
    · have h : ((halves n) (Sum.inr i)).val = 2 ^ n + i.val := by simp [halves]; try omega
      rw [h, show part (n + 1) q (2 ^ n + i.val) = if 2 ^ n + i.val < 2 ^ n then part n q.left (2 ^ n + i.val) else part n q.right (2 ^ n + i.val - 2 ^ n) from rfl,
        if_neg (by omega), Nat.add_sub_cancel_left]

/-! ## The columns and rows of the cores and subcores -/

/-- The columns of core `c`. -/
def ccols (c : ℕ) : Finset S50x32x16384.Idx := Finset.univ.biUnion fun i : Fin 16 => cols (1024 * i.val + 512 * c)

theorem mem_cols {b : ℕ} {x : S50x32x16384.Idx} : x ∈ cols b ↔ b ≤ (x 2).val ∧ (x 2).val < b + 512 := by
  unfold cols; rw [Finset.mem_filter]; exact ⟨fun h => h.2, fun h => ⟨Finset.mem_univ _, h⟩⟩

theorem cols_disjoint (c : ℕ) : ∀ i ∈ (Finset.univ : Finset (Fin 16)), ∀ j ∈ (Finset.univ : Finset (Fin 16)), i ≠ j → Disjoint (cols (1024 * i.val + 512 * c)) (cols (1024 * j.val + 512 * c)) := by
  intro i _ j _ h
  refine Finset.disjoint_left.mpr fun x hx hy => h (Fin.ext ?_)
  rw [mem_cols] at hx hy
  omega

theorem mem_ccols {c : ℕ} {x : S50x32x16384.Idx} (hc : c < 2) : x ∈ ccols c ↔ (x 2).val / 512 % 2 = c := by
  have h2 : (x 2).val < 16384 := (x 2).isLt
  unfold ccols
  rw [Finset.mem_biUnion]
  constructor
  · rintro ⟨i, -, hi⟩
    rw [mem_cols] at hi
    omega
  · intro h
    refine ⟨⟨(x 2).val / 1024, by omega⟩, Finset.mem_univ _, mem_cols.mpr ?_⟩
    show 1024 * ((x 2).val / 1024) + 512 * c ≤ _ ∧ _ < 1024 * ((x 2).val / 1024) + 512 * c + 512
    omega

theorem ccols_disjoint : ∀ i ∈ (Finset.univ : Finset (Fin 2)), ∀ j ∈ (Finset.univ : Finset (Fin 2)), i ≠ j → Disjoint (ccols i.val) (ccols j.val) := by
  intro i _ j _ h
  refine Finset.disjoint_left.mpr fun x hx hy => h (Fin.ext ?_)
  rw [mem_ccols i.isLt] at hx
  rw [mem_ccols j.isLt] at hy
  omega

theorem ccols_cover : (Finset.univ.biUnion fun c : Fin 2 => ccols c.val) = Finset.univ :=
  Finset.eq_univ_iff_forall.mpr fun x => Finset.mem_biUnion.mpr ⟨⟨(x 2).val / 512 % 2, by omega⟩, Finset.mem_univ _, (mem_ccols (by omega)).mpr rfl⟩

/-- The rows of core `c` of the packed table. -/
def crows (c : ℕ) : Finset S250004x128.Idx := Finset.univ.biUnion fun i : Fin 16 => mine (2 * i.val + c)

theorem mem_mine {w : ℕ} {x : S250004x128.Idx} : x ∈ mine w ↔ owner x = w := by
  unfold mine; rw [Finset.mem_filter]; exact ⟨fun h => h.2, fun h => ⟨Finset.mem_univ _, h⟩⟩

theorem owner_lt (x : S250004x128.Idx) : owner x < 32 := by
  unfold owner; split <;> omega

theorem mine_disjoint (c : ℕ) : ∀ i ∈ (Finset.univ : Finset (Fin 16)), ∀ j ∈ (Finset.univ : Finset (Fin 16)), i ≠ j → Disjoint (mine (2 * i.val + c)) (mine (2 * j.val + c)) := by
  intro i _ j _ h
  refine Finset.disjoint_left.mpr fun x hx hy => h (Fin.ext ?_)
  rw [mem_mine] at hx hy
  omega

theorem mem_crows {c : ℕ} {x : S250004x128.Idx} (hc : c < 2) : x ∈ crows c ↔ owner x % 2 = c := by
  have h2 := owner_lt x
  unfold crows
  rw [Finset.mem_biUnion]
  constructor
  · rintro ⟨i, -, hi⟩
    rw [mem_mine] at hi
    omega
  · intro h
    refine ⟨⟨owner x / 2, by omega⟩, Finset.mem_univ _, mem_mine.mpr ?_⟩
    show owner x = 2 * (owner x / 2) + c
    omega

theorem crows_disjoint : ∀ i ∈ (Finset.univ : Finset (Fin 2)), ∀ j ∈ (Finset.univ : Finset (Fin 2)), i ≠ j → Disjoint (crows i.val) (crows j.val) := by
  intro i _ j _ h
  refine Finset.disjoint_left.mpr fun x hx hy => h (Fin.ext ?_)
  rw [mem_crows i.isLt] at hx
  rw [mem_crows j.isLt] at hy
  omega

theorem crows_cover : (Finset.univ.biUnion fun c : Fin 2 => crows c.val) = Finset.univ :=
  Finset.eq_univ_iff_forall.mpr fun x => Finset.mem_biUnion.mpr ⟨⟨owner x % 2, by omega⟩, Finset.mem_univ _, (mem_crows (by omega)).mpr rfl⟩

/-! ## What the handshakes carry -/

/-- The numbers, the packed table and the table of last rows at a share. -/
def Ins (d : Dev nD) (q : PosShare TreeShare) : sProp 𝕄 :=
  iprop((xLoc d ↦{q} (XT m d : Buf (Elt F) (xLoc d))) ∗ (rLoc d ↦{q} (PK m d : Buf (Elt F) (rLoc d))) ∗ tLoc d ↦{q} (TL m d : Buf (Elt F) (tLoc d)))

/-- The result at some of its columns. -/
def Outs (d : Dev nD) (S : Finset S50x32x16384.Idx) (Y : S50x32x16384.Idx → Elt F .f32) : sProp 𝕄 :=
  oLoc d ↦[(S : Finset (Idx (oLoc d)))]{fullShare} (Y : Buf (Elt F) (oLoc d))

instance (d : Dev nD) (q : PosShare TreeShare) : BI.Storable (upEmb : UEmb _ 𝕄) (Ins m d q) := by unfold Ins; infer_instance
instance (d : Dev nD) (S : Finset S50x32x16384.Idx) (Y : S50x32x16384.Idx → Elt F .f32) : BI.Storable (upEmb : UEmb _ 𝕄) (Outs d S Y) := by unfold Outs; infer_instance

abbrev coreP (d : Dev nD) (c : ℕ) (Y : S50x32x16384.Idx → Elt F .f32) : sProp 𝕄 := iprop(Ins m d (part 1 fullShare c) ∗ Outs d (ccols c) Y)
abbrev subP (d : Dev nD) (c i : ℕ) (Y : S50x32x16384.Idx → Elt F .f32) : sProp 𝕄 :=
  iprop(Ins m d (part 4 (part 1 fullShare c) i) ∗ Outs d (cols (1024 * i + 512 * c)) Y)

theorem Ins_parts (d : Dev nD) (q : PosShare TreeShare) (n : ℕ) : (Ins m d q : sProp 𝕄) = bigSep Finset.univ fun i : Fin (2 ^ n) => Ins m d (part n q i.val) := by
  unfold Ins
  rw [bigSep_sep', bigSep_sep', ← pointsTo_parts, ← pointsTo_parts, ← pointsTo_parts]

theorem core_split (d : Dev nD) (c : ℕ) (Y : S50x32x16384.Idx → Elt F .f32) : (coreP m d c Y : sProp 𝕄) = bigSep Finset.univ fun i : Fin 16 => subP m d c i.val Y := by
  unfold coreP subP
  rw [bigSep_sep', Ins_parts m d _ 4]
  unfold Outs ccols
  rw [pointsTo_biUnion Finset.univ (ℓ := oLoc d) (fun i : Fin 16 => cols (1024 * i.val + 512 * c)) (cols_disjoint c)]
  rfl

theorem call_split (d : Dev nD) (Y : S50x32x16384.Idx → Elt F .f32) : (iprop(Ins m d fullShare ∗ Outs d Finset.univ Y) : sProp 𝕄) = bigSep Finset.univ fun c : Fin 2 => coreP m d c.val Y := by
  unfold coreP
  rw [bigSep_sep', Ins_parts m d _ 1, ← ccols_cover]
  unfold Outs
  rw [pointsTo_biUnion Finset.univ (ℓ := oLoc d) (fun c : Fin 2 => ccols c.val) ccols_disjoint]
  rfl

/-- The transposed tables at a share. -/
def Ins0 (d : Dev nD) (q : PosShare TreeShare) : sProp 𝕄 :=
  iprop((ftLoc d ↦{q} (FT m d : Buf (Elt F) (ftLoc d))) ∗ gtLoc d ↦{q} (GT m d : Buf (Elt F) (gtLoc d)))

/-- The packed table at some of its rows. -/
def Outs0 (d : Dev nD) (S : Finset S250004x128.Idx) (Y : S250004x128.Idx → Elt F .f32) : sProp 𝕄 :=
  rLoc d ↦[(S : Finset (Idx (rLoc d)))]{fullShare} (Y : Buf (Elt F) (rLoc d))

instance (d : Dev nD) (q : PosShare TreeShare) : BI.Storable (upEmb : UEmb _ 𝕄) (Ins0 m d q) := by unfold Ins0; infer_instance
instance (d : Dev nD) (S : Finset S250004x128.Idx) (Y : S250004x128.Idx → Elt F .f32) : BI.Storable (upEmb : UEmb _ 𝕄) (Outs0 d S Y) := by unfold Outs0; infer_instance

abbrev coreP0 (d : Dev nD) (c : ℕ) (Y : S250004x128.Idx → Elt F .f32) : sProp 𝕄 := iprop(Ins0 m d (part 1 fullShare c) ∗ Outs0 d (crows c) Y)
abbrev subP0 (d : Dev nD) (c i : ℕ) (Y : S250004x128.Idx → Elt F .f32) : sProp 𝕄 :=
  iprop(Ins0 m d (part 4 (part 1 fullShare c) i) ∗ Outs0 d (mine (2 * i + c)) Y)

theorem Ins0_parts (d : Dev nD) (q : PosShare TreeShare) (n : ℕ) : (Ins0 m d q : sProp 𝕄) = bigSep Finset.univ fun i : Fin (2 ^ n) => Ins0 m d (part n q i.val) := by
  unfold Ins0
  rw [bigSep_sep', ← pointsTo_parts, ← pointsTo_parts]

theorem core_split0 (d : Dev nD) (c : ℕ) (Y : S250004x128.Idx → Elt F .f32) : (coreP0 m d c Y : sProp 𝕄) = bigSep Finset.univ fun i : Fin 16 => subP0 m d c i.val Y := by
  unfold coreP0 subP0
  rw [bigSep_sep', Ins0_parts m d _ 4]
  unfold Outs0 crows
  rw [pointsTo_biUnion Finset.univ (ℓ := rLoc d) (fun i : Fin 16 => mine (2 * i.val + c)) (mine_disjoint c)]
  rfl

theorem call_split0 (d : Dev nD) (Y : S250004x128.Idx → Elt F .f32) : (iprop(Ins0 m d fullShare ∗ Outs0 d Finset.univ Y) : sProp 𝕄) = bigSep Finset.univ fun c : Fin 2 => coreP0 m d c.val Y := by
  unfold coreP0
  rw [bigSep_sep', Ins0_parts m d _ 1, ← crows_cover]
  unfold Outs0
  rw [pointsTo_biUnion Finset.univ (ℓ := rLoc d) (fun c : Fin 2 => crows c.val) crows_disjoint]
  rfl

def P : (K (F := F)).Pay (nD := nD) (Val := Elt F) (Name := ℕ) (U := UU) where
  st := fun q d c => match q with | 0 => coreP0 m d c.val (m (rLoc d)) | 1 => coreP m d c.val (m (oLoc d))
  dn := fun q d c => match q with | 0 => coreP0 m d c.val (PK m d) | 1 => coreP m d c.val (Z m d)
  go := fun q d c i => match q with | 0 => subP0 m d c.val i.val (m (rLoc d)) | 1 => subP m d c.val i.val (m (oLoc d))
  td := fun q d c i => match q with | 0 => subP0 m d c.val i.val (PK m d) | 1 => subP m d c.val i.val (Z m d)
  x := fun _ _ => iprop(emp)

instance P_storable : (P (F := F) m).IsStorable where
  st q d c := match q with
    | 0 => (inferInstance : BI.Storable (upEmb : UEmb _ 𝕄) (coreP0 m d c.val (m (rLoc d))))
    | 1 => (inferInstance : BI.Storable (upEmb : UEmb _ 𝕄) (coreP m d c.val (m (oLoc d))))
  dn q d c := match q with
    | 0 => (inferInstance : BI.Storable (upEmb : UEmb _ 𝕄) (coreP0 m d c.val (PK m d)))
    | 1 => (inferInstance : BI.Storable (upEmb : UEmb _ 𝕄) (coreP m d c.val (Z m d)))
  go q d c i := match q with
    | 0 => (inferInstance : BI.Storable (upEmb : UEmb _ 𝕄) (subP0 m d c.val i.val (m (rLoc d))))
    | 1 => (inferInstance : BI.Storable (upEmb : UEmb _ 𝕄) (subP m d c.val i.val (m (oLoc d))))
  td q d c i := match q with
    | 0 => (inferInstance : BI.Storable (upEmb : UEmb _ 𝕄) (subP0 m d c.val i.val (PK m d)))
    | 1 => (inferInstance : BI.Storable (upEmb : UEmb _ 𝕄) (subP m d c.val i.val (Z m d)))

theorem vecSplit0 : (K (F := F)).VecSplit' (P m) 0 := by
  intro d c
  show iprop(coreP0 m d c.val (m (rLoc d))) ⊢ |={Set.univ}=> iprop(
      (bigSep Finset.univ fun i : Fin 16 => subP0 m d c.val i.val (m (rLoc d)))
      ∗ ((bigSep Finset.univ fun i : Fin 16 => subP0 m d c.val i.val (PK m d)) -∗ iprop(coreP0 m d c.val (PK m d))))
  rw [core_split0, core_split0]
  iintro H; imodintro
  isplitl [H]; · iexact H
  iintro H; iexact H

theorem vecSplit1 : (K (F := F)).VecSplit' (P m) 1 := by
  intro d c
  show iprop(coreP m d c.val (m (oLoc d))) ⊢ |={Set.univ}=> iprop(
      (bigSep Finset.univ fun i : Fin 16 => subP m d c.val i.val (m (oLoc d)))
      ∗ ((bigSep Finset.univ fun i : Fin 16 => subP m d c.val i.val (Z m d)) -∗ iprop(coreP m d c.val (Z m d))))
  rw [core_split, core_split]
  iintro H; imodintro
  isplitl [H]; · iexact H
  iintro H; iexact H

/-! ## A subcore's task -/

section Task

variable (d : Dev nD) (L : grid0.Coords)

theorem rm_emb (x : S250004x128.Idx) : A₀.rmS.view.emb x = x := by
  refine (emb_unit2 (a := 250004) (b := 128) (n := 250004) (k := 128) (o := ![0, 0]) (h := inb_S250004x128_S250004x128_0_0) x).trans (eq_ix2 ?_ ?_).symm
  · show _ = 0 + _; omega
  · show _ = 0 + _; omega
theorem tl_emb (x : S16x128.Idx) : A₀.tlS.view.emb x = x := by
  refine (emb_unit2 (a := 16) (b := 128) (n := 16) (k := 128) (o := ![0, 0]) (h := inb_S16x128_S16x128_0_0) x).trans (eq_ix2 ?_ ?_).symm
  · show _ = 0 + _; omega
  · show _ = 0 + _; omega

theorem rm_read (f : Buf (Elt F) (A₀.rmS.view.loc (tV d L))) : A₀.rmS.view.read (Elt F) f = f :=
  funext fun x => ((View.read_apply _ _).trans (cast_eq _ _)).trans (congrArg f (rm_emb x))
theorem tl_read (f : Buf (Elt F) (A₀.tlS.view.loc (tV d L))) : A₀.tlS.view.read (Elt F) f = f :=
  funext fun x => ((View.read_apply _ _).trans (cast_eq _ _)).trans (congrArg f (tl_emb x))
theorem rm_set : A₀.rmS.view.set = Finset.univ :=
  Finset.eq_univ_iff_forall.mpr fun x => Finset.mem_map.mpr ⟨x, Finset.mem_univ _, rm_emb x⟩
theorem tl_set : A₀.tlS.view.set = Finset.univ :=
  Finset.eq_univ_iff_forall.mpr fun x => Finset.mem_map.mpr ⟨x, Finset.mem_univ _, tl_emb x⟩

theorem iota_val : ∀ l < 16, iota .scVector S16 32 [0] iota_S16_d0_w32_scVector (ix1 l) = BitVec.ofNat 32 l := by decide

theorem reads_eq (q : PosShare TreeShare) : (Ins m d q : sProp 𝕄) ⊢ Reads d L A₀ (XT m d) q q q (PK m d) (TL m d) := by
  unfold Ins Reads
  rw [rm_set, tl_set]
  iintro ⟨Hx, Hr, Ht⟩
  isplitl [Hx]
  · ihave H := (holds_of_buf (c := tV d L) (m := A₀.xt) (q := q) (View.set_whole _) (XT m d : Buf (Elt F) (xLoc d))) $$ Hx
    iexact H
  isplitl [Hr]; · iexact Hr
  iexact Ht

theorem reads_back (q : PosShare TreeShare) : Reads d L A₀ (XT m d) q q q (PK m d) (TL m d) ⊢ (Ins m d q : sProp 𝕄) := by
  unfold Ins Reads
  rw [rm_set, tl_set]
  iintro ⟨Hx, Hr, Ht⟩
  isplitl [Hx]
  · unfold holds
    icases Hx with ⟨%f, Hx, %hf⟩
    have e : f = (XT m d : Buf (Elt F) (xLoc d)) := funext fun x => hf x (Finset.mem_univ x)
    rw [e, View.setOn_univ, show A₀.xt.view.set = Finset.univ from View.set_whole _]
    iexact Hx
  isplitl [Hr]; · iexact Hr
  iexact Ht

theorem out_holds (S : Finset S50x32x16384.Idx) (Y : S50x32x16384.Idx → Elt F .f32) : (Outs d S Y : sProp 𝕄) ⊢ holds (tV d L) A₀.out S fullShare Y := by
  unfold Outs
  refine Entails.trans (Entails.of_eq ?_) (holds_intro (c := tV d L) (m := A₀.out) (S := S) (Y : Buf (Elt F) (oLoc d)))
  rw [show A₀.out.view.setOn S = S from Finset.map_refl]

theorem holds_out (S : Finset S50x32x16384.Idx) (Y : S50x32x16384.Idx → Elt F .f32) : holds (tV d L) A₀.out S fullShare Y ⊢ (Outs d S Y : sProp 𝕄) := by
  unfold Outs holds
  rw [show A₀.out.view.setOn S = S from Finset.map_refl]
  iintro ⟨%f, H, %hf⟩
  ihave H := (Entails.of_eq (pointsTo_congr (ℓ := oLoc d) (f := f) (g := (Y : Buf (Elt F) (oLoc d))) (fun x hx => hf x hx))) $$ H
  iexact H

/-- The task of subcore `L` of device `d` in the lookup call. -/
theorem task1 (hF : (K (F := F)).Facts) (hpre : PreOK m) (O : CellTallies nD τ sig HX) (W : Waits sig HX) (hO : ∀ g, O g none = 0) :
    iprop(levAts (K (F := F)).L (K (F := F)).lev ∗ emp ∗ subP m d (L 0).val (L 1).val (m (oLoc d))
        ∗ scopedBufs (tV d L) ∗ scopedSems0 (tV d L) ∗ owes (tV d L) O W)
      ⊢ WP d L (A₀.app (cc1_k (F := F) L))
          fun _ => iprop(subP m d (L 0).val (L 1).val (Z m d) ∗ scopedBufs (tV d L) ∗ scopedSems0 (tV d L)
            ∗ ∃ W', ⌜∀ p ∈ W', p ∈ W ∨ p.2 = none⌝ ∗ owes (tV d L) O W') := by
  rw [(K (F := F)).scopedBufs_V hF d (cV L) (jV L), SparseCore.Cfg.scopedSems0_V (Val := Elt F) d (cV L) (jV L)]
  iintro ⟨#Hlv, -, ⟨Hin, Hout⟩, Hb, Hs, HO⟩
  ihave Hmw := (show levAts (K (F := F)).L (K (F := F)).lev ⊢ Transfers.MayWaits (tV d L) (default : HX) O from
    (K (F := F)).mayWaits_none (thr := tV d L) hO) $$ Hlv
  ihave Hm := (mine_of_own (F := F) d L) $$ [Hb Hs]
  · isplitl [Hb] <;> iassumption
  icases Hm with ⟨Hm, Hl⟩
  ihave Hin := (reads_eq m d L _) $$ Hin
  ihave Hout := (out_holds (F := F) d L _ _) $$ Hout
  iapply (wp_wand (M := 𝕄) frame _ Set.univ) $$ [Hin Hout Hm HO Hmw]
  · iapply (wp_k (F := F) (O := O) (W := W) (Z := Z m d) sizes iota_val ?_ ?_)
    rotate_left; rotate_left
    · isplitl [Hin]; · iexact Hin
      isplitl [Hout]; · iexact Hout
      isplitl [Hm]; · iexact Hm
      unfold OW
      isplitl [Hmw]; · iexact Hmw
      iexists W
      isplitr; · ipureintro; exact fun p hp => .inl hp
      iexact HO
    · intro n _ j _
      exact hpre d _
    · intro n hn e he k hk
      have hb := base_le L
      rw [rm_read d L, tl_read d L]
      unfold Z word words
      rw [ix3_val0 (by omega), ix3_val1 he, ix3_val2 (by omega), ix2_val0 (by omega), ix2_val1 (by omega), Nat.add_assoc]
  · iintro %_ ⟨Hin, Hout, Hm, HO⟩
    isplitl [Hin Hout]
    · isplitl [Hin]; · iapply (reads_back m d L _); iexact Hin
      iapply (holds_out (F := F) d L _ _); iexact Hout
    ihave Hm := (own_of_mine (F := F) d L) $$ [Hm Hl]
    · isplitl [Hm] <;> iassumption
    icases Hm with ⟨Hb, Hs⟩
    isplitl [Hb]; · iexact Hb
    isplitl [Hs]; · iexact Hs
    unfold OW
    icases HO with ⟨-, HO⟩
    iexact HO

theorem reads0_eq (q : PosShare TreeShare) : (Ins0 m d q : sProp 𝕄) ⊢ Reads0 d L B₀ (FT m d) (GT m d) q q := by
  unfold Ins0 Reads0
  iintro ⟨Hf, Hg⟩
  isplitl [Hf]
  · ihave H := (holds_of_buf (c := tV d L) (m := B₀.fw) (q := q) (View.set_whole _) (FT m d : Buf (Elt F) (ftLoc d))) $$ Hf
    iexact H
  · ihave H := (holds_of_buf (c := tV d L) (m := B₀.gw) (q := q) (View.set_whole _) (GT m d : Buf (Elt F) (gtLoc d))) $$ Hg
    iexact H

theorem reads0_back (q : PosShare TreeShare) : Reads0 d L B₀ (FT m d) (GT m d) q q ⊢ (Ins0 m d q : sProp 𝕄) := by
  unfold Ins0 Reads0
  iintro ⟨Hf, Hg⟩
  isplitl [Hf]
  · unfold holds
    icases Hf with ⟨%f, Hf, %hf⟩
    have e : f = (FT m d : Buf (Elt F) (ftLoc d)) := funext fun x => hf x (Finset.mem_univ x)
    rw [e, View.setOn_univ, show B₀.fw.view.set = Finset.univ from View.set_whole _]
    iexact Hf
  · unfold holds
    icases Hg with ⟨%f, Hg, %hf⟩
    have e : f = (GT m d : Buf (Elt F) (gtLoc d)) := funext fun x => hf x (Finset.mem_univ x)
    rw [e, View.setOn_univ, show B₀.gw.view.set = Finset.univ from View.set_whole _]
    iexact Hg

theorem out0_holds (S : Finset S250004x128.Idx) (Y : S250004x128.Idx → Elt F .f32) : (Outs0 d S Y : sProp 𝕄) ⊢ holds (tV d L) B₀.out S fullShare Y := by
  unfold Outs0
  refine Entails.trans (Entails.of_eq ?_) (holds_intro (c := tV d L) (m := B₀.out) (S := S) (Y : Buf (Elt F) (rLoc d)))
  rw [show B₀.out.view.setOn S = S from Finset.map_refl]

theorem holds_out0 (S : Finset S250004x128.Idx) (Y : S250004x128.Idx → Elt F .f32) : holds (tV d L) B₀.out S fullShare Y ⊢ (Outs0 d S Y : sProp 𝕄) := by
  unfold Outs0 holds
  rw [show B₀.out.view.setOn S = S from Finset.map_refl]
  iintro ⟨%f, H, %hf⟩
  ihave H := (Entails.of_eq (pointsTo_congr (ℓ := rLoc d) (f := f) (g := (Y : Buf (Elt F) (rLoc d))) (fun x hx => hf x hx))) $$ H
  iexact H

/-- The task of subcore `L` of device `d` in the repacking call. -/
theorem task0 (hF : (K (F := F)).Facts) (O : CellTallies nD τ sig HX) (W : Waits sig HX) (hO : ∀ g, O g none = 0) :
    iprop(levAts (K (F := F)).L (K (F := F)).lev ∗ emp ∗ subP0 m d (L 0).val (L 1).val (m (rLoc d))
        ∗ scopedBufs (tV d L) ∗ scopedSems0 (tV d L) ∗ owes (tV d L) O W)
      ⊢ WP d L (B₀.app (cc0_k (F := F) L))
          fun _ => iprop(subP0 m d (L 0).val (L 1).val (PK m d) ∗ scopedBufs (tV d L) ∗ scopedSems0 (tV d L)
            ∗ ∃ W', ⌜∀ p ∈ W', p ∈ W ∨ p.2 = none⌝ ∗ owes (tV d L) O W') := by
  rw [(K (F := F)).scopedBufs_V hF d (cV L) (jV L), SparseCore.Cfg.scopedSems0_V (Val := Elt F) d (cV L) (jV L)]
  iintro ⟨#Hlv, -, ⟨Hin, Hout⟩, Hb, Hs, HO⟩
  ihave Hmw := (show levAts (K (F := F)).L (K (F := F)).lev ⊢ Transfers.MayWaits (tV d L) (default : HX) O from
    (K (F := F)).mayWaits_none (thr := tV d L) hO) $$ Hlv
  ihave Hm := (mine0_of_own (F := F) d L) $$ [Hb Hs]
  · isplitl [Hb] <;> iassumption
  icases Hm with ⟨Hm, Hl⟩
  ihave Hin := (reads0_eq m d L _) $$ Hin
  ihave Hout := (out0_holds (F := F) d L _ _) $$ Hout
  iapply (wp_wand (M := 𝕄) frame _ Set.univ) $$ [Hin Hout Hm HO Hmw]
  · iapply (wp_k0 (F := F) (d := d) (L := L) (A := B₀) (O := O) (W := W) (FW := FT m d) (GW := GT m d) (Y₀ := m (rLoc d)) sizes0 iota_val)
    isplitl [Hin]; · iexact Hin
    isplitl [Hout]; · iexact Hout
    isplitl [Hm]; · iexact Hm
    unfold OW
    isplitl [Hmw]; · iexact Hmw
    iexists W
    isplitr; · ipureintro; exact fun p hp => .inl hp
    iexact HO
  · iintro %_ ⟨Hin, Hout, Hm, HO⟩
    isplitl [Hin Hout]
    · isplitl [Hin]; · iapply (reads0_back m d L _); iexact Hin
      iapply (holds_out0 (F := F) d L _ _); iexact Hout
    ihave Hm := (own_of_mine0 (F := F) d L) $$ [Hm Hl]
    · isplitl [Hm] <;> iassumption
    icases Hm with ⟨Hb, Hs⟩
    isplitl [Hb]; · iexact Hb
    isplitl [Hs]; · iexact Hs
    unfold OW
    icases HO with ⟨-, HO⟩
    iexact HO

end Task

end Cert.Proof.Lookup
-- ==== Proof.Whole.lean ====
/-
  The whole program's run: each subcore's obligation, `main` on the TensorCore, and what the run ends in.
-/
module

public import proofs.«01_k».proof.Proof.Launch

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

open Idealize.ShloMosaic.StableHlo (held wp_hlo_within)

variable (m : (ℓ : Loc nD τ sig) → Buf (Elt F) ℓ) (ρ : Dev nD → PrngReg)

/-! ## The subcores -/

theorem obl_post {thr : Thread nD τ} {A B C : sProp 𝕄} {O : CellTallies nD τ sig HX} {W : Waits sig HX} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The grid coordinates of core `c`, subcore `s`. -/
def at_ (c : Fin (grid0.bound 0)) (s : Fin (grid0.bound 1)) : grid0.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 0 () = SparseCore.onTile hcore0 hsub0 (fun c s => B₀.app (cc0_k (F := F) (at_ c s))) ⟨⟩ c s := rfl
theorem defs₀_vector1 (c : Fin τ.nSC) (s : Fin τ.nSub) :
    defs₀ (F := F) (.scVector c s) 1 () = SparseCore.onTile hcore0 hsub0 (fun c s => A₀.app (cc1_k (F := F) (at_ c s))) ⟨⟩ c s := rfl

theorem tileObl0 : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (task0 m d (at_ ⟨_, hci.1⟩ ⟨_, hci.2⟩) facts O W hO).trans (wp_mono frame _ _ fun _ => obl_post)

theorem tileObl1 (hpre : PreOK m) : (K (F := F)).TileObl (D (F := F)) 𝒱 (P m) v₀ 1 := by
  intro d c i O W hO _ _
  simp only [show (P m).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (task1 m d (at_ ⟨_, hci.1⟩ ⟨_, hci.2⟩) facts hpre O W hO).trans (wp_mono frame _ _ fun _ => obl_post)

/-! ## The launch element -/

def u₀ : UU := (initOf (K (F := F)).hsCells (K (F := F)).hsToks, 1)

theorem bigSep_emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emps]; iempintro
  rw [show (bigSep Finset.univ fun thr : Thread nD τ => bigSep Finset.univ fun q : Fin 2 => (P (F := F) m).x q thr) = bigSep Finset.univ fun _ => iprop(emp) from
    bigSep_congr fun _ _ => bigSep_emps _, bigSep_emps]
  iempintro

/-! ## `main` on the TensorCore -/

abbrev dr (b : Ref sig .tc) : DevRef τ sig := Proc.devRef .tc b

/-- What `main` computes before the calls, and after them. -/
abbrev pre : List (HloOp τ sig (Elt F)) := [
  StableHlo.unary main_arg1 main_v0 ((transpose S32x990000 [1, 0] · transposes_S990000x32_S32x990000_1_0) : (⟨S990000x32, .f32⟩ : BufTy).Contents (Elt F) → (⟨S32x990000, .f32⟩ : BufTy).Contents (Elt F)),
  StableHlo.unary main_arg2 main_v1 ((transpose S32x10000 [1, 0] · transposes_S10000x32_S32x10000_1_0) : (⟨S10000x32, .f32⟩ : BufTy).Contents (Elt F) → (⟨S32x10000, .f32⟩ : BufTy).Contents (Elt F)),
  StableHlo.unary main_arg0 main_v2 ((transpose S50x16384 [1, 0] · transposes_S16384x50_S50x16384_1_0) : (⟨S16384x50, .i32⟩ : BufTy).Contents (Elt F) → (⟨S50x16384, .i32⟩ : BufTy).Contents (Elt F)),
  StableHlo.unary main_arg1 main_v3 ((extractStridedSlice S48x32 ![989952, 0] · slices_S990000x32_S48x32_989952_0) : (⟨S990000x32, .f32⟩ : BufTy).Contents (Elt F) → (⟨S48x32, .f32⟩ : BufTy).Contents (Elt F)),
  StableHlo.unary main_arg2 main_v4 ((extractStridedSlice S16x32 ![9984, 0] · slices_S10000x32_S16x32_9984_0) : (⟨S10000x32, .f32⟩ : BufTy).Contents (Elt F) → (⟨S16x32, .f32⟩ : BufTy).Contents (Elt F)),
  StableHlo.binary main_v3 main_v4 main_v5 ((fun a b => concatenate S64x32 0 [⟨S48x32, a⟩, ⟨S16x32, b⟩] concatenates_S48x32_S16x32_S64x32_d0) : (⟨S48x32, .f32⟩ : BufTy).Contents (Elt F) → (⟨S16x32, .f32⟩ : BufTy).Contents (Elt F) → (⟨S64x32, .f32⟩ : BufTy).Contents (Elt F)),
  StableHlo.nullary main_c (constantI S_ 32 0#32),
  StableHlo.TRef.unary (.of main_c) main_call0.v0 (sitofp .f32),
  StableHlo.TRef.binary (.of main_v5) main_call0.v0 main_call0.v1 (fun x v => pad S64x32 ![0, 0] ![0, 0] ![0, 0] x v pads_S64x32_S64x32_000_000 h_S_),
  StableHlo.reshape main_v6 main_v7 (rfl : (.f32 : EltTy) = .f32) shapeCasts_S64x32_S16x128]
abbrev opOut : HloOp τ sig (Elt F) := StableHlo.unary main_v9 main_v10 ((transpose S16384x50x32 [2, 0, 1] · transposes_S50x32x16384_S16384x50x32_2_0_1) : (⟨S50x32x16384, .f32⟩ : BufTy).Contents (Elt F) → (⟨S16384x50x32, .f32⟩ : BufTy).Contents (Elt F))

/-- The TensorCore's arrays. -/
abbrev SA : Finset (DevRef τ sig) := {dr main_arg0, dr main_arg1, dr main_arg2, dr main_v0, dr main_v1, dr main_v2, dr main_v3, dr main_v4, dr main_v5, dr main_c, dr main_call0_v0, dr main_v6, dr main_v7, dr main_v8, dr main_v9, dr main_v10}
abbrev SO : Finset (DevRef τ sig) := {dr main_v9, dr main_v10}

theorem held_SA (d : Dev nD) (W : Valuation τ sig (Elt F)) :
    (held (T d) SA W : sProp 𝕄) = iprop((aLoc d ↦{fullShare} W (dr main_arg0)) ∗ (fLoc d ↦{fullShare} W (dr main_arg1)) ∗ (gLoc d ↦{fullShare} W (dr main_arg2)) ∗ (ftLoc d ↦{fullShare} W (dr main_v0)) ∗ (gtLoc d ↦{fullShare} W (dr main_v1)) ∗ (xLoc d ↦{fullShare} W (dr main_v2)) ∗ (((SparseCore.T d).loc main_v3 : Loc nD τ sig) ↦{fullShare} W (dr main_v3)) ∗ (((SparseCore.T d).loc main_v4 : Loc nD τ sig) ↦{fullShare} W (dr main_v4)) ∗ (((SparseCore.T d).loc main_v5 : Loc nD τ sig) ↦{fullShare} W (dr main_v5)) ∗ (((SparseCore.T d).loc main_c : Loc nD τ sig) ↦{fullShare} W (dr main_c)) ∗ (((SparseCore.T d).loc main_call0_v0 : Loc nD τ sig) ↦{fullShare} W (dr main_call0_v0)) ∗ (((SparseCore.T d).loc main_v6 : Loc nD τ sig) ↦{fullShare} W (dr main_v6)) ∗ (tLoc d ↦{fullShare} W (dr main_v7)) ∗ (rLoc d ↦{fullShare} W (dr main_v8)) ∗ (oLoc d ↦{fullShare} W (dr main_v9)) ∗ (vLoc d ↦{fullShare} W (dr main_v10))) := by
  unfold held SA
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem held_SO (d : Dev nD) (W : Valuation τ sig (Elt F)) :
    (held (T d) SO W : sProp 𝕄) = iprop((oLoc d ↦{fullShare} W (dr main_v9)) ∗ vLoc d ↦{fullShare} W (dr main_v10)) := by
  unfold held SO
  rw [SparseCore.bigSep_insert' (by decide), bigSep_singleton]

/-- The contents at launch, before the calls, after them, and at the end. -/
def V0 (d : Dev nD) : Valuation τ sig (Elt F) := fun b => m (d, b)
def V1 (d : Dev nD) : Valuation τ sig (Elt F) := StableHlo.after (pre (F := F)) (V0 m d)
def V2 (d : Dev nD) : Valuation τ sig (Elt F) := Function.update (V1 m d) (dr main_v9) (Z m d : Buf (Elt F) (oLoc d))
def V3 (d : Dev nD) : Valuation τ sig (Elt F) := (opOut (F := F)).result (V2 m d)

theorem unscoped_held (d : Dev nD) : (unscopedBufs d (fun b => m ((SparseCore.T d).loc b)) : sProp 𝕄) = held (T d) SA (V0 m d) := by
  rw [held_SA]
  unfold unscopedBufs
  rw [show (Finset.univ.filter fun b : Ref sig .tc => ¬ b.isScoped) = {main_arg0, main_arg1, main_arg2, main_v0, main_v1, main_v2, main_v3, main_v4, main_v5, main_c, main_call0_v0, main_v6, main_v7, main_v8, main_v9, main_v10} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

theorem V1_a (d : Dev nD) : V1 m d (dr main_arg0) = m (aLoc d) := by unfold V1 pre; after_results; rfl
theorem V1_f (d : Dev nD) : V1 m d (dr main_arg1) = m (fLoc d) := by unfold V1 pre; after_results; rfl
theorem V1_g (d : Dev nD) : V1 m d (dr main_arg2) = m (gLoc d) := by unfold V1 pre; after_results; rfl
theorem V1_ft (d : Dev nD) : V1 m d (dr main_v0) = (FT m d : Buf (Elt F) (ftLoc d)) := by unfold V1 pre; after_results; rfl
theorem V1_gt (d : Dev nD) : V1 m d (dr main_v1) = (GT m d : Buf (Elt F) (gtLoc d)) := by unfold V1 pre; after_results; rfl
theorem V1_x (d : Dev nD) : V1 m d (dr main_v2) = (XT m d : Buf (Elt F) (xLoc d)) := by unfold V1 pre; after_results; rfl
theorem V1_t (d : Dev nD) : V1 m d (dr main_v7) = (TL m d : Buf (Elt F) (tLoc d)) := by unfold V1 pre; after_results; rfl
theorem V1_r (d : Dev nD) : V1 m d (dr main_v8) = m (rLoc d) := by unfold V1 pre; after_results; rfl
theorem V1_o (d : Dev nD) : V1 m d (dr main_v9) = m (oLoc d) := by unfold V1 pre; after_results; rfl
theorem V1_v (d : Dev nD) : V1 m d (dr main_v10) = m (vLoc d) := by unfold V1 pre; after_results; rfl
theorem V2_o (d : Dev nD) : V2 m d (dr main_v9) = (Z m d : Buf (Elt F) (oLoc d)) := Function.update_self _ _ _
theorem V2_v (d : Dev nD) : V2 m d (dr main_v10) = m (vLoc d) :=
  (Function.update_of_ne (StableHlo.devRef_ne_of_ne (by decide)) _ _).trans (V1_v m d)
theorem V3_v (d : Dev nD) : V3 m d (dr main_v10) = (RES m d : Buf (Elt F) (vLoc d)) :=
  (StableHlo.unary_result _ _ _ _ _ _).trans (by rw [V2_o]; rfl)

theorem st_eq0 (d : Dev nD) : (bigSep Finset.univ fun c : Fin ((K (F := F)).nCore 0) => (P m).st 0 d c) = iprop(Ins0 m d fullShare ∗ Outs0 d Finset.univ (m (rLoc d))) :=
  (call_split0 m d (m (rLoc d))).symm
theorem dn_eq0 (d : Dev nD) : (bigSep Finset.univ fun c : Fin ((K (F := F)).nCore 0) => (P m).dn 0 d c) = iprop(Ins0 m d fullShare ∗ Outs0 d Finset.univ (PK m d)) :=
  (call_split0 m d (PK m d)).symm
theorem st_eq1 (d : Dev nD) : (bigSep Finset.univ fun c : Fin ((K (F := F)).nCore 1) => (P m).st 1 d c) = iprop(Ins m d fullShare ∗ Outs d Finset.univ (m (oLoc d))) :=
  (call_split m d (m (oLoc d))).symm
theorem dn_eq1 (d : Dev nD) : (bigSep Finset.univ fun c : Fin ((K (F := F)).nCore 1) => (P m).dn 1 d c) = iprop(Ins m d fullShare ∗ Outs d Finset.univ (Z m d)) :=
  (call_split m d (Z m d)).symm

theorem hIn : ∀ op ∈ (pre (F := F)), op.bufs ⊆ SA := by
  intro op h
  simp only [pre, List.mem_cons, List.not_mem_nil, _root_.or_false] at h
  rcases h with rfl | rfl | rfl | rfl | rfl | rfl | rfl | rfl | rfl | rfl
  · exact show ({dr main_arg1, dr main_v0} : Finset (DevRef τ sig)) ⊆ SA by decide
  · exact show ({dr main_arg2, dr main_v1} : Finset (DevRef τ sig)) ⊆ SA by decide
  · exact show ({dr main_arg0, dr main_v2} : Finset (DevRef τ sig)) ⊆ SA by decide
  · exact show ({dr main_arg1, dr main_v3} : Finset (DevRef τ sig)) ⊆ SA by decide
  · exact show ({dr main_arg2, dr main_v4} : Finset (DevRef τ sig)) ⊆ SA by decide
  · exact show ({dr main_v3, dr main_v4, dr main_v5} : Finset (DevRef τ sig)) ⊆ SA by decide
  · exact show ({dr main_c} : Finset (DevRef τ sig)) ⊆ SA by decide
  · exact show ({dr main_c, dr main_call0_v0} : Finset (DevRef τ sig)) ⊆ SA by decide
  · exact show ({dr main_v5, dr main_call0_v0, dr main_v6} : Finset (DevRef τ sig)) ⊆ SA by decide
  · exact show ({dr main_v6, dr main_v7} : Finset (DevRef τ sig)) ⊆ SA by decide
theorem hFresh : ∀ op ∈ (pre (F := F)), op.fresh = ∅ := by
  intro op h
  simp only [pre, List.mem_cons, List.not_mem_nil, _root_.or_false] at h
  rcases h with rfl | rfl | rfl | rfl | rfl | rfl | rfl | rfl | rfl | rfl <;> rfl
theorem hOut : (opOut (F := F)).bufs ⊆ SO := show ({dr main_v9, dr main_v10} : Finset (DevRef τ sig)) ⊆ SO by decide

/-- `main` from the calls on. -/
def calls (d : Dev nD) : Prog (TpuEff nD τ sig (Elt F) (SparseCore.Sig (ΛP (F := F)) 2) .tc) PUnit :=
  (K (F := F)).run d 0 >>= fun _ => (K (F := F)).run d 1 >>= fun _ => hlo rfl (opOut (F := F)) (fun _ => .ret (⟨⟩ : PUnit)) >>= fun _ => pure ⟨⟩

theorem main_eq (d : Dev nD) : main (F := F) d = StableHlo.seq (pre (F := F)) >>= fun _ => calls (F := F) d := by
  unfold main fn_pad.body calls
  simp only [pre, StableHlo.seq, bind_assoc, pure_bind]

/-- What `main` leaves: the arguments as they were, the result. -/
abbrev FIN (d : Dev nD) : sProp 𝕄 :=
  iprop((aLoc d ↦{fullShare} m (aLoc d)) ∗ (fLoc d ↦{fullShare} m (fLoc d)) ∗ (gLoc d ↦{fullShare} m (gLoc d)) ∗ vLoc d ↦{fullShare} (RES m d : Buf (Elt F) (vLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d SA (fun _ => calls (F := F) d) (pre (F := F)) hIn hFresh (V0 m d)) $$ [Hb Hheld]
  · isplitl [Hb] <;> iassumption
  iintro ⟨Hb, Hheld⟩
  ihave Hh := (show (held (T d) SA (StableHlo.after (pre (F := F)) (V0 m d)) : sProp 𝕄) ⊢ _ from Entails.of_eq (held_SA (F := F) d (V1 m d))) $$ Hheld
  rw [V1_a, V1_f, V1_g, V1_ft, V1_gt, V1_x, V1_t, V1_r, V1_o, V1_v]
  icases Hh with ⟨Ha, Hf, Hg, Hft, Hgt, Hx, -, -, -, -, -, -, Ht, Hr, Ho, Hv⟩
  unfold calls
  simp only [wp_bind, wp_pure]
  iapply ((K (F := F)).wp_run (D (F := F)) 𝒱 (EH := EH) (P := P m) κ d 0) $$ [Hst Ha Hf Hg Hft Hgt Hx Ht Hr Ho Hv Hb Hts]
  isplitr; · iexact Hctx
  isplitl [Hst]; · iexact Hst
  isplitl [Hft Hgt Hr]
  · rw [st_eq0]
    unfold Ins0 Outs0
    isplitl [Hft Hgt]
    · isplitl [Hft]; · iexact Hft
      iexact Hgt
    · iexact Hr
  iintro ⟨Hst, Hdn⟩
  ihave Hdn := (Entails.of_eq (dn_eq0 m d)) $$ Hdn
  unfold Ins0 Outs0
  icases Hdn with ⟨-, Hr⟩
  iapply ((K (F := F)).wp_run (D (F := F)) 𝒱 (EH := EH) (P := P m) κ d 1) $$ [Hst Ha Hf Hg Hx Ht Hr Ho Hv Hb Hts]
  isplitr; · iexact Hctx
  isplitl [Hst]; · iexact Hst
  isplitl [Hx Hr Ht Ho]
  · rw [st_eq1]
    unfold Ins Outs
    isplitl [Hx Hr Ht]
    · isplitl [Hx]; · iexact Hx
      isplitl [Hr]; · iexact Hr
      iexact Ht
    · iexact Ho
  iintro ⟨Hst, Hdn⟩
  ihave Hdn := (Entails.of_eq (dn_eq1 m d)) $$ Hdn
  unfold Ins Outs
  icases Hdn with ⟨-, Ho⟩
  iapply (wp_hlo_within 𝒱 (SparseCore.T d) none Set.univ (op := opOut) (S := SO) hOut (V := V2 m d)) $$ [Hb Ho Hv]
  · isplitl [Hb]; · iexact Hb
    rw [held_SO, V2_o, V2_v]
    isplitl [Ho]; · iexact Ho
    iexact Hv
  iintro ⟨Hb, Hheld⟩
  ihave Hh := (show (held (T d) SO ((opOut (F := F)).result (V2 m d)) : sProp 𝕄) ⊢ _ from Entails.of_eq (held_SO (F := F) d (V3 m d))) $$ Hheld
  rw [V3_v]
  icases Hh with ⟨-, Hv⟩
  rw [wp_ret]; imodintro; imodintro
  isplitl [Hst]; · iexact Hst
  isplitr [Hb Hts]
  · isplitl [Ha]; · iexact Ha
    isplitl [Hf]; · iexact Hf
    isplitl [Hg]; · iexact Hg
    iexact Hv
  isplitl [Hb] <;> iassumption

/-! ## The end -/

def fq (d : Dev nD) (s' : Phys nD τ sig (Elt F)) : Prop :=
  s'.mem.mem (aLoc d) = m (aLoc d) ∧ s'.mem.mem (fLoc d) = m (fLoc d) ∧ s'.mem.mem (gLoc d) = m (gLoc d) ∧ s'.mem.mem (vLoc d) = (RES m d : Buf (Elt F) (vLoc d))

theorem agree {ℓ : Loc nD τ sig} {f : Buf (Elt F) ℓ} {s' : Phys nD τ sig (Elt F)} :
    (iprop((ℓ ↦{fullShare} f) ∗ SI s') : sProp 𝕄) ⊢ iprop(⌜s'.mem.mem ℓ = f⌝ ∗ SI s') := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr; · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  iintro ⟨⟨Ha, Hr, Ht, Hv⟩, HSI⟩
  ihave H := agree $$ [Ha HSI]
  · isplitl [Ha] <;> iassumption
  icases H with ⟨%h1, HSI⟩
  ihave H := agree $$ [Hr HSI]
  · isplitl [Hr] <;> iassumption
  icases H with ⟨%h2, HSI⟩
  ihave H := agree $$ [Ht HSI]
  · isplitl [Ht] <;> iassumption
  icases H with ⟨%h3, HSI⟩
  ihave H := agree $$ [Hv HSI]
  · isplitl [Hv] <;> iassumption
  icases H with ⟨%h4, HSI⟩
  ipureintro; exact ⟨h1, h2, h3, h4⟩

def QC : PUnit × MemSt nD τ sig (Elt F) → Prop := fun r =>
  (∀ c : Dev nD, r.2.mem (aLoc c) = m (aLoc c) ∧ r.2.mem (fLoc c) = m (fLoc c) ∧ r.2.mem (gLoc c) = m (gLoc c) ∧ r.2.mem (vLoc c) = (RES m c : Buf (Elt F) (vLoc c)))
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m | 1 => tileObl1 m hpre)
    (fun q _ => match q with | 0 => SparseCore.Cfg.VecSplit.of_plain (vecSplit0 m) | 1 => SparseCore.Cfg.VecSplit.of_plain (vecSplit1 m))
    m ρ main (fun _ => iprop(emp)) (FIN m) (u₀ (F := F)) (sep_elim_left.trans (hu₀ m)) (hmain m ρ) (fq m) (hfin m) (QC m) (fun _ h hz => ⟨h, hz⟩)

end Cert.Proof.Lookup
-- ==== Proof.Packed.lean ====
/-
  The packed table and the table of last rows, read at a number: its row of the two tables.
-/
module

public import proofs.«01_k».proof.Proof.Whole
public import Idealize.ShloMosaic.Lib.KernelVsHost
public import Idealize.ShloMosaic.Lib.Pipeline.Value

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig HX (Elt F) ℕ UU ℕ

/-- Some rows of a table. -/
theorem slice2 {n k b : ℕ} [NeZero n] [NeZero k] [NeZero b] {α : Type} (X : (⟨2, ![n, b]⟩ : Shape).Idx → α) (o : ℕ) (h : (⟨2, ![n, b]⟩ : Shape).Slices ![o, 0] ⟨2, ![k, b]⟩) {r e : ℕ} (hr : r < k) (hn : o + r < n) (he : e < b) :
    extractStridedSlice ⟨2, ![k, b]⟩ ![o, 0] X h (ix2 r e) = X (ix2 (o + r) e) := by
  refine extractStridedSlice_apply _ X h _ _ fun a => ?_
  match a with
  | 0 => exact (ix2_val0 hn).trans (congrArg (o + ·) (ix2_val0 hr).symm)
  | 1 => exact ((ix2_val1 he).trans (ix2_val1 he).symm).trans (Nat.zero_add _).symm

/-- Two tables one under the other, at a row. -/
theorem under {n k t : ℕ} [NeZero n] [NeZero k] [NeZero t] {α : Type} (X : (⟨2, ![n, 32]⟩ : Shape).Idx → α) (Y : (⟨2, ![k, 32]⟩ : Shape).Idx → α) (ht : t = n + k)
    (h : Shape.Concatenates ([⟨⟨2, ![n, 32]⟩, X⟩, ⟨⟨2, ![k, 32]⟩, Y⟩].map fun p : (s : Shape) × (s.Idx → α) => p.1) ⟨2, ![t, 32]⟩ 0) {r e : ℕ} (hr : r < t) (he : e < 32) :
    concatenate ⟨2, ![t, 32]⟩ 0 [⟨⟨2, ![n, 32]⟩, X⟩, ⟨⟨2, ![k, 32]⟩, Y⟩] h (ix2 r e) = if r < n then X (ix2 r e) else Y (ix2 (r - n) e) := by
  have off : ∀ {k : ℕ} [NeZero k] (p : ℕ) (b : Fin 2), b ≠ 0 → ((ix2 p e : (⟨2, ![k, 32]⟩ : Shape).Idx) b).val = ((ix2 r e : (⟨2, ![t, 32]⟩ : Shape).Idx) b).val := fun p b hb => by
    match b with
    | 0 => exact absurd rfl hb
    | 1 => exact (ix2_val1 he).trans (ix2_val1 he).symm
  have on : ∀ {k : ℕ} [NeZero k] {o p : ℕ}, p < k → o + p = r → o + ((ix2 p e : (⟨2, ![k, 32]⟩ : Shape).Idx) 0).val = ((ix2 r e : (⟨2, ![t, 32]⟩ : Shape).Idx) 0).val := fun hp ho => by
    rw [ix2_val0 hp, ix2_val0 hr, ho]
  split
  · rename_i hn
    exact concatenate_apply_piece (t := ⟨2, ![t, 32]⟩) 0 [⟨⟨2, ![n, 32]⟩, X⟩, ⟨⟨2, ![k, 32]⟩, Y⟩] h (ix2 r e) 0 (show _ < 2 by omega) ⟨2, ![n, 32]⟩ X rfl rfl 0 rfl (ix2 r e) (off _) (on hn (Nat.zero_add _))
  · exact concatenate_apply_piece (t := ⟨2, ![t, 32]⟩) 0 [⟨⟨2, ![n, 32]⟩, X⟩, ⟨⟨2, ![k, 32]⟩, Y⟩] h (ix2 r e) 1 (show _ < 2 by omega) ⟨2, ![k, 32]⟩ Y rfl rfl n (Nat.add_zero n) (ix2 (r - n) e) (off _) (on (by omega) (by omega))

/-- A transposed table at an entry. -/
theorem flip2 {n : ℕ} [NeZero n] {α : Type} (X : (⟨2, ![n, 32]⟩ : Shape).Idx → α) (h : (⟨2, ![n, 32]⟩ : Shape).Transposes [1, 0] ⟨2, ![32, n]⟩) {r e : ℕ} (hr : r < n) (he : e < 32) :
    transpose ⟨2, ![32, n]⟩ [1, 0] X h (ix2 e r) = X (ix2 r e) := by
  refine transpose_apply _ X h _ _ fun b => ?_
  match b with
  | 0 => exact (ix2_val1 he).trans (ix2_val0 he).symm
  | 1 => exact (ix2_val0 hr).trans (ix2_val1 hr).symm

variable (m : (ℓ : Loc nD τ sig) → Buf (Elt F) ℓ) (d : Dev nD)

/-- Row `r` of the two tables, one under the other. -/
def row (f : S990000x32.Idx → Elt F .f32) (g : S10000x32.Idx → Elt F .f32) (r e : ℕ) : Elt F .f32 := if r < 990000 then f (ix2 r e) else g (ix2 (r - 990000) e)

theorem LAST_apply {s e : ℕ} (hs : s < 64) (he : e < 32) :
    LAST m d (ix2 s e) = if s < 48 then (m (fLoc d) : S990000x32.Idx → Elt F .f32) (ix2 (989952 + s) e) else (m (gLoc d) : S10000x32.Idx → Elt F .f32) (ix2 (9984 + (s - 48)) e) := by
  unfold LAST
  refine (under _ _ rfl _ hs he).trans ?_
  split
  · exact slice2 _ _ _ (by omega) (by omega) he
  · exact slice2 _ _ _ (by omega) (by omega) he

theorem TL_apply {s e : ℕ} (hs : s < 64) (he : e < 32) : TL m d (ix2 (s / 4) (s % 4 * 32 + e)) = LAST m d (ix2 s e) := by
  unfold TL
  refine (shapeCast_apply _ _ (ix2 (s / 4) (s % 4 * 32 + e)) (ix2 s e) ?_).trans (pad_apply_of_inside _ _ _ _ _ _ _ _ (ix2 s e) fun a => ?_)
  · rw [show (S16x128.rowMajor (ix2 (s / 4) (s % 4 * 32 + e))).val = _ from Shape.rowMajor_val_two _,
      show (S64x32.rowMajor (ix2 s e)).val = _ from Shape.rowMajor_val_two _, ix2_val0 hs, ix2_val1 he, ix2_val0 (by omega), ix2_val1 (by omega)]
    show s * 32 + e = s / 4 * 128 + (s % 4 * 32 + e)
    omega
  · match a with
    | 0 => exact ((Nat.zero_add _).trans (Nat.mul_one _)).symm
    | 1 => exact ((Nat.zero_add _).trans (Nat.mul_one _)).symm

theorem PK_fixed {v e : ℕ} (hv : v < 989952) (he : e < 32) : PK m d (ix2 (v / 4) (v % 4 * 32 + e)) = (m (fLoc d) : S990000x32.Idx → Elt F .f32) (ix2 v e) := by
  unfold PK packT
  have h0 : ((ix2 (v / 4) (v % 4 * 32 + e) : S250004x128.Idx) 0).val = v / 4 := ix2_val0 (by omega)
  have h1 : ((ix2 (v / 4) (v % 4 * 32 + e) : S250004x128.Idx) 1).val = v % 4 * 32 + e := ix2_val1 (by omega)
  rw [h0, h1, if_pos (by omega), show (v % 4 * 32 + e) % 32 = e by omega, show v / 4 * 4 + (v % 4 * 32 + e) / 32 = v by omega]
  exact flip2 _ _ (by omega) he

theorem PK_grad {v e : ℕ} (hv : v < 9984) (he : e < 32) : PK m d (ix2 (247504 + v / 4) (v % 4 * 32 + e)) = (m (gLoc d) : S10000x32.Idx → Elt F .f32) (ix2 v e) := by
  unfold PK packT
  have h0 : ((ix2 (247504 + v / 4) (v % 4 * 32 + e) : S250004x128.Idx) 0).val = 247504 + v / 4 := ix2_val0 (by omega)
  have h1 : ((ix2 (247504 + v / 4) (v % 4 * 32 + e) : S250004x128.Idx) 1).val = v % 4 * 32 + e := ix2_val1 (by omega)
  rw [h0, h1, if_neg (by omega), if_pos ⟨by omega, by omega⟩, show (v % 4 * 32 + e) % 32 = e by omega, show (247504 + v / 4 - 247504) * 4 + (v % 4 * 32 + e) / 32 = v by omega]
  exact flip2 _ _ (by omega) he

/-- What the lookup returns for a number is its row of the two tables. -/
theorem val_row {v : BitVec 32} (hv : v.toNat < 1000000) {e : ℕ} (he : e < 32) : val (PK m d) (TL m d) v e = row (F := F) (m (fLoc d)) (m (gLoc d)) v.toNat e := by
  unfold val row
  by_cases ht : isT v
  · rw [if_pos ht, TL_apply m d (slot_lt hv ht) he, LAST_apply m d (slot_lt hv ht) he]
    unfold isT at ht
    by_cases h : v.toNat < 990000
    · rw [show slot v = v.toNat - 989952 by unfold slot; rw [if_pos h], if_pos (by omega), if_pos h, show 989952 + (v.toNat - 989952) = v.toNat by omega]
    · rw [show slot v = v.toNat - 999984 + 48 by unfold slot; rw [if_neg h], if_neg (by omega), if_neg h, show 9984 + (v.toNat - 999984 + 48 - 48) = v.toNat - 990000 by omega]
  · rw [if_neg ht]
    by_cases h : v.toNat < 990000
    · rw [show srow v = v.toNat / 4 by unfold srow; rw [if_neg ht, if_pos h], show scol v = v.toNat % 4 * 32 by unfold scol; rw [if_neg ht], if_pos h]
      unfold isT at ht
      exact PK_fixed m d (by omega) he
    · rw [show srow v = 247504 + (v.toNat - 990000) / 4 by unfold srow; rw [if_neg ht, if_neg h], show scol v = (v.toNat - 990000) % 4 * 32 by unfold scol; rw [if_neg ht]; omega, if_neg h]
      unfold isT at ht
      exact PK_grad m d (by omega) he

end Cert.Proof.Lookup
-- ==== Proof.Table.lean ====
/-
  The reference read entry by entry: its two tables one under the other at a row, the rows it takes, and the numbers the
  precondition allows.
-/
module

public import proofs.«01_k».proof.Proof.Packed
public import proofs.«01_k».proof.Proof.Gen.ReferenceIdeal
public import proofs.«01_k».proof.Proof.Gen.Pre_in_vocab
public import Idealize.ShloMosaic.Lib.ReduceAll
public import Idealize.ShloMosaic.Lib.WordCmp
public import Idealize.ShloMosaic.Lib.Pipeline.Value

@[expose] public section

noncomputable section

namespace Cert.Proof.Lookup

open Cert.ReferenceIdeal Cert.ReferenceIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The reference's table of all rows. -/
def weight (f : S990000x32.Idx → Elt F .f32) (g : S10000x32.Idx → Elt F .f32) : S1000000x32.Idx → Elt F .f32 :=
  concatenate S1000000x32 0 [⟨S990000x32, f⟩, ⟨S10000x32, g⟩] concatenates_S990000x32_S10000x32_S1000000x32_d0

theorem weight_apply (f : S990000x32.Idx → Elt F .f32) (g : S10000x32.Idx → Elt F .f32) {r : ℕ} (hr : r < 1000000) {e : ℕ} (he : e < 32) :
    weight f g (ix2 r e) = row f g r e := under f g rfl _ hr he

/-! ## The numbers -/

/-- The numbers as the reference takes them. -/
def takes (x : S16384x50.Idx → BitVec 32) : S16384x50x1.Idx → BitVec 32 :=
  broadcastInDim S16384x50x1 ![0, 1] bcast_S16384x50_S16384x50x1_0_1
    (select (cmpi .slt x (broadcastInDim S16384x50 ![] bcast_S_S16384x50 (constantI S_ 32 0#32)))
      (addi x (broadcastInDim S16384x50 ![] bcast_S_S16384x50 (constantI S_ 32 1000000#32))) x)

theorem takes_apply {x : S16384x50.Idx → BitVec 32} (hx : ∀ j, (x j).toNat < 1000000) (i : S16384x50x1.Idx) : takes x i = x (ix2 (i 0).val (i 1).val) := by
  have e : takes x i = Scalar.select (IntOp.cmpi .slt (x (ix2 (i 0).val (i 1).val)) 0#32) (IntOp.addi (x (ix2 (i 0).val (i 1).val)) 1000000#32) (x (ix2 (i 0).val (i 1).val)) := by
    refine (broadcastInDim_apply _ _ _ i (ix2 (i 0).val (i 1).val) fun a => ?_).trans rfl
    match a with
    | 0 => exact ix2_val0 (i 0).isLt
    | 1 => exact ix2_val1 (i 1).isLt
  have h := hx (ix2 (i 0).val (i 1).val)
  rw [e]
  refine if_neg fun c => ?_
  have c : (x (ix2 (i 0).val (i 1).val)).toInt < 0 := IntOp.cmpi_slt.1 c
  rw [toInt_small (show _ < 2147483648 by omega)] at c
  omega

/-- Entry by entry, the rows the reference takes. -/
theorem take_apply (f : S990000x32.Idx → Elt F .f32) (g : S10000x32.Idx → Elt F .f32) {x : S16384x50.Idx → BitVec 32} (hx : ∀ j, (x j).toNat < 1000000) (i : S16384x50x32.Idx) :
    Host.gather gather_S1000000x32_S16384x50x1_S16384x50x32_2_0_n_n_0_2_132 (weight f g) (takes x) i = row f g (x (ix2 (i 0).val (i 1).val)).toNat (i 2).val := by
  have hv := hx (ix2 (i 0).val (i 1).val)
  rw [← weight_apply f g hv (i 2).isLt]
  have hs : ∀ h, GatherDims.siIdx gather_S1000000x32_S16384x50x1_S16384x50x32_2_0_n_n_0_2_132 i ⟨List.idxOf (0 : Fin 2) gather_S1000000x32_S16384x50x1_S16384x50x32_2_0_n_n_0_2_132.startIndexMap, h⟩ = ix3 (i 0).val (i 1).val 0 := fun h => by
    funext b
    refine Fin.ext ?_
    match b with
    | 0 => exact (ix3_val0 (show (i 0).val < 16384 from (i 0).isLt)).symm
    | 1 => exact (ix3_val1 (show (i 1).val < 50 from (i 1).isLt)).symm
    | 2 => rfl
  unfold Host.gather
  refine congrArg (weight f g) (eq_ix2 ?_ ?_)
  · show GatherDims.start _ i (takes x) 0 + GatherDims.batchCoord _ i 0 + GatherDims.offCoord _ i 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S1000000x32_S16384x50x1_S16384x50x32_2_0_n_n_0_2_132.startIndexMap from List.mem_singleton.mpr rfl), hs, takes_apply hx, ix3_val0 (show (i 0).val < 16384 from (i 0).isLt), ix3_val1 (show (i 1).val < 50 from (i 1).isLt), toInt_small (show _ < 2147483648 by omega)]
    show min (Int.toNat _) 999999 + 0 + 0 = _
    rw [Int.toNat_natCast]
    omega
  · show GatherDims.start _ i (takes x) 1 + GatherDims.batchCoord _ i 1 + GatherDims.offCoord _ i 1 = _
    rw [GatherDims.batchCoord_eq_zero _ _ _ List.not_mem_nil]
    unfold GatherDims.start
    rw [dif_neg (show ¬ (1 : Fin 2) ∈ gather_S1000000x32_S16384x50x1_S16384x50x32_2_0_n_n_0_2_132.startIndexMap by decide)]
    unfold GatherDims.offCoord
    rw [dif_pos (by decide)]
    exact (Nat.zero_add _).trans rfl

/-- The reference's result. -/
def ref (x : S16384x50.Idx → BitVec 32) (f : S990000x32.Idx → Elt F .f32) (g : S10000x32.Idx → Elt F .f32) : S16384x50x32.Idx → Elt F .f32 :=
  select (broadcastInDim S16384x50x32 ![0, 1] bcast_S16384x50_S16384x50x32_0_1
      (Host.reduce IntOp.andi
        (andi (cmpi .sge (takes x) (broadcastInDim S16384x50x1 ![] bcast_S_S16384x50x1 (constantI S_ 32 0#32)))
          (cmpi .sle (takes x) (broadcastInDim S16384x50x1 ![0, 1, 2] bcast_S1x1x1_S16384x50x1_0_1_2 (broadcastInDim S1x1x1 ![2] bcast_S1_S1x1x1_2 (constantI S1 32 999999#32)))))
        (constantI S_ 1 1#1) reducesTo_S16384x50x1_S16384x50_d2 h_S_))
    (Host.gather gather_S1000000x32_S16384x50x1_S16384x50x32_2_0_n_n_0_2_132 (weight f g) (takes x))
    (broadcastInDim S16384x50x32 ![] bcast_S_S16384x50x32 (constant S_ .f32 0x7FC00000#32))

theorem ref_apply (f : S990000x32.Idx → Elt F .f32) (g : S10000x32.Idx → Elt F .f32) {x : S16384x50.Idx → BitVec 32} (hx : ∀ j, (x j).toNat < 1000000) (i : S16384x50x32.Idx) :
    ref x f g i = row f g (x (ix2 (i 0).val (i 1).val)).toNat (i 2).val := by
  rw [← take_apply f g hx i]
  unfold ref
  have h1 : ∀ j, Host.reduce IntOp.andi
        (andi (cmpi .sge (takes x) (broadcastInDim S16384x50x1 ![] bcast_S_S16384x50x1 (constantI S_ 32 0#32)))
          (cmpi .sle (takes x) (broadcastInDim S16384x50x1 ![0, 1, 2] bcast_S1x1x1_S16384x50x1_0_1_2 (broadcastInDim S1x1x1 ![2] bcast_S1_S1x1x1_2 (constantI S1 32 999999#32)))))
        (constantI S_ 1 1#1) reducesTo_S16384x50x1_S16384x50_d2 h_S_ j = 1#1 := fun j => by
    refine Host.reduce_andi_one _ _ _ _ j rfl fun k => ?_
    show IntOp.andi (IntOp.cmpi .sge (takes x k) 0#32) (IntOp.cmpi .sle (takes x k) 999999#32) = 1#1
    rw [takes_apply hx k]
    have h := hx (ix2 (k 0).val (k 1).val)
    refine IntOp.andi_eq_one.2 ⟨IntOp.cmpi_sge.2 ?_, IntOp.cmpi_sle.2 ?_⟩
    · show (0 : ℤ) ≤ _
      rw [toInt_small (show _ < 2147483648 by omega)]
      omega
    · show _ ≤ (999999 : ℤ)
      rw [toInt_small (show _ < 2147483648 by omega)]
      omega
  show Scalar.select (Host.reduce _ _ _ _ _ _) _ _ = _
  rw [h1]
  rfl

/-- The precondition bounds every number. -/
theorem small_of_pre {x : S16384x50.Idx → BitVec 32} {f : S990000x32.Idx → Elt F .f32} {g : S10000x32.Idx → Elt F .f32}
    (h : Cert.Pre_in_vocab.fn (F := F) x f g = fun _ => 1#1) (j : S16384x50.Idx) : (x j).toNat < 1000000 := by
  have e := Host.reduce_andi_all _ _ _ _ (fun a => a.elim0) (congrFun h fun a => a.elim0) j
  obtain ⟨h0, h1⟩ := IntOp.andi_eq_one.1 (show IntOp.andi (IntOp.cmpi .sge (x j) 0#32) (IntOp.cmpi .slt (x j) 1000000#32) = 1#1 from e)
  have h0 : (0 : ℤ) ≤ (x j).toInt := IntOp.cmpi_sge.1 h0
  have h1 : (x j).toInt < 1000000 := IntOp.cmpi_slt.1 h1
  rw [BitVec.toInt_eq_toNat_cond] at h0 h1
  split at h0 <;> omega

end Cert.Proof.Lookup
-- ==== Proof.lean ====
/-
  The claims of the two SparseCore calls of v03, put together: the kernel's run (Proof/Whole.lean) is one over any float
  values, so it serves the kernel at its bits and the idealized kernel alike; the reference's run is the generated one,
  its result read entry by entry (Proof/Table.lean); and the two results are the same numbers.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_in_vocab
public import proofs.«01_k».proof.Proof.Table
public import Idealize.ShloMosaic.Adequacy
public import Idealize.ShloMosaic.Init

@[expose] public section

noncomputable section

namespace Cert.Proof

open Idealize.ShloMosaic Idealize.SL.Sem Cert.Proof.Lookup

section Values

variable {F : FTy → Type} [FloatOps F]

/-- The precondition makes every number that of a row. -/
theorem preOK_of {m : (ℓ : Loc Cert.KernelIdeal.nD Cert.KernelIdeal.τ Cert.KernelIdeal.sig) → Buf (Elt F) ℓ}
    (h : ∀ c, Cert.Pre_in_vocab.fn (F := F) (m (aLoc c)) (m (fLoc c)) (m (gLoc c)) = fun _ => 1#1) : PreOK m :=
  fun c j => small_of_pre (h c) j

/-- The kernel's result is the reference's. -/
theorem res_eq {m : (ℓ : Loc Cert.KernelIdeal.nD Cert.KernelIdeal.τ Cert.KernelIdeal.sig) → Buf (Elt F) ℓ} (h : PreOK m) (c : Dev Cert.KernelIdeal.nD) :
    RES m c = ref (F := F) (m (aLoc c)) (m (fLoc c)) (m (gLoc c)) := by
  funext i
  rw [ref_apply (m (fLoc c)) (m (gLoc c)) (h c) i]
  have l0 : (i 0).val < 16384 := (i 0).isLt
  have l1 : (i 1).val < 50 := (i 1).isLt
  have l2 : (i 2).val < 32 := (i 2).isLt
  refine (transpose_apply _ (Z m c) _ i (ix3 (i 1).val (i 2).val (i 0).val) fun b => ?_).trans ?_
  · match b with
    | 0 => exact ix3_val2 l0
    | 1 => exact ix3_val0 l1
    | 2 => exact ix3_val1 l2
  · unfold Z
    rw [ix3_val0 l1, ix3_val1 l2, ix3_val2 l0]
    have hx : XT m c (ix2 (i 1).val (i 0).val) = m (aLoc c) (ix2 (i 0).val (i 1).val) := by
      refine transpose_apply _ (m (aLoc c)) _ (ix2 (i 1).val (i 0).val) (ix2 (i 0).val (i 1).val) fun b => ?_
      match b with
      | 0 => exact (ix2_val1 l1).trans (ix2_val0 l1).symm
      | 1 => exact (ix2_val0 l0).trans (ix2_val1 l0).symm
    rw [hx]
    exact val_row m c (h c _) l2

end Values

set_option maxHeartbeats 8000000 in
theorem frame_kernel : Cert.quiescent_Kernel := fun m g h =>
  (θ_run (Cert.KernelIdeal.defs (F := Bits)) (Cert.KernelIdeal.threads (F := Bits)) _).mono
    (fun _ H => ⟨fun c => ⟨(H.1 c).1, (H.1 c).2.1, (H.1 c).2.2.1⟩, H.2⟩) (run_main (F := Bits) m g (preOK_of h))

theorem frame_kernelIdeal : Cert.quiescent_KernelIdeal := fun m g h =>
  (θ_run (Cert.KernelIdeal.defs (F := Ideal)) (Cert.KernelIdeal.threads (F := Ideal)) _).mono
    (fun _ H => ⟨fun c => ⟨(H.1 c).1, (H.1 c).2.1, (H.1 c).2.2.1⟩, H.2⟩) (run_main (F := Ideal) m g (preOK_of h))

theorem frame_referenceIdeal : Cert.quiescent_ReferenceIdeal := fun m g _ =>
  (θ_run Cert.ReferenceIdeal.defs _ _).mono (fun r H => ⟨fun c => (H c).2, sem_eq_zero_of_no_sems (by decide) r.2⟩)
    (Cert.ReferenceIdeal.Value.run (F := Ideal) m g)

theorem frame_reference : Cert.quiescent_Reference := fun m g _ =>
  (θ_run Cert.Reference.defs _ _).mono (fun r H => ⟨fun c => (H c).2, sem_eq_zero_of_no_sems (by decide) r.2⟩)
    (Cert.Reference.Value.run (F := Bits) m g)

theorem algebraic : Cert.algebraic_KernelIdeal_ReferenceIdeal := fun m g m' g' h agree =>
  ⟨fun c => RES m c,
    (θ_run (Cert.KernelIdeal.defs (F := Ideal)) (Cert.KernelIdeal.threads (F := Ideal)) _).mono
      (fun _ H c => ⟨(H.1 c).2.2.2, (H.1 c).1, (H.1 c).2.1, (H.1 c).2.2.1⟩) (run_main (F := Ideal) m g (preOK_of h)),
    (θ_run Cert.ReferenceIdeal.defs _ _).mono (fun r H c => ⟨(H c).1.trans (by
        refine Eq.trans ?_ (res_eq (F := Ideal) (m := m) (preOK_of h) c).symm
        show ref (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
        obtain ⟨e0, e1, e2⟩ := agree c
        rw [e0, e1, e2]), (H c).2⟩)
      (Cert.ReferenceIdeal.Value.run (F := Ideal) m' g')⟩

theorem bitexact : Cert.bitexact_Kernel_Reference := fun m g m' g' h agree =>
  ⟨fun c => RES (F := Bits) m c,
    (θ_run (Cert.KernelIdeal.defs (F := Bits)) (Cert.KernelIdeal.threads (F := Bits)) _).mono
      (fun _ H c => ⟨(H.1 c).2.2.2, (H.1 c).1, (H.1 c).2.1, (H.1 c).2.2.1⟩) (run_main (F := Bits) m g (preOK_of h)),
    (θ_run Cert.Reference.defs _ _).mono (fun r H c => ⟨(H c).1.trans (by
        refine Eq.trans ?_ (res_eq (F := Bits) (m := m) (preOK_of h) c).symm
        show ref (F := Bits) (m' ((c.tc : Thread Cert.Reference.nD Cert.Reference.τ).loc Cert.Reference.main_arg0)) (m' ((c.tc : Thread Cert.Reference.nD Cert.Reference.τ).loc Cert.Reference.main_arg1)) (m' ((c.tc : Thread Cert.Reference.nD Cert.Reference.τ).loc Cert.Reference.main_arg2)) = _
        obtain ⟨e0, e1, e2⟩ := agree c
        rw [e0, e1, e2]), (H c).2⟩)
      (Cert.Reference.Value.run (F := Bits) m' g')⟩

theorem claim : Cert.Claim := ⟨Cert.Kernel.Gen.facts, Cert.KernelIdeal.Gen.facts, Cert.ReferenceIdeal.Gen.facts, Cert.Reference.Gen.facts, Cert.Pre_in_vocab.Gen.facts,
  frame_kernel, frame_kernelIdeal, frame_referenceIdeal, frame_reference, trivial, algebraic, bitexact⟩

end Cert.Proof

end
